-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qkv [hPre_finite_qkv : Cert.Pre_finite_qkv.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qkv.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qkv [hPre_finite_qkv : Cert.Pre_finite_qkv.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qkv.fn (F := Ideal) (m ((c.tc : Thread Cert.Reference5Ideal.nD Cert.Reference5Ideal.τ).loc Cert.Reference5Ideal.main_arg0))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite_qkv [hKernel5Ideal : Cert.Kernel5Ideal.Facts] [hPre_finite_qkv : Cert.Pre_finite_qkv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qkv m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite_qkv [hReference5Ideal : Cert.Reference5Ideal.Facts] [hPre_finite_qkv : Cert.Pre_finite_qkv.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qkv m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v5)) (v2 : (c : Dev Cert.Kernel4Ideal.nD) → Buf (Elt Ideal) ((c.tc : Thread Cert.Kernel4Ideal.nD Cert.Kernel4Ideal.τ).loc Cert.Kernel4Ideal.main_v6)) (v3 : (c : Dev Cert.Kernel4Ideal.nD) → Buf (Elt Ideal) ((c.tc : Thread Cert.Kernel4Ideal.nD Cert.Kernel4Ideal.τ).loc Cert.Kernel4Ideal.main_v7)) (v4 : (c : Dev Cert.Kernel4Ideal.nD) → Buf (Elt Ideal) ((c.tc : Thread Cert.Kernel4Ideal.nD Cert.Kernel4Ideal.τ).loc Cert.Kernel4Ideal.main_v13)) (v5 : (c : Dev Cert.Kernel4Ideal.nD) → Buf (Elt Ideal) ((c.tc : Thread Cert.Kernel4Ideal.nD Cert.Kernel4Ideal.τ).loc Cert.Kernel4Ideal.main_v14)) (v6 : (c : Dev Cert.Kernel4Ideal.nD) → Buf (Elt Ideal) ((c.tc : Thread Cert.Kernel4Ideal.nD Cert.Kernel4Ideal.τ).loc Cert.Kernel4Ideal.main_v15)) (v7 : (c : Dev Cert.Kernel4Ideal.nD) → Buf (Elt Ideal) ((c.tc : Thread Cert.Kernel4Ideal.nD Cert.Kernel4Ideal.τ).loc Cert.Kernel4Ideal.main_v9)) (v8 : (c : Dev Cert.Kernel4Ideal.nD) → Buf (Elt Ideal) ((c.tc : Thread Cert.Kernel4Ideal.nD Cert.Kernel4Ideal.τ).loc Cert.Kernel4Ideal.main_v10)) (v9 : (c : Dev Cert.Kernel4Ideal.nD) → Buf (Elt Ideal) ((c.tc : Thread Cert.Kernel4Ideal.nD Cert.Kernel4Ideal.τ).loc Cert.Kernel4Ideal.main_v11)) (v10 : (c : Dev Cert.Kernel4Ideal.nD) → Buf (Elt Ideal) ((c.tc : Thread Cert.Kernel4Ideal.nD Cert.Kernel4Ideal.τ).loc Cert.Kernel4Ideal.main_v12)) (v11 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_v6) = v2 c
          ∧ r.2.mem ((c.tc : Thread Cert.Kernel4Ideal.nD Cert.Kernel4Ideal.τ).loc Cert.Kernel4Ideal.main_v7) = v3 c
          ∧ r.2.mem ((c.tc : Thread Cert.Kernel4Ideal.nD Cert.Kernel4Ideal.τ).loc Cert.Kernel4Ideal.main_v13) = v4 c
          ∧ r.2.mem ((c.tc : Thread Cert.Kernel4Ideal.nD Cert.Kernel4Ideal.τ).loc Cert.Kernel4Ideal.main_v14) = v5 c
          ∧ r.2.mem ((c.tc : Thread Cert.Kernel4Ideal.nD Cert.Kernel4Ideal.τ).loc Cert.Kernel4Ideal.main_v15) = v6 c
          ∧ r.2.mem ((c.tc : Thread Cert.Kernel4Ideal.nD Cert.Kernel4Ideal.τ).loc Cert.Kernel4Ideal.main_v9) = v7 c
          ∧ r.2.mem ((c.tc : Thread Cert.Kernel4Ideal.nD Cert.Kernel4Ideal.τ).loc Cert.Kernel4Ideal.main_v10) = v8 c
          ∧ r.2.mem ((c.tc : Thread Cert.Kernel4Ideal.nD Cert.Kernel4Ideal.τ).loc Cert.Kernel4Ideal.main_v11) = v9 c
          ∧ r.2.mem ((c.tc : Thread Cert.Kernel4Ideal.nD Cert.Kernel4Ideal.τ).loc Cert.Kernel4Ideal.main_v12) = v10 c
          ∧ r.2.mem ((c.tc : Thread Cert.Kernel4Ideal.nD Cert.Kernel4Ideal.τ).loc Cert.Kernel4Ideal.main_v8) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v1) = v1 c
          ∧ r.2.mem ((c.tc : Thread Cert.Reference4Ideal.nD Cert.Reference4Ideal.τ).loc Cert.Reference4Ideal.main_v2) = v2 c
          ∧ r.2.mem ((c.tc : Thread Cert.Reference4Ideal.nD Cert.Reference4Ideal.τ).loc Cert.Reference4Ideal.main_v4) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_v13) = v5 c
          ∧ r.2.mem ((c.tc : Thread Cert.Reference4Ideal.nD Cert.Reference4Ideal.τ).loc Cert.Reference4Ideal.main_v10) = v6 c
          ∧ r.2.mem ((c.tc : Thread Cert.Reference4Ideal.nD Cert.Reference4Ideal.τ).loc Cert.Reference4Ideal.main_v7) = v7 c
          ∧ r.2.mem ((c.tc : Thread Cert.Reference4Ideal.nD Cert.Reference4Ideal.τ).loc Cert.Reference4Ideal.main_v15) = v8 c
          ∧ r.2.mem ((c.tc : Thread Cert.Reference4Ideal.nD Cert.Reference4Ideal.τ).loc Cert.Reference4Ideal.main_v12) = v9 c
          ∧ r.2.mem ((c.tc : Thread Cert.Reference4Ideal.nD Cert.Reference4Ideal.τ).loc Cert.Reference4Ideal.main_v9) = v10 c
          ∧ r.2.mem ((c.tc : Thread Cert.Reference4Ideal.nD Cert.Reference4Ideal.τ).loc Cert.Reference4Ideal.main_v6) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_finite_qkv [hKernel5Ideal : Cert.Kernel5Ideal.Facts] [hReference5Ideal : Cert.Reference5Ideal.Facts] [hPre_finite_qkv : Cert.Pre_finite_qkv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qkv m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)) →
    ∃ (v0 : (c : Dev Cert.Kernel6Ideal.nD) → Buf (Elt Ideal) ((c.tc : Thread Cert.Kernel6Ideal.nD Cert.Kernel6Ideal.τ).loc Cert.Kernel6Ideal.main_v14)) (v1 : (c : Dev Cert.Kernel6Ideal.nD) → Buf (Elt Ideal) ((c.tc : Thread Cert.Kernel6Ideal.nD Cert.Kernel6Ideal.τ).loc Cert.Kernel6Ideal.main_v16)) (v2 : (c : Dev Cert.Kernel6Ideal.nD) → Buf (Elt Ideal) ((c.tc : Thread Cert.Kernel6Ideal.nD Cert.Kernel6Ideal.τ).loc Cert.Kernel6Ideal.main_v18)) (v3 : (c : Dev Cert.Kernel6Ideal.nD) → Buf (Elt Ideal) ((c.tc : Thread Cert.Kernel6Ideal.nD Cert.Kernel6Ideal.τ).loc Cert.Kernel6Ideal.main_v0_0)) (v4 : (c : Dev Cert.Kernel6Ideal.nD) → Buf (Elt Ideal) ((c.tc : Thread Cert.Kernel6Ideal.nD Cert.Kernel6Ideal.τ).loc Cert.Kernel6Ideal.main_v0_1)) (v5 : (c : Dev Cert.Kernel6Ideal.nD) → Buf (Elt Ideal) ((c.tc : Thread Cert.Kernel6Ideal.nD Cert.Kernel6Ideal.τ).loc Cert.Kernel6Ideal.main_v0_2)) (v6 : (c : Dev Cert.Kernel6Ideal.nD) → Buf (Elt Ideal) ((c.tc : Thread Cert.Kernel6Ideal.nD Cert.Kernel6Ideal.τ).loc Cert.Kernel6Ideal.main_v1_0)) (v7 : (c : Dev Cert.Kernel6Ideal.nD) → Buf (Elt Ideal) ((c.tc : Thread Cert.Kernel6Ideal.nD Cert.Kernel6Ideal.τ).loc Cert.Kernel6Ideal.main_v1_1)) (v8 : (c : Dev Cert.Kernel6Ideal.nD) → Buf (Elt Ideal) ((c.tc : Thread Cert.Kernel6Ideal.nD Cert.Kernel6Ideal.τ).loc Cert.Kernel6Ideal.main_v1_2)) (v9 : (c : Dev Cert.Kernel6Ideal.nD) → Buf (Elt Ideal) ((c.tc : Thread Cert.Kernel6Ideal.nD Cert.Kernel6Ideal.τ).loc Cert.Kernel6Ideal.main_v2_0)) (v10 : (c : Dev Cert.Kernel6Ideal.nD) → Buf (Elt Ideal) ((c.tc : Thread Cert.Kernel6Ideal.nD Cert.Kernel6Ideal.τ).loc Cert.Kernel6Ideal.main_v2_1)) (v11 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_v16) = v1 c
          ∧ r.2.mem ((c.tc : Thread Cert.Kernel6Ideal.nD Cert.Kernel6Ideal.τ).loc Cert.Kernel6Ideal.main_v18) = v2 c
          ∧ r.2.mem ((c.tc : Thread Cert.Kernel6Ideal.nD Cert.Kernel6Ideal.τ).loc Cert.Kernel6Ideal.main_v0_0) = v3 c
          ∧ r.2.mem ((c.tc : Thread Cert.Kernel6Ideal.nD Cert.Kernel6Ideal.τ).loc Cert.Kernel6Ideal.main_v0_1) = v4 c
          ∧ r.2.mem ((c.tc : Thread Cert.Kernel6Ideal.nD Cert.Kernel6Ideal.τ).loc Cert.Kernel6Ideal.main_v0_2) = v5 c
          ∧ r.2.mem ((c.tc : Thread Cert.Kernel6Ideal.nD Cert.Kernel6Ideal.τ).loc Cert.Kernel6Ideal.main_v1_0) = v6 c
          ∧ r.2.mem ((c.tc : Thread Cert.Kernel6Ideal.nD Cert.Kernel6Ideal.τ).loc Cert.Kernel6Ideal.main_v1_1) = v7 c
          ∧ r.2.mem ((c.tc : Thread Cert.Kernel6Ideal.nD Cert.Kernel6Ideal.τ).loc Cert.Kernel6Ideal.main_v1_2) = v8 c
          ∧ r.2.mem ((c.tc : Thread Cert.Kernel6Ideal.nD Cert.Kernel6Ideal.τ).loc Cert.Kernel6Ideal.main_v2_0) = v9 c
          ∧ r.2.mem ((c.tc : Thread Cert.Kernel6Ideal.nD Cert.Kernel6Ideal.τ).loc Cert.Kernel6Ideal.main_v2_1) = v10 c
          ∧ r.2.mem ((c.tc : Thread Cert.Kernel6Ideal.nD Cert.Kernel6Ideal.τ).loc Cert.Kernel6Ideal.main_v2_2) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v6)) (v4 : (c : Dev Cert.Kernel7Ideal.nD) → Buf (Elt Ideal) ((c.tc : Thread Cert.Kernel7Ideal.nD Cert.Kernel7Ideal.τ).loc Cert.Kernel7Ideal.main_v7)) (v5 : (c : Dev Cert.Kernel7Ideal.nD) → Buf (Elt Ideal) ((c.tc : Thread Cert.Kernel7Ideal.nD Cert.Kernel7Ideal.τ).loc Cert.Kernel7Ideal.main_v8)) (v6 : (c : Dev Cert.Kernel7Ideal.nD) → Buf (Elt Ideal) ((c.tc : Thread Cert.Kernel7Ideal.nD Cert.Kernel7Ideal.τ).loc Cert.Kernel7Ideal.main_v9_0)) (v7 : (c : Dev Cert.Kernel7Ideal.nD) → Buf (Elt Ideal) ((c.tc : Thread Cert.Kernel7Ideal.nD Cert.Kernel7Ideal.τ).loc Cert.Kernel7Ideal.main_v9_1)) (v8 : (c : Dev Cert.Kernel7Ideal.nD) → Buf (Elt Ideal) ((c.tc : Thread Cert.Kernel7Ideal.nD Cert.Kernel7Ideal.τ).loc Cert.Kernel7Ideal.main_v9_2)) (v9 : (c : Dev Cert.Kernel7Ideal.nD) → Buf (Elt Ideal) ((c.tc : Thread Cert.Kernel7Ideal.nD Cert.Kernel7Ideal.τ).loc Cert.Kernel7Ideal.main_v15)) (v10 : (c : Dev Cert.Kernel7Ideal.nD) → Buf (Elt Ideal) ((c.tc : Thread Cert.Kernel7Ideal.nD Cert.Kernel7Ideal.τ).loc Cert.Kernel7Ideal.main_v16)) (v11 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v6) = v3 c
          ∧ r.2.mem ((c.tc : Thread Cert.Kernel7Ideal.nD Cert.Kernel7Ideal.τ).loc Cert.Kernel7Ideal.main_v7) = v4 c
          ∧ r.2.mem ((c.tc : Thread Cert.Kernel7Ideal.nD Cert.Kernel7Ideal.τ).loc Cert.Kernel7Ideal.main_v8) = v5 c
          ∧ r.2.mem ((c.tc : Thread Cert.Kernel7Ideal.nD Cert.Kernel7Ideal.τ).loc Cert.Kernel7Ideal.main_v9_0) = v6 c
          ∧ r.2.mem ((c.tc : Thread Cert.Kernel7Ideal.nD Cert.Kernel7Ideal.τ).loc Cert.Kernel7Ideal.main_v9_1) = v7 c
          ∧ r.2.mem ((c.tc : Thread Cert.Kernel7Ideal.nD Cert.Kernel7Ideal.τ).loc Cert.Kernel7Ideal.main_v9_2) = v8 c
          ∧ r.2.mem ((c.tc : Thread Cert.Kernel7Ideal.nD Cert.Kernel7Ideal.τ).loc Cert.Kernel7Ideal.main_v15) = v9 c
          ∧ r.2.mem ((c.tc : Thread Cert.Kernel7Ideal.nD Cert.Kernel7Ideal.τ).loc Cert.Kernel7Ideal.main_v16) = v10 c
          ∧ r.2.mem ((c.tc : Thread Cert.Kernel7Ideal.nD Cert.Kernel7Ideal.τ).loc Cert.Kernel7Ideal.main_v17) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_v71) = v6 c
          ∧ r.2.mem ((c.tc : Thread Cert.Reference7Ideal.nD Cert.Reference7Ideal.τ).loc Cert.Reference7Ideal.main_v52) = v7 c
          ∧ r.2.mem ((c.tc : Thread Cert.Reference7Ideal.nD Cert.Reference7Ideal.τ).loc Cert.Reference7Ideal.main_v58) = v8 c
          ∧ r.2.mem ((c.tc : Thread Cert.Reference7Ideal.nD Cert.Reference7Ideal.τ).loc Cert.Reference7Ideal.main_v95) = v9 c
          ∧ r.2.mem ((c.tc : Thread Cert.Reference7Ideal.nD Cert.Reference7Ideal.τ).loc Cert.Reference7Ideal.main_v76) = v10 c
          ∧ r.2.mem ((c.tc : Thread Cert.Reference7Ideal.nD Cert.Reference7Ideal.τ).loc Cert.Reference7Ideal.main_v82) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v5)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v7)) (v3 : (c : Dev Cert.Kernel8Ideal.nD) → Buf (Elt Ideal) ((c.tc : Thread Cert.Kernel8Ideal.nD Cert.Kernel8Ideal.τ).loc Cert.Kernel8Ideal.main_v13)) (v4 : (c : Dev Cert.Kernel8Ideal.nD) → Buf (Elt Ideal) ((c.tc : Thread Cert.Kernel8Ideal.nD Cert.Kernel8Ideal.τ).loc Cert.Kernel8Ideal.main_v14)) (v5 : (c : Dev Cert.Kernel8Ideal.nD) → Buf (Elt Ideal) ((c.tc : Thread Cert.Kernel8Ideal.nD Cert.Kernel8Ideal.τ).loc Cert.Kernel8Ideal.main_v15)) (v6 : (c : Dev Cert.Kernel8Ideal.nD) → Buf (Elt Ideal) ((c.tc : Thread Cert.Kernel8Ideal.nD Cert.Kernel8Ideal.τ).loc Cert.Kernel8Ideal.main_v21)) (v7 : (c : Dev Cert.Kernel8Ideal.nD) → Buf (Elt Ideal) ((c.tc : Thread Cert.Kernel8Ideal.nD Cert.Kernel8Ideal.τ).loc Cert.Kernel8Ideal.main_v22)) (v8 : (c : Dev Cert.Kernel8Ideal.nD) → Buf (Elt Ideal) ((c.tc : Thread Cert.Kernel8Ideal.nD Cert.Kernel8Ideal.τ).loc Cert.Kernel8Ideal.main_v23)) (v9 : (c : Dev Cert.Kernel8Ideal.nD) → Buf (Elt Ideal) ((c.tc : Thread Cert.Kernel8Ideal.nD Cert.Kernel8Ideal.τ).loc Cert.Kernel8Ideal.main_v29)) (v10 : (c : Dev Cert.Kernel8Ideal.nD) → Buf (Elt Ideal) ((c.tc : Thread Cert.Kernel8Ideal.nD Cert.Kernel8Ideal.τ).loc Cert.Kernel8Ideal.main_v30)) (v11 : (c : Dev Cert.Kernel8Ideal.nD) → Buf (Elt Ideal) ((c.tc : Thread Cert.Kernel8Ideal.nD Cert.Kernel8Ideal.τ).loc Cert.Kernel8Ideal.main_v31)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_v13) = v3 c
          ∧ r.2.mem ((c.tc : Thread Cert.Kernel8Ideal.nD Cert.Kernel8Ideal.τ).loc Cert.Kernel8Ideal.main_v14) = v4 c
          ∧ r.2.mem ((c.tc : Thread Cert.Kernel8Ideal.nD Cert.Kernel8Ideal.τ).loc Cert.Kernel8Ideal.main_v15) = v5 c
          ∧ r.2.mem ((c.tc : Thread Cert.Kernel8Ideal.nD Cert.Kernel8Ideal.τ).loc Cert.Kernel8Ideal.main_v21) = v6 c
          ∧ r.2.mem ((c.tc : Thread Cert.Kernel8Ideal.nD Cert.Kernel8Ideal.τ).loc Cert.Kernel8Ideal.main_v22) = v7 c
          ∧ r.2.mem ((c.tc : Thread Cert.Kernel8Ideal.nD Cert.Kernel8Ideal.τ).loc Cert.Kernel8Ideal.main_v23) = v8 c
          ∧ r.2.mem ((c.tc : Thread Cert.Kernel8Ideal.nD Cert.Kernel8Ideal.τ).loc Cert.Kernel8Ideal.main_v29) = v9 c
          ∧ r.2.mem ((c.tc : Thread Cert.Kernel8Ideal.nD Cert.Kernel8Ideal.τ).loc Cert.Kernel8Ideal.main_v30) = v10 c
          ∧ r.2.mem ((c.tc : Thread Cert.Kernel8Ideal.nD Cert.Kernel8Ideal.τ).loc Cert.Kernel8Ideal.main_v31) = v11 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_v71) = v6 c
          ∧ r.2.mem ((c.tc : Thread Cert.Reference8Ideal.nD Cert.Reference8Ideal.τ).loc Cert.Reference8Ideal.main_v52) = v7 c
          ∧ r.2.mem ((c.tc : Thread Cert.Reference8Ideal.nD Cert.Reference8Ideal.τ).loc Cert.Reference8Ideal.main_v58) = v8 c
          ∧ r.2.mem ((c.tc : Thread Cert.Reference8Ideal.nD Cert.Reference8Ideal.τ).loc Cert.Reference8Ideal.main_v95) = v9 c
          ∧ r.2.mem ((c.tc : Thread Cert.Reference8Ideal.nD Cert.Reference8Ideal.τ).loc Cert.Reference8Ideal.main_v76) = v10 c
          ∧ r.2.mem ((c.tc : Thread Cert.Reference8Ideal.nD Cert.Reference8Ideal.τ).loc Cert.Reference8Ideal.main_v82) = v11 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v6)) (v2 : (c : Dev Cert.Kernel9Ideal.nD) → Buf (Elt Ideal) ((c.tc : Thread Cert.Kernel9Ideal.nD Cert.Kernel9Ideal.τ).loc Cert.Kernel9Ideal.main_v7)) (v3 : (c : Dev Cert.Kernel9Ideal.nD) → Buf (Elt Ideal) ((c.tc : Thread Cert.Kernel9Ideal.nD Cert.Kernel9Ideal.τ).loc Cert.Kernel9Ideal.main_v13)) (v4 : (c : Dev Cert.Kernel9Ideal.nD) → Buf (Elt Ideal) ((c.tc : Thread Cert.Kernel9Ideal.nD Cert.Kernel9Ideal.τ).loc Cert.Kernel9Ideal.main_v14)) (v5 : (c : Dev Cert.Kernel9Ideal.nD) → Buf (Elt Ideal) ((c.tc : Thread Cert.Kernel9Ideal.nD Cert.Kernel9Ideal.τ).loc Cert.Kernel9Ideal.main_v15)) (v6 : (c : Dev Cert.Kernel9Ideal.nD) → Buf (Elt Ideal) ((c.tc : Thread Cert.Kernel9Ideal.nD Cert.Kernel9Ideal.τ).loc Cert.Kernel9Ideal.main_v16_0)) (v7 : (c : Dev Cert.Kernel9Ideal.nD) → Buf (Elt Ideal) ((c.tc : Thread Cert.Kernel9Ideal.nD Cert.Kernel9Ideal.τ).loc Cert.Kernel9Ideal.main_v16_1)) (v8 : (c : Dev Cert.Kernel9Ideal.nD) → Buf (Elt Ideal) ((c.tc : Thread Cert.Kernel9Ideal.nD Cert.Kernel9Ideal.τ).loc Cert.Kernel9Ideal.main_v16_2)) (v9 : (c : Dev Cert.Kernel9Ideal.nD) → Buf (Elt Ideal) ((c.tc : Thread Cert.Kernel9Ideal.nD Cert.Kernel9Ideal.τ).loc Cert.Kernel9Ideal.main_v22)) (v10 : (c : Dev Cert.Kernel9Ideal.nD) → Buf (Elt Ideal) ((c.tc : Thread Cert.Kernel9Ideal.nD Cert.Kernel9Ideal.τ).loc Cert.Kernel9Ideal.main_v23)) (v11 : (c : Dev Cert.Kernel9Ideal.nD) → Buf (Elt Ideal) ((c.tc : Thread Cert.Kernel9Ideal.nD Cert.Kernel9Ideal.τ).loc Cert.Kernel9Ideal.main_v24)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v6) = v1 c
          ∧ r.2.mem ((c.tc : Thread Cert.Kernel9Ideal.nD Cert.Kernel9Ideal.τ).loc Cert.Kernel9Ideal.main_v7) = v2 c
          ∧ r.2.mem ((c.tc : Thread Cert.Kernel9Ideal.nD Cert.Kernel9Ideal.τ).loc Cert.Kernel9Ideal.main_v13) = v3 c
          ∧ r.2.mem ((c.tc : Thread Cert.Kernel9Ideal.nD Cert.Kernel9Ideal.τ).loc Cert.Kernel9Ideal.main_v14) = v4 c
          ∧ r.2.mem ((c.tc : Thread Cert.Kernel9Ideal.nD Cert.Kernel9Ideal.τ).loc Cert.Kernel9Ideal.main_v15) = v5 c
          ∧ r.2.mem ((c.tc : Thread Cert.Kernel9Ideal.nD Cert.Kernel9Ideal.τ).loc Cert.Kernel9Ideal.main_v16_0) = v6 c
          ∧ r.2.mem ((c.tc : Thread Cert.Kernel9Ideal.nD Cert.Kernel9Ideal.τ).loc Cert.Kernel9Ideal.main_v16_1) = v7 c
          ∧ r.2.mem ((c.tc : Thread Cert.Kernel9Ideal.nD Cert.Kernel9Ideal.τ).loc Cert.Kernel9Ideal.main_v16_2) = v8 c
          ∧ r.2.mem ((c.tc : Thread Cert.Kernel9Ideal.nD Cert.Kernel9Ideal.τ).loc Cert.Kernel9Ideal.main_v22) = v9 c
          ∧ r.2.mem ((c.tc : Thread Cert.Kernel9Ideal.nD Cert.Kernel9Ideal.τ).loc Cert.Kernel9Ideal.main_v23) = v10 c
          ∧ r.2.mem ((c.tc : Thread Cert.Kernel9Ideal.nD Cert.Kernel9Ideal.τ).loc Cert.Kernel9Ideal.main_v24) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_v95) = v9 c
          ∧ r.2.mem ((c.tc : Thread Cert.Reference9Ideal.nD Cert.Reference9Ideal.τ).loc Cert.Reference9Ideal.main_v76) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v6)) (v4 : (c : Dev Cert.Kernel10Ideal.nD) → Buf (Elt Ideal) ((c.tc : Thread Cert.Kernel10Ideal.nD Cert.Kernel10Ideal.τ).loc Cert.Kernel10Ideal.main_v7)) (v5 : (c : Dev Cert.Kernel10Ideal.nD) → Buf (Elt Ideal) ((c.tc : Thread Cert.Kernel10Ideal.nD Cert.Kernel10Ideal.τ).loc Cert.Kernel10Ideal.main_v8)) (v6 : (c : Dev Cert.Kernel10Ideal.nD) → Buf (Elt Ideal) ((c.tc : Thread Cert.Kernel10Ideal.nD Cert.Kernel10Ideal.τ).loc Cert.Kernel10Ideal.main_v14)) (v7 : (c : Dev Cert.Kernel10Ideal.nD) → Buf (Elt Ideal) ((c.tc : Thread Cert.Kernel10Ideal.nD Cert.Kernel10Ideal.τ).loc Cert.Kernel10Ideal.main_v15)) (v8 : (c : Dev Cert.Kernel10Ideal.nD) → Buf (Elt Ideal) ((c.tc : Thread Cert.Kernel10Ideal.nD Cert.Kernel10Ideal.τ).loc Cert.Kernel10Ideal.main_v16)) (v9 : (c : Dev Cert.Kernel10Ideal.nD) → Buf (Elt Ideal) ((c.tc : Thread Cert.Kernel10Ideal.nD Cert.Kernel10Ideal.τ).loc Cert.Kernel10Ideal.main_v17_0)) (v10 : (c : Dev Cert.Kernel10Ideal.nD) → Buf (Elt Ideal) ((c.tc : Thread Cert.Kernel10Ideal.nD Cert.Kernel10Ideal.τ).loc Cert.Kernel10Ideal.main_v17_1)) (v11 : (c : Dev Cert.Kernel10Ideal.nD) → Buf (Elt Ideal) ((c.tc : Thread Cert.Kernel10Ideal.nD Cert.Kernel10Ideal.τ).loc Cert.Kernel10Ideal.main_v17_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v6) = v3 c
          ∧ r.2.mem ((c.tc : Thread Cert.Kernel10Ideal.nD Cert.Kernel10Ideal.τ).loc Cert.Kernel10Ideal.main_v7) = v4 c
          ∧ r.2.mem ((c.tc : Thread Cert.Kernel10Ideal.nD Cert.Kernel10Ideal.τ).loc Cert.Kernel10Ideal.main_v8) = v5 c
          ∧ r.2.mem ((c.tc : Thread Cert.Kernel10Ideal.nD Cert.Kernel10Ideal.τ).loc Cert.Kernel10Ideal.main_v14) = v6 c
          ∧ r.2.mem ((c.tc : Thread Cert.Kernel10Ideal.nD Cert.Kernel10Ideal.τ).loc Cert.Kernel10Ideal.main_v15) = v7 c
          ∧ r.2.mem ((c.tc : Thread Cert.Kernel10Ideal.nD Cert.Kernel10Ideal.τ).loc Cert.Kernel10Ideal.main_v16) = v8 c
          ∧ r.2.mem ((c.tc : Thread Cert.Kernel10Ideal.nD Cert.Kernel10Ideal.τ).loc Cert.Kernel10Ideal.main_v17_0) = v9 c
          ∧ r.2.mem ((c.tc : Thread Cert.Kernel10Ideal.nD Cert.Kernel10Ideal.τ).loc Cert.Kernel10Ideal.main_v17_1) = v10 c
          ∧ r.2.mem ((c.tc : Thread Cert.Kernel10Ideal.nD Cert.Kernel10Ideal.τ).loc Cert.Kernel10Ideal.main_v17_2) = v11 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v47) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_v34) = v5 c
          ∧ r.2.mem ((c.tc : Thread Cert.Reference10Ideal.nD Cert.Reference10Ideal.τ).loc Cert.Reference10Ideal.main_v71) = v6 c
          ∧ r.2.mem ((c.tc : Thread Cert.Reference10Ideal.nD Cert.Reference10Ideal.τ).loc Cert.Reference10Ideal.main_v52) = v7 c
          ∧ r.2.mem ((c.tc : Thread Cert.Reference10Ideal.nD Cert.Reference10Ideal.τ).loc Cert.Reference10Ideal.main_v58) = v8 c
          ∧ r.2.mem ((c.tc : Thread Cert.Reference10Ideal.nD Cert.Reference10Ideal.τ).loc Cert.Reference10Ideal.main_v95) = v9 c
          ∧ r.2.mem ((c.tc : Thread Cert.Reference10Ideal.nD Cert.Reference10Ideal.τ).loc Cert.Reference10Ideal.main_v76) = v10 c
          ∧ r.2.mem ((c.tc : Thread Cert.Reference10Ideal.nD Cert.Reference10Ideal.τ).loc Cert.Reference10Ideal.main_v82) = v11 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v5)) (v1 : (c : Dev Cert.Kernel11Ideal.nD) → Buf (Elt Ideal) ((c.tc : Thread Cert.Kernel11Ideal.nD Cert.Kernel11Ideal.τ).loc Cert.Kernel11Ideal.main_v6)) (v2 : (c : Dev Cert.Kernel11Ideal.nD) → Buf (Elt Ideal) ((c.tc : Thread Cert.Kernel11Ideal.nD Cert.Kernel11Ideal.τ).loc Cert.Kernel11Ideal.main_v7)) (v3 : (c : Dev Cert.Kernel11Ideal.nD) → Buf (Elt Ideal) ((c.tc : Thread Cert.Kernel11Ideal.nD Cert.Kernel11Ideal.τ).loc Cert.Kernel11Ideal.main_v13)) (v4 : (c : Dev Cert.Kernel11Ideal.nD) → Buf (Elt Ideal) ((c.tc : Thread Cert.Kernel11Ideal.nD Cert.Kernel11Ideal.τ).loc Cert.Kernel11Ideal.main_v14)) (v5 : (c : Dev Cert.Kernel11Ideal.nD) → Buf (Elt Ideal) ((c.tc : Thread Cert.Kernel11Ideal.nD Cert.Kernel11Ideal.τ).loc Cert.Kernel11Ideal.main_v15)) (v6 : (c : Dev Cert.Kernel11Ideal.nD) → Buf (Elt Ideal) ((c.tc : Thread Cert.Kernel11Ideal.nD Cert.Kernel11Ideal.τ).loc Cert.Kernel11Ideal.main_v21)) (v7 : (c : Dev Cert.Kernel11Ideal.nD) → Buf (Elt Ideal) ((c.tc : Thread Cert.Kernel11Ideal.nD Cert.Kernel11Ideal.τ).loc Cert.Kernel11Ideal.main_v22)) (v8 : (c : Dev Cert.Kernel11Ideal.nD) → Buf (Elt Ideal) ((c.tc : Thread Cert.Kernel11Ideal.nD Cert.Kernel11Ideal.τ).loc Cert.Kernel11Ideal.main_v23)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_v6) = v1 c
          ∧ r.2.mem ((c.tc : Thread Cert.Kernel11Ideal.nD Cert.Kernel11Ideal.τ).loc Cert.Kernel11Ideal.main_v7) = v2 c
          ∧ r.2.mem ((c.tc : Thread Cert.Kernel11Ideal.nD Cert.Kernel11Ideal.τ).loc Cert.Kernel11Ideal.main_v13) = v3 c
          ∧ r.2.mem ((c.tc : Thread Cert.Kernel11Ideal.nD Cert.Kernel11Ideal.τ).loc Cert.Kernel11Ideal.main_v14) = v4 c
          ∧ r.2.mem ((c.tc : Thread Cert.Kernel11Ideal.nD Cert.Kernel11Ideal.τ).loc Cert.Kernel11Ideal.main_v15) = v5 c
          ∧ r.2.mem ((c.tc : Thread Cert.Kernel11Ideal.nD Cert.Kernel11Ideal.τ).loc Cert.Kernel11Ideal.main_v21) = v6 c
          ∧ r.2.mem ((c.tc : Thread Cert.Kernel11Ideal.nD Cert.Kernel11Ideal.τ).loc Cert.Kernel11Ideal.main_v22) = v7 c
          ∧ r.2.mem ((c.tc : Thread Cert.Kernel11Ideal.nD Cert.Kernel11Ideal.τ).loc Cert.Kernel11Ideal.main_v23) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v47) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v34) = v5 c
          ∧ r.2.mem ((c.tc : Thread Cert.Reference11Ideal.nD Cert.Reference11Ideal.τ).loc Cert.Reference11Ideal.main_v71) = v6 c
          ∧ r.2.mem ((c.tc : Thread Cert.Reference11Ideal.nD Cert.Reference11Ideal.τ).loc Cert.Reference11Ideal.main_v52) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_v52) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v22) = v1 c
          ∧ r.2.mem ((c.tc : Thread Cert.Reference15Ideal.nD Cert.Reference15Ideal.τ).loc Cert.Reference15Ideal.main_v20) = v2 c
          ∧ r.2.mem ((c.tc : Thread Cert.Reference15Ideal.nD Cert.Reference15Ideal.τ).loc Cert.Reference15Ideal.main_v27) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_qkv (hKernel5Ideal := hKernel5Ideal) (hPre_finite_qkv := hPre_finite_qkv)
    ∧ quiescent_Reference5Ideal (hReference5Ideal := hReference5Ideal)
    ∧ quiescent_Reference5Ideal_pre_finite_qkv (hReference5Ideal := hReference5Ideal) (hPre_finite_qkv := hPre_finite_qkv)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_qkv (hKernel5Ideal := hKernel5Ideal) (hReference5Ideal := hReference5Ideal) (hPre_finite_qkv := hPre_finite_qkv)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2048x9728 : Shape := ⟨2, ![2048, 9728]⟩
abbrev S2048x512 : Shape := ⟨2, ![2048, 512]⟩
abbrev S2048x1536 : Shape := ⟨2, ![2048, 1536]⟩
abbrev S_ : Shape := ⟨0, ![]⟩

class Facts : Prop where
  slices_S2048x9728_S2048x1536_0_0 : S2048x9728.Slices ![0, 0] S2048x1536
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x9728 .f32) (main_arg1 : FVec F S2048x512 .f32) : IVec S_ 1 :=
  let main_v0 : FVec F S2048x1536 .f32 := (extractStridedSlice S2048x1536 ![0, 0] · slices_S2048x9728_S2048x1536_0_0) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x512 .f32 := Host.absf main_arg1
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  main_v9
-- ==== Pre_finite_qkv.lean ====
abbrev S2048x9728 : Shape := ⟨2, ![2048, 9728]⟩
abbrev S2048x1536 : Shape := ⟨2, ![2048, 1536]⟩
abbrev S_ : Shape := ⟨0, ![]⟩

class Facts : Prop where
  slices_S2048x9728_S2048x1536_0_0 : S2048x9728.Slices ![0, 0] S2048x1536
  bcast_S_S2048x1536 : S_.BroadcastsInDim S2048x1536 (![] : Fin 0 → Fin S2048x1536.rank)
  reducesTo_S2048x1536_S_d0_1 : S2048x1536.ReducesTo [0, 1] S_
  h_S_ : 0 < S_.numel

variable [Facts]

def fn {F : FTy → Type} [FloatOps F] (main_arg0 : FVec F S2048x9728 .f32) : IVec S_ 1 :=
  let main_v0 : FVec F S2048x1536 .f32 := (extractStridedSlice S2048x1536 ![0, 0] · slices_S2048x9728_S2048x1536_0_0) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  main_v4
-- ==== Kernel.lean ====
abbrev S2048x9728 : Shape := ⟨2, ![2048, 9728]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x2048x128 : Shape := ⟨3, ![8, 2048, 128]⟩
abbrev S256x128 : Shape := ⟨2, ![256, 128]⟩
abbrev S2048x128 : Shape := ⟨2, ![2048, 128]⟩
abbrev S2x256x128 : Shape := ⟨3, ![2, 256, 128]⟩
abbrev S512x128 : Shape := ⟨2, ![512, 128]⟩
abbrev S512x256 : Shape := ⟨2, ![512, 256]⟩
abbrev S256x384 : Shape := ⟨2, ![256, 384]⟩
abbrev S1x256x128 : Shape := ⟨3, ![1, 256, 128]⟩
abbrev S512x384 : Shape := ⟨2, ![512, 384]⟩

abbrev nBuf : Space → Nat
  | .hbm => 61
  | .vmem => 16
  | .smem => 0
  | _ => 0

abbrev bufTy : (tb : Table) → Fin (tcTables nBuf tb) → BufTy
  | .hbm, ⟨0, _⟩ => ⟨S2048x9728, .f32⟩
  | .hbm, ⟨1, _⟩ => ⟨S2048x512, .f32⟩
  | .hbm, ⟨2, _⟩ => ⟨S2048x512, .f32⟩
  | .hbm, ⟨3, _⟩ => ⟨S2048x8x64, .f32⟩
  | .hbm, ⟨4, _⟩ => ⟨S2048x512, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S_, .f32⟩
  | .hbm, ⟨51, _⟩ => ⟨S8x2048x2048, .i1⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x128, .f32⟩
  | .hbm, ⟨58, _⟩ => ⟨S2048x512, .f32⟩
  | .hbm, ⟨59, _⟩ => ⟨S2048x512, .f32⟩
  | .hbm, ⟨60, _⟩ => ⟨S2048x512, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x128, .f32⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v15 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v16 : Ref sig .tc := ⟨.hbm, 53, rfl⟩
abbrev main_cst_1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20_0 : Ref sig .tc := ⟨.hbm, 58, rfl⟩
abbrev main_v20_1 : Ref sig .tc := ⟨.hbm, 59, rfl⟩
abbrev main_v20_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_18 : BitVec 32 := 0#32
  let arg1 : BitVec 32 := BitVec.ofNat 32 (i 1).val
  let v57 : BitVec 32 := Scalar.subi arg1 c0_i32_18
  let c1_i32 : BitVec 32 := 1#32
  let v59 : BitVec 32 := Scalar.divsi v57 c1_i32
  let v60 : BitVec 32 := Scalar.muli v59 c1_i32
  let v61 : BitVec 32 := Scalar.addi c0_i32_18 v60
  let c1_i32_19 : BitVec 32 := 1#32
  ⟨c0_i32_18, v61, c1_i32_19⟩
def k0_mult1 (i : grid0.Coords) (k0_t1 : Fin (k0_t1_loop i).trips) : BitVec 32 :=
  let c0_i32_18 : BitVec 32 := 0#32
  let c1_i32_19 : BitVec 32 := 1#32
  let arg10 : BitVec 32 := Scf.iv c0_i32_18 c1_i32_19 k0_t1
  let c256_i32_51 : BitVec 32 := 256#32
  let v153 : BitVec 32 := Scalar.muli arg10 c256_i32_51
  v153
def k0_off1 (i : grid0.Coords) (k0_t1 : Fin (k0_t1_loop i).trips) : Fin 2 → Nat :=
  let c0_i32_18 : BitVec 32 := 0#32
  let c1_i32_19 : BitVec 32 := 1#32
  let arg10 : BitVec 32 := Scf.iv c0_i32_18 c1_i32_19 k0_t1
  let c256_i32_51 : BitVec 32 := 256#32
  let v153 : BitVec 32 := Scalar.muli arg10 c256_i32_51
  let v154 : BitVec 32 := v153
  let v155 : Index := Scalar.indexCast v154
  let c0_52 : Index := 0#32
  ![v155.toNat, 0]
@[reducible] def k0_t2_loop (i : grid0.Coords) : Scf.Loop 32 :=
  let c0_i32_18 : BitVec 32 := 0#32
  let arg1 : BitVec 32 := BitVec.ofNat 32 (i 1).val
  let v57 : BitVec 32 := Scalar.subi arg1 c0_i32_18
  let c1_i32 : BitVec 32 := 1#32
  let v59 : BitVec 32 := Scalar.divsi v57 c1_i32
  let v60 : BitVec 32 := Scalar.muli v59 c1_i32
  let v61 : BitVec 32 := Scalar.addi c0_i32_18 v60
  let v58 : BitVec 32 := Scalar.addi c0_i32_18 v57
  let c1_i32_20 : BitVec 32 := 1#32
  ⟨v61, v58, c1_i32_20⟩
def k0_mult2 (i : grid0.Coords) (k0_t2 : Fin (k0_t2_loop i).trips) : BitVec 32 :=
  let c0_i32_18 : BitVec 32 := 0#32
  let arg1 : BitVec 32 := BitVec.ofNat 32 (i 1).val
  let v57 : BitVec 32 := Scalar.subi arg1 c0_i32_18
  let c1_i32 : BitVec 32 := 1#32
  let v59 : BitVec 32 := Scalar.divsi v57 c1_i32
  let v60 : BitVec 32 := Scalar.muli v59 c1_i32
  let v61 : BitVec 32 := Scalar.addi c0_i32_18 v60
  let c1_i32_20 : BitVec 32 := 1#32
  let arg10 : BitVec 32 := Scf.iv v61 c1_i32_20 k0_t2
  let c256_i32_51 : BitVec 32 := 256#32
  let v153 : BitVec 32 := Scalar.muli arg10 c256_i32_51
  v153
def k0_off2 (i : grid0.Coords) (k0_t2 : Fin (k0_t2_loop i).trips) : Fin 2 → Nat :=
  let c0_i32_18 : BitVec 32 := 0#32
  let arg1 : BitVec 32 := BitVec.ofNat 32 (i 1).val
  let v57 : BitVec 32 := Scalar.subi arg1 c0_i32_18
  let c1_i32 : BitVec 32 := 1#32
  let v59 : BitVec 32 := Scalar.divsi v57 c1_i32
  let v60 : BitVec 32 := Scalar.muli v59 c1_i32
  let v61 : BitVec 32 := Scalar.addi c0_i32_18 v60
  let c1_i32_20 : BitVec 32 := 1#32
  let arg10 : BitVec 32 := Scf.iv v61 c1_i32_20 k0_t2
  let c256_i32_51 : BitVec 32 := 256#32
  let v153 : BitVec 32 := Scalar.muli arg10 c256_i32_51
  let v154 : BitVec 32 := v153
  let v155 : Index := Scalar.indexCast v154
  let c0_52 : Index := 0#32
  ![v155.toNat, 0]
def k0_mult3 (i : grid0.Coords) : BitVec 32 :=
  let arg1 : BitVec 32 := BitVec.ofNat 32 (i 1).val
  let c256_i32_21 : BitVec 32 := 256#32
  let v64 : BitVec 32 := Scalar.muli arg1 c256_i32_21
  v64
def k0_off3 (i : grid0.Coords) : Fin 2 → Nat :=
  let arg1 : BitVec 32 := BitVec.ofNat 32 (i 1).val
  let c256_i32_21 : BitVec 32 := 256#32
  let v64 : BitVec 32 := Scalar.muli arg1 c256_i32_21
  let v65 : BitVec 32 := v64
  let v66 : Index := Scalar.indexCast v65
  let c0_22 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x9728 : Shape := ⟨2, ![2048, 9728]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 172
  | .vmem => 0
  | .smem => 0
  | _ => 0

abbrev hbmTy0_0 (i : Nat) : BufTy := match i % 128 with
  | 0 => ⟨S2048x9728, .f32⟩
  | 1 => ⟨S2048x512, .f32⟩
  | 2 => ⟨S2048x512, .f32⟩
  | 3 => ⟨S2048x8x64, .f32⟩
  | 4 => ⟨S2048x512, .f32⟩
  | 5 => ⟨S2048x8x64, .f32⟩
  | 6 => ⟨S2048x512, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .i1⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .i1⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x2048x2048, .f32⟩
  | 55 => ⟨S8x2048x2048, .i1⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .i1⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .i1⟩
  | 85 => ⟨S_, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .i1⟩
  | 91 => ⟨S_, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S_, .f32⟩
  | 112 => ⟨S8x2048x2048, .f32⟩
  | 113 => ⟨S8x2048x2048, .f32⟩
  | 114 => ⟨S8x2048x2048, .f32⟩
  | 115 => ⟨S_, .f32⟩
  | 116 => ⟨S_, .f32⟩
  | 117 => ⟨S8x2048x2048, .i1⟩
  | 118 => ⟨S8x2048x2048, .f32⟩
  | 119 => ⟨S8x2048x2048, .f32⟩
  | 120 => ⟨S_, .f32⟩
  | 121 => ⟨S8x2048x2048, .f32⟩
  | 122 => ⟨S_, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x9728, .f32⟩

abbrev hbmTy0_1 (i : Nat) : BufTy := match i % 128 with
  | 0 => ⟨S_, .f32⟩
  | 1 => ⟨S_, .f32⟩
  | 2 => ⟨S8x2048x2048, .i1⟩
  | 3 => ⟨S8x2048x2048, .f32⟩
  | 4 => ⟨S8x2048x2048, .f32⟩
  | 5 => ⟨S_, .f32⟩
  | 6 => ⟨S8x2048x2048, .f32⟩
  | 7 => ⟨S8x64x2048, .f32⟩
  | 8 => ⟨S2048x8x64, .f32⟩
  | 9 => ⟨S2048x8x64, .f32⟩
  | 10 => ⟨S8x64x2048, .f32⟩
  | 11 => ⟨S8x2048x2048, .f32⟩
  | 12 => ⟨S8x64x2048, .f32⟩
  | 13 => ⟨S2048x8x64, .f32⟩
  | 14 => ⟨S_, .f32⟩
  | 15 => ⟨S8x2048x2048, .f32⟩
  | 16 => ⟨S8x2048x2048, .f32⟩
  | 17 => ⟨S8x2048x2048, .f32⟩
  | 18 => ⟨S8x2048x2048, .f32⟩
  | 19 => ⟨S_, .f32⟩
  | 20 => ⟨S_, .f32⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .f32⟩
  | 37 => ⟨S8x2048x64, .f32⟩
  | 38 => ⟨S2048x8x64, .f32⟩
  | 39 => ⟨S8x2048x64, .f32⟩
  | 40 => ⟨S2048x8x64, .f32⟩
  | 41 => ⟨S2048x512, .f32⟩
  | 42 => ⟨S2048x512, .f32⟩
  | 43 => ⟨S2048x512, .f32⟩
  | _ => ⟨S2048x9728, .f32⟩

abbrev hbmTy (i : Nat) : BufTy := match i / 128 with
  | 0 => hbmTy0_0 i
  | 1 => hbmTy0_1 i
  | _ => ⟨S2048x9728, .f32⟩

abbrev bufTy : (tb : Table) → Fin (tcTables nBuf tb) → BufTy
  | .hbm, ⟨i, _⟩ => hbmTy i
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v17_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v17_2 : Ref sig .tc := ⟨.hbm, 113, rfl⟩
abbrev main_v17_0 : Ref sig .tc := ⟨.hbm, 114, rfl⟩
abbrev main_cst_0 : Ref sig .tc := ⟨.hbm, 115, rfl⟩
abbrev main_call2_v0 : Ref sig .tc := ⟨.hbm, 116, rfl⟩
abbrev main_v18_1 : Ref sig .tc := ⟨.hbm, 117, rfl⟩
abbrev main_call2_v2 : Ref sig .tc := ⟨.hbm, 118, rfl⟩
abbrev main_v18_0 : Ref sig .tc := ⟨.hbm, 119, rfl⟩
abbrev main_call2_cst : Ref sig .tc := ⟨.hbm, 120, rfl⟩
abbrev main_v18_2 : Ref sig .tc := ⟨.hbm, 121, rfl⟩
abbrev main_call3_cst : Ref sig .tc := ⟨.hbm, 122, rfl⟩
abbrev main_call3_v0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_call5_cst : Ref sig .tc := ⟨.hbm, 142, rfl⟩
abbrev main_call5_v0 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call6_cst : Ref sig .tc := ⟨.hbm, 147, rfl⟩
abbrev main_call6_v0 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_call8_v0 : Ref sig .tc := ⟨.hbm, 154, rfl⟩
abbrev main_call8_v1 : Ref sig .tc := ⟨.hbm, 155, rfl⟩
abbrev main_v37 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_cst_2 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S1024x9728 : Shape := ⟨2, ![1024, 9728]⟩
abbrev S2048x9728 : Shape := ⟨2, ![2048, 9728]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S2048x512 : Shape := ⟨2, ![2048, 512]⟩
abbrev S8x128 : Shape := ⟨2, ![8, 128]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x9728, .f32⟩
  | .hbm, ⟨3, _⟩ => ⟨S2048x9728, .f32⟩
  | .hbm, ⟨4, _⟩ => ⟨S1024x9728, .bf16⟩
  | .hbm, ⟨5, _⟩ => ⟨S1x1024, .f32⟩
  | .hbm, ⟨6, _⟩ => ⟨S2048x1024, .f32⟩
  | .hbm, ⟨7, _⟩ => ⟨S2048x9728, .f32⟩
  | .hbm, ⟨8, _⟩ => ⟨S1024x9728, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S2048x1024, .f32⟩
  | .local _ .vmem, ⟨6, _⟩ => ⟨S1024x512, .bf16⟩
  | .local _ .vmem, ⟨7, _⟩ => ⟨S1024x512, .bf16⟩
  | .local _ .vmem, ⟨8, _⟩ => ⟨S2048x512, .f32⟩
  | .local _ .vmem, ⟨9, _⟩ => ⟨S2048x512, .f32⟩
  | .local _ .vmem, ⟨10, _⟩ => ⟨S8x128, .f32⟩
  | .local _ .vmem, ⟨11, _⟩ => ⟨S2048x1024, .f32⟩
  | .local _ .vmem, ⟨12, _⟩ => ⟨S2048x512, .f32⟩
  | .local _ .vmem, ⟨13, _⟩ => ⟨S2048x512, .f32⟩
  | .local _ .vmem, ⟨14, _⟩ => ⟨S1024x512, .f32⟩
  | .local _ .vmem, ⟨15, _⟩ => ⟨S1024x512, .f32⟩
  | .local _ .vmem, ⟨16, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 19, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 19, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference2Ideal.lean ====
abbrev S2048x1024 : Shape := ⟨2, ![2048, 1024]⟩
abbrev S1024 : Shape := ⟨1, ![1024]⟩
abbrev S1024x9728 : Shape := ⟨2, ![1024, 9728]⟩
abbrev S2048x9728 : Shape := ⟨2, ![2048, 9728]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S9728x1024 : Shape := ⟨2, ![9728, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x9728, .f32⟩
  | .hbm, ⟨3, _⟩ => ⟨S2048x9728, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x9728, .f32⟩
  | .hbm, ⟨21, _⟩ => ⟨S9728x1024, .f32⟩
  | .hbm, ⟨22, _⟩ => ⟨S1024x9728, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel3.lean ====
abbrev S2048x9728 : Shape := ⟨2, ![2048, 9728]⟩
abbrev S1024x9728 : Shape := ⟨2, ![1024, 9728]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x9728, .f32⟩
  | .hbm, ⟨1, _⟩ => ⟨S1024x9728, .f32⟩
  | .hbm, ⟨2, _⟩ => ⟨S1024x9728, .bf16⟩
  | .hbm, ⟨3, _⟩ => ⟨S2048x1024, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 19], ![false, false, false]⟩

def k0_cond3 (i : grid0.Coords) : BitVec 1 :=
  let arg2 : BitVec 32 := BitVec.ofNat 32 (i 2).val
  let c18_i32 : BitVec 32 := 18#32
  let v11 : BitVec 1 := Scalar.cmpi .eq arg2 c18_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference3Ideal.lean ====
abbrev S2048x9728 : Shape := ⟨2, ![2048, 9728]⟩
abbrev S1024x9728 : Shape := ⟨2, ![1024, 9728]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S1024x9728, .f32⟩
  | .hbm, ⟨2, _⟩ => ⟨S_, .f32⟩
  | .hbm, ⟨3, _⟩ => ⟨S2048x1024, .f32⟩
  | .hbm, ⟨4, _⟩ => ⟨S2048x9728, .f32⟩
  | .hbm, ⟨5, _⟩ => ⟨S2048x1024, .f32⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S512x512 : Shape := ⟨2, ![512, 512]⟩
abbrev S8x128 : Shape := ⟨2, ![8, 128]⟩
abbrev S1024x512 : Shape := ⟨2, ![1024, 512]⟩

abbrev nBuf : Space → Nat
  | .hbm => 29
  | .vmem => 70
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S512x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1024x1024, .f32⟩
  | .hbm, ⟨22, _⟩ => ⟨S2048x1024, .f32⟩
  | .hbm, ⟨23, _⟩ => ⟨S512x1024, .f32⟩
  | .hbm, ⟨24, _⟩ => ⟨S1024x1024, .f32⟩
  | .hbm, ⟨25, _⟩ => ⟨S512x1024, .f32⟩
  | .hbm, ⟨26, _⟩ => ⟨S2048x512, .f32⟩
  | .hbm, ⟨27, _⟩ => ⟨S2048x1024, .f32⟩
  | .hbm, ⟨28, _⟩ => ⟨S2048x512, .f32⟩
  | .local _ .vmem, ⟨0, _⟩ => ⟨S2048x512, .f32⟩
  | .local _ .vmem, ⟨1, _⟩ => ⟨S512x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | .local _ .vmem, ⟨6, _⟩ => ⟨S2048x1024, .f32⟩
  | .local _ .vmem, ⟨7, _⟩ => ⟨S1024x512, .bf16⟩
  | .local _ .vmem, ⟨8, _⟩ => ⟨S1024x512, .bf16⟩
  | .local _ .vmem, ⟨9, _⟩ => ⟨S2048x512, .f32⟩
  | .local _ .vmem, ⟨10, _⟩ => ⟨S2048x512, .f32⟩
  | .local _ .vmem, ⟨11, _⟩ => ⟨S8x128, .f32⟩
  | .local _ .vmem, ⟨12, _⟩ => ⟨S2048x512, .f32⟩
  | .local _ .vmem, ⟨13, _⟩ => ⟨S512x512, .bf16⟩
  | .local _ .vmem, ⟨14, _⟩ => ⟨S512x512, .bf16⟩
  | .local _ .vmem, ⟨15, _⟩ => ⟨S2048x512, .f32⟩
  | .local _ .vmem, ⟨16, _⟩ => ⟨S2048x512, .f32⟩
  | .local _ .vmem, ⟨17, _⟩ => ⟨S8x128, .f32⟩
  | .local _ .vmem, ⟨18, _⟩ => ⟨S2048x1024, .f32⟩
  | .local _ .vmem, ⟨19, _⟩ => ⟨S1024x512, .bf16⟩
  | .local _ .vmem, ⟨20, _⟩ => ⟨S1024x512, .bf16⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S8x128, .f32⟩
  | .local _ .vmem, ⟨26, _⟩ => ⟨S2048x1024, .f32⟩
  | .local _ .vmem, ⟨27, _⟩ => ⟨S2048x512, .f32⟩
  | .local _ .vmem, ⟨28, _⟩ => ⟨S2048x512, .f32⟩
  | .local _ .vmem, ⟨29, _⟩ => ⟨S1024x512, .f32⟩
  | .local _ .vmem, ⟨30, _⟩ => ⟨S1024x512, .f32⟩
  | .local _ .vmem, ⟨31, _⟩ => ⟨S8x128, .f32⟩
  | .local _ .vmem, ⟨32, _⟩ => ⟨S2048x1024, .f32⟩
  | .local _ .vmem, ⟨33, _⟩ => ⟨S512x1024, .bf16⟩
  | .local _ .vmem, ⟨34, _⟩ => ⟨S512x1024, .bf16⟩
  | .local _ .vmem, ⟨35, _⟩ => ⟨S2048x512, .f32⟩
  | .local _ .vmem, ⟨36, _⟩ => ⟨S2048x512, .f32⟩
  | .local _ .vmem, ⟨37, _⟩ => ⟨S8x128, .f32⟩
  | .local _ .vmem, ⟨38, _⟩ => ⟨S2048x512, .f32⟩
  | .local _ .vmem, ⟨39, _⟩ => ⟨S2048x512, .f32⟩
  | .local _ .vmem, ⟨40, _⟩ => ⟨S2048x512, .f32⟩
  | .local _ .vmem, ⟨41, _⟩ => ⟨S512x512, .f32⟩
  | .local _ .vmem, ⟨42, _⟩ => ⟨S512x512, .f32⟩
  | .local _ .vmem, ⟨43, _⟩ => ⟨S8x128, .f32⟩
  | .local _ .vmem, ⟨44, _⟩ => ⟨S2048x1024, .f32⟩
  | .local _ .vmem, ⟨45, _⟩ => ⟨S2048x512, .f32⟩
  | .local _ .vmem, ⟨46, _⟩ => ⟨S2048x512, .f32⟩
  | .local _ .vmem, ⟨47, _⟩ => ⟨S1024x512, .f32⟩
  | .local _ .vmem, ⟨48, _⟩ => ⟨S1024x512, .f32⟩
  | .local _ .vmem, ⟨49, _⟩ => ⟨S8x128, .f32⟩
  | .local _ .vmem, ⟨50, _⟩ => ⟨S2048x512, .f32⟩
  | .local _ .vmem, ⟨51, _⟩ => ⟨S2048x512, .f32⟩
  | .local _ .vmem, ⟨52, _⟩ => ⟨S2048x512, .f32⟩
  | .local _ .vmem, ⟨53, _⟩ => ⟨S512x512, .f32⟩
  | .local _ .vmem, ⟨54, _⟩ => ⟨S512x512, .f32⟩
  | .local _ .vmem, ⟨55, _⟩ => ⟨S8x128, .f32⟩
  | .local _ .vmem, ⟨56, _⟩ => ⟨S2048x1024, .f32⟩
  | .local _ .vmem, ⟨57, _⟩ => ⟨S512x1024, .bf16⟩
  | .local _ .vmem, ⟨58, _⟩ => ⟨S2048x512, .f32⟩
  | .local _ .vmem, ⟨59, _⟩ => ⟨S8x128, .f32⟩
  | .local _ .vmem, ⟨60, _⟩ => ⟨S2048x1024, .f32⟩
  | .local _ .vmem, ⟨61, _⟩ => ⟨S512x1024, .bf16⟩
  | .local _ .vmem, ⟨62, _⟩ => ⟨S512x1024, .bf16⟩
  | .local _ .vmem, ⟨63, _⟩ => ⟨S2048x512, .f32⟩
  | .local _ .vmem, ⟨64, _⟩ => ⟨S2048x512, .f32⟩
  | .local _ .vmem, ⟨65, _⟩ => ⟨S8x128, .f32⟩
  | .local _ .vmem, ⟨66, _⟩ => ⟨S2048x1024, .f32⟩
  | .local _ .vmem, ⟨67, _⟩ => ⟨S512x1024, .bf16⟩
  | .local _ .vmem, ⟨68, _⟩ => ⟨S2048x512, .f32⟩
  | .local _ .vmem, ⟨69, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_scratch0 : Ref sig .tc := ⟨.vmem, 43, rfl⟩
abbrev cc7_stg0_0 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc8_scratch0 : Ref sig .tc := ⟨.vmem, 55, rfl⟩
abbrev cc9_stg0_0 : Ref sig .tc := ⟨.vmem, 56, rfl⟩
abbrev cc9_stg1_0 : Ref sig .tc := ⟨.vmem, 57, rfl⟩
abbrev cc9_stg2_0 : Ref sig .tc := ⟨.vmem, 58, rfl⟩
abbrev cc9_scratch0 : Ref sig .tc := ⟨.vmem, 59, rfl⟩
abbrev cc10_stg0_0 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg2_1 : Ref sig .tc := ⟨.vmem, 64, rfl⟩
abbrev cc10_scratch0 : Ref sig .tc := ⟨.vmem, 65, rfl⟩
abbrev cc11_stg0_0 : Ref sig .tc := ⟨.vmem, 66, rfl⟩
abbrev cc11_stg1_0 : Ref sig .tc := ⟨.vmem, 67, rfl⟩
abbrev cc11_stg2_0 : Ref sig .tc := ⟨.vmem, 68, rfl⟩
abbrev cc11_scratch0 : Ref sig .tc := ⟨.vmem, 69, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem1_0 : DmaSem sig := 43
abbrev cc8_sem1_1 : DmaSem sig := 44
abbrev cc8_sem2_0 : DmaSem sig := 45
abbrev cc8_sem2_1 : DmaSem sig := 46
abbrev cc9_sem0_0 : DmaSem sig := 47
abbrev cc9_sem1_0 : DmaSem sig := 48
abbrev cc9_sem2_0 : DmaSem sig := 49
abbrev cc10_sem0_0 : DmaSem sig := 50
abbrev cc10_sem1_0 : DmaSem sig := 51
abbrev cc10_sem1_1 : DmaSem sig := 52
abbrev cc10_sem2_0 : DmaSem sig := 53
abbrev cc10_sem2_1 : DmaSem sig := 54
abbrev cc11_sem0_0 : DmaSem sig := 55
abbrev cc11_sem1_0 : DmaSem sig := 56
abbrev cc11_sem2_0 : DmaSem sig := 57

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S2048x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2048x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S2048x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S2048x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2048x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2048x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2048x1024 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S512x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S2048x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![1, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 1 → Memref sig .tc .vmem S2048x1024 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S512x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S2048x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![1, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 1 → Memref sig .tc .vmem S2048x1024 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false, true]

abbrev stage11_1 : Fin 1 → Memref sig .tc .vmem S512x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 1 → Memref sig .tc .vmem S2048x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, true, false]
-- ==== Reference4Ideal.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x1024, .f32⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x1024, .f32⟩
  | .hbm, ⟨19, _⟩ => ⟨S1024x1024, .f32⟩
  | .hbm, ⟨20, _⟩ => ⟨S2048x1024, .f32⟩
  | .hbm, ⟨21, _⟩ => ⟨S1024x512, .f32⟩
  | .hbm, ⟨22, _⟩ => ⟨S512x1024, .f32⟩
  | .hbm, ⟨23, _⟩ => ⟨S2048x512, .f32⟩
  | .hbm, ⟨24, _⟩ => ⟨S1024x1024, .f32⟩
  | .hbm, ⟨25, _⟩ => ⟨S1024x1024, .f32⟩
  | .hbm, ⟨26, _⟩ => ⟨S2048x1024, .f32⟩
  | .hbm, ⟨27, _⟩ => ⟨S1024x512, .f32⟩
  | .hbm, ⟨28, _⟩ => ⟨S512x1024, .f32⟩
  | .hbm, ⟨29, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel5.lean ====
abbrev S2048x9728 : Shape := ⟨2, ![2048, 9728]⟩
abbrev S2048x512 : Shape := ⟨2, ![2048, 512]⟩
abbrev S8x2048x128 : Shape := ⟨3, ![8, 2048, 128]⟩
abbrev S256x128 : Shape := ⟨2, ![256, 128]⟩
abbrev S2048x128 : Shape := ⟨2, ![2048, 128]⟩
abbrev S2x256x128 : Shape := ⟨3, ![2, 256, 128]⟩
abbrev S512x128 : Shape := ⟨2, ![512, 128]⟩
abbrev S512x256 : Shape := ⟨2, ![512, 256]⟩
abbrev S256x384 : Shape := ⟨2, ![256, 384]⟩
abbrev S512x384 : Shape := ⟨2, ![512, 384]⟩
abbrev S1x256x128 : Shape := ⟨3, ![1, 256, 128]⟩

abbrev nBuf : Space → Nat
  | .hbm => 3
  | .vmem => 10
  | .smem => 0
  | _ => 0

abbrev bufTy : (tb : Table) → Fin (tcTables nBuf tb) → BufTy
  | .hbm, ⟨0, _⟩ => ⟨S2048x9728, .f32⟩
  | .hbm, ⟨1, _⟩ => ⟨S2048x512, .f32⟩
  | .hbm, ⟨2, _⟩ => ⟨S8x2048x128, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x128, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32_5 : BitVec 32 := 256#32
  let v29 : BitVec 32 := Scalar.muli arg1 c256_i32_5
  v29
def k0_off1 (i : grid0.Coords) : Fin 2 → Nat :=
  let arg1 : BitVec 32 := BitVec.ofNat 32 (i 1).val
  let c256_i32_5 : BitVec 32 := 256#32
  let v29 : BitVec 32 := Scalar.muli arg1 c256_i32_5
  let v30 : BitVec 32 := v29
  let v31 : Index := Scalar.indexCast v30
  let c0_6 : Index := 0#32
  ![v31.toNat, 0]
@[reducible] def k0_t1_loop (i : grid0.Coords) : Scf.Loop 32 :=
  let c0_i32_18 : BitVec 32 := 0#32
  let arg1 : BitVec 32 := BitVec.ofNat 32 (i 1).val
  let v74 : BitVec 32 := Scalar.subi arg1 c0_i32_18
  let c1_i32 : BitVec 32 := 1#32
  let v76 : BitVec 32 := Scalar.divsi v74 c1_i32
  let v77 : BitVec 32 := Scalar.muli v76 c1_i32
  let v78 : BitVec 32 := Scalar.addi c0_i32_18 v77
  let c1_i32_19 : BitVec 32 := 1#32
  ⟨c0_i32_18, v78, c1_i32_19⟩
def k0_mult2 (i : grid0.Coords) (k0_t1 : Fin (k0_t1_loop i).trips) : BitVec 32 :=
  let arg1 : BitVec 32 := BitVec.ofNat 32 (i 1).val
  let c1_i32_29 : BitVec 32 := 1#32
  let v95 : BitVec 32 := Scalar.subi arg1 c1_i32_29
  let c0_i32_18 : BitVec 32 := 0#32
  let c1_i32_19 : BitVec 32 := 1#32
  let arg7 : BitVec 32 := Scf.iv c0_i32_18 c1_i32_19 k0_t1
  let v96 : BitVec 32 := Scalar.subi v95 arg7
  let c256_i32_30 : BitVec 32 := 256#32
  let v97 : BitVec 32 := Scalar.muli v96 c256_i32_30
  v97
def k0_off2 (i : grid0.Coords) (k0_t1 : Fin (k0_t1_loop i).trips) : Fin 2 → Nat :=
  let arg1 : BitVec 32 := BitVec.ofNat 32 (i 1).val
  let c1_i32_29 : BitVec 32 := 1#32
  let v95 : BitVec 32 := Scalar.subi arg1 c1_i32_29
  let c0_i32_18 : BitVec 32 := 0#32
  let c1_i32_19 : BitVec 32 := 1#32
  let arg7 : BitVec 32 := Scf.iv c0_i32_18 c1_i32_19 k0_t1
  let v96 : BitVec 32 := Scalar.subi v95 arg7
  let c256_i32_30 : BitVec 32 := 256#32
  let v97 : BitVec 32 := Scalar.muli v96 c256_i32_30
  let v98 : BitVec 32 := v97
  let v99 : Index := Scalar.indexCast v98
  let c0_31 : Index := 0#32
  ![v99.toNat, 0]
@[reducible] def k0_t2_loop (i : grid0.Coords) : Scf.Loop 32 :=
  let c0_i32_18 : BitVec 32 := 0#32
  let arg1 : BitVec 32 := BitVec.ofNat 32 (i 1).val
  let v74 : BitVec 32 := Scalar.subi arg1 c0_i32_18
  let c1_i32 : BitVec 32 := 1#32
  let v76 : BitVec 32 := Scalar.divsi v74 c1_i32
  let v77 : BitVec 32 := Scalar.muli v76 c1_i32
  let v78 : BitVec 32 := Scalar.addi c0_i32_18 v77
  let v75 : BitVec 32 := Scalar.addi c0_i32_18 v74
  let c1_i32_20 : BitVec 32 := 1#32
  ⟨v78, v75, c1_i32_20⟩
def k0_mult3 (i : grid0.Coords) (k0_t2 : Fin (k0_t2_loop i).trips) : BitVec 32 :=
  let arg1 : BitVec 32 := BitVec.ofNat 32 (i 1).val
  let c1_i32_29 : BitVec 32 := 1#32
  let v95 : BitVec 32 := Scalar.subi arg1 c1_i32_29
  let c0_i32_18 : BitVec 32 := 0#32
  let v74 : BitVec 32 := Scalar.subi arg1 c0_i32_18
  let c1_i32 : BitVec 32 := 1#32
  let v76 : BitVec 32 := Scalar.divsi v74 c1_i32
  let v77 : BitVec 32 := Scalar.muli v76 c1_i32
  let v78 : BitVec 32 := Scalar.addi c0_i32_18 v77
  let c1_i32_20 : BitVec 32 := 1#32
  let arg7 : BitVec 32 := Scf.iv v78 c1_i32_20 k0_t2
  let v96 : BitVec 32 := Scalar.subi v95 arg7
  let c256_i32_30 : BitVec 32 := 256#32
  let v97 : BitVec 32 := Scalar.muli v96 c256_i32_30
  v97
def k0_off3 (i : grid0.Coords) (k0_t2 : Fin (k0_t2_loop i).trips) : Fin 2 → Nat :=
  let arg1 : BitVec 32 := BitVec.ofNat 32 (i 1).val
  let c1_i32_29 : BitVec 32 := 1#32
  let v95 : BitVec 32 := Scalar.subi arg1 c1_i32_29
  let c0_i32_18 : BitVec 32 := 0#32
  let v74 : BitVec 32 := Scalar.subi arg1 c0_i32_18
  let c1_i32 : BitVec 32 := 1#32
  let v76 : BitVec 32 := Scalar.divsi v74 c1_i32
  let v77 : BitVec 32 := Scalar.muli v76 c1_i32
  let v78 : BitVec 32 := Scalar.addi c0_i32_18 v77
  let c1_i32_20 : BitVec 32 := 1#32
  let arg7 : BitVec 32 := Scf.iv v78 c1_i32_20 k0_t2
  let v96 : BitVec 32 := Scalar.subi v95 arg7
  let c256_i32_30 : BitVec 32 := 256#32
  let v97 : BitVec 32 := Scalar.muli v96 c256_i32_30
  let v98 : BitVec 32 := v97
  let v99 : Index := Scalar.indexCast v98
  let c0_31 : Index := 0#32
  ![v99.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2048x9728 : Shape := ⟨2, ![2048, 9728]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S2048x512, .f32⟩
  | .hbm, ⟨2, _⟩ => ⟨S2048x8x64, .f32⟩
  | .hbm, ⟨3, _⟩ => ⟨S2048x512, .f32⟩
  | .hbm, ⟨4, _⟩ => ⟨S2048x8x64, .f32⟩
  | .hbm, ⟨5, _⟩ => ⟨S2048x512, .f32⟩
  | .hbm, ⟨6, _⟩ => ⟨S2048x8x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .i1⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S_, .f32⟩
  | .hbm, ⟨52, _⟩ => ⟨S8x2048x2048, .i1⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S_, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S_, .f32⟩
  | .hbm, ⟨63, _⟩ => ⟨S8x2048x2048, .i1⟩
  | .hbm, ⟨64, _⟩ => ⟨S8x2048x2048, .f32⟩
  | .hbm, ⟨65, _⟩ => ⟨S8x2048x2048, .f32⟩
  | .hbm, ⟨66, _⟩ => ⟨S8x64x2048, .f32⟩
  | .hbm, ⟨67, _⟩ => ⟨S2048x8x64, .f32⟩
  | .hbm, ⟨68, _⟩ => ⟨S2048x512, .f32⟩
  | .hbm, ⟨69, _⟩ => ⟨S2048x512, .f32⟩
  | .hbm, ⟨70, _⟩ => ⟨S2048x8x64, .f32⟩
  | .hbm, ⟨71, _⟩ => ⟨S2048x512, .f32⟩
  | .hbm, ⟨72, _⟩ => ⟨S2048x8x64, .f32⟩
  | .hbm, ⟨73, _⟩ => ⟨S8x2048x2048, .f32⟩
  | .hbm, ⟨74, _⟩ => ⟨S_, .f32⟩
  | .hbm, ⟨75, _⟩ => ⟨S8x2048x2048, .f32⟩
  | .hbm, ⟨76, _⟩ => ⟨S8x2048x2048, .f32⟩
  | .hbm, ⟨77, _⟩ => ⟨S2048, .i32⟩
  | .hbm, ⟨78, _⟩ => ⟨S1x2048, .i32⟩
  | .hbm, ⟨79, _⟩ => ⟨S2048x1, .i32⟩
  | .hbm, ⟨80, _⟩ => ⟨S2048x2048, .i32⟩
  | .hbm, ⟨81, _⟩ => ⟨S2048x2048, .i32⟩
  | .hbm, ⟨82, _⟩ => ⟨S2048x2048, .i1⟩
  | .hbm, ⟨83, _⟩ => ⟨S8x2048x2048, .f32⟩
  | .hbm, ⟨84, _⟩ => ⟨S_, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S8x2048x2048, .i1⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S_, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S8x2048x2048, .f32⟩
  | .hbm, ⟨106, _⟩ => ⟨S8x2048x2048, .i1⟩
  | .hbm, ⟨107, _⟩ => ⟨S8x2048x2048, .f32⟩
  | .hbm, ⟨108, _⟩ => ⟨S8x2048x2048, .f32⟩
  | .hbm, ⟨109, _⟩ => ⟨S8x2048x2048, .f32⟩
  | .hbm, ⟨110, _⟩ => ⟨S8x2048x2048, .f32⟩
  | .hbm, ⟨111, _⟩ => ⟨S8x2048x2048, .f32⟩
  | .hbm, ⟨112, _⟩ => ⟨S8x2048x2048, .f32⟩
  | .hbm, ⟨113, _⟩ => ⟨S8x2048x2048, .f32⟩
  | .hbm, ⟨114, _⟩ => ⟨S8x2048x2048, .f32⟩
  | .hbm, ⟨115, _⟩ => ⟨S8x2048x2048, .f32⟩
  | .hbm, ⟨116, _⟩ => ⟨S_, .f32⟩
  | .hbm, ⟨117, _⟩ => ⟨S_, .f32⟩
  | .hbm, ⟨118, _⟩ => ⟨S8x2048x2048, .i1⟩
  | .hbm, ⟨119, _⟩ => ⟨S8x2048x2048, .f32⟩
  | .hbm, ⟨120, _⟩ => ⟨S8x2048x2048, .f32⟩
  | .hbm, ⟨121, _⟩ => ⟨S_, .f32⟩
  | .hbm, ⟨122, _⟩ => ⟨S8x2048, .f32⟩
  | .hbm, ⟨123, _⟩ => ⟨S8x2048x1, .f32⟩
  | .hbm, ⟨124, _⟩ => ⟨S8x2048x128, .f32⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v17 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v18 : Ref sig .tc := ⟨.hbm, 54, rfl⟩
abbrev main_call3_cst : Ref sig .tc := ⟨.hbm, 55, rfl⟩
abbrev main_call3_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_call5_v0 : Ref sig .tc := ⟨.hbm, 83, rfl⟩
abbrev main_call5_call0_cst : Ref sig .tc := ⟨.hbm, 84, rfl⟩
abbrev main_call5_call0_v0 : Ref sig .tc := ⟨.hbm, 85, rfl⟩
abbrev main_call5_call0_v1 : Ref sig .tc := ⟨.hbm, 86, rfl⟩
abbrev main_call5_call0_v2 : Ref sig .tc := ⟨.hbm, 87, rfl⟩
abbrev main_call5_call0_v3 : Ref sig .tc := ⟨.hbm, 88, rfl⟩
abbrev main_call5_call0_v4 : Ref sig .tc := ⟨.hbm, 89, rfl⟩
abbrev main_call5_call0_v5 : Ref sig .tc := ⟨.hbm, 90, rfl⟩
abbrev main_call5_call0_v6 : Ref sig .tc := ⟨.hbm, 91, rfl⟩
abbrev main_call5_call0_v7 : Ref sig .tc := ⟨.hbm, 92, rfl⟩
abbrev main_call5_call0_v8 : Ref sig .tc := ⟨.hbm, 93, rfl⟩
abbrev main_call5_call0_v9 : Ref sig .tc := ⟨.hbm, 94, rfl⟩
abbrev main_call5_call0_v10 : Ref sig .tc := ⟨.hbm, 95, rfl⟩
abbrev main_call5_call0_v11 : Ref sig .tc := ⟨.hbm, 96, rfl⟩
abbrev main_call5_v1 : Ref sig .tc := ⟨.hbm, 97, rfl⟩
abbrev main_v40 : Ref sig .tc := ⟨.hbm, 98, rfl⟩
abbrev main_v41 : Ref sig .tc := ⟨.hbm, 99, rfl⟩
abbrev main_call6_v0 : Ref sig .tc := ⟨.hbm, 100, rfl⟩
abbrev main_call6_call0_cst : Ref sig .tc := ⟨.hbm, 101, rfl⟩
abbrev main_call6_call0_v0 : Ref sig .tc := ⟨.hbm, 102, rfl⟩
abbrev main_call6_call0_v1 : Ref sig .tc := ⟨.hbm, 103, rfl⟩
abbrev main_call6_call0_v2 : Ref sig .tc := ⟨.hbm, 104, rfl⟩
abbrev main_call6_call0_v3 : Ref sig .tc := ⟨.hbm, 105, rfl⟩
abbrev main_call6_call0_v4 : Ref sig .tc := ⟨.hbm, 106, rfl⟩
abbrev main_call6_call0_v5 : Ref sig .tc := ⟨.hbm, 107, rfl⟩
abbrev main_call6_call0_v6 : Ref sig .tc := ⟨.hbm, 108, rfl⟩
abbrev main_call6_call0_v7 : Ref sig .tc := ⟨.hbm, 109, rfl⟩
abbrev main_call6_call0_v8 : Ref sig .tc := ⟨.hbm, 110, rfl⟩
abbrev main_call6_call0_v9 : Ref sig .tc := ⟨.hbm, 111, rfl⟩
abbrev main_call6_call0_v10 : Ref sig .tc := ⟨.hbm, 112, rfl⟩
abbrev main_call6_call0_v11 : Ref sig .tc := ⟨.hbm, 113, rfl⟩
abbrev main_call6_v1 : Ref sig .tc := ⟨.hbm, 114, rfl⟩
abbrev main_v42 : Ref sig .tc := ⟨.hbm, 115, rfl⟩
abbrev main_cst_3 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_v43 : Ref sig .tc := ⟨.hbm, 120, rfl⟩
abbrev main_cst_4 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩

abbrev nD : Nat := 1
abbrev τ : Topo := Topo.v7x

variable {F : FTy → Type} [FloatOps F]
-- ==== Kernel6.lean ====
abbrev S2x1024x2404 : Shape := ⟨3, ![2, 1024, 2404]⟩
abbrev S2x512x256 : Shape := ⟨3, ![2, 512, 256]⟩
abbrev S2x256x1024 : Shape := ⟨3, ![2, 256, 1024]⟩
abbrev S1x512x256 : Shape := ⟨3, ![1, 512, 256]⟩
abbrev S1x256x1024 : Shape := ⟨3, ![1, 256, 1024]⟩
abbrev S2404x2x1024 : Shape := ⟨3, ![2404, 2, 1024]⟩
abbrev S4x601x2x1024 : Shape := ⟨4, ![4, 601, 2, 1024]⟩
abbrev S1x601x2x512 : Shape := ⟨4, ![1, 601, 2, 512]⟩

abbrev nBuf : Space → Nat
  | .hbm => 43
  | .vmem => 56
  | .smem => 0
  | _ => 0

abbrev bufTy : (tb : Table) → Fin (tcTables nBuf tb) → BufTy
  | .hbm, ⟨0, _⟩ => ⟨S2x1024x2404, .f32⟩
  | .hbm, ⟨1, _⟩ => ⟨S2x1024x2404, .f32⟩
  | .hbm, ⟨2, _⟩ => ⟨S2x1024x2404, .f32⟩
  | .hbm, ⟨3, _⟩ => ⟨S2x1024x2404, .f32⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S2x512x256, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S2x512x256, .f32⟩
  | .hbm, ⟨23, _⟩ => ⟨S2x512x256, .f32⟩
  | .hbm, ⟨24, _⟩ => ⟨S2x512x256, .f32⟩
  | .hbm, ⟨25, _⟩ => ⟨S2404x2x1024, .f32⟩
  | .hbm, ⟨26, _⟩ => ⟨S4x601x2x1024, .f32⟩
  | .hbm, ⟨27, _⟩ => ⟨S4x601x2x1024, .f32⟩
  | .hbm, ⟨28, _⟩ => ⟨S2404x2x1024, .f32⟩
  | .hbm, ⟨29, _⟩ => ⟨S4x601x2x1024, .f32⟩
  | .hbm, ⟨30, _⟩ => ⟨S2404x2x1024, .f32⟩
  | .hbm, ⟨31, _⟩ => ⟨S4x601x2x1024, .f32⟩
  | .hbm, ⟨32, _⟩ => ⟨S2404x2x1024, .f32⟩
  | .hbm, ⟨33, _⟩ => ⟨S4x601x2x1024, .f32⟩
  | .hbm, ⟨34, _⟩ => ⟨S4x601x2x1024, .f32⟩
  | .hbm, ⟨35, _⟩ => ⟨S4x601x2x1024, .f32⟩
  | .hbm, ⟨36, _⟩ => ⟨S4x601x2x1024, .f32⟩
  | .hbm, ⟨37, _⟩ => ⟨S2404x2x1024, .f32⟩
  | .hbm, ⟨38, _⟩ => ⟨S2x1024x2404, .f32⟩
  | .hbm, ⟨39, _⟩ => ⟨S2404x2x1024, .f32⟩
  | .hbm, ⟨40, _⟩ => ⟨S2x1024x2404, .f32⟩
  | .hbm, ⟨41, _⟩ => ⟨S2404x2x1024, .f32⟩
  | .hbm, ⟨42, _⟩ => ⟨S2x1024x2404, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x512x256, .f32⟩
  | .local _ .vmem, ⟨29, _⟩ => ⟨S1x512x256, .f32⟩
  | .local _ .vmem, ⟨30, _⟩ => ⟨S1x512x256, .f32⟩
  | .local _ .vmem, ⟨31, _⟩ => ⟨S1x512x256, .f32⟩
  | .local _ .vmem, ⟨32, _⟩ => ⟨S1x512x256, .f32⟩
  | .local _ .vmem, ⟨33, _⟩ => ⟨S1x512x256, .f32⟩
  | .local _ .vmem, ⟨34, _⟩ => ⟨S1x512x256, .f32⟩
  | .local _ .vmem, ⟨35, _⟩ => ⟨S1x512x256, .f32⟩
  | .local _ .vmem, ⟨36, _⟩ => ⟨S1x512x256, .f32⟩
  | .local _ .vmem, ⟨37, _⟩ => ⟨S1x512x256, .f32⟩
  | .local _ .vmem, ⟨38, _⟩ => ⟨S1x512x256, .f32⟩
  | .local _ .vmem, ⟨39, _⟩ => ⟨S1x512x256, .f32⟩
  | .local _ .vmem, ⟨40, _⟩ => ⟨S1x512x256, .f32⟩
  | .local _ .vmem, ⟨41, _⟩ => ⟨S1x512x256, .f32⟩
  | .local _ .vmem, ⟨42, _⟩ => ⟨S1x601x2x512, .f32⟩
  | .local _ .vmem, ⟨43, _⟩ => ⟨S1x601x2x512, .f32⟩
  | .local _ .vmem, ⟨44, _⟩ => ⟨S1x601x2x512, .f32⟩
  | .local _ .vmem, ⟨45, _⟩ => ⟨S1x601x2x512, .f32⟩
  | .local _ .vmem, ⟨46, _⟩ => ⟨S1x601x2x512, .f32⟩
  | .local _ .vmem, ⟨47, _⟩ => ⟨S1x601x2x512, .f32⟩
  | .local _ .vmem, ⟨48, _⟩ => ⟨S1x601x2x512, .f32⟩
  | .local _ .vmem, ⟨49, _⟩ => ⟨S1x601x2x512, .f32⟩
  | .local _ .vmem, ⟨50, _⟩ => ⟨S1x601x2x512, .f32⟩
  | .local _ .vmem, ⟨51, _⟩ => ⟨S1x601x2x512, .f32⟩
  | .local _ .vmem, ⟨52, _⟩ => ⟨S1x601x2x512, .f32⟩
  | .local _ .vmem, ⟨53, _⟩ => ⟨S1x601x2x512, .f32⟩
  | .local _ .vmem, ⟨54, _⟩ => ⟨S1x601x2x512, .f32⟩
  | .local _ .vmem, ⟨55, _⟩ => ⟨S1x601x2x512, .f32⟩
  | _, _ => ⟨S2x1024x2404, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v2_0 : Ref sig .tc := ⟨.hbm, 22, rfl⟩
abbrev main_v2_1 : Ref sig .tc := ⟨.hbm, 23, rfl⟩
abbrev main_v2_2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12_0 : Ref sig .tc := ⟨.hbm, 34, rfl⟩
abbrev main_v12_1 : Ref sig .tc := ⟨.hbm, 35, rfl⟩
abbrev main_v12_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![2, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev grid2 : Pipeline.Grid := ⟨3, ![2, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev grid3 : Pipeline.Grid := ⟨4, ![4, 1, 1, 2], ![false, false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

def cc3_transform_6 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat, arg3.toNat]

abbrev stage3_0 : Fin 2 → Memref sig .tc .vmem S1x601x2x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true, true]

abbrev stage3_1 : Fin 2 → Memref sig .tc .vmem S1x601x2x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true, true]

abbrev stage3_2 : Fin 2 → Memref sig .tc .vmem S1x601x2x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true, true]

abbrev stage3_3 : Fin 2 → Memref sig .tc .vmem S1x601x2x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true, true]

abbrev stage3_4 : Fin 2 → Memref sig .tc .vmem S1x601x2x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true, true]

abbrev stage3_5 : Fin 2 → Memref sig .tc .vmem S1x601x2x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true, true]

abbrev stage3_6 : Fin 2 → Memref sig .tc .vmem S1x601x2x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true, true]
-- ==== Reference6Ideal.lean ====
abbrev S2x1024x2404 : Shape := ⟨3, ![2, 1024, 2404]⟩
abbrev S2x512x256 : Shape := ⟨3, ![2, 512, 256]⟩
abbrev S2x256x1024 : Shape := ⟨3, ![2, 256, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x1024x2404, .f32⟩
  | 1 => ⟨S2x1024x2404, .f32⟩
  | 2 => ⟨S2x1024x2404, .f32⟩
  | 3 => ⟨S2x1024x2404, .f32⟩
  | 4 => ⟨S2x512x256, .f32⟩
  | 5 => ⟨S2x512x256, .f32⟩
  | 6 => ⟨S2x512x256, .f32⟩
  | 7 => ⟨S2x512x256, .f32⟩
  | 8 => ⟨S2x256x1024, .f32⟩
  | 9 => ⟨S2x256x1024, .f32⟩
  | 10 => ⟨S2x256x1024, .f32⟩
  | 11 => ⟨S2x256x1024, .f32⟩
  | 12 => ⟨S2x512x256, .f32⟩
  | 13 => ⟨S2x512x256, .f32⟩
  | 14 => ⟨S2x512x256, .f32⟩
  | 15 => ⟨S2x512x256, .f32⟩
  | 16 => ⟨S_, .f32⟩
  | 17 => ⟨S2x1024x2404, .f32⟩
  | 18 => ⟨S2x1024x2404, .f32⟩
  | 19 => ⟨S_, .f32⟩
  | 20 => ⟨S2x1024x2404, .f32⟩
  | 21 => ⟨S2x1024x2404, .f32⟩
  | 22 => ⟨S2x1024x2404, .f32⟩
  | 23 => ⟨S_, .f32⟩
  | 24 => ⟨S2x1024x2404, .f32⟩
  | 25 => ⟨S2x1024x2404, .f32⟩
  | 26 => ⟨S2x1024x2404, .f32⟩
  | 27 => ⟨S_, .f32⟩
  | 28 => ⟨S2x1024x2404, .f32⟩
  | 29 => ⟨S2x1024x2404, .f32⟩
  | 30 => ⟨S2x1024x2404, .f32⟩
  | 31 => ⟨S_, .f32⟩
  | 32 => ⟨S2x1024x2404, .f32⟩
  | 33 => ⟨S2x1024x2404, .f32⟩
  | 34 => ⟨S_, .f32⟩
  | 35 => ⟨S2x1024x2404, .f32⟩
  | 36 => ⟨S2x1024x2404, .f32⟩
  | 37 => ⟨S2x1024x2404, .f32⟩
  | 38 => ⟨S_, .f32⟩
  | 39 => ⟨S2x1024x2404, .f32⟩
  | 40 => ⟨S2x1024x2404, .f32⟩
  | 41 => ⟨S2x1024x2404, .f32⟩
  | 42 => ⟨S_, .f32⟩
  | 43 => ⟨S2x1024x2404, .f32⟩
  | 44 => ⟨S2x1024x2404, .f32⟩
  | 45 => ⟨S2x1024x2404, .f32⟩
  | 46 => ⟨S_, .f32⟩
  | 47 => ⟨S2x1024x2404, .f32⟩
  | 48 => ⟨S2x1024x2404, .f32⟩
  | 49 => ⟨S_, .f32⟩
  | 50 => ⟨S2x512x256, .f32⟩
  | 51 => ⟨S2x512x256, .f32⟩
  | 52 => ⟨S_, .f32⟩
  | 53 => ⟨S2x512x256, .f32⟩
  | 54 => ⟨S2x512x256, .f32⟩
  | 55 => ⟨S2x512x256, .f32⟩
  | 56 => ⟨S_, .f32⟩
  | 57 => ⟨S2x512x256, .f32⟩
  | 58 => ⟨S2x512x256, .f32⟩
  | 59 => ⟨S2x512x256, .f32⟩
  | 60 => ⟨S_, .f32⟩
  | 61 => ⟨S2x512x256, .f32⟩
  | 62 => ⟨S2x512x256, .f32⟩
  | 63 => ⟨S2x512x256, .f32⟩
  | 64 => ⟨S_, .f32⟩
  | 65 => ⟨S2x512x256, .f32⟩
  | 66 => ⟨S2x512x256, .f32⟩
  | 67 => ⟨S_, .f32⟩
  | 68 => ⟨S2x512x256, .f32⟩
  | 69 => ⟨S2x512x256, .f32⟩
  | 70 => ⟨S2x512x256, .f32⟩
  | 71 => ⟨S_, .f32⟩
  | 72 => ⟨S2x512x256, .f32⟩
  | 73 => ⟨S2x512x256, .f32⟩
  | 74 => ⟨S2x512x256, .f32⟩
  | 75 => ⟨S_, .f32⟩
  | 76 => ⟨S2x512x256, .f32⟩
  | 77 => ⟨S2x512x256, .f32⟩
  | 78 => ⟨S2x512x256, .f32⟩
  | 79 => ⟨S_, .f32⟩
  | 80 => ⟨S2x512x256, .f32⟩
  | 81 => ⟨S2x512x256, .f32⟩
  | 82 => ⟨S_, .f32⟩
  | 83 => ⟨S2x256x1024, .f32⟩
  | 84 => ⟨S2x256x1024, .f32⟩
  | 85 => ⟨S_, .f32⟩
  | 86 => ⟨S2x256x1024, .f32⟩
  | 87 => ⟨S2x256x1024, .f32⟩
  | 88 => ⟨S2x256x1024, .f32⟩
  | 89 => ⟨S_, .f32⟩
  | 90 => ⟨S2x256x1024, .f32⟩
  | 91 => ⟨S2x256x1024, .f32⟩
  | 92 => ⟨S2x256x1024, .f32⟩
  | 93 => ⟨S_, .f32⟩
  | 94 => ⟨S2x256x1024, .f32⟩
  | 95 => ⟨S2x256x1024, .f32⟩
  | 96 => ⟨S2x256x1024, .f32⟩
  | 97 => ⟨S_, .f32⟩
  | 98 => ⟨S2x256x1024, .f32⟩
  | 99 => ⟨S2x256x1024, .f32⟩
  | 100 => ⟨S_, .f32⟩
  | 101 => ⟨S2x256x1024, .f32⟩
  | 102 => ⟨S2x256x1024, .f32⟩
  | 103 => ⟨S2x256x1024, .f32⟩
  | 104 => ⟨S_, .f32⟩
  | 105 => ⟨S2x256x1024, .f32⟩
  | 106 => ⟨S2x256x1024, .f32⟩
  | 107 => ⟨S2x256x1024, .f32⟩
  | 108 => ⟨S_, .f32⟩
  | 109 => ⟨S2x256x1024, .f32⟩
  | 110 => ⟨S2x256x1024, .f32⟩
  | 111 => ⟨S2x256x1024, .f32⟩
  | 112 => ⟨S_, .f32⟩
  | 113 => ⟨S2x256x1024, .f32⟩
  | 114 => ⟨S2x256x1024, .f32⟩
  | 115 => ⟨S_, .f32⟩
  | 116 => ⟨S2x512x256, .f32⟩
  | 117 => ⟨S2x512x256, .f32⟩
  | 118 => ⟨S_, .f32⟩
  | 119 => ⟨S2x512x256, .f32⟩
  | 120 => ⟨S2x512x256, .f32⟩
  | 121 => ⟨S2x512x256, .f32⟩
  | 122 => ⟨S_, .f32⟩
  | 123 => ⟨S2x512x256, .f32⟩
  | 124 => ⟨S2x512x256, .f32⟩
  | 125 => ⟨S2x512x256, .f32⟩
  | 126 => ⟨S_, .f32⟩
  | 127 => ⟨S2x512x256, .f32⟩
  | _ => ⟨S2x1024x2404, .f32⟩

abbrev hbmTy0_1 (i : Nat) : BufTy := match i % 128 with
  | 0 => ⟨S2x512x256, .f32⟩
  | 1 => ⟨S2x512x256, .f32⟩
  | 2 => ⟨S_, .f32⟩
  | 3 => ⟨S2x512x256, .f32⟩
  | 4 => ⟨S2x512x256, .f32⟩
  | 5 => ⟨S_, .f32⟩
  | 6 => ⟨S2x512x256, .f32⟩
  | 7 => ⟨S2x512x256, .f32⟩
  | 8 => ⟨S2x512x256, .f32⟩
  | 9 => ⟨S_, .f32⟩
  | 10 => ⟨S2x512x256, .f32⟩
  | 11 => ⟨S2x512x256, .f32⟩
  | 12 => ⟨S2x512x256, .f32⟩
  | 13 => ⟨S_, .f32⟩
  | 14 => ⟨S2x512x256, .f32⟩
  | 15 => ⟨S2x512x256, .f32⟩
  | 16 => ⟨S2x512x256, .f32⟩
  | 17 => ⟨S_, .f32⟩
  | 18 => ⟨S2x512x256, .f32⟩
  | 19 => ⟨S2x512x256, .f32⟩
  | _ => ⟨S2x1024x2404, .f32⟩

abbrev hbmTy (i : Nat) : BufTy := match i / 128 with
  | 0 => hbmTy0_0 i
  | 1 => hbmTy0_1 i
  | _ => ⟨S2x1024x2404, .f32⟩

abbrev bufTy : (tb : Table) → Fin (tcTables nBuf tb) → BufTy
  | .hbm, ⟨i, _⟩ => hbmTy i
  | _, _ => ⟨S2x1024x2404, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel7.lean ====
abbrev S2x256x1024 : Shape := ⟨3, ![2, 256, 1024]⟩
abbrev S2x1024 : Shape := ⟨2, ![2, 1024]⟩
abbrev S2x4x320 : Shape := ⟨3, ![2, 4, 320]⟩
abbrev S2x1280 : Shape := ⟨2, ![2, 1280]⟩
abbrev S1x256x1024 : Shape := ⟨3, ![1, 256, 1024]⟩
abbrev S1x2x1024 : Shape := ⟨3, ![1, 2, 1024]⟩
abbrev S1x4x320 : Shape := ⟨3, ![1, 4, 320]⟩
abbrev S1x2x1280 : Shape := ⟨3, ![1, 2, 1280]⟩

abbrev nBuf : Space → Nat
  | .hbm => 42
  | .vmem => 42
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x4x320, .f32⟩
  | .hbm, ⟨9, _⟩ => ⟨S2x4x320, .f32⟩
  | .hbm, ⟨10, _⟩ => ⟨S2x4x320, .f32⟩
  | .hbm, ⟨11, _⟩ => ⟨S2x4x320, .f32⟩
  | .hbm, ⟨12, _⟩ => ⟨S2x1280, .f32⟩
  | .hbm, ⟨13, _⟩ => ⟨S2x1280, .f32⟩
  | .hbm, ⟨14, _⟩ => ⟨S2x1280, .f32⟩
  | .hbm, ⟨15, _⟩ => ⟨S2x1280, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S1x2x1024, .f32⟩
  | .hbm, ⟨20, _⟩ => ⟨S1x2x1024, .f32⟩
  | .hbm, ⟨21, _⟩ => ⟨S1x2x1024, .f32⟩
  | .hbm, ⟨22, _⟩ => ⟨S1x2x1024, .f32⟩
  | .hbm, ⟨23, _⟩ => ⟨S1x2x1024, .f32⟩
  | .hbm, ⟨24, _⟩ => ⟨S1x2x1024, .f32⟩
  | .hbm, ⟨25, _⟩ => ⟨S1x2x1024, .f32⟩
  | .hbm, ⟨26, _⟩ => ⟨S2x1024, .f32⟩
  | .hbm, ⟨27, _⟩ => ⟨S2x1024, .f32⟩
  | .hbm, ⟨28, _⟩ => ⟨S2x1024, .f32⟩
  | .hbm, ⟨29, _⟩ => ⟨S2x4x320, .f32⟩
  | .hbm, ⟨30, _⟩ => ⟨S2x4x320, .f32⟩
  | .hbm, ⟨31, _⟩ => ⟨S2x4x320, .f32⟩
  | .hbm, ⟨32, _⟩ => ⟨S1x2x1280, .f32⟩
  | .hbm, ⟨33, _⟩ => ⟨S1x2x1280, .f32⟩
  | .hbm, ⟨34, _⟩ => ⟨S1x2x1280, .f32⟩
  | .hbm, ⟨35, _⟩ => ⟨S1x2x1280, .f32⟩
  | .hbm, ⟨36, _⟩ => ⟨S1x2x1280, .f32⟩
  | .hbm, ⟨37, _⟩ => ⟨S1x2x1280, .f32⟩
  | .hbm, ⟨38, _⟩ => ⟨S1x2x1280, .f32⟩
  | .hbm, ⟨39, _⟩ => ⟨S2x1280, .f32⟩
  | .hbm, ⟨40, _⟩ => ⟨S2x1280, .f32⟩
  | .hbm, ⟨41, _⟩ => ⟨S2x1280, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x2x1024, .f32⟩
  | .local _ .vmem, ⟨15, _⟩ => ⟨S1x2x1024, .f32⟩
  | .local _ .vmem, ⟨16, _⟩ => ⟨S1x2x1024, .f32⟩
  | .local _ .vmem, ⟨17, _⟩ => ⟨S1x2x1024, .f32⟩
  | .local _ .vmem, ⟨18, _⟩ => ⟨S1x2x1024, .f32⟩
  | .local _ .vmem, ⟨19, _⟩ => ⟨S1x2x1024, .f32⟩
  | .local _ .vmem, ⟨20, _⟩ => ⟨S1x2x1024, .f32⟩
  | .local _ .vmem, ⟨21, _⟩ => ⟨S1x4x320, .f32⟩
  | .local _ .vmem, ⟨22, _⟩ => ⟨S1x4x320, .f32⟩
  | .local _ .vmem, ⟨23, _⟩ => ⟨S1x4x320, .f32⟩
  | .local _ .vmem, ⟨24, _⟩ => ⟨S1x4x320, .f32⟩
  | .local _ .vmem, ⟨25, _⟩ => ⟨S1x4x320, .f32⟩
  | .local _ .vmem, ⟨26, _⟩ => ⟨S1x4x320, .f32⟩
  | .local _ .vmem, ⟨27, _⟩ => ⟨S1x4x320, .f32⟩
  | .local _ .vmem, ⟨28, _⟩ => ⟨S1x4x320, .f32⟩
  | .local _ .vmem, ⟨29, _⟩ => ⟨S1x4x320, .f32⟩
  | .local _ .vmem, ⟨30, _⟩ => ⟨S1x4x320, .f32⟩
  | .local _ .vmem, ⟨31, _⟩ => ⟨S1x4x320, .f32⟩
  | .local _ .vmem, ⟨32, _⟩ => ⟨S1x4x320, .f32⟩
  | .local _ .vmem, ⟨33, _⟩ => ⟨S1x4x320, .f32⟩
  | .local _ .vmem, ⟨34, _⟩ => ⟨S1x4x320, .f32⟩
  | .local _ .vmem, ⟨35, _⟩ => ⟨S1x2x1280, .f32⟩
  | .local _ .vmem, ⟨36, _⟩ => ⟨S1x2x1280, .f32⟩
  | .local _ .vmem, ⟨37, _⟩ => ⟨S1x2x1280, .f32⟩
  | .local _ .vmem, ⟨38, _⟩ => ⟨S1x2x1280, .f32⟩
  | .local _ .vmem, ⟨39, _⟩ => ⟨S1x2x1280, .f32⟩
  | .local _ .vmem, ⟨40, _⟩ => ⟨S1x2x1280, .f32⟩
  | .local _ .vmem, ⟨41, _⟩ => ⟨S1x2x1280, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![1, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .vmem S1x2x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, true]

abbrev stage1_1 : Fin 1 → Memref sig .tc .vmem S1x2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, true]

abbrev stage1_2 : Fin 1 → Memref sig .tc .vmem S1x2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true]

abbrev stage1_3 : Fin 1 → Memref sig .tc .vmem S1x2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, true]

abbrev stage1_4 : Fin 1 → Memref sig .tc .vmem S1x2x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true, true]

abbrev stage1_5 : Fin 1 → Memref sig .tc .vmem S1x2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true, true]

abbrev stage1_6 : Fin 1 → Memref sig .tc .vmem S1x2x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true, true]

abbrev grid2 : Pipeline.Grid := ⟨3, ![2, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x4x320 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4x320 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x4x320 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x4x320 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x4x320 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x4x320 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x4x320 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev grid3 : Pipeline.Grid := ⟨3, ![1, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 1 → Memref sig .tc .vmem S1x2x1280 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true, true]

abbrev stage3_1 : Fin 1 → Memref sig .tc .vmem S1x2x1280 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true, true]

abbrev stage3_2 : Fin 1 → Memref sig .tc .vmem S1x2x1280 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, true]

abbrev stage3_3 : Fin 1 → Memref sig .tc .vmem S1x2x1280 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, true]

abbrev stage3_4 : Fin 1 → Memref sig .tc .vmem S1x2x1280 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true, true]

abbrev stage3_5 : Fin 1 → Memref sig .tc .vmem S1x2x1280 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true, true]

abbrev stage3_6 : Fin 1 → Memref sig .tc .vmem S1x2x1280 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true, true]
-- ==== Reference7Ideal.lean ====
abbrev S2x256x1024 : Shape := ⟨3, ![2, 256, 1024]⟩
abbrev S2x1024 : Shape := ⟨2, ![2, 1024]⟩
abbrev S2x4x320 : Shape := ⟨3, ![2, 4, 320]⟩
abbrev S2x1280 : Shape := ⟨2, ![2, 1280]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x256x1024, .f32⟩
  | 1 => ⟨S2x256x1024, .f32⟩
  | 2 => ⟨S2x256x1024, .f32⟩
  | 3 => ⟨S2x256x1024, .f32⟩
  | 4 => ⟨S2x1024, .f32⟩
  | 5 => ⟨S2x1024, .f32⟩
  | 6 => ⟨S2x1024, .f32⟩
  | 7 => ⟨S2x1024, .f32⟩
  | 8 => ⟨S2x4x320, .f32⟩
  | 9 => ⟨S2x4x320, .f32⟩
  | 10 => ⟨S2x4x320, .f32⟩
  | 11 => ⟨S2x4x320, .f32⟩
  | 12 => ⟨S2x1280, .f32⟩
  | 13 => ⟨S2x1280, .f32⟩
  | 14 => ⟨S2x1280, .f32⟩
  | 15 => ⟨S2x1280, .f32⟩
  | 16 => ⟨S_, .f32⟩
  | 17 => ⟨S2x256x1024, .f32⟩
  | 18 => ⟨S2x256x1024, .f32⟩
  | 19 => ⟨S_, .f32⟩
  | 20 => ⟨S2x256x1024, .f32⟩
  | 21 => ⟨S2x256x1024, .f32⟩
  | 22 => ⟨S2x256x1024, .f32⟩
  | 23 => ⟨S_, .f32⟩
  | 24 => ⟨S2x256x1024, .f32⟩
  | 25 => ⟨S2x256x1024, .f32⟩
  | 26 => ⟨S2x256x1024, .f32⟩
  | 27 => ⟨S_, .f32⟩
  | 28 => ⟨S2x256x1024, .f32⟩
  | 29 => ⟨S2x256x1024, .f32⟩
  | 30 => ⟨S2x256x1024, .f32⟩
  | 31 => ⟨S_, .f32⟩
  | 32 => ⟨S2x256x1024, .f32⟩
  | 33 => ⟨S2x256x1024, .f32⟩
  | 34 => ⟨S_, .f32⟩
  | 35 => ⟨S2x256x1024, .f32⟩
  | 36 => ⟨S2x256x1024, .f32⟩
  | 37 => ⟨S2x256x1024, .f32⟩
  | 38 => ⟨S_, .f32⟩
  | 39 => ⟨S2x256x1024, .f32⟩
  | 40 => ⟨S2x256x1024, .f32⟩
  | 41 => ⟨S2x256x1024, .f32⟩
  | 42 => ⟨S_, .f32⟩
  | 43 => ⟨S2x256x1024, .f32⟩
  | 44 => ⟨S2x256x1024, .f32⟩
  | 45 => ⟨S2x256x1024, .f32⟩
  | 46 => ⟨S_, .f32⟩
  | 47 => ⟨S2x256x1024, .f32⟩
  | 48 => ⟨S2x256x1024, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S_, .f32⟩
  | 83 => ⟨S2x4x320, .f32⟩
  | 84 => ⟨S2x4x320, .f32⟩
  | 85 => ⟨S_, .f32⟩
  | 86 => ⟨S2x4x320, .f32⟩
  | 87 => ⟨S2x4x320, .f32⟩
  | 88 => ⟨S2x4x320, .f32⟩
  | 89 => ⟨S_, .f32⟩
  | 90 => ⟨S2x4x320, .f32⟩
  | 91 => ⟨S2x4x320, .f32⟩
  | 92 => ⟨S2x4x320, .f32⟩
  | 93 => ⟨S_, .f32⟩
  | 94 => ⟨S2x4x320, .f32⟩
  | 95 => ⟨S2x4x320, .f32⟩
  | 96 => ⟨S2x4x320, .f32⟩
  | 97 => ⟨S_, .f32⟩
  | 98 => ⟨S2x4x320, .f32⟩
  | 99 => ⟨S2x4x320, .f32⟩
  | 100 => ⟨S_, .f32⟩
  | 101 => ⟨S2x4x320, .f32⟩
  | 102 => ⟨S2x4x320, .f32⟩
  | 103 => ⟨S2x4x320, .f32⟩
  | 104 => ⟨S_, .f32⟩
  | 105 => ⟨S2x4x320, .f32⟩
  | 106 => ⟨S2x4x320, .f32⟩
  | 107 => ⟨S2x4x320, .f32⟩
  | 108 => ⟨S_, .f32⟩
  | 109 => ⟨S2x4x320, .f32⟩
  | 110 => ⟨S2x4x320, .f32⟩
  | 111 => ⟨S2x4x320, .f32⟩
  | 112 => ⟨S_, .f32⟩
  | 113 => ⟨S2x4x320, .f32⟩
  | 114 => ⟨S2x4x320, .f32⟩
  | 115 => ⟨S_, .f32⟩
  | 116 => ⟨S2x1280, .f32⟩
  | 117 => ⟨S2x1280, .f32⟩
  | 118 => ⟨S_, .f32⟩
  | 119 => ⟨S2x1280, .f32⟩
  | 120 => ⟨S2x1280, .f32⟩
  | 121 => ⟨S2x1280, .f32⟩
  | 122 => ⟨S_, .f32⟩
  | 123 => ⟨S2x1280, .f32⟩
  | 124 => ⟨S2x1280, .f32⟩
  | 125 => ⟨S2x1280, .f32⟩
  | 126 => ⟨S_, .f32⟩
  | 127 => ⟨S2x1280, .f32⟩
  | _ => ⟨S2x256x1024, .f32⟩

abbrev hbmTy0_1 (i : Nat) : BufTy := match i % 128 with
  | 0 => ⟨S2x1280, .f32⟩
  | 1 => ⟨S2x1280, .f32⟩
  | 2 => ⟨S_, .f32⟩
  | 3 => ⟨S2x1280, .f32⟩
  | 4 => ⟨S2x1280, .f32⟩
  | 5 => ⟨S_, .f32⟩
  | 6 => ⟨S2x1280, .f32⟩
  | 7 => ⟨S2x1280, .f32⟩
  | 8 => ⟨S2x1280, .f32⟩
  | 9 => ⟨S_, .f32⟩
  | 10 => ⟨S2x1280, .f32⟩
  | 11 => ⟨S2x1280, .f32⟩
  | 12 => ⟨S2x1280, .f32⟩
  | 13 => ⟨S_, .f32⟩
  | 14 => ⟨S2x1280, .f32⟩
  | 15 => ⟨S2x1280, .f32⟩
  | 16 => ⟨S2x1280, .f32⟩
  | 17 => ⟨S_, .f32⟩
  | 18 => ⟨S2x1280, .f32⟩
  | 19 => ⟨S2x1280, .f32⟩
  | _ => ⟨S2x256x1024, .f32⟩

abbrev hbmTy (i : Nat) : BufTy := match i / 128 with
  | 0 => hbmTy0_0 i
  | 1 => hbmTy0_1 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel8.lean ====
abbrev S2x16 : Shape := ⟨2, ![2, 16]⟩
abbrev S2x1024 : Shape := ⟨2, ![2, 1024]⟩
abbrev S1x2x16 : Shape := ⟨3, ![1, 2, 16]⟩
abbrev S1x2x1024 : Shape := ⟨3, ![1, 2, 1024]⟩

abbrev nBuf : Space → Nat
  | .hbm => 56
  | .vmem => 28
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .hbm, ⟨7, _⟩ => ⟨S2x16, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S2x16, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S1x2x16, .f32⟩
  | .hbm, ⟨17, _⟩ => ⟨S1x2x16, .f32⟩
  | .hbm, ⟨18, _⟩ => ⟨S1x2x16, .f32⟩
  | .hbm, ⟨19, _⟩ => ⟨S1x2x16, .f32⟩
  | .hbm, ⟨20, _⟩ => ⟨S1x2x16, .f32⟩
  | .hbm, ⟨21, _⟩ => ⟨S1x2x16, .f32⟩
  | .hbm, ⟨22, _⟩ => ⟨S1x2x16, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S1x2x16, .f32⟩
  | .hbm, ⟨27, _⟩ => ⟨S1x2x16, .f32⟩
  | .hbm, ⟨28, _⟩ => ⟨S1x2x16, .f32⟩
  | .hbm, ⟨29, _⟩ => ⟨S1x2x16, .f32⟩
  | .hbm, ⟨30, _⟩ => ⟨S1x2x16, .f32⟩
  | .hbm, ⟨31, _⟩ => ⟨S1x2x16, .f32⟩
  | .hbm, ⟨32, _⟩ => ⟨S1x2x16, .f32⟩
  | .hbm, ⟨33, _⟩ => ⟨S2x16, .f32⟩
  | .hbm, ⟨34, _⟩ => ⟨S2x16, .f32⟩
  | .hbm, ⟨35, _⟩ => ⟨S2x16, .f32⟩
  | .hbm, ⟨36, _⟩ => ⟨S1x2x16, .f32⟩
  | .hbm, ⟨37, _⟩ => ⟨S1x2x16, .f32⟩
  | .hbm, ⟨38, _⟩ => ⟨S1x2x16, .f32⟩
  | .hbm, ⟨39, _⟩ => ⟨S1x2x16, .f32⟩
  | .hbm, ⟨40, _⟩ => ⟨S1x2x16, .f32⟩
  | .hbm, ⟨41, _⟩ => ⟨S1x2x16, .f32⟩
  | .hbm, ⟨42, _⟩ => ⟨S1x2x16, .f32⟩
  | .hbm, ⟨43, _⟩ => ⟨S2x16, .f32⟩
  | .hbm, ⟨44, _⟩ => ⟨S2x16, .f32⟩
  | .hbm, ⟨45, _⟩ => ⟨S2x16, .f32⟩
  | .hbm, ⟨46, _⟩ => ⟨S1x2x1024, .f32⟩
  | .hbm, ⟨47, _⟩ => ⟨S1x2x1024, .f32⟩
  | .hbm, ⟨48, _⟩ => ⟨S1x2x1024, .f32⟩
  | .hbm, ⟨49, _⟩ => ⟨S1x2x1024, .f32⟩
  | .hbm, ⟨50, _⟩ => ⟨S1x2x1024, .f32⟩
  | .hbm, ⟨51, _⟩ => ⟨S1x2x1024, .f32⟩
  | .hbm, ⟨52, _⟩ => ⟨S1x2x1024, .f32⟩
  | .hbm, ⟨53, _⟩ => ⟨S2x1024, .f32⟩
  | .hbm, ⟨54, _⟩ => ⟨S2x1024, .f32⟩
  | .hbm, ⟨55, _⟩ => ⟨S2x1024, .f32⟩
  | .local _ .vmem, ⟨0, _⟩ => ⟨S1x2x16, .f32⟩
  | .local _ .vmem, ⟨1, _⟩ => ⟨S1x2x16, .f32⟩
  | .local _ .vmem, ⟨2, _⟩ => ⟨S1x2x16, .f32⟩
  | .local _ .vmem, ⟨3, _⟩ => ⟨S1x2x16, .f32⟩
  | .local _ .vmem, ⟨4, _⟩ => ⟨S1x2x16, .f32⟩
  | .local _ .vmem, ⟨5, _⟩ => ⟨S1x2x16, .f32⟩
  | .local _ .vmem, ⟨6, _⟩ => ⟨S1x2x16, .f32⟩
  | .local _ .vmem, ⟨7, _⟩ => ⟨S1x2x16, .f32⟩
  | .local _ .vmem, ⟨8, _⟩ => ⟨S1x2x16, .f32⟩
  | .local _ .vmem, ⟨9, _⟩ => ⟨S1x2x16, .f32⟩
  | .local _ .vmem, ⟨10, _⟩ => ⟨S1x2x16, .f32⟩
  | .local _ .vmem, ⟨11, _⟩ => ⟨S1x2x16, .f32⟩
  | .local _ .vmem, ⟨12, _⟩ => ⟨S1x2x16, .f32⟩
  | .local _ .vmem, ⟨13, _⟩ => ⟨S1x2x16, .f32⟩
  | .local _ .vmem, ⟨14, _⟩ => ⟨S1x2x16, .f32⟩
  | .local _ .vmem, ⟨15, _⟩ => ⟨S1x2x16, .f32⟩
  | .local _ .vmem, ⟨16, _⟩ => ⟨S1x2x16, .f32⟩
  | .local _ .vmem, ⟨17, _⟩ => ⟨S1x2x16, .f32⟩
  | .local _ .vmem, ⟨18, _⟩ => ⟨S1x2x16, .f32⟩
  | .local _ .vmem, ⟨19, _⟩ => ⟨S1x2x16, .f32⟩
  | .local _ .vmem, ⟨20, _⟩ => ⟨S1x2x16, .f32⟩
  | .local _ .vmem, ⟨21, _⟩ => ⟨S1x2x1024, .f32⟩
  | .local _ .vmem, ⟨22, _⟩ => ⟨S1x2x1024, .f32⟩
  | .local _ .vmem, ⟨23, _⟩ => ⟨S1x2x1024, .f32⟩
  | .local _ .vmem, ⟨24, _⟩ => ⟨S1x2x1024, .f32⟩
  | .local _ .vmem, ⟨25, _⟩ => ⟨S1x2x1024, .f32⟩
  | .local _ .vmem, ⟨26, _⟩ => ⟨S1x2x1024, .f32⟩
  | .local _ .vmem, ⟨27, _⟩ => ⟨S1x2x1024, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev grid1 : Pipeline.Grid := ⟨3, ![1, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .vmem S1x2x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, true]

abbrev stage1_1 : Fin 1 → Memref sig .tc .vmem S1x2x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, true]

abbrev stage1_2 : Fin 1 → Memref sig .tc .vmem S1x2x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true]

abbrev stage1_3 : Fin 1 → Memref sig .tc .vmem S1x2x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, true]

abbrev stage1_4 : Fin 1 → Memref sig .tc .vmem S1x2x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true, true]

abbrev stage1_5 : Fin 1 → Memref sig .tc .vmem S1x2x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true, true]

abbrev stage1_6 : Fin 1 → Memref sig .tc .vmem S1x2x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true, true]

abbrev grid2 : Pipeline.Grid := ⟨3, ![1, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 1 → Memref sig .tc .vmem S1x2x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true, true]

abbrev stage2_1 : Fin 1 → Memref sig .tc .vmem S1x2x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true, true]

abbrev stage2_2 : Fin 1 → Memref sig .tc .vmem S1x2x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, true]

abbrev stage2_3 : Fin 1 → Memref sig .tc .vmem S1x2x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, true]

abbrev stage2_4 : Fin 1 → Memref sig .tc .vmem S1x2x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true, true]

abbrev stage2_5 : Fin 1 → Memref sig .tc .vmem S1x2x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true, true]

abbrev stage2_6 : Fin 1 → Memref sig .tc .vmem S1x2x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true, true]

abbrev grid3 : Pipeline.Grid := ⟨3, ![1, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 1 → Memref sig .tc .vmem S1x2x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true, true]

abbrev stage3_1 : Fin 1 → Memref sig .tc .vmem S1x2x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true, true]

abbrev stage3_2 : Fin 1 → Memref sig .tc .vmem S1x2x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, true]

abbrev stage3_3 : Fin 1 → Memref sig .tc .vmem S1x2x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, true]

abbrev stage3_4 : Fin 1 → Memref sig .tc .vmem S1x2x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true, true]

abbrev stage3_5 : Fin 1 → Memref sig .tc .vmem S1x2x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true, true]

abbrev stage3_6 : Fin 1 → Memref sig .tc .vmem S1x2x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true, true]
-- ==== Reference8Ideal.lean ====
abbrev S2x16 : Shape := ⟨2, ![2, 16]⟩
abbrev S2x1024 : Shape := ⟨2, ![2, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x16, .f32⟩
  | 1 => ⟨S2x16, .f32⟩
  | 2 => ⟨S2x16, .f32⟩
  | 3 => ⟨S2x16, .f32⟩
  | 4 => ⟨S2x16, .f32⟩
  | 5 => ⟨S2x16, .f32⟩
  | 6 => ⟨S2x16, .f32⟩
  | 7 => ⟨S2x16, .f32⟩
  | 8 => ⟨S2x16, .f32⟩
  | 9 => ⟨S2x16, .f32⟩
  | 10 => ⟨S2x16, .f32⟩
  | 11 => ⟨S2x16, .f32⟩
  | 12 => ⟨S2x1024, .f32⟩
  | 13 => ⟨S2x1024, .f32⟩
  | 14 => ⟨S2x1024, .f32⟩
  | 15 => ⟨S2x1024, .f32⟩
  | 16 => ⟨S_, .f32⟩
  | 17 => ⟨S2x16, .f32⟩
  | 18 => ⟨S2x16, .f32⟩
  | 19 => ⟨S_, .f32⟩
  | 20 => ⟨S2x16, .f32⟩
  | 21 => ⟨S2x16, .f32⟩
  | 22 => ⟨S2x16, .f32⟩
  | 23 => ⟨S_, .f32⟩
  | 24 => ⟨S2x16, .f32⟩
  | 25 => ⟨S2x16, .f32⟩
  | 26 => ⟨S2x16, .f32⟩
  | 27 => ⟨S_, .f32⟩
  | 28 => ⟨S2x16, .f32⟩
  | 29 => ⟨S2x16, .f32⟩
  | 30 => ⟨S2x16, .f32⟩
  | 31 => ⟨S_, .f32⟩
  | 32 => ⟨S2x16, .f32⟩
  | 33 => ⟨S2x16, .f32⟩
  | 34 => ⟨S_, .f32⟩
  | 35 => ⟨S2x16, .f32⟩
  | 36 => ⟨S2x16, .f32⟩
  | 37 => ⟨S2x16, .f32⟩
  | 38 => ⟨S_, .f32⟩
  | 39 => ⟨S2x16, .f32⟩
  | 40 => ⟨S2x16, .f32⟩
  | 41 => ⟨S2x16, .f32⟩
  | 42 => ⟨S_, .f32⟩
  | 43 => ⟨S2x16, .f32⟩
  | 44 => ⟨S2x16, .f32⟩
  | 45 => ⟨S2x16, .f32⟩
  | 46 => ⟨S_, .f32⟩
  | 47 => ⟨S2x16, .f32⟩
  | 48 => ⟨S2x16, .f32⟩
  | 49 => ⟨S_, .f32⟩
  | 50 => ⟨S2x16, .f32⟩
  | 51 => ⟨S2x16, .f32⟩
  | 52 => ⟨S_, .f32⟩
  | 53 => ⟨S2x16, .f32⟩
  | 54 => ⟨S2x16, .f32⟩
  | 55 => ⟨S2x16, .f32⟩
  | 56 => ⟨S_, .f32⟩
  | 57 => ⟨S2x16, .f32⟩
  | 58 => ⟨S2x16, .f32⟩
  | 59 => ⟨S2x16, .f32⟩
  | 60 => ⟨S_, .f32⟩
  | 61 => ⟨S2x16, .f32⟩
  | 62 => ⟨S2x16, .f32⟩
  | 63 => ⟨S2x16, .f32⟩
  | 64 => ⟨S_, .f32⟩
  | 65 => ⟨S2x16, .f32⟩
  | 66 => ⟨S2x16, .f32⟩
  | 67 => ⟨S_, .f32⟩
  | 68 => ⟨S2x16, .f32⟩
  | 69 => ⟨S2x16, .f32⟩
  | 70 => ⟨S2x16, .f32⟩
  | 71 => ⟨S_, .f32⟩
  | 72 => ⟨S2x16, .f32⟩
  | 73 => ⟨S2x16, .f32⟩
  | 74 => ⟨S2x16, .f32⟩
  | 75 => ⟨S_, .f32⟩
  | 76 => ⟨S2x16, .f32⟩
  | 77 => ⟨S2x16, .f32⟩
  | 78 => ⟨S2x16, .f32⟩
  | 79 => ⟨S_, .f32⟩
  | 80 => ⟨S2x16, .f32⟩
  | 81 => ⟨S2x16, .f32⟩
  | 82 => ⟨S_, .f32⟩
  | 83 => ⟨S2x16, .f32⟩
  | 84 => ⟨S2x16, .f32⟩
  | 85 => ⟨S_, .f32⟩
  | 86 => ⟨S2x16, .f32⟩
  | 87 => ⟨S2x16, .f32⟩
  | 88 => ⟨S2x16, .f32⟩
  | 89 => ⟨S_, .f32⟩
  | 90 => ⟨S2x16, .f32⟩
  | 91 => ⟨S2x16, .f32⟩
  | 92 => ⟨S2x16, .f32⟩
  | 93 => ⟨S_, .f32⟩
  | 94 => ⟨S2x16, .f32⟩
  | 95 => ⟨S2x16, .f32⟩
  | 96 => ⟨S2x16, .f32⟩
  | 97 => ⟨S_, .f32⟩
  | 98 => ⟨S2x16, .f32⟩
  | 99 => ⟨S2x16, .f32⟩
  | 100 => ⟨S_, .f32⟩
  | 101 => ⟨S2x16, .f32⟩
  | 102 => ⟨S2x16, .f32⟩
  | 103 => ⟨S2x16, .f32⟩
  | 104 => ⟨S_, .f32⟩
  | 105 => ⟨S2x16, .f32⟩
  | 106 => ⟨S2x16, .f32⟩
  | 107 => ⟨S2x16, .f32⟩
  | 108 => ⟨S_, .f32⟩
  | 109 => ⟨S2x16, .f32⟩
  | 110 => ⟨S2x16, .f32⟩
  | 111 => ⟨S2x16, .f32⟩
  | 112 => ⟨S_, .f32⟩
  | 113 => ⟨S2x16, .f32⟩
  | 114 => ⟨S2x16, .f32⟩
  | 115 => ⟨S_, .f32⟩
  | 116 => ⟨S2x1024, .f32⟩
  | 117 => ⟨S2x1024, .f32⟩
  | 118 => ⟨S_, .f32⟩
  | 119 => ⟨S2x1024, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S2x1024, .f32⟩
  | 126 => ⟨S_, .f32⟩
  | 127 => ⟨S2x1024, .f32⟩
  | _ => ⟨S2x16, .f32⟩

abbrev hbmTy0_1 (i : Nat) : BufTy := match i % 128 with
  | 0 => ⟨S2x1024, .f32⟩
  | 1 => ⟨S2x1024, .f32⟩
  | 2 => ⟨S_, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S_, .f32⟩
  | 18 => ⟨S2x1024, .f32⟩
  | 19 => ⟨S2x1024, .f32⟩
  | _ => ⟨S2x16, .f32⟩

abbrev hbmTy (i : Nat) : BufTy := match i / 128 with
  | 0 => hbmTy0_0 i
  | 1 => hbmTy0_1 i
  | _ => ⟨S2x16, .f32⟩

abbrev bufTy : (tb : Table) → Fin (tcTables nBuf tb) → BufTy
  | .hbm, ⟨i, _⟩ => hbmTy i
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel9.lean ====
abbrev S2x2176 : Shape := ⟨2, ![2, 2176]⟩
abbrev S2x512 : Shape := ⟨2, ![2, 512]⟩
abbrev S2x64x128 : Shape := ⟨3, ![2, 64, 128]⟩
abbrev S1x2x2176 : Shape := ⟨3, ![1, 2, 2176]⟩
abbrev S1x2x512 : Shape := ⟨3, ![1, 2, 512]⟩
abbrev S1x64x128 : Shape := ⟨3, ![1, 64, 128]⟩

abbrev nBuf : Space → Nat
  | .hbm => 49
  | .vmem => 35
  | .smem => 0
  | _ => 0

abbrev bufTy : (tb : Table) → Fin (tcTables nBuf tb) → BufTy
  | .hbm, ⟨0, _⟩ => ⟨S2x2176, .f32⟩
  | .hbm, ⟨1, _⟩ => ⟨S2x2176, .f32⟩
  | .hbm, ⟨2, _⟩ => ⟨S2x2176, .f32⟩
  | .hbm, ⟨3, _⟩ => ⟨S2x2176, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x64x128, .f32⟩
  | .hbm, ⟨9, _⟩ => ⟨S2x64x128, .f32⟩
  | .hbm, ⟨10, _⟩ => ⟨S2x64x128, .f32⟩
  | .hbm, ⟨11, _⟩ => ⟨S2x64x128, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S1x2x2176, .f32⟩
  | .hbm, ⟨17, _⟩ => ⟨S1x2x2176, .f32⟩
  | .hbm, ⟨18, _⟩ => ⟨S1x2x2176, .f32⟩
  | .hbm, ⟨19, _⟩ => ⟨S1x2x2176, .f32⟩
  | .hbm, ⟨20, _⟩ => ⟨S1x2x2176, .f32⟩
  | .hbm, ⟨21, _⟩ => ⟨S1x2x2176, .f32⟩
  | .hbm, ⟨22, _⟩ => ⟨S1x2x2176, .f32⟩
  | .hbm, ⟨23, _⟩ => ⟨S2x2176, .f32⟩
  | .hbm, ⟨24, _⟩ => ⟨S2x2176, .f32⟩
  | .hbm, ⟨25, _⟩ => ⟨S2x2176, .f32⟩
  | .hbm, ⟨26, _⟩ => ⟨S1x2x512, .f32⟩
  | .hbm, ⟨27, _⟩ => ⟨S1x2x512, .f32⟩
  | .hbm, ⟨28, _⟩ => ⟨S1x2x512, .f32⟩
  | .hbm, ⟨29, _⟩ => ⟨S1x2x512, .f32⟩
  | .hbm, ⟨30, _⟩ => ⟨S1x2x512, .f32⟩
  | .hbm, ⟨31, _⟩ => ⟨S1x2x512, .f32⟩
  | .hbm, ⟨32, _⟩ => ⟨S1x2x512, .f32⟩
  | .hbm, ⟨33, _⟩ => ⟨S2x512, .f32⟩
  | .hbm, ⟨34, _⟩ => ⟨S2x512, .f32⟩
  | .hbm, ⟨35, _⟩ => ⟨S2x512, .f32⟩
  | .hbm, ⟨36, _⟩ => ⟨S2x64x128, .f32⟩
  | .hbm, ⟨37, _⟩ => ⟨S2x64x128, .f32⟩
  | .hbm, ⟨38, _⟩ => ⟨S2x64x128, .f32⟩
  | .hbm, ⟨39, _⟩ => ⟨S1x2x512, .f32⟩
  | .hbm, ⟨40, _⟩ => ⟨S1x2x512, .f32⟩
  | .hbm, ⟨41, _⟩ => ⟨S1x2x512, .f32⟩
  | .hbm, ⟨42, _⟩ => ⟨S1x2x512, .f32⟩
  | .hbm, ⟨43, _⟩ => ⟨S1x2x512, .f32⟩
  | .hbm, ⟨44, _⟩ => ⟨S1x2x512, .f32⟩
  | .hbm, ⟨45, _⟩ => ⟨S1x2x512, .f32⟩
  | .hbm, ⟨46, _⟩ => ⟨S2x512, .f32⟩
  | .hbm, ⟨47, _⟩ => ⟨S2x512, .f32⟩
  | .hbm, ⟨48, _⟩ => ⟨S2x512, .f32⟩
  | .local _ .vmem, ⟨0, _⟩ => ⟨S1x2x2176, .f32⟩
  | .local _ .vmem, ⟨1, _⟩ => ⟨S1x2x2176, .f32⟩
  | .local _ .vmem, ⟨2, _⟩ => ⟨S1x2x2176, .f32⟩
  | .local _ .vmem, ⟨3, _⟩ => ⟨S1x2x2176, .f32⟩
  | .local _ .vmem, ⟨4, _⟩ => ⟨S1x2x2176, .f32⟩
  | .local _ .vmem, ⟨5, _⟩ => ⟨S1x2x2176, .f32⟩
  | .local _ .vmem, ⟨6, _⟩ => ⟨S1x2x2176, .f32⟩
  | .local _ .vmem, ⟨7, _⟩ => ⟨S1x2x512, .f32⟩
  | .local _ .vmem, ⟨8, _⟩ => ⟨S1x2x512, .f32⟩
  | .local _ .vmem, ⟨9, _⟩ => ⟨S1x2x512, .f32⟩
  | .local _ .vmem, ⟨10, _⟩ => ⟨S1x2x512, .f32⟩
  | .local _ .vmem, ⟨11, _⟩ => ⟨S1x2x512, .f32⟩
  | .local _ .vmem, ⟨12, _⟩ => ⟨S1x2x512, .f32⟩
  | .local _ .vmem, ⟨13, _⟩ => ⟨S1x2x512, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | .local _ .vmem, ⟨28, _⟩ => ⟨S1x2x512, .f32⟩
  | .local _ .vmem, ⟨29, _⟩ => ⟨S1x2x512, .f32⟩
  | .local _ .vmem, ⟨30, _⟩ => ⟨S1x2x512, .f32⟩
  | .local _ .vmem, ⟨31, _⟩ => ⟨S1x2x512, .f32⟩
  | .local _ .vmem, ⟨32, _⟩ => ⟨S1x2x512, .f32⟩
  | .local _ .vmem, ⟨33, _⟩ => ⟨S1x2x512, .f32⟩
  | .local _ .vmem, ⟨34, _⟩ => ⟨S1x2x512, .f32⟩
  | _, _ => ⟨S2x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev main_v21_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev grid1 : Pipeline.Grid := ⟨3, ![1, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .vmem S1x2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, true]

abbrev stage1_1 : Fin 1 → Memref sig .tc .vmem S1x2x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, true]

abbrev stage1_2 : Fin 1 → Memref sig .tc .vmem S1x2x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true]

abbrev stage1_3 : Fin 1 → Memref sig .tc .vmem S1x2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, true]

abbrev stage1_4 : Fin 1 → Memref sig .tc .vmem S1x2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true, true]

abbrev stage1_5 : Fin 1 → Memref sig .tc .vmem S1x2x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true, true]

abbrev stage1_6 : Fin 1 → Memref sig .tc .vmem S1x2x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true, true]

abbrev grid2 : Pipeline.Grid := ⟨3, ![2, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x64x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

abbrev stage2_6 : Fin 2 → Memref sig .tc .vmem S1x64x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev grid3 : Pipeline.Grid := ⟨3, ![1, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 1 → Memref sig .tc .vmem S1x2x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true, true]

abbrev stage3_1 : Fin 1 → Memref sig .tc .vmem S1x2x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true, true]

abbrev stage3_2 : Fin 1 → Memref sig .tc .vmem S1x2x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, true]

abbrev stage3_3 : Fin 1 → Memref sig .tc .vmem S1x2x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, true]

abbrev stage3_4 : Fin 1 → Memref sig .tc .vmem S1x2x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true, true]

abbrev stage3_5 : Fin 1 → Memref sig .tc .vmem S1x2x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true, true]

abbrev stage3_6 : Fin 1 → Memref sig .tc .vmem S1x2x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true, true]
-- ==== Reference9Ideal.lean ====
abbrev S2x2176 : Shape := ⟨2, ![2, 2176]⟩
abbrev S2x512 : Shape := ⟨2, ![2, 512]⟩
abbrev S2x64x128 : Shape := ⟨3, ![2, 64, 128]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x2176, .f32⟩
  | 1 => ⟨S2x2176, .f32⟩
  | 2 => ⟨S2x2176, .f32⟩
  | 3 => ⟨S2x2176, .f32⟩
  | 4 => ⟨S2x512, .f32⟩
  | 5 => ⟨S2x512, .f32⟩
  | 6 => ⟨S2x512, .f32⟩
  | 7 => ⟨S2x512, .f32⟩
  | 8 => ⟨S2x64x128, .f32⟩
  | 9 => ⟨S2x64x128, .f32⟩
  | 10 => ⟨S2x64x128, .f32⟩
  | 11 => ⟨S2x64x128, .f32⟩
  | 12 => ⟨S2x512, .f32⟩
  | 13 => ⟨S2x512, .f32⟩
  | 14 => ⟨S2x512, .f32⟩
  | 15 => ⟨S2x512, .f32⟩
  | 16 => ⟨S_, .f32⟩
  | 17 => ⟨S2x2176, .f32⟩
  | 18 => ⟨S2x2176, .f32⟩
  | 19 => ⟨S_, .f32⟩
  | 20 => ⟨S2x2176, .f32⟩
  | 21 => ⟨S2x2176, .f32⟩
  | 22 => ⟨S2x2176, .f32⟩
  | 23 => ⟨S_, .f32⟩
  | 24 => ⟨S2x2176, .f32⟩
  | 25 => ⟨S2x2176, .f32⟩
  | 26 => ⟨S2x2176, .f32⟩
  | 27 => ⟨S_, .f32⟩
  | 28 => ⟨S2x2176, .f32⟩
  | 29 => ⟨S2x2176, .f32⟩
  | 30 => ⟨S2x2176, .f32⟩
  | 31 => ⟨S_, .f32⟩
  | 32 => ⟨S2x2176, .f32⟩
  | 33 => ⟨S2x2176, .f32⟩
  | 34 => ⟨S_, .f32⟩
  | 35 => ⟨S2x2176, .f32⟩
  | 36 => ⟨S2x2176, .f32⟩
  | 37 => ⟨S2x2176, .f32⟩
  | 38 => ⟨S_, .f32⟩
  | 39 => ⟨S2x2176, .f32⟩
  | 40 => ⟨S2x2176, .f32⟩
  | 41 => ⟨S2x2176, .f32⟩
  | 42 => ⟨S_, .f32⟩
  | 43 => ⟨S2x2176, .f32⟩
  | 44 => ⟨S2x2176, .f32⟩
  | 45 => ⟨S2x2176, .f32⟩
  | 46 => ⟨S_, .f32⟩
  | 47 => ⟨S2x2176, .f32⟩
  | 48 => ⟨S2x2176, .f32⟩
  | 49 => ⟨S_, .f32⟩
  | 50 => ⟨S2x512, .f32⟩
  | 51 => ⟨S2x512, .f32⟩
  | 52 => ⟨S_, .f32⟩
  | 53 => ⟨S2x512, .f32⟩
  | 54 => ⟨S2x512, .f32⟩
  | 55 => ⟨S2x512, .f32⟩
  | 56 => ⟨S_, .f32⟩
  | 57 => ⟨S2x512, .f32⟩
  | 58 => ⟨S2x512, .f32⟩
  | 59 => ⟨S2x512, .f32⟩
  | 60 => ⟨S_, .f32⟩
  | 61 => ⟨S2x512, .f32⟩
  | 62 => ⟨S2x512, .f32⟩
  | 63 => ⟨S2x512, .f32⟩
  | 64 => ⟨S_, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S2x512, .f32⟩
  | 71 => ⟨S_, .f32⟩
  | 72 => ⟨S2x512, .f32⟩
  | 73 => ⟨S2x512, .f32⟩
  | 74 => ⟨S2x512, .f32⟩
  | 75 => ⟨S_, .f32⟩
  | 76 => ⟨S2x512, .f32⟩
  | 77 => ⟨S2x512, .f32⟩
  | 78 => ⟨S2x512, .f32⟩
  | 79 => ⟨S_, .f32⟩
  | 80 => ⟨S2x512, .f32⟩
  | 81 => ⟨S2x512, .f32⟩
  | 82 => ⟨S_, .f32⟩
  | 83 => ⟨S2x64x128, .f32⟩
  | 84 => ⟨S2x64x128, .f32⟩
  | 85 => ⟨S_, .f32⟩
  | 86 => ⟨S2x64x128, .f32⟩
  | 87 => ⟨S2x64x128, .f32⟩
  | 88 => ⟨S2x64x128, .f32⟩
  | 89 => ⟨S_, .f32⟩
  | 90 => ⟨S2x64x128, .f32⟩
  | 91 => ⟨S2x64x128, .f32⟩
  | 92 => ⟨S2x64x128, .f32⟩
  | 93 => ⟨S_, .f32⟩
  | 94 => ⟨S2x64x128, .f32⟩
  | 95 => ⟨S2x64x128, .f32⟩
  | 96 => ⟨S2x64x128, .f32⟩
  | 97 => ⟨S_, .f32⟩
  | 98 => ⟨S2x64x128, .f32⟩
  | 99 => ⟨S2x64x128, .f32⟩
  | 100 => ⟨S_, .f32⟩
  | 101 => ⟨S2x64x128, .f32⟩
  | 102 => ⟨S2x64x128, .f32⟩
  | 103 => ⟨S2x64x128, .f32⟩
  | 104 => ⟨S_, .f32⟩
  | 105 => ⟨S2x64x128, .f32⟩
  | 106 => ⟨S2x64x128, .f32⟩
  | 107 => ⟨S2x64x128, .f32⟩
  | 108 => ⟨S_, .f32⟩
  | 109 => ⟨S2x64x128, .f32⟩
  | 110 => ⟨S2x64x128, .f32⟩
  | 111 => ⟨S2x64x128, .f32⟩
  | 112 => ⟨S_, .f32⟩
  | 113 => ⟨S2x64x128, .f32⟩
  | 114 => ⟨S2x64x128, .f32⟩
  | 115 => ⟨S_, .f32⟩
  | 116 => ⟨S2x512, .f32⟩
  | 117 => ⟨S2x512, .f32⟩
  | 118 => ⟨S_, .f32⟩
  | 119 => ⟨S2x512, .f32⟩
  | 120 => ⟨S2x512, .f32⟩
  | 121 => ⟨S2x512, .f32⟩
  | 122 => ⟨S_, .f32⟩
  | 123 => ⟨S2x512, .f32⟩
  | 124 => ⟨S2x512, .f32⟩
  | 125 => ⟨S2x512, .f32⟩
  | 126 => ⟨S_, .f32⟩
  | 127 => ⟨S2x512, .f32⟩
  | _ => ⟨S2x2176, .f32⟩

abbrev hbmTy0_1 (i : Nat) : BufTy := match i % 128 with
  | 0 => ⟨S2x512, .f32⟩
  | 1 => ⟨S2x512, .f32⟩
  | 2 => ⟨S_, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S2x512, .f32⟩
  | 13 => ⟨S_, .f32⟩
  | 14 => ⟨S2x512, .f32⟩
  | 15 => ⟨S2x512, .f32⟩
  | 16 => ⟨S2x512, .f32⟩
  | 17 => ⟨S_, .f32⟩
  | 18 => ⟨S2x512, .f32⟩
  | 19 => ⟨S2x512, .f32⟩
  | _ => ⟨S2x2176, .f32⟩

abbrev hbmTy (i : Nat) : BufTy := match i / 128 with
  | 0 => hbmTy0_0 i
  | 1 => hbmTy0_1 i
  | _ => ⟨S2x2176, .f32⟩

abbrev bufTy : (tb : Table) → Fin (tcTables nBuf tb) → BufTy
  | .hbm, ⟨i, _⟩ => hbmTy i
  | _, _ => ⟨S2x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel10.lean ====
abbrev S2x64x128 : Shape := ⟨3, ![2, 64, 128]⟩
abbrev S2x512 : Shape := ⟨2, ![2, 512]⟩
abbrev S2x8x64 : Shape := ⟨3, ![2, 8, 64]⟩
abbrev S1x64x128 : Shape := ⟨3, ![1, 64, 128]⟩
abbrev S1x2x512 : Shape := ⟨3, ![1, 2, 512]⟩
abbrev S1x8x64 : Shape := ⟨3, ![1, 8, 64]⟩

abbrev nBuf : Space → Nat
  | .hbm => 42
  | .vmem => 42
  | .smem => 0
  | _ => 0

abbrev bufTy : (tb : Table) → Fin (tcTables nBuf tb) → BufTy
  | .hbm, ⟨0, _⟩ => ⟨S2x64x128, .f32⟩
  | .hbm, ⟨1, _⟩ => ⟨S2x64x128, .f32⟩
  | .hbm, ⟨2, _⟩ => ⟨S2x64x128, .f32⟩
  | .hbm, ⟨3, _⟩ => ⟨S2x64x128, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S2x8x64, .f32⟩
  | .hbm, ⟨13, _⟩ => ⟨S2x8x64, .f32⟩
  | .hbm, ⟨14, _⟩ => ⟨S2x8x64, .f32⟩
  | .hbm, ⟨15, _⟩ => ⟨S2x8x64, .f32⟩
  | .hbm, ⟨16, _⟩ => ⟨S2x64x128, .f32⟩
  | .hbm, ⟨17, _⟩ => ⟨S2x64x128, .f32⟩
  | .hbm, ⟨18, _⟩ => ⟨S2x64x128, .f32⟩
  | .hbm, ⟨19, _⟩ => ⟨S1x2x512, .f32⟩
  | .hbm, ⟨20, _⟩ => ⟨S1x2x512, .f32⟩
  | .hbm, ⟨21, _⟩ => ⟨S1x2x512, .f32⟩
  | .hbm, ⟨22, _⟩ => ⟨S1x2x512, .f32⟩
  | .hbm, ⟨23, _⟩ => ⟨S1x2x512, .f32⟩
  | .hbm, ⟨24, _⟩ => ⟨S1x2x512, .f32⟩
  | .hbm, ⟨25, _⟩ => ⟨S1x2x512, .f32⟩
  | .hbm, ⟨26, _⟩ => ⟨S2x512, .f32⟩
  | .hbm, ⟨27, _⟩ => ⟨S2x512, .f32⟩
  | .hbm, ⟨28, _⟩ => ⟨S2x512, .f32⟩
  | .hbm, ⟨29, _⟩ => ⟨S1x2x512, .f32⟩
  | .hbm, ⟨30, _⟩ => ⟨S1x2x512, .f32⟩
  | .hbm, ⟨31, _⟩ => ⟨S1x2x512, .f32⟩
  | .hbm, ⟨32, _⟩ => ⟨S1x2x512, .f32⟩
  | .hbm, ⟨33, _⟩ => ⟨S1x2x512, .f32⟩
  | .hbm, ⟨34, _⟩ => ⟨S1x2x512, .f32⟩
  | .hbm, ⟨35, _⟩ => ⟨S1x2x512, .f32⟩
  | .hbm, ⟨36, _⟩ => ⟨S2x512, .f32⟩
  | .hbm, ⟨37, _⟩ => ⟨S2x512, .f32⟩
  | .hbm, ⟨38, _⟩ => ⟨S2x512, .f32⟩
  | .hbm, ⟨39, _⟩ => ⟨S2x8x64, .f32⟩
  | .hbm, ⟨40, _⟩ => ⟨S2x8x64, .f32⟩
  | .hbm, ⟨41, _⟩ => ⟨S2x8x64, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S1x2x512, .f32⟩
  | .local _ .vmem, ⟨15, _⟩ => ⟨S1x2x512, .f32⟩
  | .local _ .vmem, ⟨16, _⟩ => ⟨S1x2x512, .f32⟩
  | .local _ .vmem, ⟨17, _⟩ => ⟨S1x2x512, .f32⟩
  | .local _ .vmem, ⟨18, _⟩ => ⟨S1x2x512, .f32⟩
  | .local _ .vmem, ⟨19, _⟩ => ⟨S1x2x512, .f32⟩
  | .local _ .vmem, ⟨20, _⟩ => ⟨S1x2x512, .f32⟩
  | .local _ .vmem, ⟨21, _⟩ => ⟨S1x2x512, .f32⟩
  | .local _ .vmem, ⟨22, _⟩ => ⟨S1x2x512, .f32⟩
  | .local _ .vmem, ⟨23, _⟩ => ⟨S1x2x512, .f32⟩
  | .local _ .vmem, ⟨24, _⟩ => ⟨S1x2x512, .f32⟩
  | .local _ .vmem, ⟨25, _⟩ => ⟨S1x2x512, .f32⟩
  | .local _ .vmem, ⟨26, _⟩ => ⟨S1x2x512, .f32⟩
  | .local _ .vmem, ⟨27, _⟩ => ⟨S1x2x512, .f32⟩
  | .local _ .vmem, ⟨28, _⟩ => ⟨S1x8x64, .f32⟩
  | .local _ .vmem, ⟨29, _⟩ => ⟨S1x8x64, .f32⟩
  | .local _ .vmem, ⟨30, _⟩ => ⟨S1x8x64, .f32⟩
  | .local _ .vmem, ⟨31, _⟩ => ⟨S1x8x64, .f32⟩
  | .local _ .vmem, ⟨32, _⟩ => ⟨S1x8x64, .f32⟩
  | .local _ .vmem, ⟨33, _⟩ => ⟨S1x8x64, .f32⟩
  | .local _ .vmem, ⟨34, _⟩ => ⟨S1x8x64, .f32⟩
  | .local _ .vmem, ⟨35, _⟩ => ⟨S1x8x64, .f32⟩
  | .local _ .vmem, ⟨36, _⟩ => ⟨S1x8x64, .f32⟩
  | .local _ .vmem, ⟨37, _⟩ => ⟨S1x8x64, .f32⟩
  | .local _ .vmem, ⟨38, _⟩ => ⟨S1x8x64, .f32⟩
  | .local _ .vmem, ⟨39, _⟩ => ⟨S1x8x64, .f32⟩
  | .local _ .vmem, ⟨40, _⟩ => ⟨S1x8x64, .f32⟩
  | .local _ .vmem, ⟨41, _⟩ => ⟨S1x8x64, .f32⟩
  | _, _ => ⟨S2x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v5_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev main_v17_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![1, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .vmem S1x2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, true]

abbrev stage1_1 : Fin 1 → Memref sig .tc .vmem S1x2x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, true]

abbrev stage1_2 : Fin 1 → Memref sig .tc .vmem S1x2x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true]

abbrev stage1_3 : Fin 1 → Memref sig .tc .vmem S1x2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, true]

abbrev stage1_4 : Fin 1 → Memref sig .tc .vmem S1x2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true, true]

abbrev stage1_5 : Fin 1 → Memref sig .tc .vmem S1x2x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true, true]

abbrev stage1_6 : Fin 1 → Memref sig .tc .vmem S1x2x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true, true]

abbrev grid2 : Pipeline.Grid := ⟨3, ![1, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 1 → Memref sig .tc .vmem S1x2x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true, true]

abbrev stage2_1 : Fin 1 → Memref sig .tc .vmem S1x2x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true, true]

abbrev stage2_2 : Fin 1 → Memref sig .tc .vmem S1x2x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, true]

abbrev stage2_3 : Fin 1 → Memref sig .tc .vmem S1x2x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, true]

abbrev stage2_4 : Fin 1 → Memref sig .tc .vmem S1x2x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true, true]

abbrev stage2_5 : Fin 1 → Memref sig .tc .vmem S1x2x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true, true]

abbrev stage2_6 : Fin 1 → Memref sig .tc .vmem S1x2x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true, true]

abbrev grid3 : Pipeline.Grid := ⟨3, ![2, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x8x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x8x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x8x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x8x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x8x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x8x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x8x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]
-- ==== Reference10Ideal.lean ====
abbrev S2x64x128 : Shape := ⟨3, ![2, 64, 128]⟩
abbrev S2x512 : Shape := ⟨2, ![2, 512]⟩
abbrev S2x8x64 : Shape := ⟨3, ![2, 8, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2x64x128, .f32⟩
  | 1 => ⟨S2x64x128, .f32⟩
  | 2 => ⟨S2x64x128, .f32⟩
  | 3 => ⟨S2x64x128, .f32⟩
  | 4 => ⟨S2x512, .f32⟩
  | 5 => ⟨S2x512, .f32⟩
  | 6 => ⟨S2x512, .f32⟩
  | 7 => ⟨S2x512, .f32⟩
  | 8 => ⟨S2x512, .f32⟩
  | 9 => ⟨S2x512, .f32⟩
  | 10 => ⟨S2x512, .f32⟩
  | 11 => ⟨S2x512, .f32⟩
  | 12 => ⟨S2x8x64, .f32⟩
  | 13 => ⟨S2x8x64, .f32⟩
  | 14 => ⟨S2x8x64, .f32⟩
  | 15 => ⟨S2x8x64, .f32⟩
  | 16 => ⟨S_, .f32⟩
  | 17 => ⟨S2x64x128, .f32⟩
  | 18 => ⟨S2x64x128, .f32⟩
  | 19 => ⟨S_, .f32⟩
  | 20 => ⟨S2x64x128, .f32⟩
  | 21 => ⟨S2x64x128, .f32⟩
  | 22 => ⟨S2x64x128, .f32⟩
  | 23 => ⟨S_, .f32⟩
  | 24 => ⟨S2x64x128, .f32⟩
  | 25 => ⟨S2x64x128, .f32⟩
  | 26 => ⟨S2x64x128, .f32⟩
  | 27 => ⟨S_, .f32⟩
  | 28 => ⟨S2x64x128, .f32⟩
  | 29 => ⟨S2x64x128, .f32⟩
  | 30 => ⟨S2x64x128, .f32⟩
  | 31 => ⟨S_, .f32⟩
  | 32 => ⟨S2x64x128, .f32⟩
  | 33 => ⟨S2x64x128, .f32⟩
  | 34 => ⟨S_, .f32⟩
  | 35 => ⟨S2x64x128, .f32⟩
  | 36 => ⟨S2x64x128, .f32⟩
  | 37 => ⟨S2x64x128, .f32⟩
  | 38 => ⟨S_, .f32⟩
  | 39 => ⟨S2x64x128, .f32⟩
  | 40 => ⟨S2x64x128, .f32⟩
  | 41 => ⟨S2x64x128, .f32⟩
  | 42 => ⟨S_, .f32⟩
  | 43 => ⟨S2x64x128, .f32⟩
  | 44 => ⟨S2x64x128, .f32⟩
  | 45 => ⟨S2x64x128, .f32⟩
  | 46 => ⟨S_, .f32⟩
  | 47 => ⟨S2x64x128, .f32⟩
  | 48 => ⟨S2x64x128, .f32⟩
  | 49 => ⟨S_, .f32⟩
  | 50 => ⟨S2x512, .f32⟩
  | 51 => ⟨S2x512, .f32⟩
  | 52 => ⟨S_, .f32⟩
  | 53 => ⟨S2x512, .f32⟩
  | 54 => ⟨S2x512, .f32⟩
  | 55 => ⟨S2x512, .f32⟩
  | 56 => ⟨S_, .f32⟩
  | 57 => ⟨S2x512, .f32⟩
  | 58 => ⟨S2x512, .f32⟩
  | 59 => ⟨S2x512, .f32⟩
  | 60 => ⟨S_, .f32⟩
  | 61 => ⟨S2x512, .f32⟩
  | 62 => ⟨S2x512, .f32⟩
  | 63 => ⟨S2x512, .f32⟩
  | 64 => ⟨S_, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S2x512, .f32⟩
  | 71 => ⟨S_, .f32⟩
  | 72 => ⟨S2x512, .f32⟩
  | 73 => ⟨S2x512, .f32⟩
  | 74 => ⟨S2x512, .f32⟩
  | 75 => ⟨S_, .f32⟩
  | 76 => ⟨S2x512, .f32⟩
  | 77 => ⟨S2x512, .f32⟩
  | 78 => ⟨S2x512, .f32⟩
  | 79 => ⟨S_, .f32⟩
  | 80 => ⟨S2x512, .f32⟩
  | 81 => ⟨S2x512, .f32⟩
  | 82 => ⟨S_, .f32⟩
  | 83 => ⟨S2x512, .f32⟩
  | 84 => ⟨S2x512, .f32⟩
  | 85 => ⟨S_, .f32⟩
  | 86 => ⟨S2x512, .f32⟩
  | 87 => ⟨S2x512, .f32⟩
  | 88 => ⟨S2x512, .f32⟩
  | 89 => ⟨S_, .f32⟩
  | 90 => ⟨S2x512, .f32⟩
  | 91 => ⟨S2x512, .f32⟩
  | 92 => ⟨S2x512, .f32⟩
  | 93 => ⟨S_, .f32⟩
  | 94 => ⟨S2x512, .f32⟩
  | 95 => ⟨S2x512, .f32⟩
  | 96 => ⟨S2x512, .f32⟩
  | 97 => ⟨S_, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S2x512, .f32⟩
  | 108 => ⟨S_, .f32⟩
  | 109 => ⟨S2x512, .f32⟩
  | 110 => ⟨S2x512, .f32⟩
  | 111 => ⟨S2x512, .f32⟩
  | 112 => ⟨S_, .f32⟩
  | 113 => ⟨S2x512, .f32⟩
  | 114 => ⟨S2x512, .f32⟩
  | 115 => ⟨S_, .f32⟩
  | 116 => ⟨S2x8x64, .f32⟩
  | 117 => ⟨S2x8x64, .f32⟩
  | 118 => ⟨S_, .f32⟩
  | 119 => ⟨S2x8x64, .f32⟩
  | 120 => ⟨S2x8x64, .f32⟩
  | 121 => ⟨S2x8x64, .f32⟩
  | 122 => ⟨S_, .f32⟩
  | 123 => ⟨S2x8x64, .f32⟩
  | 124 => ⟨S2x8x64, .f32⟩
  | 125 => ⟨S2x8x64, .f32⟩
  | 126 => ⟨S_, .f32⟩
  | 127 => ⟨S2x8x64, .f32⟩
  | _ => ⟨S2x64x128, .f32⟩

abbrev hbmTy0_1 (i : Nat) : BufTy := match i % 128 with
  | 0 => ⟨S2x8x64, .f32⟩
  | 1 => ⟨S2x8x64, .f32⟩
  | 2 => ⟨S_, .f32⟩
  | 3 => ⟨S2x8x64, .f32⟩
  | 4 => ⟨S2x8x64, .f32⟩
  | 5 => ⟨S_, .f32⟩
  | 6 => ⟨S2x8x64, .f32⟩
  | 7 => ⟨S2x8x64, .f32⟩
  | 8 => ⟨S2x8x64, .f32⟩
  | 9 => ⟨S_, .f32⟩
  | 10 => ⟨S2x8x64, .f32⟩
  | 11 => ⟨S2x8x64, .f32⟩
  | 12 => ⟨S2x8x64, .f32⟩
  | 13 => ⟨S_, .f32⟩
  | 14 => ⟨S2x8x64, .f32⟩
  | 15 => ⟨S2x8x64, .f32⟩
  | 16 => ⟨S2x8x64, .f32⟩
  | 17 => ⟨S_, .f32⟩
  | 18 => ⟨S2x8x64, .f32⟩
  | 19 => ⟨S2x8x64, .f32⟩
  | _ => ⟨S2x64x128, .f32⟩

abbrev hbmTy (i : Nat) : BufTy := match i / 128 with
  | 0 => hbmTy0_0 i
  | 1 => hbmTy0_1 i
  | _ => ⟨S2x64x128, .f32⟩

abbrev bufTy : (tb : Table) → Fin (tcTables nBuf tb) → BufTy
  | .hbm, ⟨i, _⟩ => hbmTy i
  | _, _ => ⟨S2x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel11.lean ====
abbrev S2x512 : Shape := ⟨2, ![2, 512]⟩
abbrev S1024 : Shape := ⟨1, ![1024]⟩
abbrev S1x2x512 : Shape := ⟨3, ![1, 2, 512]⟩
abbrev S1x1x1024 : Shape := ⟨3, ![1, 1, 1024]⟩

abbrev nBuf : Space → Nat
  | .hbm => 42
  | .vmem => 21
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x2x512, .f32⟩
  | .hbm, ⟨13, _⟩ => ⟨S1x2x512, .f32⟩
  | .hbm, ⟨14, _⟩ => ⟨S1x2x512, .f32⟩
  | .hbm, ⟨15, _⟩ => ⟨S1x2x512, .f32⟩
  | .hbm, ⟨16, _⟩ => ⟨S1x2x512, .f32⟩
  | .hbm, ⟨17, _⟩ => ⟨S1x2x512, .f32⟩
  | .hbm, ⟨18, _⟩ => ⟨S1x2x512, .f32⟩
  | .hbm, ⟨19, _⟩ => ⟨S2x512, .f32⟩
  | .hbm, ⟨20, _⟩ => ⟨S2x512, .f32⟩
  | .hbm, ⟨21, _⟩ => ⟨S2x512, .f32⟩
  | .hbm, ⟨22, _⟩ => ⟨S1x2x512, .f32⟩
  | .hbm, ⟨23, _⟩ => ⟨S1x2x512, .f32⟩
  | .hbm, ⟨24, _⟩ => ⟨S1x2x512, .f32⟩
  | .hbm, ⟨25, _⟩ => ⟨S1x2x512, .f32⟩
  | .hbm, ⟨26, _⟩ => ⟨S1x2x512, .f32⟩
  | .hbm, ⟨27, _⟩ => ⟨S1x2x512, .f32⟩
  | .hbm, ⟨28, _⟩ => ⟨S1x2x512, .f32⟩
  | .hbm, ⟨29, _⟩ => ⟨S2x512, .f32⟩
  | .hbm, ⟨30, _⟩ => ⟨S2x512, .f32⟩
  | .hbm, ⟨31, _⟩ => ⟨S2x512, .f32⟩
  | .hbm, ⟨32, _⟩ => ⟨S1x1x1024, .f32⟩
  | .hbm, ⟨33, _⟩ => ⟨S1x1x1024, .f32⟩
  | .hbm, ⟨34, _⟩ => ⟨S1x1x1024, .f32⟩
  | .hbm, ⟨35, _⟩ => ⟨S1x1x1024, .f32⟩
  | .hbm, ⟨36, _⟩ => ⟨S1x1x1024, .f32⟩
  | .hbm, ⟨37, _⟩ => ⟨S1x1x1024, .f32⟩
  | .hbm, ⟨38, _⟩ => ⟨S1x1x1024, .f32⟩
  | .hbm, ⟨39, _⟩ => ⟨S1024, .f32⟩
  | .hbm, ⟨40, _⟩ => ⟨S1024, .f32⟩
  | .hbm, ⟨41, _⟩ => ⟨S1024, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | .local _ .vmem, ⟨8, _⟩ => ⟨S1x2x512, .f32⟩
  | .local _ .vmem, ⟨9, _⟩ => ⟨S1x2x512, .f32⟩
  | .local _ .vmem, ⟨10, _⟩ => ⟨S1x2x512, .f32⟩
  | .local _ .vmem, ⟨11, _⟩ => ⟨S1x2x512, .f32⟩
  | .local _ .vmem, ⟨12, _⟩ => ⟨S1x2x512, .f32⟩
  | .local _ .vmem, ⟨13, _⟩ => ⟨S1x2x512, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, true]

abbrev grid1 : Pipeline.Grid := ⟨3, ![1, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .vmem S1x2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, true]

abbrev stage1_1 : Fin 1 → Memref sig .tc .vmem S1x2x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, true]

abbrev stage1_2 : Fin 1 → Memref sig .tc .vmem S1x2x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, true]

abbrev stage1_3 : Fin 1 → Memref sig .tc .vmem S1x2x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, true]

abbrev stage1_4 : Fin 1 → Memref sig .tc .vmem S1x2x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true, true]

abbrev stage1_5 : Fin 1 → Memref sig .tc .vmem S1x2x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true, true]

abbrev stage1_6 : Fin 1 → Memref sig .tc .vmem S1x2x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true, true]

abbrev grid2 : Pipeline.Grid := ⟨3, ![1, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 1 → Memref sig .tc .vmem S1x1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true, true]

abbrev stage2_1 : Fin 1 → Memref sig .tc .vmem S1x1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true, true]

abbrev stage2_2 : Fin 1 → Memref sig .tc .vmem S1x1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, true]

abbrev stage2_3 : Fin 1 → Memref sig .tc .vmem S1x1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, true]

abbrev stage2_4 : Fin 1 → Memref sig .tc .vmem S1x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true, true]

abbrev stage2_5 : Fin 1 → Memref sig .tc .vmem S1x1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true, true]

abbrev stage2_6 : Fin 1 → Memref sig .tc .vmem S1x1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true, true]
-- ==== Reference11Ideal.lean ====
abbrev S2x512 : Shape := ⟨2, ![2, 512]⟩
abbrev S1024 : Shape := ⟨1, ![1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S_, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S_, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | .hbm, ⟨37, _⟩ => ⟨S2x512, .f32⟩
  | .hbm, ⟨38, _⟩ => ⟨S_, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S_, .f32⟩
  | .hbm, ⟨43, _⟩ => ⟨S2x512, .f32⟩
  | .hbm, ⟨44, _⟩ => ⟨S2x512, .f32⟩
  | .hbm, ⟨45, _⟩ => ⟨S_, .f32⟩
  | .hbm, ⟨46, _⟩ => ⟨S2x512, .f32⟩
  | .hbm, ⟨47, _⟩ => ⟨S2x512, .f32⟩
  | .hbm, ⟨48, _⟩ => ⟨S_, .f32⟩
  | .hbm, ⟨49, _⟩ => ⟨S2x512, .f32⟩
  | .hbm, ⟨50, _⟩ => ⟨S2x512, .f32⟩
  | .hbm, ⟨51, _⟩ => ⟨S2x512, .f32⟩
  | .hbm, ⟨52, _⟩ => ⟨S_, .f32⟩
  | .hbm, ⟨53, _⟩ => ⟨S2x512, .f32⟩
  | .hbm, ⟨54, _⟩ => ⟨S2x512, .f32⟩
  | .hbm, ⟨55, _⟩ => ⟨S2x512, .f32⟩
  | .hbm, ⟨56, _⟩ => ⟨S_, .f32⟩
  | .hbm, ⟨57, _⟩ => ⟨S2x512, .f32⟩
  | .hbm, ⟨58, _⟩ => ⟨S2x512, .f32⟩
  | .hbm, ⟨59, _⟩ => ⟨S2x512, .f32⟩
  | .hbm, ⟨60, _⟩ => ⟨S_, .f32⟩
  | .hbm, ⟨61, _⟩ => ⟨S2x512, .f32⟩
  | .hbm, ⟨62, _⟩ => ⟨S2x512, .f32⟩
  | .hbm, ⟨63, _⟩ => ⟨S_, .f32⟩
  | .hbm, ⟨64, _⟩ => ⟨S2x512, .f32⟩
  | .hbm, ⟨65, _⟩ => ⟨S2x512, .f32⟩
  | .hbm, ⟨66, _⟩ => ⟨S2x512, .f32⟩
  | .hbm, ⟨67, _⟩ => ⟨S_, .f32⟩
  | .hbm, ⟨68, _⟩ => ⟨S2x512, .f32⟩
  | .hbm, ⟨69, _⟩ => ⟨S2x512, .f32⟩
  | .hbm, ⟨70, _⟩ => ⟨S2x512, .f32⟩
  | .hbm, ⟨71, _⟩ => ⟨S_, .f32⟩
  | .hbm, ⟨72, _⟩ => ⟨S2x512, .f32⟩
  | .hbm, ⟨73, _⟩ => ⟨S2x512, .f32⟩
  | .hbm, ⟨74, _⟩ => ⟨S2x512, .f32⟩
  | .hbm, ⟨75, _⟩ => ⟨S_, .f32⟩
  | .hbm, ⟨76, _⟩ => ⟨S2x512, .f32⟩
  | .hbm, ⟨77, _⟩ => ⟨S2x512, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel12.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x128, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x128, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel13.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel14.lean ====
abbrev S2048x1024 : Shape := ⟨2, ![2048, 1024]⟩
abbrev S2048x9728 : Shape := ⟨2, ![2048, 9728]⟩
abbrev S256x1024 : Shape := ⟨2, ![256, 1024]⟩

abbrev nBuf : Space → Nat
  | .hbm => 5
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9728, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x1024 : Shape := ⟨2, ![2048, 1024]⟩
abbrev S2048x9728 : Shape := ⟨2, ![2048, 9728]⟩
abbrev S2048x3072 : Shape := ⟨2, ![2048, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9728, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel15.lean ====
abbrev S2048x1024 : Shape := ⟨2, ![2048, 1024]⟩
abbrev S2048x9728 : Shape := ⟨2, ![2048, 9728]⟩
abbrev S2048x3072 : Shape := ⟨2, ![2048, 3072]⟩
abbrev S256x1024 : Shape := ⟨2, ![256, 1024]⟩
abbrev S256x3072 : Shape := ⟨2, ![256, 3072]⟩

abbrev nBuf : Space → Nat
  | .hbm => 9
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9728, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x3072, .f32⟩
  | .local _ .vmem, ⟨21, _⟩ => ⟨S256x3072, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference15Ideal.lean ====
abbrev S2048x1024 : Shape := ⟨2, ![2048, 1024]⟩
abbrev S2048x9728 : Shape := ⟨2, ![2048, 9728]⟩
abbrev S2048x3072 : Shape := ⟨2, ![2048, 3072]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x9728, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x3072, .f32⟩
  | .hbm, ⟨35, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Reals.lean ====
/- Arrays of extended reals whose entries are all real numbers, and the few facts about real sums, exponentials and
   literals that the value proofs of this certificate share. -/
module

public import Idealize.ShloMosaic.Lib.Pointwise
public import Idealize.ShloMosaic.Lib.WordCmp

@[expose] public section

set_option maxRecDepth 16384

noncomputable section

namespace Cert.Reals

open Idealize.ShloMosaic

/-- The entries of the matrix `x` are the real numbers `f row column`. -/
def Rl {m n : ℕ} {φ : FTy} (x : FVec Ideal ⟨2, ![m, n]⟩ φ) (f : ℕ → ℕ → ℝ) : Prop :=
  ∀ (a : Fin m) (b : Fin n), x (ix2 a b) = ((f a b : ℝ) : EReal)

/-- Two real readings of one matrix that agree inside its extents. -/
theorem Rl.congr {m n : ℕ} {φ : FTy} {x : FVec Ideal ⟨2, ![m, n]⟩ φ} {f g : ℕ → ℕ → ℝ} (h : Rl x f)
    (e : ∀ a b, a < m → b < n → f a b = g a b) : Rl x g :=
  fun a b => by rw [h a b, e a b a.isLt b.isLt]

/-- A finite sum of real numbers is the same number whether it is taken before or after they become extended reals. -/
theorem coe_sum {ι : Type*} (s : Finset ι) (F : ι → ℝ) : (∑ k ∈ s, ((F k : ℝ) : EReal)) = ((∑ k ∈ s, F k : ℝ) : EReal) := by
  classical
  induction s using Finset.induction_on with
  | empty => simp
  | insert a s ha ih => rw [Finset.sum_insert ha, Finset.sum_insert ha, ih, EReal.coe_add]

theorem exp_real (r : ℝ) : Ideal.exp (r : EReal) = ((Real.exp r : ℝ) : EReal) := by simp

theorem log_real (r : ℝ) (h : 0 < r) : Ideal.log (r : EReal) = ((Real.log r : ℝ) : EReal) := by
  simp [not_le.mpr h]

theorem abs_real (φ : FTy) (r : ℝ) : FloatOps.absf (F := Ideal) (φ := φ) ((r : ℝ) : EReal) = ((|r| : ℝ) : EReal) := by
  show max ((r : ℝ) : EReal) (-((r : ℝ) : EReal)) = _
  rw [← EReal.coe_neg, abs_eq_max_neg]
  exact (EReal.coe_strictMono.monotone.map_max).symm

theorem min_real (a b : ℝ) : min ((a : ℝ) : EReal) ((b : ℝ) : EReal) = ((min a b : ℝ) : EReal) :=
  (EReal.coe_strictMono.monotone.map_min).symm

theorem max_real (a b : ℝ) : max ((a : ℝ) : EReal) ((b : ℝ) : EReal) = ((max a b : ℝ) : EReal) :=
  (EReal.coe_strictMono.monotone.map_max).symm

theorem ite_real (p : Prop) [Decidable p] (a b : ℝ) :
    (if p then ((a : ℝ) : EReal) else ((b : ℝ) : EReal)) = ((if p then a else b : ℝ) : EReal) := by split <;> rfl

theorem zero_real : (0 : EReal) = ((0 : ℝ) : EReal) := rfl

theorem one_real : (1 : EReal) = ((1 : ℝ) : EReal) := rfl

/-- The literal 0.125. -/
theorem eighth : Ideal.ofBits .f32 0x3E000000#32 = ((1 / 8 : ℝ) : EReal) := by
  have h : Ideal.ofBits .f32 0x3E000000#32 = ((8388608 : ℝ) : EReal) * ((1 / 67108864 : ℝ) : EReal) := by
    simp [Ideal.ofBits, Ideal.ieee]
    norm_num
  rw [h, ← EReal.coe_mul]
  norm_num

/-- The logarithm of the logistic function, written so that the exponential never grows. -/
def LS (z : ℝ) : ℝ := min z 0 - Real.log (1 + Real.exp (0 - |z|))

theorem one_add_exp_pos (x : ℝ) : 0 < 1 + Real.exp x := by positivity

/-- A truth value as a number. -/
theorem sitofp_ofBool (φ : FTy) (p : Bool) :
    FloatOps.sitofp (F := Ideal) φ (BitVec.setWidth 32 (BitVec.ofBool p)) = (((if p then 1 else 0) : ℝ) : EReal) := by
  cases p
  · show (((BitVec.setWidth 32 (BitVec.ofBool false)).toInt : ℝ) : EReal) = _
    rw [show (BitVec.setWidth 32 (BitVec.ofBool false)).toInt = 0 by decide]
    norm_num
  · show (((BitVec.setWidth 32 (BitVec.ofBool true)).toInt : ℝ) : EReal) = _
    rw [show (BitVec.setWidth 32 (BitVec.ofBool true)).toInt = 1 by decide]
    norm_num

/-- The remainder modulo 256 by its bits. -/
theorem and_255 : ∀ a : Fin 512, IntOp.andi (BitVec.ofNat 32 a) 255#32 = BitVec.ofNat 32 ((a : ℕ) % 256) := by decide +kernel

/-- The sign of a difference of two small numbers. -/
theorem sub_slt {b r : ℕ} (hb : b < 256) (hr : r < 256) :
    IntOp.cmpi .slt (IntOp.subi (BitVec.ofNat 32 b) (BitVec.ofNat 32 r)) 0#32 = BitVec.ofBool (decide (b < r)) := by
  show BitVec.ofBool ((BitVec.ofNat 32 b - BitVec.ofNat 32 r).slt 0#32) = _
  congr 1
  rw [BitVec.slt_zero_eq_msb, BitVec.msb_eq_decide]
  simp only [BitVec.toNat_sub, BitVec.toNat_ofNat, decide_eq_decide]
  omega

end Cert.Reals

end
-- ==== Proof.SbStep.lean ====
/- One block of keys in the backward kernel of the stick-breaking attention, in real numbers: what the step computes
   from the stacked queries `q` (512 rows: two heads of 256), the keys `k` and values `v` of the block, the output
   gradients `w`, the row totals `lt` and the running row sums `cp`, `cg`. -/
module

public import proofs.«01_k».proof.Proof.Reals

@[expose] public section

noncomputable section

namespace Cert.Sb

open Cert.Reals

/-- Scores. -/
def zS (q k : ℕ → ℕ → ℝ) (r c : ℕ) : ℝ := ∑ l ∈ Finset.range 128, q r l * k c l

/-- The pairs a block takes part in: all of them off the diagonal (`d = false`), those left of it on the diagonal. -/
abbrev mk (d : Bool) (r c : ℕ) : Prop := d = false ∨ c < r % 256

/-- Logarithms of what a key leaves over. -/
def lkS (d : Bool) (z : ℕ → ℕ → ℝ) (r c : ℕ) : ℝ := if mk d r c then LS (z r c) - z r c else 0

/-- The 0/1 matrix of `c ≤ s`, followed by columns of ones. -/
def triLe (c s : ℕ) : ℝ := if c ≤ s ∨ 256 ≤ s then 1 else 0

/-- The 0/1 matrix of `c < s`, followed by columns of ones. -/
def triLt (c s : ℕ) : ℝ := if c < s ∨ 256 ≤ s then 1 else 0

/-- Running sums within the block, and the block's row sum in the columns from 256 on. -/
def w2S (d : Bool) (z : ℕ → ℕ → ℝ) (r s : ℕ) : ℝ := ∑ c ∈ Finset.range 256, lkS d z r c * triLe c s

/-- Attention weights. -/
def attS (d : Bool) (z : ℕ → ℕ → ℝ) (lt cp : ℕ → ℝ) (r c : ℕ) : ℝ :=
  if mk d r c then Real.exp (LS (z r c) + (lt r - cp r) - w2S d z r c) else 0

/-- Gradients of the weights' logarithms. -/
def deS (d : Bool) (z : ℕ → ℕ → ℝ) (lt cp : ℕ → ℝ) (w v : ℕ → ℕ → ℝ) (r c : ℕ) : ℝ :=
  zS w v r c * attS d z lt cp r c

/-- Their running sums within the block, the row sum in the columns from 256 on. -/
def g2S (d : Bool) (z : ℕ → ℕ → ℝ) (lt cp : ℕ → ℝ) (w v : ℕ → ℕ → ℝ) (r s : ℕ) : ℝ :=
  ∑ c ∈ Finset.range 256, deS d z lt cp w v r c * triLt c s

/-- Gradients of the scores. -/
def dzS (d : Bool) (z : ℕ → ℕ → ℝ) (lt cp cg : ℕ → ℝ) (w v : ℕ → ℕ → ℝ) (r c : ℕ) : ℝ :=
  if mk d r c then
    deS d z lt cp w v r c * (1 - Real.exp (LS (z r c))) - (cg r + g2S d z lt cp w v r c) * Real.exp (LS (z r c))
  else 0

end Cert.Sb

end
-- ==== Proof.SbPay.lean ====
/- Each pure value of the backward attention kernel's body, read as real numbers: the formulas of SbStep. -/
module

public import proofs.«01_k».proof.Proof.Gen.KernelIdeal.Skeleton
public import proofs.«01_k».proof.Proof.SbStep

@[expose] public section

set_option maxRecDepth 16384

noncomputable section

namespace Cert.KernelIdeal.Sb

open Idealize.ShloMosaic Idealize.ShloMosaic.TcCoe
open Idealize.SL.Sem Cert.KernelIdeal Cert.KernelIdeal.Gen Cert.Reals Cert.Sb

/-! ### What precedes the blocks -/

/-- The scaled queries of the two heads of a pair, one head's lanes kept in each half of the rows. -/
def stack (s : ℝ) (x : ℕ → ℕ → ℝ) (r l : ℕ) : ℝ := if l / 64 = r / 256 then x (r % 256) l * s else 0

theorem pay24 {x : Vec Ideal S256x128 .f32} {f : ℕ → ℕ → ℝ} (h : Rl (φ := .f32) x f) :
    Rl (k0_pay24 (F := Ideal) x) (stack (1 / 8) f) := by
  intro a b
  have ha := a.isLt
  have hb := b.isLt
  pointwise [k0_pay24, h _ _, eighth]
  simp (disch := omega) only [hlo_ix]
  simp only [h _ _, eighth, zero_real, ← EReal.coe_mul, ite_real, dite_eq_ite, stack]
  congr 1
  by_cases h1 : (a : ℕ) < 256
  · have e1 : (a : ℕ) / 256 = 0 := by omega
    have e2 : (a : ℕ) % 256 = a := by omega
    rw [if_pos h1, e1, e2]
    exact if_congr (by omega) rfl rfl
  · have e1 : (a : ℕ) / 256 = 1 := by omega
    have e2 : (a : ℕ) % 256 = a - 256 := by omega
    rw [if_neg h1, e1, e2]
    exact if_congr (by omega) rfl rfl

theorem pay29 {x : Vec Ideal S256x128 .f32} {f : ℕ → ℕ → ℝ} (h : Rl (φ := .f32) x f) :
    Rl (k0_pay29 (F := Ideal) (iota .tc S256x128 32 [1] iota_S256x128_d1_w32) x k0_pay28) (stack 1 f) := by
  intro a b
  have ha := a.isLt
  have hb := b.isLt
  pointwise [k0_pay29, k0_pay28]
  simp (disch := omega) only [hlo_ix]
  simp only [h _ _, zero_real, ← EReal.coe_mul, ite_real, dite_eq_ite, stack, mul_one]
  congr 1
  by_cases h1 : (a : ℕ) < 256
  · have e1 : (a : ℕ) / 256 = 0 := by omega
    have e2 : (a : ℕ) % 256 = a := by omega
    rw [if_pos h1, e1, e2]
    exact if_congr (by omega) rfl rfl
  · have e1 : (a : ℕ) / 256 = 1 := by omega
    have e2 : (a : ℕ) % 256 = a - 256 := by omega
    rw [if_neg h1, e1, e2]
    exact if_congr (by omega) rfl rfl

theorem pay26 : Rl (k0_pay26 (F := Ideal)) triLe := by
  intro a b
  have ha := a.isLt
  have hb := b.isLt
  pointwise [k0_pay26]
  simp (disch := omega) only [hlo_ix]
  rw [sitofp_ofBool]
  simp [triLe]

theorem pay27 : Rl (k0_pay27 (F := Ideal)) triLt := by
  intro a b
  have ha := a.isLt
  have hb := b.isLt
  pointwise [k0_pay27]
  simp (disch := omega) only [hlo_ix]
  rw [sitofp_ofBool]
  simp [triLt]

theorem pay30 {x y : Vec Ideal S1x256x128 .f32} {f : ℕ → ℝ}
    (hx : ∀ (a : Fin 256) (b : Fin 128), x (ix3 0 a b) = ((f a : ℝ) : EReal))
    (hy : ∀ (a : Fin 256) (b : Fin 128), y (ix3 0 a b) = ((f (256 + a) : ℝ) : EReal)) :
    Rl (k0_pay30 (F := Ideal) x y) (fun r _ => f r) := by
  intro a b
  have ha := a.isLt
  pointwise [k0_pay30]
  by_cases h1 : (a : ℕ) < 256
  · rw [dif_pos h1, hx]
  · rw [dif_neg h1, hy]
    show ((f (256 + ((a : ℕ) - 256)) : ℝ) : EReal) = _
    rw [show 256 + ((a : ℕ) - 256) = a by omega]

theorem pay31 : Rl (k0_pay31 (F := Ideal)) (fun _ _ => 0) := by
  intro a b
  pointwise [k0_pay31]
  rfl

section Loop

variable {v16 v50 : FVec Ideal S512x128 .bf16} {v55 cp cg : FVec Ideal S512x128 .f32} {k v : Vec Ideal S256x128 .f32}
  {q w kf vf : ℕ → ℕ → ℝ} {ltf cpf cgf : ℕ → ℝ}

theorem pay5 (hq : Rl v16 q) (hk : Rl (φ := .f32) k kf) : Rl (k0_pay5 (F := Ideal) v16 k) (zS q kf) := by
  intro a b
  pointwise [k0_pay5, k0_pay4]
  simp only [hq _ _, hk _ _, zero_add, ← EReal.coe_mul, coe_sum, zS, Finset.sum_range]

theorem pay6 (hq : Rl v16 q) (hk : Rl (φ := .f32) k kf) : Rl (k0_pay6 (F := Ideal) v16 k) (fun r c => LS (zS q kf r c)) := by
  intro a b
  have hz := pay5 hq hk a b
  pointwise [k0_pay6]
  rw [hz, abs_real]
  simp only [zero_real, one_real, min_real, ← EReal.coe_sub, exp_real, ← EReal.coe_add, log_real _ (one_add_exp_pos _), LS]

theorem pay7 (hq : Rl v16 q) (hk : Rl (φ := .f32) k kf) :
    Rl (k0_pay7 (F := Ideal) v16 k0_pay26 k) (w2S false (zS q kf)) := by
  intro a b
  pointwise [k0_pay7]
  simp only [pay5 hq hk _ _, pay6 hq hk _ _, pay26 _ _, ← EReal.coe_sub, sub_self, ← EReal.coe_mul, coe_sum, zero_mul,
    Finset.sum_const_zero, ← EReal.coe_add, add_zero, w2S, lkS, mk, Finset.sum_range, true_or, if_true]

theorem pay8 (hq : Rl v16 q) (hk : Rl (φ := .f32) k kf) (hl : Rl v55 (fun r _ => ltf r)) (hc : Rl cp (fun r _ => cpf r)) :
    Rl (k0_pay8 (F := Ideal) v16 k0_pay26 v55 cp k) (attS false (zS q kf) ltf cpf) := by
  intro a b
  pointwise [k0_pay8]
  simp only [pay7 hq hk _ _, pay6 hq hk _ _, hl _ _, hc _ _, ← EReal.coe_sub, dite_eq_ite, ite_self, ← EReal.coe_add, exp_real,
    attS, mk, true_or, if_true, Nat.zero_add]

theorem pay9 (hq : Rl v16 q) (hk : Rl (φ := .f32) k kf) (hl : Rl v55 (fun r _ => ltf r)) (hc : Rl cp (fun r _ => cpf r))
    (hw : Rl v50 w) (hv : Rl (φ := .f32) v vf) :
    Rl (k0_pay9 (F := Ideal) v16 k0_pay26 v50 v55 cp k v) (deS false (zS q kf) ltf cpf w vf) := by
  intro a b
  pointwise [k0_pay9]
  simp only [pay8 hq hk hl hc _ _, hw _ _, hv _ _, zero_add, ← EReal.coe_mul, coe_sum, deS, zS, Finset.sum_range]

theorem pay10 (hq : Rl v16 q) (hk : Rl (φ := .f32) k kf) (hl : Rl v55 (fun r _ => ltf r)) (hc : Rl cp (fun r _ => cpf r))
    (hw : Rl v50 w) (hv : Rl (φ := .f32) v vf) :
    Rl (k0_pay10 (F := Ideal) v16 k0_pay26 k0_pay27 v50 v55 cp k v) (g2S false (zS q kf) ltf cpf w vf) := by
  intro a b
  pointwise [k0_pay10]
  simp only [pay9 hq hk hl hc hw hv _ _, pay27 _ _, ← EReal.coe_sub, sub_self, ← EReal.coe_mul, coe_sum, zero_mul,
    Finset.sum_const_zero, ← EReal.coe_add, add_zero, g2S, Finset.sum_range]

/-- The score gradients of a block off the diagonal. -/
theorem pay32 (hq : Rl v16 q) (hk : Rl (φ := .f32) k kf) (hl : Rl v55 (fun r _ => ltf r)) (hc : Rl cp (fun r _ => cpf r))
    (hw : Rl v50 w) (hv : Rl (φ := .f32) v vf) (hg : Rl cg (fun r _ => cgf r)) :
    Rl (k0_pay32 (F := Ideal) cg (k0_pay10 v16 k0_pay26 k0_pay27 v50 v55 cp k v) (k0_pay11 v16 k)
      (k0_pay12 v16 k0_pay26 v50 v55 cp k v)) (dzS false (zS q kf) ltf cpf cgf w vf) := by
  intro a b
  pointwise [k0_pay32, k0_pay11, k0_pay12]
  simp only [pay10 hq hk hl hc hw hv _ _, pay9 hq hk hl hc hw hv _ _, pay6 hq hk _ _, hg _ _, exp_real, one_real,
    ← EReal.coe_sub, dite_eq_ite, ite_self, ← EReal.coe_mul, ← EReal.coe_add, dzS, mk, true_or, if_true, Nat.zero_add]

/-- The queries' gradient after the block. -/
theorem pay33 {dq : FVec Ideal S512x128 .f32} {g : FVec Ideal S512x384 .f32} {e f : FVec Ideal S512x256 .f32}
    {dqf dz : ℕ → ℕ → ℝ} (hk : Rl (φ := .f32) k kf) (hd : Rl dq dqf) (hz : Rl (k0_pay32 (F := Ideal) cg g e f) dz) :
    Rl (k0_pay33 (F := Ideal) cg dq (k0_pay4 k) g e f) (fun r l => dqf r l + ∑ c ∈ Finset.range 256, dz r c * kf c l) := by
  intro a b
  pointwise [k0_pay33, k0_pay4]
  simp only [hd _ _, hz _ _, hk _ _, zero_add, ← EReal.coe_mul, coe_sum, ← EReal.coe_add, Finset.sum_range]

/-- The keys' gradient after the block. -/
theorem pay34 {x : Vec Ideal S256x128 .f32} {g : FVec Ideal S512x384 .f32} {e f : FVec Ideal S512x256 .f32}
    {xf dz : ℕ → ℕ → ℝ} (hq : Rl v16 q) (hx : Rl (φ := .f32) x xf) (hz : Rl (k0_pay32 (F := Ideal) cg g e f) dz) :
    Rl (k0_pay34 (F := Ideal) v16 cg g e f x) (fun c l => xf c l + ∑ r ∈ Finset.range 512, dz r c * q r l) := by
  intro a b
  pointwise [k0_pay34]
  simp only [hx _ _, hz _ _, hq _ _, zero_add, ← EReal.coe_mul, coe_sum, ← EReal.coe_add, Finset.sum_range]

/-- The values' gradient after the block. -/
theorem pay35 {v3 : IVec S256x128 32} {v40 : Vec Ideal S256x128 .f32} {v41 : IVec S256x128 32} {x : Vec Ideal S256x128 .f32}
    {at' : FVec Ideal S512x256 .f32} {xf att : ℕ → ℕ → ℝ} (hw : Rl (k0_pay29 (F := Ideal) v3 v40 v41) w)
    (hx : Rl (φ := .f32) x xf) (ha : Rl at' att) :
    Rl (k0_pay35 (F := Ideal) v3 v40 v41 at' x) (fun c l => xf c l + ∑ r ∈ Finset.range 512, att r c * w r l) := by
  intro a b
  pointwise [k0_pay35]
  simp only [hx _ _, hw _ _, ha _ _, zero_add, ← EReal.coe_mul, coe_sum, ← EReal.coe_add, Finset.sum_range]

/-- The running sums after the block: the columns from 256 on of a 0/1 product hold the row's sum. -/
theorem pay36 {g : FVec Ideal S512x384 .f32} {f : ℕ → ℕ → ℝ} {gf : ℕ → ℝ} (hc : Rl cp (fun r _ => cpf r)) (hg : Rl g f)
    (h : ∀ r s, 256 ≤ s → f r s = gf r) : Rl (k0_pay36 (F := Ideal) cp g) (fun r _ => cpf r + gf r) := by
  intro a b
  pointwise [k0_pay36]
  simp only [hc _ _, hg _ _, ← EReal.coe_add]
  rw [h _ _ (Nat.le_add_right _ _)]

theorem pay37 {g : FVec Ideal S512x384 .f32} {f : ℕ → ℕ → ℝ} {gf : ℕ → ℝ} (hc : Rl cp (fun r _ => cpf r)) (hg : Rl g f)
    (h : ∀ r s, 256 ≤ s → f r s = gf r) : Rl (k0_pay37 (F := Ideal) cp g) (fun r _ => cpf r + gf r) := by
  intro a b
  pointwise [k0_pay37]
  simp only [hc _ _, hg _ _, ← EReal.coe_add]
  rw [h _ _ (Nat.le_add_right _ _)]

end Loop

section Diagonal

variable {v16 v50 : FVec Ideal S512x128 .bf16} {v55 cp cg : FVec Ideal S512x128 .f32} {k v : Vec Ideal S256x128 .f32}
  {q w kf vf : ℕ → ℕ → ℝ} {ltf cpf cgf : ℕ → ℝ}

theorem pay46 (hq : Rl v16 q) (hk : Rl (φ := .f32) k kf) : Rl (k0_pay46 (F := Ideal) v16 k) (zS q kf) := by
  intro a b
  pointwise [k0_pay46, k0_pay44]
  simp only [hq _ _, hk _ _, zero_add, ← EReal.coe_mul, coe_sum, zS, Finset.sum_range]

theorem pay49 (hq : Rl v16 q) (hk : Rl (φ := .f32) k kf) :
    Rl (k0_pay49 (F := Ideal) (k0_pay47 v16 k) (k0_pay48 v16 k)) (fun r c => LS (zS q kf r c)) := by
  intro a b
  have hz := pay46 hq hk a b
  pointwise [k0_pay49, k0_pay47, k0_pay48]
  rw [hz, abs_real]
  simp only [zero_real, one_real, min_real, ← EReal.coe_sub, exp_real, ← EReal.coe_add, log_real _ (one_add_exp_pos _), LS]

/-- The diagonal's condition on column and row, as the words of the program decide it. -/
theorem diff_neg (a : Fin 512) (b : Fin 256) :
    IntOp.cmpi .slt (k0_pay25 (ix2 a b)) 0#32 = BitVec.ofBool (decide ((b : ℕ) < (a : ℕ) % 256)) := by
  have ha := a.isLt
  have hb := b.isLt
  pointwise [k0_pay25]
  rw [and_255, sub_slt hb (Nat.mod_lt _ (by decide))]

theorem pay50 (hq : Rl v16 q) (hk : Rl (φ := .f32) k kf) (hl : Rl v55 (fun r _ => ltf r)) (hc : Rl cp (fun r _ => cpf r)) :
    Rl (k0_pay50 (F := Ideal) k0_pay25 k0_pay26 v55 cp (k0_pay46 v16 k) (k0_pay47 v16 k) (k0_pay48 v16 k))
      (attS true (zS q kf) ltf cpf) := by
  intro a b
  pointwise [k0_pay50]
  simp only [diff_neg, pay46 hq hk _ _, pay49 hq hk _ _, pay26 _ _, hl _ _, hc _ _]
  simp (disch := omega) only [hlo_ix]
  simp only [zero_real, ← EReal.coe_sub, dite_eq_ite, ite_self, ite_real, sub_self, ← EReal.coe_mul, coe_sum, zero_mul,
    Finset.sum_const_zero, ← EReal.coe_add, exp_real,
    attS, mk, w2S, lkS, Finset.sum_range, Bool.true_eq_false, false_or, Nat.zero_add, zero_add, add_zero, ite_mul]

theorem pay51 (hq : Rl v16 q) (hk : Rl (φ := .f32) k kf) (hl : Rl v55 (fun r _ => ltf r)) (hc : Rl cp (fun r _ => cpf r))
    (hw : Rl v50 w) (hv : Rl (φ := .f32) v vf) (hg : Rl cg (fun r _ => cgf r)) :
    Rl (k0_pay51 (F := Ideal) k0_pay25 k0_pay26 k0_pay27 v50 v55 cp cg (k0_pay45 v) (k0_pay46 v16 k) (k0_pay47 v16 k) (k0_pay48 v16 k))
      (dzS true (zS q kf) ltf cpf cgf w vf) := by
  intro a b
  pointwise [k0_pay51, k0_pay45]
  simp only [diff_neg, pay50 hq hk hl hc _ _, pay49 hq hk _ _, pay27 _ _, hw _ _, hv _ _, hg _ _]
  simp (disch := omega) only [hlo_ix]
  simp only [zero_real, one_real, ← EReal.coe_sub, dite_eq_ite, ite_self, ite_real, ← EReal.coe_mul, coe_sum, sub_self, zero_mul,
    Finset.sum_const_zero, ← EReal.coe_add, exp_real,
    dzS, mk, g2S, deS, Finset.sum_range, Bool.true_eq_false, false_or, Nat.zero_add, zero_add, add_zero]
  simp only [zS, Finset.sum_range]

/-- What the diagonal block adds to its rows of the keys' gradient. -/
theorem pay1 {x : Vec Ideal S256x128 .f32} {z : FVec Ideal S512x256 .bf16} {xf dz : ℕ → ℕ → ℝ} (hq : Rl v16 q)
    (hx : Rl (φ := .f32) x xf) (hz : Rl z dz) :
    Rl (k0_pay1 (F := Ideal) v16 z x) (fun c l => xf c l + ∑ r ∈ Finset.range 512, dz r c * q r l) := by
  intro a b
  pointwise [k0_pay1]
  simp only [hx _ _, hz _ _, hq _ _, zero_add, ← EReal.coe_mul, coe_sum, ← EReal.coe_add, Finset.sum_range]

/-- What the diagonal block adds to its rows of the values' gradient. -/
theorem pay2 {x : Vec Ideal S256x128 .f32} {z : FVec Ideal S512x256 .f32} {xf att : ℕ → ℕ → ℝ} (hw : Rl v50 w)
    (hx : Rl (φ := .f32) x xf) (hz : Rl z att) :
    Rl (k0_pay2 (F := Ideal) v50 z x) (fun c l => xf c l + ∑ r ∈ Finset.range 512, att r c * w r l) := by
  intro a b
  pointwise [k0_pay2]
  simp only [hx _ _, hz _ _, hw _ _, zero_add, ← EReal.coe_mul, coe_sum, ← EReal.coe_add, Finset.sum_range]

/-- The queries' gradient: each half of the lanes from its own half of the rows, scaled. -/
theorem pay3 {dq : FVec Ideal S512x128 .f32} {z : FVec Ideal S512x256 .bf16} {dqf dz : ℕ → ℕ → ℝ}
    (hk : Rl (φ := .f32) k kf) (hd : Rl dq dqf) (hz : Rl z dz) :
    Rl (k0_pay3 (F := Ideal) (iota .tc S256x128 32 [1] iota_S256x128_d1_w32) dq (k0_pay44 k) z (constant S512x128 .f32 0x00000000#32))
      (fun p l => (dqf (l / 64 * 256 + p) l + ∑ c ∈ Finset.range 256, dz (l / 64 * 256 + p) c * kf c l) * (1 / 8)) := by
  intro a b
  have hb := b.isLt
  pointwise [k0_pay3, k0_pay44]
  simp (disch := omega) only [hlo_ix]
  simp only [hd _ _, hz _ _, hk _ _, zero_add, ← EReal.coe_mul, coe_sum, ← EReal.coe_add, Finset.sum_range, eighth, ite_real]
  congr 1
  by_cases h1 : (b : ℕ) < 64
  · have e1 : (b : ℕ) / 64 = 0 := by omega
    simp only [if_pos h1, e1, zero_mul, Nat.zero_add]
  · have e1 : (b : ℕ) / 64 = 1 := by omega
    simp only [if_neg h1, e1, one_mul]

end Diagonal

end Cert.KernelIdeal.Sb

end
-- ==== Proof.SbRow.lean ====
/- The backward pass of one block of 256 query rows (two heads stacked: 512 rows) over all keys, in real numbers, and
   that the blocks' steps of SbStep add up to it. -/
module

public import proofs.«01_k».proof.Proof.SbStep

@[expose] public section

noncomputable section

namespace Cert.Sb

open Cert.Reals Finset

variable (i : ℕ) (q w k v : ℕ → ℕ → ℝ) (lt : ℕ → ℝ)

/-- The keys before the row's own position. -/
abbrev seen (i r J : ℕ) : Prop := J < 256 * i + r % 256

/-- The logarithm of what key `J` leaves over. -/
def lkR (r J : ℕ) : ℝ := if seen i r J then LS (zS q k r J) - zS q k r J else 0

/-- The weight of key `J`. -/
def attR (r J : ℕ) : ℝ :=
  if seen i r J then Real.exp (LS (zS q k r J) + lt r - ∑ j ∈ range (J + 1), lkR i q k r j) else 0

/-- The gradient of its logarithm. -/
def eR (r J : ℕ) : ℝ := zS w v r J * attR i q k lt r J

/-- The gradient of the score. -/
def dzR (r J : ℕ) : ℝ :=
  if seen i r J then
    eR i q w k v lt r J * (1 - Real.exp (LS (zS q k r J))) - (∑ j ∈ range J, eR i q w k v lt r j) * Real.exp (LS (zS q k r J))
  else 0

/-- Rows `256 n, 256 n + 1, …` of a matrix. -/
def rowsFrom (n : ℕ) (x : ℕ → ℕ → ℝ) (c l : ℕ) : ℝ := x (256 * n + c) l

theorem sum_le (F : ℕ → ℝ) {s : ℕ} (hs : s < 256) : (∑ c ∈ range 256, F c * triLe c s) = ∑ c ∈ range (s + 1), F c := by
  have h : ∀ c, F c * triLe c s = if c ∈ range (s + 1) then F c else 0 := fun c => by
    unfold triLe
    by_cases hc : c ≤ s
    · rw [if_pos (Or.inl hc), if_pos (mem_range.mpr (by omega)), mul_one]
    · rw [if_neg (by omega), if_neg (by rw [mem_range]; omega), mul_zero]
  simp only [h]
  rw [← sum_filter, filter_mem_eq_inter, inter_eq_right.mpr (range_subset_range.mpr (by omega))]

theorem sum_lt (F : ℕ → ℝ) {s : ℕ} (hs : s < 256) : (∑ c ∈ range 256, F c * triLt c s) = ∑ c ∈ range s, F c := by
  have h : ∀ c, F c * triLt c s = if c ∈ range s then F c else 0 := fun c => by
    unfold triLt
    by_cases hc : c < s
    · rw [if_pos (Or.inl hc), if_pos (mem_range.mpr hc), mul_one]
    · rw [if_neg (by omega), if_neg (by rw [mem_range]; omega), mul_zero]
  simp only [h]
  rw [← sum_filter, filter_mem_eq_inter, inter_eq_right.mpr (range_subset_range.mpr (by omega))]

theorem sum_all_le (F : ℕ → ℝ) {s : ℕ} (hs : 256 ≤ s) : (∑ c ∈ range 256, F c * triLe c s) = ∑ c ∈ range 256, F c :=
  sum_congr rfl fun c _ => by unfold triLe; rw [if_pos (Or.inr hs), mul_one]

theorem sum_all_lt (F : ℕ → ℝ) {s : ℕ} (hs : 256 ≤ s) : (∑ c ∈ range 256, F c * triLt c s) = ∑ c ∈ range 256, F c :=
  sum_congr rfl fun c _ => by unfold triLt; rw [if_pos (Or.inr hs), mul_one]

/-- A block off the diagonal lies before it; the block on it is its own. -/
def blockOk (d : Bool) (i n : ℕ) : Prop := (d = false ∧ n < i) ∨ (d = true ∧ n = i)

section Block

variable {i q w k v lt} {d : Bool} {n : ℕ} (h : blockOk d i n) {r c : ℕ}
include h

theorem mk_iff (hc : c < 256) : mk d r c ↔ seen i r (256 * n + c) := by
  unfold mk seen
  rcases h with ⟨rfl, hn⟩ | ⟨rfl, rfl⟩
  · simp only [true_or, true_iff]; omega
  · simp only [Bool.true_eq_false, false_or]; omega

theorem lkS_eq (hc : c < 256) : lkS d (zS q (rowsFrom n k)) r c = lkR i q k r (256 * n + c) := by
  unfold lkS lkR
  exact if_congr (mk_iff h hc) rfl rfl

theorem w2S_row {s : ℕ} (hs : 256 ≤ s) :
    w2S d (zS q (rowsFrom n k)) r s = ∑ c ∈ range 256, lkR i q k r (256 * n + c) := by
  unfold w2S
  rw [sum_all_le _ hs]
  exact sum_congr rfl fun c hc => lkS_eq h (mem_range.mp hc)

theorem attS_eq (hc : c < 256) :
    attS d (zS q (rowsFrom n k)) lt (fun r => ∑ j ∈ range (256 * n), lkR i q k r j) r c = attR i q k lt r (256 * n + c) := by
  unfold attS attR
  refine if_congr (mk_iff h hc) ?_ rfl
  unfold w2S
  rw [sum_le _ hc, Nat.add_assoc, sum_range_add _ (256 * n)]
  have e : ∑ x ∈ range (c + 1), lkS d (zS q (rowsFrom n k)) r x = ∑ x ∈ range (c + 1), lkR i q k r (256 * n + x) :=
    sum_congr rfl fun x hx => lkS_eq h (by rw [mem_range] at hx; omega)
  rw [e]
  congr 1
  show LS (zS q k r (256 * n + c)) + _ - _ = _
  ring

theorem deS_eq (hc : c < 256) :
    deS d (zS q (rowsFrom n k)) lt (fun r => ∑ j ∈ range (256 * n), lkR i q k r j) w (rowsFrom n v) r c
      = eR i q w k v lt r (256 * n + c) := by
  unfold deS eR
  rw [attS_eq h hc]
  rfl

theorem g2S_row {s : ℕ} (hs : 256 ≤ s) :
    g2S d (zS q (rowsFrom n k)) lt (fun r => ∑ j ∈ range (256 * n), lkR i q k r j) w (rowsFrom n v) r s
      = ∑ c ∈ range 256, eR i q w k v lt r (256 * n + c) := by
  unfold g2S
  rw [sum_all_lt _ hs]
  exact sum_congr rfl fun c hc => deS_eq h (mem_range.mp hc)

theorem dzS_eq (hc : c < 256) :
    dzS d (zS q (rowsFrom n k)) lt (fun r => ∑ j ∈ range (256 * n), lkR i q k r j)
        (fun r => ∑ j ∈ range (256 * n), eR i q w k v lt r j) w (rowsFrom n v) r c
      = dzR i q w k v lt r (256 * n + c) := by
  unfold dzS dzR
  refine if_congr (mk_iff h hc) ?_ rfl
  rw [deS_eq h hc]
  unfold g2S
  rw [sum_lt _ hc, sum_range_add _ (256 * n)]
  have e : ∑ x ∈ range c, deS d (zS q (rowsFrom n k)) lt (fun r => ∑ j ∈ range (256 * n), lkR i q k r j) w (rowsFrom n v) r x
      = ∑ x ∈ range c, eR i q w k v lt r (256 * n + x) :=
    sum_congr rfl fun x hx => deS_eq h (by rw [mem_range] at hx; omega)
  rw [e]
  rfl

end Block

end Cert.Sb

end
-- ==== Proof.SbHead.lean ====
/- Stick-breaking attention of one sequence, head by head, in real numbers: the weights and the gradients, and that a
   block of 256 queries of two stacked heads computes them. `A` holds the projections (queries in columns 0 to 511, keys
   in 512 to 1023, values in 1024 to 1535), `B` the gradient of the output. -/
module

public import proofs.«01_k».proof.Proof.SbPay
public import proofs.«01_k».proof.Proof.SbRow

@[expose] public section

noncomputable section

namespace Cert.Sb

open Cert.Reals Finset Cert.KernelIdeal.Sb

variable (A B : ℕ → ℕ → ℝ)

/-- The score of query `I` and key `J` in head `h`. -/
def zH (h I J : ℕ) : ℝ := (∑ d ∈ range 64, A I (64 * h + d) * A J (512 + (64 * h + d))) * (1 / 8)

/-- The logarithm of what key `J` leaves over. -/
def lkH (h I J : ℕ) : ℝ := if J < I then LS (zH A h I J) - zH A h I J else 0

/-- What all the keys leave over. -/
def ltH (h I : ℕ) : ℝ := ∑ J ∈ range 2048, lkH A h I J

/-- The weight of key `J`. -/
def attH (h I J : ℕ) : ℝ :=
  if J < I then Real.exp (LS (zH A h I J) + ltH A h I - ∑ j ∈ range (J + 1), lkH A h I j) else 0

/-- The gradient of the weight. -/
def dattH (h I J : ℕ) : ℝ := ∑ d ∈ range 64, B I (64 * h + d) * A J (1024 + (64 * h + d))

/-- The gradient of the weight's logarithm. -/
def eH (h I J : ℕ) : ℝ := dattH A B h I J * attH A h I J

/-- The gradient of the score. -/
def dzH (h I J : ℕ) : ℝ :=
  if J < I then eH A B h I J * (1 - Real.exp (LS (zH A h I J))) - (∑ j ∈ range J, eH A B h I j) * Real.exp (LS (zH A h I J))
  else 0

/-- The gradient of the queries. -/
def dqH (I n : ℕ) : ℝ := ∑ J ∈ range 2048, dzH A B (n / 64) I J * (1 / 8) * A J (512 + n)

/-- The gradient of the keys. -/
def dkH (J n : ℕ) : ℝ := ∑ I ∈ range 2048, dzH A B (n / 64) I J * (1 / 8) * A I n

/-- The gradient of the values. -/
def dvH (J n : ℕ) : ℝ := ∑ I ∈ range 2048, B I n * attH A (n / 64) I J

/-- A product of a stacked row runs over the columns of the row's own head. -/
theorem zS_stack (s : ℝ) (X Y : ℕ → ℕ → ℝ) {b p : ℕ} (hb : b < 2) (hp : p < 256) (J : ℕ) :
    zS (stack s X) Y (256 * b + p) J = (∑ d ∈ range 64, X p (64 * b + d) * Y J (64 * b + d)) * s := by
  unfold zS
  have e : ∀ l, stack s X (256 * b + p) l = if l / 64 = b then X p l * s else 0 := fun l => by
    unfold stack
    rw [show (256 * b + p) / 256 = b by omega, show (256 * b + p) % 256 = p by omega]
  simp only [e]
  rw [show (128 : ℕ) = 64 + 64 from rfl, sum_range_add, sum_mul]
  obtain rfl | rfl : b = 0 ∨ b = 1 := by omega
  · rw [sum_eq_zero (s := range 64) (f := fun x => (if (64 + x) / 64 = 0 then X p (64 + x) * s else 0) * Y J (64 + x))
      (fun x hx => by rw [if_neg (by omega), zero_mul]), add_zero]
    refine sum_congr rfl fun d hd => ?_
    have := mem_range.mp hd
    rw [if_pos (by omega), Nat.mul_zero, Nat.zero_add]
    ring
  · rw [sum_eq_zero (s := range 64) (f := fun x => (if x / 64 = 1 then X p x * s else 0) * Y J x)
      (fun x hx => by have := mem_range.mp hx; rw [if_neg (by omega), zero_mul]), zero_add]
    refine sum_congr rfl fun d hd => ?_
    have := mem_range.mp hd
    rw [if_pos (by omega)]
    ring

/-- The blocks of the arrays at grid point `(j, i)`. -/
def qB (j i p l : ℕ) : ℝ := A (256 * i + p) (128 * j + l)
def kB (j J l : ℕ) : ℝ := A J (128 * (4 + j) + l)
def vB (j J l : ℕ) : ℝ := A J (128 * (8 + j) + l)
def ltB (j i r : ℕ) : ℝ := ltH A (2 * j + r / 256) (256 * i + r % 256)

section Block

variable {A B} {j i b p : ℕ} (hb : b < 2) (hp : p < 256) (J : ℕ)
include hb hp

theorem z_row : zS (stack (1 / 8) (qB A j i)) (kB A j) (256 * b + p) J = zH A (2 * j + b) (256 * i + p) J := by
  rw [zS_stack _ _ _ hb hp]
  unfold zH qB kB
  congr 1
  refine sum_congr rfl fun d _ => ?_
  congr 2 <;> omega

theorem datt_row : zS (stack 1 (qB B j i)) (vB A j) (256 * b + p) J = dattH A B (2 * j + b) (256 * i + p) J := by
  rw [zS_stack _ _ _ hb hp, mul_one]
  unfold dattH qB vB
  refine sum_congr rfl fun d _ => ?_
  congr 2 <;> omega

theorem seen_row : seen i (256 * b + p) J ↔ J < 256 * i + p := by
  unfold seen
  omega

theorem lk_row : lkR i (stack (1 / 8) (qB A j i)) (kB A j) (256 * b + p) J = lkH A (2 * j + b) (256 * i + p) J := by
  unfold lkR lkH
  rw [z_row hb hp]
  exact if_congr (seen_row hb hp J) rfl rfl

theorem att_row : attR i (stack (1 / 8) (qB A j i)) (kB A j) (ltB A j i) (256 * b + p) J = attH A (2 * j + b) (256 * i + p) J := by
  unfold attR attH
  have hl : ltB A j i (256 * b + p) = ltH A (2 * j + b) (256 * i + p) := by
    unfold ltB
    rw [show (256 * b + p) / 256 = b by omega, show (256 * b + p) % 256 = p by omega]
  simp only [z_row hb hp, lk_row hb hp, hl]
  exact if_congr (seen_row hb hp J) rfl rfl

theorem e_row : eR i (stack (1 / 8) (qB A j i)) (stack 1 (qB B j i)) (kB A j) (vB A j) (ltB A j i) (256 * b + p) J
    = eH A B (2 * j + b) (256 * i + p) J := by
  unfold eR eH
  rw [datt_row hb hp, att_row hb hp]

theorem dz_row : dzR i (stack (1 / 8) (qB A j i)) (stack 1 (qB B j i)) (kB A j) (vB A j) (ltB A j i) (256 * b + p) J
    = dzH A B (2 * j + b) (256 * i + p) J := by
  unfold dzR dzH
  simp only [z_row hb hp, e_row hb hp]
  exact if_congr (seen_row hb hp J) rfl rfl

end Block

variable {A B}

/-- A block's rows of the gradient of the queries. -/
theorem dq_block {j i p l : ℕ} (hi : i < 8) (hp : p < 256) (hl : l < 128) :
    (∑ J ∈ range (256 * (i + 1)), dzR i (stack (1 / 8) (qB A j i)) (stack 1 (qB B j i)) (kB A j) (vB A j) (ltB A j i) (l / 64 * 256 + p) J
      * kB A j J l) * (1 / 8) = dqH A B (256 * i + p) (128 * j + l) := by
  unfold dqH
  rw [← sum_subset (range_subset_range.mpr (show 256 * (i + 1) ≤ 2048 by omega)) (fun J _ hJ => by
    rw [mem_range] at hJ
    unfold dzH
    rw [if_neg (by omega), zero_mul, zero_mul]), sum_mul]
  refine sum_congr rfl fun J _ => ?_
  rw [show l / 64 * 256 + p = 256 * (l / 64) + p by omega, dz_row (by omega) hp,
    show 2 * j + l / 64 = (128 * j + l) / 64 by omega]
  unfold kB
  rw [show 128 * (4 + j) + l = 512 + (128 * j + l) by omega]
  ring

/-- A sum over the stacked rows with a stacked factor keeps the rows of the column's head. -/
theorem sum_stack (s : ℝ) (X : ℕ → ℕ → ℝ) (F : ℕ → ℝ) {l : ℕ} (hl : l < 128) :
    ∑ r ∈ range 512, F r * stack s X r l = ∑ p ∈ range 256, F (256 * (l / 64) + p) * (X p l * s) := by
  have e : ∀ b p, p < 256 → stack s X (256 * b + p) l = if l / 64 = b then X p l * s else 0 := fun b p hp => by
    unfold stack
    rw [show (256 * b + p) / 256 = b by omega, show (256 * b + p) % 256 = p by omega]
  rw [show (512 : ℕ) = 256 + 256 from rfl, sum_range_add]
  have e0 : ∀ p, p < 256 → stack s X p l = if l / 64 = 0 then X p l * s else 0 := fun p hp => by
    have := e 0 p hp
    rwa [Nat.mul_zero, Nat.zero_add] at this
  have e1 : ∀ p, p < 256 → stack s X (256 + p) l = if l / 64 = 1 then X p l * s else 0 := fun p hp => e 1 p hp
  obtain hb | hb : l / 64 = 0 ∨ l / 64 = 1 := by omega
  · rw [sum_eq_zero (s := range 256) (f := fun x => F (256 + x) * stack s X (256 + x) l)
      (fun x hx => by rw [e1 x (mem_range.mp hx), if_neg (by omega), mul_zero]), add_zero]
    refine sum_congr rfl fun p hp => ?_
    rw [e0 p (mem_range.mp hp), if_pos hb, hb, Nat.mul_zero, Nat.zero_add]
  · rw [sum_eq_zero (s := range 256) (f := fun x => F x * stack s X x l)
      (fun x hx => by rw [e0 x (mem_range.mp hx), if_neg (by omega), mul_zero]), zero_add]
    refine sum_congr rfl fun p hp => ?_
    rw [e1 p (mem_range.mp hp), if_pos hb, hb, Nat.mul_one]

/-- What the blocks up to `i` give to the gradient of the keys. -/
def dkTo (A B : ℕ → ℕ → ℝ) (j i J l : ℕ) : ℝ :=
  ∑ I ∈ range (256 * i), dzH A B ((128 * j + l) / 64) I J * (1 / 8) * A I (128 * j + l)

/-- What the blocks up to `i` give to the gradient of the values. -/
def dvTo (A B : ℕ → ℕ → ℝ) (j i J l : ℕ) : ℝ :=
  ∑ I ∈ range (256 * i), B I (128 * j + l) * attH A ((128 * j + l) / 64) I J

theorem dk_block {j i J l : ℕ} (hl : l < 128) :
    dkTo A B j i J l + ∑ r ∈ range 512, dzR i (stack (1 / 8) (qB A j i)) (stack 1 (qB B j i)) (kB A j) (vB A j) (ltB A j i) r J
      * stack (1 / 8) (qB A j i) r l = dkTo A B j (i + 1) J l := by
  unfold dkTo
  rw [sum_stack _ _ _ hl, Nat.mul_succ, sum_range_add _ (256 * i)]
  congr 1
  refine sum_congr rfl fun p hp => ?_
  rw [dz_row (by omega) (mem_range.mp hp), show 2 * j + l / 64 = (128 * j + l) / 64 by omega]
  unfold qB
  ring

theorem dv_block {j i J l : ℕ} (hl : l < 128) :
    dvTo A B j i J l + ∑ r ∈ range 512, attR i (stack (1 / 8) (qB A j i)) (kB A j) (ltB A j i) r J * stack 1 (qB B j i) r l
      = dvTo A B j (i + 1) J l := by
  unfold dvTo
  rw [sum_stack _ _ _ hl, Nat.mul_succ, sum_range_add _ (256 * i)]
  congr 1
  refine sum_congr rfl fun p hp => ?_
  rw [att_row (by omega) (mem_range.mp hp), show 2 * j + l / 64 = (128 * j + l) / 64 by omega]
  unfold qB
  ring

theorem dkTo_zero (j J l : ℕ) : dkTo A B j 0 J l = 0 := by unfold dkTo; rw [Nat.mul_zero, sum_range_zero]
theorem dvTo_zero (j J l : ℕ) : dvTo A B j 0 J l = 0 := by unfold dvTo; rw [Nat.mul_zero, sum_range_zero]
theorem dkTo_all (j J l : ℕ) : dkTo A B j 8 J l = dkH A B J (128 * j + l) := rfl
theorem dvTo_all (j J l : ℕ) : dvTo A B j 8 J l = dvH A B J (128 * j + l) := rfl

/-- The first block starts the sums. -/
theorem dk_first {j i J l : ℕ} (hl : l < 128) (h0 : i = 0) :
    ∑ r ∈ range 512, dzR i (stack (1 / 8) (qB A j i)) (stack 1 (qB B j i)) (kB A j) (vB A j) (ltB A j i) r J
      * stack (1 / 8) (qB A j i) r l = dkTo A B j (i + 1) J l := by
  subst h0
  rw [← dk_block hl, dkTo_zero, zero_add]

theorem dv_first {j i J l : ℕ} (hl : l < 128) (h0 : i = 0) :
    ∑ r ∈ range 512, attR i (stack (1 / 8) (qB A j i)) (kB A j) (ltB A j i) r J * stack 1 (qB B j i) r l
      = dvTo A B j (i + 1) J l := by
  subst h0
  rw [← dv_block hl, dvTo_zero, zero_add]

end Cert.Sb

end
-- ==== Proof.Window.lean ====
/- A running sum along the last of three axes, as the host computes it: a sum over a sliding window. -/
module

public import proofs.«01_k».proof.Proof.Reals

@[expose] public section

noncomputable section

namespace Cert.Reals

open Idealize.ShloMosaic Finset

theorem foldl_add {M : ℕ} (G : Fin M → EReal) (v : EReal) :
    (List.finRange M).foldl (fun r n => r + G n) v = v + ∑ n : Fin M, G n := by
  rw [← List.sum_ofFn, List.ofFn_eq_map]
  generalize List.finRange M = L
  induction L generalizing v with
  | nil => simp
  | cons a L ih => rw [List.foldl_cons, ih, List.map_cons, List.sum_cons, add_assoc]

theorem numel3 (N : ℕ) : (⟨3, ![1, 1, N]⟩ : Shape).numel = N := by
  show ∏ a : Fin 3, (![1, 1, N] : Fin 3 → Nat) a = N
  rw [Fin.prod_univ_three]
  show 1 * 1 * N = N
  omega

theorem symm3 {N : ℕ} (n : Fin (⟨3, ![1, 1, N]⟩ : Shape).numel) :
    (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    omega))

/-- The window's sum at an index. -/
theorem window3 {A B N : ℕ} (lo hi : ℕ) {φ : FTy} (x : FVec Ideal ⟨3, ![A, B, N]⟩ φ) (f : ℕ → ℕ → ℕ → ℝ)
    (hx : ∀ (a : Fin A) (b : Fin B) (c : Fin N), x (ix3 a b c) = ((f a b c : ℝ) : EReal))
    {u : Shape} (init : FVec Ideal u φ) (hinit : ∀ i, init i = (0 : EReal))
    (h : (⟨3, ![A, B, N]⟩ : Shape).ReduceWindows (![1, 1, N] : Fin 3 → ℕ) ![1, 1, 1] ![0, 0, lo] ![0, 0, hi] ⟨3, ![A, B, N]⟩)
    (hu : 0 < u.numel) (a : Fin A) (b : Fin B) (c : Fin N) :
    Host.reduceWindowAdd ![1, 1, N] ![1, 1, 1] ![0, 0, lo] ![0, 0, hi] x init h hu (ix3 a b c)
      = ((∑ n ∈ range N, if lo ≤ c + n ∧ c + n - lo < N then f a b (c + n - lo) else 0 : ℝ) : EReal) := by
  show Host.reduceWindow (· + ·) (![1, 1, N] : Fin 3 → ℕ) ![1, 1, 1] ![0, 0, lo] ![0, 0, hi] x
    (fun _ : (⟨0, ![]⟩ : Shape).Idx => init (Shape.Idx.first hu)) h (by decide) (ix3 a b c) = _
  unfold Host.reduceWindow
  refine (foldl_add _ _).trans ?_
  rw [hinit, zero_add, ← coe_sum, Finset.sum_range]
  refine Fintype.sum_equiv (finCongr (numel3 N)) _ _ fun n => ?_
  have hw0 : ((⟨3, ![1, 1, N]⟩ : Shape).rowMajor.symm n 0).val = 0 := by rw [symm3]; rfl
  have hw1 : ((⟨3, ![1, 1, N]⟩ : Shape).rowMajor.symm n 1).val = 0 := by rw [symm3]; rfl
  have hw2 : ((⟨3, ![1, 1, N]⟩ : Shape).rowMajor.symm n 2).val = n.val := by rw [symm3]; rfl
  have ha := a.isLt
  have hb := b.isLt
  dsimp only
  split
  · next hin =>
    have h2 := hin 2
    change lo ≤ c.val * 1 + ((⟨3, ![1, 1, N]⟩ : Shape).rowMajor.symm n 2).val
      ∧ c.val * 1 + ((⟨3, ![1, 1, N]⟩ : Shape).rowMajor.symm n 2).val - lo < N at h2
    rw [hw2, Nat.mul_one] at h2
    rw [if_pos (by exact h2)]
    refine (congrArg x (funext fun d => Fin.ext ?_)).trans (hx a b ⟨c.val + n.val - lo, h2.2⟩)
    match d with
    | ⟨0, _⟩ =>
      show a.val * 1 + ((⟨3, ![1, 1, N]⟩ : Shape).rowMajor.symm n 0).val - 0 = a.val
      rw [hw0]; omega
    | ⟨1, _⟩ =>
      show b.val * 1 + ((⟨3, ![1, 1, N]⟩ : Shape).rowMajor.symm n 1).val - 0 = b.val
      rw [hw1]; omega
    | ⟨2, _⟩ =>
      show c.val * 1 + ((⟨3, ![1, 1, N]⟩ : Shape).rowMajor.symm n 2).val - lo = c.val + n.val - lo
      rw [hw2, Nat.mul_one]
  · next hin =>
    rw [if_neg fun hle => hin fun d => by
      match d with
      | ⟨0, _⟩ =>
        show 0 ≤ a.val * 1 + ((⟨3, ![1, 1, N]⟩ : Shape).rowMajor.symm n 0).val
          ∧ a.val * 1 + ((⟨3, ![1, 1, N]⟩ : Shape).rowMajor.symm n 0).val - 0 < A
        rw [hw0]; omega
      | ⟨1, _⟩ =>
        show 0 ≤ b.val * 1 + ((⟨3, ![1, 1, N]⟩ : Shape).rowMajor.symm n 1).val
          ∧ b.val * 1 + ((⟨3, ![1, 1, N]⟩ : Shape).rowMajor.symm n 1).val - 0 < B
        rw [hw1]; omega
      | ⟨2, _⟩ =>
        show lo ≤ c.val * 1 + ((⟨3, ![1, 1, N]⟩ : Shape).rowMajor.symm n 2).val
          ∧ c.val * 1 + ((⟨3, ![1, 1, N]⟩ : Shape).rowMajor.symm n 2).val - lo < N
        rw [hw2, Nat.mul_one]; exact hle]
    exact rfl

/-- Padded at the high end, the window's sum is the sum from the index on. -/
theorem sum_from (N : ℕ) (F : ℕ → ℝ) {c : ℕ} (hc : c < N) :
    (∑ n ∈ range N, if 0 ≤ c + n ∧ c + n - 0 < N then F (c + n - 0) else 0) = (∑ J ∈ range N, F J) - ∑ J ∈ range c, F J := by
  obtain ⟨k, rfl⟩ : ∃ k, N = c + k := ⟨N - c, by omega⟩
  rw [sum_range_add F c, add_sub_cancel_left, Nat.add_comm c k, sum_range_add _ k,
    sum_eq_zero (s := range c) (fun n hn => by rw [if_neg (by omega)]), add_zero]
  refine sum_congr rfl fun n hn => ?_
  rw [if_pos ⟨Nat.zero_le _, by have := mem_range.mp hn; omega⟩, Nat.sub_zero]

/-- Padded at the low end, it is the sum up to and including the index. -/
theorem sum_to (N : ℕ) (F : ℕ → ℝ) {c : ℕ} (hc : c < N) :
    (∑ n ∈ range N, if N - 1 ≤ c + n ∧ c + n - (N - 1) < N then F (c + n - (N - 1)) else 0) = ∑ J ∈ range (c + 1), F J := by
  obtain ⟨k, rfl⟩ : ∃ k, N = k + (c + 1) := ⟨N - (c + 1), by omega⟩
  rw [sum_range_add _ k, sum_eq_zero (s := range k) (fun n hn => by
    have := mem_range.mp hn
    rw [if_neg (by omega)]), zero_add]
  refine sum_congr rfl fun n hn => ?_
  have := mem_range.mp hn
  rw [if_pos (by omega), show c + (k + n) - (k + (c + 1) - 1) = n by omega]

end Cert.Reals

end
-- ==== Proof.RefVal.lean ====
/- What the reference computes, in real numbers: scores, weights and gradients, one operation after the other. -/
module

public import proofs.«01_k».proof.Proof.Gen.ReferenceIdeal.Read
public import proofs.«01_k».proof.Proof.SbHead
public import proofs.«01_k».proof.Proof.Window

@[expose] public section

set_option maxRecDepth 16384

noncomputable section

namespace Cert.ReferenceIdeal.Sb

open Idealize.ShloMosaic Idealize.ShloMosaic.TcCoe
open Cert.ReferenceIdeal Cert.ReferenceIdeal.Gen Cert.ReferenceIdeal.Read Cert.Reals Cert.Sb

/-- The two exponentials of the logistic function's logarithms add up to one. -/
theorem exp_LS (z : ℝ) : Real.exp (LS z - z) = 1 - Real.exp (LS z) := by
  unfold LS
  rcases le_total 0 z with hz | hz
  · have hp : 0 < 1 + Real.exp (-z) := by positivity
    rw [min_eq_right hz, abs_of_nonneg hz, zero_sub, zero_sub, Real.exp_sub, Real.exp_neg (Real.log _), Real.exp_log hp]
    rw [Real.exp_neg] at hp ⊢
    field_simp
    ring
  · have hp : 0 < 1 + Real.exp z := by positivity
    rw [min_eq_left hz, abs_of_nonpos hz, zero_sub, neg_neg, sub_sub_cancel_left, Real.exp_sub, Real.exp_neg, Real.exp_log hp]
    field_simp
    ring

/-- `log (1 + exp z)`, as the host computes it. -/
def SP (z : ℝ) : ℝ := max z 0 + Real.log (1 + Real.exp (-|z|))

theorem SP_eq (z : ℝ) : SP z = z - LS z := by
  unfold SP LS
  rw [zero_sub]
  have := max_add_min z 0
  linarith

theorem SP_neg (z : ℝ) : SP (-z) = -LS z := by
  unfold SP LS
  rw [zero_sub, abs_neg]
  have h : max (-z) 0 = -min z 0 := by rw [← max_neg_neg, neg_zero]
  rw [h]
  ring

theorem log1p_exp (r : ℝ) : Ideal.log1p (Ideal.exp ((r : ℝ) : EReal)) = ((Real.log (1 + Real.exp r) : ℝ) : EReal) := by
  unfold Ideal.log1p
  rw [exp_real, one_real, ← EReal.coe_add, log_real _ (by positivity)]

theorem inf_word : Ideal.ofBits .f32 0x7F800000#32 = ⊤ := by
  simp [Ideal.ofBits, Ideal.ieee]

theorem coe_ne_inf (r : ℝ) : ¬ ((r : ℝ) : EReal) = Ideal.ofBits .f32 0x7F800000#32 := by
  rw [inf_word]; exact EReal.coe_ne_top r

theorem slt_small {a b : ℕ} (ha : a < 2048) (hb : b < 2048) :
    IntOp.cmpi .slt (BitVec.ofNat 32 b) (BitVec.ofNat 32 a) = BitVec.ofBool (decide (b < a)) := by
  simp (disch := omega) only [hlo_ix]

variable {x0 : FVec Ideal S2048x9728 .f32} {x1 : FVec Ideal S2048x512 .f32} {A B : ℕ → ℕ → ℝ}
  (hA : ∀ (a : Fin 2048) (b : Fin 9728), (b : ℕ) < 1536 → x0 (ix2 a b) = ((A a b : ℝ) : EReal))
  (hB : Rl (φ := .f32) x1 B)

include hA

theorem z_val (h : Fin 8) (I J : Fin 2048) : val_main_v8 (F := Ideal) x0 (ix3 h I J) = ((zH A h I J : ℝ) : EReal) := by
  pointwise [val_main_v8, val_main_v7, val_main_v6, val_main_cst, val_main_v1, val_main_v0, val_main_v2, val_main_v3]
  have hh := h.isLt
  rw [eighth]
  unfold zH
  rw [EReal.coe_mul, ← coe_sum, Finset.sum_range]
  congr 1
  refine Finset.sum_congr rfl fun d _ => ?_
  have hd := d.isLt
  rw [hA _ _ (by simp only []; omega), hA _ _ (by simp only []; omega), ← EReal.coe_mul]
  simp only [Nat.mul_comm 64]

theorem sp0_val (h : Fin 8) (I J : Fin 2048) : val_main_call0_v1_0 (F := Ideal) x0 (ix3 h I J) = ((-LS (zH A h I J) : ℝ) : EReal) := by
  rw [← SP_neg]
  unfold SP
  pointwise [val_main_call0_v1_0, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0]
  rw [if_neg (by simp)]
  simp only [z_val hA, ← EReal.coe_neg, abs_real, log1p_exp, zero_real, max_real, ← EReal.coe_add]

theorem sp1_val (h : Fin 8) (I J : Fin 2048) : val_main_call1_v1_0 (F := Ideal) x0 (ix3 h I J) = ((zH A h I J - LS (zH A h I J) : ℝ) : EReal) := by
  rw [← SP_eq]
  unfold SP
  pointwise [val_main_call1_v1_0, val_main_call1_call0_v4, val_main_call1_call0_v6, val_main_call1_call0_v11, val_main_call1_call0_v10, val_main_call1_call0_v9, val_main_call1_call0_v8, val_main_call1_call0_v7, val_main_call1_call0_v5, val_main_call1_call0_v3, val_main_call1_call0_v2, val_main_call1_call0_v1, val_main_call1_call0_v0, val_main_call1_call0_cst, val_main_call1_v0, val_main_v16]
  rw [if_neg (by simp)]
  simp only [z_val hA, ← EReal.coe_neg, neg_neg, abs_real, log1p_exp, zero_real, max_real, ← EReal.coe_add]

theorem sg0_val (h : Fin 8) (I J : Fin 2048) : val_main_v15_1 (F := Ideal) x0 (ix3 h I J) = ((1 - Real.exp (LS (zH A h I J)) : ℝ) : EReal) := by
  pointwise [val_main_v15_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0]
  simp only [z_val hA, sp0_val hA, ← EReal.coe_neg]
  rw [if_neg (coe_ne_inf _), if_neg (coe_ne_inf _), ← EReal.coe_sub, exp_real, ← exp_LS]
  congr 2
  ring

theorem sg1_val (h : Fin 8) (I J : Fin 2048) : val_main_v17_1 (F := Ideal) x0 (ix3 h I J) = ((Real.exp (LS (zH A h I J)) : ℝ) : EReal) := by
  pointwise [val_main_v17_1, val_main_call1_call0_v21, val_main_call1_call0_v20, val_main_call1_call0_v19, val_main_call1_call0_v18, val_main_call1_call0_v17, val_main_call1_call0_v16, val_main_call1_call0_v15, val_main_call1_call0_v14, val_main_call1_call0_v13, val_main_call1_call0_cst_0, val_main_call1_call0_cst_1, val_main_call1_call0_cst_2, val_main_call1_call0_cst_3, val_main_call1_v0, val_main_v16]
  simp only [z_val hA, sp1_val hA, ← EReal.coe_neg, neg_neg]
  rw [if_neg (coe_ne_inf _), if_neg (coe_ne_inf _), ← EReal.coe_sub, exp_real]
  congr 2
  ring

theorem mask_val (h : Fin 8) (I J : Fin 2048) : val_main_v18_1 (F := Ideal) (ix3 h I J) = BitVec.ofBool (decide ((J : ℕ) < I)) := by
  pointwise [val_main_v18_1, val_main_v14, val_main_v13, val_main_v12, val_main_v11, val_main_v10, val_main_v9]
  exact slt_small I.isLt J.isLt

theorem mask2_val (h : Fin 8) (I J : Fin 2048) : val_main_v23_1 (F := Ideal) (ix3 h I J) = BitVec.ofBool (decide ((J : ℕ) < I)) := by
  pointwise [val_main_v23_1, val_main_v14, val_main_v13, val_main_v12, val_main_v11, val_main_v10, val_main_v9]
  exact slt_small I.isLt J.isLt

omit hA in
theorem select_ofBool (p : Prop) [Decidable p] (a b : EReal) : Scalar.select (BitVec.ofBool (decide p)) a b = if p then a else b := by
  by_cases hp : p <;> simp [hp, Scalar.select]

theorem lk_val (h : Fin 8) (I J : Fin 2048) : val_main_v18_0 (F := Ideal) x0 (ix3 h I J) = ((lkH A h I J : ℝ) : EReal) := by
  pointwise [val_main_v18_0, val_main_call2_v2, val_main_call2_v0, val_main_cst_0, val_main_v17_0]
  rw [mask_val hA, select_ofBool, sp1_val hA, ← EReal.coe_neg, neg_sub]
  unfold lkH
  rw [← ite_real]
  congr 1
  show Ideal.ofBits .f32 0#32 = _
  simp [Ideal.ofBits, Ideal.ieee]

omit hA in
theorem zero_word : Ideal.ofBits .f32 0#32 = ((0 : ℝ) : EReal) := by
  simp [Ideal.ofBits, Ideal.ieee]

theorem cum_val (h : Fin 8) (I J : Fin 2048) :
    val_main_v19 (F := Ideal) x0 (ix3 h I J) = ((ltH A h I - ∑ j ∈ Finset.range J, lkH A h I j : ℝ) : EReal) := by
  unfold val_main_v19
  refine (window3 (A := 8) (B := 2048) (N := 2048) 0 2047 _ (fun h I J => lkH A h I J) (lk_val hA) _ (fun i => ?_) _ _ h I J).trans ?_
  · show Ideal.ofBits .f32 0#32 = 0
    exact zero_word.trans rfl
  · exact congrArg _ (sum_from 2048 (fun J => lkH A h I J) J.isLt)

theorem w_val (h : Fin 8) (I J : Fin 2048) : val_main_v22 (F := Ideal) x0 (ix3 h I J)
    = ((Real.exp (LS (zH A h I J) + ltH A h I - ∑ j ∈ Finset.range (J + 1), lkH A h I j) : ℝ) : EReal) := by
  pointwise [val_main_v22, val_main_v21, val_main_v20, val_main_v15_0]
  rw [sp0_val hA, cum_val hA, lk_val hA, ← EReal.coe_neg, neg_neg, ← EReal.coe_sub, ← EReal.coe_add, exp_real, Finset.sum_range_succ]
  congr 2
  ring

theorem att_val (h : Fin 8) (I J : Fin 2048) : val_main_v23_0 (F := Ideal) x0 (ix3 h I J) = ((attH A h I J : ℝ) : EReal) := by
  pointwise [val_main_v23_0, val_main_call4_v2, val_main_call4_v0, val_main_cst_1]
  rw [mask2_val hA, select_ofBool, w_val hA]
  unfold attH
  rw [← ite_real]
  exact congrArg _ (zero_word)

include hB

theorem datt_val (h : Fin 8) (I J : Fin 2048) : val_main_v28 (F := Ideal) x0 x1 (ix3 h I J) = ((dattH A B h I J : ℝ) : EReal) := by
  pointwise [val_main_v28, val_main_v27, val_main_v26, val_main_v5, val_main_v4]
  have hh := h.isLt
  unfold dattH
  rw [← coe_sum, Finset.sum_range]
  refine Finset.sum_congr rfl fun d _ => ?_
  have hd := d.isLt
  rw [hB, hA _ _ (by simp only []; omega), ← EReal.coe_mul]
  simp only [Nat.mul_comm 64]

theorem e_val (h : Fin 8) (I J : Fin 2048) : val_main_v32 (F := Ideal) x0 x1 (ix3 h I J) = ((eH A B h I J : ℝ) : EReal) := by
  pointwise [val_main_v32, val_main_v31, val_main_call5_v0, val_main_call5_cst]
  rw [mask2_val hA, select_ofBool, w_val hA, datt_val hA hB, ← EReal.coe_mul, zero_real, ite_real]
  unfold eH attH
  rw [mul_ite, mul_zero]

theorem cumE_val (h : Fin 8) (I J : Fin 2048) :
    val_main_v34 (F := Ideal) x0 x1 (ix3 h I J) = ((∑ j ∈ Finset.range (J + 1), eH A B h I j : ℝ) : EReal) := by
  unfold val_main_v34
  refine (window3 (A := 8) (B := 2048) (N := 2048) 2047 0 _ (fun h I J => eH A B h I J) (e_val hA hB) _ (fun i => ?_) _ _ h I J).trans ?_
  · show Ideal.ofBits .f32 0#32 = 0
    exact zero_word.trans rfl
  · exact congrArg _ (sum_to 2048 (fun J => eH A B h I J) J.isLt)

theorem dz_val (h : Fin 8) (I J : Fin 2048) :
    val_main_v42 (F := Ideal) x0 x1 (ix3 h I J) = ((dzH A B h I J * (1 / 8) : ℝ) : EReal) := by
  pointwise [val_main_v42, val_main_v41, val_main_cst_2, val_main_v40, val_main_v39, val_main_v38, val_main_v37, val_main_call9_v1, val_main_call9_v0, val_main_call8_v1, val_main_call8_v0, val_main_v36, val_main_call7_v0, val_main_call7_cst, val_main_v35, val_main_v33]
  rw [mask_val hA, select_ofBool, e_val hA hB, cumE_val hA hB, sg0_val hA, sg1_val hA, eighth, zero_real]
  simp only [← EReal.coe_neg, ← EReal.coe_add, ite_real, ← EReal.coe_mul]
  congr 2
  unfold dzH
  split
  · rw [Finset.sum_range_succ]; ring
  · next hJ =>
    have : eH A B h I J = 0 := by unfold eH attH; rw [if_neg hJ, mul_zero]
    rw [this]
    ring

theorem dq_val : Rl (φ := .f32) (val_main_v47 (F := Ideal) x0 x1) (dqH A B) := by
  intro I n
  pointwise [val_main_v47, val_main_v46, val_main_v45, val_main_v3, val_main_v2]
  have hn := n.isLt
  unfold dqH
  rw [← coe_sum, Finset.sum_range]
  refine Finset.sum_congr rfl fun J _ => ?_
  rw [dz_val hA hB, hA _ _ (by simp only []; omega), ← EReal.coe_mul]

theorem dk_val : Rl (φ := .f32) (val_main_v48 (F := Ideal) x0 x1) (dkH A B) := by
  intro I n
  pointwise [val_main_v48, val_main_v44, val_main_v43, val_main_v1, val_main_v0]
  have hn := n.isLt
  unfold dkH
  rw [← coe_sum, Finset.sum_range]
  refine Finset.sum_congr rfl fun J _ => ?_
  rw [dz_val hA hB, hA _ _ (by simp only []; omega), ← EReal.coe_mul]

theorem dv_val : Rl (φ := .f32) (val_main_v49 (F := Ideal) x0 x1) (dvH A B) := by
  intro I n
  pointwise [val_main_v49, val_main_v30, val_main_v29, val_main_v27, val_main_v26]
  unfold dvH
  rw [← coe_sum, Finset.sum_range]
  refine Finset.sum_congr rfl fun J _ => ?_
  rw [att_val hA, hB, ← EReal.coe_mul]

end Cert.ReferenceIdeal.Sb

end
-- ==== Proof.Finite.lean ====
/- The precondition read back: every entry of the three head-major column groups and of the incoming gradient is a real. -/
module

public import proofs.«01_k».proof.Defs
public import proofs.«01_k».proof.Proof.RefVal
public import Idealize.ShloMosaic.Lib.ReduceAll
public import Idealize.ShloMosaic.Lib.Affine

@[expose] public section

set_option maxRecDepth 16384

noncomputable section

namespace Cert.Pre_finite

open Idealize.ShloMosaic

/-- The shape relations the predicate's operations take. -/
instance facts : Facts where
  slices_S2048x9728_S2048x1536_0_0 := by decide
  bcast_S_S2048x1536 := by decide
  reducesTo_S2048x1536_S_d0_1 := by decide
  h_S_ := by decide
  bcast_S_S2048x512 := by decide
  reducesTo_S2048x512_S_d0_1 := by decide

/-- An extended real whose absolute value lies below infinity is a real. -/
theorem real_of_abs_lt (x : EReal) (h : Ideal.cmp .olt (max x (-x)) (Ideal.ofBits .f32 0x7F800000#32) = 1#1) :
    x = ((x.toReal : ℝ) : EReal) := by
  rw [Cert.ReferenceIdeal.Sb.inf_word] at h
  induction x using EReal.rec with
  | bot => simp [Ideal.cmp] at h
  | top => simp [Ideal.cmp] at h
  | coe r => rw [EReal.toReal_coe]

instance : Subsingleton S_.Idx := ⟨fun a b => funext fun k => k.elim0⟩

variable (x0 : FVec Ideal S2048x9728 .f32) (x1 : FVec Ideal S2048x512 .f32)

/-- What the predicate says of its two arrays. -/
theorem fn_split (h : fn x0 x1 = fun _ => 1#1) :
    (∀ (a : Fin 2048) (b : Fin 9728), (b : ℕ) < 1536 → x0 (ix2 a b) = (((x0 (ix2 a b) : EReal).toReal : ℝ) : EReal))
    ∧ ∀ (a : Fin 2048) (b : Fin 512), x1 (ix2 a b) = (((x1 (ix2 a b) : EReal).toReal : ℝ) : EReal) := by
  have h0 := congrFun h (fun k => k.elim0)
  dsimp only [fn] at h0
  obtain ⟨p, q⟩ := (IntOp.andi_eq_one (c := _) (d := _)).1 h0
  constructor
  · intro a b hb
    have e := Host.reduce_andi_all _ _ _ _ _ p (ix2 a ⟨b, hb⟩)
    refine real_of_abs_lt _ (Eq.trans ?_ e)
    pointwise
    rfl
  · intro a b
    have e := Host.reduce_andi_all _ _ _ _ _ q (ix2 a b)
    refine real_of_abs_lt _ (Eq.trans ?_ e)
    pointwise
    rfl

/-- The entries of the first array as real numbers. -/
def A (a b : ℕ) : ℝ := if h : a < 2048 ∧ b < 9728 then (x0 (ix2 ⟨a, h.1⟩ ⟨b, h.2⟩) : EReal).toReal else 0
/-- The entries of the second array as real numbers. -/
def B (a b : ℕ) : ℝ := if h : a < 2048 ∧ b < 512 then (x1 (ix2 ⟨a, h.1⟩ ⟨b, h.2⟩) : EReal).toReal else 0

theorem real_A (h : fn x0 x1 = fun _ => 1#1) (a : Fin 2048) (b : Fin 9728) (hb : (b : ℕ) < 1536) :
    x0 (ix2 a b) = ((A x0 a b : ℝ) : EReal) := by
  rw [A, dif_pos ⟨a.isLt, b.isLt⟩]
  exact (fn_split x0 x1 h).1 a b hb

theorem real_B (h : fn x0 x1 = fun _ => 1#1) : Cert.Reals.Rl (φ := .f32) (m := 2048) (n := 512) x1 (B x1) := by
  intro a b
  rw [B, dif_pos ⟨a.isLt, b.isLt⟩]
  exact (fn_split x0 x1 h).2 a b

end Cert.Pre_finite

end
-- ==== Proof.SbLoop.lean ====
/- The loop over the blocks of keys before the diagonal: what it carries and what it leaves in the two accumulators. -/
module

public import proofs.«01_k».proof.Proof.Gen.KernelIdeal.Loops
public import proofs.«01_k».proof.Proof.SbPay
public import proofs.«01_k».proof.Proof.SbRow
public import Idealize.ShloMosaic.Lib.WritesUnit
public import Idealize.ShloMosaic.Lib.Pipeline.ValueKit

@[expose] public section

set_option maxRecDepth 16384

noncomputable section

namespace Cert.KernelIdeal.Sb

open Idealize.ShloMosaic Idealize.ShloMosaic.TcCoe
open Idealize.SL.Sem Cert.KernelIdeal Cert.KernelIdeal.Gen Cert.Reals Cert.Sb

/-- The loop runs once per block before the diagonal; -/
theorem trips1 (i : grid0.Coords) : (k0_t1_loop i).trips = (i 1 : ℕ) := by
  have h : ∀ x : Fin 8, Scf.trips (0#32) (Scalar.addi (0#32) (Scalar.muli (Scalar.divsi (Scalar.subi (BitVec.ofNat 32 x) 0#32) 1#32) 1#32)) 1#32 = x := by
    decide +kernel
  exact h (i 1)

/-- and the loop of what is left over never. -/
theorem trips2 (i : grid0.Coords) : (k0_t2_loop i).trips = 0 := by
  have h : ∀ x : Fin 8, Scf.trips (Scalar.addi (0#32) (Scalar.muli (Scalar.divsi (Scalar.subi (BitVec.ofNat 32 x) 0#32) 1#32) 1#32))
      (Scalar.addi (0#32) (Scalar.subi (BitVec.ofNat 32 x) 0#32)) 1#32 = 0 := by
    decide +kernel
  exact h (i 1)

theorem off1_val (i : grid0.Coords) (k : Fin (k0_t1_loop i).trips) : k0_off1 i k = ![256 * (k : ℕ), 0] := by
  have h : ∀ x : Fin 8, (Scalar.indexCast (Scalar.muli (Scf.iv 0#32 1#32 x) 256#32)).toNat = 256 * (x : ℕ) := by decide +kernel
  have hk : (k : ℕ) < 8 := lt_trans (lt_of_lt_of_eq k.isLt (trips1 i)) (i 1).isLt
  have := h ⟨k, hk⟩
  unfold k0_off1
  exact congrArg (fun n => ![n, 0]) this

theorem off3_val (i : grid0.Coords) : k0_off3 i = ![256 * (i 1 : ℕ), 0] := by
  have h : ∀ x : Fin 8, (Scalar.indexCast (Scalar.muli (BitVec.ofNat 32 x) 256#32)).toNat = 256 * (x : ℕ) := by decide +kernel
  unfold k0_off3
  exact congrArg (fun n => ![n, 0]) (h (i 1))

/-- A load of the rows of block `n`. -/
theorem rows_ld {x : Vec Ideal S2048x128 .f32} {f : ℕ → ℕ → ℝ} (h : Rl (φ := .f32) x f) {off : Fin 2 → ℕ} {n : ℕ}
    (ho : off = ![256 * n, 0]) (hn : n < 8) (inb : ∀ a, off a + S256x128.size a ≤ S2048x128.size a) :
    Rl (φ := .f32) (m := 256) (n := 128) (View.ld x (Rect.unit (s := S2048x128) off S256x128.size inb)) (rowsFrom n f) := by
  intro a b
  have ha := a.isLt
  refine (View.ld_unit_apply_of x off S256x128.size inb (ix2 a b) (ix2 ⟨256 * n + a, by omega⟩ b) fun c => ?_).trans (h _ _)
  subst ho
  fin_cases c
  · rfl
  · exact (Nat.zero_add _).symm

/-- A store over the rows of block `n`. -/
theorem rows_st {κ : Kind} {sp : Space} {v : View sig κ sp S2048x128 .f32} {G : v.ty.Contents (Elt Ideal)} {L : List (View.Piece (Elt Ideal) S2048x128 .f32)}
    {old new : ℕ → ℕ → ℝ} {off : Fin 2 → ℕ} {n : ℕ} (ho : off = ![256 * n, 0]) (hn : n < 8)
    (inb : ∀ a, off a + S256x128.size a ≤ S2048x128.size a) {y : Vec Ideal S256x128 .f32}
    (hold : Rl (φ := .f32) (m := 2048) (n := 128) (v.read (Elt Ideal) (v.writes (Elt Ideal) G L)) old)
    (hy : Rl (φ := .f32) (m := 256) (n := 128) y (rowsFrom n new)) :
    Rl (φ := .f32) (m := 2048) (n := 128)
      (v.read (Elt Ideal) (v.writes (Elt Ideal) G ((⟨Rect.unit (s := S2048x128) off S256x128.size inb, y⟩ : View.Piece (Elt Ideal) S2048x128 .f32) :: L)))
      (fun J l => if J / 256 = n then new J l else old J l) := by
  intro J l
  have hJ := J.isLt
  show _ = (((if (J : ℕ) / 256 = n then new J l else old J l : ℝ)) : EReal)
  by_cases hm : (J : ℕ) / 256 = n
  · rw [if_pos hm]
    refine (View.read_writes_cons_rows_of_mem v G inb y L (ix2 J l) (ix2 (⟨(J : ℕ) - 256 * n, by omega⟩ : Fin 256) l) ho ?_ ?_).trans
      ((hy _ _).trans ?_)
    · show (J : ℕ) = 256 * n + (J - 256 * n)
      omega
    · rfl
    · show ((new (256 * n + ((J : ℕ) - 256 * n)) l : ℝ) : EReal) = _
      rw [show 256 * n + ((J : ℕ) - 256 * n) = J by omega]
  · rw [if_neg hm]
    refine (View.read_writes_cons_rows_of_not_mem v G inb y L (ix2 J l) (W := 256) ho rfl ?_).trans (hold J l)
    show (J : ℕ) < 256 * n ∨ 256 * n + 256 ≤ J
    omega

section Trip

variable {F : FTy → Type} [FloatOps F] (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S2048x128 .f32) (harg8 : arg8.IsWhole) (arg9 : Memref sig .tc .vmem S2048x128 .f32) (harg9 : arg9.IsWhole) (arg1 : BitVec 32) (v3 : IVec S256x128 32) (v16 : FVec F S512x128 .bf16) (v30 : FVec F S256x384 .bf16) (v39 : FVec F S256x384 .bf16) (v40 : Vec F S256x128 .f32) (v41 : IVec S256x128 32) (v51 : Vec F S1x256x128 .f32) (v53 : Vec F S1x256x128 .f32)

/-- A trip's block of a buffer. -/
abbrev kblk {F : FTy → Type} [FloatOps F] (i : grid0.Coords) (arg : Memref sig .tc .vmem S2048x128 .f32) (k : Fin (k0_t1_loop i).trips)
    (X : BufTy.Contents (Elt F) arg.view.ty) : Vec F S256x128 .f32 :=
  arg.view.readAt (Elt F) (Rect.unit (s := S2048x128) (k0_off1 i k) S256x128.size (k0_off1_inb i k)).toLoadRect X

/-- One trip's yield, in the body's own values. -/
theorem tripR_eq (X3 : BufTy.Contents (Elt F) arg3.view.ty) (X4 : BufTy.Contents (Elt F) arg4.view.ty) (k : Fin (k0_t1_loop i).trips)
    (acc : FVec F S512x128 .f32 × FVec F S512x128 .f32 × FVec F S512x128 .f32) (f8 : BufTy.Contents (Elt F) arg8.view.ty) (f9 : BufTy.Contents (Elt F) arg9.view.ty) :
    tripR_k0_t1 (F := F) 𝒱 c bd i arg2 harg2 arg3 harg3 arg4 harg4 arg5 harg5 arg6 harg6 arg7 harg7 arg8 harg8 arg9 harg9 arg1 v3 v16 v30 v39 v40 v41 v51 v53 X3 X4 k acc f8 f9
      = (k0_pay36 acc.1 (k0_pay7 v16 v30 (kblk i arg3 k X3)),
        k0_pay37 acc.2.1 (k0_pay10 v16 v30 v39 (k0_pay29 v3 v40 v41) (k0_pay30 v51 v53) acc.1 (kblk i arg3 k X3) (kblk i arg4 k X4)),
        k0_pay33 acc.2.1 acc.2.2 (k0_pay4 (kblk i arg3 k X3))
          (k0_pay10 v16 v30 v39 (k0_pay29 v3 v40 v41) (k0_pay30 v51 v53) acc.1 (kblk i arg3 k X3) (kblk i arg4 k X4))
          (k0_pay11 v16 (kblk i arg3 k X3))
          (k0_pay12 v16 v30 (k0_pay29 v3 v40 v41) (k0_pay30 v51 v53) acc.1 (kblk i arg3 k X3) (kblk i arg4 k X4))) := by
  unfold tripR_k0_t1 trip_k0_t1
  rfl

/-- One trip's stores. -/
theorem tripL_eq (X3 : BufTy.Contents (Elt F) arg3.view.ty) (X4 : BufTy.Contents (Elt F) arg4.view.ty) (k : Fin (k0_t1_loop i).trips)
    (acc : FVec F S512x128 .f32 × FVec F S512x128 .f32 × FVec F S512x128 .f32) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 arg1 v3 v16 v30 v39 v40 v41 v51 v53 X3 X4 k acc f8 f9
      = ([⟨Rect.unit (s := S2048x128) (k0_off1 i k) S256x128.size (k0_off1_inb i k), k0_pay34 v16 acc.2.1
          (k0_pay10 v16 v30 v39 (k0_pay29 v3 v40 v41) (k0_pay30 v51 v53) acc.1 (kblk i arg3 k X3) (kblk i arg4 k X4))
          (k0_pay11 v16 (kblk i arg3 k X3))
          (k0_pay12 v16 v30 (k0_pay29 v3 v40 v41) (k0_pay30 v51 v53) acc.1 (kblk i arg3 k X3) (kblk i arg4 k X4))
          (kblk i arg8 k f8)⟩],
        [⟨Rect.unit (s := S2048x128) (k0_off1 i k) S256x128.size (k0_off1_inb i k), k0_pay35 v3 v40 v41
          (k0_pay8 v16 v30 (k0_pay30 v51 v53) acc.1 (kblk i arg3 k X3))
          (kblk i arg9 k f9)⟩]) := by
  unfold tripL_k0_t1 trip_k0_t1
  rfl

end Trip

section Loop

/-- What holds before block `n`: the running sums and the queries' gradient over the keys before it, and the two
    accumulators with the rows of the keys before it added to. -/
structure Inv (i : ℕ) (q w kf vf : ℕ → ℕ → ℝ) (lt : ℕ → ℝ) (b8 b9 : ℕ → ℕ → ℝ) (n : ℕ)
    (cp cg dq : FVec Ideal S512x128 .f32) (x8 x9 : Vec Ideal S2048x128 .f32) : Prop where
  cp : Rl cp (fun r _ => ∑ J ∈ Finset.range (256 * n), lkR i q kf r J)
  cg : Rl cg (fun r _ => ∑ J ∈ Finset.range (256 * n), eR i q w kf vf lt r J)
  dq : Rl dq (fun r l => ∑ J ∈ Finset.range (256 * n), dzR i q w kf vf lt r J * kf J l)
  x8 : Rl (φ := .f32) x8 (fun J l => b8 J l + if J < 256 * n then ∑ r ∈ Finset.range 512, dzR i q w kf vf lt r J * q r l else 0)
  x9 : Rl (φ := .f32) x9 (fun J l => b9 J l + if J < 256 * n then ∑ r ∈ Finset.range 512, attR i q kf lt r J * w r l else 0)

/-- A block's rows of an accumulator, added to. -/
theorem acc_step (b g : ℕ → ℕ → ℝ) (n J l : ℕ) :
    (if J / 256 = n then (b J l + if J < 256 * n then g J l else 0) + g J l else b J l + if J < 256 * n then g J l else 0)
      = b J l + if J < 256 * (n + 1) then g J l else 0 := by
  by_cases h : J / 256 = n
  · rw [if_pos h, if_neg (by omega), if_pos (by omega), add_zero]
  · rw [if_neg h]
    congr 1
    exact if_congr (by omega) rfl rfl

theorem range_step (f : ℕ → ℝ) (n : ℕ) :
    (∑ J ∈ Finset.range (256 * n), f J) + ∑ c ∈ Finset.range 256, f (256 * n + c) = ∑ J ∈ Finset.range (256 * (n + 1)), f J := by
  rw [Nat.mul_succ, Finset.sum_range_add _ (256 * n)]

variable (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S2048x128 .f32) (harg8 : arg8.IsWhole) (arg9 : Memref sig .tc .vmem S2048x128 .f32) (harg9 : arg9.IsWhole) (arg1 : BitVec 32) (v3 : IVec S256x128 32) (v16 : FVec Ideal S512x128 .bf16) (v40 : Vec Ideal S256x128 .f32) (v41 : IVec S256x128 32) (v51 : Vec Ideal S1x256x128 .f32) (v53 : Vec Ideal S1x256x128 .f32)

variable {q w kf vf b8 b9 : ℕ → ℕ → ℝ} {lt : ℕ → ℝ} {x1 x2 : Vec Ideal S2048x128 .f32}
  {G8 : BufTy.Contents (Elt Ideal) arg8.view.ty} {G9 : BufTy.Contents (Elt Ideal) arg9.view.ty}

theorem loop_inv (hq : Rl v16 q) (hw : Rl (k0_pay29 (F := Ideal) v3 v40 v41) w) (hl : Rl (k0_pay30 (F := Ideal) v51 v53) (fun r _ => lt r))
    (hk : Rl (φ := .f32) x1 kf) (hv : Rl (φ := .f32) x2 vf)
    (h8 : Rl (φ := .f32) (m := 2048) (n := 128) (arg8.view.read (Elt Ideal) G8) b8)
    (h9 : Rl (φ := .f32) (m := 2048) (n := 128) (arg9.view.read (Elt Ideal) G9) b9)
    {init : FVec Ideal S512x128 .f32 × FVec Ideal S512x128 .f32 × FVec Ideal S512x128 .f32} (hi1 : Rl init.1 (fun _ _ => 0))
    (hi2 : Rl init.2.1 (fun _ _ => 0)) (hi3 : Rl init.2.2 (fun _ _ => 0)) (n : ℕ) (hn : n ≤ (i 1 : ℕ)) :
    Inv (i 1) q w kf vf lt b8 b9 n
      (st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n).1.1
      (st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n).1.2.1
      (st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n).1.2.2
      (arg8.view.read (Elt Ideal) (arg8.view.writes (Elt Ideal) G8
        (st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n).2.1))
      (arg9.view.read (Elt Ideal) (arg9.view.writes (Elt Ideal) G9
        (st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n).2.2)) := by
  induction n with
  | zero =>
    refine ⟨hi1.congr fun r l _ _ => ?_, hi2.congr fun r l _ _ => ?_, hi3.congr fun r l _ _ => ?_, h8.congr fun r l _ _ => ?_, h9.congr fun r l _ _ => ?_⟩
      <;> simp
  | succ n ih =>
    have I := ih (by omega)
    have hlt : n < (k0_t1_loop i).trips := by rw [trips1]; omega
    have h1 := (i 1).isLt
    have hn8 : n < 8 := by
      have : (i 1 : ℕ) < 8 := h1
      omega
    have bo : blockOk false (i 1 : ℕ) n := Or.inl ⟨rfl, hn⟩
    rw [st_k0_t1_succ (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init ⟨n, hlt⟩, tripR_eq, tripL_eq]
    generalize st_k0_t1 (F := Ideal) 𝒱 c bd i arg2 harg2 arg3 harg3 arg4 harg4 arg5 harg5 arg6 harg6 arg7 harg7 arg8 harg8 arg9 harg9 arg1 v3 v16 k0_pay26 k0_pay27 v40 v41 v51 v53 (harg3.unread x1) (harg4.unread x2) G8 G9 init n = s at I
    obtain ⟨⟨cp, cg, dq⟩, l8, l9⟩ := s
    obtain ⟨Icp, Icg, Idq, I8, I9⟩ := I
    have hkb : Rl (φ := .f32) (kblk (F := Ideal) i arg3 ⟨n, hlt⟩ (harg3.unread x1)) (rowsFrom n kf) := by
      refine rows_ld ?_ (off1_val i ⟨n, hlt⟩) hn8 _
      rw [harg3.read_unread]; exact hk
    have hvb : Rl (φ := .f32) (kblk (F := Ideal) i arg4 ⟨n, hlt⟩ (harg4.unread x2)) (rowsFrom n vf) := by
      refine rows_ld ?_ (off1_val i ⟨n, hlt⟩) hn8 _
      rw [harg4.read_unread]; exact hv
    have h8b := rows_ld I8 (off1_val i ⟨n, hlt⟩) hn8 (k0_off1_inb i ⟨n, hlt⟩)
    have h9b := rows_ld I9 (off1_val i ⟨n, hlt⟩) hn8 (k0_off1_inb i ⟨n, hlt⟩)
    have p7 := pay7 hq hkb
    have p8 := (pay8 hq hkb hl Icp).congr fun r c _ hc => attS_eq bo hc
    have p10 := pay10 hq hkb hl Icp hw hvb
    have p32 := (pay32 hq hkb hl Icp hw hvb Icg).congr fun r c _ hc => dzS_eq bo hc
    refine ⟨(pay36 Icp p7 fun r s hs => w2S_row bo hs).congr fun r l _ _ => ?_,
      (pay37 Icg p10 fun r s hs => g2S_row bo hs).congr fun r l _ _ => ?_, (pay33 hkb Idq p32).congr fun r l _ _ => ?_, ?_, ?_⟩
    · exact range_step _ n
    · exact range_step _ n
    · exact range_step (fun J => dzR (i 1) q w kf vf lt r J * kf J l) n
    · refine (rows_st (off1_val i ⟨n, hlt⟩) hn8 _ I8 (new := fun J l => (b8 J l + if J < 256 * n then ∑ r ∈ Finset.range 512, dzR (i 1) q w kf vf lt r J * q r l else 0)
          + ∑ r ∈ Finset.range 512, dzR (i 1) q w kf vf lt r J * q r l) (pay34 hq h8b p32)).congr fun J l _ _ => ?_
      exact acc_step b8 (fun J l => ∑ r ∈ Finset.range 512, dzR (i 1) q w kf vf lt r J * q r l) n J l
    · refine (rows_st (off1_val i ⟨n, hlt⟩) hn8 _ I9 (new := fun J l => (b9 J l + if J < 256 * n then ∑ r ∈ Finset.range 512, attR (i 1) q kf lt r J * w r l else 0)
          + ∑ r ∈ Finset.range 512, attR (i 1) q kf lt r J * w r l) (pay35 hw h9b p8)).congr fun J l _ _ => ?_
      exact acc_step b9 (fun J l => ∑ r ∈ Finset.range 512, attR (i 1) q kf lt r J * w r l) n J l

end Loop

end Cert.KernelIdeal.Sb

end
-- ==== Proof.SbBody.lean ====
/- The body of the backward kernel at one grid point: what it leaves in the three outputs' buffers. -/
module

public import proofs.«01_k».proof.Proof.SbLoop
public import proofs.«01_k».proof.Proof.Gen.KernelIdeal.Frame
public import Idealize.ShloMosaic.Lib.VecWindow

@[expose] public section

set_option maxRecDepth 16384

noncomputable section

namespace Cert.KernelIdeal.Sb

open Idealize.ShloMosaic Idealize.ShloMosaic.TcCoe
open Idealize.SL.Sem Cert.KernelIdeal Cert.KernelIdeal.Gen Cert.Reals Cert.Sb

/-- The score gradients of the diagonal block, after running sums `cp`, `cg`. -/
abbrev dzD {F : FTy → Type} [FloatOps F] (v16 v50 : FVec F S512x128 .bf16) (v55 : FVec F S512x128 .f32) (kd vd : Vec F S256x128 .f32) (cp cg : FVec F S512x128 .f32) : FVec F S512x256 .bf16 :=
  k0_pay51 k0_pay25 k0_pay26 k0_pay27 v50 v55 cp cg (k0_pay45 vd) (k0_pay46 v16 kd) (k0_pay47 v16 kd) (k0_pay48 v16 kd)

/-- Its weights. -/
abbrev attD {F : FTy → Type} [FloatOps F] (v16 : FVec F S512x128 .bf16) (v55 : FVec F S512x128 .f32) (kd : Vec F S256x128 .f32) (cp : FVec F S512x128 .f32) : FVec F S512x256 .f32 :=
  k0_pay50 k0_pay25 k0_pay26 v55 cp (k0_pay46 v16 kd) (k0_pay47 v16 kd) (k0_pay48 v16 kd)

/-- A gradient buffer after the diagonal block: `pay` of the block's rows. -/
abbrev fin {F : FTy → Type} [FloatOps F] (i : grid0.Coords) (arg : Memref sig .tc .vmem S2048x128 .f32) (G : BufTy.Contents (Elt F) arg.view.ty)
    (L : List (View.Piece (Elt F) S2048x128 .f32)) (pay : Vec F S256x128 .f32 → FVec F S256x128 .f32) : Vec F S2048x128 .f32 :=
  arg.view.read (Elt F) (arg.view.writes (Elt F) G (⟨(Rect.unit (s := S2048x128) (k0_off3 i) S256x128.size (k0_off3_inb i)), pay (arg.view.readAt (Elt F) (Rect.unit (s := S2048x128) (k0_off3 i) S256x128.size (k0_off3_inb i)).toLoadRect (arg.view.writes (Elt F) G L))⟩ :: L))

/-- The queries' gradient. -/
abbrev fin7 {F : FTy → Type} [FloatOps F] (v16 v50 : FVec F S512x128 .bf16) (v55 : FVec F S512x128 .f32) (kd vd : Vec F S256x128 .f32)
    (s : (FVec F S512x128 .f32 × FVec F S512x128 .f32 × FVec F S512x128 .f32)) : Vec F S256x128 .f32 :=
  k0_pay3 (iota .tc S256x128 32 [1] iota_S256x128_d1_w32) s.2.2 (k0_pay44 kd) (dzD v16 v50 v55 kd vd s.1 s.2.1) (constant S512x128 .f32 0x00000000#32)

theorem cover_last {F : FTy → Type} [FloatOps F] (p : View.Piece (Elt F) S2048x128 .f32) (L : List (View.Piece (Elt F) S2048x128 .f32)) (w : Vec F S2048x128 .f32)
    (y : S2048x128.Idx) : ∃ p' ∈ p :: (L ++ [(⟨Rect.unit (s := S2048x128) ![0, 0] S2048x128.size inb_S2048x128_S2048x128_0_0, w⟩ : View.Piece (Elt F) S2048x128 .f32)]), y ∈ p'.1.set := by
  refine ⟨(⟨Rect.unit (s := S2048x128) ![0, 0] S2048x128.size inb_S2048x128_S2048x128_0_0, w⟩ : View.Piece (Elt F) S2048x128 .f32),
    List.mem_cons_of_mem _ (List.mem_append_right _ (List.mem_singleton.mpr rfl)), ?_⟩
  refine (Rect.mem_set_unit (inb := inb_S2048x128_S2048x128_0_0)).mpr fun a => ?_
  have := (y a).isLt
  fin_cases a <;> exact ⟨Nat.zero_le _, by simpa using this⟩

section Pieces

variable {F : FTy → Type} [FloatOps F] (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S2048x128 .f32) (harg8 : arg8.IsWhole) (arg9 : Memref sig .tc .vmem S2048x128 .f32) (harg9 : arg9.IsWhole)
  (x0 : Vec F S256x128 .f32) (x1 : Vec F S2048x128 .f32) (x2 : Vec F S2048x128 .f32) (x3 : Vec F S256x128 .f32) (x4 : Vec F S2x256x128 .f32)
  (G8 : BufTy.Contents (Elt F) arg8.view.ty) (G9 : BufTy.Contents (Elt F) arg9.view.ty)

/-- The stacked queries, -/
abbrev qv : FVec F S512x128 .bf16 := (k0_pay24 (arg2.view.readAt (Elt F) (Rect.unit (s := S256x128) ![0, 0] S256x128.size inb_S256x128_S256x128_0_0).toLoadRect (harg2.unread x0)))

/-- the stacked gradients, -/
abbrev wv : FVec F S512x128 .bf16 := (k0_pay29 (iota .tc S256x128 32 [1] iota_S256x128_d1_w32) (arg5.view.readAt (Elt F) (Rect.unit (s := S256x128) ![0, 0] S256x128.size inb_S256x128_S256x128_0_0).toLoadRect (harg5.unread x3)) k0_pay28)

/-- the stacked totals, -/
abbrev lv : FVec F S512x128 .f32 := (k0_pay30 (arg6.view.readAt (Elt F) (Rect.unit (s := S2x256x128) ![0, 0, 0] S1x256x128.size inb_S2x256x128_S1x256x128_0_0_0).toLoadRect (harg6.unread x4)) (arg6.view.readAt (Elt F) (Rect.unit (s := S2x256x128) ![1, 0, 0] S1x256x128.size inb_S2x256x128_S1x256x128_1_0_0).toLoadRect (harg6.unread x4)))

/-- the keys and values of the diagonal block. -/
abbrev dkb : Vec F S256x128 .f32 := (arg3.view.readAt (Elt F) (Rect.unit (s := S2048x128) (k0_off3 i) S256x128.size (k0_off3_inb i)).toLoadRect (harg3.unread x1))
abbrev dvb : Vec F S256x128 .f32 := (arg4.view.readAt (Elt F) (Rect.unit (s := S2048x128) (k0_off3 i) S256x128.size (k0_off3_inb i)).toLoadRect (harg4.unread x2))

/-- The first loop's state before trip `n`. -/
abbrev T1 (n : ℕ) := st_k0_t1 (F := F) Variants.none c none i arg2 harg2 arg3 harg3 arg4 harg4 arg5 harg5 arg6 harg6 arg7 harg7 arg8 harg8 arg9 harg9 (BitVec.ofNat 32 (i 1)) (iota .tc S256x128 32 [1] iota_S256x128_d1_w32) (k0_pay24 (arg2.view.readAt (Elt F) (Rect.unit (s := S256x128) ![0, 0] S256x128.size inb_S256x128_S256x128_0_0).toLoadRect (harg2.unread x0))) k0_pay26 k0_pay27 (arg5.view.readAt (Elt F) (Rect.unit (s := S256x128) ![0, 0] S256x128.size inb_S256x128_S256x128_0_0).toLoadRect (harg5.unread x3)) k0_pay28 (arg6.view.readAt (Elt F) (Rect.unit (s := S2x256x128) ![0, 0, 0] S1x256x128.size inb_S2x256x128_S1x256x128_0_0_0).toLoadRect (harg6.unread x4)) (arg6.view.readAt (Elt F) (Rect.unit (s := S2x256x128) ![1, 0, 0] S1x256x128.size inb_S2x256x128_S1x256x128_1_0_0).toLoadRect (harg6.unread x4)) (harg3.unread x1) (harg4.unread x2) G8 G9 (k0_pay31, k0_pay31, k0_pay31) n

/-- The second loop's state before trip `n`, after contents `P8`, `P9` and the first loop's yield. -/
abbrev T2 (P8 : BufTy.Contents (Elt F) arg8.view.ty) (P9 : BufTy.Contents (Elt F) arg9.view.ty) (s : FVec F S512x128 .f32 × FVec F S512x128 .f32 × FVec F S512x128 .f32) (n : ℕ) :=
  st_k0_t2 (F := F) Variants.none c none i arg2 harg2 arg3 harg3 arg4 harg4 arg5 harg5 arg6 harg6 arg7 harg7 arg8 harg8 arg9 harg9 (BitVec.ofNat 32 (i 1)) (iota .tc S256x128 32 [1] iota_S256x128_d1_w32) (k0_pay24 (arg2.view.readAt (Elt F) (Rect.unit (s := S256x128) ![0, 0] S256x128.size inb_S256x128_S256x128_0_0).toLoadRect (harg2.unread x0))) k0_pay26 k0_pay27 (arg5.view.readAt (Elt F) (Rect.unit (s := S256x128) ![0, 0] S256x128.size inb_S256x128_S256x128_0_0).toLoadRect (harg5.unread x3)) k0_pay28 (arg6.view.readAt (Elt F) (Rect.unit (s := S2x256x128) ![0, 0, 0] S1x256x128.size inb_S2x256x128_S1x256x128_0_0_0).toLoadRect (harg6.unread x4)) (arg6.view.readAt (Elt F) (Rect.unit (s := S2x256x128) ![1, 0, 0] S1x256x128.size inb_S2x256x128_S1x256x128_1_0_0).toLoadRect (harg6.unread x4)) (Scalar.addi 0#32 (Scalar.muli (Scalar.divsi (Scalar.subi (BitVec.ofNat 32 (i 1)) 0#32) 1#32) 1#32)) (harg3.unread x1) (harg4.unread x2) P8 P9 s n

theorem T2_zero (P8 : BufTy.Contents (Elt F) arg8.view.ty) (P9 : BufTy.Contents (Elt F) arg9.view.ty) (s : FVec F S512x128 .f32 × FVec F S512x128 .f32 × FVec F S512x128 .f32) :
    T2 c i arg2 harg2 arg3 harg3 arg4 harg4 arg5 harg5 arg6 harg6 arg7 harg7 arg8 harg8 arg9 harg9 x0 x1 x2 x3 x4 P8 P9 s (k0_t2_loop i).trips = (s, [], []) := by
  rw [trips2]
  exact st_k0_t2.eq_1 ..

theorem out5_A (hc0 : cond0_0 i) :
    out0_A_5 c i arg2 harg2 arg3 harg3 arg4 harg4 arg5 harg5 arg6 harg6 arg7 harg7 arg8 harg8 arg9 harg9 hc0 x0 x1 x2 x3 x4 = fin7 (qv arg2 harg2 x0) (wv arg5 harg5 x3) (lv arg6 harg6 x4) (dkb i arg3 harg3 x1) (dvb i arg4 harg4 x2) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).1 := by
  have e : out0_A_5 c i arg2 harg2 arg3 harg3 arg4 harg4 arg5 harg5 arg6 harg6 arg7 harg7 arg8 harg8 arg9 harg9 hc0 x0 x1 x2 x3 x4 = VO0_5.read (Elt F) (VO0_5.writes (Elt F) VO0_5.junk
      [⟨Rect.unit (s := S256x128) ![0, 0] S256x128.size inb_S256x128_S256x128_0_0, fin7 (qv arg2 harg2 x0) (wv arg5 harg5 x3) (lv arg6 harg6 x4) (dkb i arg3 harg3 x1) (dvb i arg4 harg4 x2) (T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).1⟩]) := by
    unfold out0_A_5 kernelRun0_A
    rfl
  rw [e, T2_zero, trips1]
  exact View.read_writes_full _ _ _ _ _

theorem out6_A (hc0 : cond0_0 i) :
    out0_A_6 c i arg2 harg2 arg3 harg3 arg4 harg4 arg5 harg5 arg6 harg6 arg7 harg7 arg8 harg8 arg9 harg9 hc0 x0 x1 x2 x3 x4 = fin i arg8 (arg8.view.writes (Elt F) arg8.view.junk [(⟨Rect.unit (s := S2048x128) ![0, 0] S2048x128.size inb_S2048x128_S2048x128_0_0, k0_pay22⟩ : View.Piece (Elt F) S2048x128 .f32)]) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).2.1 (k0_pay1 (qv arg2 harg2 x0) (dzD (qv arg2 harg2 x0) (wv arg5 harg5 x3) (lv arg6 harg6 x4) (dkb i arg3 harg3 x1) (dvb i arg4 harg4 x2) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).1.1 (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).1.2.1)) := by
  have e : out0_A_6 c i arg2 harg2 arg3 harg3 arg4 harg4 arg5 harg5 arg6 harg6 arg7 harg7 arg8 harg8 arg9 harg9 hc0 x0 x1 x2 x3 x4 = VO0_6.read (Elt F) (VO0_6.writes (Elt F) VO0_6.junk
      (⟨(Rect.unit (s := S2048x128) (k0_off3 i) S256x128.size (k0_off3_inb i)), k0_pay1 (qv arg2 harg2 x0) (dzD (qv arg2 harg2 x0) (wv arg5 harg5 x3) (lv arg6 harg6 x4) (dkb i arg3 harg3 x1) (dvb i arg4 harg4 x2) (T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).1.1 (T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).1.2.1) (arg8.view.readAt (Elt F) (Rect.unit (s := S2048x128) (k0_off3 i) S256x128.size (k0_off3_inb i)).toLoadRect (arg8.view.writes (Elt F) arg8.view.junk ((T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).2.1 ++ ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)]))))⟩ :: ((T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).2.1 ++ ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])))) := by
    unfold out0_A_6 kernelRun0_A
    rfl
  rw [e, T2_zero, List.nil_append, fin, View.writes_append, trips1, View.read_writes_of_cover VO0_6 _ arg8.view arg8.view.junk _ (cover_last _ _ _),
    ← List.cons_append, View.writes_append]

theorem out7_A (hc0 : cond0_0 i) :
    out0_A_7 c i arg2 harg2 arg3 harg3 arg4 harg4 arg5 harg5 arg6 harg6 arg7 harg7 arg8 harg8 arg9 harg9 hc0 x0 x1 x2 x3 x4 = fin i arg9 (arg9.view.writes (Elt F) arg9.view.junk [(⟨Rect.unit (s := S2048x128) ![0, 0] S2048x128.size inb_S2048x128_S2048x128_0_0, k0_pay23⟩ : View.Piece (Elt F) S2048x128 .f32)]) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).2.2 (k0_pay2 (wv arg5 harg5 x3) (attD (qv arg2 harg2 x0) (lv arg6 harg6 x4) (dkb i arg3 harg3 x1) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (i 1)).1.1)) := by
  have e : out0_A_7 c i arg2 harg2 arg3 harg3 arg4 harg4 arg5 harg5 arg6 harg6 arg7 harg7 arg8 harg8 arg9 harg9 hc0 x0 x1 x2 x3 x4 = VO0_7.read (Elt F) (VO0_7.writes (Elt F) VO0_7.junk
      (⟨(Rect.unit (s := S2048x128) (k0_off3 i) S256x128.size (k0_off3_inb i)), k0_pay2 (wv arg5 harg5 x3) (attD (qv arg2 harg2 x0) (lv arg6 harg6 x4) (dkb i arg3 harg3 x1) (T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).1.1) (arg9.view.readAt (Elt F) (Rect.unit (s := S2048x128) (k0_off3 i) S256x128.size (k0_off3_inb i)).toLoadRect (arg9.view.writes (Elt F) arg9.view.junk ((T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).2.2 ++ ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)]))))⟩ :: ((T2 c i arg2 harg2 arg3 harg3 arg4 harg4 arg5 harg5 arg6 harg6 arg7 harg7 arg8 harg8 arg9 harg9 x0 x1 x2 x3 x4 (arg8.view.writes (Elt F) arg8.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.1 ++ [(⟨Rect.unit (s := S2048x128) ![0, 0] S2048x128.size inb_S2048x128_S2048x128_0_0, k0_pay22⟩ : View.Piece (Elt F) S2048x128 .f32)])) (arg9.view.writes (Elt F) arg9.view.junk ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])) (T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).1 (k0_t2_loop i).trips).2.2 ++ ((T1 c i arg2 harg2 arg3 harg3 arg4 harg4 arg5 harg5 arg6 harg6 arg7 harg7 arg8 harg8 arg9 harg9 x0 x1 x2 x3 x4 (arg8.view.writes (Elt F) arg8.view.junk [(⟨Rect.unit (s := S2048x128) ![0, 0] S2048x128.size inb_S2048x128_S2048x128_0_0, k0_pay22⟩ : View.Piece (Elt F) S2048x128 .f32)]) (arg9.view.writes (Elt F) arg9.view.junk [(⟨Rect.unit (s := S2048x128) ![0, 0] S2048x128.size inb_S2048x128_S2048x128_0_0, k0_pay23⟩ : View.Piece (Elt F) S2048x128 .f32)]) (k0_t1_loop i).trips).2.2 ++ [(⟨Rect.unit (s := S2048x128) ![0, 0] S2048x128.size inb_S2048x128_S2048x128_0_0, k0_pay23⟩ : View.Piece (Elt F) S2048x128 .f32)])))) := by
    unfold out0_A_7 kernelRun0_A
    rfl
  rw [e, T2_zero, List.nil_append, fin, View.writes_append, trips1, View.read_writes_of_cover VO0_7 _ arg9.view arg9.view.junk _ (cover_last _ _ _),
    ← List.cons_append, View.writes_append]

theorem out5_B (hc0 : ¬cond0_0 i) (xo6 : Vec F S2048x128 .f32) (xo7 : Vec F S2048x128 .f32) :
    out0_B_5 c i arg2 harg2 arg3 harg3 arg4 harg4 arg5 harg5 arg6 harg6 arg7 harg7 arg8 harg8 arg9 harg9 hc0 x0 x1 x2 x3 x4 xo6 xo7 = fin7 (qv arg2 harg2 x0) (wv arg5 harg5 x3) (lv arg6 harg6 x4) (dkb i arg3 harg3 x1) (dvb i arg4 harg4 x2) (T1 c i arg2 harg2 arg3 harg3 arg4 harg4 arg5 harg5 arg6 harg6 arg7 harg7 arg8 harg8 arg9 harg9 x0 x1 x2 x3 x4 (harg8.unread xo6) (harg9.unread xo7) (i 1)).1 := by
  have e : out0_B_5 c i arg2 harg2 arg3 harg3 arg4 harg4 arg5 harg5 arg6 harg6 arg7 harg7 arg8 harg8 arg9 harg9 hc0 x0 x1 x2 x3 x4 xo6 xo7 = VO0_5.read (Elt F) (VO0_5.writes (Elt F) VO0_5.junk
      [⟨Rect.unit (s := S256x128) ![0, 0] S256x128.size inb_S256x128_S256x128_0_0, fin7 (qv arg2 harg2 x0) (wv arg5 harg5 x3) (lv arg6 harg6 x4) (dkb i arg3 harg3 x1) (dvb i arg4 harg4 x2) (T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).1⟩]) := by
    unfold out0_B_5 kernelRun0_B
    rfl
  rw [e, T2_zero, trips1]
  exact View.read_writes_full _ _ _ _ _

theorem out6_B (hc0 : ¬cond0_0 i) (xo6 : Vec F S2048x128 .f32) (xo7 : Vec F S2048x128 .f32) :
    out0_B_6 c i arg2 harg2 arg3 harg3 arg4 harg4 arg5 harg5 arg6 harg6 arg7 harg7 arg8 harg8 arg9 harg9 hc0 x0 x1 x2 x3 x4 xo6 xo7 = fin i arg8 (harg8.unread xo6) (T1 c i arg2 harg2 arg3 harg3 arg4 harg4 arg5 harg5 arg6 harg6 arg7 harg7 arg8 harg8 arg9 harg9 x0 x1 x2 x3 x4 (harg8.unread xo6) (harg9.unread xo7) (i 1)).2.1 (k0_pay1 (qv arg2 harg2 x0) (dzD (qv arg2 harg2 x0) (wv arg5 harg5 x3) (lv arg6 harg6 x4) (dkb i arg3 harg3 x1) (dvb i arg4 harg4 x2) (T1 c i arg2 harg2 arg3 harg3 arg4 harg4 arg5 harg5 arg6 harg6 arg7 harg7 arg8 harg8 arg9 harg9 x0 x1 x2 x3 x4 (harg8.unread xo6) (harg9.unread xo7) (i 1)).1.1 (T1 c i arg2 harg2 arg3 harg3 arg4 harg4 arg5 harg5 arg6 harg6 arg7 harg7 arg8 harg8 arg9 harg9 x0 x1 x2 x3 x4 (harg8.unread xo6) (harg9.unread xo7) (i 1)).1.2.1)) := by
  have e : out0_B_6 c i arg2 harg2 arg3 harg3 arg4 harg4 arg5 harg5 arg6 harg6 arg7 harg7 arg8 harg8 arg9 harg9 hc0 x0 x1 x2 x3 x4 xo6 xo7 = fin i arg8 (harg8.unread xo6) ((T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).2.1 ++ (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (k0_pay1 (qv arg2 harg2 x0) (dzD (qv arg2 harg2 x0) (wv arg5 harg5 x3) (lv arg6 harg6 x4) (dkb i arg3 harg3 x1) (dvb i arg4 harg4 x2) (T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).1.1 (T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).1.2.1)) := by
    unfold out0_B_6 kernelRun0_B
    rfl
  rw [e, T2_zero, List.nil_append, trips1]

theorem out7_B (hc0 : ¬cond0_0 i) (xo6 : Vec F S2048x128 .f32) (xo7 : Vec F S2048x128 .f32) :
    out0_B_7 c i arg2 harg2 arg3 harg3 arg4 harg4 arg5 harg5 arg6 harg6 arg7 harg7 arg8 harg8 arg9 harg9 hc0 x0 x1 x2 x3 x4 xo6 xo7 = fin i arg9 (harg9.unread xo7) (T1 c i arg2 harg2 arg3 harg3 arg4 harg4 arg5 harg5 arg6 harg6 arg7 harg7 arg8 harg8 arg9 harg9 x0 x1 x2 x3 x4 (harg8.unread xo6) (harg9.unread xo7) (i 1)).2.2 (k0_pay2 (wv arg5 harg5 x3) (attD (qv arg2 harg2 x0) (lv arg6 harg6 x4) (dkb i arg3 harg3 x1) (T1 c i arg2 harg2 arg3 harg3 arg4 harg4 arg5 harg5 arg6 harg6 arg7 harg7 arg8 harg8 arg9 harg9 x0 x1 x2 x3 x4 (harg8.unread xo6) (harg9.unread xo7) (i 1)).1.1)) := by
  have e : out0_B_7 c i arg2 harg2 arg3 harg3 arg4 harg4 arg5 harg5 arg6 harg6 arg7 harg7 arg8 harg8 arg9 harg9 hc0 x0 x1 x2 x3 x4 xo6 xo7 = fin i arg9 (harg9.unread xo7) ((T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).2.2 ++ (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (k0_pay2 (wv arg5 harg5 x3) (attD (qv arg2 harg2 x0) (lv arg6 harg6 x4) (dkb i arg3 harg3 x1) (T2 c i arg2 harg2 arg3 harg3 arg4 harg4 arg5 harg5 arg6 harg6 arg7 harg7 arg8 harg8 arg9 harg9 x0 x1 x2 x3 x4 (arg8.view.writes (Elt F) (harg8.unread xo6) (T1 c i arg2 harg2 arg3 harg3 arg4 harg4 arg5 harg5 arg6 harg6 arg7 harg7 arg8 harg8 arg9 harg9 x0 x1 x2 x3 x4 (harg8.unread xo6) (harg9.unread xo7) (k0_t1_loop i).trips).2.1) (arg9.view.writes (Elt F) (harg9.unread xo7) (T1 c i arg2 harg2 arg3 harg3 arg4 harg4 arg5 harg5 arg6 harg6 arg7 harg7 arg8 harg8 arg9 harg9 x0 x1 x2 x3 x4 (harg8.unread xo6) (harg9.unread xo7) (k0_t1_loop i).trips).2.2) (T1 c i arg2 harg2 arg3 harg3 arg4 harg4 arg5 harg5 arg6 harg6 arg7 harg7 arg8 harg8 arg9 harg9 x0 x1 x2 x3 x4 (harg8.unread xo6) (harg9.unread xo7) (k0_t1_loop i).trips).1 (k0_t2_loop i).trips).1.1)) := by
    unfold out0_B_7 kernelRun0_B
    rfl
  rw [e, T2_zero, List.nil_append, trips1]

end Pieces

end Cert.KernelIdeal.Sb

end
-- ==== Proof.SbVal.lean ====
/- The values the backward kernel's body leaves at one grid point, in real numbers. -/
module

public import proofs.«01_k».proof.Proof.SbBody

@[expose] public section

set_option maxRecDepth 16384

noncomputable section

namespace Cert.KernelIdeal.Sb

open Idealize.ShloMosaic Idealize.ShloMosaic.TcCoe
open Idealize.SL.Sem Cert.KernelIdeal Cert.KernelIdeal.Gen Cert.Reals Cert.Sb

theorem pay22 : Rl (φ := .f32) (k0_pay22 (F := Ideal)) (fun _ _ => 0) := by
  intro a b
  pointwise [k0_pay22]
  exact zero_real

theorem pay23 : Rl (φ := .f32) (k0_pay23 (F := Ideal)) (fun _ _ => 0) := by
  intro a b
  pointwise [k0_pay23]
  exact zero_real

/-- A load of a whole buffer is what the buffer holds. -/
theorem whole_ld {arg : Memref sig .tc .vmem S256x128 .f32} (harg : arg.IsWhole) (x : Vec Ideal S256x128 .f32) :
    arg.view.readAt (Elt Ideal) (Rect.unit (s := S256x128) ![0, 0] S256x128.size inb_S256x128_S256x128_0_0).toLoadRect (harg.unread x) = x := by
  rw [View.readAt_eq_ld, harg.read_unread]
  funext y
  refine View.ld_unit_apply_of x _ _ _ y y fun a => ?_
  fin_cases a <;> exact (Nat.zero_add _).symm

section Vals

variable {c : Dev nD} {i : grid0.Coords} {arg2 : Memref sig .tc .vmem S256x128 .f32} {harg2 : arg2.IsWhole} {arg3 : Memref sig .tc .vmem S2048x128 .f32} {harg3 : arg3.IsWhole} {arg4 : Memref sig .tc .vmem S2048x128 .f32} {harg4 : arg4.IsWhole} {arg5 : Memref sig .tc .vmem S256x128 .f32} {harg5 : arg5.IsWhole} {arg6 : Memref sig .tc .vmem S2x256x128 .f32} {harg6 : arg6.IsWhole} {arg7 : Memref sig .tc .vmem S256x128 .f32} {harg7 : arg7.IsWhole} {arg8 : Memref sig .tc .vmem S2048x128 .f32} {harg8 : arg8.IsWhole} {arg9 : Memref sig .tc .vmem S2048x128 .f32} {harg9 : arg9.IsWhole}
  {x0 : Vec Ideal S256x128 .f32} {x1 : Vec Ideal S2048x128 .f32} {x2 : Vec Ideal S2048x128 .f32} {x3 : Vec Ideal S256x128 .f32} {x4 : Vec Ideal S2x256x128 .f32}
  {Q K V D : ℕ → ℕ → ℝ} {lt : ℕ → ℝ} {b8 b9 : ℕ → ℕ → ℝ}

theorem qv_val (h0 : Rl (φ := .f32) x0 Q) : Rl (qv (F := Ideal) arg2 harg2 x0) (stack (1 / 8) Q) := by
  unfold qv
  rw [whole_ld]
  exact pay24 h0

theorem wv_val (h3 : Rl (φ := .f32) x3 D) : Rl (wv (F := Ideal) arg5 harg5 x3) (stack 1 D) := by
  unfold wv
  rw [whole_ld]
  exact pay29 h3

theorem lv_val (h4 : ∀ (b : Fin 2) (p : Fin 256) (l : Fin 128), x4 (ix3 b p l) = ((lt (256 * b + p) : ℝ) : EReal)) :
    Rl (lv (F := Ideal) arg6 harg6 x4) (fun r _ => lt r) := by
  unfold lv
  refine pay30 (fun a b => ?_) (fun a b => ?_)
  · rw [View.readAt_eq_ld, harg6.read_unread]
    refine (View.ld_unit_apply_of x4 _ _ _ (ix3 0 a b) (ix3 0 a b) fun d => ?_).trans ((h4 0 a b).trans ?_)
    · fin_cases d
      · rfl
      · exact (Nat.zero_add _).symm
      · exact (Nat.zero_add _).symm
    · show ((lt (256 * 0 + a) : ℝ) : EReal) = _
      rw [Nat.mul_zero, Nat.zero_add]
  · rw [View.readAt_eq_ld, harg6.read_unread]
    refine (View.ld_unit_apply_of x4 _ _ _ (ix3 0 a b) (ix3 1 a b) fun d => ?_).trans ((h4 1 a b).trans ?_)
    · fin_cases d
      · rfl
      · exact (Nat.zero_add _).symm
      · exact (Nat.zero_add _).symm
    · show ((lt (256 * 1 + a) : ℝ) : EReal) = _
      rw [Nat.mul_one]

theorem dkb_val (h1 : Rl (φ := .f32) x1 K) : Rl (φ := .f32) (dkb (F := Ideal) i arg3 harg3 x1) (rowsFrom (i 1) K) := by
  refine rows_ld ?_ (off3_val i) (i 1).isLt _
  rw [harg3.read_unread]; exact h1

theorem dvb_val (h2 : Rl (φ := .f32) x2 V) : Rl (φ := .f32) (dvb (F := Ideal) i arg4 harg4 x2) (rowsFrom (i 1) V) := by
  refine rows_ld ?_ (off3_val i) (i 1).isLt _
  rw [harg4.read_unread]; exact h2

/-- What holds after the loop, with the stores so far in the two accumulators. -/
abbrev After (b8 b9 : ℕ → ℕ → ℝ) (G8 : BufTy.Contents (Elt Ideal) arg8.view.ty) (G9 : BufTy.Contents (Elt Ideal) arg9.view.ty)
    (i : grid0.Coords) (Q K V D : ℕ → ℕ → ℝ) (lt : ℕ → ℝ)
    (s : (FVec Ideal S512x128 .f32 × FVec Ideal S512x128 .f32 × FVec Ideal S512x128 .f32) × List (View.Piece (Elt Ideal) S2048x128 .f32) × List (View.Piece (Elt Ideal) S2048x128 .f32)) : Prop :=
  Inv (i 1) (stack (1 / 8) Q) (stack 1 D) K V lt b8 b9 (i 1) s.1.1 s.1.2.1 s.1.2.2
    (arg8.view.read (Elt Ideal) (arg8.view.writes (Elt Ideal) G8 s.2.1)) (arg9.view.read (Elt Ideal) (arg9.view.writes (Elt Ideal) G9 s.2.2))

theorem after (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal))
    {G8 : BufTy.Contents (Elt Ideal) arg8.view.ty} {G9 : BufTy.Contents (Elt Ideal) arg9.view.ty}
    (h8 : Rl (φ := .f32) (m := 2048) (n := 128) (arg8.view.read (Elt Ideal) G8) b8)
    (h9 : Rl (φ := .f32) (m := 2048) (n := 128) (arg9.view.read (Elt Ideal) G9) b9) :
    After (arg8 := arg8) (arg9 := arg9) b8 b9 G8 G9 i Q K V D lt (T1 (F := Ideal) c i arg2 harg2 arg3 harg3 arg4 harg4 arg5 harg5 arg6 harg6 arg7 harg7 arg8 harg8 arg9 harg9 x0 x1 x2 x3 x4 G8 G9 (i 1)) :=
  loop_inv (hq := qv_val h0) (hw := wv_val h3) (hl := lv_val h4) (hk := h1) (hv := h2) (h8 := h8) (h9 := h9) (hi1 := pay31) (hi2 := pay31)
    (hi3 := pay31) (n := i 1) (hn := le_refl _) ..

variable {G8 : BufTy.Contents (Elt Ideal) arg8.view.ty} {G9 : BufTy.Contents (Elt Ideal) arg9.view.ty}
  {s : (FVec Ideal S512x128 .f32 × FVec Ideal S512x128 .f32 × FVec Ideal S512x128 .f32) × List (View.Piece (Elt Ideal) S2048x128 .f32) × List (View.Piece (Elt Ideal) S2048x128 .f32)}

/-- The queries' gradient of the block. -/
theorem fin7_val (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal))
    (I : After (arg8 := arg8) (arg9 := arg9) b8 b9 G8 G9 i Q K V D lt s) :
    Rl (φ := .f32) (fin7 (qv (F := Ideal) arg2 harg2 x0) (wv (F := Ideal) arg5 harg5 x3) (lv (F := Ideal) arg6 harg6 x4) (dkb (F := Ideal) i arg3 harg3 x1) (dvb (F := Ideal) i arg4 harg4 x2) s.1)
      (fun p l => (∑ J ∈ Finset.range (256 * ((i 1 : ℕ) + 1)), dzR (i 1) (stack (1 / 8) Q) (stack 1 D) K V lt (l / 64 * 256 + p) J * K J l) * (1 / 8)) := by
  have bo : blockOk true (i 1 : ℕ) (i 1 : ℕ) := Or.inr ⟨rfl, rfl⟩
  have p51 := (pay51 (qv_val (harg2 := harg2) h0) (dkb_val (i := i) (harg3 := harg3) h1) (lv_val (harg6 := harg6) h4) I.cp
    (wv_val (harg5 := harg5) h3) (dvb_val (i := i) (harg4 := harg4) h2) I.cg).congr fun r c _ hc => dzS_eq bo hc
  refine (pay3 (dkb_val (i := i) (harg3 := harg3) h1) I.dq p51).congr fun p l _ _ => ?_
  congr 1
  exact range_step (fun J => dzR (i 1) (stack (1 / 8) Q) (stack 1 D) K V lt (l / 64 * 256 + p) J * K J l) (i 1)

theorem dz_zero {r J : ℕ} {q w k v : ℕ → ℕ → ℝ} {lt : ℕ → ℝ} {n : ℕ} (h : 256 * (n + 1) ≤ J) : dzR n q w k v lt r J = 0 := by
  unfold dzR seen
  rw [if_neg (by omega)]

theorem att_zero {r J : ℕ} {q k : ℕ → ℕ → ℝ} {lt : ℕ → ℝ} {n : ℕ} (h : 256 * (n + 1) ≤ J) : attR n q k lt r J = 0 := by
  unfold attR seen
  rw [if_neg (by omega)]

/-- The keys' gradient after the point. -/
theorem fin8_val (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal))
    (I : After (arg8 := arg8) (arg9 := arg9) b8 b9 G8 G9 i Q K V D lt s) :
    Rl (φ := .f32) (fin (F := Ideal) i arg8 G8 s.2.1 (k0_pay1 (qv (F := Ideal) arg2 harg2 x0) (dzD (qv (F := Ideal) arg2 harg2 x0) (wv (F := Ideal) arg5 harg5 x3) (lv (F := Ideal) arg6 harg6 x4) (dkb (F := Ideal) i arg3 harg3 x1) (dvb (F := Ideal) i arg4 harg4 x2) s.1.1 s.1.2.1)))
      (fun J l => b8 J l + ∑ r ∈ Finset.range 512, dzR (i 1) (stack (1 / 8) Q) (stack 1 D) K V lt r J * stack (1 / 8) Q r l) := by
  have bo : blockOk true (i 1 : ℕ) (i 1 : ℕ) := Or.inr ⟨rfl, rfl⟩
  have p51 := (pay51 (qv_val (harg2 := harg2) h0) (dkb_val (i := i) (harg3 := harg3) h1) (lv_val (harg6 := harg6) h4) I.cp
    (wv_val (harg5 := harg5) h3) (dvb_val (i := i) (harg4 := harg4) h2) I.cg).congr fun r c _ hc => dzS_eq bo hc
  have h8b := rows_ld I.x8 (off3_val i) (i 1).isLt (k0_off3_inb i)
  refine (rows_st (off3_val i) (i 1).isLt _ I.x8 (new := fun J l => (b8 J l + if J < 256 * (i 1 : ℕ) then ∑ r ∈ Finset.range 512, dzR (i 1) (stack (1 / 8) Q) (stack 1 D) K V lt r J * stack (1 / 8) Q r l else 0)
      + ∑ r ∈ Finset.range 512, dzR (i 1) (stack (1 / 8) Q) (stack 1 D) K V lt r J * stack (1 / 8) Q r l) (pay1 (qv_val (harg2 := harg2) h0) h8b p51)).congr fun J l _ _ => ?_
  refine (acc_step b8 (fun J l => ∑ r ∈ Finset.range 512, dzR (i 1) (stack (1 / 8) Q) (stack 1 D) K V lt r J * stack (1 / 8) Q r l) (i 1) J l).trans ?_
  congr 1
  by_cases hJ : J < 256 * ((i 1 : ℕ) + 1)
  · rw [if_pos hJ]
  · rw [if_neg hJ]
    exact (Finset.sum_eq_zero fun r _ => by rw [dz_zero (by omega), zero_mul]).symm

/-- The values' gradient after the point. -/
theorem fin9_val (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal))
    (I : After (arg8 := arg8) (arg9 := arg9) b8 b9 G8 G9 i Q K V D lt s) :
    Rl (φ := .f32) (fin (F := Ideal) i arg9 G9 s.2.2 (k0_pay2 (wv (F := Ideal) arg5 harg5 x3) (attD (qv (F := Ideal) arg2 harg2 x0) (lv (F := Ideal) arg6 harg6 x4) (dkb (F := Ideal) i arg3 harg3 x1) s.1.1)))
      (fun J l => b9 J l + ∑ r ∈ Finset.range 512, attR (i 1) (stack (1 / 8) Q) K lt r J * stack 1 D r l) := by
  have bo : blockOk true (i 1 : ℕ) (i 1 : ℕ) := Or.inr ⟨rfl, rfl⟩
  have p50 := (pay50 (qv_val (harg2 := harg2) h0) (dkb_val (i := i) (harg3 := harg3) h1) (lv_val (harg6 := harg6) h4) I.cp).congr fun r c _ hc => attS_eq bo hc
  have h9b := rows_ld I.x9 (off3_val i) (i 1).isLt (k0_off3_inb i)
  refine (rows_st (off3_val i) (i 1).isLt _ I.x9 (new := fun J l => (b9 J l + if J < 256 * (i 1 : ℕ) then ∑ r ∈ Finset.range 512, attR (i 1) (stack (1 / 8) Q) K lt r J * stack 1 D r l else 0)
      + ∑ r ∈ Finset.range 512, attR (i 1) (stack (1 / 8) Q) K lt r J * stack 1 D r l) (pay2 (wv_val (harg5 := harg5) h3) h9b p50)).congr fun J l _ _ => ?_
  refine (acc_step b9 (fun J l => ∑ r ∈ Finset.range 512, attR (i 1) (stack (1 / 8) Q) K lt r J * stack 1 D r l) (i 1) J l).trans ?_
  congr 1
  by_cases hJ : J < 256 * ((i 1 : ℕ) + 1)
  · rw [if_pos hJ]
  · rw [if_neg hJ]
    exact (Finset.sum_eq_zero fun r _ => by rw [att_zero (by omega), zero_mul]).symm

theorem val5_A (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : cond0_0 i) :
    Rl (φ := .f32) (out0_A_5 (F := Ideal) c i arg2 harg2 arg3 harg3 arg4 harg4 arg5 harg5 arg6 harg6 arg7 harg7 arg8 harg8 arg9 harg9 hc0 x0 x1 x2 x3 x4) (fun p l => (∑ J ∈ Finset.range (256 * ((i 1 : ℕ) + 1)), dzR (i 1) (stack (1 / 8) Q) (stack 1 D) K V lt (l / 64 * 256 + p) J * K J l) * (1 / 8)) := by
  have g8 : Rl (φ := .f32) (m := 2048) (n := 128) (arg8.view.read (Elt Ideal) (arg8.view.writes (Elt Ideal) arg8.view.junk
      [(⟨Rect.unit (s := S2048x128) ![0, 0] S2048x128.size inb_S2048x128_S2048x128_0_0, k0_pay22 (F := Ideal)⟩ : View.Piece (Elt Ideal) S2048x128 .f32)])) (fun _ _ => 0) := by
    rw [View.read_writes_full]; exact pay22
  have g9 : Rl (φ := .f32) (m := 2048) (n := 128) (arg9.view.read (Elt Ideal) (arg9.view.writes (Elt Ideal) arg9.view.junk
      [(⟨Rect.unit (s := S2048x128) ![0, 0] S2048x128.size inb_S2048x128_S2048x128_0_0, k0_pay23 (F := Ideal)⟩ : View.Piece (Elt Ideal) S2048x128 .f32)])) (fun _ _ => 0) := by
    rw [View.read_writes_full]; exact pay23
  rw [out5_A]
  exact fin7_val h0 h1 h2 h3 h4 (after h0 h1 h2 h3 h4 g8 g9)

theorem val6_A (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : cond0_0 i) :
    Rl (φ := .f32) (out0_A_6 (F := Ideal) c i arg2 harg2 arg3 harg3 arg4 harg4 arg5 harg5 arg6 harg6 arg7 harg7 arg8 harg8 arg9 harg9 hc0 x0 x1 x2 x3 x4) (fun J l => ∑ r ∈ Finset.range 512, dzR (i 1) (stack (1 / 8) Q) (stack 1 D) K V lt r J * stack (1 / 8) Q r l) := by
  have g8 : Rl (φ := .f32) (m := 2048) (n := 128) (arg8.view.read (Elt Ideal) (arg8.view.writes (Elt Ideal) arg8.view.junk
      [(⟨Rect.unit (s := S2048x128) ![0, 0] S2048x128.size inb_S2048x128_S2048x128_0_0, k0_pay22 (F := Ideal)⟩ : View.Piece (Elt Ideal) S2048x128 .f32)])) (fun _ _ => 0) := by
    rw [View.read_writes_full]; exact pay22
  have g9 : Rl (φ := .f32) (m := 2048) (n := 128) (arg9.view.read (Elt Ideal) (arg9.view.writes (Elt Ideal) arg9.view.junk
      [(⟨Rect.unit (s := S2048x128) ![0, 0] S2048x128.size inb_S2048x128_S2048x128_0_0, k0_pay23 (F := Ideal)⟩ : View.Piece (Elt Ideal) S2048x128 .f32)])) (fun _ _ => 0) := by
    rw [View.read_writes_full]; exact pay23
  rw [out6_A]
  exact (fin8_val h0 h1 h2 h3 h4 (after h0 h1 h2 h3 h4 g8 g9)).congr fun J l _ _ => zero_add _

theorem val7_A (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : cond0_0 i) :
    Rl (φ := .f32) (out0_A_7 (F := Ideal) c i arg2 harg2 arg3 harg3 arg4 harg4 arg5 harg5 arg6 harg6 arg7 harg7 arg8 harg8 arg9 harg9 hc0 x0 x1 x2 x3 x4) (fun J l => ∑ r ∈ Finset.range 512, attR (i 1) (stack (1 / 8) Q) K lt r J * stack 1 D r l) := by
  have g8 : Rl (φ := .f32) (m := 2048) (n := 128) (arg8.view.read (Elt Ideal) (arg8.view.writes (Elt Ideal) arg8.view.junk
      [(⟨Rect.unit (s := S2048x128) ![0, 0] S2048x128.size inb_S2048x128_S2048x128_0_0, k0_pay22 (F := Ideal)⟩ : View.Piece (Elt Ideal) S2048x128 .f32)])) (fun _ _ => 0) := by
    rw [View.read_writes_full]; exact pay22
  have g9 : Rl (φ := .f32) (m := 2048) (n := 128) (arg9.view.read (Elt Ideal) (arg9.view.writes (Elt Ideal) arg9.view.junk
      [(⟨Rect.unit (s := S2048x128) ![0, 0] S2048x128.size inb_S2048x128_S2048x128_0_0, k0_pay23 (F := Ideal)⟩ : View.Piece (Elt Ideal) S2048x128 .f32)])) (fun _ _ => 0) := by
    rw [View.read_writes_full]; exact pay23
  rw [out7_A]
  exact (fin9_val h0 h1 h2 h3 h4 (after h0 h1 h2 h3 h4 g8 g9)).congr fun J l _ _ => zero_add _

theorem val5_B (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : ¬cond0_0 i) {xo6 xo7 : Vec Ideal S2048x128 .f32} (h6 : Rl (φ := .f32) xo6 b8) (h7 : Rl (φ := .f32) xo7 b9) :
    Rl (φ := .f32) (out0_B_5 (F := Ideal) c i arg2 harg2 arg3 harg3 arg4 harg4 arg5 harg5 arg6 harg6 arg7 harg7 arg8 harg8 arg9 harg9 hc0 x0 x1 x2 x3 x4 xo6 xo7) (fun p l => (∑ J ∈ Finset.range (256 * ((i 1 : ℕ) + 1)), dzR (i 1) (stack (1 / 8) Q) (stack 1 D) K V lt (l / 64 * 256 + p) J * K J l) * (1 / 8)) := by
  have g8 : Rl (φ := .f32) (m := 2048) (n := 128) (arg8.view.read (Elt Ideal) (harg8.unread xo6)) b8 := by
    rw [harg8.read_unread]; exact h6
  have g9 : Rl (φ := .f32) (m := 2048) (n := 128) (arg9.view.read (Elt Ideal) (harg9.unread xo7)) b9 := by
    rw [harg9.read_unread]; exact h7
  rw [out5_B]
  exact fin7_val h0 h1 h2 h3 h4 (after h0 h1 h2 h3 h4 g8 g9)

theorem val6_B (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : ¬cond0_0 i) {xo6 xo7 : Vec Ideal S2048x128 .f32} (h6 : Rl (φ := .f32) xo6 b8) (h7 : Rl (φ := .f32) xo7 b9) :
    Rl (φ := .f32) (out0_B_6 (F := Ideal) c i arg2 harg2 arg3 harg3 arg4 harg4 arg5 harg5 arg6 harg6 arg7 harg7 arg8 harg8 arg9 harg9 hc0 x0 x1 x2 x3 x4 xo6 xo7) (fun J l => b8 J l + ∑ r ∈ Finset.range 512, dzR (i 1) (stack (1 / 8) Q) (stack 1 D) K V lt r J * stack (1 / 8) Q r l) := by
  have g8 : Rl (φ := .f32) (m := 2048) (n := 128) (arg8.view.read (Elt Ideal) (harg8.unread xo6)) b8 := by
    rw [harg8.read_unread]; exact h6
  have g9 : Rl (φ := .f32) (m := 2048) (n := 128) (arg9.view.read (Elt Ideal) (harg9.unread xo7)) b9 := by
    rw [harg9.read_unread]; exact h7
  rw [out6_B]
  exact fin8_val h0 h1 h2 h3 h4 (after h0 h1 h2 h3 h4 g8 g9)

theorem val7_B (h0 : Rl (φ := .f32) x0 Q) (h1 : Rl (φ := .f32) x1 K) (h2 : Rl (φ := .f32) x2 V) (h3 : Rl (φ := .f32) x3 D)
    (h4 : ∀ (b : Fin 2) (p : Fin 256) (l : Fin 128), x4 (ix3 b p l) = ((lt (256 * b + p) : ℝ) : EReal)) (hc0 : ¬cond0_0 i) {xo6 xo7 : Vec Ideal S2048x128 .f32} (h6 : Rl (φ := .f32) xo6 b8) (h7 : Rl (φ := .f32) xo7 b9) :
    Rl (φ := .f32) (out0_B_7 (F := Ideal) c i arg2 harg2 arg3 harg3 arg4 harg4 arg5 harg5 arg6 harg6 arg7 harg7 arg8 harg8 arg9 harg9 hc0 x0 x1 x2 x3 x4 xo6 xo7) (fun J l => b9 J l + ∑ r ∈ Finset.range 512, attR (i 1) (stack (1 / 8) Q) K lt r J * stack 1 D r l) := by
  have g8 : Rl (φ := .f32) (m := 2048) (n := 128) (arg8.view.read (Elt Ideal) (harg8.unread xo6)) b8 := by
    rw [harg8.read_unread]; exact h6
  have g9 : Rl (φ := .f32) (m := 2048) (n := 128) (arg9.view.read (Elt Ideal) (harg9.unread xo7)) b9 := by
    rw [harg9.read_unread]; exact h7
  rw [out7_B]
  exact fin9_val h0 h1 h2 h3 h4 (after h0 h1 h2 h3 h4 g8 g9)

end Vals

end Cert.KernelIdeal.Sb

end
-- ==== Proof.SbGrid.lean ====
/- The blocks the backward kernel reads at each grid point, what it has accumulated after each, and the three arrays it
   leaves, in real numbers. -/
module

public import proofs.«01_k».proof.Proof.SbVal
public import proofs.«01_k».proof.Proof.SbHead
public import proofs.«01_k».proof.Proof.RefVal
public import proofs.«01_k».proof.Proof.Gen.KernelIdeal.Value
public import Idealize.ShloMosaic.Lib.Claim

@[expose] public section

set_option maxRecDepth 16384

noncomputable section

namespace Cert.KernelIdeal.Sb

open Idealize.ShloMosaic Idealize.ShloMosaic.TcCoe
open Idealize.SL.Sem Cert.KernelIdeal Cert.KernelIdeal.Gen Cert.Reals Cert.Sb

/-! ## The index maps -/

theorem ix_0 : ∀ t : Fin cfg0.N, win0_0.index t = ![t.val % 8, t.val / 8] :=
  (by decide +kernel : ∀ t : Fin grid0.N, win0_0.index t = ![t.val % 8, t.val / 8])
theorem ix_1 : ∀ t : Fin cfg0.N, win0_1.index t = ![0, 4 + t.val / 8] :=
  (by decide +kernel : ∀ t : Fin grid0.N, win0_1.index t = ![0, 4 + t.val / 8])
theorem ix_2 : ∀ t : Fin cfg0.N, win0_2.index t = ![0, 8 + t.val / 8] :=
  (by decide +kernel : ∀ t : Fin grid0.N, win0_2.index t = ![0, 8 + t.val / 8])
theorem ix_3 : ∀ t : Fin cfg0.N, win0_3.index t = ![t.val % 8, t.val / 8] :=
  (by decide +kernel : ∀ t : Fin grid0.N, win0_3.index t = ![t.val % 8, t.val / 8])
theorem ix_4 : ∀ t : Fin cfg0.N, win0_4.index t = ![t.val / 8, t.val % 8, 0] :=
  (by decide +kernel : ∀ t : Fin grid0.N, win0_4.index t = ![t.val / 8, t.val % 8, 0])
theorem ix_5 : ∀ t : Fin cfg0.N, win0_5.index t = ![t.val % 8, t.val / 8] :=
  (by decide +kernel : ∀ t : Fin grid0.N, win0_5.index t = ![t.val % 8, t.val / 8])
theorem ix_6 : ∀ t : Fin cfg0.N, win0_6.index t = ![0, t.val / 8] :=
  (by decide +kernel : ∀ t : Fin grid0.N, win0_6.index t = ![0, t.val / 8])
theorem ix_7 : ∀ t : Fin cfg0.N, win0_7.index t = ![0, t.val / 8] :=
  (by decide +kernel : ∀ t : Fin grid0.N, win0_7.index t = ![0, t.val / 8])
theorem coord1 : ∀ t : Fin cfg0.N, ((grid0.coords t) 1 : ℕ) = t.val % 8 :=
  (by decide +kernel : ∀ t : Fin grid0.N, ((grid0.coords t) 1 : ℕ) = t.val % 8)

theorem lt_32 (t : Fin cfg0.N) : t.val < 32 := lt_of_lt_of_eq t.isLt Gen.N_0

/-! ## The row sums the host hands over -/

/-- The row sums, repeated over the lanes. -/
def ltA (x : FVec Ideal S2048x9728 .f32) : FVec Ideal S8x2048x128 .f32 :=
  broadcastInDim S8x2048x128 ![0, 1, 2] bcast_S8x2048x1_S8x2048x128_0_1_2
    (broadcastInDim S8x2048x1 ![0, 1] bcast_S8x2048_S8x2048x1_0_1
      (Host.reduceAdd (Cert.ReferenceIdeal.Read.val_main_v18_0 (F := Ideal) x : FVec Ideal S8x2048x2048 .f32) (constant S_ .f32 0x00000000#32) reducesTo_S8x2048x2048_S8x2048_d2 h_S_ : FVec Ideal S8x2048 .f32) : FVec Ideal S8x2048x1 .f32)

variable (m : (ℓ : Loc nD τ sig) → Buf (Elt Ideal) ℓ)

theorem lt_eq (c : Dev nD) : V (F := Ideal) m c main_v19 = ltA (m ((c : Thread nD τ).loc main_arg0)) := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  rfl

section Reals

variable {m} {c : Dev nD} {A B : ℕ → ℕ → ℝ}
  (hA : ∀ (a : Fin 2048) (b : Fin 9728), (b : ℕ) < 1536 → (m ((c : Thread nD τ).loc main_arg0) : FVec Ideal S2048x9728 .f32) (ix2 a b) = ((A a b : ℝ) : EReal))
  (hB : Rl (φ := .f32) (m ((c : Thread nD τ).loc main_arg1) : FVec Ideal S2048x512 .f32) B)

include hA

theorem ltA_val (h : Fin 8) (I : Fin 2048) (l : Fin 128) :
    ltA (m ((c : Thread nD τ).loc main_arg0)) (ix3 h I l) = ((ltH A h I : ℝ) : EReal) := by
  pointwise [ltA]
  unfold ltH
  rw [← coe_sum, Finset.sum_range]
  exact Finset.sum_congr rfl fun J _ => Cert.ReferenceIdeal.Sb.lk_val hA h I J

theorem blk0 (t : Fin cfg0.N) : Rl (φ := .f32) (m := 256) (n := 128) (iblk (F := Ideal) m c 0 t) (qB A (t.val / 8) (t.val % 8)) := by
  intro p l
  have ht := lt_32 t
  have hp := p.isLt
  have hl := l.isLt
  have e : (win0_0.blk t).view.emb (ix2 p l) = ix2 (⟨256 * (t.val % 8) + p, by omega⟩ : Fin 2048) (⟨128 * (t.val / 8) + l, by omega⟩ : Fin 9728) := by
    blk_ext [ix_0 t]
  blk_simp [iblk]
  rw [V_main_arg0, e]
  exact hA _ _ (by simp only []; omega)

theorem blk1 (t : Fin cfg0.N) : Rl (φ := .f32) (m := 2048) (n := 128) (iblk (F := Ideal) m c 1 t) (kB A (t.val / 8)) := by
  intro p l
  have ht := lt_32 t
  have hp := p.isLt
  have hl := l.isLt
  have e : (win0_1.blk t).view.emb (ix2 p l) = ix2 (⟨p, by omega⟩ : Fin 2048) (⟨128 * (4 + t.val / 8) + l, by omega⟩ : Fin 9728) := by
    blk_ext [ix_1 t]
  blk_simp [iblk]
  rw [V_main_arg0, e]
  exact hA _ _ (by simp only []; omega)

theorem blk2 (t : Fin cfg0.N) : Rl (φ := .f32) (m := 2048) (n := 128) (iblk (F := Ideal) m c 2 t) (vB A (t.val / 8)) := by
  intro p l
  have ht := lt_32 t
  have hp := p.isLt
  have hl := l.isLt
  have e : (win0_2.blk t).view.emb (ix2 p l) = ix2 (⟨p, by omega⟩ : Fin 2048) (⟨128 * (8 + t.val / 8) + l, by omega⟩ : Fin 9728) := by
    blk_ext [ix_2 t]
  blk_simp [iblk]
  rw [V_main_arg0, e]
  exact hA _ _ (by simp only []; omega)

omit hA in
include hB in
theorem blk3 (t : Fin cfg0.N) : Rl (φ := .f32) (m := 256) (n := 128) (iblk (F := Ideal) m c 3 t) (qB B (t.val / 8) (t.val % 8)) := by
  intro p l
  have ht := lt_32 t
  have hp := p.isLt
  have hl := l.isLt
  have e : (win0_3.blk t).view.emb (ix2 p l) = ix2 (⟨256 * (t.val % 8) + p, by omega⟩ : Fin 2048) (⟨128 * (t.val / 8) + l, by omega⟩ : Fin 512) := by
    blk_ext [ix_3 t]
  blk_simp [iblk]
  rw [V_main_arg1, e]
  exact hB _ _

theorem blk4 (t : Fin cfg0.N) (b : Fin 2) (p : Fin 256) (l : Fin 128) :
    (iblk (F := Ideal) m c 4 t : Vec Ideal S2x256x128 .f32) (ix3 b p l) = ((ltB A (t.val / 8) (t.val % 8) (256 * b + p) : ℝ) : EReal) := by
  have ht := lt_32 t
  have hb := b.isLt
  have hp := p.isLt
  have hl := l.isLt
  have e : (win0_4.blk t).view.emb (ix3 b p l) = ix3 (⟨2 * (t.val / 8) + b, by omega⟩ : Fin 8) (⟨256 * (t.val % 8) + p, by omega⟩ : Fin 2048) l := by
    blk_ext [ix_4 t]
  blk_simp [iblk]
  rw [lt_eq, e]
  refine (ltA_val hA _ _ _).trans ?_
  unfold ltB
  rw [show (256 * (b : ℕ) + p) / 256 = b by omega, show (256 * (b : ℕ) + p) % 256 = p by omega]

include hB

/-! ## After each point -/

/-- What the three output blocks hold after point `t`. -/
def Left (A B : ℕ → ℕ → ℝ) (n : ℕ) (o : Vec Ideal S256x128 .f32 × Vec Ideal S2048x128 .f32 × Vec Ideal S2048x128 .f32) : Prop :=
  Rl (φ := .f32) o.1 (fun p l => dqH A B (256 * (n % 8) + p) (128 * (n / 8) + l))
    ∧ Rl (φ := .f32) o.2.1 (dkTo A B (n / 8) (n % 8 + 1)) ∧ Rl (φ := .f32) o.2.2 (dvTo A B (n / 8) (n % 8 + 1))

theorem left_A (t : Fin cfg0.N) (h0 : t.val % 8 = 0) : Left A B t.val (outsAt0 (F := Ideal) m c t.val t.isLt) := by
  have ht := lt_32 t
  rw [outsAt0_A m c t h0]
  dsimp only [Left]
  refine ⟨?_, ?_, ?_⟩
  · refine (val5_A (blk0 hA t) (blk1 hA t) (blk2 hA t) (blk3 hB t) (blk4 hA t) ((hcond0_0 t).mpr h0)).congr fun p l hp hl => ?_
    rw [coord1]
    exact dq_block (by omega) hp hl
  · refine (val6_A (blk0 hA t) (blk1 hA t) (blk2 hA t) (blk3 hB t) (blk4 hA t) ((hcond0_0 t).mpr h0)).congr fun J l _ hl => ?_
    rw [coord1]
    exact dk_first hl h0
  · refine (val7_A (blk0 hA t) (blk1 hA t) (blk2 hA t) (blk3 hB t) (blk4 hA t) ((hcond0_0 t).mpr h0)).congr fun J l _ hl => ?_
    rw [coord1]
    exact dv_first hl h0

theorem left_B (t : Fin cfg0.N) (h0 : ¬t.val % 8 = 0)
    (ih : Left A B (t.val - 1) (outsAt0 (F := Ideal) m c (t.val - 1) (Nat.lt_of_le_of_lt (Nat.sub_le _ _) t.isLt))) :
    Left A B t.val (outsAt0 (F := Ideal) m c t.val t.isLt) := by
  have ht := lt_32 t
  rw [outsAt0_B m c t h0]
  dsimp only [Left]
  obtain ⟨-, h6, h7⟩ := ih
  rw [show (t.val - 1) / 8 = t.val / 8 by omega, show (t.val - 1) % 8 + 1 = t.val % 8 by omega] at h6 h7
  refine ⟨?_, ?_, ?_⟩
  · refine (val5_B (blk0 hA t) (blk1 hA t) (blk2 hA t) (blk3 hB t) (blk4 hA t) (fun h => h0 ((hcond0_0 t).mp h)) h6 h7).congr fun p l hp hl => ?_
    rw [coord1]
    exact dq_block (by omega) hp hl
  · refine (val6_B (blk0 hA t) (blk1 hA t) (blk2 hA t) (blk3 hB t) (blk4 hA t) (fun h => h0 ((hcond0_0 t).mp h)) h6 h7).congr fun J l _ hl => ?_
    rw [coord1]
    exact dk_block hl
  · refine (val7_B (blk0 hA t) (blk1 hA t) (blk2 hA t) (blk3 hB t) (blk4 hA t) (fun h => h0 ((hcond0_0 t).mp h)) h6 h7).congr fun J l _ hl => ?_
    rw [coord1]
    exact dv_block hl

theorem left (n : ℕ) (hn : n < cfg0.N) : Left A B n (outsAt0 (F := Ideal) m c n hn) := by
  induction n with
  | zero => exact left_A hA hB ⟨0, hn⟩ rfl
  | succ n ih =>
    by_cases h0 : (n + 1) % 8 = 0
    · exact left_A hA hB ⟨n + 1, hn⟩ h0
    · exact left_B hA hB ⟨n + 1, hn⟩ h0 (ih _)

/-! ## The arrays -/

theorem arr5 : Rl (φ := .f32) (m := 2048) (n := 512) ((dats (F := Ideal) m 0 c).arrAt 5 cfg0.N) (dqH A B) := by
  have h : (dats (F := Ideal) m 0 c).arrAt 5 cfg0.N = (fun i => ((dqH A B (i 0 : ℕ) (i 1 : ℕ) : ℝ) : EReal) : FVec Ideal S2048x512 .f32) := by
    refine (dats m 0 c).arrAt_eq_of_covers 5 _ (by decide +kernel) fun t hf y => ?_
    blk_simp
    rw [after0_5]
    idx_vars y
    have ht := lt_32 t
    simp only [ix_5 t, Matrix.cons_val_zero, Matrix.cons_val_one, Nat.zero_mul, Nat.zero_add]
    rw [Nat.mul_comm _ 256, Nat.mul_comm _ 128]
    exact (left hA hB t.val t.isLt).1 y0 y1
  intro a b
  rw [h]
  rfl

theorem arr6 : Rl (φ := .f32) (m := 2048) (n := 512) ((dats (F := Ideal) m 0 c).arrAt 6 cfg0.N) (dkH A B) := by
  have h : (dats (F := Ideal) m 0 c).arrAt 6 cfg0.N = (fun i => ((dkH A B (i 0 : ℕ) (i 1 : ℕ) : ℝ) : EReal) : FVec Ideal S2048x512 .f32) := by
    refine (dats m 0 c).arrAt_eq_of_covers 6 _ (by decide +kernel) fun t hf y => ?_
    blk_simp
    rw [after0_6]
    idx_vars y
    have ht := lt_32 t
    simp only [ix_6 t, Matrix.cons_val_zero, Matrix.cons_val_one, Nat.zero_mul, Nat.zero_add]
    have h7 : t.val % 8 = 7 := (flush0_6 t).mp hf
    rw [Nat.mul_comm _ 128, ← dkTo_all]
    have h := (left hA hB t.val t.isLt).2.1 y0 y1
    rw [h7] at h
    exact h
  intro a b
  rw [h]
  rfl

theorem arr7 : Rl (φ := .f32) (m := 2048) (n := 512) ((dats (F := Ideal) m 0 c).arrAt 7 cfg0.N) (dvH A B) := by
  have h : (dats (F := Ideal) m 0 c).arrAt 7 cfg0.N = (fun i => ((dvH A B (i 0 : ℕ) (i 1 : ℕ) : ℝ) : EReal) : FVec Ideal S2048x512 .f32) := by
    refine (dats m 0 c).arrAt_eq_of_covers 7 _ (by decide +kernel) fun t hf y => ?_
    blk_simp
    rw [after0_7]
    idx_vars y
    have ht := lt_32 t
    simp only [ix_7 t, Matrix.cons_val_zero, Matrix.cons_val_one, Nat.zero_mul, Nat.zero_add]
    have h7 : t.val % 8 = 7 := (flush0_7 t).mp hf
    rw [Nat.mul_comm _ 128, ← dvTo_all]
    have h := (left hA hB t.val t.isLt).2.2 y0 y1
    rw [h7] at h
    exact h
  intro a b
  rw [h]
  rfl

end Reals

end Cert.KernelIdeal.Sb

end
-- ==== Proof.Run2.lean ====
/- The run of the program `Kernel2Ideal` with every buffer's final contents: an array that outlives the kernel regions ends
   at the last of the valuations that the regions' run goes through, `W4`. -/
module

public import proofs.«01_k».proof.Proof.Gen.Kernel2Ideal.Frame

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W4`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c b hb => h c _ (mem_uc b hb))

end Cert.Kernel2Ideal.Run

end

end
-- ==== Proof.Whole.lean ====
/- Reading a whole buffer, and what is left of a whole buffer that is written once. -/
module

public import Idealize.ShloMosaic.Lib.VecWindow
public import Idealize.ShloMosaic.Lib.Pipeline.Frame
public import Idealize.ShloMosaic.Lib.Pipeline.ValueKit.Tiles
public import Idealize.ShloMosaic.Lib.Pointwise

@[expose] public section

noncomputable section

namespace Cert.Whole

open Idealize.ShloMosaic

/-- A load of a whole buffer is what the buffer holds. -/
theorem ld {F : FTy → Type} {sig : RefSig} {s : Shape} {e : EltTy} {arg : Memref sig .tc .vmem s e} (harg : arg.IsWhole)
    (x : Vec F s e) {off : Fin s.rank → ℕ} (inb : ∀ a, off a + s.size a ≤ s.size a) :
    arg.view.readAt (Elt F) (Rect.unit (s := s) off s.size inb).toLoadRect (harg.unread x) = x := by
  rw [View.readAt_eq_ld, harg.read_unread]
  funext y
  refine View.ld_unit_apply_of x _ _ _ y y fun a => ?_
  have := inb a
  omega

end Cert.Whole

end

end
-- ==== Proof.Mat.lean ====
/- The three products of matrices that the layer takes: of two, of the first's transpose with the second, and of the first with
   the second's transpose. -/
module

public import Idealize.ShloMosaic.Lib.Pointwise

@[expose] public section

noncomputable section

namespace Cert.Mat

open Idealize.ShloMosaic

variable {m k n : ℕ} {φ ψ : FTy}

/-- `A B`. -/
def nn (A : FVec Ideal ⟨2, ![m, k]⟩ φ) (B : FVec Ideal ⟨2, ![k, n]⟩ ψ) : FVec Ideal ⟨2, ![m, n]⟩ .f32 :=
  fun i => ∑ x : Fin k, (A (ix2 (i 0) x) : EReal) * (B (ix2 x (i 1)) : EReal)

/-- `Aᵀ B`. -/
def tn (A : FVec Ideal ⟨2, ![k, m]⟩ φ) (B : FVec Ideal ⟨2, ![k, n]⟩ ψ) : FVec Ideal ⟨2, ![m, n]⟩ .f32 :=
  fun i => ∑ x : Fin k, (A (ix2 x (i 0)) : EReal) * (B (ix2 x (i 1)) : EReal)

/-- `A Bᵀ`. -/
def nt (A : FVec Ideal ⟨2, ![m, k]⟩ φ) (B : FVec Ideal ⟨2, ![n, k]⟩ ψ) : FVec Ideal ⟨2, ![m, n]⟩ .f32 :=
  fun i => ∑ x : Fin k, (A (ix2 (i 0) x) : EReal) * (B (ix2 (i 1) x) : EReal)

/-- `A + B`. -/
def plus (A B : FVec Ideal ⟨2, ![m, n]⟩ .f32) : FVec Ideal ⟨2, ![m, n]⟩ .f32 :=
  fun i => (A i : EReal) + (B i : EReal)

theorem nn_of {A : FVec Ideal ⟨2, ![m, k]⟩ φ} {B : FVec Ideal ⟨2, ![k, n]⟩ ψ} {f g : Fin k → EReal} {i : (⟨2, ![m, n]⟩ : Shape).Idx}
    {s : EReal} (hs : s = ∑ x, f x * g x) (hf : ∀ x, f x = A (ix2 (i 0) x)) (hg : ∀ x, g x = B (ix2 x (i 1))) : s = nn A B i :=
  hs.trans (Finset.sum_congr rfl fun x _ => by rw [hf x, hg x])

theorem tn_of {A : FVec Ideal ⟨2, ![k, m]⟩ φ} {B : FVec Ideal ⟨2, ![k, n]⟩ ψ} {f g : Fin k → EReal} {i : (⟨2, ![m, n]⟩ : Shape).Idx}
    {s : EReal} (hs : s = ∑ x, f x * g x) (hf : ∀ x, f x = A (ix2 x (i 0))) (hg : ∀ x, g x = B (ix2 x (i 1))) : s = tn A B i :=
  hs.trans (Finset.sum_congr rfl fun x _ => by rw [hf x, hg x])

theorem nt_of {A : FVec Ideal ⟨2, ![m, k]⟩ φ} {B : FVec Ideal ⟨2, ![n, k]⟩ ψ} {f g : Fin k → EReal} {i : (⟨2, ![m, n]⟩ : Shape).Idx}
    {s : EReal} (hs : s = ∑ x, f x * g x) (hf : ∀ x, f x = A (ix2 (i 0) x)) (hg : ∀ x, g x = B (ix2 (i 1) x)) : s = nt A B i :=
  hs.trans (Finset.sum_congr rfl fun x _ => by rw [hf x, hg x])

end Cert.Mat

end

end
-- ==== Proof.Proj.lean ====
/- The values of the regions of `Kernel2Ideal`: the norm of the rows of x, its product with w_in, and the product of its
   transpose with the gradient of the projection. -/
module

public import proofs.«01_k».proof.Proof.Run2
public import proofs.«01_k».proof.Proof.Whole
public import proofs.«01_k».proof.Proof.Mat
public import Idealize.ShloMosaic.Lib.Pipeline.ValueKit
public import Idealize.ShloMosaic.Lib.Claim

@[expose] public section

set_option maxRecDepth 16384

noncomputable section

namespace Cert.Kernel2Ideal.Proj

open Idealize.ShloMosaic Idealize.ShloMosaic.TcCoe
open Idealize.SL.Sem Cert.Kernel2Ideal Cert.Kernel2Ideal.Gen

/-- The norm of a row, times the gain. -/
def rms (x : Fin 1024 → EReal) (g : EReal) (b : Fin 1024) : EReal :=
  x b * Ideal.rsqrt (Ideal.div (∑ k, x k * x k) (Ideal.ofBits FTy.f32 1149239296#32) + Ideal.ofBits FTy.f32 897988541#32) * g

theorem pay0 (x : Vec Ideal S256x1024 .f32) (g : Vec Ideal S1x1024 .f32) (a : Fin 256) (b : Fin 1024) :
    k0_pay1 (F := Ideal) x g (ix2 a b) = rms (fun k => x (ix2 a k)) (g (ix2 0 b)) b := by
  pointwise [k0_pay1]
  rfl

theorem outs0 (x : Vec Ideal S256x1024 .f32) (g : Vec Ideal S1x1024 .f32) : out0_2 (F := Ideal) x g = k0_pay1 x g := by
  unfold out0_2
  rw [View.canon_cons_unit_lit _ _ _ (by decide), View.ld_unit_lit _ _ (by decide), View.ld_unit_lit _ _ (by decide)]

variable (V : (c : Dev nD) → (b : Ref sig .tc) → Buf (Elt Ideal) ((c : Thread nD τ).loc b)) (c : Dev nD)

theorem ix0_0 : ∀ t : Fin cfg0.N, win0_0.index t = ![t.val, 0] := (by decide +kernel : ∀ t : Fin grid0.N, win0_0.index t = ![t.val, 0])
theorem ix0_1 : ∀ t : Fin cfg0.N, win0_1.index t = ![0, 0] := (by decide +kernel : ∀ t : Fin grid0.N, win0_1.index t = ![0, 0])
theorem ix0_2 : ∀ t : Fin cfg0.N, win0_2.index t = ![t.val, 0] := (by decide +kernel : ∀ t : Fin grid0.N, win0_2.index t = ![t.val, 0])

theorem blk0_0 (t : Fin cfg0.N) (a : Fin 256) (k : Fin 1024) (a' : Fin 2048) (ha : a'.val = t.val * 256 + a.val) :
    (iblk0 (F := Ideal) V c 0 t : Vec Ideal S256x1024 .f32) (ix2 a k) = (V c main_arg0 : Vec Ideal S2048x1024 .f32) (ix2 a' k) := by
  have e : (win0_0.blk t).view.emb (ix2 a k) = ix2 a' k := by
    blk_ext [ix0_0 t, ha]
  blk_simp [iblk0]
  rw [e]

theorem blk0_1 (t : Fin cfg0.N) (a : Fin 1) (k : Fin 1024) :
    (iblk0 (F := Ideal) V c 1 t : Vec Ideal S1x1024 .f32) (ix2 a k) = (V c main_v1 : Vec Ideal S1x1024 .f32) (ix2 a k) := by
  have e : (win0_1.blk t).view.emb (ix2 a k) = ix2 a k := by
    blk_ext [ix0_1 t]
  blk_simp [iblk0]
  rw [e]

/-- The normed rows. -/
def normed (x : Vec Ideal S2048x1024 .f32) (g : Fin 1024 → EReal) : Vec Ideal S2048x1024 .f32 :=
  fun i => rms (fun k => x (ix2 (i 0) k)) (g (i 1)) (i 1)

theorem arr0 : (dat0 (F := Ideal) V c).arrAt 2 cfg0.N = normed (V c main_arg0) (fun b => (V c main_v1 : Vec Ideal S1x1024 .f32) (ix2 0 b)) := by
  refine (dat0 V c).arrAt_eq_of_covers 2 _ (by decide +kernel) fun t hf y => ?_
  blk_simp
  rw [after0_2, outs0]
  idx_vars y
  have ht : t.val < 8 := lt_of_lt_of_eq t.isLt Gen.N_0
  have hy := y0.isLt
  obtain ⟨a', ha⟩ : ∃ a' : Fin 2048, a'.val = t.val * 256 + y0.val := ⟨⟨_, by omega⟩, rfl⟩
  have e : (win0_2.blk t).view.emb (ix2 y0 y1) = ix2 a' y1 := by
    blk_ext [ix0_2 t, ha]
  refine ((pay0 _ _ y0 y1).trans ?_).trans (congrArg _ e.symm)
  rw [blk0_1 V c t 0 y1, funext fun k => blk0_0 V c t y0 k a' ha]
  rfl

/-! ### Region 1 -/

theorem pay1 (x : Vec Ideal S2048x1024 .f32) (w : Vec Ideal S1024x512 .bf16) (a : Fin 2048) (b : Fin 512) :
    k1_pay1 (F := Ideal) x w (ix2 a b) = ∑ k : Fin 1024, (x (ix2 a k) : EReal) * (w (ix2 k b) : EReal) := by
  pointwise [k1_pay1]

theorem outs1 (t : Fin cfg1.N) : outsAt1 (F := Ideal) V c t = k1_pay1 (iblk1 V c 0 t) (iblk1 V c 1 t) := by
  unfold outsAt1 out1_A_2 kernelRun1_A
  refine (View.read_writes_full _ _ _ _ _).trans ?_
  rw [Whole.ld, Whole.ld]

theorem ix1_0 : ∀ t : Fin cfg1.N, win1_0.index t = ![0, 0] := (by decide +kernel : ∀ t : Fin grid1.N, win1_0.index t = ![0, 0])
theorem ix1_1 : ∀ t : Fin cfg1.N, win1_1.index t = ![0, t.val] := (by decide +kernel : ∀ t : Fin grid1.N, win1_1.index t = ![0, t.val])
theorem ix1_2 : ∀ t : Fin cfg1.N, win1_2.index t = ![0, t.val] := (by decide +kernel : ∀ t : Fin grid1.N, win1_2.index t = ![0, t.val])

theorem blk1_0 (t : Fin cfg1.N) (a : Fin 2048) (k : Fin 1024) :
    (iblk1 (F := Ideal) V c 0 t : Vec Ideal S2048x1024 .f32) (ix2 a k) = (V c main_v2 : Vec Ideal S2048x1024 .f32) (ix2 a k) := by
  have e : (win1_0.blk t).view.emb (ix2 a k) = (ix2 a k) := by
    blk_ext [ix1_0 t]
  blk_simp [iblk1]
  rw [e]

theorem blk1_1 (t : Fin cfg1.N) (k : Fin 1024) (b : Fin 512) (b' : Fin 9728) (hb : b'.val = t.val * 512 + b.val) :
    (iblk1 (F := Ideal) V c 1 t : Vec Ideal S1024x512 .bf16) (ix2 k b) = (V c main_v0 : Vec Ideal S1024x9728 .bf16) (ix2 k b') := by
  have e : (win1_1.blk t).view.emb (ix2 k b) = (ix2 k b') := by
    blk_ext [ix1_1 t, hb]
  blk_simp [iblk1]
  rw [e]

theorem arr1 : (dat1 (F := Ideal) V c).arrAt 2 cfg1.N = Mat.nn (m := 2048) (k := 1024) (n := 9728) (φ := .f32) (ψ := .bf16) (V c main_v2) (V c main_v0) := by
  refine (dat1 V c).arrAt_eq_of_covers 2 _ (by decide +kernel) fun t hf y => ?_
  blk_simp
  rw [after1_2, outs1]
  idx_vars y
  have ht : t.val < 19 := lt_of_lt_of_eq t.isLt Gen.N_1
  have hy := y1.isLt
  obtain ⟨b', hb⟩ : ∃ b' : Fin 9728, b'.val = t.val * 512 + y1.val := ⟨⟨_, by omega⟩, rfl⟩
  have e : (win1_2.blk t).view.emb (ix2 y0 y1) = ix2 y0 b' := by
    blk_ext [ix1_2 t, hb]
  exact (Mat.nn_of (i := ix2 y0 b') (pay1 _ _ y0 y1) (blk1_0 V c t y0) (fun k => blk1_1 V c t k y1 b' hb)).trans (congrArg _ e.symm)

/-! ### Region 2 -/

theorem pay2 (x : Vec Ideal S2048x1024 .f32) (w : Vec Ideal S2048x512 .f32) (a : Fin 1024) (b : Fin 512) :
    k2_pay1 (F := Ideal) x w (ix2 a b) = ∑ k : Fin 2048, (x (ix2 k a) : EReal) * (w (ix2 k b) : EReal) := by
  pointwise [k2_pay1]

theorem outs2 (t : Fin cfg2.N) : outsAt2 (F := Ideal) V c t = k2_pay1 (iblk2 V c 0 t) (iblk2 V c 1 t) := by
  unfold outsAt2 out2_A_2 kernelRun2_A
  refine (View.read_writes_full _ _ _ _ _).trans ?_
  rw [Whole.ld, Whole.ld]

theorem ix2_0 : ∀ t : Fin cfg2.N, win2_0.index t = ![0, 0] := (by decide +kernel : ∀ t : Fin grid2.N, win2_0.index t = ![0, 0])
theorem ix2_1 : ∀ t : Fin cfg2.N, win2_1.index t = ![0, t.val] := (by decide +kernel : ∀ t : Fin grid2.N, win2_1.index t = ![0, t.val])
theorem ix2_2 : ∀ t : Fin cfg2.N, win2_2.index t = ![0, t.val] := (by decide +kernel : ∀ t : Fin grid2.N, win2_2.index t = ![0, t.val])

theorem blk2_0 (t : Fin cfg2.N) (a : Fin 1024) (k : Fin 2048) :
    (iblk2 (F := Ideal) V c 0 t : Vec Ideal S2048x1024 .f32) (ix2 k a) = (V c main_v2 : Vec Ideal S2048x1024 .f32) (ix2 k a) := by
  have e : (win2_0.blk t).view.emb (ix2 k a) = (ix2 k a) := by
    blk_ext [ix2_0 t]
  blk_simp [iblk2]
  rw [e]

theorem blk2_1 (t : Fin cfg2.N) (k : Fin 2048) (b : Fin 512) (b' : Fin 9728) (hb : b'.val = t.val * 512 + b.val) :
    (iblk2 (F := Ideal) V c 1 t : Vec Ideal S2048x512 .f32) (ix2 k b) = (V c main_arg3 : Vec Ideal S2048x9728 .f32) (ix2 k b') := by
  have e : (win2_1.blk t).view.emb (ix2 k b) = (ix2 k b') := by
    blk_ext [ix2_1 t, hb]
  blk_simp [iblk2]
  rw [e]

theorem arr2 : (dat2 (F := Ideal) V c).arrAt 2 cfg2.N = Mat.tn (m := 1024) (k := 2048) (n := 9728) (φ := .f32) (ψ := .f32) (V c main_v2) (V c main_arg3) := by
  refine (dat2 V c).arrAt_eq_of_covers 2 _ (by decide +kernel) fun t hf y => ?_
  blk_simp
  rw [after2_2, outs2]
  idx_vars y
  have ht : t.val < 19 := lt_of_lt_of_eq t.isLt Gen.N_2
  have hy := y1.isLt
  obtain ⟨b', hb⟩ : ∃ b' : Fin 9728, b'.val = t.val * 512 + y1.val := ⟨⟨_, by omega⟩, rfl⟩
  have e : (win2_2.blk t).view.emb (ix2 y0 y1) = ix2 y0 b' := by
    blk_ext [ix2_2 t, hb]
  exact (Mat.tn_of (i := ix2 y0 b') (pay2 _ _ y0 y1) (blk2_0 V c t y0) (fun k => blk2_1 V c t k y1 b' hb)).trans (congrArg _ e.symm)

end Cert.Kernel2Ideal.Proj

end

end
-- ==== Proof.ProjEnd.lean ====
/- What `Kernel2Ideal` ends with, and that `Reference2Ideal` gives the same: the projection of the normed rows, and the gradient of
   its weight. -/
module

public import proofs.«01_k».proof.Proof.Proj
public import proofs.«01_k».proof.Proof.Gen.Reference2Ideal
public import proofs.«01_k».proof.Proof.Gen.Reference2Ideal.Run
public import proofs.«01_k».proof.Proof.Gen.Reference2Ideal.Read

@[expose] public section

set_option maxRecDepth 16384

noncomputable section

namespace Cert.Kernel2Ideal.Proj

open Idealize.ShloMosaic Idealize.ShloMosaic.TcCoe
open Idealize.SL.Sem Cert.Kernel2Ideal Cert.Kernel2Ideal.Gen

section End

variable (m : (ℓ : Loc nD τ sig) → Buf (Elt Ideal) ℓ) (ρ : Dev nD → PrngReg) (c : Dev nD)

/-- The weight as the kernel takes it, which is the weight. -/
theorem weight : (V2 m ρ c main_v0 : Vec Ideal S1024x9728 .bf16) = (m ((c : Thread nD τ).loc main_arg2) : Vec Ideal S1024x9728 .f32) := by
  refine (W2_of_ne m ρ c main_v0 (by decide)).trans ?_
  unfold W1 hostOps0
  entry_read
  rfl

theorem gain (b : Fin 1024) : (V1 m ρ c main_v1 : Vec Ideal S1x1024 .f32) (ix2 0 b) = (m ((c : Thread nD τ).loc main_arg1) : Vec Ideal S1024 .f32) (ix1 b) := by
  have e : (V1 m ρ c main_v1 : Vec Ideal S1x1024 .f32) = shapeCast S1x1024 (m ((c : Thread nD τ).loc main_arg1) : Vec Ideal S1024 .f32) shapeCasts_S1024_S1x1024 := by
    unfold V1 W1 hostOps0
    entry_read
    rfl
  rw [e]
  pointwise []

/-- The normed rows that the projections take. -/
def h : Vec Ideal S2048x1024 .f32 :=
  normed (m ((c : Thread nD τ).loc main_arg0)) (fun b => (m ((c : Thread nD τ).loc main_arg1) : Vec Ideal S1024 .f32) (ix1 b))

theorem normed_x : V2 m ρ c main_v2 = h m c := by
  refine (W2_arr m ρ c 2).trans ((arr0 (V1 m ρ) c).trans ?_)
  rw [funext (gain m ρ c)]
  exact congrArg (fun x => normed x _) (W1_args m ρ c main_arg0 (by decide))

theorem proj_end : W4 m ρ c (Proc.devRef .tc main_v3) = Mat.nn (m := 2048) (k := 1024) (n := 9728) (φ := .f32) (ψ := .f32) (h m c) (m ((c : Thread nD τ).loc main_arg2)) := by
  refine (W4_of_ne m ρ c main_v3 (by decide)).trans ((W3_arr m ρ c 2).trans ((arr1 (V2 m ρ) c).trans ?_))
  rw [normed_x, weight]
  rfl

theorem grad_end : W4 m ρ c (Proc.devRef .tc main_v4) = Mat.tn (m := 1024) (k := 2048) (n := 9728) (φ := .f32) (ψ := .f32) (h m c) (m ((c : Thread nD τ).loc main_arg3)) := by
  refine (W4_arr m ρ c 2).trans ((arr2 (V3 m ρ) c).trans ?_)
  rw [show V3 m ρ c main_v2 = h m c from (W3_of m ρ c main_v2 (by decide)).trans (normed_x m ρ c),
    show V3 m ρ c main_arg3 = m ((c : Thread nD τ).loc main_arg3) from W3_args m ρ c main_arg3 (by decide)]

end End

end Cert.Kernel2Ideal.Proj

namespace Cert.Reference2Ideal.Proj

open Idealize.ShloMosaic Idealize.ShloMosaic.TcCoe
open Idealize.SL.Sem Cert.Reference2Ideal Cert.Reference2Ideal.Read

theorem v12_eq (x : Vec Ideal S2048x1024 .f32) (g : Vec Ideal S1024 .f32) :
    val_main_v12 (F := Ideal) x g = Cert.Kernel2Ideal.Proj.normed x (fun b => g (ix1 b)) := by
  funext i
  idx_vars i
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v13_eq (x : Vec Ideal S2048x1024 .f32) (g : Vec Ideal S1024 .f32) (w : Vec Ideal S1024x9728 .f32) :
    val_main_v13 (F := Ideal) x g w = Mat.nn (m := 2048) (k := 1024) (n := 9728) (φ := .f32) (ψ := .f32) (Cert.Kernel2Ideal.Proj.normed x (fun b => g (ix1 b))) w := by
  rw [← v12_eq]
  funext i
  idx_vars i
  pointwise [val_main_v13]
  rfl

theorem v15_eq (x : Vec Ideal S2048x1024 .f32) (g : Vec Ideal S1024 .f32) (d : Vec Ideal S2048x9728 .f32) :
    val_main_v15 (F := Ideal) x g d = Mat.tn (m := 1024) (k := 2048) (n := 9728) (φ := .f32) (ψ := .f32) (Cert.Kernel2Ideal.Proj.normed x (fun b => g (ix1 b))) d := by
  rw [← v12_eq]
  funext i
  idx_vars i
  pointwise [val_main_v15, val_main_v14]
  exact Finset.sum_congr rfl fun k _ => mul_comm _ _

end Cert.Reference2Ideal.Proj

end

end
-- ==== Proof.Dh.lean ====
/- The product of `Kernel3Ideal`, added up over nineteen blocks of the columns. -/
module

public import proofs.«01_k».proof.Proof.Gen.Kernel3Ideal.Value
public import proofs.«01_k».proof.Proof.Whole
public import proofs.«01_k».proof.Proof.Mat
public import Idealize.ShloMosaic.Lib.Pipeline.ValueKit
public import Idealize.ShloMosaic.Lib.Claim

@[expose] public section

set_option maxRecDepth 16384

noncomputable section

namespace Cert.Kernel3Ideal.Dh

open Idealize.ShloMosaic Idealize.ShloMosaic.TcCoe
open Idealize.SL.Sem Cert.Kernel3Ideal Cert.Kernel3Ideal.Gen Cert.Kernel3Ideal.Value

theorem pay1 (x : Vec Ideal S2048x512 .f32) (w : Vec Ideal S1024x512 .bf16) (a : Fin 2048) (b : Fin 1024) :
    k0_pay1 (F := Ideal) x w (ix2 a b) = ∑ k : Fin 512, (x (ix2 a k) : EReal) * (w (ix2 b k) : EReal) := by
  pointwise [k0_pay1]

theorem pay2 (x : Vec Ideal S2048x512 .f32) (w : Vec Ideal S1024x512 .bf16) (a : Fin 2048) (b : Fin 1024) :
    k0_pay2 (F := Ideal) x w (ix2 a b) = ∑ k : Fin 512, (x (ix2 a k) : EReal) * (w (ix2 b k) : EReal) := by
  pointwise [k0_pay2]
  exact pay1 x w a b

theorem pay3 (x : Vec Ideal S2048x512 .f32) (w : Vec Ideal S1024x512 .bf16) (y : Vec Ideal S2048x1024 .f32) (a : Fin 2048) (b : Fin 1024) :
    k0_pay3 (F := Ideal) x w y (ix2 a b) = (y (ix2 a b) : EReal) + ∑ k : Fin 512, (x (ix2 a k) : EReal) * (w (ix2 b k) : EReal) := by
  pointwise [k0_pay3]
  exact congrArg _ (pay1 x w a b)

section Cases

variable {c : Dev nD} {i : grid0.Coords} {arg3 : Memref sig .tc .vmem S2048x512 .f32} {harg3 : arg3.IsWhole} {arg4 : Memref sig .tc .vmem S1024x512 .bf16} {harg4 : arg4.IsWhole} {arg5 : Memref sig .tc .vmem S2048x1024 .f32} {harg5 : arg5.IsWhole} {arg6 : Memref sig .tc .vmem S2048x1024 .f32} {harg6 : arg6.IsWhole}
  {x0 : Vec Ideal S2048x512 .f32} {x1 : Vec Ideal S1024x512 .bf16} {y : Vec Ideal S2048x1024 .f32}

theorem first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay2 x0 x1 := by
  unfold sout0_A_0 kernelRun0_A
  refine (View.read_writes_full _ _ _ _ _).trans ?_
  rw [Whole.ld, Whole.ld]

theorem middle (hc0 : ¬cond0_0 i) (hc1 : cond0_1 i) (hc2 : ¬cond0_2 i) :
    sout0_B_0 (F := Ideal) c i arg3 harg3 arg4 harg4 arg5 harg5 arg6 harg6 hc0 hc1 hc2 x0 x1 y = k0_pay3 x0 x1 y := by
  unfold sout0_B_0 kernelRun0_B
  refine (View.read_writes_full _ _ _ _ _).trans ?_
  rw [Whole.ld, Whole.ld, Whole.ld]

theorem last (hc0 : ¬cond0_0 i) (hc1 : cond0_1 i) (hc2 : cond0_2 i) :
    out0_C_2 (F := Ideal) c i arg3 harg3 arg4 harg4 arg5 harg5 arg6 harg6 hc0 hc1 hc2 x0 x1 y = k0_pay3 x0 x1 y := by
  unfold out0_C_2 kernelRun0_C
  refine (View.read_writes_full _ _ _ _ _).trans ?_
  unfold kernelRun0_C.sl.v14
  unfold kernelRun0_C.sl.HS0_1
  refine (View.readCov_full _ _ _ _ _).trans ?_
  rw [Whole.ld, Whole.ld, Whole.ld]

end Cases

variable (m : (ℓ : Loc nD τ sig) → Buf (Elt Ideal) ℓ) (c : Dev nD)

theorem ix_0 : ∀ t : Fin cfg0.N, win0_0.index t = ![0, t.val] := (by decide +kernel : ∀ t : Fin grid0.N, win0_0.index t = ![0, t.val])
theorem ix_2 : ∀ t : Fin cfg0.N, win0_2.index t = ![0, 0] := (by decide +kernel : ∀ t : Fin grid0.N, win0_2.index t = ![0, 0])
theorem ix_1 : ∀ t : Fin cfg0.N, win0_1.index t = ![0, t.val] := (by decide +kernel : ∀ t : Fin grid0.N, win0_1.index t = ![0, t.val])

/-- The gradient of the projection, and the weight. -/
abbrev D : FVec Ideal S2048x9728 .f32 := m ((c : Thread nD τ).loc main_arg0)
abbrev W : FVec Ideal S1024x9728 .f32 := m ((c : Thread nD τ).loc main_arg1)

/-- The terms of the product at a place, by column, and nothing beyond the last column. -/
def term (a : Fin 2048) (b : Fin 1024) (x : ℕ) : EReal := if h : x < 9728 then (D m c (ix2 a ⟨x, h⟩) : EReal) * (W m c (ix2 b ⟨x, h⟩) : EReal) else 0

theorem weight : (V m c main_v0 : Vec Ideal S1024x9728 .bf16) = W m c := by
  unfold V hostOps0
  entry_read
  rfl

theorem lt_19 (t : Fin cfg0.N) : t.val < 19 := lt_of_lt_of_eq t.isLt Gen.N_0

theorem blk0 (t : Fin cfg0.N) (a : Fin 2048) (k : Fin 512) (k' : Fin 9728) (hk : k'.val = t.val * 512 + k.val) :
    (iblk (F := Ideal) m c 0 t : Vec Ideal S2048x512 .f32) (ix2 a k) = D m c (ix2 a k') := by
  have e : (win0_0.blk t).view.emb (ix2 a k) = ix2 a k' := by
    blk_ext [ix_0 t, hk]
  blk_simp [iblk]
  rw [V_main_arg0, e]

theorem blk1 (t : Fin cfg0.N) (b : Fin 1024) (k : Fin 512) (k' : Fin 9728) (hk : k'.val = t.val * 512 + k.val) :
    (iblk (F := Ideal) m c 1 t : Vec Ideal S1024x512 .bf16) (ix2 b k) = W m c (ix2 b k') := by
  have e : (win0_1.blk t).view.emb (ix2 b k) = ix2 b k' := by
    blk_ext [ix_1 t, hk]
  blk_simp [iblk]
  rw [weight, e]

/-- A point's block of the product. -/
theorem block (t : Fin cfg0.N) (a : Fin 2048) (b : Fin 1024) (x : Vec Ideal S2048x512 .f32) (w : Vec Ideal S1024x512 .bf16)
    (hx : x = iblk (F := Ideal) m c 0 t) (hw : w = iblk (F := Ideal) m c 1 t) :
    ∑ k : Fin 512, (x (ix2 a k) : EReal) * (w (ix2 b k) : EReal) = ∑ k ∈ Finset.range 512, term m c a b (512 * t.val + k) := by
  have ht := lt_19 t
  rw [Finset.sum_range]
  refine Finset.sum_congr rfl fun k _ => ?_
  have hk := k.isLt
  have h : 512 * t.val + k.val < 9728 := by omega
  unfold term
  rw [dif_pos h, hx, hw, blk0 m c t a k ⟨_, h⟩ (by simp only []; omega), blk1 m c t b k ⟨_, h⟩ (by simp only []; omega)]

/-- What is added up after point `n`. -/
theorem carried (n : ℕ) (hn : n < cfg0.N) (h18 : n < 18) (a : Fin 2048) (b : Fin 1024) :
    (outsAt0 (F := Ideal) m c n hn).2 (ix2 a b) = ∑ x ∈ Finset.range (512 * (n + 1)), term m c a b x := by
  induction n with
  | zero =>
    rw [outsAt0_A m c ⟨0, hn⟩ rfl (by simp) (by simp)]
    dsimp only
    rw [first, pay2, block m c ⟨0, hn⟩ a b _ _ rfl rfl, Nat.mul_zero]
    simp only [Nat.zero_add]
  | succ n ih =>
    rw [outsAt0_B m c ⟨n + 1, hn⟩ (by simp only []; omega) (by simp only []; omega) (by simp only []; omega)]
    dsimp only
    rw [middle, pay3, block m c ⟨n + 1, hn⟩ a b _ _ rfl rfl]
    simp only [Nat.add_sub_cancel]
    rw [ih _ (by omega), Nat.mul_add 512 (n + 1) 1, Finset.sum_range_add]

theorem total (a : Fin 2048) (b : Fin 1024) :
    ∑ x ∈ Finset.range 9728, term m c a b x = Mat.nt (m := 2048) (k := 9728) (n := 1024) (D m c) (W m c) (ix2 a b) := by
  rw [Finset.sum_range]
  exact Finset.sum_congr rfl fun x _ => dif_pos x.isLt

theorem arr : (dats (F := Ideal) m 0 c).arrAt 2 cfg0.N = Mat.nt (m := 2048) (k := 9728) (n := 1024) (D m c) (W m c) := by
  refine (dats m 0 c).arrAt_eq_of_covers 2 _ (by decide +kernel) fun t hf y => ?_
  blk_simp
  rw [after0_2]
  idx_vars y
  have ht := lt_19 t
  have h18 : t.val % 19 = 18 := (flush0_2 t).mp hf
  have h : t.val = 18 := by omega
  have e : (win0_2.blk t).view.emb (ix2 y0 y1) = ix2 y0 y1 := by
    blk_ext [ix_2 t]
  refine Eq.trans ?_ (congrArg _ e.symm)
  rw [outsAt0_C m c t (by omega) (by omega) h18]
  dsimp only
  rw [last, pay3, block m c t y0 y1 _ _ rfl rfl, carried m c (t.val - 1) _ (by omega), show t.val - 1 + 1 = t.val by omega, ← Finset.sum_range_add, h]
  exact total m c y0 y1

end Cert.Kernel3Ideal.Dh

end

end
-- ==== Proof.Run4.lean ====
/- The run of the program `Kernel4Ideal` with every buffer's final contents: an array that outlives the kernel regions ends
   at the last of the valuations that the regions' run goes through, `W13`. -/
module

public import proofs.«01_k».proof.Proof.Gen.Kernel4Ideal.Frame

@[expose] public section

set_option maxRecDepth 16384

noncomputable section

namespace Cert.Kernel4Ideal.Run

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W13`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W13 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c b hb => h c _ (mem_uc b hb))

end Cert.Kernel4Ideal.Run

end

end
-- ==== Proof.Out.lean ====
/- The output stage's products in `Kernel4Ideal`, region by region: the forward products, and the gradients of the last one. -/
module

public import proofs.«01_k».proof.Proof.Gen.Kernel4Ideal.Frame
public import proofs.«01_k».proof.Proof.Whole
public import proofs.«01_k».proof.Proof.Mat
public import Idealize.ShloMosaic.Lib.Pipeline.ValueKit
public import Idealize.ShloMosaic.Lib.Claim

@[expose] public section

set_option maxRecDepth 16384

noncomputable section

namespace Cert.Kernel4Ideal.Out

open Idealize.ShloMosaic Idealize.ShloMosaic.TcCoe
open Idealize.SL.Sem Cert.Kernel4Ideal Cert.Kernel4Ideal.Gen

variable (V : (c : Dev nD) → (b : Ref sig .tc) → Buf (Elt Ideal) ((c : Thread nD τ).loc b)) (c : Dev nD)

/-! ### Region 0 -/

theorem pay0 (x : Vec Ideal S2048x512 .f32) (w : Vec Ideal S512x512 .bf16) (a : Fin 2048) (b : Fin 512) :
    k0_pay1 (F := Ideal) x w (ix2 a b) = ∑ k : Fin 512, (x (ix2 a k) : EReal) * (w (ix2 k b) : EReal) := by
  pointwise [k0_pay1]

theorem outs0 (t : Fin cfg0.N) : outsAt0 (F := Ideal) V c t = k0_pay1 (iblk0 V c 0 t) (iblk0 V c 1 t) := by
  unfold outsAt0 out0_A_2 kernelRun0_A
  refine (View.read_writes_full _ _ _ _ _).trans ?_
  rw [Whole.ld, Whole.ld]

theorem ix0_0 : ∀ t : Fin cfg0.N, win0_0.index t = ![0, 0] := (by decide +kernel : ∀ t : Fin grid0.N, win0_0.index t = ![0, 0])
theorem ix0_1 : ∀ t : Fin cfg0.N, win0_1.index t = ![0, t.val] := (by decide +kernel : ∀ t : Fin grid0.N, win0_1.index t = ![0, t.val])
theorem ix0_2 : ∀ t : Fin cfg0.N, win0_2.index t = ![0, t.val] := (by decide +kernel : ∀ t : Fin grid0.N, win0_2.index t = ![0, t.val])

theorem blk0_0 (t : Fin cfg0.N) (a : Fin 2048) (k : Fin 512) :
    (iblk0 (F := Ideal) V c 0 t : Vec Ideal S2048x512 .f32) (ix2 a k) = (V c main_arg1 : Vec Ideal S2048x512 .f32) (ix2 a k) := by
  have e : (win0_0.blk t).view.emb (ix2 a k) = (ix2 a k) := by
    blk_ext [ix0_0 t]
  blk_simp [iblk0]
  rw [e]

theorem blk0_1 (t : Fin cfg0.N) (k : Fin 512) (b : Fin 512) (b' : Fin 1024) (hb : b'.val = t.val * 512 + b.val) :
    (iblk0 (F := Ideal) V c 1 t : Vec Ideal S512x512 .bf16) (ix2 k b) = (V c main_v0 : Vec Ideal S512x1024 .bf16) (ix2 k b') := by
  have e : (win0_1.blk t).view.emb (ix2 k b) = (ix2 k b') := by
    blk_ext [ix0_1 t, hb]
  blk_simp [iblk0]
  rw [e]

theorem arr0 : (dat0 (F := Ideal) V c).arrAt 2 cfg0.N = Mat.nn (m := 2048) (k := 512) (n := 1024) (φ := .f32) (ψ := .bf16) (V c main_arg1) (V c main_v0) := by
  refine (dat0 V c).arrAt_eq_of_covers 2 _ (by decide +kernel) fun t hf y => ?_
  blk_simp
  rw [after0_2, outs0]
  idx_vars y
  have ht : t.val < 2 := lt_of_lt_of_eq t.isLt Gen.N_0
  have hy := y1.isLt
  obtain ⟨b', hb⟩ : ∃ b' : Fin 1024, b'.val = t.val * 512 + y1.val := ⟨⟨_, by omega⟩, rfl⟩
  have e : (win0_2.blk t).view.emb (ix2 y0 y1) = ix2 y0 b' := by
    blk_ext [ix0_2 t, hb]
  exact (Mat.nn_of (i := ix2 y0 b') (pay0 _ _ y0 y1) (blk0_0 V c t y0) (fun k => blk0_1 V c t k y1 b' hb)).trans (congrArg _ e.symm)

/-! ### Region 1 -/

theorem pay1 (x : Vec Ideal S2048x1024 .f32) (w : Vec Ideal S1024x512 .bf16) (a : Fin 2048) (b : Fin 512) :
    k1_pay1 (F := Ideal) x w (ix2 a b) = ∑ k : Fin 1024, (x (ix2 a k) : EReal) * (w (ix2 k b) : EReal) := by
  pointwise [k1_pay1]

theorem outs1 (t : Fin cfg1.N) : outsAt1 (F := Ideal) V c t = k1_pay1 (iblk1 V c 0 t) (iblk1 V c 1 t) := by
  unfold outsAt1 out1_A_2 kernelRun1_A
  refine (View.read_writes_full _ _ _ _ _).trans ?_
  rw [Whole.ld, Whole.ld]

theorem ix1_0 : ∀ t : Fin cfg1.N, win1_0.index t = ![0, 0] := (by decide +kernel : ∀ t : Fin grid1.N, win1_0.index t = ![0, 0])
theorem ix1_1 : ∀ t : Fin cfg1.N, win1_1.index t = ![0, t.val] := (by decide +kernel : ∀ t : Fin grid1.N, win1_1.index t = ![0, t.val])
theorem ix1_2 : ∀ t : Fin cfg1.N, win1_2.index t = ![0, t.val] := (by decide +kernel : ∀ t : Fin grid1.N, win1_2.index t = ![0, t.val])

theorem blk1_0 (t : Fin cfg1.N) (a : Fin 2048) (k : Fin 1024) :
    (iblk1 (F := Ideal) V c 0 t : Vec Ideal S2048x1024 .f32) (ix2 a k) = (V c main_arg2 : Vec Ideal S2048x1024 .f32) (ix2 a k) := by
  have e : (win1_0.blk t).view.emb (ix2 a k) = (ix2 a k) := by
    blk_ext [ix1_0 t]
  blk_simp [iblk1]
  rw [e]

theorem blk1_1 (t : Fin cfg1.N) (k : Fin 1024) (b : Fin 512) (b' : Fin 1024) (hb : b'.val = t.val * 512 + b.val) :
    (iblk1 (F := Ideal) V c 1 t : Vec Ideal S1024x512 .bf16) (ix2 k b) = (V c main_v1 : Vec Ideal S1024x1024 .bf16) (ix2 k b') := by
  have e : (win1_1.blk t).view.emb (ix2 k b) = (ix2 k b') := by
    blk_ext [ix1_1 t, hb]
  blk_simp [iblk1]
  rw [e]

theorem arr1 : (dat1 (F := Ideal) V c).arrAt 2 cfg1.N = Mat.nn (m := 2048) (k := 1024) (n := 1024) (φ := .f32) (ψ := .bf16) (V c main_arg2) (V c main_v1) := by
  refine (dat1 V c).arrAt_eq_of_covers 2 _ (by decide +kernel) fun t hf y => ?_
  blk_simp
  rw [after1_2, outs1]
  idx_vars y
  have ht : t.val < 2 := lt_of_lt_of_eq t.isLt Gen.N_1
  have hy := y1.isLt
  obtain ⟨b', hb⟩ : ∃ b' : Fin 1024, b'.val = t.val * 512 + y1.val := ⟨⟨_, by omega⟩, rfl⟩
  have e : (win1_2.blk t).view.emb (ix2 y0 y1) = ix2 y0 b' := by
    blk_ext [ix1_2 t, hb]
  exact (Mat.nn_of (i := ix2 y0 b') (pay1 _ _ y0 y1) (blk1_0 V c t y0) (fun k => blk1_1 V c t k y1 b' hb)).trans (congrArg _ e.symm)

/-! ### Region 2 -/

theorem pay2 (x : Vec Ideal S2048x512 .f32) (w : Vec Ideal S512x512 .bf16) (a : Fin 2048) (b : Fin 512) :
    k2_pay1 (F := Ideal) x w (ix2 a b) = ∑ k : Fin 512, (x (ix2 a k) : EReal) * (w (ix2 k b) : EReal) := by
  pointwise [k2_pay1]

theorem outs2 (t : Fin cfg2.N) : outsAt2 (F := Ideal) V c t = k2_pay1 (iblk2 V c 0 t) (iblk2 V c 1 t) := by
  unfold outsAt2 out2_A_2 kernelRun2_A
  refine (View.read_writes_full _ _ _ _ _).trans ?_
  rw [Whole.ld, Whole.ld]

theorem ix2_0 : ∀ t : Fin cfg2.N, win2_0.index t = ![0, 0] := (by decide +kernel : ∀ t : Fin grid2.N, win2_0.index t = ![0, 0])
theorem ix2_1 : ∀ t : Fin cfg2.N, win2_1.index t = ![0, t.val] := (by decide +kernel : ∀ t : Fin grid2.N, win2_1.index t = ![0, t.val])
theorem ix2_2 : ∀ t : Fin cfg2.N, win2_2.index t = ![0, t.val] := (by decide +kernel : ∀ t : Fin grid2.N, win2_2.index t = ![0, t.val])

theorem blk2_0 (t : Fin cfg2.N) (a : Fin 2048) (k : Fin 512) :
    (iblk2 (F := Ideal) V c 0 t : Vec Ideal S2048x512 .f32) (ix2 a k) = (V c main_arg3 : Vec Ideal S2048x512 .f32) (ix2 a k) := by
  have e : (win2_0.blk t).view.emb (ix2 a k) = (ix2 a k) := by
    blk_ext [ix2_0 t]
  blk_simp [iblk2]
  rw [e]

theorem blk2_1 (t : Fin cfg2.N) (k : Fin 512) (b : Fin 512) (b' : Fin 1024) (hb : b'.val = t.val * 512 + b.val) :
    (iblk2 (F := Ideal) V c 1 t : Vec Ideal S512x512 .bf16) (ix2 k b) = (V c main_v2 : Vec Ideal S512x1024 .bf16) (ix2 k b') := by
  have e : (win2_1.blk t).view.emb (ix2 k b) = (ix2 k b') := by
    blk_ext [ix2_1 t, hb]
  blk_simp [iblk2]
  rw [e]

theorem arr2 : (dat2 (F := Ideal) V c).arrAt 2 cfg2.N = Mat.nn (m := 2048) (k := 512) (n := 1024) (φ := .f32) (ψ := .bf16) (V c main_arg3) (V c main_v2) := by
  refine (dat2 V c).arrAt_eq_of_covers 2 _ (by decide +kernel) fun t hf y => ?_
  blk_simp
  rw [after2_2, outs2]
  idx_vars y
  have ht : t.val < 2 := lt_of_lt_of_eq t.isLt Gen.N_2
  have hy := y1.isLt
  obtain ⟨b', hb⟩ : ∃ b' : Fin 1024, b'.val = t.val * 512 + y1.val := ⟨⟨_, by omega⟩, rfl⟩
  have e : (win2_2.blk t).view.emb (ix2 y0 y1) = ix2 y0 b' := by
    blk_ext [ix2_2 t, hb]
  exact (Mat.nn_of (i := ix2 y0 b') (pay2 _ _ y0 y1) (blk2_0 V c t y0) (fun k => blk2_1 V c t k y1 b' hb)).trans (congrArg _ e.symm)

/-! ### Region 3 -/

theorem pay3 (x : Vec Ideal S2048x1024 .f32) (w : Vec Ideal S1024x512 .bf16) (y : Vec Ideal S2048x512 .f32) (a : Fin 2048) (b : Fin 512) :
    k3_pay1 (F := Ideal) x w y (ix2 a b) = (y (ix2 a b) : EReal) + ∑ k : Fin 1024, (x (ix2 a k) : EReal) * (w (ix2 k b) : EReal) := by
  pointwise [k3_pay1]
  exact add_comm _ _

theorem outs3 (t : Fin cfg3.N) : outsAt3 (F := Ideal) V c t = k3_pay1 (iblk3 V c 0 t) (iblk3 V c 1 t) (iblk3 V c 2 t) := by
  unfold outsAt3 out3_A_3 kernelRun3_A
  refine (View.read_writes_full _ _ _ _ _).trans ?_
  rw [Whole.ld, Whole.ld, Whole.ld]

theorem ix3_0 : ∀ t : Fin cfg3.N, win3_0.index t = ![0, 0] := (by decide +kernel : ∀ t : Fin grid3.N, win3_0.index t = ![0, 0])
theorem ix3_1 : ∀ t : Fin cfg3.N, win3_1.index t = ![0, t.val] := (by decide +kernel : ∀ t : Fin grid3.N, win3_1.index t = ![0, t.val])
theorem ix3_2 : ∀ t : Fin cfg3.N, win3_2.index t = ![0, t.val] := (by decide +kernel : ∀ t : Fin grid3.N, win3_2.index t = ![0, t.val])
theorem ix3_3 : ∀ t : Fin cfg3.N, win3_3.index t = ![0, t.val] := (by decide +kernel : ∀ t : Fin grid3.N, win3_3.index t = ![0, t.val])

theorem blk3_0 (t : Fin cfg3.N) (a : Fin 2048) (k : Fin 1024) :
    (iblk3 (F := Ideal) V c 0 t : Vec Ideal S2048x1024 .f32) (ix2 a k) = (V c main_arg4 : Vec Ideal S2048x1024 .f32) (ix2 a k) := by
  have e : (win3_0.blk t).view.emb (ix2 a k) = (ix2 a k) := by
    blk_ext [ix3_0 t]
  blk_simp [iblk3]
  rw [e]

theorem blk3_1 (t : Fin cfg3.N) (k : Fin 1024) (b : Fin 512) (b' : Fin 1024) (hb : b'.val = t.val * 512 + b.val) :
    (iblk3 (F := Ideal) V c 1 t : Vec Ideal S1024x512 .bf16) (ix2 k b) = (V c main_v3 : Vec Ideal S1024x1024 .bf16) (ix2 k b') := by
  have e : (win3_1.blk t).view.emb (ix2 k b) = (ix2 k b') := by
    blk_ext [ix3_1 t, hb]
  blk_simp [iblk3]
  rw [e]

theorem blk3_2 (t : Fin cfg3.N) (a : Fin 2048) (b : Fin 512) (b' : Fin 1024) (hb : b'.val = t.val * 512 + b.val) :
    (iblk3 (F := Ideal) V c 2 t : Vec Ideal S2048x512 .f32) (ix2 a b) = (V c main_arg0 : Vec Ideal S2048x1024 .f32) (ix2 a b') := by
  have e : (win3_2.blk t).view.emb (ix2 a b) = ix2 a b' := by
    blk_ext [ix3_2 t, hb]
  blk_simp [iblk3]
  rw [e]

theorem arr3 : (dat3 (F := Ideal) V c).arrAt 3 cfg3.N = Mat.plus (m := 2048) (n := 1024) (V c main_arg0) (Mat.nn (m := 2048) (k := 1024) (n := 1024) (φ := .f32) (ψ := .bf16) (V c main_arg4) (V c main_v3)) := by
  refine (dat3 V c).arrAt_eq_of_covers 3 _ (by decide +kernel) fun t hf y => ?_
  blk_simp
  rw [after3_3, outs3]
  idx_vars y
  have ht : t.val < 2 := lt_of_lt_of_eq t.isLt Gen.N_3
  have hy := y1.isLt
  obtain ⟨b', hb⟩ : ∃ b' : Fin 1024, b'.val = t.val * 512 + y1.val := ⟨⟨_, by omega⟩, rfl⟩
  have e : (win3_3.blk t).view.emb (ix2 y0 y1) = ix2 y0 b' := by
    blk_ext [ix3_3 t, hb]
  refine ((pay3 _ _ _ y0 y1).trans ?_).trans (congrArg _ e.symm)
  exact congrArg₂ (fun a b : EReal => a + b) (blk3_2 V c t y0 y1 b' hb)
    (Mat.nn_of (i := ix2 y0 b') rfl (blk3_0 V c t y0) (fun k => blk3_1 V c t k y1 b' hb))

/-! ### Region 4 -/

theorem pay4 (x : Vec Ideal S2048x1024 .f32) (w : Vec Ideal S2048x512 .f32) (a : Fin 1024) (b : Fin 512) :
    k4_pay1 (F := Ideal) x w (ix2 a b) = ∑ k : Fin 2048, (x (ix2 k a) : EReal) * (w (ix2 k b) : EReal) := by
  pointwise [k4_pay1]

theorem outs4 (t : Fin cfg4.N) : outsAt4 (F := Ideal) V c t = k4_pay1 (iblk4 V c 0 t) (iblk4 V c 1 t) := by
  unfold outsAt4 out4_A_2 kernelRun4_A
  refine (View.read_writes_full _ _ _ _ _).trans ?_
  rw [Whole.ld, Whole.ld]

theorem ix4_0 : ∀ t : Fin cfg4.N, win4_0.index t = ![0, 0] := (by decide +kernel : ∀ t : Fin grid4.N, win4_0.index t = ![0, 0])
theorem ix4_1 : ∀ t : Fin cfg4.N, win4_1.index t = ![0, t.val] := (by decide +kernel : ∀ t : Fin grid4.N, win4_1.index t = ![0, t.val])
theorem ix4_2 : ∀ t : Fin cfg4.N, win4_2.index t = ![0, t.val] := (by decide +kernel : ∀ t : Fin grid4.N, win4_2.index t = ![0, t.val])

theorem blk4_0 (t : Fin cfg4.N) (a : Fin 1024) (k : Fin 2048) :
    (iblk4 (F := Ideal) V c 0 t : Vec Ideal S2048x1024 .f32) (ix2 k a) = (V c main_arg4 : Vec Ideal S2048x1024 .f32) (ix2 k a) := by
  have e : (win4_0.blk t).view.emb (ix2 k a) = (ix2 k a) := by
    blk_ext [ix4_0 t]
  blk_simp [iblk4]
  rw [e]

theorem blk4_1 (t : Fin cfg4.N) (k : Fin 2048) (b : Fin 512) (b' : Fin 1024) (hb : b'.val = t.val * 512 + b.val) :
    (iblk4 (F := Ideal) V c 1 t : Vec Ideal S2048x512 .f32) (ix2 k b) = (V c main_arg12 : Vec Ideal S2048x1024 .f32) (ix2 k b') := by
  have e : (win4_1.blk t).view.emb (ix2 k b) = (ix2 k b') := by
    blk_ext [ix4_1 t, hb]
  blk_simp [iblk4]
  rw [e]

theorem arr4 : (dat4 (F := Ideal) V c).arrAt 2 cfg4.N = Mat.tn (m := 1024) (k := 2048) (n := 1024) (φ := .f32) (ψ := .f32) (V c main_arg4) (V c main_arg12) := by
  refine (dat4 V c).arrAt_eq_of_covers 2 _ (by decide +kernel) fun t hf y => ?_
  blk_simp
  rw [after4_2, outs4]
  idx_vars y
  have ht : t.val < 2 := lt_of_lt_of_eq t.isLt Gen.N_4
  have hy := y1.isLt
  obtain ⟨b', hb⟩ : ∃ b' : Fin 1024, b'.val = t.val * 512 + y1.val := ⟨⟨_, by omega⟩, rfl⟩
  have e : (win4_2.blk t).view.emb (ix2 y0 y1) = ix2 y0 b' := by
    blk_ext [ix4_2 t, hb]
  exact (Mat.tn_of (i := ix2 y0 b') (pay4 _ _ y0 y1) (blk4_0 V c t y0) (fun k => blk4_1 V c t k y1 b' hb)).trans (congrArg _ e.symm)

/-! ### Region 5 -/

theorem pay5 (x : Vec Ideal S2048x1024 .f32) (w : Vec Ideal S512x1024 .bf16) (a : Fin 2048) (b : Fin 512) :
    k5_pay1 (F := Ideal) x w (ix2 a b) = ∑ k : Fin 1024, (x (ix2 a k) : EReal) * (w (ix2 b k) : EReal) := by
  pointwise [k5_pay1]

theorem outs5 (t : Fin cfg5.N) : outsAt5 (F := Ideal) V c t = k5_pay1 (iblk5 V c 0 t) (iblk5 V c 1 t) := by
  unfold outsAt5 out5_A_2 kernelRun5_A
  refine (View.read_writes_full _ _ _ _ _).trans ?_
  rw [Whole.ld, Whole.ld]

theorem ix5_0 : ∀ t : Fin cfg5.N, win5_0.index t = ![0, 0] := (by decide +kernel : ∀ t : Fin grid5.N, win5_0.index t = ![0, 0])
theorem ix5_1 : ∀ t : Fin cfg5.N, win5_1.index t = ![t.val, 0] := (by decide +kernel : ∀ t : Fin grid5.N, win5_1.index t = ![t.val, 0])
theorem ix5_2 : ∀ t : Fin cfg5.N, win5_2.index t = ![0, t.val] := (by decide +kernel : ∀ t : Fin grid5.N, win5_2.index t = ![0, t.val])

theorem blk5_0 (t : Fin cfg5.N) (a : Fin 2048) (k : Fin 1024) :
    (iblk5 (F := Ideal) V c 0 t : Vec Ideal S2048x1024 .f32) (ix2 a k) = (V c main_arg12 : Vec Ideal S2048x1024 .f32) (ix2 a k) := by
  have e : (win5_0.blk t).view.emb (ix2 a k) = (ix2 a k) := by
    blk_ext [ix5_0 t]
  blk_simp [iblk5]
  rw [e]

theorem blk5_1 (t : Fin cfg5.N) (k : Fin 1024) (b : Fin 512) (b' : Fin 1024) (hb : b'.val = t.val * 512 + b.val) :
    (iblk5 (F := Ideal) V c 1 t : Vec Ideal S512x1024 .bf16) (ix2 b k) = (V c main_v3 : Vec Ideal S1024x1024 .bf16) (ix2 b' k) := by
  have e : (win5_1.blk t).view.emb (ix2 b k) = (ix2 b' k) := by
    blk_ext [ix5_1 t, hb]
  blk_simp [iblk5]
  rw [e]

theorem arr5 : (dat5 (F := Ideal) V c).arrAt 2 cfg5.N = Mat.nt (m := 2048) (k := 1024) (n := 1024) (φ := .f32) (ψ := .bf16) (V c main_arg12) (V c main_v3) := by
  refine (dat5 V c).arrAt_eq_of_covers 2 _ (by decide +kernel) fun t hf y => ?_
  blk_simp
  rw [after5_2, outs5]
  idx_vars y
  have ht : t.val < 2 := lt_of_lt_of_eq t.isLt Gen.N_5
  have hy := y1.isLt
  obtain ⟨b', hb⟩ : ∃ b' : Fin 1024, b'.val = t.val * 512 + y1.val := ⟨⟨_, by omega⟩, rfl⟩
  have e : (win5_2.blk t).view.emb (ix2 y0 y1) = ix2 y0 b' := by
    blk_ext [ix5_2 t, hb]
  exact (Mat.nt_of (i := ix2 y0 b') (pay5 _ _ y0 y1) (blk5_0 V c t y0) (fun k => blk5_1 V c t k y1 b' hb)).trans (congrArg _ e.symm)

end Cert.Kernel4Ideal.Out

end

end
-- ==== Proof.OutBack.lean ====
/- The output stage's products in `Kernel4Ideal`, region by region: the gradients of the three branches' products. -/
module

public import proofs.«01_k».proof.Proof.Gen.Kernel4Ideal.Frame
public import proofs.«01_k».proof.Proof.Whole
public import proofs.«01_k».proof.Proof.Mat
public import Idealize.ShloMosaic.Lib.Pipeline.ValueKit
public import Idealize.ShloMosaic.Lib.Claim

@[expose] public section

set_option maxRecDepth 16384

noncomputable section

namespace Cert.Kernel4Ideal.Out

open Idealize.ShloMosaic Idealize.ShloMosaic.TcCoe
open Idealize.SL.Sem Cert.Kernel4Ideal Cert.Kernel4Ideal.Gen

variable (V : (c : Dev nD) → (b : Ref sig .tc) → Buf (Elt Ideal) ((c : Thread nD τ).loc b)) (c : Dev nD)

/-! ### Region 6 -/

theorem pay6 (x : Vec Ideal S2048x512 .f32) (w : Vec Ideal S2048x512 .f32) (a : Fin 512) (b : Fin 512) :
    k6_pay1 (F := Ideal) x w (ix2 a b) = ∑ k : Fin 2048, (x (ix2 k a) : EReal) * (w (ix2 k b) : EReal) := by
  pointwise [k6_pay1]

theorem outs6 (t : Fin cfg6.N) : outsAt6 (F := Ideal) V c t = k6_pay1 (iblk6 V c 0 t) (iblk6 V c 1 t) := by
  unfold outsAt6 out6_A_2 kernelRun6_A
  refine (View.read_writes_full _ _ _ _ _).trans ?_
  rw [Whole.ld, Whole.ld]

theorem ix6_0 : ∀ t : Fin cfg6.N, win6_0.index t = ![0, 0] := (by decide +kernel : ∀ t : Fin grid6.N, win6_0.index t = ![0, 0])
theorem ix6_1 : ∀ t : Fin cfg6.N, win6_1.index t = ![0, t.val] := (by decide +kernel : ∀ t : Fin grid6.N, win6_1.index t = ![0, t.val])
theorem ix6_2 : ∀ t : Fin cfg6.N, win6_2.index t = ![0, t.val] := (by decide +kernel : ∀ t : Fin grid6.N, win6_2.index t = ![0, t.val])

theorem blk6_0 (t : Fin cfg6.N) (a : Fin 512) (k : Fin 2048) :
    (iblk6 (F := Ideal) V c 0 t : Vec Ideal S2048x512 .f32) (ix2 k a) = (V c main_arg1 : Vec Ideal S2048x512 .f32) (ix2 k a) := by
  have e : (win6_0.blk t).view.emb (ix2 k a) = (ix2 k a) := by
    blk_ext [ix6_0 t]
  blk_simp [iblk6]
  rw [e]

theorem blk6_1 (t : Fin cfg6.N) (k : Fin 2048) (b : Fin 512) (b' : Fin 1024) (hb : b'.val = t.val * 512 + b.val) :
    (iblk6 (F := Ideal) V c 1 t : Vec Ideal S2048x512 .f32) (ix2 k b) = (V c main_arg9 : Vec Ideal S2048x1024 .f32) (ix2 k b') := by
  have e : (win6_1.blk t).view.emb (ix2 k b) = (ix2 k b') := by
    blk_ext [ix6_1 t, hb]
  blk_simp [iblk6]
  rw [e]

theorem arr6 : (dat6 (F := Ideal) V c).arrAt 2 cfg6.N = Mat.tn (m := 512) (k := 2048) (n := 1024) (φ := .f32) (ψ := .f32) (V c main_arg1) (V c main_arg9) := by
  refine (dat6 V c).arrAt_eq_of_covers 2 _ (by decide +kernel) fun t hf y => ?_
  blk_simp
  rw [after6_2, outs6]
  idx_vars y
  have ht : t.val < 2 := lt_of_lt_of_eq t.isLt Gen.N_6
  have hy := y1.isLt
  obtain ⟨b', hb⟩ : ∃ b' : Fin 1024, b'.val = t.val * 512 + y1.val := ⟨⟨_, by omega⟩, rfl⟩
  have e : (win6_2.blk t).view.emb (ix2 y0 y1) = ix2 y0 b' := by
    blk_ext [ix6_2 t, hb]
  exact (Mat.tn_of (i := ix2 y0 b') (pay6 _ _ y0 y1) (blk6_0 V c t y0) (fun k => blk6_1 V c t k y1 b' hb)).trans (congrArg _ e.symm)

/-! ### Region 7 -/

theorem pay7 (x : Vec Ideal S2048x1024 .f32) (w : Vec Ideal S2048x512 .f32) (a : Fin 1024) (b : Fin 512) :
    k7_pay1 (F := Ideal) x w (ix2 a b) = ∑ k : Fin 2048, (x (ix2 k a) : EReal) * (w (ix2 k b) : EReal) := by
  pointwise [k7_pay1]

theorem outs7 (t : Fin cfg7.N) : outsAt7 (F := Ideal) V c t = k7_pay1 (iblk7 V c 0 t) (iblk7 V c 1 t) := by
  unfold outsAt7 out7_A_2 kernelRun7_A
  refine (View.read_writes_full _ _ _ _ _).trans ?_
  rw [Whole.ld, Whole.ld]

theorem ix7_0 : ∀ t : Fin cfg7.N, win7_0.index t = ![0, 0] := (by decide +kernel : ∀ t : Fin grid7.N, win7_0.index t = ![0, 0])
theorem ix7_1 : ∀ t : Fin cfg7.N, win7_1.index t = ![0, t.val] := (by decide +kernel : ∀ t : Fin grid7.N, win7_1.index t = ![0, t.val])
theorem ix7_2 : ∀ t : Fin cfg7.N, win7_2.index t = ![0, t.val] := (by decide +kernel : ∀ t : Fin grid7.N, win7_2.index t = ![0, t.val])

theorem blk7_0 (t : Fin cfg7.N) (a : Fin 1024) (k : Fin 2048) :
    (iblk7 (F := Ideal) V c 0 t : Vec Ideal S2048x1024 .f32) (ix2 k a) = (V c main_arg2 : Vec Ideal S2048x1024 .f32) (ix2 k a) := by
  have e : (win7_0.blk t).view.emb (ix2 k a) = (ix2 k a) := by
    blk_ext [ix7_0 t]
  blk_simp [iblk7]
  rw [e]

theorem blk7_1 (t : Fin cfg7.N) (k : Fin 2048) (b : Fin 512) (b' : Fin 1024) (hb : b'.val = t.val * 512 + b.val) :
    (iblk7 (F := Ideal) V c 1 t : Vec Ideal S2048x512 .f32) (ix2 k b) = (V c main_arg10 : Vec Ideal S2048x1024 .f32) (ix2 k b') := by
  have e : (win7_1.blk t).view.emb (ix2 k b) = (ix2 k b') := by
    blk_ext [ix7_1 t, hb]
  blk_simp [iblk7]
  rw [e]

theorem arr7 : (dat7 (F := Ideal) V c).arrAt 2 cfg7.N = Mat.tn (m := 1024) (k := 2048) (n := 1024) (φ := .f32) (ψ := .f32) (V c main_arg2) (V c main_arg10) := by
  refine (dat7 V c).arrAt_eq_of_covers 2 _ (by decide +kernel) fun t hf y => ?_
  blk_simp
  rw [after7_2, outs7]
  idx_vars y
  have ht : t.val < 2 := lt_of_lt_of_eq t.isLt Gen.N_7
  have hy := y1.isLt
  obtain ⟨b', hb⟩ : ∃ b' : Fin 1024, b'.val = t.val * 512 + y1.val := ⟨⟨_, by omega⟩, rfl⟩
  have e : (win7_2.blk t).view.emb (ix2 y0 y1) = ix2 y0 b' := by
    blk_ext [ix7_2 t, hb]
  exact (Mat.tn_of (i := ix2 y0 b') (pay7 _ _ y0 y1) (blk7_0 V c t y0) (fun k => blk7_1 V c t k y1 b' hb)).trans (congrArg _ e.symm)

/-! ### Region 8 -/

theorem pay8 (x : Vec Ideal S2048x512 .f32) (w : Vec Ideal S2048x512 .f32) (a : Fin 512) (b : Fin 512) :
    k8_pay1 (F := Ideal) x w (ix2 a b) = ∑ k : Fin 2048, (x (ix2 k a) : EReal) * (w (ix2 k b) : EReal) := by
  pointwise [k8_pay1]

theorem outs8 (t : Fin cfg8.N) : outsAt8 (F := Ideal) V c t = k8_pay1 (iblk8 V c 0 t) (iblk8 V c 1 t) := by
  unfold outsAt8 out8_A_2 kernelRun8_A
  refine (View.read_writes_full _ _ _ _ _).trans ?_
  rw [Whole.ld, Whole.ld]

theorem ix8_0 : ∀ t : Fin cfg8.N, win8_0.index t = ![0, 0] := (by decide +kernel : ∀ t : Fin grid8.N, win8_0.index t = ![0, 0])
theorem ix8_1 : ∀ t : Fin cfg8.N, win8_1.index t = ![0, t.val] := (by decide +kernel : ∀ t : Fin grid8.N, win8_1.index t = ![0, t.val])
theorem ix8_2 : ∀ t : Fin cfg8.N, win8_2.index t = ![0, t.val] := (by decide +kernel : ∀ t : Fin grid8.N, win8_2.index t = ![0, t.val])

theorem blk8_0 (t : Fin cfg8.N) (a : Fin 512) (k : Fin 2048) :
    (iblk8 (F := Ideal) V c 0 t : Vec Ideal S2048x512 .f32) (ix2 k a) = (V c main_arg3 : Vec Ideal S2048x512 .f32) (ix2 k a) := by
  have e : (win8_0.blk t).view.emb (ix2 k a) = (ix2 k a) := by
    blk_ext [ix8_0 t]
  blk_simp [iblk8]
  rw [e]

theorem blk8_1 (t : Fin cfg8.N) (k : Fin 2048) (b : Fin 512) (b' : Fin 1024) (hb : b'.val = t.val * 512 + b.val) :
    (iblk8 (F := Ideal) V c 1 t : Vec Ideal S2048x512 .f32) (ix2 k b) = (V c main_arg11 : Vec Ideal S2048x1024 .f32) (ix2 k b') := by
  have e : (win8_1.blk t).view.emb (ix2 k b) = (ix2 k b') := by
    blk_ext [ix8_1 t, hb]
  blk_simp [iblk8]
  rw [e]

theorem arr8 : (dat8 (F := Ideal) V c).arrAt 2 cfg8.N = Mat.tn (m := 512) (k := 2048) (n := 1024) (φ := .f32) (ψ := .f32) (V c main_arg3) (V c main_arg11) := by
  refine (dat8 V c).arrAt_eq_of_covers 2 _ (by decide +kernel) fun t hf y => ?_
  blk_simp
  rw [after8_2, outs8]
  idx_vars y
  have ht : t.val < 2 := lt_of_lt_of_eq t.isLt Gen.N_8
  have hy := y1.isLt
  obtain ⟨b', hb⟩ : ∃ b' : Fin 1024, b'.val = t.val * 512 + y1.val := ⟨⟨_, by omega⟩, rfl⟩
  have e : (win8_2.blk t).view.emb (ix2 y0 y1) = ix2 y0 b' := by
    blk_ext [ix8_2 t, hb]
  exact (Mat.tn_of (i := ix2 y0 b') (pay8 _ _ y0 y1) (blk8_0 V c t y0) (fun k => blk8_1 V c t k y1 b' hb)).trans (congrArg _ e.symm)

/-! ### Region 9 -/

theorem pay9 (x : Vec Ideal S2048x1024 .f32) (w : Vec Ideal S512x1024 .bf16) (a : Fin 2048) (b : Fin 512) :
    k9_pay1 (F := Ideal) x w (ix2 a b) = ∑ k : Fin 1024, (x (ix2 a k) : EReal) * (w (ix2 b k) : EReal) := by
  pointwise [k9_pay1]

theorem outs9 (t : Fin cfg9.N) : outsAt9 (F := Ideal) V c t = k9_pay1 (iblk9 V c 0 t) (iblk9 V c 1 t) := by
  unfold outsAt9 out9_A_2 kernelRun9_A
  refine (View.read_writes_full _ _ _ _ _).trans ?_
  rw [Whole.ld, Whole.ld]

theorem ix9_0 : ∀ t : Fin cfg9.N, win9_0.index t = ![0, 0] := (by decide +kernel : ∀ t : Fin grid9.N, win9_0.index t = ![0, 0])
theorem ix9_1 : ∀ t : Fin cfg9.N, win9_1.index t = ![t.val, 0] := (by decide +kernel : ∀ t : Fin grid9.N, win9_1.index t = ![t.val, 0])
theorem ix9_2 : ∀ t : Fin cfg9.N, win9_2.index t = ![0, t.val] := (by decide +kernel : ∀ t : Fin grid9.N, win9_2.index t = ![0, t.val])

theorem blk9_0 (t : Fin cfg9.N) (a : Fin 2048) (k : Fin 1024) :
    (iblk9 (F := Ideal) V c 0 t : Vec Ideal S2048x1024 .f32) (ix2 a k) = (V c main_arg9 : Vec Ideal S2048x1024 .f32) (ix2 a k) := by
  have e : (win9_0.blk t).view.emb (ix2 a k) = (ix2 a k) := by
    blk_ext [ix9_0 t]
  blk_simp [iblk9]
  rw [e]

theorem blk9_1 (t : Fin cfg9.N) (k : Fin 1024) (b : Fin 512) (b' : Fin 512) (hb : b'.val = t.val * 512 + b.val) :
    (iblk9 (F := Ideal) V c 1 t : Vec Ideal S512x1024 .bf16) (ix2 b k) = (V c main_v0 : Vec Ideal S512x1024 .bf16) (ix2 b' k) := by
  have e : (win9_1.blk t).view.emb (ix2 b k) = (ix2 b' k) := by
    blk_ext [ix9_1 t, hb]
  blk_simp [iblk9]
  rw [e]

theorem arr9 : (dat9 (F := Ideal) V c).arrAt 2 cfg9.N = Mat.nt (m := 2048) (k := 1024) (n := 512) (φ := .f32) (ψ := .bf16) (V c main_arg9) (V c main_v0) := by
  refine (dat9 V c).arrAt_eq_of_covers 2 _ (by decide +kernel) fun t hf y => ?_
  blk_simp
  rw [after9_2, outs9]
  idx_vars y
  have ht : t.val < 1 := lt_of_lt_of_eq t.isLt Gen.N_9
  have hy := y1.isLt
  obtain ⟨b', hb⟩ : ∃ b' : Fin 512, b'.val = t.val * 512 + y1.val := ⟨⟨_, by omega⟩, rfl⟩
  have e : (win9_2.blk t).view.emb (ix2 y0 y1) = ix2 y0 b' := by
    blk_ext [ix9_2 t, hb]
  exact (Mat.nt_of (i := ix2 y0 b') (pay9 _ _ y0 y1) (blk9_0 V c t y0) (fun k => blk9_1 V c t k y1 b' hb)).trans (congrArg _ e.symm)

/-! ### Region 10 -/

theorem pay10 (x : Vec Ideal S2048x1024 .f32) (w : Vec Ideal S512x1024 .bf16) (a : Fin 2048) (b : Fin 512) :
    k10_pay1 (F := Ideal) x w (ix2 a b) = ∑ k : Fin 1024, (x (ix2 a k) : EReal) * (w (ix2 b k) : EReal) := by
  pointwise [k10_pay1]

theorem outs10 (t : Fin cfg10.N) : outsAt10 (F := Ideal) V c t = k10_pay1 (iblk10 V c 0 t) (iblk10 V c 1 t) := by
  unfold outsAt10 out10_A_2 kernelRun10_A
  refine (View.read_writes_full _ _ _ _ _).trans ?_
  rw [Whole.ld, Whole.ld]

theorem ix10_0 : ∀ t : Fin cfg10.N, win10_0.index t = ![0, 0] := (by decide +kernel : ∀ t : Fin grid10.N, win10_0.index t = ![0, 0])
theorem ix10_1 : ∀ t : Fin cfg10.N, win10_1.index t = ![t.val, 0] := (by decide +kernel : ∀ t : Fin grid10.N, win10_1.index t = ![t.val, 0])
theorem ix10_2 : ∀ t : Fin cfg10.N, win10_2.index t = ![0, t.val] := (by decide +kernel : ∀ t : Fin grid10.N, win10_2.index t = ![0, t.val])

theorem blk10_0 (t : Fin cfg10.N) (a : Fin 2048) (k : Fin 1024) :
    (iblk10 (F := Ideal) V c 0 t : Vec Ideal S2048x1024 .f32) (ix2 a k) = (V c main_arg10 : Vec Ideal S2048x1024 .f32) (ix2 a k) := by
  have e : (win10_0.blk t).view.emb (ix2 a k) = (ix2 a k) := by
    blk_ext [ix10_0 t]
  blk_simp [iblk10]
  rw [e]

theorem blk10_1 (t : Fin cfg10.N) (k : Fin 1024) (b : Fin 512) (b' : Fin 1024) (hb : b'.val = t.val * 512 + b.val) :
    (iblk10 (F := Ideal) V c 1 t : Vec Ideal S512x1024 .bf16) (ix2 b k) = (V c main_v1 : Vec Ideal S1024x1024 .bf16) (ix2 b' k) := by
  have e : (win10_1.blk t).view.emb (ix2 b k) = (ix2 b' k) := by
    blk_ext [ix10_1 t, hb]
  blk_simp [iblk10]
  rw [e]

theorem arr10 : (dat10 (F := Ideal) V c).arrAt 2 cfg10.N = Mat.nt (m := 2048) (k := 1024) (n := 1024) (φ := .f32) (ψ := .bf16) (V c main_arg10) (V c main_v1) := by
  refine (dat10 V c).arrAt_eq_of_covers 2 _ (by decide +kernel) fun t hf y => ?_
  blk_simp
  rw [after10_2, outs10]
  idx_vars y
  have ht : t.val < 2 := lt_of_lt_of_eq t.isLt Gen.N_10
  have hy := y1.isLt
  obtain ⟨b', hb⟩ : ∃ b' : Fin 1024, b'.val = t.val * 512 + y1.val := ⟨⟨_, by omega⟩, rfl⟩
  have e : (win10_2.blk t).view.emb (ix2 y0 y1) = ix2 y0 b' := by
    blk_ext [ix10_2 t, hb]
  exact (Mat.nt_of (i := ix2 y0 b') (pay10 _ _ y0 y1) (blk10_0 V c t y0) (fun k => blk10_1 V c t k y1 b' hb)).trans (congrArg _ e.symm)

/-! ### Region 11 -/

theorem pay11 (x : Vec Ideal S2048x1024 .f32) (w : Vec Ideal S512x1024 .bf16) (a : Fin 2048) (b : Fin 512) :
    k11_pay1 (F := Ideal) x w (ix2 a b) = ∑ k : Fin 1024, (x (ix2 a k) : EReal) * (w (ix2 b k) : EReal) := by
  pointwise [k11_pay1]

theorem outs11 (t : Fin cfg11.N) : outsAt11 (F := Ideal) V c t = k11_pay1 (iblk11 V c 0 t) (iblk11 V c 1 t) := by
  unfold outsAt11 out11_A_2 kernelRun11_A
  refine (View.read_writes_full _ _ _ _ _).trans ?_
  rw [Whole.ld, Whole.ld]

theorem ix11_0 : ∀ t : Fin cfg11.N, win11_0.index t = ![0, 0] := (by decide +kernel : ∀ t : Fin grid11.N, win11_0.index t = ![0, 0])
theorem ix11_1 : ∀ t : Fin cfg11.N, win11_1.index t = ![t.val, 0] := (by decide +kernel : ∀ t : Fin grid11.N, win11_1.index t = ![t.val, 0])
theorem ix11_2 : ∀ t : Fin cfg11.N, win11_2.index t = ![0, t.val] := (by decide +kernel : ∀ t : Fin grid11.N, win11_2.index t = ![0, t.val])

theorem blk11_0 (t : Fin cfg11.N) (a : Fin 2048) (k : Fin 1024) :
    (iblk11 (F := Ideal) V c 0 t : Vec Ideal S2048x1024 .f32) (ix2 a k) = (V c main_arg11 : Vec Ideal S2048x1024 .f32) (ix2 a k) := by
  have e : (win11_0.blk t).view.emb (ix2 a k) = (ix2 a k) := by
    blk_ext [ix11_0 t]
  blk_simp [iblk11]
  rw [e]

theorem blk11_1 (t : Fin cfg11.N) (k : Fin 1024) (b : Fin 512) (b' : Fin 512) (hb : b'.val = t.val * 512 + b.val) :
    (iblk11 (F := Ideal) V c 1 t : Vec Ideal S512x1024 .bf16) (ix2 b k) = (V c main_v2 : Vec Ideal S512x1024 .bf16) (ix2 b' k) := by
  have e : (win11_1.blk t).view.emb (ix2 b k) = (ix2 b' k) := by
    blk_ext [ix11_1 t, hb]
  blk_simp [iblk11]
  rw [e]

theorem arr11 : (dat11 (F := Ideal) V c).arrAt 2 cfg11.N = Mat.nt (m := 2048) (k := 1024) (n := 512) (φ := .f32) (ψ := .bf16) (V c main_arg11) (V c main_v2) := by
  refine (dat11 V c).arrAt_eq_of_covers 2 _ (by decide +kernel) fun t hf y => ?_
  blk_simp
  rw [after11_2, outs11]
  idx_vars y
  have ht : t.val < 1 := lt_of_lt_of_eq t.isLt Gen.N_11
  have hy := y1.isLt
  obtain ⟨b', hb⟩ : ∃ b' : Fin 512, b'.val = t.val * 512 + y1.val := ⟨⟨_, by omega⟩, rfl⟩
  have e : (win11_2.blk t).view.emb (ix2 y0 y1) = ix2 y0 b' := by
    blk_ext [ix11_2 t, hb]
  exact (Mat.nt_of (i := ix2 y0 b') (pay11 _ _ y0 y1) (blk11_0 V c t y0) (fun k => blk11_1 V c t k y1 b' hb)).trans (congrArg _ e.symm)

end Cert.Kernel4Ideal.Out

end

end
-- ==== Proof.OutEnd.lean ====
/- The products of `Kernel4Ideal` at the end of the run, in the arguments' contents, and the reference's. -/
module

public import proofs.«01_k».proof.Proof.Out
public import proofs.«01_k».proof.Proof.OutBack
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Kernel4Ideal.Out

open Idealize.ShloMosaic Idealize.ShloMosaic.TcCoe
open Idealize.SL.Sem Cert.Kernel4Ideal Cert.Kernel4Ideal.Gen

variable (m : (ℓ : Loc nD τ sig) → Buf (Elt Ideal) ℓ) (ρ : Dev nD → PrngReg) (c : Dev nD)

theorem weight0 : W1 m ρ c (Proc.devRef .tc main_v0) = (m ((c : Thread nD τ).loc main_arg5) : Vec Ideal S512x1024 .f32) := by
  unfold W1 hostOps0
  entry_read
  rfl

theorem weight1 : W1 m ρ c (Proc.devRef .tc main_v1) = (m ((c : Thread nD τ).loc main_arg6) : Vec Ideal S1024x1024 .f32) := by
  unfold W1 hostOps0
  entry_read
  rfl

theorem weight2 : W1 m ρ c (Proc.devRef .tc main_v2) = (m ((c : Thread nD τ).loc main_arg7) : Vec Ideal S512x1024 .f32) := by
  unfold W1 hostOps0
  entry_read
  rfl

theorem weight3 : W1 m ρ c (Proc.devRef .tc main_v3) = (m ((c : Thread nD τ).loc main_arg8) : Vec Ideal S1024x1024 .f32) := by
  unfold W1 hostOps0
  entry_read
  rfl

theorem end0 : W13 m ρ c (Proc.devRef .tc main_v4) = Mat.nn (m := 2048) (k := 512) (n := 1024) (φ := .f32) (ψ := .f32) (m ((c : Thread nD τ).loc main_arg1)) (m ((c : Thread nD τ).loc main_arg5)) := by
  refine (W13_of_ne m ρ c main_v4 (by decide)).trans ?_
  refine (W12_of_ne m ρ c main_v4 (by decide)).trans ?_
  refine (W11_of_ne m ρ c main_v4 (by decide)).trans ?_
  refine (W10_of_ne m ρ c main_v4 (by decide)).trans ?_
  refine (W9_of_ne m ρ c main_v4 (by decide)).trans ?_
  refine (W8_of_ne m ρ c main_v4 (by decide)).trans ?_
  refine (W7_of_ne m ρ c main_v4 (by decide)).trans ?_
  refine (W6_of_ne m ρ c main_v4 (by decide)).trans ?_
  refine (W5_of_ne m ρ c main_v4 (by decide)).trans ?_
  refine (W4_of_ne m ρ c main_v4 (by decide)).trans ?_
  refine (W3_of_ne m ρ c main_v4 (by decide)).trans ?_
  refine (W2_arr m ρ c 2).trans ((arr0 (V1 m ρ) c).trans ?_)
  exact congrArg₂ (fun A B => Mat.nn (m := 2048) (k := 512) (n := 1024) (φ := .f32) (ψ := .f32) A B)
    (W1_args m ρ c main_arg1 (by decide))
    (weight0 m ρ c)

theorem end1 : W13 m ρ c (Proc.devRef .tc main_v5) = Mat.nn (m := 2048) (k := 1024) (n := 1024) (φ := .f32) (ψ := .f32) (m ((c : Thread nD τ).loc main_arg2)) (m ((c : Thread nD τ).loc main_arg6)) := by
  refine (W13_of_ne m ρ c main_v5 (by decide)).trans ?_
  refine (W12_of_ne m ρ c main_v5 (by decide)).trans ?_
  refine (W11_of_ne m ρ c main_v5 (by decide)).trans ?_
  refine (W10_of_ne m ρ c main_v5 (by decide)).trans ?_
  refine (W9_of_ne m ρ c main_v5 (by decide)).trans ?_
  refine (W8_of_ne m ρ c main_v5 (by decide)).trans ?_
  refine (W7_of_ne m ρ c main_v5 (by decide)).trans ?_
  refine (W6_of_ne m ρ c main_v5 (by decide)).trans ?_
  refine (W5_of_ne m ρ c main_v5 (by decide)).trans ?_
  refine (W4_of_ne m ρ c main_v5 (by decide)).trans ?_
  refine (W3_arr m ρ c 2).trans ((arr1 (V2 m ρ) c).trans ?_)
  exact congrArg₂ (fun A B => Mat.nn (m := 2048) (k := 1024) (n := 1024) (φ := .f32) (ψ := .f32) A B)
    (W2_args m ρ c main_arg2 (by decide))
    ((W2_of m ρ c main_v1 (by decide)).trans (weight1 m ρ c))

theorem end2 : W13 m ρ c (Proc.devRef .tc main_v6) = Mat.nn (m := 2048) (k := 512) (n := 1024) (φ := .f32) (ψ := .f32) (m ((c : Thread nD τ).loc main_arg3)) (m ((c : Thread nD τ).loc main_arg7)) := by
  refine (W13_of_ne m ρ c main_v6 (by decide)).trans ?_
  refine (W12_of_ne m ρ c main_v6 (by decide)).trans ?_
  refine (W11_of_ne m ρ c main_v6 (by decide)).trans ?_
  refine (W10_of_ne m ρ c main_v6 (by decide)).trans ?_
  refine (W9_of_ne m ρ c main_v6 (by decide)).trans ?_
  refine (W8_of_ne m ρ c main_v6 (by decide)).trans ?_
  refine (W7_of_ne m ρ c main_v6 (by decide)).trans ?_
  refine (W6_of_ne m ρ c main_v6 (by decide)).trans ?_
  refine (W5_of_ne m ρ c main_v6 (by decide)).trans ?_
  refine (W4_arr m ρ c 2).trans ((arr2 (V3 m ρ) c).trans ?_)
  exact congrArg₂ (fun A B => Mat.nn (m := 2048) (k := 512) (n := 1024) (φ := .f32) (ψ := .f32) A B)
    (W3_args m ρ c main_arg3 (by decide))
    ((W3_of m ρ c main_v2 (by decide)).trans ((W2_of m ρ c main_v2 (by decide)).trans (weight2 m ρ c)))

theorem end3 : W13 m ρ c (Proc.devRef .tc main_v7) = Mat.plus (m := 2048) (n := 1024) (m ((c : Thread nD τ).loc main_arg0)) (Mat.nn (m := 2048) (k := 1024) (n := 1024) (φ := .f32) (ψ := .f32) (m ((c : Thread nD τ).loc main_arg4)) (m ((c : Thread nD τ).loc main_arg8))) := by
  refine (W13_of_ne m ρ c main_v7 (by decide)).trans ?_
  refine (W12_of_ne m ρ c main_v7 (by decide)).trans ?_
  refine (W11_of_ne m ρ c main_v7 (by decide)).trans ?_
  refine (W10_of_ne m ρ c main_v7 (by decide)).trans ?_
  refine (W9_of_ne m ρ c main_v7 (by decide)).trans ?_
  refine (W8_of_ne m ρ c main_v7 (by decide)).trans ?_
  refine (W7_of_ne m ρ c main_v7 (by decide)).trans ?_
  refine (W6_of_ne m ρ c main_v7 (by decide)).trans ?_
  refine (W5_arr m ρ c 3).trans ((arr3 (V4 m ρ) c).trans ?_)
  exact congrArg₂ (fun A B => Mat.plus (m := 2048) (n := 1024) A B) (W4_args m ρ c main_arg0 (by decide))
    (congrArg₂ (fun A B => Mat.nn (m := 2048) (k := 1024) (n := 1024) (φ := .f32) (ψ := .f32) A B)
    (W4_args m ρ c main_arg4 (by decide))
    ((W4_of m ρ c main_v3 (by decide)).trans ((W3_of m ρ c main_v3 (by decide)).trans ((W2_of m ρ c main_v3 (by decide)).trans (weight3 m ρ c)))))

theorem end4 : W13 m ρ c (Proc.devRef .tc main_v8) = Mat.tn (m := 1024) (k := 2048) (n := 1024) (φ := .f32) (ψ := .f32) (m ((c : Thread nD τ).loc main_arg4)) (m ((c : Thread nD τ).loc main_arg12)) := by
  refine (W13_of_ne m ρ c main_v8 (by decide)).trans ?_
  refine (W12_of_ne m ρ c main_v8 (by decide)).trans ?_
  refine (W11_of_ne m ρ c main_v8 (by decide)).trans ?_
  refine (W10_of_ne m ρ c main_v8 (by decide)).trans ?_
  refine (W9_of_ne m ρ c main_v8 (by decide)).trans ?_
  refine (W8_of_ne m ρ c main_v8 (by decide)).trans ?_
  refine (W7_of_ne m ρ c main_v8 (by decide)).trans ?_
  refine (W6_arr m ρ c 2).trans ((arr4 (V5 m ρ) c).trans ?_)
  exact congrArg₂ (fun A B => Mat.tn (m := 1024) (k := 2048) (n := 1024) (φ := .f32) (ψ := .f32) A B)
    (W5_args m ρ c main_arg4 (by decide))
    (W5_args m ρ c main_arg12 (by decide))

theorem end5 : W13 m ρ c (Proc.devRef .tc main_v9) = Mat.nt (m := 2048) (k := 1024) (n := 1024) (φ := .f32) (ψ := .f32) (m ((c : Thread nD τ).loc main_arg12)) (m ((c : Thread nD τ).loc main_arg8)) := by
  refine (W13_of_ne m ρ c main_v9 (by decide)).trans ?_
  refine (W12_of_ne m ρ c main_v9 (by decide)).trans ?_
  refine (W11_of_ne m ρ c main_v9 (by decide)).trans ?_
  refine (W10_of_ne m ρ c main_v9 (by decide)).trans ?_
  refine (W9_of_ne m ρ c main_v9 (by decide)).trans ?_
  refine (W8_of_ne m ρ c main_v9 (by decide)).trans ?_
  refine (W7_arr m ρ c 2).trans ((arr5 (V6 m ρ) c).trans ?_)
  exact congrArg₂ (fun A B => Mat.nt (m := 2048) (k := 1024) (n := 1024) (φ := .f32) (ψ := .f32) A B)
    (W6_args m ρ c main_arg12 (by decide))
    ((W6_of m ρ c main_v3 (by decide)).trans ((W5_of m ρ c main_v3 (by decide)).trans ((W4_of m ρ c main_v3 (by decide)).trans ((W3_of m ρ c main_v3 (by decide)).trans ((W2_of m ρ c main_v3 (by decide)).trans (weight3 m ρ c))))))

theorem end6 : W13 m ρ c (Proc.devRef .tc main_v10) = Mat.tn (m := 512) (k := 2048) (n := 1024) (φ := .f32) (ψ := .f32) (m ((c : Thread nD τ).loc main_arg1)) (m ((c : Thread nD τ).loc main_arg9)) := by
  refine (W13_of_ne m ρ c main_v10 (by decide)).trans ?_
  refine (W12_of_ne m ρ c main_v10 (by decide)).trans ?_
  refine (W11_of_ne m ρ c main_v10 (by decide)).trans ?_
  refine (W10_of_ne m ρ c main_v10 (by decide)).trans ?_
  refine (W9_of_ne m ρ c main_v10 (by decide)).trans ?_
  refine (W8_arr m ρ c 2).trans ((arr6 (V7 m ρ) c).trans ?_)
  exact congrArg₂ (fun A B => Mat.tn (m := 512) (k := 2048) (n := 1024) (φ := .f32) (ψ := .f32) A B)
    (W7_args m ρ c main_arg1 (by decide))
    (W7_args m ρ c main_arg9 (by decide))

theorem end7 : W13 m ρ c (Proc.devRef .tc main_v11) = Mat.tn (m := 1024) (k := 2048) (n := 1024) (φ := .f32) (ψ := .f32) (m ((c : Thread nD τ).loc main_arg2)) (m ((c : Thread nD τ).loc main_arg10)) := by
  refine (W13_of_ne m ρ c main_v11 (by decide)).trans ?_
  refine (W12_of_ne m ρ c main_v11 (by decide)).trans ?_
  refine (W11_of_ne m ρ c main_v11 (by decide)).trans ?_
  refine (W10_of_ne m ρ c main_v11 (by decide)).trans ?_
  refine (W9_arr m ρ c 2).trans ((arr7 (V8 m ρ) c).trans ?_)
  exact congrArg₂ (fun A B => Mat.tn (m := 1024) (k := 2048) (n := 1024) (φ := .f32) (ψ := .f32) A B)
    (W8_args m ρ c main_arg2 (by decide))
    (W8_args m ρ c main_arg10 (by decide))

theorem end8 : W13 m ρ c (Proc.devRef .tc main_v12) = Mat.tn (m := 512) (k := 2048) (n := 1024) (φ := .f32) (ψ := .f32) (m ((c : Thread nD τ).loc main_arg3)) (m ((c : Thread nD τ).loc main_arg11)) := by
  refine (W13_of_ne m ρ c main_v12 (by decide)).trans ?_
  refine (W12_of_ne m ρ c main_v12 (by decide)).trans ?_
  refine (W11_of_ne m ρ c main_v12 (by decide)).trans ?_
  refine (W10_arr m ρ c 2).trans ((arr8 (V9 m ρ) c).trans ?_)
  exact congrArg₂ (fun A B => Mat.tn (m := 512) (k := 2048) (n := 1024) (φ := .f32) (ψ := .f32) A B)
    (W9_args m ρ c main_arg3 (by decide))
    (W9_args m ρ c main_arg11 (by decide))

theorem end9 : W13 m ρ c (Proc.devRef .tc main_v13) = Mat.nt (m := 2048) (k := 1024) (n := 512) (φ := .f32) (ψ := .f32) (m ((c : Thread nD τ).loc main_arg9)) (m ((c : Thread nD τ).loc main_arg5)) := by
  refine (W13_of_ne m ρ c main_v13 (by decide)).trans ?_
  refine (W12_of_ne m ρ c main_v13 (by decide)).trans ?_
  refine (W11_arr m ρ c 2).trans ((arr9 (V10 m ρ) c).trans ?_)
  exact congrArg₂ (fun A B => Mat.nt (m := 2048) (k := 1024) (n := 512) (φ := .f32) (ψ := .f32) A B)
    (W10_args m ρ c main_arg9 (by decide))
    ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (weight0 m ρ c))))))))))

theorem end10 : W13 m ρ c (Proc.devRef .tc main_v14) = Mat.nt (m := 2048) (k := 1024) (n := 1024) (φ := .f32) (ψ := .f32) (m ((c : Thread nD τ).loc main_arg10)) (m ((c : Thread nD τ).loc main_arg6)) := by
  refine (W13_of_ne m ρ c main_v14 (by decide)).trans ?_
  refine (W12_arr m ρ c 2).trans ((arr10 (V11 m ρ) c).trans ?_)
  exact congrArg₂ (fun A B => Mat.nt (m := 2048) (k := 1024) (n := 1024) (φ := .f32) (ψ := .f32) A B)
    (W11_args m ρ c main_arg10 (by decide))
    ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)).trans (weight1 m ρ c)))))))))))

theorem end11 : W13 m ρ c (Proc.devRef .tc main_v15) = Mat.nt (m := 2048) (k := 1024) (n := 512) (φ := .f32) (ψ := .f32) (m ((c : Thread nD τ).loc main_arg11)) (m ((c : Thread nD τ).loc main_arg7)) := by
  refine (W13_arr m ρ c 2).trans ((arr11 (V12 m ρ) c).trans ?_)
  exact congrArg₂ (fun A B => Mat.nt (m := 2048) (k := 1024) (n := 512) (φ := .f32) (ψ := .f32) A B)
    (W12_args m ρ c main_arg11 (by decide))
    ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)).trans (weight2 m ρ c))))))))))))

end Cert.Kernel4Ideal.Out

namespace Cert.Reference4Ideal.Out

open Idealize.ShloMosaic Idealize.ShloMosaic.TcCoe
open Idealize.SL.Sem Cert.Reference4Ideal Cert.Reference4Ideal.Read

theorem v0_eq (x1 : Vec Ideal S2048x512 .f32) (x5 : Vec Ideal S512x1024 .f32) :
    val_main_v0 (F := Ideal) x1 x5 = Mat.nn (m := 2048) (k := 512) (n := 1024) (φ := .f32) (ψ := .f32) x1 x5 := by
  funext i
  idx_vars i
  pointwise [val_main_v0]
  rfl

theorem v1_eq (x2 : Vec Ideal S2048x1024 .f32) (x6 : Vec Ideal S1024x1024 .f32) :
    val_main_v1 (F := Ideal) x2 x6 = Mat.nn (m := 2048) (k := 1024) (n := 1024) (φ := .f32) (ψ := .f32) x2 x6 := by
  funext i
  idx_vars i
  pointwise [val_main_v1]
  rfl

theorem v2_eq (x3 : Vec Ideal S2048x512 .f32) (x7 : Vec Ideal S512x1024 .f32) :
    val_main_v2 (F := Ideal) x3 x7 = Mat.nn (m := 2048) (k := 512) (n := 1024) (φ := .f32) (ψ := .f32) x3 x7 := by
  funext i
  idx_vars i
  pointwise [val_main_v2]
  rfl

theorem v4_eq (x0 x4 : Vec Ideal S2048x1024 .f32) (x8 : Vec Ideal S1024x1024 .f32) :
    val_main_v4 (F := Ideal) x0 x4 x8 = Mat.plus (m := 2048) (n := 1024) x0 (Mat.nn (m := 2048) (k := 1024) (n := 1024) (φ := .f32) (ψ := .f32) x4 x8) := by
  funext i
  idx_vars i
  pointwise [val_main_v4, val_main_v3]
  rfl

theorem v6_eq (x4 : Vec Ideal S2048x1024 .f32) (x12 : Vec Ideal S2048x1024 .f32) :
    val_main_v6 (F := Ideal) x4 x12 = Mat.tn (m := 1024) (k := 2048) (n := 1024) (φ := .f32) (ψ := .f32) x4 x12 := by
  funext i
  idx_vars i
  pointwise [val_main_v6, val_main_v5]
  exact Finset.sum_congr rfl fun k _ => mul_comm _ _

theorem v7_eq (x8 : Vec Ideal S1024x1024 .f32) (x12 : Vec Ideal S2048x1024 .f32) :
    val_main_v7 (F := Ideal) x8 x12 = Mat.nt (m := 2048) (k := 1024) (n := 1024) (φ := .f32) (ψ := .f32) x12 x8 := by
  funext i
  idx_vars i
  pointwise [val_main_v7]
  rfl

theorem v15_eq (x1 : Vec Ideal S2048x512 .f32) (x9 : Vec Ideal S2048x1024 .f32) :
    val_main_v15 (F := Ideal) x1 x9 = Mat.tn (m := 512) (k := 2048) (n := 1024) (φ := .f32) (ψ := .f32) x1 x9 := by
  funext i
  idx_vars i
  pointwise [val_main_v15, val_main_v14]
  exact Finset.sum_congr rfl fun k _ => mul_comm _ _

theorem v12_eq (x2 : Vec Ideal S2048x1024 .f32) (x10 : Vec Ideal S2048x1024 .f32) :
    val_main_v12 (F := Ideal) x2 x10 = Mat.tn (m := 1024) (k := 2048) (n := 1024) (φ := .f32) (ψ := .f32) x2 x10 := by
  funext i
  idx_vars i
  pointwise [val_main_v12, val_main_v11]
  exact Finset.sum_congr rfl fun k _ => mul_comm _ _

theorem v9_eq (x3 : Vec Ideal S2048x512 .f32) (x11 : Vec Ideal S2048x1024 .f32) :
    val_main_v9 (F := Ideal) x3 x11 = Mat.tn (m := 512) (k := 2048) (n := 1024) (φ := .f32) (ψ := .f32) x3 x11 := by
  funext i
  idx_vars i
  pointwise [val_main_v9, val_main_v8]
  exact Finset.sum_congr rfl fun k _ => mul_comm _ _

theorem v16_eq (x5 : Vec Ideal S512x1024 .f32) (x9 : Vec Ideal S2048x1024 .f32) :
    val_main_v16 (F := Ideal) x5 x9 = Mat.nt (m := 2048) (k := 1024) (n := 512) (φ := .f32) (ψ := .f32) x9 x5 := by
  funext i
  idx_vars i
  pointwise [val_main_v16]
  rfl

theorem v13_eq (x6 : Vec Ideal S1024x1024 .f32) (x10 : Vec Ideal S2048x1024 .f32) :
    val_main_v13 (F := Ideal) x6 x10 = Mat.nt (m := 2048) (k := 1024) (n := 1024) (φ := .f32) (ψ := .f32) x10 x6 := by
  funext i
  idx_vars i
  pointwise [val_main_v13]
  rfl

theorem v10_eq (x7 : Vec Ideal S512x1024 .f32) (x11 : Vec Ideal S2048x1024 .f32) :
    val_main_v10 (F := Ideal) x7 x11 = Mat.nt (m := 2048) (k := 1024) (n := 512) (φ := .f32) (ψ := .f32) x11 x7 := by
  funext i
  idx_vars i
  pointwise [val_main_v10]
  rfl

end Cert.Reference4Ideal.Out

end

end
-- ==== Proof.Plain.lean ====
/- The claims of the plain products: the projection with its weight's gradient (`Kernel2Ideal`), the gradient of the normed
   rows (`Kernel3Ideal`), and the output stage's products with their gradients (`Kernel4Ideal`). -/
module

public import proofs.«01_k».proof.Defs
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Run2
public import proofs.«01_k».proof.Proof.ProjEnd
public import proofs.«01_k».proof.Proof.Dh
public import proofs.«01_k».proof.Proof.Run4
public import proofs.«01_k».proof.Proof.OutEnd
public import Idealize.ShloMosaic.Lib.Claim
public import Idealize.ShloMosaic.Adequacy
public import Idealize.ShloMosaic.Init

@[expose] public section

set_option maxRecDepth 16384

noncomputable section

namespace Cert.Reference3Ideal.Dh

open Idealize.ShloMosaic Idealize.ShloMosaic.TcCoe
open Idealize.SL.Sem Cert.Reference3Ideal Cert.Reference3Ideal.Read

theorem v2_eq (x0 : Vec Ideal S2048x9728 .f32) (x1 : Vec Ideal S1024x9728 .f32) :
    val_main_v2 (F := Ideal) x0 x1 = Mat.nt (m := 2048) (k := 9728) (n := 1024) (φ := .f32) (ψ := .f32) x0 x1 := by
  funext i
  idx_vars i
  pointwise [val_main_v2, val_main_v1, val_main_v0]
  rfl

end Cert.Reference3Ideal.Dh

namespace Cert.Proof

open Idealize.ShloMosaic Idealize.SL.Sem

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2.2.2.2.2.2.2.2.2.2.2.2,
      Idealize.ShloMosaic.sem_eq_zero_of_no_sems (by decide) r.2⟩)
    (Cert.Reference4Ideal.Value.run (F := Ideal) m ρ)

open Cert.Kernel2Ideal Cert.Kernel2Ideal.Gen Cert.Kernel2Ideal.Proj Idealize.ShloMosaic.TcCoe in
/-- The reference's projection and gradient, of arrays that the kernel's arguments hold. -/
theorem projs (m : (ℓ : Loc nD τ sig) → Buf (Elt Ideal) ℓ) (ρ : Dev nD → PrngReg) (c : Dev nD) (x0 : FVec Ideal S2048x1024 .f32)
    (x1 : FVec Ideal S1024 .f32) (x2 : FVec Ideal S1024x9728 .f32) (x3 : FVec Ideal S2048x9728 .f32)
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3)) :
    Cert.Reference2Ideal.Read.val_main_v13 (F := Ideal) x0 x1 x2 = W4 m ρ c (Proc.devRef .tc main_v3)
    ∧ Cert.Reference2Ideal.Read.val_main_v15 (F := Ideal) x0 x1 x3 = W4 m ρ c (Proc.devRef .tc main_v4) := by
  rw [proj_end, grad_end, Cert.Reference2Ideal.Proj.v13_eq, Cert.Reference2Ideal.Proj.v15_eq]
  subst h0 h1 h2 h3
  exact ⟨rfl, rfl⟩

open Cert.Kernel2Ideal Cert.Kernel2Ideal.Gen in
theorem algebraic2 : Cert.algebraic_Kernel2Ideal_Reference2Ideal := by
  intro m g m' g' hpre hagree
  refine ⟨fun c => W4 m g c (Proc.devRef .tc main_v3), fun c => W4 m g c (Proc.devRef .tc main_v4),
    (θ_run Cert.Kernel2Ideal.defs _ _).mono (fun r h c => ⟨h c main_v3 (by decide), h c main_v4 (by decide),
      (h c main_arg0 (by decide)).trans (W4_args m g c main_arg0 (by decide)), (h c main_arg1 (by decide)).trans (W4_args m g c main_arg1 (by decide)),
      (h c main_arg2 (by decide)).trans (W4_args m g c main_arg2 (by decide)), (h c main_arg3 (by decide)).trans (W4_args m g c main_arg3 (by decide))⟩)
      (Cert.Kernel2Ideal.Run.ends (F := Ideal) m g), ?_⟩
  refine (θ_run Cert.Reference2Ideal.defs _ _).mono (fun r h c => ?_) (Cert.Reference2Ideal.Value.run (F := Ideal) m' g')
  obtain ⟨h0, h1, hk⟩ := h c
  obtain ⟨a0, a1, a2, a3⟩ := hagree c
  obtain ⟨e0, e1⟩ := projs m g c _ _ _ _ a0 a1 a2 a3
  exact ⟨(h0.trans (Cert.Reference2Ideal.Read.val_main_v13_eq _ _ _)).trans e0,
    (h1.trans (Cert.Reference2Ideal.Read.val_main_v15_eq _ _ _)).trans e1, hk⟩

open Cert.Kernel3Ideal Cert.Kernel3Ideal.Gen Idealize.ShloMosaic.TcCoe in
theorem rows (m : (ℓ : Loc nD τ sig) → Buf (Elt Ideal) ℓ) (c : Dev nD) (x0 : FVec Ideal S2048x9728 .f32) (x1 : FVec Ideal S1024x9728 .f32)
    (h0 : x0 = m ((c : Thread nD τ).loc main_arg0)) (h1 : x1 = m ((c : Thread nD τ).loc main_arg1)) :
    Cert.Reference3Ideal.Read.val_main_v2 (F := Ideal) x0 x1 = (dats (F := Ideal) m 0 c).arrAt 2 cfg0.N := by
  rw [Cert.Kernel3Ideal.Dh.arr, Cert.Reference3Ideal.Dh.v2_eq]
  subst h0 h1
  rfl

open Cert.Kernel3Ideal Cert.Kernel3Ideal.Gen in
theorem algebraic3 : Cert.algebraic_Kernel3Ideal_Reference3Ideal := by
  intro m g m' g' hpre hagree
  refine ⟨fun c => (dats m 0 c).arrAt 2 cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨h0, hk⟩ := h c
  exact ⟨(h0.trans (Cert.Reference3Ideal.Read.val_main_v2_eq _ _)).trans (rows m c _ _ (hagree c).1 (hagree c).2), hk⟩

open Cert.Kernel4Ideal Cert.Kernel4Ideal.Gen Idealize.ShloMosaic.TcCoe in
theorem out0 (m : (ℓ : Loc nD τ sig) → Buf (Elt Ideal) ℓ) (ρ : Dev nD → PrngReg) (c : Dev nD) (x1 : FVec Ideal S2048x512 .f32) (x5 : FVec Ideal S512x1024 .f32)
    (h1 : x1 = m ((c : Thread nD τ).loc main_arg1)) (h5 : x5 = m ((c : Thread nD τ).loc main_arg5)) :
    Cert.Reference4Ideal.Read.val_main_v0 (F := Ideal) x1 x5 = W13 m ρ c (Proc.devRef .tc main_v4) := by
  rw [Cert.Kernel4Ideal.Out.end0, Cert.Reference4Ideal.Out.v0_eq]
  subst h1 h5
  rfl

open Cert.Kernel4Ideal Cert.Kernel4Ideal.Gen Idealize.ShloMosaic.TcCoe in
theorem out1 (m : (ℓ : Loc nD τ sig) → Buf (Elt Ideal) ℓ) (ρ : Dev nD → PrngReg) (c : Dev nD) (x2 : FVec Ideal S2048x1024 .f32) (x6 : FVec Ideal S1024x1024 .f32)
    (h2 : x2 = m ((c : Thread nD τ).loc main_arg2)) (h6 : x6 = m ((c : Thread nD τ).loc main_arg6)) :
    Cert.Reference4Ideal.Read.val_main_v1 (F := Ideal) x2 x6 = W13 m ρ c (Proc.devRef .tc main_v5) := by
  rw [Cert.Kernel4Ideal.Out.end1, Cert.Reference4Ideal.Out.v1_eq]
  subst h2 h6
  rfl

open Cert.Kernel4Ideal Cert.Kernel4Ideal.Gen Idealize.ShloMosaic.TcCoe in
theorem out2 (m : (ℓ : Loc nD τ sig) → Buf (Elt Ideal) ℓ) (ρ : Dev nD → PrngReg) (c : Dev nD) (x3 : FVec Ideal S2048x512 .f32) (x7 : FVec Ideal S512x1024 .f32)
    (h3 : x3 = m ((c : Thread nD τ).loc main_arg3)) (h7 : x7 = m ((c : Thread nD τ).loc main_arg7)) :
    Cert.Reference4Ideal.Read.val_main_v2 (F := Ideal) x3 x7 = W13 m ρ c (Proc.devRef .tc main_v6) := by
  rw [Cert.Kernel4Ideal.Out.end2, Cert.Reference4Ideal.Out.v2_eq]
  subst h3 h7
  rfl

open Cert.Kernel4Ideal Cert.Kernel4Ideal.Gen Idealize.ShloMosaic.TcCoe in
theorem out3 (m : (ℓ : Loc nD τ sig) → Buf (Elt Ideal) ℓ) (ρ : Dev nD → PrngReg) (c : Dev nD) (x0 : FVec Ideal S2048x1024 .f32) (x4 : FVec Ideal S2048x1024 .f32) (x8 : FVec Ideal S1024x1024 .f32)
    (h0 : x0 = m ((c : Thread nD τ).loc main_arg0)) (h4 : x4 = m ((c : Thread nD τ).loc main_arg4)) (h8 : x8 = m ((c : Thread nD τ).loc main_arg8)) :
    Cert.Reference4Ideal.Read.val_main_v4 (F := Ideal) x0 x4 x8 = W13 m ρ c (Proc.devRef .tc main_v7) := by
  rw [Cert.Kernel4Ideal.Out.end3, Cert.Reference4Ideal.Out.v4_eq]
  subst h0 h4 h8
  rfl

open Cert.Kernel4Ideal Cert.Kernel4Ideal.Gen Idealize.ShloMosaic.TcCoe in
theorem out9 (m : (ℓ : Loc nD τ sig) → Buf (Elt Ideal) ℓ) (ρ : Dev nD → PrngReg) (c : Dev nD) (x5 : FVec Ideal S512x1024 .f32) (x9 : FVec Ideal S2048x1024 .f32)
    (h5 : x5 = m ((c : Thread nD τ).loc main_arg5)) (h9 : x9 = m ((c : Thread nD τ).loc main_arg9)) :
    Cert.Reference4Ideal.Read.val_main_v16 (F := Ideal) x5 x9 = W13 m ρ c (Proc.devRef .tc main_v13) := by
  rw [Cert.Kernel4Ideal.Out.end9, Cert.Reference4Ideal.Out.v16_eq]
  subst h5 h9
  rfl

open Cert.Kernel4Ideal Cert.Kernel4Ideal.Gen Idealize.ShloMosaic.TcCoe in
theorem out10 (m : (ℓ : Loc nD τ sig) → Buf (Elt Ideal) ℓ) (ρ : Dev nD → PrngReg) (c : Dev nD) (x6 : FVec Ideal S1024x1024 .f32) (x10 : FVec Ideal S2048x1024 .f32)
    (h6 : x6 = m ((c : Thread nD τ).loc main_arg6)) (h10 : x10 = m ((c : Thread nD τ).loc main_arg10)) :
    Cert.Reference4Ideal.Read.val_main_v13 (F := Ideal) x6 x10 = W13 m ρ c (Proc.devRef .tc main_v14) := by
  rw [Cert.Kernel4Ideal.Out.end10, Cert.Reference4Ideal.Out.v13_eq]
  subst h6 h10
  rfl

open Cert.Kernel4Ideal Cert.Kernel4Ideal.Gen Idealize.ShloMosaic.TcCoe in
theorem out11 (m : (ℓ : Loc nD τ sig) → Buf (Elt Ideal) ℓ) (ρ : Dev nD → PrngReg) (c : Dev nD) (x7 : FVec Ideal S512x1024 .f32) (x11 : FVec Ideal S2048x1024 .f32)
    (h7 : x7 = m ((c : Thread nD τ).loc main_arg7)) (h11 : x11 = m ((c : Thread nD τ).loc main_arg11)) :
    Cert.Reference4Ideal.Read.val_main_v10 (F := Ideal) x7 x11 = W13 m ρ c (Proc.devRef .tc main_v15) := by
  rw [Cert.Kernel4Ideal.Out.end11, Cert.Reference4Ideal.Out.v10_eq]
  subst h7 h11
  rfl

open Cert.Kernel4Ideal Cert.Kernel4Ideal.Gen Idealize.ShloMosaic.TcCoe in
theorem out5 (m : (ℓ : Loc nD τ sig) → Buf (Elt Ideal) ℓ) (ρ : Dev nD → PrngReg) (c : Dev nD) (x8 : FVec Ideal S1024x1024 .f32) (x12 : FVec Ideal S2048x1024 .f32)
    (h8 : x8 = m ((c : Thread nD τ).loc main_arg8)) (h12 : x12 = m ((c : Thread nD τ).loc main_arg12)) :
    Cert.Reference4Ideal.Read.val_main_v7 (F := Ideal) x8 x12 = W13 m ρ c (Proc.devRef .tc main_v9) := by
  rw [Cert.Kernel4Ideal.Out.end5, Cert.Reference4Ideal.Out.v7_eq]
  subst h8 h12
  rfl

open Cert.Kernel4Ideal Cert.Kernel4Ideal.Gen Idealize.ShloMosaic.TcCoe in
theorem out6 (m : (ℓ : Loc nD τ sig) → Buf (Elt Ideal) ℓ) (ρ : Dev nD → PrngReg) (c : Dev nD) (x1 : FVec Ideal S2048x512 .f32) (x9 : FVec Ideal S2048x1024 .f32)
    (h1 : x1 = m ((c : Thread nD τ).loc main_arg1)) (h9 : x9 = m ((c : Thread nD τ).loc main_arg9)) :
    Cert.Reference4Ideal.Read.val_main_v15 (F := Ideal) x1 x9 = W13 m ρ c (Proc.devRef .tc main_v10) := by
  rw [Cert.Kernel4Ideal.Out.end6, Cert.Reference4Ideal.Out.v15_eq]
  subst h1 h9
  rfl

open Cert.Kernel4Ideal Cert.Kernel4Ideal.Gen Idealize.ShloMosaic.TcCoe in
theorem out7 (m : (ℓ : Loc nD τ sig) → Buf (Elt Ideal) ℓ) (ρ : Dev nD → PrngReg) (c : Dev nD) (x2 : FVec Ideal S2048x1024 .f32) (x10 : FVec Ideal S2048x1024 .f32)
    (h2 : x2 = m ((c : Thread nD τ).loc main_arg2)) (h10 : x10 = m ((c : Thread nD τ).loc main_arg10)) :
    Cert.Reference4Ideal.Read.val_main_v12 (F := Ideal) x2 x10 = W13 m ρ c (Proc.devRef .tc main_v11) := by
  rw [Cert.Kernel4Ideal.Out.end7, Cert.Reference4Ideal.Out.v12_eq]
  subst h2 h10
  rfl

open Cert.Kernel4Ideal Cert.Kernel4Ideal.Gen Idealize.ShloMosaic.TcCoe in
theorem out8 (m : (ℓ : Loc nD τ sig) → Buf (Elt Ideal) ℓ) (ρ : Dev nD → PrngReg) (c : Dev nD) (x3 : FVec Ideal S2048x512 .f32) (x11 : FVec Ideal S2048x1024 .f32)
    (h3 : x3 = m ((c : Thread nD τ).loc main_arg3)) (h11 : x11 = m ((c : Thread nD τ).loc main_arg11)) :
    Cert.Reference4Ideal.Read.val_main_v9 (F := Ideal) x3 x11 = W13 m ρ c (Proc.devRef .tc main_v12) := by
  rw [Cert.Kernel4Ideal.Out.end8, Cert.Reference4Ideal.Out.v9_eq]
  subst h3 h11
  rfl

open Cert.Kernel4Ideal Cert.Kernel4Ideal.Gen Idealize.ShloMosaic.TcCoe in
theorem out4 (m : (ℓ : Loc nD τ sig) → Buf (Elt Ideal) ℓ) (ρ : Dev nD → PrngReg) (c : Dev nD) (x4 : FVec Ideal S2048x1024 .f32) (x12 : FVec Ideal S2048x1024 .f32)
    (h4 : x4 = m ((c : Thread nD τ).loc main_arg4)) (h12 : x12 = m ((c : Thread nD τ).loc main_arg12)) :
    Cert.Reference4Ideal.Read.val_main_v6 (F := Ideal) x4 x12 = W13 m ρ c (Proc.devRef .tc main_v8) := by
  rw [Cert.Kernel4Ideal.Out.end4, Cert.Reference4Ideal.Out.v6_eq]
  subst h4 h12
  rfl

open Cert.Kernel4Ideal Cert.Kernel4Ideal.Gen in
theorem algebraic4 : Cert.algebraic_Kernel4Ideal_Reference4Ideal := by
  intro m g m' g' hpre hagree
  refine ⟨fun c => W13 m g c (Proc.devRef .tc main_v4), fun c => W13 m g c (Proc.devRef .tc main_v5), fun c => W13 m g c (Proc.devRef .tc main_v6), fun c => W13 m g c (Proc.devRef .tc main_v7), fun c => W13 m g c (Proc.devRef .tc main_v13), fun c => W13 m g c (Proc.devRef .tc main_v14), fun c => W13 m g c (Proc.devRef .tc main_v15), fun c => W13 m g c (Proc.devRef .tc main_v9), fun c => W13 m g c (Proc.devRef .tc main_v10), fun c => W13 m g c (Proc.devRef .tc main_v11), fun c => W13 m g c (Proc.devRef .tc main_v12), fun c => W13 m g c (Proc.devRef .tc main_v8),
    (θ_run Cert.Kernel4Ideal.defs _ _).mono (fun r h c => ⟨h c main_v4 (by decide), h c main_v5 (by decide), h c main_v6 (by decide), h c main_v7 (by decide), h c main_v13 (by decide), h c main_v14 (by decide), h c main_v15 (by decide), h c main_v9 (by decide), h c main_v10 (by decide), h c main_v11 (by decide), h c main_v12 (by decide), h c main_v8 (by decide),
      (h c main_arg0 (by decide)).trans (W13_args m g c main_arg0 (by decide)),
      (h c main_arg1 (by decide)).trans (W13_args m g c main_arg1 (by decide)),
      (h c main_arg2 (by decide)).trans (W13_args m g c main_arg2 (by decide)),
      (h c main_arg3 (by decide)).trans (W13_args m g c main_arg3 (by decide)),
      (h c main_arg4 (by decide)).trans (W13_args m g c main_arg4 (by decide)),
      (h c main_arg5 (by decide)).trans (W13_args m g c main_arg5 (by decide)),
      (h c main_arg6 (by decide)).trans (W13_args m g c main_arg6 (by decide)),
      (h c main_arg7 (by decide)).trans (W13_args m g c main_arg7 (by decide)),
      (h c main_arg8 (by decide)).trans (W13_args m g c main_arg8 (by decide)),
      (h c main_arg9 (by decide)).trans (W13_args m g c main_arg9 (by decide)),
      (h c main_arg10 (by decide)).trans (W13_args m g c main_arg10 (by decide)),
      (h c main_arg11 (by decide)).trans (W13_args m g c main_arg11 (by decide)),
      (h c main_arg12 (by decide)).trans (W13_args m g c main_arg12 (by decide))⟩)
      (Cert.Kernel4Ideal.Run.ends (F := Ideal) m g), ?_⟩
  refine (θ_run Cert.Reference4Ideal.defs _ _).mono (fun r h c => ?_) (Cert.Reference4Ideal.Value.run (F := Ideal) m' g')
  obtain ⟨h0, h1, h2, h3, h4, h5, h6, h7, h8, h9, h10, h11, hk⟩ := h c
  obtain ⟨a0, a1, a2, a3, a4, a5, a6, a7, a8, a9, a10, a11, a12⟩ := hagree c
  exact ⟨(h0.trans (Cert.Reference4Ideal.Read.val_main_v0_eq _ _)).trans (out0 m g c _ _ a1 a5),
    (h1.trans (Cert.Reference4Ideal.Read.val_main_v1_eq _ _)).trans (out1 m g c _ _ a2 a6),
    (h2.trans (Cert.Reference4Ideal.Read.val_main_v2_eq _ _)).trans (out2 m g c _ _ a3 a7),
    (h3.trans (Cert.Reference4Ideal.Read.val_main_v4_eq _ _ _)).trans (out3 m g c _ _ _ a0 a4 a8),
    (h4.trans (Cert.Reference4Ideal.Read.val_main_v16_eq _ _)).trans (out9 m g c _ _ a5 a9),
    (h5.trans (Cert.Reference4Ideal.Read.val_main_v13_eq _ _)).trans (out10 m g c _ _ a6 a10),
    (h6.trans (Cert.Reference4Ideal.Read.val_main_v10_eq _ _)).trans (out11 m g c _ _ a7 a11),
    (h7.trans (Cert.Reference4Ideal.Read.val_main_v7_eq _ _)).trans (out5 m g c _ _ a8 a12),
    (h8.trans (Cert.Reference4Ideal.Read.val_main_v15_eq _ _)).trans (out6 m g c _ _ a1 a9),
    (h9.trans (Cert.Reference4Ideal.Read.val_main_v12_eq _ _)).trans (out7 m g c _ _ a2 a10),
    (h10.trans (Cert.Reference4Ideal.Read.val_main_v9_eq _ _)).trans (out8 m g c _ _ a3 a11),
    (h11.trans (Cert.Reference4Ideal.Read.val_main_v6_eq _ _)).trans (out4 m g c _ _ a4 a12),
    hk⟩

end Cert.Proof

end

end
-- ==== Proof.FwdPay.lean ====
/- Each pure value of the forward attention kernel's body, read as real numbers. The kernel goes over the blocks of keys
   downwards, so that the triangle it multiplies by keeps the keys above a column. -/
module

public import proofs.«01_k».proof.Proof.Gen.Kernel5Ideal.Skeleton
public import proofs.«01_k».proof.Proof.SbPay
public import proofs.«01_k».proof.Proof.SbRow

@[expose] public section

set_option maxRecDepth 16384

noncomputable section

namespace Cert.Sb

open Finset Cert.Reals

/-- The triangle of the keys above a column, with the columns past a block keeping every key. -/
def triGt (c s : ℕ) : ℝ := if s < c ∨ 256 ≤ s then 1 else 0

/-- The sums over the keys of a block above a column, and over the block. -/
def w2F (d : Bool) (z : ℕ → ℕ → ℝ) (r s : ℕ) : ℝ := ∑ c ∈ range 256, lkS d z r c * triGt c s

/-- The weights of a block, `cf` being the sum over the keys above the block. -/
def attF (d : Bool) (z : ℕ → ℕ → ℝ) (cf : ℕ → ℝ) (r c : ℕ) : ℝ :=
  if mk d r c then Real.exp (LS (z r c) + cf r + w2F d z r c) else 0

theorem sum_gt (F : ℕ → ℝ) {s : ℕ} (hs : s < 256) :
    (∑ c ∈ range 256, F c * triGt c s) = (∑ c ∈ range 256, F c) - ∑ c ∈ range (s + 1), F c := by
  rw [← sum_le F hs, ← sum_sub_distrib]
  refine sum_congr rfl fun c _ => ?_
  unfold triGt triLe
  by_cases h : s < c
  · rw [if_pos (Or.inl h), if_neg (by omega)]; ring
  · rw [if_neg (by omega), if_pos (Or.inl (by omega))]; ring

/-- A sum over a block in the two halves the product takes it in. -/
theorem halves (F : ℕ → ℝ) : (∑ k : Fin 128, F k) + ∑ k : Fin 128, F (128 + k) = ∑ c ∈ range 256, F c := by
  rw [show 256 = 128 + 128 from rfl, sum_range_add, sum_range, sum_range]

section Block

variable {i : ℕ} {q k : ℕ → ℕ → ℝ} {lt : ℕ → ℝ} {d : Bool} {n : ℕ} (h : blockOk d i n) {r c : ℕ}
include h

theorem w2F_row {s : ℕ} (hs : 256 ≤ s) :
    w2F d (zS q (rowsFrom n k)) r s = ∑ c ∈ range 256, lkR i q k r (256 * n + c) := by
  unfold w2F
  refine sum_congr rfl fun c hc => ?_
  unfold triGt
  rw [if_pos (Or.inr hs), mul_one, lkS_eq h (mem_range.mp hc)]

theorem attF_eq (hc : c < 256) :
    attF d (zS q (rowsFrom n k)) (fun r => lt r - ∑ j ∈ range (256 * (n + 1)), lkR i q k r j) r c
      = attR i q k lt r (256 * n + c) := by
  unfold attF attR
  refine if_congr (mk_iff h hc) ?_ rfl
  unfold w2F
  beta_reduce
  rw [sum_gt _ hc, Nat.mul_succ, Nat.add_assoc, sum_range_add _ (256 * n), sum_range_add _ (256 * n)]
  have e : ∀ m, m ≤ 256 → ∑ x ∈ range m, lkS d (zS q (rowsFrom n k)) r x = ∑ x ∈ range m, lkR i q k r (256 * n + x) :=
    fun m hm => sum_congr rfl fun x hx => lkS_eq h (by rw [mem_range] at hx; omega)
  rw [e 256 le_rfl, e (c + 1) (by omega)]
  congr 1
  show LS (zS q k r (256 * n + c)) + _ + _ = _
  ring

end Block

end Cert.Sb

namespace Cert.Kernel5Ideal.Fwd

open Idealize.ShloMosaic Idealize.ShloMosaic.TcCoe
open Idealize.SL.Sem Cert.Kernel5Ideal Cert.Kernel5Ideal.Gen Cert.Reals Cert.Sb
open Cert.KernelIdeal.Sb (stack)

theorem pay3 {x : Vec Ideal S256x128 .f32} {f : ℕ → ℕ → ℝ} (h : Rl (φ := .f32) x f) :
    Rl (k0_pay3 (F := Ideal) x) (stack (1 / 8) f) := by
  intro a b
  have ha := a.isLt
  have hb := b.isLt
  pointwise [k0_pay3, h _ _, eighth]
  simp (disch := omega) only [hlo_ix]
  simp only [h _ _, eighth, zero_real, ← EReal.coe_mul, ite_real, dite_eq_ite, stack]
  congr 1
  by_cases h1 : (a : ℕ) < 256
  · have e1 : (a : ℕ) / 256 = 0 := by omega
    have e2 : (a : ℕ) % 256 = a := by omega
    rw [if_pos h1, e1, e2]
    exact if_congr (by omega) rfl rfl
  · have e1 : (a : ℕ) / 256 = 1 := by omega
    have e2 : (a : ℕ) % 256 = a - 256 := by omega
    rw [if_neg h1, e1, e2]
    exact if_congr (by omega) rfl rfl

theorem pay5 : Rl (k0_pay5 (F := Ideal)) triGt := by
  intro a b
  have ha := a.isLt
  have hb := b.isLt
  pointwise [k0_pay5]
  simp (disch := omega) only [hlo_ix]
  rw [sitofp_ofBool]
  simp [triGt]

theorem pay6 : Rl (k0_pay6 (F := Ideal)) (fun _ _ => 0) := by
  intro a b
  pointwise [k0_pay6]
  rfl

/-- The diagonal's condition on column and row, as the words of the program decide it. -/
theorem diff_neg (a : Fin 512) (b : Fin 256) :
    IntOp.cmpi .slt (k0_pay4 (ix2 a b)) 0#32 = BitVec.ofBool (decide ((b : ℕ) < (a : ℕ) % 256)) := by
  have ha := a.isLt
  have hb := b.isLt
  pointwise [k0_pay4]
  rw [and_255, sub_slt hb (Nat.mod_lt _ (by decide))]

section Loop

variable {v13 : FVec Ideal S512x128 .bf16} {cc acc : FVec Ideal S512x128 .f32} {k v : Vec Ideal S256x128 .f32}
  {q kf vf g : ℕ → ℕ → ℝ} {cf : ℕ → ℝ}

theorem pay16 (hq : Rl v13 q) (hk : Rl (φ := .f32) k kf) : Rl (k0_pay16 (F := Ideal) v13 k) (zS q kf) := by
  intro a b
  pointwise [k0_pay16]
  simp only [hq _ _, hk _ _, zero_add, ← EReal.coe_mul, coe_sum, zS, Finset.sum_range]

theorem pay17 (hq : Rl v13 q) (hk : Rl (φ := .f32) k kf) : Rl (k0_pay17 (F := Ideal) v13 k) (fun r c => LS (zS q kf r c)) := by
  intro a b
  have hz := pay16 hq hk a b
  pointwise [k0_pay17]
  rw [hz, abs_real]
  simp only [zero_real, one_real, min_real, ← EReal.coe_sub, exp_real, ← EReal.coe_add, log_real _ (one_add_exp_pos _), LS]

theorem pay18 (hq : Rl v13 q) (hk : Rl (φ := .f32) k kf) :
    Rl (k0_pay18 (F := Ideal) v13 k0_pay5 k) (w2F false (zS q kf)) := by
  intro a b
  pointwise [k0_pay18]
  simp only [pay16 hq hk _ _, pay17 hq hk _ _, pay5 _ _, ← EReal.coe_sub, sub_self, ← EReal.coe_mul, coe_sum, zero_mul,
    Finset.sum_const_zero, ← EReal.coe_add, add_zero, w2F, lkS, mk, Finset.sum_range, true_or, if_true]

theorem pay19 (hq : Rl v13 q) (hk : Rl (φ := .f32) k kf) (hv : Rl (φ := .f32) v vf) (hc : Rl cc (fun r _ => cf r)) (ha : Rl acc g) :
    Rl (k0_pay19 (F := Ideal) v13 k0_pay5 cc acc k v)
      (fun r l => g r l + ∑ c ∈ Finset.range 256, attF false (zS q kf) cf r c * vf c l) := by
  intro a b
  pointwise [k0_pay19]
  simp only [pay18 hq hk _ _, pay17 hq hk _ _, hc _ _, ha _ _, hv _ _, zero_real, dite_eq_ite, ite_self, ← EReal.coe_add, exp_real,
    ← EReal.coe_mul, coe_sum, attF, mk, true_or, if_true, Nat.zero_add, zero_add]
  exact congrArg (fun x : ℝ => ((g a b + x : ℝ) : EReal))
    (halves fun c => Real.exp (LS (zS q kf a c) + cf a + w2F false (zS q kf) a c) * vf c b)

theorem pay20 (hq : Rl v13 q) (hk : Rl (φ := .f32) k kf) (hc : Rl cc (fun r _ => cf r)) {t : ℕ → ℝ}
    (ht : ∀ r s, 256 ≤ s → w2F false (zS q kf) r s = t r) :
    Rl (k0_pay20 (F := Ideal) v13 k0_pay5 cc k) (fun r _ => cf r + t r) := by
  intro a b
  pointwise [k0_pay20]
  simp only [pay18 hq hk _ _, hc _ _, ← EReal.coe_add]
  rw [ht _ _ (by simp)]

end Loop

section Diagonal

variable {x k v : Vec Ideal S256x128 .f32} {q kf vf : ℕ → ℕ → ℝ}

/-- The four values the diagonal block's logarithm is taken of. -/
theorem pay8 (hq : Rl (k0_pay3 (F := Ideal) x) q) (hk : Rl (φ := .f32) k kf) : Rl (k0_pay8 (F := Ideal) x k) (zS q kf) := by
  intro a b
  pointwise [k0_pay8]
  simp only [hq _ _, hk _ _, zero_add, ← EReal.coe_mul, coe_sum, zS, Finset.sum_range]

theorem pay12 (hq : Rl (k0_pay3 (F := Ideal) x) q) (hk : Rl (φ := .f32) k kf) :
    Rl (k0_pay12 (F := Ideal) (k0_pay9 x k) (k0_pay10 x k) k0_pay11) (fun r c => LS (zS q kf r c)) := by
  intro a b
  have hz := pay8 hq hk a b
  pointwise [k0_pay12, k0_pay9, k0_pay10, k0_pay11]
  rw [hz, abs_real]
  simp only [zero_real, one_real, min_real, ← EReal.coe_sub, exp_real, ← EReal.coe_add, log_real _ (one_add_exp_pos _), LS]

theorem pay13 (hq : Rl (k0_pay3 (F := Ideal) x) q) (hk : Rl (φ := .f32) k kf) :
    Rl (k0_pay13 (F := Ideal) k0_pay4 k0_pay5 (k0_pay8 x k) (k0_pay9 x k) (k0_pay10 x k) k0_pay11) (w2F true (zS q kf)) := by
  intro a b
  pointwise [k0_pay13]
  simp only [diff_neg, pay8 hq hk _ _, pay12 hq hk _ _, pay5 _ _]
  simp (disch := omega) only [hlo_ix]
  simp only [zero_real, ← EReal.coe_sub, ite_real, sub_self, ← EReal.coe_mul, coe_sum, zero_mul,
    Finset.sum_const_zero, ← EReal.coe_add, add_zero, zero_add,
    w2F, lkS, mk, Finset.sum_range, Bool.true_eq_false, false_or, ite_mul]

theorem pay14 (hq : Rl (k0_pay3 (F := Ideal) x) q) (hk : Rl (φ := .f32) k kf) (hv : Rl (φ := .f32) v vf) :
    Rl (k0_pay14 (F := Ideal) k0_pay4 k0_pay5 k0_pay6 (k0_pay7 v) (k0_pay8 x k) (k0_pay9 x k) (k0_pay10 x k) k0_pay11)
      (fun r l => ∑ c ∈ Finset.range 256, attF true (zS q kf) (fun _ => 0) r c * vf c l) := by
  intro a b
  pointwise [k0_pay14, k0_pay7]
  simp only [diff_neg, pay13 hq hk _ _, pay12 hq hk _ _, pay6 _ _, hv _ _]
  simp (disch := omega) only [hlo_ix]
  simp only [zero_real, dite_eq_ite, ite_self, ← EReal.coe_add, exp_real, ite_real,
    ← EReal.coe_mul, coe_sum, attF, mk, Nat.zero_add, zero_add, add_zero, Bool.true_eq_false, false_or, ite_mul, zero_mul]
  exact congrArg (fun x : ℝ => (x : EReal))
    (halves fun c => if c < (a : ℕ) % 256 then Real.exp (LS (zS q kf a c) + w2F true (zS q kf) a c) * vf c b else 0)

theorem pay15 (hq : Rl (k0_pay3 (F := Ideal) x) q) (hk : Rl (φ := .f32) k kf) {t : ℕ → ℝ}
    (ht : ∀ r s, 256 ≤ s → w2F true (zS q kf) r s = t r) :
    Rl (k0_pay15 (F := Ideal) k0_pay4 k0_pay5 k0_pay6 (k0_pay8 x k) (k0_pay9 x k) (k0_pay10 x k) k0_pay11) (fun r _ => t r) := by
  intro a b
  pointwise [k0_pay15]
  simp only [pay13 hq hk _ _, pay6 _ _, ← EReal.coe_add, zero_add]
  rw [ht _ _ (by simp)]

end Diagonal

/-- The written block takes its row and lane from the head of the lane. -/
theorem pay26 {acc : FVec Ideal S512x128 .f32} {g : ℕ → ℕ → ℝ} (h : Rl acc g) :
    Rl (k0_pay26 (F := Ideal) (iota .tc S256x128 32 [1] iota_S256x128_d1_w32) acc) (fun r l => g (256 * (l / 64) + r) l) := by
  intro a b
  have ha := a.isLt
  have hb := b.isLt
  pointwise [k0_pay26]
  simp (disch := omega) only [hlo_ix]
  simp only [h _ _, ite_real, dite_eq_ite]
  congr 1
  by_cases h1 : (b : ℕ) < 64
  · have e1 : (b : ℕ) / 64 = 0 := by omega
    rw [if_pos h1, e1]
    try simp
  · have e1 : (b : ℕ) / 64 = 1 := by omega
    rw [if_neg h1, e1]
    try simp

/-- The total written for the first head of the pair, and for the second. -/
theorem pay1 {cc : FVec Ideal S512x128 .f32} {g : ℕ → ℕ → ℝ} (h : Rl cc g) (a : Fin 256) (b : Fin 128) :
    k0_pay1 (F := Ideal) cc (ix3 0 a b) = ((g a b : ℝ) : EReal) := by
  pointwise [k0_pay1]
  simp [h _ _]

theorem pay2 {cc : FVec Ideal S512x128 .f32} {g : ℕ → ℕ → ℝ} (h : Rl cc g) (a : Fin 256) (b : Fin 128) :
    k0_pay2 (F := Ideal) cc (ix3 0 a b) = ((g (256 + a) b : ℝ) : EReal) := by
  pointwise [k0_pay2]
  simp [h _ _]

end Cert.Kernel5Ideal.Fwd

end
-- ==== Proof.FwdBody.lean ====
/- The forward attention kernel's loop over the blocks of keys, downwards from the diagonal, and what its body writes. -/
module

public import proofs.«01_k».proof.Proof.Gen.Kernel5Ideal.Frame
public import proofs.«01_k».proof.Proof.FwdPay
public import proofs.«01_k».proof.Proof.SbLoop
public import proofs.«01_k».proof.Proof.Whole

@[expose] public section

set_option maxRecDepth 16384

noncomputable section

namespace Cert.Kernel5Ideal.Fwd

open Idealize.ShloMosaic Idealize.ShloMosaic.TcCoe
open Idealize.SL.Sem Cert.Kernel5Ideal Cert.Kernel5Ideal.Gen Cert.Reals Cert.Sb
open Cert.KernelIdeal.Sb (stack rows_ld range_step)

/-- The first loop runs once for each block below the diagonal, -/
theorem trips1 (i : grid0.Coords) : (k0_t1_loop i).trips = (i 1 : ℕ) := by
  have h : ∀ x : Fin 8, Scf.trips (0#32) (Scalar.addi (0#32) (Scalar.muli (Scalar.divsi (Scalar.subi (BitVec.ofNat 32 x) 0#32) 1#32) 1#32)) 1#32 = x := by
    decide +kernel
  exact h (i 1)

/-- and the loop of what is left over never. -/
theorem trips2 (i : grid0.Coords) : (k0_t2_loop i).trips = 0 :=
  Nat.le_zero.mp (k0_t2_abs i).2.1

theorem off1_val (i : grid0.Coords) : k0_off1 i = ![256 * (i 1 : ℕ), 0] := by
  have h : ∀ x : Fin 8, (Scalar.indexCast (Scalar.muli (BitVec.ofNat 32 x) 256#32)).toNat = 256 * (x : ℕ) := by decide +kernel
  unfold k0_off1
  exact congrArg (fun n => ![n, 0]) (h (i 1))

/-- Trip `k` is at the block `k + 1` below the diagonal's. -/
theorem off2_val (i : grid0.Coords) (k : Fin (k0_t1_loop i).trips) : k0_off2 i k = ![256 * ((i 1 : ℕ) - 1 - (k : ℕ)), 0] := by
  have h : ∀ x : Fin 8, ∀ y : Fin 8, (y : ℕ) < x →
      (Scalar.indexCast (Scalar.muli (Scalar.subi (Scalar.subi (BitVec.ofNat 32 x) 1#32) (Scf.iv 0#32 1#32 y)) 256#32)).toNat
        = 256 * ((x : ℕ) - 1 - (y : ℕ)) := by decide +kernel
  have hk' : (k : ℕ) < (i 1 : ℕ) := lt_of_lt_of_eq k.isLt (trips1 i)
  have hk : (k : ℕ) < 8 := lt_trans hk' (i 1).isLt
  have := h (i 1) ⟨k, hk⟩ hk'
  unfold k0_off2
  exact congrArg (fun n => ![n, 0]) this

section Trip

variable {F : FTy → Type} [FloatOps F] (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole) (arg1 : BitVec 32) (v0 : IVec S256x128 32) (v13 : FVec F S512x128 .bf16) (v18 : IVec S512x256 32) (v27 : FVec F S256x384 .bf16) (v28 : FVec F S512x128 .f32) (v36 : FVec F S256x128 .bf16) (v37 : FVec F S512x256 .f32) (v39 : FVec F S512x256 .f32) (v40 : FVec F S512x256 .f32) (v41 : FVec F S512x256 .f32)

/-- A trip's block of a buffer. -/
abbrev kblk {F : FTy → Type} [FloatOps F] (i : grid0.Coords) (arg : Memref sig .tc .vmem S2048x128 .f32) (k : Fin (k0_t1_loop i).trips)
    (X : BufTy.Contents (Elt F) arg.view.ty) : Vec F S256x128 .f32 :=
  arg.view.readAt (Elt F) (Rect.unit (s := S2048x128) (k0_off2 i k) S256x128.size (k0_off2_inb i k)).toLoadRect X

/-- One trip's yield, in the body's own values. -/
theorem tripR_eq (X3 : BufTy.Contents (Elt F) arg3.view.ty) (X4 : BufTy.Contents (Elt F) arg4.view.ty) (k : Fin (k0_t1_loop i).trips)
    (acc : FVec F S512x128 .f32 × FVec F S512x128 .f32) :
    tripR_k0_t1 (F := F) 𝒱 c bd i arg2 harg2 arg3 harg3 arg4 harg4 arg5 harg5 arg6 harg6 arg1 v0 v13 v18 v27 v28 v36 v37 v39 v40 v41 X3 X4 k acc
      = (k0_pay20 v13 v27 acc.1 (kblk i arg3 k X3), k0_pay19 v13 v27 acc.1 acc.2 (kblk i arg3 k X3) (kblk i arg4 k X4)) := by
  unfold tripR_k0_t1 trip_k0_t1
  rfl

end Trip

section Loop

/-- The total of a row over the blocks up to the diagonal's. -/
def tot (i : ℕ) (q kf : ℕ → ℕ → ℝ) (r : ℕ) : ℝ := ∑ J ∈ Finset.range (256 * (i + 1)), lkR i q kf r J

/-- What holds once the blocks down to `n` are done: the running sum, and the output, over their keys. -/
structure Inv (i : ℕ) (q kf vf : ℕ → ℕ → ℝ) (n : ℕ) (s : FVec Ideal S512x128 .f32 × FVec Ideal S512x128 .f32) : Prop where
  sum : Rl s.1 (fun r _ => tot i q kf r - ∑ J ∈ Finset.range (256 * n), lkR i q kf r J)
  out : Rl s.2 (fun r l => (∑ J ∈ Finset.range (256 * (i + 1)), attR i q kf (tot i q kf) r J * vf J l)
    - ∑ J ∈ Finset.range (256 * n), attR i q kf (tot i q kf) r J * vf J l)

/-- A block further down. -/
theorem down (T : ℝ) (f : ℕ → ℝ) (n : ℕ) :
    (T - ∑ J ∈ Finset.range (256 * (n + 1)), f J) + ∑ c ∈ Finset.range 256, f (256 * n + c) = T - ∑ J ∈ Finset.range (256 * n), f J := by
  rw [← range_step f n]
  ring

/-- A block's part of the output. -/
theorem att_blk {i n : ℕ} {d : Bool} {q kf vf : ℕ → ℕ → ℝ} (bo : blockOk d i n) (lt : ℕ → ℝ) (r l : ℕ) :
    (∑ c ∈ Finset.range 256, attF d (zS q (rowsFrom n kf)) (fun r => lt r - ∑ j ∈ Finset.range (256 * (n + 1)), lkR i q kf r j) r c * rowsFrom n vf c l)
      = ∑ c ∈ Finset.range 256, (fun J => attR i q kf lt r J * vf J l) (256 * n + c) :=
  Finset.sum_congr rfl fun c hc => congrArg (· * vf (256 * n + c) l) (attF_eq bo (Finset.mem_range.mp hc))

variable (𝒱 : Variants) (c : Dev nD) (bd : Option 𝒱.V) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole) (arg1 : BitVec 32) (v0 : IVec S256x128 32) (v13 : FVec Ideal S512x128 .bf16) (v18 : IVec S512x256 32) (v27 : FVec Ideal S256x384 .bf16) (v28 : FVec Ideal S512x128 .f32) (v36 : FVec Ideal S256x128 .bf16) (v37 : FVec Ideal S512x256 .f32) (v39 : FVec Ideal S512x256 .f32) (v40 : FVec Ideal S512x256 .f32) (v41 : FVec Ideal S512x256 .f32)

variable {q kf vf : ℕ → ℕ → ℝ} {x1 x2 : Vec Ideal S2048x128 .f32}

theorem loop_inv (hq : Rl v13 q) (hk : Rl (φ := .f32) x1 kf) (hv : Rl (φ := .f32) x2 vf)
    {init : FVec Ideal S512x128 .f32 × FVec Ideal S512x128 .f32} (hi : Inv (i 1) q kf vf (i 1) init) (m : ℕ) (hm : m ≤ (i 1 : ℕ)) :
    Inv (i 1) q kf vf ((i 1 : ℕ) - m) (st_k0_t1 (F := Ideal) 𝒱 c bd i arg2 harg2 arg3 harg3 arg4 harg4 arg5 harg5 arg6 harg6 arg1 v0 v13 v18 k0_pay5 v28 v36 v37 v39 v40 v41 (harg3.unread x1) (harg4.unread x2) init m) := by
  induction m with
  | zero => exact hi
  | succ m ih =>
    have I := ih (by omega)
    have hlt : m < (k0_t1_loop i).trips := by rw [trips1]; omega
    have h1 : (i 1 : ℕ) < 8 := (i 1).isLt
    obtain ⟨n, hn⟩ : ∃ n, n = (i 1 : ℕ) - (m + 1) := ⟨_, rfl⟩
    have hn1 : (i 1 : ℕ) - m = n + 1 := by omega
    have hn2 : (i 1 : ℕ) - 1 - m = n := by omega
    have hn8 : n < 8 := by omega
    have bo : blockOk false (i 1 : ℕ) n := Or.inl ⟨rfl, by omega⟩
    rw [hn1] at I
    rw [← hn]
    rw [st_k0_t1_succ (F := Ideal) 𝒱 c bd i arg2 harg2 arg3 harg3 arg4 harg4 arg5 harg5 arg6 harg6 arg1 v0 v13 v18 k0_pay5 v28 v36 v37 v39 v40 v41 (harg3.unread x1) (harg4.unread x2) init ⟨m, hlt⟩, tripR_eq]
    generalize st_k0_t1 (F := Ideal) 𝒱 c bd i arg2 harg2 arg3 harg3 arg4 harg4 arg5 harg5 arg6 harg6 arg1 v0 v13 v18 k0_pay5 v28 v36 v37 v39 v40 v41 (harg3.unread x1) (harg4.unread x2) init m = s at I
    obtain ⟨cc, acc⟩ := s
    obtain ⟨Ic, Ia⟩ := I
    have ho : k0_off2 i ⟨m, hlt⟩ = ![256 * n, 0] := by
      rw [off2_val]
      exact congrArg (fun n => ![256 * n, 0]) hn2
    have hkb : Rl (φ := .f32) (kblk (F := Ideal) i arg3 ⟨m, hlt⟩ (harg3.unread x1)) (rowsFrom n kf) := by
      refine rows_ld ?_ ho hn8 _
      rw [harg3.read_unread]; exact hk
    have hvb : Rl (φ := .f32) (kblk (F := Ideal) i arg4 ⟨m, hlt⟩ (harg4.unread x2)) (rowsFrom n vf) := by
      refine rows_ld ?_ ho hn8 _
      rw [harg4.read_unread]; exact hv
    refine ⟨(pay20 hq hkb Ic fun r s hs => w2F_row bo hs).congr fun r l _ _ => ?_, (pay19 hq hkb hvb Ic Ia).congr fun r l _ _ => ?_⟩
    · exact down _ _ n
    · refine (congrArg (_ + ·) (att_blk bo (tot (i 1) q kf) r l)).trans ?_
      exact down _ (fun J => attR (i 1) q kf (tot (i 1) q kf) r J * vf J l) n

end Loop

section Pieces

variable {F : FTy → Type} [FloatOps F] (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole)
  (x0 : Vec F S256x128 .f32) (x1 : Vec F S2048x128 .f32) (x2 : Vec F S2048x128 .f32)

/-- What the diagonal block leaves. -/
abbrev start : FVec F S512x128 .f32 × FVec F S512x128 .f32 := (k0_pay15 k0_pay4 k0_pay5 k0_pay6 (k0_pay8 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay9 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay10 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) k0_pay11, k0_pay14 k0_pay4 k0_pay5 k0_pay6 (k0_pay7 (arg4.view.readAt (Elt F) (Rect.unit (s := S2048x128) (k0_off1 i) S256x128.size (k0_off1_inb i)).toLoadRect (harg4.unread x2))) (k0_pay8 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay9 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay10 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) k0_pay11)

/-- The loop's state before trip `n`. -/
abbrev T1 (n : ℕ) := st_k0_t1 (F := F) Variants.none c none i arg2 harg2 arg3 harg3 arg4 harg4 arg5 harg5 arg6 harg6 (BitVec.ofNat 32 (i 1)) (iota .tc S256x128 32 [1] iota_S256x128_d1_w32) (k0_pay3 (arg2.view.readAt (Elt F) (Rect.unit (s := S256x128) ![0, 0] S256x128.size inb_S256x128_S256x128_0_0).toLoadRect (harg2.unread x0))) k0_pay4 k0_pay5 k0_pay6 (k0_pay7 (arg4.view.readAt (Elt F) (Rect.unit (s := S2048x128) (k0_off1 i) S256x128.size (k0_off1_inb i)).toLoadRect (harg4.unread x2))) (k0_pay8 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay9 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay10 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) k0_pay11 (harg3.unread x1) (harg4.unread x2) (start i arg2 harg2 arg3 harg3 arg4 harg4 x0 x1 x2) n

/-- The second loop's state before trip `n`, after the first loop's yield. -/
abbrev T2 (s : FVec F S512x128 .f32 × FVec F S512x128 .f32) (n : ℕ) :=
  st_k0_t2 (F := F) Variants.none c none i arg2 harg2 arg3 harg3 arg4 harg4 arg5 harg5 arg6 harg6 (BitVec.ofNat 32 (i 1)) (iota .tc S256x128 32 [1] iota_S256x128_d1_w32) (k0_pay3 (arg2.view.readAt (Elt F) (Rect.unit (s := S256x128) ![0, 0] S256x128.size inb_S256x128_S256x128_0_0).toLoadRect (harg2.unread x0))) k0_pay4 k0_pay5 k0_pay6 (k0_pay7 (arg4.view.readAt (Elt F) (Rect.unit (s := S2048x128) (k0_off1 i) S256x128.size (k0_off1_inb i)).toLoadRect (harg4.unread x2))) (k0_pay8 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay9 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) (k0_pay10 (arg2.view.readAt (Elt F) (Rect.unit (s := S256x128) ![0, 0] S256x128.size inb_S256x128_S256x128_0_0).toLoadRect (harg2.unread x0)) (arg3.view.readAt (Elt F) (Rect.unit (s := S2048x128) (k0_off1 i) S256x128.size (k0_off1_inb i)).toLoadRect (harg3.unread x1))) k0_pay11 (harg3.unread x1) (harg4.unread x2) s n

theorem T2_zero (s : FVec F S512x128 .f32 × FVec F S512x128 .f32) : T2 c i arg2 harg2 arg3 harg3 arg4 harg4 arg5 harg5 arg6 harg6 x0 x1 x2 s (k0_t2_loop i).trips = s := by
  rw [trips2]
  exact st_k0_t2.eq_1 ..

theorem out3_eq : out0_A_3 c i arg2 harg2 arg3 harg3 arg4 harg4 arg5 harg5 arg6 harg6 x0 x1 x2
    = k0_pay26 (iota .tc S256x128 32 [1] iota_S256x128_d1_w32) (T1 c i arg2 harg2 arg3 harg3 arg4 harg4 arg5 harg5 arg6 harg6 x0 x1 x2 (i 1)).2 := by
  have e : out0_A_3 c i arg2 harg2 arg3 harg3 arg4 harg4 arg5 harg5 arg6 harg6 x0 x1 x2 = VO0_3.read (Elt F) (VO0_3.writes (Elt F) VO0_3.junk
      [⟨Rect.unit (s := S256x128) ![0, 0] S256x128.size inb_S256x128_S256x128_0_0, k0_pay26 (iota .tc S256x128 32 [1] iota_S256x128_d1_w32) (T2 c i arg2 harg2 arg3 harg3 arg4 harg4 arg5 harg5 arg6 harg6 x0 x1 x2 (T1 c i arg2 harg2 arg3 harg3 arg4 harg4 arg5 harg5 arg6 harg6 x0 x1 x2 (k0_t1_loop i).trips) (k0_t2_loop i).trips).2⟩]) := by
    unfold out0_A_3 kernelRun0_A
    rfl
  rw [e, T2_zero, trips1]
  exact View.read_writes_full _ _ _ _ _

theorem out4_eq : out0_A_4 c i arg2 harg2 arg3 harg3 arg4 harg4 arg5 harg5 arg6 harg6 x0 x1 x2 = VO0_4.read (Elt F) (VO0_4.writes (Elt F) VO0_4.junk
      [⟨Rect.unit (s := S2x256x128) ![1, 0, 0] S1x256x128.size inb_S2x256x128_S1x256x128_1_0_0, k0_pay2 (T1 c i arg2 harg2 arg3 harg3 arg4 harg4 arg5 harg5 arg6 harg6 x0 x1 x2 (i 1)).1⟩,
       ⟨Rect.unit (s := S2x256x128) ![0, 0, 0] S1x256x128.size inb_S2x256x128_S1x256x128_0_0_0, k0_pay1 (T1 c i arg2 harg2 arg3 harg3 arg4 harg4 arg5 harg5 arg6 harg6 x0 x1 x2 (i 1)).1⟩]) := by
  have e : out0_A_4 c i arg2 harg2 arg3 harg3 arg4 harg4 arg5 harg5 arg6 harg6 x0 x1 x2 = VO0_4.read (Elt F) (VO0_4.writes (Elt F) VO0_4.junk
      [⟨Rect.unit (s := S2x256x128) ![1, 0, 0] S1x256x128.size inb_S2x256x128_S1x256x128_1_0_0, k0_pay2 (T2 c i arg2 harg2 arg3 harg3 arg4 harg4 arg5 harg5 arg6 harg6 x0 x1 x2 (T1 c i arg2 harg2 arg3 harg3 arg4 harg4 arg5 harg5 arg6 harg6 x0 x1 x2 (k0_t1_loop i).trips) (k0_t2_loop i).trips).1⟩,
       ⟨Rect.unit (s := S2x256x128) ![0, 0, 0] S1x256x128.size inb_S2x256x128_S1x256x128_0_0_0, k0_pay1 (T2 c i arg2 harg2 arg3 harg3 arg4 harg4 arg5 harg5 arg6 harg6 x0 x1 x2 (T1 c i arg2 harg2 arg3 harg3 arg4 harg4 arg5 harg5 arg6 harg6 x0 x1 x2 (k0_t1_loop i).trips) (k0_t2_loop i).trips).1⟩]) := by
    unfold out0_A_4 kernelRun0_A
    rfl
  rw [e, T2_zero, trips1]

end Pieces

/-- Two blocks stored one after the other, read back. -/
theorem two_rows {F : FTy → Type} [FloatOps F] (f : BufTy.Contents (Elt F) VO0_4.ty) (u w : Vec F S1x256x128 .f32) (b : Fin 2) (p : Fin 256) (l : Fin 128) :
    VO0_4.read (Elt F) (VO0_4.writes (Elt F) f
      [⟨Rect.unit (s := S2x256x128) ![1, 0, 0] S1x256x128.size inb_S2x256x128_S1x256x128_1_0_0, w⟩,
       ⟨Rect.unit (s := S2x256x128) ![0, 0, 0] S1x256x128.size inb_S2x256x128_S1x256x128_0_0_0, u⟩]) (ix3 b p l)
      = if b = 0 then u (ix3 0 p l) else w (ix3 0 p l) := by
  obtain rfl | rfl : b = 0 ∨ b = 1 := by omega
  · rw [if_pos rfl]
    refine (View.read_writes_cons_unit_of_not_mem (s := S2x256x128) VO0_4 f (off' := ![1, 0, 0]) _ _ _ (ix3 0 p l) rfl 0 (Or.inl ?_)).trans ?_
    · exact Nat.zero_lt_one
    · refine View.read_writes_cons_unit_of_mem (s := S2x256x128) VO0_4 f (off' := ![0, 0, 0]) _ _ _ (ix3 0 p l) (ix3 0 p l) rfl fun a => ?_
      fin_cases a
      · rfl
      · exact (Nat.zero_add _).symm
      · exact (Nat.zero_add _).symm
  · rw [if_neg (by decide)]
    refine View.read_writes_cons_unit_of_mem (s := S2x256x128) VO0_4 f (off' := ![1, 0, 0]) _ _ _ (ix3 1 p l) (ix3 0 p l) rfl fun a => ?_
    fin_cases a
    · rfl
    · exact (Nat.zero_add _).symm
    · exact (Nat.zero_add _).symm

section Value

variable (c : Dev nD) (i : grid0.Coords) (arg2 : Memref sig .tc .vmem S256x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S2x256x128 .f32) (harg6 : arg6.IsWhole)
  {x0 : Vec Ideal S256x128 .f32} {x1 x2 : Vec Ideal S2048x128 .f32} {qf kf vf : ℕ → ℕ → ℝ}
  (h0 : Rl (φ := .f32) x0 qf) (h1 : Rl (φ := .f32) x1 kf) (h2 : Rl (φ := .f32) x2 vf)
include h0 h1 h2

theorem start_inv : Inv (i 1) (stack (1 / 8) qf) kf vf (i 1) (start (F := Ideal) i arg2 harg2 arg3 harg3 arg4 harg4 x0 x1 x2) := by
  have h8 : (i 1 : ℕ) < 8 := (i 1).isLt
  have bo : blockOk true (i 1 : ℕ) (i 1) := Or.inr ⟨rfl, rfl⟩
  have hq : Rl (k0_pay3 (F := Ideal) (arg2.view.readAt (Elt Ideal) (Rect.unit (s := S256x128) ![0, 0] S256x128.size inb_S256x128_S256x128_0_0).toLoadRect (harg2.unread x0))) (stack (1 / 8) qf) := by
    rw [Cert.Whole.ld harg2 x0]
    exact pay3 h0
  have hkb : Rl (φ := .f32) (arg3.view.readAt (Elt Ideal) (Rect.unit (s := S2048x128) (k0_off1 i) S256x128.size (k0_off1_inb i)).toLoadRect (harg3.unread x1)) (rowsFrom (i 1) kf) := by
    refine rows_ld ?_ (off1_val i) h8 _
    rw [harg3.read_unread]; exact h1
  have hvb : Rl (φ := .f32) (arg4.view.readAt (Elt Ideal) (Rect.unit (s := S2048x128) (k0_off1 i) S256x128.size (k0_off1_inb i)).toLoadRect (harg4.unread x2)) (rowsFrom (i 1) vf) := by
    refine rows_ld ?_ (off1_val i) h8 _
    rw [harg4.read_unread]; exact h2
  have e0 : (fun r => tot (i 1) (stack (1 / 8) qf) kf r - ∑ j ∈ Finset.range (256 * ((i 1 : ℕ) + 1)), lkR (i 1) (stack (1 / 8) qf) kf r j) = fun _ => 0 :=
    funext fun r => sub_self _
  refine ⟨(pay15 hq hkb fun r s hs => w2F_row bo hs).congr fun r l _ _ => ?_, (pay14 hq hkb hvb).congr fun r l _ _ => ?_⟩
  · exact (zero_add _).symm.trans ((congrArg (· + _) (sub_self (tot (i 1) (stack (1 / 8) qf) kf r)).symm).trans (down _ _ (i 1)))
  · rw [← e0, att_blk bo]
    exact (zero_add _).symm.trans ((congrArg (· + _) (sub_self _).symm).trans
      (down _ (fun J => attR (i 1) (stack (1 / 8) qf) kf (tot (i 1) (stack (1 / 8) qf) kf) r J * vf J l) (i 1)))

theorem end_inv : Inv (i 1) (stack (1 / 8) qf) kf vf 0 (T1 (F := Ideal) c i arg2 harg2 arg3 harg3 arg4 harg4 arg5 harg5 arg6 harg6 x0 x1 x2 (i 1)) := by
  have := loop_inv (vf := vf) (q := stack (1 / 8) qf) Variants.none c none i arg2 harg2 arg3 harg3 arg4 harg4 arg5 harg5 arg6 harg6 (BitVec.ofNat 32 (i 1)) (iota .tc S256x128 32 [1] iota_S256x128_d1_w32) (k0_pay3 (arg2.view.readAt (Elt Ideal) (Rect.unit (s := S256x128) ![0, 0] S256x128.size inb_S256x128_S256x128_0_0).toLoadRect (harg2.unread x0))) k0_pay4 k0_pay6 (k0_pay7 (arg4.view.readAt (Elt Ideal) (Rect.unit (s := S2048x128) (k0_off1 i) S256x128.size (k0_off1_inb i)).toLoadRect (harg4.unread x2))) (k0_pay8 (arg2.view.readAt (Elt Ideal) (Rect.unit (s := S256x128) ![0, 0] S256x128.size inb_S256x128_S256x128_0_0).toLoadRect (harg2.unread x0)) (arg3.view.readAt (Elt Ideal) (Rect.unit (s := S2048x128) (k0_off1 i) S256x128.size (k0_off1_inb i)).toLoadRect (harg3.unread x1))) (k0_pay9 (arg2.view.readAt (Elt Ideal) (Rect.unit (s := S256x128) ![0, 0] S256x128.size inb_S256x128_S256x128_0_0).toLoadRect (harg2.unread x0)) (arg3.view.readAt (Elt Ideal) (Rect.unit (s := S2048x128) (k0_off1 i) S256x128.size (k0_off1_inb i)).toLoadRect (harg3.unread x1))) (k0_pay10 (arg2.view.readAt (Elt Ideal) (Rect.unit (s := S256x128) ![0, 0] S256x128.size inb_S256x128_S256x128_0_0).toLoadRect (harg2.unread x0)) (arg3.view.readAt (Elt Ideal) (Rect.unit (s := S2048x128) (k0_off1 i) S256x128.size (k0_off1_inb i)).toLoadRect (harg3.unread x1))) k0_pay11
    (by rw [Cert.Whole.ld harg2 x0]; exact pay3 h0) h1 h2 (start_inv i arg2 harg2 arg3 harg3 arg4 harg4 h0 h1 h2) (i 1) le_rfl
  rw [Nat.sub_self] at this
  exact this

/-- The output block, -/
theorem y_val : Rl (φ := .f32) (out0_A_3 (F := Ideal) c i arg2 harg2 arg3 harg3 arg4 harg4 arg5 harg5 arg6 harg6 x0 x1 x2)
    (fun p l => ∑ J ∈ Finset.range (256 * ((i 1 : ℕ) + 1)), attR (i 1) (stack (1 / 8) qf) kf (tot (i 1) (stack (1 / 8) qf) kf) (256 * (l / 64) + p) J * vf J l) := by
  rw [out3_eq]
  refine (pay26 (end_inv c i arg2 harg2 arg3 harg3 arg4 harg4 arg5 harg5 arg6 harg6 h0 h1 h2).out).congr fun p l _ _ => ?_
  simp

/-- and the totals written beside it. -/
theorem lt_val (b : Fin 2) (p : Fin 256) (l : Fin 128) : out0_A_4 (F := Ideal) c i arg2 harg2 arg3 harg3 arg4 harg4 arg5 harg5 arg6 harg6 x0 x1 x2 (ix3 b p l)
    = ((tot (i 1) (stack (1 / 8) qf) kf (256 * b + p) : ℝ) : EReal) := by
  have hs := (end_inv c i arg2 harg2 arg3 harg3 arg4 harg4 arg5 harg5 arg6 harg6 h0 h1 h2).sum
  have e1 := pay1 hs p l
  have e2 := pay2 hs p l
  rw [out4_eq]
  refine (two_rows _ _ _ b p l).trans ?_
  obtain rfl | rfl : b = 0 ∨ b = 1 := by omega
  · rw [if_pos rfl, e1]
    simp
  · rw [if_neg (by decide), e2]
    simp

end Value

end Cert.Kernel5Ideal.Fwd

end
-- ==== Proof.FwdRef.lean ====
/- What the forward reference computes, in real numbers, and what the kernel's rows are in the heads' terms. -/
module

public import proofs.«01_k».proof.Proof.Gen.Reference5Ideal.Read
public import proofs.«01_k».proof.Proof.RefVal
public import proofs.«01_k».proof.Proof.FwdBody

@[expose] public section

set_option maxRecDepth 16384

noncomputable section

namespace Cert.Sb

open Finset Cert.Reals Cert.KernelIdeal.Sb Cert.Kernel5Ideal.Fwd

/-- The attention's output. -/
def yH (A : ℕ → ℕ → ℝ) (I n : ℕ) : ℝ := ∑ J ∈ range 2048, attH A (n / 64) I J * A J (1024 + n)

variable {A : ℕ → ℕ → ℝ} {j i b p l : ℕ}

theorem tot_row (hi : i < 8) (hb : b < 2) (hp : p < 256) :
    tot i (stack (1 / 8) (qB A j i)) (kB A j) (256 * b + p) = ltH A (2 * j + b) (256 * i + p) := by
  unfold tot ltH
  rw [← sum_subset (range_subset_range.mpr (show 256 * (i + 1) ≤ 2048 by omega)) (fun J _ hJ => by
    rw [mem_range] at hJ
    unfold lkH
    rw [if_neg (by omega)])]
  exact sum_congr rfl fun J _ => lk_row hb hp J

theorem att_tot (hi : i < 8) (hb : b < 2) (hp : p < 256) (J : ℕ) :
    attR i (stack (1 / 8) (qB A j i)) (kB A j) (tot i (stack (1 / 8) (qB A j i)) (kB A j)) (256 * b + p) J
      = attH A (2 * j + b) (256 * i + p) J := by
  unfold attR attH
  simp only [tot_row hi hb hp, z_row hb hp, lk_row hb hp]
  exact if_congr (seen_row hb hp J) rfl rfl

/-- A block's rows of the output. -/
theorem y_block (hi : i < 8) (hp : p < 256) (hl : l < 128) :
    (∑ J ∈ range (256 * (i + 1)), attR i (stack (1 / 8) (qB A j i)) (kB A j) (tot i (stack (1 / 8) (qB A j i)) (kB A j)) (256 * (l / 64) + p) J
      * vB A j J l) = yH A (256 * i + p) (128 * j + l) := by
  unfold yH
  rw [← sum_subset (range_subset_range.mpr (show 256 * (i + 1) ≤ 2048 by omega)) (fun J _ hJ => by
    rw [mem_range] at hJ
    unfold attH
    rw [if_neg (by omega), zero_mul])]
  refine sum_congr rfl fun J _ => ?_
  rw [att_tot hi (by omega) hp, show 2 * j + l / 64 = (128 * j + l) / 64 by omega]
  unfold vB
  rw [show 128 * (8 + j) + l = 1024 + (128 * j + l) by omega]

end Cert.Sb

namespace Cert.Reference5Ideal.Fwd

open Idealize.ShloMosaic Idealize.ShloMosaic.TcCoe
open Cert.Reference5Ideal Cert.Reference5Ideal.Gen Cert.Reference5Ideal.Read Cert.Reals Cert.Sb Cert.ReferenceIdeal.Sb

variable {x0 : FVec Ideal S2048x9728 .f32} {A : ℕ → ℕ → ℝ}
  (hA : ∀ (a : Fin 2048) (b : Fin 9728), (b : ℕ) < 1536 → x0 (ix2 a b) = ((A a b : ℝ) : EReal))
include hA

theorem z_val (h : Fin 8) (I J : Fin 2048) : val_main_v8 (F := Ideal) x0 (ix3 h I J) = ((zH A h I J : ℝ) : EReal) := by
  pointwise [val_main_v8, val_main_v7, val_main_v6, val_main_cst, val_main_v1, val_main_v0, val_main_v2, val_main_v3]
  have hh := h.isLt
  rw [eighth]
  unfold zH
  rw [EReal.coe_mul, ← coe_sum, Finset.sum_range]
  congr 1
  refine Finset.sum_congr rfl fun d _ => ?_
  have hd := d.isLt
  rw [hA _ _ (by simp only []; omega), hA _ _ (by simp only []; omega), ← EReal.coe_mul]
  simp only [Nat.mul_comm 64]

theorem sp0_val (h : Fin 8) (I J : Fin 2048) : val_main_call0_v1 (F := Ideal) x0 (ix3 h I J) = ((-LS (zH A h I J) : ℝ) : EReal) := by
  rw [← SP_neg]
  unfold SP
  pointwise [val_main_call0_v1, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0]
  rw [if_neg (by simp)]
  simp only [z_val hA, ← EReal.coe_neg, abs_real, log1p_exp, zero_real, max_real, ← EReal.coe_add]

theorem sp1_val (h : Fin 8) (I J : Fin 2048) : val_main_call1_v1 (F := Ideal) x0 (ix3 h I J) = ((zH A h I J - LS (zH A h I J) : ℝ) : EReal) := by
  rw [← SP_eq]
  unfold SP
  pointwise [val_main_call1_v1, val_main_call1_call0_v4, val_main_call1_call0_v6, val_main_call1_call0_v11, val_main_call1_call0_v10, val_main_call1_call0_v9, val_main_call1_call0_v8, val_main_call1_call0_v7, val_main_call1_call0_v5, val_main_call1_call0_v3, val_main_call1_call0_v2, val_main_call1_call0_v1, val_main_call1_call0_v0, val_main_call1_call0_cst, val_main_call1_v0, val_main_v16]
  rw [if_neg (by simp)]
  simp only [z_val hA, ← EReal.coe_neg, neg_neg, abs_real, log1p_exp, zero_real, max_real, ← EReal.coe_add]

omit hA in
theorem mask_val (h : Fin 8) (I J : Fin 2048) : val_main_call2_v1 (F := Ideal) (ix3 h I J) = BitVec.ofBool (decide ((J : ℕ) < I)) := by
  pointwise [val_main_call2_v1, val_main_v14, val_main_v13, val_main_v12, val_main_v11, val_main_v10, val_main_v9]
  exact slt_small I.isLt J.isLt

omit hA in
theorem mask2_val (h : Fin 8) (I J : Fin 2048) : val_main_call4_v1 (F := Ideal) (ix3 h I J) = BitVec.ofBool (decide ((J : ℕ) < I)) := by
  pointwise [val_main_call4_v1, val_main_v14, val_main_v13, val_main_v12, val_main_v11, val_main_v10, val_main_v9]
  exact slt_small I.isLt J.isLt

theorem lk_val (h : Fin 8) (I J : Fin 2048) : val_main_v18 (F := Ideal) x0 (ix3 h I J) = ((lkH A h I J : ℝ) : EReal) := by
  pointwise [val_main_v18, val_main_call2_v2, val_main_call2_v0, val_main_cst_0, val_main_v17]
  rw [mask_val, select_ofBool, sp1_val hA, ← EReal.coe_neg, neg_sub]
  unfold lkH
  rw [← ite_real]
  exact congrArg _ zero_word

theorem cum_val (h : Fin 8) (I J : Fin 2048) :
    val_main_v19 (F := Ideal) x0 (ix3 h I J) = ((ltH A h I - ∑ j ∈ Finset.range J, lkH A h I j : ℝ) : EReal) := by
  unfold val_main_v19
  refine (window3 (A := 8) (B := 2048) (N := 2048) 0 2047 _ (fun h I J => lkH A h I J) (lk_val hA) _ (fun i => ?_) _ _ h I J).trans ?_
  · show Ideal.ofBits .f32 0#32 = 0
    exact zero_word.trans rfl
  · exact congrArg _ (sum_from 2048 (fun J => lkH A h I J) J.isLt)

theorem w_val (h : Fin 8) (I J : Fin 2048) : val_main_v22 (F := Ideal) x0 (ix3 h I J)
    = ((Real.exp (LS (zH A h I J) + ltH A h I - ∑ j ∈ Finset.range (J + 1), lkH A h I j) : ℝ) : EReal) := by
  pointwise [val_main_v22, val_main_v21, val_main_v20, val_main_v15]
  rw [sp0_val hA, cum_val hA, lk_val hA, ← EReal.coe_neg, neg_neg, ← EReal.coe_sub, ← EReal.coe_add, exp_real, Finset.sum_range_succ]
  congr 2
  ring

theorem att_val (h : Fin 8) (I J : Fin 2048) : val_main_v23 (F := Ideal) x0 (ix3 h I J) = ((attH A h I J : ℝ) : EReal) := by
  pointwise [val_main_v23, val_main_call4_v2, val_main_call4_v0, val_main_cst_1]
  rw [mask2_val, select_ofBool, w_val hA]
  unfold attH
  rw [← ite_real]
  exact congrArg _ zero_word

theorem y_val : Rl (φ := .f32) (val_main_v26 (F := Ideal) x0) (yH A) := by
  intro I n
  pointwise [val_main_v26, val_main_v25, val_main_v24, val_main_v5, val_main_v4]
  have hn := n.isLt
  unfold yH
  rw [← coe_sum, Finset.sum_range]
  refine Finset.sum_congr rfl fun J _ => ?_
  rw [att_val hA, hA _ _ (by simp only []; omega), ← EReal.coe_mul, mul_comm]

omit hA in
/-- The logarithms are computed a second time, by the same operations. -/
theorem v43_eq : val_main_v43 (F := Ideal) x0 = val_main_v18 (F := Ideal) x0 := rfl

theorem lt_val (h : Fin 8) (I : Fin 2048) (l : Fin 128) : val_main_v46 (F := Ideal) x0 (ix3 h I l) = ((ltH A h I : ℝ) : EReal) := by
  pointwise [val_main_v46, val_main_v45, val_main_v44]
  unfold ltH
  rw [← coe_sum, Finset.sum_range, v43_eq, show val_main_cst_4 (F := Ideal) (Shape.Idx.first h_S_) = 0 from zero_word.trans rfl, zero_add]
  exact Finset.sum_congr rfl fun J _ => lk_val hA h I J

end Cert.Reference5Ideal.Fwd

end
-- ==== Proof.FwdGrid.lean ====
/- The blocks the forward attention kernel reads at each grid point, and the two arrays it leaves, in real numbers; with the
   condition on its argument. -/
module

public import proofs.«01_k».proof.Proof.FwdRef
public import proofs.«01_k».proof.Proof.Finite
public import proofs.«01_k».proof.Pre_finite_qkv
public import proofs.«01_k».proof.Proof.Gen.Kernel5Ideal.Value
public import Idealize.ShloMosaic.Lib.Claim
public import Idealize.ShloMosaic.Lib.Pipeline.ValueKit

@[expose] public section

set_option maxRecDepth 16384

noncomputable section

namespace Cert.Pre_finite_qkv

open Idealize.ShloMosaic

/-- The shape relations the predicate's operations take. -/
instance facts : Facts where
  slices_S2048x9728_S2048x1536_0_0 := by decide
  bcast_S_S2048x1536 := by decide
  reducesTo_S2048x1536_S_d0_1 := by decide
  h_S_ := by decide

instance : Subsingleton S_.Idx := ⟨fun a b => funext fun k => k.elim0⟩

variable (x0 : FVec Ideal S2048x9728 .f32)

/-- Under the predicate the queries, keys and values are real numbers. -/
theorem real_A (h : fn x0 = fun _ => 1#1) (a : Fin 2048) (b : Fin 9728) (hb : (b : ℕ) < 1536) :
    x0 (ix2 a b) = ((Cert.Pre_finite.A x0 a b : ℝ) : EReal) := by
  rw [Cert.Pre_finite.A, dif_pos ⟨a.isLt, b.isLt⟩]
  have h0 := congrFun h (fun k => k.elim0)
  dsimp only [fn] at h0
  have e := Host.reduce_andi_all _ _ _ _ _ h0 (ix2 a ⟨b, hb⟩)
  refine Cert.Pre_finite.real_of_abs_lt _ (Eq.trans ?_ e)
  pointwise
  rfl

end Cert.Pre_finite_qkv

namespace Cert.Kernel5Ideal.Fwd

open Idealize.ShloMosaic Idealize.ShloMosaic.TcCoe
open Idealize.SL.Sem Cert.Kernel5Ideal Cert.Kernel5Ideal.Gen Cert.Reals Cert.Sb

theorem ix_0 : ∀ t : Fin cfg0.N, win0_0.index t = ![t.val % 8, t.val / 8] :=
  (by decide +kernel : ∀ t : Fin grid0.N, win0_0.index t = ![t.val % 8, t.val / 8])
theorem ix_1 : ∀ t : Fin cfg0.N, win0_1.index t = ![0, 4 + t.val / 8] :=
  (by decide +kernel : ∀ t : Fin grid0.N, win0_1.index t = ![0, 4 + t.val / 8])
theorem ix_2 : ∀ t : Fin cfg0.N, win0_2.index t = ![0, 8 + t.val / 8] :=
  (by decide +kernel : ∀ t : Fin grid0.N, win0_2.index t = ![0, 8 + t.val / 8])
theorem ix_3 : ∀ t : Fin cfg0.N, win0_3.index t = ![t.val % 8, t.val / 8] :=
  (by decide +kernel : ∀ t : Fin grid0.N, win0_3.index t = ![t.val % 8, t.val / 8])
theorem ix_4 : ∀ t : Fin cfg0.N, win0_4.index t = ![t.val / 8, t.val % 8, 0] :=
  (by decide +kernel : ∀ t : Fin grid0.N, win0_4.index t = ![t.val / 8, t.val % 8, 0])
theorem coord1 : ∀ t : Fin cfg0.N, ((grid0.coords t) 1 : ℕ) = t.val % 8 :=
  (by decide +kernel : ∀ t : Fin grid0.N, ((grid0.coords t) 1 : ℕ) = t.val % 8)

theorem lt_32 (t : Fin cfg0.N) : t.val < 32 := lt_of_lt_of_eq t.isLt Gen.N_0

variable {m : (ℓ : Loc nD τ sig) → Buf (Elt Ideal) ℓ} {c : Dev nD} {A : ℕ → ℕ → ℝ}
  (hA : ∀ (a : Fin 2048) (b : Fin 9728), (b : ℕ) < 1536 → (m ((c : Thread nD τ).loc main_arg0) : FVec Ideal S2048x9728 .f32) (ix2 a b) = ((A a b : ℝ) : EReal))
include hA

theorem blk0 (t : Fin cfg0.N) : Rl (φ := .f32) (m := 256) (n := 128) (iblk (F := Ideal) m c 0 t) (qB A (t.val / 8) (t.val % 8)) := by
  intro p l
  have ht := lt_32 t
  have hp := p.isLt
  have hl := l.isLt
  have e : (win0_0.blk t).view.emb (ix2 p l) = ix2 (⟨256 * (t.val % 8) + p, by omega⟩ : Fin 2048) (⟨128 * (t.val / 8) + l, by omega⟩ : Fin 9728) := by
    blk_ext [ix_0 t]
  blk_simp [iblk]
  rw [V_main_arg0, e]
  exact hA _ _ (by simp only []; omega)

theorem blk1 (t : Fin cfg0.N) : Rl (φ := .f32) (m := 2048) (n := 128) (iblk (F := Ideal) m c 1 t) (kB A (t.val / 8)) := by
  intro p l
  have ht := lt_32 t
  have hp := p.isLt
  have hl := l.isLt
  have e : (win0_1.blk t).view.emb (ix2 p l) = ix2 (⟨p, by omega⟩ : Fin 2048) (⟨128 * (4 + t.val / 8) + l, by omega⟩ : Fin 9728) := by
    blk_ext [ix_1 t]
  blk_simp [iblk]
  rw [V_main_arg0, e]
  exact hA _ _ (by simp only []; omega)

theorem blk2 (t : Fin cfg0.N) : Rl (φ := .f32) (m := 2048) (n := 128) (iblk (F := Ideal) m c 2 t) (vB A (t.val / 8)) := by
  intro p l
  have ht := lt_32 t
  have hp := p.isLt
  have hl := l.isLt
  have e : (win0_2.blk t).view.emb (ix2 p l) = ix2 (⟨p, by omega⟩ : Fin 2048) (⟨128 * (8 + t.val / 8) + l, by omega⟩ : Fin 9728) := by
    blk_ext [ix_2 t]
  blk_simp [iblk]
  rw [V_main_arg0, e]
  exact hA _ _ (by simp only []; omega)

/-- The block of the output written at a point, -/
theorem blk3 (t : Fin cfg0.N) (p : Fin 256) (l : Fin 128) : ((outsAt0 (F := Ideal) m c t).1 : FVec Ideal S256x128 .f32) (ix2 p l)
    = ((yH A (256 * (t.val % 8) + p) (128 * (t.val / 8) + l) : ℝ) : EReal) := by
  have ht := lt_32 t
  unfold outsAt0
  dsimp only
  refine (y_val c (grid0.coords t) _ _ _ _ _ _ _ _ _ _ (blk0 hA t) (blk1 hA t) (blk2 hA t) p l).trans (congrArg _ ?_)
  rw [coord1]
  exact y_block (by omega) p.isLt l.isLt

/-- and of the row sums. -/
theorem blk4 (t : Fin cfg0.N) (b : Fin 2) (p : Fin 256) (l : Fin 128) : ((outsAt0 (F := Ideal) m c t).2 : FVec Ideal S2x256x128 .f32) (ix3 b p l)
    = ((ltH A (2 * (t.val / 8) + b) (256 * (t.val % 8) + p) : ℝ) : EReal) := by
  have ht := lt_32 t
  unfold outsAt0
  dsimp only
  refine (lt_val c (grid0.coords t) _ _ _ _ _ _ _ _ _ _ (blk0 hA t) (blk1 hA t) (blk2 hA t) b p l).trans (congrArg _ ?_)
  rw [coord1]
  exact tot_row (by omega) b.isLt p.isLt

/-- The output, -/
theorem arr3 : Rl (φ := .f32) (m := 2048) (n := 512) ((dats (F := Ideal) m 0 c).arrAt 3 cfg0.N) (yH A) := by
  have h : (dats (F := Ideal) m 0 c).arrAt 3 cfg0.N = (fun i => ((yH A (i 0 : ℕ) (i 1 : ℕ) : ℝ) : EReal) : FVec Ideal S2048x512 .f32) := by
    refine (dats m 0 c).arrAt_eq_of_covers 3 _ (by decide +kernel) fun t hf y => ?_
    blk_simp
    rw [after0_3]
    idx_vars y
    have ht := lt_32 t
    simp only [ix_3 t, Matrix.cons_val_zero, Matrix.cons_val_one, Nat.zero_mul, Nat.zero_add]
    rw [Nat.mul_comm _ 256, Nat.mul_comm _ 128]
    exact blk3 hA t y0 y1
  intro a b
  rw [h]
  rfl

/-- and the row sums. -/
theorem arr4 (h : Fin 8) (I : Fin 2048) (l : Fin 128) : ((dats (F := Ideal) m 0 c).arrAt 4 cfg0.N : FVec Ideal S8x2048x128 .f32) (ix3 h I l)
    = ((ltH A h I : ℝ) : EReal) := by
  have h : (dats (F := Ideal) m 0 c).arrAt 4 cfg0.N = (fun i => ((ltH A (i 0 : ℕ) (i 1 : ℕ) : ℝ) : EReal) : FVec Ideal S8x2048x128 .f32) := by
    refine (dats m 0 c).arrAt_eq_of_covers 4 _ (by decide +kernel) fun t hf y => ?_
    blk_simp
    rw [after0_4]
    idx_vars y
    have ht := lt_32 t
    simp only [ix_4 t, Matrix.cons_val_zero, Matrix.cons_val_one, Nat.zero_mul, Nat.zero_add]
    rw [Nat.mul_comm _ 256, Nat.mul_comm _ 2]
    exact blk4 hA t y0 y1 y2
  rw [h]
  rfl

end Cert.Kernel5Ideal.Fwd

end
-- ==== Proof.FwdEnd.lean ====
/- The forward attention kernel's claims. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.FwdGrid
public import Idealize.ShloMosaic.Lib.Claim
public import Idealize.ShloMosaic.Adequacy
public import Idealize.ShloMosaic.Init

@[expose] public section

noncomputable section

namespace Cert.Proof

open Idealize.ShloMosaic Idealize.SL.Sem

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

open Cert.Kernel5Ideal Cert.Kernel5Ideal.Gen Idealize.ShloMosaic.TcCoe in
/-- The output and the row sums the kernel leaves are the reference's, of its argument. -/
theorem attn (m : (ℓ : Loc nD τ sig) → Buf (Elt Ideal) ℓ) (c : Dev nD) (x0 : FVec Ideal S2048x9728 .f32)
    (h0 : m ((c : Thread nD τ).loc main_arg0) = x0) (h : Cert.Pre_finite_qkv.fn x0 = fun _ => 1#1) :
    Cert.Reference5Ideal.Read.val_main_v26 (F := Ideal) x0 = (dats (F := Ideal) m 0 c).arrAt 3 cfg0.N
    ∧ Cert.Reference5Ideal.Read.val_main_v46 (F := Ideal) x0 = (dats (F := Ideal) m 0 c).arrAt 4 cfg0.N := by
  subst h0
  have hA := Cert.Pre_finite_qkv.real_A _ h
  constructor
  · have e : ∀ i : S2048x512.Idx, (Cert.Reference5Ideal.Read.val_main_v26 (F := Ideal) (m ((c : Thread nD τ).loc main_arg0)) : FVec Ideal S2048x512 .f32) i
        = ((dats (F := Ideal) m 0 c).arrAt 3 cfg0.N : FVec Ideal S2048x512 .f32) i := fun i => by
      idx_vars i
      exact (Cert.Reference5Ideal.Fwd.y_val hA _ _).trans (Cert.Kernel5Ideal.Fwd.arr3 hA _ _).symm
    exact funext e
  · have e : ∀ i : S8x2048x128.Idx, (Cert.Reference5Ideal.Read.val_main_v46 (F := Ideal) (m ((c : Thread nD τ).loc main_arg0)) : FVec Ideal S8x2048x128 .f32) i
        = ((dats (F := Ideal) m 0 c).arrAt 4 cfg0.N : FVec Ideal S8x2048x128 .f32) i := fun i => by
      idx_vars i
      exact (Cert.Reference5Ideal.Fwd.lt_val hA _ _ _).trans (Cert.Kernel5Ideal.Fwd.arr4 hA _ _ _).symm
    exact funext e

open Cert.Kernel5Ideal Cert.Kernel5Ideal.Gen in
/-- The attention's kernel and the reference leave the same output and row sums. -/
theorem algebraic5 : Cert.algebraic_Kernel5Ideal_Reference5Ideal_pre_finite_qkv := by
  intro m g m' g' hpre hagree
  refine ⟨fun c => (dats m 0 c).arrAt 3 cfg0.N, fun c => (dats m 0 c).arrAt 4 cfg0.N,
    Cert.Kernel5Ideal.Value.run_blocks (F := Ideal) m g, ?_⟩
  refine (θ_run Cert.Reference5Ideal.defs _ _).mono (fun r h c => ?_) (Cert.Reference5Ideal.Value.run (F := Ideal) m' g')
  obtain ⟨h0, h1, hk⟩ := h c
  obtain ⟨e0, e1⟩ := attn m c _ (hagree c).symm (by rw [hagree c]; exact hpre c)
  exact ⟨(h0.trans (Cert.Reference5Ideal.Read.val_main_v26_eq m' c)).trans e0,
    (h1.trans (Cert.Reference5Ideal.Read.val_main_v46_eq _)).trans e1, hk⟩

end Cert.Proof

end
-- ==== Proof.Adam.lean ====
/- The optimiser's step on an array of any shape: the two new moments and the change of the weight. Each entry depends on the same
   entry of the arguments only, so the step commutes with taking a block, with a reshape and with a transpose. -/
module

public import Idealize.ShloMosaic.Lib.Pipeline.ValueKit
public import Idealize.ShloMosaic.Lib.Pointwise

@[expose] public section

noncomputable section

namespace Cert.Adam

open Idealize.ShloMosaic

variable {s t : Shape}

/-- The float word's value at every entry. -/
def word (s : Shape) (w : BitVec 32) : FVec Ideal s .f32 := broadcast s (Scalar.ofBits (F := Ideal) .f32 w)

/-- The running mean of the gradient after the step. -/
def mom (g m : Vec Ideal s .f32) : Vec Ideal s .f32 := addf (mulf (word s 0x3F666666#32) m) (mulf (word s 0x3DCCCCCD#32) g)

/-- The running mean of the gradient's square after the step. -/
def sq (g v : Vec Ideal s .f32) : Vec Ideal s .f32 :=
  addf (mulf (word s 0x3F7FBE77#32) v) (mulf (word s 0x3A83126F#32) (mulf g g))

/-- The change of the weight. -/
def delta (w g m v : Vec Ideal s .f32) : Vec Ideal s .f32 :=
  mulf (word s 0xBA83126F#32) (addf (divf (divf (mom g m) (word s 0x3F26BD02#32))
    (addf (sqrt (divf (sq g v) (word s 0x3C231ACC#32))) (word s 0x322BCC77#32))) (mulf (word s 0x3C23D70A#32) w))

/-! Reading the step's results through any map of the indices. -/

theorem mom_read (f : t.Idx → s.Idx) (g m : Vec Ideal s .f32) (y : t.Idx) :
    mom (s := t) (fun i => g (f i)) (fun i => m (f i)) y = mom g m (f y) := rfl

theorem sq_read (f : t.Idx → s.Idx) (g v : Vec Ideal s .f32) (y : t.Idx) :
    sq (s := t) (fun i => g (f i)) (fun i => v (f i)) y = sq g v (f y) := rfl

theorem delta_read (f : t.Idx → s.Idx) (w g m v : Vec Ideal s .f32) (y : t.Idx) :
    delta (s := t) (fun i => w (f i)) (fun i => g (f i)) (fun i => m (f i)) (fun i => v (f i)) y = delta w g m v (f y) := rfl

/-! A reshape before the step, undone after it, changes nothing. -/

theorem mom_cast (g m : Vec Ideal s .f32) (h : s.ShapeCasts t) (h' : t.ShapeCasts s) :
    shapeCast s (mom (shapeCast t g h) (shapeCast t m h)) h' = mom g m :=
  shapeCast_shapeCast (mom g m) h h'

theorem sq_cast (g v : Vec Ideal s .f32) (h : s.ShapeCasts t) (h' : t.ShapeCasts s) :
    shapeCast s (sq (shapeCast t g h) (shapeCast t v h)) h' = sq g v :=
  shapeCast_shapeCast (sq g v) h h'

theorem delta_cast (w g m v : Vec Ideal s .f32) (h : s.ShapeCasts t) (h' : t.ShapeCasts s) :
    shapeCast s (delta (shapeCast t w h) (shapeCast t g h) (shapeCast t m h) (shapeCast t v h)) h' = delta w g m v :=
  shapeCast_shapeCast (delta w g m v) h h'

/-! The same for a turn of the axes with a reshape after it. -/

section Turn

variable {a b d : ℕ}

/-- An array of three axes. -/
abbrev Box (a b d : ℕ) : Shape := ⟨3, ![a, b, d]⟩

theorem turned (x : Vec Ideal (Box a b d) .f32) (h : (Box a b d).Transposes [2, 0, 1] (Box d a b)) (h3 : (Box d a b).Transposes [1, 2, 0] (Box a b d)) :
    transpose (Box a b d) [1, 2, 0] (transpose (Box d a b) [2, 0, 1] x h) h3 = x := by
  funext i
  exact (transpose_apply _ _ h3 i (ix3 (i 2) (i 0) (i 1)) (fun | 0 => rfl | 1 => rfl | 2 => rfl)).trans
    (transpose_apply _ _ h _ i (fun | 0 => rfl | 1 => rfl | 2 => rfl))

theorem mom_turn (g m : Vec Ideal (Box a b d) .f32) (h : (Box a b d).Transposes [2, 0, 1] (Box d a b)) (h1 : (Box d a b).ShapeCasts t) (h2 : t.ShapeCasts (Box d a b))
    (h3 : (Box d a b).Transposes [1, 2, 0] (Box a b d)) :
    transpose (Box a b d) [1, 2, 0] (shapeCast (Box d a b) (mom (shapeCast t (transpose (Box d a b) [2, 0, 1] g h) h1) (shapeCast t (transpose (Box d a b) [2, 0, 1] m h) h1)) h2) h3 = mom g m :=
  (congrArg (transpose (Box a b d) [1, 2, 0] · h3) (shapeCast_shapeCast (transpose (Box d a b) [2, 0, 1] (mom g m) h) h1 h2)).trans (turned _ h h3)

theorem sq_turn (g v : Vec Ideal (Box a b d) .f32) (h : (Box a b d).Transposes [2, 0, 1] (Box d a b)) (h1 : (Box d a b).ShapeCasts t) (h2 : t.ShapeCasts (Box d a b))
    (h3 : (Box d a b).Transposes [1, 2, 0] (Box a b d)) :
    transpose (Box a b d) [1, 2, 0] (shapeCast (Box d a b) (sq (shapeCast t (transpose (Box d a b) [2, 0, 1] g h) h1) (shapeCast t (transpose (Box d a b) [2, 0, 1] v h) h1)) h2) h3 = sq g v :=
  (congrArg (transpose (Box a b d) [1, 2, 0] · h3) (shapeCast_shapeCast (transpose (Box d a b) [2, 0, 1] (sq g v) h) h1 h2)).trans (turned _ h h3)

theorem delta_turn (w g m v : Vec Ideal (Box a b d) .f32) (h : (Box a b d).Transposes [2, 0, 1] (Box d a b)) (h1 : (Box d a b).ShapeCasts t) (h2 : t.ShapeCasts (Box d a b))
    (h3 : (Box d a b).Transposes [1, 2, 0] (Box a b d)) :
    transpose (Box a b d) [1, 2, 0] (shapeCast (Box d a b) (delta (shapeCast t (transpose (Box d a b) [2, 0, 1] w h) h1) (shapeCast t (transpose (Box d a b) [2, 0, 1] g h) h1) (shapeCast t (transpose (Box d a b) [2, 0, 1] m h) h1) (shapeCast t (transpose (Box d a b) [2, 0, 1] v h) h1)) h2) h3 = delta w g m v :=
  (congrArg (transpose (Box a b d) [1, 2, 0] · h3) (shapeCast_shapeCast (transpose (Box d a b) [2, 0, 1] (delta w g m v) h) h1 h2)).trans (turned _ h h3)

end Turn

end Cert.Adam

end

end
-- ==== Proof.Upd6.lean ====
/- The regions of `Kernel6Ideal`, the optimiser's step on one weight each: what every region's three output arrays end as. -/
module

public import proofs.«01_k».proof.Proof.Adam
public import proofs.«01_k».proof.Proof.Gen.Kernel6Ideal.Frame

@[expose] public section

set_option maxRecDepth 16384

noncomputable section

namespace Cert.Kernel6Ideal.Upd

open Idealize.ShloMosaic Idealize.ShloMosaic.TcCoe
open Idealize.SL.Sem Cert.Kernel6Ideal Cert.Kernel6Ideal.Gen

variable (V : (c : Dev nD) → (b : Ref sig .tc) → Buf (Elt Ideal) ((c : Thread nD τ).loc b)) (c : Dev nD)

/-! ### Region 0 -/

theorem outs0_4 (x0 x1 x2 x3 : Vec Ideal S1x512x256 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, shapeCast_self]
  rfl

theorem arr0_4 : (dat0 (F := Ideal) V c).arrAt 4 cfg0.N =
    Adam.delta (s := S2x512x256) (V c main_arg4) (V c main_arg5) (V c main_arg6) (V c main_arg7) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x512x256 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, shapeCast_self]
  rfl

theorem arr0_5 : (dat0 (F := Ideal) V c).arrAt 5 cfg0.N =
    Adam.mom (s := S2x512x256) (V c main_arg5) (V c main_arg6) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x512x256 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, shapeCast_self]
  rfl

theorem arr0_6 : (dat0 (F := Ideal) V c).arrAt 6 cfg0.N =
    Adam.sq (s := S2x512x256) (V c main_arg5) (V c main_arg7) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x256x1024 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, shapeCast_self]
  rfl

theorem arr1_4 : (dat1 (F := Ideal) V c).arrAt 4 cfg1.N =
    Adam.delta (s := S2x256x1024) (V c main_arg8) (V c main_arg9) (V c main_arg10) (V c main_arg11) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x256x1024 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, shapeCast_self]
  rfl

theorem arr1_5 : (dat1 (F := Ideal) V c).arrAt 5 cfg1.N =
    Adam.mom (s := S2x256x1024) (V c main_arg9) (V c main_arg10) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x256x1024 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, shapeCast_self]
  rfl

theorem arr1_6 : (dat1 (F := Ideal) V c).arrAt 6 cfg1.N =
    Adam.sq (s := S2x256x1024) (V c main_arg9) (V c main_arg11) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x512x256 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, shapeCast_self]
  rfl

theorem arr2_4 : (dat2 (F := Ideal) V c).arrAt 4 cfg2.N =
    Adam.delta (s := S2x512x256) (V c main_arg12) (V c main_arg13) (V c main_arg14) (V c main_arg15) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x512x256 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, shapeCast_self]
  rfl

theorem arr2_5 : (dat2 (F := Ideal) V c).arrAt 5 cfg2.N =
    Adam.mom (s := S2x512x256) (V c main_arg13) (V c main_arg14) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x512x256 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, shapeCast_self]
  rfl

theorem arr2_6 : (dat2 (F := Ideal) V c).arrAt 6 cfg2.N =
    Adam.sq (s := S2x512x256) (V c main_arg13) (V c main_arg15) := by
  refine (dat2 V c).arrAt_eq_of_covers 6 _ (by decide +kernel) fun t hf y => ?_
  blk_simp
  rw [after2_6, outs2_6]
  exact Adam.sq_read (fun i => (win2_6.blk t).view.emb i) _ _ y

/-! ### Region 3 -/

theorem outs3_4 (x0 x1 x2 x3 : Vec Ideal S1x601x2x512 .f32) : out3_4 (F := Ideal) x0 x1 x2 x3 = Adam.delta x0 x1 x2 x3 := by
  unfold out3_4
  rw [View.canon_cons_unit_lit _ _ _ (by decide)]
  repeat rw [View.ld_unit_lit _ _ (by decide)]
  simp only [k3_pay1, k3_pay2, k3_pay3, k3_pay4, k3_pay5, k3_pay6, shapeCast_self]
  rfl

theorem arr3_4 : (dat3 (F := Ideal) V c).arrAt 4 cfg3.N =
    Adam.delta (s := S4x601x2x1024) (V c main_v7) (V c main_v5) (V c main_v9) (V c main_v11) := by
  refine (dat3 V c).arrAt_eq_of_covers 4 _ (by decide +kernel) fun t hf y => ?_
  blk_simp
  rw [after3_4, outs3_4]
  exact Adam.delta_read (fun i => (win3_4.blk t).view.emb i) _ _ _ _ y

theorem outs3_5 (x0 x1 x2 x3 : Vec Ideal S1x601x2x512 .f32) : out3_5 (F := Ideal) x0 x1 x2 x3 = Adam.mom x1 x2 := by
  unfold out3_5
  rw [View.canon_cons_unit_lit _ _ _ (by decide)]
  repeat rw [View.ld_unit_lit _ _ (by decide)]
  simp only [k3_pay1, k3_pay2, k3_pay3, k3_pay4, k3_pay5, k3_pay6, shapeCast_self]
  rfl

theorem arr3_5 : (dat3 (F := Ideal) V c).arrAt 5 cfg3.N =
    Adam.mom (s := S4x601x2x1024) (V c main_v5) (V c main_v9) := by
  refine (dat3 V c).arrAt_eq_of_covers 5 _ (by decide +kernel) fun t hf y => ?_
  blk_simp
  rw [after3_5, outs3_5]
  exact Adam.mom_read (fun i => (win3_5.blk t).view.emb i) _ _ y

theorem outs3_6 (x0 x1 x2 x3 : Vec Ideal S1x601x2x512 .f32) : out3_6 (F := Ideal) x0 x1 x2 x3 = Adam.sq x1 x3 := by
  unfold out3_6
  rw [View.canon_cons_unit_lit _ _ _ (by decide)]
  repeat rw [View.ld_unit_lit _ _ (by decide)]
  simp only [k3_pay1, k3_pay2, k3_pay3, k3_pay4, k3_pay5, k3_pay6, shapeCast_self]
  rfl

theorem arr3_6 : (dat3 (F := Ideal) V c).arrAt 6 cfg3.N =
    Adam.sq (s := S4x601x2x1024) (V c main_v5) (V c main_v11) := by
  refine (dat3 V c).arrAt_eq_of_covers 6 _ (by decide +kernel) fun t hf y => ?_
  blk_simp
  rw [after3_6, outs3_6]
  exact Adam.sq_read (fun i => (win3_6.blk t).view.emb i) _ _ y

end Cert.Kernel6Ideal.Upd

end

end
-- ==== Proof.UpdEnd6.lean ====
/- What the results of `Kernel6Ideal` end as: the optimiser's step of each weight, from the arguments. -/
module

public import proofs.«01_k».proof.Proof.Upd6

@[expose] public section

set_option maxRecDepth 16384

noncomputable section

namespace Cert.Kernel6Ideal.Upd

open Idealize.ShloMosaic Idealize.ShloMosaic.TcCoe
open Idealize.SL.Sem Cert.Kernel6Ideal Cert.Kernel6Ideal.Gen

variable (m : (ℓ : Loc nD τ sig) → Buf (Elt Ideal) ℓ) (ρ : Dev nD → PrngReg) (c : Dev nD)

/-! ### Region 0 -/

theorem end0_4 : W6 m ρ c (Proc.devRef .tc main_v0_0) = Adam.delta (m ((c : Thread nD τ).loc main_arg4) : Vec Ideal S2x512x256 .f32) (m ((c : Thread nD τ).loc main_arg5) : Vec Ideal S2x512x256 .f32) (m ((c : Thread nD τ).loc main_arg6) : Vec Ideal S2x512x256 .f32) (m ((c : Thread nD τ).loc main_arg7) : Vec Ideal S2x512x256 .f32) := by
  refine ((W6_of m ρ c main_v0_0 (by decide)).trans ((W5_of_ne m ρ c main_v0_0 (by decide)).trans ((W4_of m ρ c main_v0_0 (by decide)).trans ((W3_of_ne m ρ c main_v0_0 (by decide)).trans ((W2_of_ne m ρ c main_v0_0 (by decide)).trans ((W1_arr m ρ c 4).trans (arr0_4 (V0 m ρ) c))))))).trans ?_
  rw [show V0 m ρ c main_arg4 = _ from W0_args m ρ c main_arg4 (by decide), show V0 m ρ c main_arg5 = _ from W0_args m ρ c main_arg5 (by decide), show V0 m ρ c main_arg6 = _ from W0_args m ρ c main_arg6 (by decide), show V0 m ρ c main_arg7 = _ from W0_args m ρ c main_arg7 (by decide)]

theorem end0_5 : W6 m ρ c (Proc.devRef .tc main_v0_1) = Adam.mom (m ((c : Thread nD τ).loc main_arg5) : Vec Ideal S2x512x256 .f32) (m ((c : Thread nD τ).loc main_arg6) : Vec Ideal S2x512x256 .f32) := by
  refine ((W6_of m ρ c main_v0_1 (by decide)).trans ((W5_of_ne m ρ c main_v0_1 (by decide)).trans ((W4_of m ρ c main_v0_1 (by decide)).trans ((W3_of_ne m ρ c main_v0_1 (by decide)).trans ((W2_of_ne m ρ c main_v0_1 (by decide)).trans ((W1_arr m ρ c 5).trans (arr0_5 (V0 m ρ) c))))))).trans ?_
  rw [show V0 m ρ c main_arg5 = _ from W0_args m ρ c main_arg5 (by decide), show V0 m ρ c main_arg6 = _ from W0_args m ρ c main_arg6 (by decide)]

theorem end0_6 : W6 m ρ c (Proc.devRef .tc main_v0_2) = Adam.sq (m ((c : Thread nD τ).loc main_arg5) : Vec Ideal S2x512x256 .f32) (m ((c : Thread nD τ).loc main_arg7) : Vec Ideal S2x512x256 .f32) := by
  refine ((W6_of m ρ c main_v0_2 (by decide)).trans ((W5_of_ne m ρ c main_v0_2 (by decide)).trans ((W4_of m ρ c main_v0_2 (by decide)).trans ((W3_of_ne m ρ c main_v0_2 (by decide)).trans ((W2_of_ne m ρ c main_v0_2 (by decide)).trans ((W1_arr m ρ c 6).trans (arr0_6 (V0 m ρ) c))))))).trans ?_
  rw [show V0 m ρ c main_arg5 = _ from W0_args m ρ c main_arg5 (by decide), show V0 m ρ c main_arg7 = _ from W0_args m ρ c main_arg7 (by decide)]

/-! ### Region 1 -/

theorem end1_4 : W6 m ρ c (Proc.devRef .tc main_v1_0) = Adam.delta (m ((c : Thread nD τ).loc main_arg8) : Vec Ideal S2x256x1024 .f32) (m ((c : Thread nD τ).loc main_arg9) : Vec Ideal S2x256x1024 .f32) (m ((c : Thread nD τ).loc main_arg10) : Vec Ideal S2x256x1024 .f32) (m ((c : Thread nD τ).loc main_arg11) : Vec Ideal S2x256x1024 .f32) := by
  refine ((W6_of m ρ c main_v1_0 (by decide)).trans ((W5_of_ne m ρ c main_v1_0 (by decide)).trans ((W4_of m ρ c main_v1_0 (by decide)).trans ((W3_of_ne m ρ c main_v1_0 (by decide)).trans ((W2_arr m ρ c 4).trans (arr1_4 (V1 m ρ) c)))))).trans ?_
  rw [show V1 m ρ c main_arg8 = _ from W1_args m ρ c main_arg8 (by decide), show V1 m ρ c main_arg9 = _ from W1_args m ρ c main_arg9 (by decide), show V1 m ρ c main_arg10 = _ from W1_args m ρ c main_arg10 (by decide), show V1 m ρ c main_arg11 = _ from W1_args m ρ c main_arg11 (by decide)]

theorem end1_5 : W6 m ρ c (Proc.devRef .tc main_v1_1) = Adam.mom (m ((c : Thread nD τ).loc main_arg9) : Vec Ideal S2x256x1024 .f32) (m ((c : Thread nD τ).loc main_arg10) : Vec Ideal S2x256x1024 .f32) := by
  refine ((W6_of m ρ c main_v1_1 (by decide)).trans ((W5_of_ne m ρ c main_v1_1 (by decide)).trans ((W4_of m ρ c main_v1_1 (by decide)).trans ((W3_of_ne m ρ c main_v1_1 (by decide)).trans ((W2_arr m ρ c 5).trans (arr1_5 (V1 m ρ) c)))))).trans ?_
  rw [show V1 m ρ c main_arg9 = _ from W1_args m ρ c main_arg9 (by decide), show V1 m ρ c main_arg10 = _ from W1_args m ρ c main_arg10 (by decide)]

theorem end1_6 : W6 m ρ c (Proc.devRef .tc main_v1_2) = Adam.sq (m ((c : Thread nD τ).loc main_arg9) : Vec Ideal S2x256x1024 .f32) (m ((c : Thread nD τ).loc main_arg11) : Vec Ideal S2x256x1024 .f32) := by
  refine ((W6_of m ρ c main_v1_2 (by decide)).trans ((W5_of_ne m ρ c main_v1_2 (by decide)).trans ((W4_of m ρ c main_v1_2 (by decide)).trans ((W3_of_ne m ρ c main_v1_2 (by decide)).trans ((W2_arr m ρ c 6).trans (arr1_6 (V1 m ρ) c)))))).trans ?_
  rw [show V1 m ρ c main_arg9 = _ from W1_args m ρ c main_arg9 (by decide), show V1 m ρ c main_arg11 = _ from W1_args m ρ c main_arg11 (by decide)]

/-! ### Region 2 -/

theorem end2_4 : W6 m ρ c (Proc.devRef .tc main_v2_0) = Adam.delta (m ((c : Thread nD τ).loc main_arg12) : Vec Ideal S2x512x256 .f32) (m ((c : Thread nD τ).loc main_arg13) : Vec Ideal S2x512x256 .f32) (m ((c : Thread nD τ).loc main_arg14) : Vec Ideal S2x512x256 .f32) (m ((c : Thread nD τ).loc main_arg15) : Vec Ideal S2x512x256 .f32) := by
  refine ((W6_of m ρ c main_v2_0 (by decide)).trans ((W5_of_ne m ρ c main_v2_0 (by decide)).trans ((W4_of m ρ c main_v2_0 (by decide)).trans ((W3_arr m ρ c 4).trans (arr2_4 (V2 m ρ) c))))).trans ?_
  rw [show V2 m ρ c main_arg12 = _ from W2_args m ρ c main_arg12 (by decide), show V2 m ρ c main_arg13 = _ from W2_args m ρ c main_arg13 (by decide), show V2 m ρ c main_arg14 = _ from W2_args m ρ c main_arg14 (by decide), show V2 m ρ c main_arg15 = _ from W2_args m ρ c main_arg15 (by decide)]

theorem end2_5 : W6 m ρ c (Proc.devRef .tc main_v2_1) = Adam.mom (m ((c : Thread nD τ).loc main_arg13) : Vec Ideal S2x512x256 .f32) (m ((c : Thread nD τ).loc main_arg14) : Vec Ideal S2x512x256 .f32) := by
  refine ((W6_of m ρ c main_v2_1 (by decide)).trans ((W5_of_ne m ρ c main_v2_1 (by decide)).trans ((W4_of m ρ c main_v2_1 (by decide)).trans ((W3_arr m ρ c 5).trans (arr2_5 (V2 m ρ) c))))).trans ?_
  rw [show V2 m ρ c main_arg13 = _ from W2_args m ρ c main_arg13 (by decide), show V2 m ρ c main_arg14 = _ from W2_args m ρ c main_arg14 (by decide)]

theorem end2_6 : W6 m ρ c (Proc.devRef .tc main_v2_2) = Adam.sq (m ((c : Thread nD τ).loc main_arg13) : Vec Ideal S2x512x256 .f32) (m ((c : Thread nD τ).loc main_arg15) : Vec Ideal S2x512x256 .f32) := by
  refine ((W6_of m ρ c main_v2_2 (by decide)).trans ((W5_of_ne m ρ c main_v2_2 (by decide)).trans ((W4_of m ρ c main_v2_2 (by decide)).trans ((W3_arr m ρ c 6).trans (arr2_6 (V2 m ρ) c))))).trans ?_
  rw [show V2 m ρ c main_arg13 = _ from W2_args m ρ c main_arg13 (by decide), show V2 m ρ c main_arg15 = _ from W2_args m ρ c main_arg15 (by decide)]

/-! ### Region 3 -/

theorem in3_0 : V4 m ρ c main_v7 = shapeCast S4x601x2x1024 (transpose S2404x2x1024 [2, 0, 1] (m ((c : Thread nD τ).loc main_arg0) : Vec Ideal S2x1024x2404 .f32) transposes_S2x1024x2404_S2404x2x1024_2_0_1) shapeCasts_S2404x2x1024_S4x601x2x1024 := by
  show StableHlo.after hostOps3 (W3 m ρ c) (Proc.devRef .tc main_v7) = _
  unfold hostOps3
  entry_read
  rw [W3_args m ρ c main_arg0 (by decide)]
  rfl

theorem in3_1 : V4 m ρ c main_v5 = shapeCast S4x601x2x1024 (transpose S2404x2x1024 [2, 0, 1] (m ((c : Thread nD τ).loc main_arg1) : Vec Ideal S2x1024x2404 .f32) transposes_S2x1024x2404_S2404x2x1024_2_0_1) shapeCasts_S2404x2x1024_S4x601x2x1024 := by
  show StableHlo.after hostOps3 (W3 m ρ c) (Proc.devRef .tc main_v5) = _
  unfold hostOps3
  entry_read
  rw [W3_args m ρ c main_arg1 (by decide)]
  rfl

theorem in3_2 : V4 m ρ c main_v9 = shapeCast S4x601x2x1024 (transpose S2404x2x1024 [2, 0, 1] (m ((c : Thread nD τ).loc main_arg2) : Vec Ideal S2x1024x2404 .f32) transposes_S2x1024x2404_S2404x2x1024_2_0_1) shapeCasts_S2404x2x1024_S4x601x2x1024 := by
  show StableHlo.after hostOps3 (W3 m ρ c) (Proc.devRef .tc main_v9) = _
  unfold hostOps3
  entry_read
  rw [W3_args m ρ c main_arg2 (by decide)]
  rfl

theorem in3_3 : V4 m ρ c main_v11 = shapeCast S4x601x2x1024 (transpose S2404x2x1024 [2, 0, 1] (m ((c : Thread nD τ).loc main_arg3) : Vec Ideal S2x1024x2404 .f32) transposes_S2x1024x2404_S2404x2x1024_2_0_1) shapeCasts_S2404x2x1024_S4x601x2x1024 := by
  show StableHlo.after hostOps3 (W3 m ρ c) (Proc.devRef .tc main_v11) = _
  unfold hostOps3
  entry_read
  rw [W3_args m ρ c main_arg3 (by decide)]
  rfl

theorem end3_4 : W6 m ρ c (Proc.devRef .tc main_v14) = Adam.delta (m ((c : Thread nD τ).loc main_arg0) : Vec Ideal S2x1024x2404 .f32) (m ((c : Thread nD τ).loc main_arg1) : Vec Ideal S2x1024x2404 .f32) (m ((c : Thread nD τ).loc main_arg2) : Vec Ideal S2x1024x2404 .f32) (m ((c : Thread nD τ).loc main_arg3) : Vec Ideal S2x1024x2404 .f32) := by
  have e : W6 m ρ c (Proc.devRef .tc main_v14) = transpose S2x1024x2404 [1, 2, 0] (shapeCast S2404x2x1024 (W5 m ρ c (Proc.devRef .tc main_v12_0) : Vec Ideal S4x601x2x1024 .f32) shapeCasts_S4x601x2x1024_S2404x2x1024) transposes_S2404x2x1024_S2x1024x2404_1_2_0 := by
    show StableHlo.after hostOps4 (W5 m ρ c) (Proc.devRef .tc main_v14) = _
    unfold hostOps4
    entry_read
    rfl
  refine (e).trans ?_
  rw [show W5 m ρ c (Proc.devRef .tc main_v12_0) = _ from (W5_arr m ρ c 4).trans (arr3_4 (V4 m ρ) c), show V4 m ρ c main_v7 = _ from in3_0 m ρ c, show V4 m ρ c main_v5 = _ from in3_1 m ρ c, show V4 m ρ c main_v9 = _ from in3_2 m ρ c, show V4 m ρ c main_v11 = _ from in3_3 m ρ c]
  exact Adam.delta_turn _ _ _ _ _ _ _ _

theorem end3_5 : W6 m ρ c (Proc.devRef .tc main_v16) = Adam.mom (m ((c : Thread nD τ).loc main_arg1) : Vec Ideal S2x1024x2404 .f32) (m ((c : Thread nD τ).loc main_arg2) : Vec Ideal S2x1024x2404 .f32) := by
  have e : W6 m ρ c (Proc.devRef .tc main_v16) = transpose S2x1024x2404 [1, 2, 0] (shapeCast S2404x2x1024 (W5 m ρ c (Proc.devRef .tc main_v12_1) : Vec Ideal S4x601x2x1024 .f32) shapeCasts_S4x601x2x1024_S2404x2x1024) transposes_S2404x2x1024_S2x1024x2404_1_2_0 := by
    show StableHlo.after hostOps4 (W5 m ρ c) (Proc.devRef .tc main_v16) = _
    unfold hostOps4
    entry_read
    rfl
  refine (e).trans ?_
  rw [show W5 m ρ c (Proc.devRef .tc main_v12_1) = _ from (W5_arr m ρ c 5).trans (arr3_5 (V4 m ρ) c), show V4 m ρ c main_v5 = _ from in3_1 m ρ c, show V4 m ρ c main_v9 = _ from in3_2 m ρ c]
  exact Adam.mom_turn _ _ _ _ _ _

theorem end3_6 : W6 m ρ c (Proc.devRef .tc main_v18) = Adam.sq (m ((c : Thread nD τ).loc main_arg1) : Vec Ideal S2x1024x2404 .f32) (m ((c : Thread nD τ).loc main_arg3) : Vec Ideal S2x1024x2404 .f32) := by
  have e : W6 m ρ c (Proc.devRef .tc main_v18) = transpose S2x1024x2404 [1, 2, 0] (shapeCast S2404x2x1024 (W5 m ρ c (Proc.devRef .tc main_v12_2) : Vec Ideal S4x601x2x1024 .f32) shapeCasts_S4x601x2x1024_S2404x2x1024) transposes_S2404x2x1024_S2x1024x2404_1_2_0 := by
    show StableHlo.after hostOps4 (W5 m ρ c) (Proc.devRef .tc main_v18) = _
    unfold hostOps4
    entry_read
    rfl
  refine (e).trans ?_
  rw [show W5 m ρ c (Proc.devRef .tc main_v12_2) = _ from (W5_arr m ρ c 6).trans (arr3_6 (V4 m ρ) c), show V4 m ρ c main_v5 = _ from in3_1 m ρ c, show V4 m ρ c main_v11 = _ from in3_3 m ρ c]
  exact Adam.sq_turn _ _ _ _ _ _

end Cert.Kernel6Ideal.Upd

end

end
-- ==== Proof.Run6.lean ====
/- The run of the program `Kernel6Ideal` with every buffer's final contents: an array that outlives the kernel regions ends
   at the last of the valuations that the regions' run goes through, `W6`. -/
module

public import proofs.«01_k».proof.Proof.Gen.Kernel6Ideal.Frame

@[expose] public section

set_option maxRecDepth 16384

noncomputable section

namespace Cert.Kernel6Ideal.Run

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W6`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W6 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c b hb => h c _ (mem_uc b hb))

end Cert.Kernel6Ideal.Run

end

end
-- ==== Proof.UpdClaim6.lean ====
/- The claims of `Kernel6`: the optimiser's step. -/
module

public import proofs.«01_k».proof.Defs
public import proofs.«01_k».proof.Proof.Gen.Kernel6
public import proofs.«01_k».proof.Proof.Gen.Kernel6.Frame
public import proofs.«01_k».proof.Proof.UpdEnd6
public import proofs.«01_k».proof.Proof.Run6
public import proofs.«01_k».proof.Proof.Gen.Reference6Ideal
public import proofs.«01_k».proof.Proof.Gen.Reference6Ideal.Run
public import proofs.«01_k».proof.Proof.Gen.Reference6Ideal.Read
public import Idealize.ShloMosaic.Lib.Claim
public import Idealize.ShloMosaic.Adequacy
public import Idealize.ShloMosaic.Init

@[expose] public section

set_option maxRecDepth 16384

noncomputable section

namespace Cert.Reference6Ideal.Upd

open Idealize.ShloMosaic Idealize.ShloMosaic.TcCoe
open Idealize.SL.Sem Cert.Reference6Ideal Cert.Reference6Ideal.Read

theorem ref0 (x0 x1 x2 x3 y0 y1 y2 y3 : Vec Ideal S2x1024x2404 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x1024x2404 .f32) (h1 : y1 = x1) (h2 : y2 = x2) : val_main_v4 (F := Ideal) y1 y2 = Adam.mom x1 x2 := by
  subst h1 h2
  rfl

theorem ref2 (x1 x3 y1 y3 : Vec Ideal S2x1024x2404 .f32) (h1 : y1 = x1) (h3 : y3 = x3) : val_main_v10 (F := Ideal) y1 y3 = Adam.sq x1 x3 := by
  subst h1 h3
  rfl

theorem ref3 (x0 x1 x2 x3 y0 y1 y2 y3 : Vec Ideal S2x512x256 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x512x256 .f32) (h1 : y1 = x1) (h2 : y2 = x2) : val_main_v28 (F := Ideal) y1 y2 = Adam.mom x1 x2 := by
  subst h1 h2
  rfl

theorem ref5 (x1 x3 y1 y3 : Vec Ideal S2x512x256 .f32) (h1 : y1 = x1) (h3 : y3 = x3) : val_main_v34 (F := Ideal) y1 y3 = Adam.sq x1 x3 := by
  subst h1 h3
  rfl

theorem ref6 (x0 x1 x2 x3 y0 y1 y2 y3 : Vec Ideal S2x256x1024 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S2x256x1024 .f32) (h1 : y1 = x1) (h2 : y2 = x2) : val_main_v52 (F := Ideal) y1 y2 = Adam.mom x1 x2 := by
  subst h1 h2
  rfl

theorem ref8 (x1 x3 y1 y3 : Vec Ideal S2x256x1024 .f32) (h1 : y1 = x1) (h3 : y3 = x3) : val_main_v58 (F := Ideal) y1 y3 = Adam.sq x1 x3 := by
  subst h1 h3
  rfl

theorem ref9 (x0 x1 x2 x3 y0 y1 y2 y3 : Vec Ideal S2x512x256 .f32) (h0 : y0 = x0) (h1 : y1 = x1) (h2 : y2 = x2) (h3 : y3 = x3) : val_main_v95 (F := Ideal) y0 y1 y2 y3 = Adam.delta x0 x1 x2 x3 := by
  subst h0 h1 h2 h3
  rfl

theorem ref10 (x1 x2 y1 y2 : Vec Ideal S2x512x256 .f32) (h1 : y1 = x1) (h2 : y2 = x2) : val_main_v76 (F := Ideal) y1 y2 = Adam.mom x1 x2 := by
  subst h1 h2
  rfl

theorem ref11 (x1 x3 y1 y3 : Vec Ideal S2x512x256 .f32) (h1 : y1 = x1) (h3 : y3 = x3) : val_main_v82 (F := Ideal) y1 y3 = Adam.sq x1 x3 := by
  subst h1 h3
  rfl

end Cert.Reference6Ideal.Upd

namespace Cert.Proof

open Idealize.ShloMosaic Idealize.SL.Sem
open Cert.Kernel6Ideal Cert.Kernel6Ideal.Gen Cert.Kernel6Ideal.Upd Cert.Reference6Ideal.Upd

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2.2.2.2.2.2.2.2.2.2.2.2,
      Idealize.ShloMosaic.sem_eq_zero_of_no_sems (by decide) r.2⟩)
     (Cert.Reference6Ideal.Value.run (F := Ideal) m ρ)

theorem algebraic6 : Cert.algebraic_Kernel6Ideal_Reference6Ideal := by
  intro m g m' g' hpre hagree
  refine ⟨fun c => Adam.delta (s := S2x1024x2404) (m ((c.tc : Thread nD τ).loc main_arg0)) (m ((c.tc : Thread nD τ).loc main_arg1)) (m ((c.tc : Thread nD τ).loc main_arg2)) (m ((c.tc : Thread nD τ).loc main_arg3)),
    fun c => Adam.mom (s := S2x1024x2404) (m ((c.tc : Thread nD τ).loc main_arg1)) (m ((c.tc : Thread nD τ).loc main_arg2)),
    fun c => Adam.sq (s := S2x1024x2404) (m ((c.tc : Thread nD τ).loc main_arg1)) (m ((c.tc : Thread nD τ).loc main_arg3)),
    fun c => Adam.delta (s := S2x512x256) (m ((c.tc : Thread nD τ).loc main_arg4)) (m ((c.tc : Thread nD τ).loc main_arg5)) (m ((c.tc : Thread nD τ).loc main_arg6)) (m ((c.tc : Thread nD τ).loc main_arg7)),
    fun c => Adam.mom (s := S2x512x256) (m ((c.tc : Thread nD τ).loc main_arg5)) (m ((c.tc : Thread nD τ).loc main_arg6)),
    fun c => Adam.sq (s := S2x512x256) (m ((c.tc : Thread nD τ).loc main_arg5)) (m ((c.tc : Thread nD τ).loc main_arg7)),
    fun c => Adam.delta (s := S2x256x1024) (m ((c.tc : Thread nD τ).loc main_arg8)) (m ((c.tc : Thread nD τ).loc main_arg9)) (m ((c.tc : Thread nD τ).loc main_arg10)) (m ((c.tc : Thread nD τ).loc main_arg11)),
    fun c => Adam.mom (s := S2x256x1024) (m ((c.tc : Thread nD τ).loc main_arg9)) (m ((c.tc : Thread nD τ).loc main_arg10)),
    fun c => Adam.sq (s := S2x256x1024) (m ((c.tc : Thread nD τ).loc main_arg9)) (m ((c.tc : Thread nD τ).loc main_arg11)),
    fun c => Adam.delta (s := S2x512x256) (m ((c.tc : Thread nD τ).loc main_arg12)) (m ((c.tc : Thread nD τ).loc main_arg13)) (m ((c.tc : Thread nD τ).loc main_arg14)) (m ((c.tc : Thread nD τ).loc main_arg15)),
    fun c => Adam.mom (s := S2x512x256) (m ((c.tc : Thread nD τ).loc main_arg13)) (m ((c.tc : Thread nD τ).loc main_arg14)),
    fun c => Adam.sq (s := S2x512x256) (m ((c.tc : Thread nD τ).loc main_arg13)) (m ((c.tc : Thread nD τ).loc main_arg15)),
    (θ_run Cert.Kernel6Ideal.defs _ _).mono (fun r h c => ⟨(h c main_v14 (by decide)).trans (end3_4 m g c),
      (h c main_v16 (by decide)).trans (end3_5 m g c),
      (h c main_v18 (by decide)).trans (end3_6 m g c),
      (h c main_v0_0 (by decide)).trans (end0_4 m g c),
      (h c main_v0_1 (by decide)).trans (end0_5 m g c),
      (h c main_v0_2 (by decide)).trans (end0_6 m g c),
      (h c main_v1_0 (by decide)).trans (end1_4 m g c),
      (h c main_v1_1 (by decide)).trans (end1_5 m g c),
      (h c main_v1_2 (by decide)).trans (end1_6 m g c),
      (h c main_v2_0 (by decide)).trans (end2_4 m g c),
      (h c main_v2_1 (by decide)).trans (end2_5 m g c),
      (h c main_v2_2 (by decide)).trans (end2_6 m g c),
      (h c main_arg0 (by decide)).trans (W6_args m g c main_arg0 (by decide)),
      (h c main_arg1 (by decide)).trans (W6_args m g c main_arg1 (by decide)),
      (h c main_arg2 (by decide)).trans (W6_args m g c main_arg2 (by decide)),
      (h c main_arg3 (by decide)).trans (W6_args m g c main_arg3 (by decide)),
      (h c main_arg4 (by decide)).trans (W6_args m g c main_arg4 (by decide)),
      (h c main_arg5 (by decide)).trans (W6_args m g c main_arg5 (by decide)),
      (h c main_arg6 (by decide)).trans (W6_args m g c main_arg6 (by decide)),
      (h c main_arg7 (by decide)).trans (W6_args m g c main_arg7 (by decide)),
      (h c main_arg8 (by decide)).trans (W6_args m g c main_arg8 (by decide)),
      (h c main_arg9 (by decide)).trans (W6_args m g c main_arg9 (by decide)),
      (h c main_arg10 (by decide)).trans (W6_args m g c main_arg10 (by decide)),
      (h c main_arg11 (by decide)).trans (W6_args m g c main_arg11 (by decide)),
      (h c main_arg12 (by decide)).trans (W6_args m g c main_arg12 (by decide)),
      (h c main_arg13 (by decide)).trans (W6_args m g c main_arg13 (by decide)),
      (h c main_arg14 (by decide)).trans (W6_args m g c main_arg14 (by decide)),
      (h c main_arg15 (by decide)).trans (W6_args m g c main_arg15 (by decide))⟩)
      (Cert.Kernel6Ideal.Run.ends (F := Ideal) m g), ?_⟩
  refine (θ_run Cert.Reference6Ideal.defs _ _).mono (fun r h c => ?_) (Cert.Reference6Ideal.Value.run (F := Ideal) m' g')
  obtain ⟨h0, h1, h2, h3, h4, h5, h6, h7, h8, h9, h10, h11, hk⟩ := h c
  obtain ⟨a0, a1, a2, a3, a4, a5, a6, a7, a8, a9, a10, a11, a12, a13, a14, a15⟩ := hagree c
  exact ⟨(h0.trans (Cert.Reference6Ideal.Read.val_main_v23_eq _ _ _ _)).trans (ref0 _ _ _ _ _ _ _ _ a0 a1 a2 a3),
    (h1.trans (Cert.Reference6Ideal.Read.val_main_v4_eq _ _)).trans (ref1 _ _ _ _ a1 a2),
    (h2.trans (Cert.Reference6Ideal.Read.val_main_v10_eq _ _)).trans (ref2 _ _ _ _ a1 a3),
    (h3.trans (Cert.Reference6Ideal.Read.val_main_v47_eq _ _ _ _)).trans (ref3 _ _ _ _ _ _ _ _ a4 a5 a6 a7),
    (h4.trans (Cert.Reference6Ideal.Read.val_main_v28_eq _ _)).trans (ref4 _ _ _ _ a5 a6),
    (h5.trans (Cert.Reference6Ideal.Read.val_main_v34_eq _ _)).trans (ref5 _ _ _ _ a5 a7),
    (h6.trans (Cert.Reference6Ideal.Read.val_main_v71_eq _ _ _ _)).trans (ref6 _ _ _ _ _ _ _ _ a8 a9 a10 a11),
    (h7.trans (Cert.Reference6Ideal.Read.val_main_v52_eq _ _)).trans (ref7 _ _ _ _ a9 a10),
    (h8.trans (Cert.Reference6Ideal.Read.val_main_v58_eq _ _)).trans (ref8 _ _ _ _ a9 a11),
    (h9.trans (Cert.Reference6Ideal.Read.val_main_v95_eq _ _ _ _)).trans (ref9 _ _ _ _ _ _ _ _ a12 a13 a14 a15),
    (h10.trans (Cert.Reference6Ideal.Read.val_main_v76_eq _ _)).trans (ref10 _ _ _ _ a13 a14),
    (h11.trans (Cert.Reference6Ideal.Read.val_main_v82_eq _ _)).trans (ref11 _ _ _ _ a13 a15),
    hk⟩

end Cert.Proof

end

end
-- ==== Proof.Upd7.lean ====
/- The regions of `Kernel7Ideal`, the optimiser's step on one weight each: what every region's three output arrays end as. -/
module

public import proofs.«01_k».proof.Proof.Adam
public import proofs.«01_k».proof.Proof.Gen.Kernel7Ideal.Frame

@[expose] public section

set_option maxRecDepth 16384

noncomputable section

namespace Cert.Kernel7Ideal.Upd

open Idealize.ShloMosaic Idealize.ShloMosaic.TcCoe
open Idealize.SL.Sem Cert.Kernel7Ideal Cert.Kernel7Ideal.Gen

variable (V : (c : Dev nD) → (b : Ref sig .tc) → Buf (Elt Ideal) ((c : Thread nD τ).loc b)) (c : Dev nD)

/-! ### Region 0 -/

theorem outs0_4 (x0 x1 x2 x3 : Vec Ideal S1x256x1024 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, shapeCast_self]
  rfl

theorem arr0_4 : (dat0 (F := Ideal) V c).arrAt 4 cfg0.N =
    Adam.delta (s := S2x256x1024) (V c main_arg0) (V c main_arg1) (V c main_arg2) (V c main_arg3) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x256x1024 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, shapeCast_self]
  rfl

theorem arr0_5 : (dat0 (F := Ideal) V c).arrAt 5 cfg0.N =
    Adam.mom (s := S2x256x1024) (V c main_arg1) (V c main_arg2) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x256x1024 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, shapeCast_self]
  rfl

theorem arr0_6 : (dat0 (F := Ideal) V c).arrAt 6 cfg0.N =
    Adam.sq (s := S2x256x1024) (V c main_arg1) (V c main_arg3) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x2x1024 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, k1_pay4, shapeCast_self]
  rfl

theorem arr1_4 : (dat1 (F := Ideal) V c).arrAt 4 cfg1.N =
    Adam.delta (s := S1x2x1024) (V c main_v1) (V c main_v2) (V c main_v3) (V c main_v4) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x2x1024 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, k1_pay4, shapeCast_self]
  rfl

theorem arr1_5 : (dat1 (F := Ideal) V c).arrAt 5 cfg1.N =
    Adam.mom (s := S1x2x1024) (V c main_v2) (V c main_v3) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x2x1024 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, k1_pay4, shapeCast_self]
  rfl

theorem arr1_6 : (dat1 (F := Ideal) V c).arrAt 6 cfg1.N =
    Adam.sq (s := S1x2x1024) (V c main_v2) (V c main_v4) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x4x320 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, shapeCast_self]
  rfl

theorem arr2_4 : (dat2 (F := Ideal) V c).arrAt 4 cfg2.N =
    Adam.delta (s := S2x4x320) (V c main_arg8) (V c main_arg9) (V c main_arg10) (V c main_arg11) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x4x320 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, shapeCast_self]
  rfl

theorem arr2_5 : (dat2 (F := Ideal) V c).arrAt 5 cfg2.N =
    Adam.mom (s := S2x4x320) (V c main_arg9) (V c main_arg10) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x4x320 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, shapeCast_self]
  rfl

theorem arr2_6 : (dat2 (F := Ideal) V c).arrAt 6 cfg2.N =
    Adam.sq (s := S2x4x320) (V c main_arg9) (V c main_arg11) := by
  refine (dat2 V c).arrAt_eq_of_covers 6 _ (by decide +kernel) fun t hf y => ?_
  blk_simp
  rw [after2_6, outs2_6]
  exact Adam.sq_read (fun i => (win2_6.blk t).view.emb i) _ _ y

/-! ### Region 3 -/

theorem outs3_4 (x0 x1 x2 x3 : Vec Ideal S1x2x1280 .f32) : out3_4 (F := Ideal) x0 x1 x2 x3 = Adam.delta x0 x1 x2 x3 := by
  unfold out3_4
  rw [View.canon_cons_unit_lit _ _ _ (by decide)]
  repeat rw [View.ld_unit_lit _ _ (by decide)]
  simp only [k3_pay1, k3_pay2, k3_pay3, k3_pay4, shapeCast_self]
  rfl

theorem arr3_4 : (dat3 (F := Ideal) V c).arrAt 4 cfg3.N =
    Adam.delta (s := S1x2x1280) (V c main_v10) (V c main_v11) (V c main_v12) (V c main_v13) := by
  refine (dat3 V c).arrAt_eq_of_covers 4 _ (by decide +kernel) fun t hf y => ?_
  blk_simp
  rw [after3_4, outs3_4]
  exact Adam.delta_read (fun i => (win3_4.blk t).view.emb i) _ _ _ _ y

theorem outs3_5 (x0 x1 x2 x3 : Vec Ideal S1x2x1280 .f32) : out3_5 (F := Ideal) x0 x1 x2 x3 = Adam.mom x1 x2 := by
  unfold out3_5
  rw [View.canon_cons_unit_lit _ _ _ (by decide)]
  repeat rw [View.ld_unit_lit _ _ (by decide)]
  simp only [k3_pay1, k3_pay2, k3_pay3, k3_pay4, shapeCast_self]
  rfl

theorem arr3_5 : (dat3 (F := Ideal) V c).arrAt 5 cfg3.N =
    Adam.mom (s := S1x2x1280) (V c main_v11) (V c main_v12) := by
  refine (dat3 V c).arrAt_eq_of_covers 5 _ (by decide +kernel) fun t hf y => ?_
  blk_simp
  rw [after3_5, outs3_5]
  exact Adam.mom_read (fun i => (win3_5.blk t).view.emb i) _ _ y

theorem outs3_6 (x0 x1 x2 x3 : Vec Ideal S1x2x1280 .f32) : out3_6 (F := Ideal) x0 x1 x2 x3 = Adam.sq x1 x3 := by
  unfold out3_6
  rw [View.canon_cons_unit_lit _ _ _ (by decide)]
  repeat rw [View.ld_unit_lit _ _ (by decide)]
  simp only [k3_pay1, k3_pay2, k3_pay3, k3_pay4, shapeCast_self]
  rfl

theorem arr3_6 : (dat3 (F := Ideal) V c).arrAt 6 cfg3.N =
    Adam.sq (s := S1x2x1280) (V c main_v11) (V c main_v13) := by
  refine (dat3 V c).arrAt_eq_of_covers 6 _ (by decide +kernel) fun t hf y => ?_
  blk_simp
  rw [after3_6, outs3_6]
  exact Adam.sq_read (fun i => (win3_6.blk t).view.emb i) _ _ y

end Cert.Kernel7Ideal.Upd

end

end
-- ==== Proof.UpdEnd7.lean ====
/- What the results of `Kernel7Ideal` end as: the optimiser's step of each weight, from the arguments. -/
module

public import proofs.«01_k».proof.Proof.Upd7

@[expose] public section

set_option maxRecDepth 16384

noncomputable section

namespace Cert.Kernel7Ideal.Upd

open Idealize.ShloMosaic Idealize.ShloMosaic.TcCoe
open Idealize.SL.Sem Cert.Kernel7Ideal Cert.Kernel7Ideal.Gen

variable (m : (ℓ : Loc nD τ sig) → Buf (Elt Ideal) ℓ) (ρ : Dev nD → PrngReg) (c : Dev nD)

/-! ### Region 0 -/

theorem end0_4 : W8 m ρ c (Proc.devRef .tc main_v0_0) = Adam.delta (m ((c : Thread nD τ).loc main_arg0) : Vec Ideal S2x256x1024 .f32) (m ((c : Thread nD τ).loc main_arg1) : Vec Ideal S2x256x1024 .f32) (m ((c : Thread nD τ).loc main_arg2) : Vec Ideal S2x256x1024 .f32) (m ((c : Thread nD τ).loc main_arg3) : Vec Ideal S2x256x1024 .f32) := by
  refine ((W8_of m ρ c main_v0_0 (by decide)).trans ((W7_of_ne m ρ c main_v0_0 (by decide)).trans ((W6_of m ρ c main_v0_0 (by decide)).trans ((W5_of_ne m ρ c main_v0_0 (by decide)).trans ((W4_of m ρ c main_v0_0 (by decide)).trans ((W3_of_ne m ρ c main_v0_0 (by decide)).trans ((W2_of m ρ c main_v0_0 (by decide)).trans ((W1_arr m ρ c 4).trans (arr0_4 (V0 m ρ) c))))))))).trans ?_
  rw [show V0 m ρ c main_arg0 = _ from W0_args m ρ c main_arg0 (by decide), show V0 m ρ c main_arg1 = _ from W0_args m ρ c main_arg1 (by decide), show V0 m ρ c main_arg2 = _ from W0_args m ρ c main_arg2 (by decide), show V0 m ρ c main_arg3 = _ from W0_args m ρ c main_arg3 (by decide)]

theorem end0_5 : W8 m ρ c (Proc.devRef .tc main_v0_1) = Adam.mom (m ((c : Thread nD τ).loc main_arg1) : Vec Ideal S2x256x1024 .f32) (m ((c : Thread nD τ).loc main_arg2) : Vec Ideal S2x256x1024 .f32) := by
  refine ((W8_of m ρ c main_v0_1 (by decide)).trans ((W7_of_ne m ρ c main_v0_1 (by decide)).trans ((W6_of m ρ c main_v0_1 (by decide)).trans ((W5_of_ne m ρ c main_v0_1 (by decide)).trans ((W4_of m ρ c main_v0_1 (by decide)).trans ((W3_of_ne m ρ c main_v0_1 (by decide)).trans ((W2_of m ρ c main_v0_1 (by decide)).trans ((W1_arr m ρ c 5).trans (arr0_5 (V0 m ρ) c))))))))).trans ?_
  rw [show V0 m ρ c main_arg1 = _ from W0_args m ρ c main_arg1 (by decide), show V0 m ρ c main_arg2 = _ from W0_args m ρ c main_arg2 (by decide)]

theorem end0_6 : W8 m ρ c (Proc.devRef .tc main_v0_2) = Adam.sq (m ((c : Thread nD τ).loc main_arg1) : Vec Ideal S2x256x1024 .f32) (m ((c : Thread nD τ).loc main_arg3) : Vec Ideal S2x256x1024 .f32) := by
  refine ((W8_of m ρ c main_v0_2 (by decide)).trans ((W7_of_ne m ρ c main_v0_2 (by decide)).trans ((W6_of m ρ c main_v0_2 (by decide)).trans ((W5_of_ne m ρ c main_v0_2 (by decide)).trans ((W4_of m ρ c main_v0_2 (by decide)).trans ((W3_of_ne m ρ c main_v0_2 (by decide)).trans ((W2_of m ρ c main_v0_2 (by decide)).trans ((W1_arr m ρ c 6).trans (arr0_6 (V0 m ρ) c))))))))).trans ?_
  rw [show V0 m ρ c main_arg1 = _ from W0_args m ρ c main_arg1 (by decide), show V0 m ρ c main_arg3 = _ from W0_args m ρ c main_arg3 (by decide)]

/-! ### Region 1 -/

theorem in1_0 : V2 m ρ c main_v1 = shapeCast S1x2x1024 (m ((c : Thread nD τ).loc main_arg4) : Vec Ideal S2x1024 .f32) shapeCasts_S2x1024_S1x2x1024 := by
  show StableHlo.after hostOps1 (W1 m ρ c) (Proc.devRef .tc main_v1) = _
  unfold hostOps1
  entry_read
  rw [W1_args m ρ c main_arg4 (by decide)]
  rfl

theorem in1_1 : V2 m ρ c main_v2 = shapeCast S1x2x1024 (m ((c : Thread nD τ).loc main_arg5) : Vec Ideal S2x1024 .f32) shapeCasts_S2x1024_S1x2x1024 := by
  show StableHlo.after hostOps1 (W1 m ρ c) (Proc.devRef .tc main_v2) = _
  unfold hostOps1
  entry_read
  rw [W1_args m ρ c main_arg5 (by decide)]
  rfl

theorem in1_2 : V2 m ρ c main_v3 = shapeCast S1x2x1024 (m ((c : Thread nD τ).loc main_arg6) : Vec Ideal S2x1024 .f32) shapeCasts_S2x1024_S1x2x1024 := by
  show StableHlo.after hostOps1 (W1 m ρ c) (Proc.devRef .tc main_v3) = _
  unfold hostOps1
  entry_read
  rw [W1_args m ρ c main_arg6 (by decide)]
  rfl

theorem in1_3 : V2 m ρ c main_v4 = shapeCast S1x2x1024 (m ((c : Thread nD τ).loc main_arg7) : Vec Ideal S2x1024 .f32) shapeCasts_S2x1024_S1x2x1024 := by
  show StableHlo.after hostOps1 (W1 m ρ c) (Proc.devRef .tc main_v4) = _
  unfold hostOps1
  entry_read
  rw [W1_args m ρ c main_arg7 (by decide)]
  rfl

theorem end1_4 : W8 m ρ c (Proc.devRef .tc main_v6) = Adam.delta (m ((c : Thread nD τ).loc main_arg4) : Vec Ideal S2x1024 .f32) (m ((c : Thread nD τ).loc main_arg5) : Vec Ideal S2x1024 .f32) (m ((c : Thread nD τ).loc main_arg6) : Vec Ideal S2x1024 .f32) (m ((c : Thread nD τ).loc main_arg7) : Vec Ideal S2x1024 .f32) := by
  have e : W4 m ρ c (Proc.devRef .tc main_v6) = shapeCast S2x1024 (W3 m ρ c (Proc.devRef .tc main_v5_0) : Vec Ideal S1x2x1024 .f32) shapeCasts_S1x2x1024_S2x1024 := by
    show StableHlo.after hostOps2 (W3 m ρ c) (Proc.devRef .tc main_v6) = _
    unfold hostOps2
    entry_read
    rfl
  refine ((W8_of m ρ c main_v6 (by decide)).trans ((W7_of_ne m ρ c main_v6 (by decide)).trans ((W6_of m ρ c main_v6 (by decide)).trans ((W5_of_ne m ρ c main_v6 (by decide)).trans (e))))).trans ?_
  rw [show W3 m ρ c (Proc.devRef .tc main_v5_0) = _ from (W3_arr m ρ c 4).trans (arr1_4 (V2 m ρ) c), show V2 m ρ c main_v1 = _ from in1_0 m ρ c, show V2 m ρ c main_v2 = _ from in1_1 m ρ c, show V2 m ρ c main_v3 = _ from in1_2 m ρ c, show V2 m ρ c main_v4 = _ from in1_3 m ρ c]
  exact Adam.delta_cast _ _ _ _ _ _

theorem end1_5 : W8 m ρ c (Proc.devRef .tc main_v7) = Adam.mom (m ((c : Thread nD τ).loc main_arg5) : Vec Ideal S2x1024 .f32) (m ((c : Thread nD τ).loc main_arg6) : Vec Ideal S2x1024 .f32) := by
  have e : W4 m ρ c (Proc.devRef .tc main_v7) = shapeCast S2x1024 (W3 m ρ c (Proc.devRef .tc main_v5_1) : Vec Ideal S1x2x1024 .f32) shapeCasts_S1x2x1024_S2x1024 := by
    show StableHlo.after hostOps2 (W3 m ρ c) (Proc.devRef .tc main_v7) = _
    unfold hostOps2
    entry_read
    rfl
  refine ((W8_of m ρ c main_v7 (by decide)).trans ((W7_of_ne m ρ c main_v7 (by decide)).trans ((W6_of m ρ c main_v7 (by decide)).trans ((W5_of_ne m ρ c main_v7 (by decide)).trans (e))))).trans ?_
  rw [show W3 m ρ c (Proc.devRef .tc main_v5_1) = _ from (W3_arr m ρ c 5).trans (arr1_5 (V2 m ρ) c), show V2 m ρ c main_v2 = _ from in1_1 m ρ c, show V2 m ρ c main_v3 = _ from in1_2 m ρ c]
  exact Adam.mom_cast _ _ _ _

theorem end1_6 : W8 m ρ c (Proc.devRef .tc main_v8) = Adam.sq (m ((c : Thread nD τ).loc main_arg5) : Vec Ideal S2x1024 .f32) (m ((c : Thread nD τ).loc main_arg7) : Vec Ideal S2x1024 .f32) := by
  have e : W4 m ρ c (Proc.devRef .tc main_v8) = shapeCast S2x1024 (W3 m ρ c (Proc.devRef .tc main_v5_2) : Vec Ideal S1x2x1024 .f32) shapeCasts_S1x2x1024_S2x1024 := by
    show StableHlo.after hostOps2 (W3 m ρ c) (Proc.devRef .tc main_v8) = _
    unfold hostOps2
    entry_read
    rfl
  refine ((W8_of m ρ c main_v8 (by decide)).trans ((W7_of_ne m ρ c main_v8 (by decide)).trans ((W6_of m ρ c main_v8 (by decide)).trans ((W5_of_ne m ρ c main_v8 (by decide)).trans (e))))).trans ?_
  rw [show W3 m ρ c (Proc.devRef .tc main_v5_2) = _ from (W3_arr m ρ c 6).trans (arr1_6 (V2 m ρ) c), show V2 m ρ c main_v2 = _ from in1_1 m ρ c, show V2 m ρ c main_v4 = _ from in1_3 m ρ c]
  exact Adam.sq_cast _ _ _ _

/-! ### Region 2 -/

theorem end2_4 : W8 m ρ c (Proc.devRef .tc main_v9_0) = Adam.delta (m ((c : Thread nD τ).loc main_arg8) : Vec Ideal S2x4x320 .f32) (m ((c : Thread nD τ).loc main_arg9) : Vec Ideal S2x4x320 .f32) (m ((c : Thread nD τ).loc main_arg10) : Vec Ideal S2x4x320 .f32) (m ((c : Thread nD τ).loc main_arg11) : Vec Ideal S2x4x320 .f32) := by
  refine ((W8_of m ρ c main_v9_0 (by decide)).trans ((W7_of_ne m ρ c main_v9_0 (by decide)).trans ((W6_of m ρ c main_v9_0 (by decide)).trans ((W5_arr m ρ c 4).trans (arr2_4 (V4 m ρ) c))))).trans ?_
  rw [show V4 m ρ c main_arg8 = _ from W4_args m ρ c main_arg8 (by decide), show V4 m ρ c main_arg9 = _ from W4_args m ρ c main_arg9 (by decide), show V4 m ρ c main_arg10 = _ from W4_args m ρ c main_arg10 (by decide), show V4 m ρ c main_arg11 = _ from W4_args m ρ c main_arg11 (by decide)]

theorem end2_5 : W8 m ρ c (Proc.devRef .tc main_v9_1) = Adam.mom (m ((c : Thread nD τ).loc main_arg9) : Vec Ideal S2x4x320 .f32) (m ((c : Thread nD τ).loc main_arg10) : Vec Ideal S2x4x320 .f32) := by
  refine ((W8_of m ρ c main_v9_1 (by decide)).trans ((W7_of_ne m ρ c main_v9_1 (by decide)).trans ((W6_of m ρ c main_v9_1 (by decide)).trans ((W5_arr m ρ c 5).trans (arr2_5 (V4 m ρ) c))))).trans ?_
  rw [show V4 m ρ c main_arg9 = _ from W4_args m ρ c main_arg9 (by decide), show V4 m ρ c main_arg10 = _ from W4_args m ρ c main_arg10 (by decide)]

theorem end2_6 : W8 m ρ c (Proc.devRef .tc main_v9_2) = Adam.sq (m ((c : Thread nD τ).loc main_arg9) : Vec Ideal S2x4x320 .f32) (m ((c : Thread nD τ).loc main_arg11) : Vec Ideal S2x4x320 .f32) := by
  refine ((W8_of m ρ c main_v9_2 (by decide)).trans ((W7_of_ne m ρ c main_v9_2 (by decide)).trans ((W6_of m ρ c main_v9_2 (by decide)).trans ((W5_arr m ρ c 6).trans (arr2_6 (V4 m ρ) c))))).trans ?_
  rw [show V4 m ρ c main_arg9 = _ from W4_args m ρ c main_arg9 (by decide), show V4 m ρ c main_arg11 = _ from W4_args m ρ c main_arg11 (by decide)]

/-! ### Region 3 -/

theorem in3_0 : V6 m ρ c main_v10 = shapeCast S1x2x1280 (m ((c : Thread nD τ).loc main_arg12) : Vec Ideal S2x1280 .f32) shapeCasts_S2x1280_S1x2x1280 := by
  show StableHlo.after hostOps3 (W5 m ρ c) (Proc.devRef .tc main_v10) = _
  unfold hostOps3
  entry_read
  rw [W5_args m ρ c main_arg12 (by decide)]
  rfl

theorem in3_1 : V6 m ρ c main_v11 = shapeCast S1x2x1280 (m ((c : Thread nD τ).loc main_arg13) : Vec Ideal S2x1280 .f32) shapeCasts_S2x1280_S1x2x1280 := by
  show StableHlo.after hostOps3 (W5 m ρ c) (Proc.devRef .tc main_v11) = _
  unfold hostOps3
  entry_read
  rw [W5_args m ρ c main_arg13 (by decide)]
  rfl

theorem in3_2 : V6 m ρ c main_v12 = shapeCast S1x2x1280 (m ((c : Thread nD τ).loc main_arg14) : Vec Ideal S2x1280 .f32) shapeCasts_S2x1280_S1x2x1280 := by
  show StableHlo.after hostOps3 (W5 m ρ c) (Proc.devRef .tc main_v12) = _
  unfold hostOps3
  entry_read
  rw [W5_args m ρ c main_arg14 (by decide)]
  rfl

theorem in3_3 : V6 m ρ c main_v13 = shapeCast S1x2x1280 (m ((c : Thread nD τ).loc main_arg15) : Vec Ideal S2x1280 .f32) shapeCasts_S2x1280_S1x2x1280 := by
  show StableHlo.after hostOps3 (W5 m ρ c) (Proc.devRef .tc main_v13) = _
  unfold hostOps3
  entry_read
  rw [W5_args m ρ c main_arg15 (by decide)]
  rfl

theorem end3_4 : W8 m ρ c (Proc.devRef .tc main_v15) = Adam.delta (m ((c : Thread nD τ).loc main_arg12) : Vec Ideal S2x1280 .f32) (m ((c : Thread nD τ).loc main_arg13) : Vec Ideal S2x1280 .f32) (m ((c : Thread nD τ).loc main_arg14) : Vec Ideal S2x1280 .f32) (m ((c : Thread nD τ).loc main_arg15) : Vec Ideal S2x1280 .f32) := by
  have e : W8 m ρ c (Proc.devRef .tc main_v15) = shapeCast S2x1280 (W7 m ρ c (Proc.devRef .tc main_v14_0) : Vec Ideal S1x2x1280 .f32) shapeCasts_S1x2x1280_S2x1280 := by
    show StableHlo.after hostOps4 (W7 m ρ c) (Proc.devRef .tc main_v15) = _
    unfold hostOps4
    entry_read
    rfl
  refine (e).trans ?_
  rw [show W7 m ρ c (Proc.devRef .tc main_v14_0) = _ from (W7_arr m ρ c 4).trans (arr3_4 (V6 m ρ) c), show V6 m ρ c main_v10 = _ from in3_0 m ρ c, show V6 m ρ c main_v11 = _ from in3_1 m ρ c, show V6 m ρ c main_v12 = _ from in3_2 m ρ c, show V6 m ρ c main_v13 = _ from in3_3 m ρ c]
  exact Adam.delta_cast _ _ _ _ _ _

theorem end3_5 : W8 m ρ c (Proc.devRef .tc main_v16) = Adam.mom (m ((c : Thread nD τ).loc main_arg13) : Vec Ideal S2x1280 .f32) (m ((c : Thread nD τ).loc main_arg14) : Vec Ideal S2x1280 .f32) := by
  have e : W8 m ρ c (Proc.devRef .tc main_v16) = shapeCast S2x1280 (W7 m ρ c (Proc.devRef .tc main_v14_1) : Vec Ideal S1x2x1280 .f32) shapeCasts_S1x2x1280_S2x1280 := by
    show StableHlo.after hostOps4 (W7 m ρ c) (Proc.devRef .tc main_v16) = _
    unfold hostOps4
    entry_read
    rfl
  refine (e).trans ?_
  rw [show W7 m ρ c (Proc.devRef .tc main_v14_1) = _ from (W7_arr m ρ c 5).trans (arr3_5 (V6 m ρ) c), show V6 m ρ c main_v11 = _ from in3_1 m ρ c, show V6 m ρ c main_v12 = _ from in3_2 m ρ c]
  exact Adam.mom_cast _ _ _ _

theorem end3_6 : W8 m ρ c (Proc.devRef .tc main_v17) = Adam.sq (m ((c : Thread nD τ).loc main_arg13) : Vec Ideal S2x1280 .f32) (m ((c : Thread nD τ).loc main_arg15) : Vec Ideal S2x1280 .f32) := by
  have e : W8 m ρ c (Proc.devRef .tc main_v17) = shapeCast S2x1280 (W7 m ρ c (Proc.devRef .tc main_v14_2) : Vec Ideal S1x2x1280 .f32) shapeCasts_S1x2x1280_S2x1280 := by
    show StableHlo.after hostOps4 (W7 m ρ c) (Proc.devRef .tc main_v17) = _
    unfold hostOps4
    entry_read
    rfl
  refine (e).trans ?_
  rw [show W7 m ρ c (Proc.devRef .tc main_v14_2) = _ from (W7_arr m ρ c 6).trans (arr3_6 (V6 m ρ) c), show V6 m ρ c main_v11 = _ from in3_1 m ρ c, show V6 m ρ c main_v13 = _ from in3_3 m ρ c]
  exact Adam.sq_cast _ _ _ _

end Cert.Kernel7Ideal.Upd

end

end
-- ==== Proof.Run7.lean ====
/- The run of the program `Kernel7Ideal` with every buffer's final contents: an array that outlives the kernel regions ends
   at the last of the valuations that the regions' run goes through, `W8`. -/
module

public import proofs.«01_k».proof.Proof.Gen.Kernel7Ideal.Frame

@[expose] public section

set_option maxRecDepth 16384

noncomputable section

namespace Cert.Kernel7Ideal.Run

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W8`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W8 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c b hb => h c _ (mem_uc b hb))

end Cert.Kernel7Ideal.Run

end

end
-- ==== Proof.UpdClaim7.lean ====
/- The claims of `Kernel7`: the optimiser's step. -/
module

public import proofs.«01_k».proof.Defs
public import proofs.«01_k».proof.Proof.Gen.Kernel7
public import proofs.«01_k».proof.Proof.Gen.Kernel7.Frame
public import proofs.«01_k».proof.Proof.UpdEnd7
public import proofs.«01_k».proof.Proof.Run7
public import proofs.«01_k».proof.Proof.Gen.Reference7Ideal
public import proofs.«01_k».proof.Proof.Gen.Reference7Ideal.Run
public import proofs.«01_k».proof.Proof.Gen.Reference7Ideal.Read
public import Idealize.ShloMosaic.Lib.Claim
public import Idealize.ShloMosaic.Adequacy
public import Idealize.ShloMosaic.Init

@[expose] public section

set_option maxRecDepth 16384

noncomputable section

namespace Cert.Reference7Ideal.Upd

open Idealize.ShloMosaic Idealize.ShloMosaic.TcCoe
open Idealize.SL.Sem Cert.Reference7Ideal Cert.Reference7Ideal.Read

theorem ref0 (x0 x1 x2 x3 y0 y1 y2 y3 : Vec Ideal S2x256x1024 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x256x1024 .f32) (h1 : y1 = x1) (h2 : y2 = x2) : val_main_v4 (F := Ideal) y1 y2 = Adam.mom x1 x2 := by
  subst h1 h2
  rfl

theorem ref2 (x1 x3 y1 y3 : Vec Ideal S2x256x1024 .f32) (h1 : y1 = x1) (h3 : y3 = x3) : val_main_v10 (F := Ideal) y1 y3 = Adam.sq x1 x3 := by
  subst h1 h3
  rfl

theorem ref3 (x0 x1 x2 x3 y0 y1 y2 y3 : Vec Ideal S2x1024 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x1024 .f32) (h1 : y1 = x1) (h2 : y2 = x2) : val_main_v28 (F := Ideal) y1 y2 = Adam.mom x1 x2 := by
  subst h1 h2
  rfl

theorem ref5 (x1 x3 y1 y3 : Vec Ideal S2x1024 .f32) (h1 : y1 = x1) (h3 : y3 = x3) : val_main_v34 (F := Ideal) y1 y3 = Adam.sq x1 x3 := by
  subst h1 h3
  rfl

theorem ref6 (x0 x1 x2 x3 y0 y1 y2 y3 : Vec Ideal S2x4x320 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S2x4x320 .f32) (h1 : y1 = x1) (h2 : y2 = x2) : val_main_v52 (F := Ideal) y1 y2 = Adam.mom x1 x2 := by
  subst h1 h2
  rfl

theorem ref8 (x1 x3 y1 y3 : Vec Ideal S2x4x320 .f32) (h1 : y1 = x1) (h3 : y3 = x3) : val_main_v58 (F := Ideal) y1 y3 = Adam.sq x1 x3 := by
  subst h1 h3
  rfl

theorem ref9 (x0 x1 x2 x3 y0 y1 y2 y3 : Vec Ideal S2x1280 .f32) (h0 : y0 = x0) (h1 : y1 = x1) (h2 : y2 = x2) (h3 : y3 = x3) : val_main_v95 (F := Ideal) y0 y1 y2 y3 = Adam.delta x0 x1 x2 x3 := by
  subst h0 h1 h2 h3
  rfl

theorem ref10 (x1 x2 y1 y2 : Vec Ideal S2x1280 .f32) (h1 : y1 = x1) (h2 : y2 = x2) : val_main_v76 (F := Ideal) y1 y2 = Adam.mom x1 x2 := by
  subst h1 h2
  rfl

theorem ref11 (x1 x3 y1 y3 : Vec Ideal S2x1280 .f32) (h1 : y1 = x1) (h3 : y3 = x3) : val_main_v82 (F := Ideal) y1 y3 = Adam.sq x1 x3 := by
  subst h1 h3
  rfl

end Cert.Reference7Ideal.Upd

namespace Cert.Proof

open Idealize.ShloMosaic Idealize.SL.Sem
open Cert.Kernel7Ideal Cert.Kernel7Ideal.Gen Cert.Kernel7Ideal.Upd Cert.Reference7Ideal.Upd

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2.2.2.2.2.2.2.2.2.2.2.2,
      Idealize.ShloMosaic.sem_eq_zero_of_no_sems (by decide) r.2⟩)
     (Cert.Reference7Ideal.Value.run (F := Ideal) m ρ)

theorem algebraic7 : Cert.algebraic_Kernel7Ideal_Reference7Ideal := by
  intro m g m' g' hpre hagree
  refine ⟨fun c => Adam.delta (s := S2x256x1024) (m ((c.tc : Thread nD τ).loc main_arg0)) (m ((c.tc : Thread nD τ).loc main_arg1)) (m ((c.tc : Thread nD τ).loc main_arg2)) (m ((c.tc : Thread nD τ).loc main_arg3)),
    fun c => Adam.mom (s := S2x256x1024) (m ((c.tc : Thread nD τ).loc main_arg1)) (m ((c.tc : Thread nD τ).loc main_arg2)),
    fun c => Adam.sq (s := S2x256x1024) (m ((c.tc : Thread nD τ).loc main_arg1)) (m ((c.tc : Thread nD τ).loc main_arg3)),
    fun c => Adam.delta (s := S2x1024) (m ((c.tc : Thread nD τ).loc main_arg4)) (m ((c.tc : Thread nD τ).loc main_arg5)) (m ((c.tc : Thread nD τ).loc main_arg6)) (m ((c.tc : Thread nD τ).loc main_arg7)),
    fun c => Adam.mom (s := S2x1024) (m ((c.tc : Thread nD τ).loc main_arg5)) (m ((c.tc : Thread nD τ).loc main_arg6)),
    fun c => Adam.sq (s := S2x1024) (m ((c.tc : Thread nD τ).loc main_arg5)) (m ((c.tc : Thread nD τ).loc main_arg7)),
    fun c => Adam.delta (s := S2x4x320) (m ((c.tc : Thread nD τ).loc main_arg8)) (m ((c.tc : Thread nD τ).loc main_arg9)) (m ((c.tc : Thread nD τ).loc main_arg10)) (m ((c.tc : Thread nD τ).loc main_arg11)),
    fun c => Adam.mom (s := S2x4x320) (m ((c.tc : Thread nD τ).loc main_arg9)) (m ((c.tc : Thread nD τ).loc main_arg10)),
    fun c => Adam.sq (s := S2x4x320) (m ((c.tc : Thread nD τ).loc main_arg9)) (m ((c.tc : Thread nD τ).loc main_arg11)),
    fun c => Adam.delta (s := S2x1280) (m ((c.tc : Thread nD τ).loc main_arg12)) (m ((c.tc : Thread nD τ).loc main_arg13)) (m ((c.tc : Thread nD τ).loc main_arg14)) (m ((c.tc : Thread nD τ).loc main_arg15)),
    fun c => Adam.mom (s := S2x1280) (m ((c.tc : Thread nD τ).loc main_arg13)) (m ((c.tc : Thread nD τ).loc main_arg14)),
    fun c => Adam.sq (s := S2x1280) (m ((c.tc : Thread nD τ).loc main_arg13)) (m ((c.tc : Thread nD τ).loc main_arg15)),
    (θ_run Cert.Kernel7Ideal.defs _ _).mono (fun r h c => ⟨(h c main_v0_0 (by decide)).trans (end0_4 m g c),
      (h c main_v0_1 (by decide)).trans (end0_5 m g c),
      (h c main_v0_2 (by decide)).trans (end0_6 m g c),
      (h c main_v6 (by decide)).trans (end1_4 m g c),
      (h c main_v7 (by decide)).trans (end1_5 m g c),
      (h c main_v8 (by decide)).trans (end1_6 m g c),
      (h c main_v9_0 (by decide)).trans (end2_4 m g c),
      (h c main_v9_1 (by decide)).trans (end2_5 m g c),
      (h c main_v9_2 (by decide)).trans (end2_6 m g c),
      (h c main_v15 (by decide)).trans (end3_4 m g c),
      (h c main_v16 (by decide)).trans (end3_5 m g c),
      (h c main_v17 (by decide)).trans (end3_6 m g c),
      (h c main_arg0 (by decide)).trans (W8_args m g c main_arg0 (by decide)),
      (h c main_arg1 (by decide)).trans (W8_args m g c main_arg1 (by decide)),
      (h c main_arg2 (by decide)).trans (W8_args m g c main_arg2 (by decide)),
      (h c main_arg3 (by decide)).trans (W8_args m g c main_arg3 (by decide)),
      (h c main_arg4 (by decide)).trans (W8_args m g c main_arg4 (by decide)),
      (h c main_arg5 (by decide)).trans (W8_args m g c main_arg5 (by decide)),
      (h c main_arg6 (by decide)).trans (W8_args m g c main_arg6 (by decide)),
      (h c main_arg7 (by decide)).trans (W8_args m g c main_arg7 (by decide)),
      (h c main_arg8 (by decide)).trans (W8_args m g c main_arg8 (by decide)),
      (h c main_arg9 (by decide)).trans (W8_args m g c main_arg9 (by decide)),
      (h c main_arg10 (by decide)).trans (W8_args m g c main_arg10 (by decide)),
      (h c main_arg11 (by decide)).trans (W8_args m g c main_arg11 (by decide)),
      (h c main_arg12 (by decide)).trans (W8_args m g c main_arg12 (by decide)),
      (h c main_arg13 (by decide)).trans (W8_args m g c main_arg13 (by decide)),
      (h c main_arg14 (by decide)).trans (W8_args m g c main_arg14 (by decide)),
      (h c main_arg15 (by decide)).trans (W8_args m g c main_arg15 (by decide))⟩)
      (Cert.Kernel7Ideal.Run.ends (F := Ideal) m g), ?_⟩
  refine (θ_run Cert.Reference7Ideal.defs _ _).mono (fun r h c => ?_) (Cert.Reference7Ideal.Value.run (F := Ideal) m' g')
  obtain ⟨h0, h1, h2, h3, h4, h5, h6, h7, h8, h9, h10, h11, hk⟩ := h c
  obtain ⟨a0, a1, a2, a3, a4, a5, a6, a7, a8, a9, a10, a11, a12, a13, a14, a15⟩ := hagree c
  exact ⟨(h0.trans (Cert.Reference7Ideal.Read.val_main_v23_eq _ _ _ _)).trans (ref0 _ _ _ _ _ _ _ _ a0 a1 a2 a3),
    (h1.trans (Cert.Reference7Ideal.Read.val_main_v4_eq _ _)).trans (ref1 _ _ _ _ a1 a2),
    (h2.trans (Cert.Reference7Ideal.Read.val_main_v10_eq _ _)).trans (ref2 _ _ _ _ a1 a3),
    (h3.trans (Cert.Reference7Ideal.Read.val_main_v47_eq _ _ _ _)).trans (ref3 _ _ _ _ _ _ _ _ a4 a5 a6 a7),
    (h4.trans (Cert.Reference7Ideal.Read.val_main_v28_eq _ _)).trans (ref4 _ _ _ _ a5 a6),
    (h5.trans (Cert.Reference7Ideal.Read.val_main_v34_eq _ _)).trans (ref5 _ _ _ _ a5 a7),
    (h6.trans (Cert.Reference7Ideal.Read.val_main_v71_eq _ _ _ _)).trans (ref6 _ _ _ _ _ _ _ _ a8 a9 a10 a11),
    (h7.trans (Cert.Reference7Ideal.Read.val_main_v52_eq _ _)).trans (ref7 _ _ _ _ a9 a10),
    (h8.trans (Cert.Reference7Ideal.Read.val_main_v58_eq _ _)).trans (ref8 _ _ _ _ a9 a11),
    (h9.trans (Cert.Reference7Ideal.Read.val_main_v95_eq _ _ _ _)).trans (ref9 _ _ _ _ _ _ _ _ a12 a13 a14 a15),
    (h10.trans (Cert.Reference7Ideal.Read.val_main_v76_eq _ _)).trans (ref10 _ _ _ _ a13 a14),
    (h11.trans (Cert.Reference7Ideal.Read.val_main_v82_eq _ _)).trans (ref11 _ _ _ _ a13 a15),
    hk⟩

end Cert.Proof

end

end
-- ==== Proof.Upd8.lean ====
/- The regions of `Kernel8Ideal`, the optimiser's step on one weight each: what every region's three output arrays end as. -/
module

public import proofs.«01_k».proof.Proof.Adam
public import proofs.«01_k».proof.Proof.Gen.Kernel8Ideal.Frame

@[expose] public section

set_option maxRecDepth 16384

noncomputable section

namespace Cert.Kernel8Ideal.Upd

open Idealize.ShloMosaic Idealize.ShloMosaic.TcCoe
open Idealize.SL.Sem Cert.Kernel8Ideal Cert.Kernel8Ideal.Gen

variable (V : (c : Dev nD) → (b : Ref sig .tc) → Buf (Elt Ideal) ((c : Thread nD τ).loc b)) (c : Dev nD)

/-! ### Region 0 -/

theorem outs0_4 (x0 x1 x2 x3 : Vec Ideal S1x2x16 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, k0_pay4, shapeCast_self]
  rfl

theorem arr0_4 : (dat0 (F := Ideal) V c).arrAt 4 cfg0.N =
    Adam.delta (s := S1x2x16) (V c main_v0) (V c main_v1) (V c main_v2) (V c main_v3) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x2x16 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, k0_pay4, shapeCast_self]
  rfl

theorem arr0_5 : (dat0 (F := Ideal) V c).arrAt 5 cfg0.N =
    Adam.mom (s := S1x2x16) (V c main_v1) (V c main_v2) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x2x16 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, k0_pay4, shapeCast_self]
  rfl

theorem arr0_6 : (dat0 (F := Ideal) V c).arrAt 6 cfg0.N =
    Adam.sq (s := S1x2x16) (V c main_v1) (V c main_v3) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x2x16 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, k1_pay4, shapeCast_self]
  rfl

theorem arr1_4 : (dat1 (F := Ideal) V c).arrAt 4 cfg1.N =
    Adam.delta (s := S1x2x16) (V c main_v8) (V c main_v9) (V c main_v10) (V c main_v11) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x2x16 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, k1_pay4, shapeCast_self]
  rfl

theorem arr1_5 : (dat1 (F := Ideal) V c).arrAt 5 cfg1.N =
    Adam.mom (s := S1x2x16) (V c main_v9) (V c main_v10) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x2x16 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, k1_pay4, shapeCast_self]
  rfl

theorem arr1_6 : (dat1 (F := Ideal) V c).arrAt 6 cfg1.N =
    Adam.sq (s := S1x2x16) (V c main_v9) (V c main_v11) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x2x16 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, k2_pay4, shapeCast_self]
  rfl

theorem arr2_4 : (dat2 (F := Ideal) V c).arrAt 4 cfg2.N =
    Adam.delta (s := S1x2x16) (V c main_v16) (V c main_v17) (V c main_v18) (V c main_v19) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x2x16 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, k2_pay4, shapeCast_self]
  rfl

theorem arr2_5 : (dat2 (F := Ideal) V c).arrAt 5 cfg2.N =
    Adam.mom (s := S1x2x16) (V c main_v17) (V c main_v18) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x2x16 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, k2_pay4, shapeCast_self]
  rfl

theorem arr2_6 : (dat2 (F := Ideal) V c).arrAt 6 cfg2.N =
    Adam.sq (s := S1x2x16) (V c main_v17) (V c main_v19) := by
  refine (dat2 V c).arrAt_eq_of_covers 6 _ (by decide +kernel) fun t hf y => ?_
  blk_simp
  rw [after2_6, outs2_6]
  exact Adam.sq_read (fun i => (win2_6.blk t).view.emb i) _ _ y

/-! ### Region 3 -/

theorem outs3_4 (x0 x1 x2 x3 : Vec Ideal S1x2x1024 .f32) : out3_4 (F := Ideal) x0 x1 x2 x3 = Adam.delta x0 x1 x2 x3 := by
  unfold out3_4
  rw [View.canon_cons_unit_lit _ _ _ (by decide)]
  repeat rw [View.ld_unit_lit _ _ (by decide)]
  simp only [k3_pay1, k3_pay2, k3_pay3, k3_pay4, shapeCast_self]
  rfl

theorem arr3_4 : (dat3 (F := Ideal) V c).arrAt 4 cfg3.N =
    Adam.delta (s := S1x2x1024) (V c main_v24) (V c main_v25) (V c main_v26) (V c main_v27) := by
  refine (dat3 V c).arrAt_eq_of_covers 4 _ (by decide +kernel) fun t hf y => ?_
  blk_simp
  rw [after3_4, outs3_4]
  exact Adam.delta_read (fun i => (win3_4.blk t).view.emb i) _ _ _ _ y

theorem outs3_5 (x0 x1 x2 x3 : Vec Ideal S1x2x1024 .f32) : out3_5 (F := Ideal) x0 x1 x2 x3 = Adam.mom x1 x2 := by
  unfold out3_5
  rw [View.canon_cons_unit_lit _ _ _ (by decide)]
  repeat rw [View.ld_unit_lit _ _ (by decide)]
  simp only [k3_pay1, k3_pay2, k3_pay3, k3_pay4, shapeCast_self]
  rfl

theorem arr3_5 : (dat3 (F := Ideal) V c).arrAt 5 cfg3.N =
    Adam.mom (s := S1x2x1024) (V c main_v25) (V c main_v26) := by
  refine (dat3 V c).arrAt_eq_of_covers 5 _ (by decide +kernel) fun t hf y => ?_
  blk_simp
  rw [after3_5, outs3_5]
  exact Adam.mom_read (fun i => (win3_5.blk t).view.emb i) _ _ y

theorem outs3_6 (x0 x1 x2 x3 : Vec Ideal S1x2x1024 .f32) : out3_6 (F := Ideal) x0 x1 x2 x3 = Adam.sq x1 x3 := by
  unfold out3_6
  rw [View.canon_cons_unit_lit _ _ _ (by decide)]
  repeat rw [View.ld_unit_lit _ _ (by decide)]
  simp only [k3_pay1, k3_pay2, k3_pay3, k3_pay4, shapeCast_self]
  rfl

theorem arr3_6 : (dat3 (F := Ideal) V c).arrAt 6 cfg3.N =
    Adam.sq (s := S1x2x1024) (V c main_v25) (V c main_v27) := by
  refine (dat3 V c).arrAt_eq_of_covers 6 _ (by decide +kernel) fun t hf y => ?_
  blk_simp
  rw [after3_6, outs3_6]
  exact Adam.sq_read (fun i => (win3_6.blk t).view.emb i) _ _ y

end Cert.Kernel8Ideal.Upd

end

end
-- ==== Proof.UpdEnd8.lean ====
/- What the results of `Kernel8Ideal` end as: the optimiser's step of each weight, from the arguments. -/
module

public import proofs.«01_k».proof.Proof.Upd8

@[expose] public section

set_option maxRecDepth 16384

noncomputable section

namespace Cert.Kernel8Ideal.Upd

open Idealize.ShloMosaic Idealize.ShloMosaic.TcCoe
open Idealize.SL.Sem Cert.Kernel8Ideal Cert.Kernel8Ideal.Gen

variable (m : (ℓ : Loc nD τ sig) → Buf (Elt Ideal) ℓ) (ρ : Dev nD → PrngReg) (c : Dev nD)

/-! ### Region 0 -/

theorem in0_0 : V1 m ρ c main_v0 = shapeCast S1x2x16 (m ((c : Thread nD τ).loc main_arg0) : Vec Ideal S2x16 .f32) shapeCasts_S2x16_S1x2x16 := by
  show StableHlo.after hostOps0 (W0 m ρ c) (Proc.devRef .tc main_v0) = _
  unfold hostOps0
  entry_read
  rw [W0_args m ρ c main_arg0 (by decide)]
  rfl

theorem in0_1 : V1 m ρ c main_v1 = shapeCast S1x2x16 (m ((c : Thread nD τ).loc main_arg1) : Vec Ideal S2x16 .f32) shapeCasts_S2x16_S1x2x16 := by
  show StableHlo.after hostOps0 (W0 m ρ c) (Proc.devRef .tc main_v1) = _
  unfold hostOps0
  entry_read
  rw [W0_args m ρ c main_arg1 (by decide)]
  rfl

theorem in0_2 : V1 m ρ c main_v2 = shapeCast S1x2x16 (m ((c : Thread nD τ).loc main_arg2) : Vec Ideal S2x16 .f32) shapeCasts_S2x16_S1x2x16 := by
  show StableHlo.after hostOps0 (W0 m ρ c) (Proc.devRef .tc main_v2) = _
  unfold hostOps0
  entry_read
  rw [W0_args m ρ c main_arg2 (by decide)]
  rfl

theorem in0_3 : V1 m ρ c main_v3 = shapeCast S1x2x16 (m ((c : Thread nD τ).loc main_arg3) : Vec Ideal S2x16 .f32) shapeCasts_S2x16_S1x2x16 := by
  show StableHlo.after hostOps0 (W0 m ρ c) (Proc.devRef .tc main_v3) = _
  unfold hostOps0
  entry_read
  rw [W0_args m ρ c main_arg3 (by decide)]
  rfl

theorem end0_4 : W9 m ρ c (Proc.devRef .tc main_v5) = Adam.delta (m ((c : Thread nD τ).loc main_arg0) : Vec Ideal S2x16 .f32) (m ((c : Thread nD τ).loc main_arg1) : Vec Ideal S2x16 .f32) (m ((c : Thread nD τ).loc main_arg2) : Vec Ideal S2x16 .f32) (m ((c : Thread nD τ).loc main_arg3) : Vec Ideal S2x16 .f32) := by
  have e : W3 m ρ c (Proc.devRef .tc main_v5) = shapeCast S2x16 (W2 m ρ c (Proc.devRef .tc main_v4_0) : Vec Ideal S1x2x16 .f32) shapeCasts_S1x2x16_S2x16 := by
    show StableHlo.after hostOps1 (W2 m ρ c) (Proc.devRef .tc main_v5) = _
    unfold hostOps1
    entry_read
    rfl
  refine ((W9_of m ρ c main_v5 (by decide)).trans ((W8_of_ne m ρ c main_v5 (by decide)).trans ((W7_of m ρ c main_v5 (by decide)).trans ((W6_of_ne m ρ c main_v5 (by decide)).trans ((W5_of m ρ c main_v5 (by decide)).trans ((W4_of_ne m ρ c main_v5 (by decide)).trans (e))))))).trans ?_
  rw [show W2 m ρ c (Proc.devRef .tc main_v4_0) = _ from (W2_arr m ρ c 4).trans (arr0_4 (V1 m ρ) c), show V1 m ρ c main_v0 = _ from in0_0 m ρ c, show V1 m ρ c main_v1 = _ from in0_1 m ρ c, show V1 m ρ c main_v2 = _ from in0_2 m ρ c, show V1 m ρ c main_v3 = _ from in0_3 m ρ c]
  exact Adam.delta_cast _ _ _ _ _ _

theorem end0_5 : W9 m ρ c (Proc.devRef .tc main_v6) = Adam.mom (m ((c : Thread nD τ).loc main_arg1) : Vec Ideal S2x16 .f32) (m ((c : Thread nD τ).loc main_arg2) : Vec Ideal S2x16 .f32) := by
  have e : W3 m ρ c (Proc.devRef .tc main_v6) = shapeCast S2x16 (W2 m ρ c (Proc.devRef .tc main_v4_1) : Vec Ideal S1x2x16 .f32) shapeCasts_S1x2x16_S2x16 := by
    show StableHlo.after hostOps1 (W2 m ρ c) (Proc.devRef .tc main_v6) = _
    unfold hostOps1
    entry_read
    rfl
  refine ((W9_of m ρ c main_v6 (by decide)).trans ((W8_of_ne m ρ c main_v6 (by decide)).trans ((W7_of m ρ c main_v6 (by decide)).trans ((W6_of_ne m ρ c main_v6 (by decide)).trans ((W5_of m ρ c main_v6 (by decide)).trans ((W4_of_ne m ρ c main_v6 (by decide)).trans (e))))))).trans ?_
  rw [show W2 m ρ c (Proc.devRef .tc main_v4_1) = _ from (W2_arr m ρ c 5).trans (arr0_5 (V1 m ρ) c), show V1 m ρ c main_v1 = _ from in0_1 m ρ c, show V1 m ρ c main_v2 = _ from in0_2 m ρ c]
  exact Adam.mom_cast _ _ _ _

theorem end0_6 : W9 m ρ c (Proc.devRef .tc main_v7) = Adam.sq (m ((c : Thread nD τ).loc main_arg1) : Vec Ideal S2x16 .f32) (m ((c : Thread nD τ).loc main_arg3) : Vec Ideal S2x16 .f32) := by
  have e : W3 m ρ c (Proc.devRef .tc main_v7) = shapeCast S2x16 (W2 m ρ c (Proc.devRef .tc main_v4_2) : Vec Ideal S1x2x16 .f32) shapeCasts_S1x2x16_S2x16 := by
    show StableHlo.after hostOps1 (W2 m ρ c) (Proc.devRef .tc main_v7) = _
    unfold hostOps1
    entry_read
    rfl
  refine ((W9_of m ρ c main_v7 (by decide)).trans ((W8_of_ne m ρ c main_v7 (by decide)).trans ((W7_of m ρ c main_v7 (by decide)).trans ((W6_of_ne m ρ c main_v7 (by decide)).trans ((W5_of m ρ c main_v7 (by decide)).trans ((W4_of_ne m ρ c main_v7 (by decide)).trans (e))))))).trans ?_
  rw [show W2 m ρ c (Proc.devRef .tc main_v4_2) = _ from (W2_arr m ρ c 6).trans (arr0_6 (V1 m ρ) c), show V1 m ρ c main_v1 = _ from in0_1 m ρ c, show V1 m ρ c main_v3 = _ from in0_3 m ρ c]
  exact Adam.sq_cast _ _ _ _

/-! ### Region 1 -/

theorem in1_0 : V3 m ρ c main_v8 = shapeCast S1x2x16 (m ((c : Thread nD τ).loc main_arg4) : Vec Ideal S2x16 .f32) shapeCasts_S2x16_S1x2x16 := by
  show StableHlo.after hostOps1 (W2 m ρ c) (Proc.devRef .tc main_v8) = _
  unfold hostOps1
  entry_read
  rw [W2_args m ρ c main_arg4 (by decide)]
  rfl

theorem in1_1 : V3 m ρ c main_v9 = shapeCast S1x2x16 (m ((c : Thread nD τ).loc main_arg5) : Vec Ideal S2x16 .f32) shapeCasts_S2x16_S1x2x16 := by
  show StableHlo.after hostOps1 (W2 m ρ c) (Proc.devRef .tc main_v9) = _
  unfold hostOps1
  entry_read
  rw [W2_args m ρ c main_arg5 (by decide)]
  rfl

theorem in1_2 : V3 m ρ c main_v10 = shapeCast S1x2x16 (m ((c : Thread nD τ).loc main_arg6) : Vec Ideal S2x16 .f32) shapeCasts_S2x16_S1x2x16 := by
  show StableHlo.after hostOps1 (W2 m ρ c) (Proc.devRef .tc main_v10) = _
  unfold hostOps1
  entry_read
  rw [W2_args m ρ c main_arg6 (by decide)]
  rfl

theorem in1_3 : V3 m ρ c main_v11 = shapeCast S1x2x16 (m ((c : Thread nD τ).loc main_arg7) : Vec Ideal S2x16 .f32) shapeCasts_S2x16_S1x2x16 := by
  show StableHlo.after hostOps1 (W2 m ρ c) (Proc.devRef .tc main_v11) = _
  unfold hostOps1
  entry_read
  rw [W2_args m ρ c main_arg7 (by decide)]
  rfl

theorem end1_4 : W9 m ρ c (Proc.devRef .tc main_v13) = Adam.delta (m ((c : Thread nD τ).loc main_arg4) : Vec Ideal S2x16 .f32) (m ((c : Thread nD τ).loc main_arg5) : Vec Ideal S2x16 .f32) (m ((c : Thread nD τ).loc main_arg6) : Vec Ideal S2x16 .f32) (m ((c : Thread nD τ).loc main_arg7) : Vec Ideal S2x16 .f32) := by
  have e : W5 m ρ c (Proc.devRef .tc main_v13) = shapeCast S2x16 (W4 m ρ c (Proc.devRef .tc main_v12_0) : Vec Ideal S1x2x16 .f32) shapeCasts_S1x2x16_S2x16 := by
    show StableHlo.after hostOps2 (W4 m ρ c) (Proc.devRef .tc main_v13) = _
    unfold hostOps2
    entry_read
    rfl
  refine ((W9_of m ρ c main_v13 (by decide)).trans ((W8_of_ne m ρ c main_v13 (by decide)).trans ((W7_of m ρ c main_v13 (by decide)).trans ((W6_of_ne m ρ c main_v13 (by decide)).trans (e))))).trans ?_
  rw [show W4 m ρ c (Proc.devRef .tc main_v12_0) = _ from (W4_arr m ρ c 4).trans (arr1_4 (V3 m ρ) c), show V3 m ρ c main_v8 = _ from in1_0 m ρ c, show V3 m ρ c main_v9 = _ from in1_1 m ρ c, show V3 m ρ c main_v10 = _ from in1_2 m ρ c, show V3 m ρ c main_v11 = _ from in1_3 m ρ c]
  exact Adam.delta_cast _ _ _ _ _ _

theorem end1_5 : W9 m ρ c (Proc.devRef .tc main_v14) = Adam.mom (m ((c : Thread nD τ).loc main_arg5) : Vec Ideal S2x16 .f32) (m ((c : Thread nD τ).loc main_arg6) : Vec Ideal S2x16 .f32) := by
  have e : W5 m ρ c (Proc.devRef .tc main_v14) = shapeCast S2x16 (W4 m ρ c (Proc.devRef .tc main_v12_1) : Vec Ideal S1x2x16 .f32) shapeCasts_S1x2x16_S2x16 := by
    show StableHlo.after hostOps2 (W4 m ρ c) (Proc.devRef .tc main_v14) = _
    unfold hostOps2
    entry_read
    rfl
  refine ((W9_of m ρ c main_v14 (by decide)).trans ((W8_of_ne m ρ c main_v14 (by decide)).trans ((W7_of m ρ c main_v14 (by decide)).trans ((W6_of_ne m ρ c main_v14 (by decide)).trans (e))))).trans ?_
  rw [show W4 m ρ c (Proc.devRef .tc main_v12_1) = _ from (W4_arr m ρ c 5).trans (arr1_5 (V3 m ρ) c), show V3 m ρ c main_v9 = _ from in1_1 m ρ c, show V3 m ρ c main_v10 = _ from in1_2 m ρ c]
  exact Adam.mom_cast _ _ _ _

theorem end1_6 : W9 m ρ c (Proc.devRef .tc main_v15) = Adam.sq (m ((c : Thread nD τ).loc main_arg5) : Vec Ideal S2x16 .f32) (m ((c : Thread nD τ).loc main_arg7) : Vec Ideal S2x16 .f32) := by
  have e : W5 m ρ c (Proc.devRef .tc main_v15) = shapeCast S2x16 (W4 m ρ c (Proc.devRef .tc main_v12_2) : Vec Ideal S1x2x16 .f32) shapeCasts_S1x2x16_S2x16 := by
    show StableHlo.after hostOps2 (W4 m ρ c) (Proc.devRef .tc main_v15) = _
    unfold hostOps2
    entry_read
    rfl
  refine ((W9_of m ρ c main_v15 (by decide)).trans ((W8_of_ne m ρ c main_v15 (by decide)).trans ((W7_of m ρ c main_v15 (by decide)).trans ((W6_of_ne m ρ c main_v15 (by decide)).trans (e))))).trans ?_
  rw [show W4 m ρ c (Proc.devRef .tc main_v12_2) = _ from (W4_arr m ρ c 6).trans (arr1_6 (V3 m ρ) c), show V3 m ρ c main_v9 = _ from in1_1 m ρ c, show V3 m ρ c main_v11 = _ from in1_3 m ρ c]
  exact Adam.sq_cast _ _ _ _

/-! ### Region 2 -/

theorem in2_0 : V5 m ρ c main_v16 = shapeCast S1x2x16 (m ((c : Thread nD τ).loc main_arg8) : Vec Ideal S2x16 .f32) shapeCasts_S2x16_S1x2x16 := by
  show StableHlo.after hostOps2 (W4 m ρ c) (Proc.devRef .tc main_v16) = _
  unfold hostOps2
  entry_read
  rw [W4_args m ρ c main_arg8 (by decide)]
  rfl

theorem in2_1 : V5 m ρ c main_v17 = shapeCast S1x2x16 (m ((c : Thread nD τ).loc main_arg9) : Vec Ideal S2x16 .f32) shapeCasts_S2x16_S1x2x16 := by
  show StableHlo.after hostOps2 (W4 m ρ c) (Proc.devRef .tc main_v17) = _
  unfold hostOps2
  entry_read
  rw [W4_args m ρ c main_arg9 (by decide)]
  rfl

theorem in2_2 : V5 m ρ c main_v18 = shapeCast S1x2x16 (m ((c : Thread nD τ).loc main_arg10) : Vec Ideal S2x16 .f32) shapeCasts_S2x16_S1x2x16 := by
  show StableHlo.after hostOps2 (W4 m ρ c) (Proc.devRef .tc main_v18) = _
  unfold hostOps2
  entry_read
  rw [W4_args m ρ c main_arg10 (by decide)]
  rfl

theorem in2_3 : V5 m ρ c main_v19 = shapeCast S1x2x16 (m ((c : Thread nD τ).loc main_arg11) : Vec Ideal S2x16 .f32) shapeCasts_S2x16_S1x2x16 := by
  show StableHlo.after hostOps2 (W4 m ρ c) (Proc.devRef .tc main_v19) = _
  unfold hostOps2
  entry_read
  rw [W4_args m ρ c main_arg11 (by decide)]
  rfl

theorem end2_4 : W9 m ρ c (Proc.devRef .tc main_v21) = Adam.delta (m ((c : Thread nD τ).loc main_arg8) : Vec Ideal S2x16 .f32) (m ((c : Thread nD τ).loc main_arg9) : Vec Ideal S2x16 .f32) (m ((c : Thread nD τ).loc main_arg10) : Vec Ideal S2x16 .f32) (m ((c : Thread nD τ).loc main_arg11) : Vec Ideal S2x16 .f32) := by
  have e : W7 m ρ c (Proc.devRef .tc main_v21) = shapeCast S2x16 (W6 m ρ c (Proc.devRef .tc main_v20_0) : Vec Ideal S1x2x16 .f32) shapeCasts_S1x2x16_S2x16 := by
    show StableHlo.after hostOps3 (W6 m ρ c) (Proc.devRef .tc main_v21) = _
    unfold hostOps3
    entry_read
    rfl
  refine ((W9_of m ρ c main_v21 (by decide)).trans ((W8_of_ne m ρ c main_v21 (by decide)).trans (e))).trans ?_
  rw [show W6 m ρ c (Proc.devRef .tc main_v20_0) = _ from (W6_arr m ρ c 4).trans (arr2_4 (V5 m ρ) c), show V5 m ρ c main_v16 = _ from in2_0 m ρ c, show V5 m ρ c main_v17 = _ from in2_1 m ρ c, show V5 m ρ c main_v18 = _ from in2_2 m ρ c, show V5 m ρ c main_v19 = _ from in2_3 m ρ c]
  exact Adam.delta_cast _ _ _ _ _ _

theorem end2_5 : W9 m ρ c (Proc.devRef .tc main_v22) = Adam.mom (m ((c : Thread nD τ).loc main_arg9) : Vec Ideal S2x16 .f32) (m ((c : Thread nD τ).loc main_arg10) : Vec Ideal S2x16 .f32) := by
  have e : W7 m ρ c (Proc.devRef .tc main_v22) = shapeCast S2x16 (W6 m ρ c (Proc.devRef .tc main_v20_1) : Vec Ideal S1x2x16 .f32) shapeCasts_S1x2x16_S2x16 := by
    show StableHlo.after hostOps3 (W6 m ρ c) (Proc.devRef .tc main_v22) = _
    unfold hostOps3
    entry_read
    rfl
  refine ((W9_of m ρ c main_v22 (by decide)).trans ((W8_of_ne m ρ c main_v22 (by decide)).trans (e))).trans ?_
  rw [show W6 m ρ c (Proc.devRef .tc main_v20_1) = _ from (W6_arr m ρ c 5).trans (arr2_5 (V5 m ρ) c), show V5 m ρ c main_v17 = _ from in2_1 m ρ c, show V5 m ρ c main_v18 = _ from in2_2 m ρ c]
  exact Adam.mom_cast _ _ _ _

theorem end2_6 : W9 m ρ c (Proc.devRef .tc main_v23) = Adam.sq (m ((c : Thread nD τ).loc main_arg9) : Vec Ideal S2x16 .f32) (m ((c : Thread nD τ).loc main_arg11) : Vec Ideal S2x16 .f32) := by
  have e : W7 m ρ c (Proc.devRef .tc main_v23) = shapeCast S2x16 (W6 m ρ c (Proc.devRef .tc main_v20_2) : Vec Ideal S1x2x16 .f32) shapeCasts_S1x2x16_S2x16 := by
    show StableHlo.after hostOps3 (W6 m ρ c) (Proc.devRef .tc main_v23) = _
    unfold hostOps3
    entry_read
    rfl
  refine ((W9_of m ρ c main_v23 (by decide)).trans ((W8_of_ne m ρ c main_v23 (by decide)).trans (e))).trans ?_
  rw [show W6 m ρ c (Proc.devRef .tc main_v20_2) = _ from (W6_arr m ρ c 6).trans (arr2_6 (V5 m ρ) c), show V5 m ρ c main_v17 = _ from in2_1 m ρ c, show V5 m ρ c main_v19 = _ from in2_3 m ρ c]
  exact Adam.sq_cast _ _ _ _

/-! ### Region 3 -/

theorem in3_0 : V7 m ρ c main_v24 = shapeCast S1x2x1024 (m ((c : Thread nD τ).loc main_arg12) : Vec Ideal S2x1024 .f32) shapeCasts_S2x1024_S1x2x1024 := by
  show StableHlo.after hostOps3 (W6 m ρ c) (Proc.devRef .tc main_v24) = _
  unfold hostOps3
  entry_read
  rw [W6_args m ρ c main_arg12 (by decide)]
  rfl

theorem in3_1 : V7 m ρ c main_v25 = shapeCast S1x2x1024 (m ((c : Thread nD τ).loc main_arg13) : Vec Ideal S2x1024 .f32) shapeCasts_S2x1024_S1x2x1024 := by
  show StableHlo.after hostOps3 (W6 m ρ c) (Proc.devRef .tc main_v25) = _
  unfold hostOps3
  entry_read
  rw [W6_args m ρ c main_arg13 (by decide)]
  rfl

theorem in3_2 : V7 m ρ c main_v26 = shapeCast S1x2x1024 (m ((c : Thread nD τ).loc main_arg14) : Vec Ideal S2x1024 .f32) shapeCasts_S2x1024_S1x2x1024 := by
  show StableHlo.after hostOps3 (W6 m ρ c) (Proc.devRef .tc main_v26) = _
  unfold hostOps3
  entry_read
  rw [W6_args m ρ c main_arg14 (by decide)]
  rfl

theorem in3_3 : V7 m ρ c main_v27 = shapeCast S1x2x1024 (m ((c : Thread nD τ).loc main_arg15) : Vec Ideal S2x1024 .f32) shapeCasts_S2x1024_S1x2x1024 := by
  show StableHlo.after hostOps3 (W6 m ρ c) (Proc.devRef .tc main_v27) = _
  unfold hostOps3
  entry_read
  rw [W6_args m ρ c main_arg15 (by decide)]
  rfl

theorem end3_4 : W9 m ρ c (Proc.devRef .tc main_v29) = Adam.delta (m ((c : Thread nD τ).loc main_arg12) : Vec Ideal S2x1024 .f32) (m ((c : Thread nD τ).loc main_arg13) : Vec Ideal S2x1024 .f32) (m ((c : Thread nD τ).loc main_arg14) : Vec Ideal S2x1024 .f32) (m ((c : Thread nD τ).loc main_arg15) : Vec Ideal S2x1024 .f32) := by
  have e : W9 m ρ c (Proc.devRef .tc main_v29) = shapeCast S2x1024 (W8 m ρ c (Proc.devRef .tc main_v28_0) : Vec Ideal S1x2x1024 .f32) shapeCasts_S1x2x1024_S2x1024 := by
    show StableHlo.after hostOps4 (W8 m ρ c) (Proc.devRef .tc main_v29) = _
    unfold hostOps4
    entry_read
    rfl
  refine (e).trans ?_
  rw [show W8 m ρ c (Proc.devRef .tc main_v28_0) = _ from (W8_arr m ρ c 4).trans (arr3_4 (V7 m ρ) c), show V7 m ρ c main_v24 = _ from in3_0 m ρ c, show V7 m ρ c main_v25 = _ from in3_1 m ρ c, show V7 m ρ c main_v26 = _ from in3_2 m ρ c, show V7 m ρ c main_v27 = _ from in3_3 m ρ c]
  exact Adam.delta_cast _ _ _ _ _ _

theorem end3_5 : W9 m ρ c (Proc.devRef .tc main_v30) = Adam.mom (m ((c : Thread nD τ).loc main_arg13) : Vec Ideal S2x1024 .f32) (m ((c : Thread nD τ).loc main_arg14) : Vec Ideal S2x1024 .f32) := by
  have e : W9 m ρ c (Proc.devRef .tc main_v30) = shapeCast S2x1024 (W8 m ρ c (Proc.devRef .tc main_v28_1) : Vec Ideal S1x2x1024 .f32) shapeCasts_S1x2x1024_S2x1024 := by
    show StableHlo.after hostOps4 (W8 m ρ c) (Proc.devRef .tc main_v30) = _
    unfold hostOps4
    entry_read
    rfl
  refine (e).trans ?_
  rw [show W8 m ρ c (Proc.devRef .tc main_v28_1) = _ from (W8_arr m ρ c 5).trans (arr3_5 (V7 m ρ) c), show V7 m ρ c main_v25 = _ from in3_1 m ρ c, show V7 m ρ c main_v26 = _ from in3_2 m ρ c]
  exact Adam.mom_cast _ _ _ _

theorem end3_6 : W9 m ρ c (Proc.devRef .tc main_v31) = Adam.sq (m ((c : Thread nD τ).loc main_arg13) : Vec Ideal S2x1024 .f32) (m ((c : Thread nD τ).loc main_arg15) : Vec Ideal S2x1024 .f32) := by
  have e : W9 m ρ c (Proc.devRef .tc main_v31) = shapeCast S2x1024 (W8 m ρ c (Proc.devRef .tc main_v28_2) : Vec Ideal S1x2x1024 .f32) shapeCasts_S1x2x1024_S2x1024 := by
    show StableHlo.after hostOps4 (W8 m ρ c) (Proc.devRef .tc main_v31) = _
    unfold hostOps4
    entry_read
    rfl
  refine (e).trans ?_
  rw [show W8 m ρ c (Proc.devRef .tc main_v28_2) = _ from (W8_arr m ρ c 6).trans (arr3_6 (V7 m ρ) c), show V7 m ρ c main_v25 = _ from in3_1 m ρ c, show V7 m ρ c main_v27 = _ from in3_3 m ρ c]
  exact Adam.sq_cast _ _ _ _

end Cert.Kernel8Ideal.Upd

end

end
-- ==== Proof.Run8.lean ====
/- The run of the program `Kernel8Ideal` with every buffer's final contents: an array that outlives the kernel regions ends
   at the last of the valuations that the regions' run goes through, `W9`. -/
module

public import proofs.«01_k».proof.Proof.Gen.Kernel8Ideal.Frame

@[expose] public section

set_option maxRecDepth 16384

noncomputable section

namespace Cert.Kernel8Ideal.Run

open Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W9`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c b hb => h c _ (mem_uc b hb))

end Cert.Kernel8Ideal.Run

end

end
-- ==== Proof.UpdClaim8.lean ====
/- The claims of `Kernel8`: the optimiser's step. -/
module

public import proofs.«01_k».proof.Defs
public import proofs.«01_k».proof.Proof.Gen.Kernel8
public import proofs.«01_k».proof.Proof.Gen.Kernel8.Frame
public import proofs.«01_k».proof.Proof.UpdEnd8
public import proofs.«01_k».proof.Proof.Run8
public import proofs.«01_k».proof.Proof.Gen.Reference8Ideal
public import proofs.«01_k».proof.Proof.Gen.Reference8Ideal.Run
public import proofs.«01_k».proof.Proof.Gen.Reference8Ideal.Read
public import Idealize.ShloMosaic.Lib.Claim
public import Idealize.ShloMosaic.Adequacy
public import Idealize.ShloMosaic.Init

@[expose] public section

set_option maxRecDepth 16384

noncomputable section

namespace Cert.Reference8Ideal.Upd

open Idealize.ShloMosaic Idealize.ShloMosaic.TcCoe
open Idealize.SL.Sem Cert.Reference8Ideal Cert.Reference8Ideal.Read

theorem ref0 (x0 x1 x2 x3 y0 y1 y2 y3 : Vec Ideal S2x16 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x16 .f32) (h1 : y1 = x1) (h2 : y2 = x2) : val_main_v4 (F := Ideal) y1 y2 = Adam.mom x1 x2 := by
  subst h1 h2
  rfl

theorem ref2 (x1 x3 y1 y3 : Vec Ideal S2x16 .f32) (h1 : y1 = x1) (h3 : y3 = x3) : val_main_v10 (F := Ideal) y1 y3 = Adam.sq x1 x3 := by
  subst h1 h3
  rfl

theorem ref3 (x0 x1 x2 x3 y0 y1 y2 y3 : Vec Ideal S2x16 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x16 .f32) (h1 : y1 = x1) (h2 : y2 = x2) : val_main_v28 (F := Ideal) y1 y2 = Adam.mom x1 x2 := by
  subst h1 h2
  rfl

theorem ref5 (x1 x3 y1 y3 : Vec Ideal S2x16 .f32) (h1 : y1 = x1) (h3 : y3 = x3) : val_main_v34 (F := Ideal) y1 y3 = Adam.sq x1 x3 := by
  subst h1 h3
  rfl

theorem ref6 (x0 x1 x2 x3 y0 y1 y2 y3 : Vec Ideal S2x16 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S2x16 .f32) (h1 : y1 = x1) (h2 : y2 = x2) : val_main_v52 (F := Ideal) y1 y2 = Adam.mom x1 x2 := by
  subst h1 h2
  rfl

theorem ref8 (x1 x3 y1 y3 : Vec Ideal S2x16 .f32) (h1 : y1 = x1) (h3 : y3 = x3) : val_main_v58 (F := Ideal) y1 y3 = Adam.sq x1 x3 := by
  subst h1 h3
  rfl

theorem ref9 (x0 x1 x2 x3 y0 y1 y2 y3 : Vec Ideal S2x1024 .f32) (h0 : y0 = x0) (h1 : y1 = x1) (h2 : y2 = x2) (h3 : y3 = x3) : val_main_v95 (F := Ideal) y0 y1 y2 y3 = Adam.delta x0 x1 x2 x3 := by
  subst h0 h1 h2 h3
  rfl

theorem ref10 (x1 x2 y1 y2 : Vec Ideal S2x1024 .f32) (h1 : y1 = x1) (h2 : y2 = x2) : val_main_v76 (F := Ideal) y1 y2 = Adam.mom x1 x2 := by
  subst h1 h2
  rfl

theorem ref11 (x1 x3 y1 y3 : Vec Ideal S2x1024 .f32) (h1 : y1 = x1) (h3 : y3 = x3) : val_main_v82 (F := Ideal) y1 y3 = Adam.sq x1 x3 := by
  subst h1 h3
  rfl

end Cert.Reference8Ideal.Upd

namespace Cert.Proof

open Idealize.ShloMosaic Idealize.SL.Sem
open Cert.Kernel8Ideal Cert.Kernel8Ideal.Gen Cert.Kernel8Ideal.Upd Cert.Reference8Ideal.Upd

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2.2.2.2.2.2.2.2.2.2.2.2,
      Idealize.ShloMosaic.sem_eq_zero_of_no_sems (by decide) r.2⟩)
     (Cert.Reference8Ideal.Value.run (F := Ideal) m ρ)

theorem algebraic8 : Cert.algebraic_Kernel8Ideal_Reference8Ideal := by
  intro m g m' g' hpre hagree
  refine ⟨fun c => Adam.delta (s := S2x16) (m ((c.tc : Thread nD τ).loc main_arg0)) (m ((c.tc : Thread nD τ).loc main_arg1)) (m ((c.tc : Thread nD τ).loc main_arg2)) (m ((c.tc : Thread nD τ).loc main_arg3)),
    fun c => Adam.mom (s := S2x16) (m ((c.tc : Thread nD τ).loc main_arg1)) (m ((c.tc : Thread nD τ).loc main_arg2)),
    fun c => Adam.sq (s := S2x16) (m ((c.tc : Thread nD τ).loc main_arg1)) (m ((c.tc : Thread nD τ).loc main_arg3)),
    fun c => Adam.delta (s := S2x16) (m ((c.tc : Thread nD τ).loc main_arg4)) (m ((c.tc : Thread nD τ).loc main_arg5)) (m ((c.tc : Thread nD τ).loc main_arg6)) (m ((c.tc : Thread nD τ).loc main_arg7)),
    fun c => Adam.mom (s := S2x16) (m ((c.tc : Thread nD τ).loc main_arg5)) (m ((c.tc : Thread nD τ).loc main_arg6)),
    fun c => Adam.sq (s := S2x16) (m ((c.tc : Thread nD τ).loc main_arg5)) (m ((c.tc : Thread nD τ).loc main_arg7)),
    fun c => Adam.delta (s := S2x16) (m ((c.tc : Thread nD τ).loc main_arg8)) (m ((c.tc : Thread nD τ).loc main_arg9)) (m ((c.tc : Thread nD τ).loc main_arg10)) (m ((c.tc : Thread nD τ).loc main_arg11)),
    fun c => Adam.mom (s := S2x16) (m ((c.tc : Thread nD τ).loc main_arg9)) (m ((c.tc : Thread nD τ).loc main_arg10)),
    fun c => Adam.sq (s := S2x16) (m ((c.tc : Thread nD τ).loc main_arg9)) (m ((c.tc : Thread nD τ).loc main_arg11)),
    fun c => Adam.delta (s := S2x1024) (m ((c.tc : Thread nD τ).loc main_arg12)) (m ((c.tc : Thread nD τ).loc main_arg13)) (m ((c.tc : Thread nD τ).loc main_arg14)) (m ((c.tc : Thread nD τ).loc main_arg15)),
    fun c => Adam.mom (s := S2x1024) (m ((c.tc : Thread nD τ).loc main_arg13)) (m ((c.tc : Thread nD τ).loc main_arg14)),
    fun c => Adam.sq (s := S2x1024) (m ((c.tc : Thread nD τ).loc main_arg13)) (m ((c.tc : Thread nD τ).loc main_arg15)),
    (θ_run Cert.Kernel8Ideal.defs _ _).mono (fun r h c => ⟨(h c main_v5 (by decide)).trans (end0_4 m g c),
      (h c main_v6 (by decide)).trans (end0_5 m g c),
      (h c main_v7 (by decide)).trans (end0_6 m g c),
      (h c main_v13 (by decide)).trans (end1_4 m g c),
      (h c main_v14 (by decide)).trans (end1_5 m g c),
      (h c main_v15 (by decide)).trans (end1_6 m g c),
      (h c main_v21 (by decide)).trans (end2_4 m g c),
      (h c main_v22 (by decide)).trans (end2_5 m g c),
      (h c main_v23 (by decide)).trans (end2_6 m g c),
      (h c main_v29 (by decide)).trans (end3_4 m g c),
      (h c main_v30 (by decide)).trans (end3_5 m g c),
      (h c main_v31 (by decide)).trans (end3_6 m g c),
      (h c main_arg0 (by decide)).trans (W9_args m g c main_arg0 (by decide)),
      (h c main_arg1 (by decide)).trans (W9_args m g c main_arg1 (by decide)),
      (h c main_arg2 (by decide)).trans (W9_args m g c main_arg2 (by decide)),
      (h c main_arg3 (by decide)).trans (W9_args m g c main_arg3 (by decide)),
      (h c main_arg4 (by decide)).trans (W9_args m g c main_arg4 (by decide)),
      (h c main_arg5 (by decide)).trans (W9_args m g c main_arg5 (by decide)),
      (h c main_arg6 (by decide)).trans (W9_args m g c main_arg6 (by decide)),
      (h c main_arg7 (by decide)).trans (W9_args m g c main_arg7 (by decide)),
      (h c main_arg8 (by decide)).trans (W9_args m g c main_arg8 (by decide)),
      (h c main_arg9 (by decide)).trans (W9_args m g c main_arg9 (by decide)),
      (h c main_arg10 (by decide)).trans (W9_args m g c main_arg10 (by decide)),
      (h c main_arg11 (by decide)).trans (W9_args m g c main_arg11 (by decide)),
      (h c main_arg12 (by decide)).trans (W9_args m g c main_arg12 (by decide)),
      (h c main_arg13 (by decide)).trans (W9_args m g c main_arg13 (by decide)),
      (h c main_arg14 (by decide)).trans (W9_args m g c main_arg14 (by decide)),
      (h c main_arg15 (by decide)).trans (W9_args m g c main_arg15 (by decide))⟩)
      (Cert.Kernel8Ideal.Run.ends (F := Ideal) m g), ?_⟩
  refine (θ_run Cert.Reference8Ideal.defs _ _).mono (fun r h c => ?_) (Cert.Reference8Ideal.Value.run (F := Ideal) m' g')
  obtain ⟨h0, h1, h2, h3, h4, h5, h6, h7, h8, h9, h10, h11, hk⟩ := h c
  obtain ⟨a0, a1, a2, a3, a4, a5, a6, a7, a8, a9, a10, a11, a12, a13, a14, a15⟩ := hagree c
  exact ⟨(h0.trans (Cert.Reference8Ideal.Read.val_main_v23_eq _ _ _ _)).trans (ref0 _ _ _ _ _ _ _ _ a0 a1 a2 a3),
    (h1.trans (Cert.Reference8Ideal.Read.val_main_v4_eq _ _)).trans (ref1 _ _ _ _ a1 a2),
    (h2.trans (Cert.Reference8Ideal.Read.val_main_v10_eq _ _)).trans (ref2 _ _ _ _ a1 a3),
    (h3.trans (Cert.Reference8Ideal.Read.val_main_v47_eq _ _ _ _)).trans (ref3 _ _ _ _ _ _ _ _ a4 a5 a6 a7),
    (h4.trans (Cert.Reference8Ideal.Read.val_main_v28_eq _ _)).trans (ref4 _ _ _ _ a5 a6),
    (h5.trans (Cert.Reference8Ideal.Read.val_main_v34_eq _ _)).trans (ref5 _ _ _ _ a5 a7),
    (h6.trans (Cert.Reference8Ideal.Read.val_main_v71_eq _ _ _ _)).trans (ref6 _ _ _ _ _ _ _ _ a8 a9 a10 a11),
    (h7.trans (Cert.Reference8Ideal.Read.val_main_v52_eq _ _)).trans (ref7 _ _ _ _ a9 a10),
    (h8.trans (Cert.Reference8Ideal.Read.val_main_v58_eq _ _)).trans (ref8 _ _ _ _ a9 a11),
    (h9.trans (Cert.Reference8Ideal.Read.val_main_v95_eq _ _ _ _)).trans (ref9 _ _ _ _ _ _ _ _ a12 a13 a14 a15),
    (h10.trans (Cert.Reference8Ideal.Read.val_main_v76_eq _ _)).trans (ref10 _ _ _ _ a13 a14),
    (h11.trans (Cert.Reference8Ideal.Read.val_main_v82_eq _ _)).trans (ref11 _ _ _ _ a13 a15),
    hk⟩

end Cert.Proof

end

end
-- ==== Proof.Upd9.lean ====
/- The regions of `Kernel9Ideal`, the optimiser's step on one weight each: what every region's three output arrays end as. -/
module

public import proofs.«01_k».proof.Proof.Adam
public import proofs.«01_k».proof.Proof.Gen.Kernel9Ideal.Frame

@[expose] public section

set_option maxRecDepth 16384

noncomputable section

namespace Cert.Kernel9Ideal.Upd

open Idealize.ShloMosaic Idealize.ShloMosaic.TcCoe
open Idealize.SL.Sem Cert.Kernel9Ideal Cert.Kernel9Ideal.Gen

variable (V : (c : Dev nD) → (b : Ref sig .tc) → Buf (Elt Ideal) ((c : Thread nD τ).loc b)) (c : Dev nD)

/-! ### Region 0 -/

theorem outs0_4 (x0 x1 x2 x3 : Vec Ideal S1x2x2176 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, k0_pay4, shapeCast_self]
  rfl

theorem arr0_4 : (dat0 (F := Ideal) V c).arrAt 4 cfg0.N =
    Adam.delta (s := S1x2x2176) (V c main_v0) (V c main_v1) (V c main_v2) (V c main_v3) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x2x2176 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, k0_pay4, shapeCast_self]
  rfl

theorem arr0_5 : (dat0 (F := Ideal) V c).arrAt 5 cfg0.N =
    Adam.mom (s := S1x2x2176) (V c main_v1) (V c main_v2) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x2x2176 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, k0_pay4, shapeCast_self]
  rfl

theorem arr0_6 : (dat0 (F := Ideal) V c).arrAt 6 cfg0.N =
    Adam.sq (s := S1x2x2176) (V c main_v1) (V c main_v3) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x2x512 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, k1_pay4, shapeCast_self]
  rfl

theorem arr1_4 : (dat1 (F := Ideal) V c).arrAt 4 cfg1.N =
    Adam.delta (s := S1x2x512) (V c main_v8) (V c main_v9) (V c main_v10) (V c main_v11) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x2x512 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, k1_pay4, shapeCast_self]
  rfl

theorem arr1_5 : (dat1 (F := Ideal) V c).arrAt 5 cfg1.N =
    Adam.mom (s := S1x2x512) (V c main_v9) (V c main_v10) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x2x512 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, k1_pay4, shapeCast_self]
  rfl

theorem arr1_6 : (dat1 (F := Ideal) V c).arrAt 6 cfg1.N =
    Adam.sq (s := S1x2x512) (V c main_v9) (V c main_v11) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x64x128 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, shapeCast_self]
  rfl

theorem arr2_4 : (dat2 (F := Ideal) V c).arrAt 4 cfg2.N =
    Adam.delta (s := S2x64x128) (V c main_arg8) (V c main_arg9) (V c main_arg10) (V c main_arg11) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x64x128 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, shapeCast_self]
  rfl

theorem arr2_5 : (dat2 (F := Ideal) V c).arrAt 5 cfg2.N =
    Adam.mom (s := S2x64x128) (V c main_arg9) (V c main_arg10) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x64x128 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, shapeCast_self]
  rfl

theorem arr2_6 : (dat2 (F := Ideal) V c).arrAt 6 cfg2.N =
    Adam.sq (s := S2x64x128) (V c main_arg9) (V c main_arg11) := by
  refine (dat2 V c).arrAt_eq_of_covers 6 _ (by decide +kernel) fun t hf y => ?_
  blk_simp
  rw [after2_6, outs2_6]
  exact Adam.sq_read (fun i => (win2_6.blk t).view.emb i) _ _ y

/-! ### Region 3 -/

theorem outs3_4 (x0 x1 x2 x3 : Vec Ideal S1x2x512 .f32) : out3_4 (F := Ideal) x0 x1 x2 x3 = Adam.delta x0 x1 x2 x3 := by
  unfold out3_4
  rw [View.canon_cons_unit_lit _ _ _ (by decide)]
  repeat rw [View.ld_unit_lit _ _ (by decide)]
  simp only [k3_pay1, k3_pay2, k3_pay3, k3_pay4, shapeCast_self]
  rfl

theorem arr3_4 : (dat3 (F := Ideal) V c).arrAt 4 cfg3.N =
    Adam.delta (s := S1x2x512) (V c main_v17) (V c main_v18) (V c main_v19) (V c main_v20) := by
  refine (dat3 V c).arrAt_eq_of_covers 4 _ (by decide +kernel) fun t hf y => ?_
  blk_simp
  rw [after3_4, outs3_4]
  exact Adam.delta_read (fun i => (win3_4.blk t).view.emb i) _ _ _ _ y

theorem outs3_5 (x0 x1 x2 x3 : Vec Ideal S1x2x512 .f32) : out3_5 (F := Ideal) x0 x1 x2 x3 = Adam.mom x1 x2 := by
  unfold out3_5
  rw [View.canon_cons_unit_lit _ _ _ (by decide)]
  repeat rw [View.ld_unit_lit _ _ (by decide)]
  simp only [k3_pay1, k3_pay2, k3_pay3, k3_pay4, shapeCast_self]
  rfl

theorem arr3_5 : (dat3 (F := Ideal) V c).arrAt 5 cfg3.N =
    Adam.mom (s := S1x2x512) (V c main_v18) (V c main_v19) := by
  refine (dat3 V c).arrAt_eq_of_covers 5 _ (by decide +kernel) fun t hf y => ?_
  blk_simp
  rw [after3_5, outs3_5]
  exact Adam.mom_read (fun i => (win3_5.blk t).view.emb i) _ _ y

theorem outs3_6 (x0 x1 x2 x3 : Vec Ideal S1x2x512 .f32) : out3_6 (F := Ideal) x0 x1 x2 x3 = Adam.sq x1 x3 := by
  unfold out3_6
  rw [View.canon_cons_unit_lit _ _ _ (by decide)]
  repeat rw [View.ld_unit_lit _ _ (by decide)]
  simp only [k3_pay1, k3_pay2, k3_pay3, k3_pay4, shapeCast_self]
  rfl

theorem arr3_6 : (dat3 (F := Ideal) V c).arrAt 6 cfg3.N =
    Adam.sq (s := S1x2x512) (V c main_v18) (V c main_v20) := by
  refine (dat3 V c).arrAt_eq_of_covers 6 _ (by decide +kernel) fun t hf y => ?_
  blk_simp
  rw [after3_6, outs3_6]
  exact Adam.sq_read (fun i => (win3_6.blk t).view.emb i) _ _ y

end Cert.Kernel9Ideal.Upd

end

end
-- ==== Proof.UpdEnd9.lean ====
/- What the results of `Kernel9Ideal` end as: the optimiser's step of each weight, from the arguments. -/
module

public import proofs.«01_k».proof.Proof.Upd9

@[expose] public section

set_option maxRecDepth 16384

noncomputable section

namespace Cert.Kernel9Ideal.Upd

open Idealize.ShloMosaic Idealize.ShloMosaic.TcCoe
open Idealize.SL.Sem Cert.Kernel9Ideal Cert.Kernel9Ideal.Gen

variable (m : (ℓ : Loc nD τ sig) → Buf (Elt Ideal) ℓ) (ρ : Dev nD → PrngReg) (c : Dev nD)

/-! ### Region 0 -/

theorem in0_0 : V1 m ρ c main_v0 = shapeCast S1x2x2176 (m ((c : Thread nD τ).loc main_arg0) : Vec Ideal S2x2176 .f32) shapeCasts_S2x2176_S1x2x2176 := by
  show StableHlo.after hostOps0 (W0 m ρ c) (Proc.devRef .tc main_v0) = _
  unfold hostOps0
  entry_read
  rw [W0_args m ρ c main_arg0 (by decide)]
  rfl

theorem in0_1 : V1 m ρ c main_v1 = shapeCast S1x2x2176 (m ((c : Thread nD τ).loc main_arg1) : Vec Ideal S2x2176 .f32) shapeCasts_S2x2176_S1x2x2176 := by
  show StableHlo.after hostOps0 (W0 m ρ c) (Proc.devRef .tc main_v1) = _
  unfold hostOps0
  entry_read
  rw [W0_args m ρ c main_arg1 (by decide)]
  rfl

theorem in0_2 : V1 m ρ c main_v2 = shapeCast S1x2x2176 (m ((c : Thread nD τ).loc main_arg2) : Vec Ideal S2x2176 .f32) shapeCasts_S2x2176_S1x2x2176 := by
  show StableHlo.after hostOps0 (W0 m ρ c) (Proc.devRef .tc main_v2) = _
  unfold hostOps0
  entry_read
  rw [W0_args m ρ c main_arg2 (by decide)]
  rfl

theorem in0_3 : V1 m ρ c main_v3 = shapeCast S1x2x2176 (m ((c : Thread nD τ).loc main_arg3) : Vec Ideal S2x2176 .f32) shapeCasts_S2x2176_S1x2x2176 := by
  show StableHlo.after hostOps0 (W0 m ρ c) (Proc.devRef .tc main_v3) = _
  unfold hostOps0
  entry_read
  rw [W0_args m ρ c main_arg3 (by decide)]
  rfl

theorem end0_4 : W9 m ρ c (Proc.devRef .tc main_v5) = Adam.delta (m ((c : Thread nD τ).loc main_arg0) : Vec Ideal S2x2176 .f32) (m ((c : Thread nD τ).loc main_arg1) : Vec Ideal S2x2176 .f32) (m ((c : Thread nD τ).loc main_arg2) : Vec Ideal S2x2176 .f32) (m ((c : Thread nD τ).loc main_arg3) : Vec Ideal S2x2176 .f32) := by
  have e : W3 m ρ c (Proc.devRef .tc main_v5) = shapeCast S2x2176 (W2 m ρ c (Proc.devRef .tc main_v4_0) : Vec Ideal S1x2x2176 .f32) shapeCasts_S1x2x2176_S2x2176 := by
    show StableHlo.after hostOps1 (W2 m ρ c) (Proc.devRef .tc main_v5) = _
    unfold hostOps1
    entry_read
    rfl
  refine ((W9_of m ρ c main_v5 (by decide)).trans ((W8_of_ne m ρ c main_v5 (by decide)).trans ((W7_of m ρ c main_v5 (by decide)).trans ((W6_of_ne m ρ c main_v5 (by decide)).trans ((W5_of m ρ c main_v5 (by decide)).trans ((W4_of_ne m ρ c main_v5 (by decide)).trans (e))))))).trans ?_
  rw [show W2 m ρ c (Proc.devRef .tc main_v4_0) = _ from (W2_arr m ρ c 4).trans (arr0_4 (V1 m ρ) c), show V1 m ρ c main_v0 = _ from in0_0 m ρ c, show V1 m ρ c main_v1 = _ from in0_1 m ρ c, show V1 m ρ c main_v2 = _ from in0_2 m ρ c, show V1 m ρ c main_v3 = _ from in0_3 m ρ c]
  exact Adam.delta_cast _ _ _ _ _ _

theorem end0_5 : W9 m ρ c (Proc.devRef .tc main_v6) = Adam.mom (m ((c : Thread nD τ).loc main_arg1) : Vec Ideal S2x2176 .f32) (m ((c : Thread nD τ).loc main_arg2) : Vec Ideal S2x2176 .f32) := by
  have e : W3 m ρ c (Proc.devRef .tc main_v6) = shapeCast S2x2176 (W2 m ρ c (Proc.devRef .tc main_v4_1) : Vec Ideal S1x2x2176 .f32) shapeCasts_S1x2x2176_S2x2176 := by
    show StableHlo.after hostOps1 (W2 m ρ c) (Proc.devRef .tc main_v6) = _
    unfold hostOps1
    entry_read
    rfl
  refine ((W9_of m ρ c main_v6 (by decide)).trans ((W8_of_ne m ρ c main_v6 (by decide)).trans ((W7_of m ρ c main_v6 (by decide)).trans ((W6_of_ne m ρ c main_v6 (by decide)).trans ((W5_of m ρ c main_v6 (by decide)).trans ((W4_of_ne m ρ c main_v6 (by decide)).trans (e))))))).trans ?_
  rw [show W2 m ρ c (Proc.devRef .tc main_v4_1) = _ from (W2_arr m ρ c 5).trans (arr0_5 (V1 m ρ) c), show V1 m ρ c main_v1 = _ from in0_1 m ρ c, show V1 m ρ c main_v2 = _ from in0_2 m ρ c]
  exact Adam.mom_cast _ _ _ _

theorem end0_6 : W9 m ρ c (Proc.devRef .tc main_v7) = Adam.sq (m ((c : Thread nD τ).loc main_arg1) : Vec Ideal S2x2176 .f32) (m ((c : Thread nD τ).loc main_arg3) : Vec Ideal S2x2176 .f32) := by
  have e : W3 m ρ c (Proc.devRef .tc main_v7) = shapeCast S2x2176 (W2 m ρ c (Proc.devRef .tc main_v4_2) : Vec Ideal S1x2x2176 .f32) shapeCasts_S1x2x2176_S2x2176 := by
    show StableHlo.after hostOps1 (W2 m ρ c) (Proc.devRef .tc main_v7) = _
    unfold hostOps1
    entry_read
    rfl
  refine ((W9_of m ρ c main_v7 (by decide)).trans ((W8_of_ne m ρ c main_v7 (by decide)).trans ((W7_of m ρ c main_v7 (by decide)).trans ((W6_of_ne m ρ c main_v7 (by decide)).trans ((W5_of m ρ c main_v7 (by decide)).trans ((W4_of_ne m ρ c main_v7 (by decide)).trans (e))))))).trans ?_
  rw [show W2 m ρ c (Proc.devRef .tc main_v4_2) = _ from (W2_arr m ρ c 6).trans (arr0_6 (V1 m ρ) c), show V1 m ρ c main_v1 = _ from in0_1 m ρ c, show V1 m ρ c main_v3 = _ from in0_3 m ρ c]
  exact Adam.sq_cast _ _ _ _

/-! ### Region 1 -/

theorem in1_0 : V3 m ρ c main_v8 = shapeCast S1x2x512 (m ((c : Thread nD τ).loc main_arg4) : Vec Ideal S2x512 .f32) shapeCasts_S2x512_S1x2x512 := by
  show StableHlo.after hostOps1 (W2 m ρ c) (Proc.devRef .tc main_v8) = _
  unfold hostOps1
  entry_read
  rw [W2_args m ρ c main_arg4 (by decide)]
  rfl

theorem in1_1 : V3 m ρ c main_v9 = shapeCast S1x2x512 (m ((c : Thread nD τ).loc main_arg5) : Vec Ideal S2x512 .f32) shapeCasts_S2x512_S1x2x512 := by
  show StableHlo.after hostOps1 (W2 m ρ c) (Proc.devRef .tc main_v9) = _
  unfold hostOps1
  entry_read
  rw [W2_args m ρ c main_arg5 (by decide)]
  rfl

theorem in1_2 : V3 m ρ c main_v10 = shapeCast S1x2x512 (m ((c : Thread nD τ).loc main_arg6) : Vec Ideal S2x512 .f32) shapeCasts_S2x512_S1x2x512 := by
  show StableHlo.after hostOps1 (W2 m ρ c) (Proc.devRef .tc main_v10) = _
  unfold hostOps1
  entry_read
  rw [W2_args m ρ c main_arg6 (by decide)]
  rfl

theorem in1_3 : V3 m ρ c main_v11 = shapeCast S1x2x512 (m ((c : Thread nD τ).loc main_arg7) : Vec Ideal S2x512 .f32) shapeCasts_S2x512_S1x2x512 := by
  show StableHlo.after hostOps1 (W2 m ρ c) (Proc.devRef .tc main_v11) = _
  unfold hostOps1
  entry_read
  rw [W2_args m ρ c main_arg7 (by decide)]
  rfl

theorem end1_4 : W9 m ρ c (Proc.devRef .tc main_v13) = Adam.delta (m ((c : Thread nD τ).loc main_arg4) : Vec Ideal S2x512 .f32) (m ((c : Thread nD τ).loc main_arg5) : Vec Ideal S2x512 .f32) (m ((c : Thread nD τ).loc main_arg6) : Vec Ideal S2x512 .f32) (m ((c : Thread nD τ).loc main_arg7) : Vec Ideal S2x512 .f32) := by
  have e : W5 m ρ c (Proc.devRef .tc main_v13) = shapeCast S2x512 (W4 m ρ c (Proc.devRef .tc main_v12_0) : Vec Ideal S1x2x512 .f32) shapeCasts_S1x2x512_S2x512 := by
    show StableHlo.after hostOps2 (W4 m ρ c) (Proc.devRef .tc main_v13) = _
    unfold hostOps2
    entry_read
    rfl
  refine ((W9_of m ρ c main_v13 (by decide)).trans ((W8_of_ne m ρ c main_v13 (by decide)).trans ((W7_of m ρ c main_v13 (by decide)).trans ((W6_of_ne m ρ c main_v13 (by decide)).trans (e))))).trans ?_
  rw [show W4 m ρ c (Proc.devRef .tc main_v12_0) = _ from (W4_arr m ρ c 4).trans (arr1_4 (V3 m ρ) c), show V3 m ρ c main_v8 = _ from in1_0 m ρ c, show V3 m ρ c main_v9 = _ from in1_1 m ρ c, show V3 m ρ c main_v10 = _ from in1_2 m ρ c, show V3 m ρ c main_v11 = _ from in1_3 m ρ c]
  exact Adam.delta_cast _ _ _ _ _ _

theorem end1_5 : W9 m ρ c (Proc.devRef .tc main_v14) = Adam.mom (m ((c : Thread nD τ).loc main_arg5) : Vec Ideal S2x512 .f32) (m ((c : Thread nD τ).loc main_arg6) : Vec Ideal S2x512 .f32) := by
  have e : W5 m ρ c (Proc.devRef .tc main_v14) = shapeCast S2x512 (W4 m ρ c (Proc.devRef .tc main_v12_1) : Vec Ideal S1x2x512 .f32) shapeCasts_S1x2x512_S2x512 := by
    show StableHlo.after hostOps2 (W4 m ρ c) (Proc.devRef .tc main_v14) = _
    unfold hostOps2
    entry_read
    rfl
  refine ((W9_of m ρ c main_v14 (by decide)).trans ((W8_of_ne m ρ c main_v14 (by decide)).trans ((W7_of m ρ c main_v14 (by decide)).trans ((W6_of_ne m ρ c main_v14 (by decide)).trans (e))))).trans ?_
  rw [show W4 m ρ c (Proc.devRef .tc main_v12_1) = _ from (W4_arr m ρ c 5).trans (arr1_5 (V3 m ρ) c), show V3 m ρ c main_v9 = _ from in1_1 m ρ c, show V3 m ρ c main_v10 = _ from in1_2 m ρ c]
  exact Adam.mom_cast _ _ _ _

theorem end1_6 : W9 m ρ c (Proc.devRef .tc main_v15) = Adam.sq (m ((c : Thread nD τ).loc main_arg5) : Vec Ideal S2x512 .f32) (m ((c : Thread nD τ).loc main_arg7) : Vec Ideal S2x512 .f32) := by
  have e : W5 m ρ c (Proc.devRef .tc main_v15) = shapeCast S2x512 (W4 m ρ c (Proc.devRef .tc main_v12_2) : Vec Ideal S1x2x512 .f32) shapeCasts_S1x2x512_S2x512 := by
    show StableHlo.after hostOps2 (W4 m ρ c) (Proc.devRef .tc main_v15) = _
    unfold hostOps2
    entry_read
    rfl
  refine ((W9_of m ρ c main_v15 (by decide)).trans ((W8_of_ne m ρ c main_v15 (by decide)).trans ((W7_of m ρ c main_v15 (by decide)).trans ((W6_of_ne m ρ c main_v15 (by decide)).trans (e))))).trans ?_
  rw [show W4 m ρ c (Proc.devRef .tc main_v12_2) = _ from (W4_arr m ρ c 6).trans (arr1_6 (V3 m ρ) c), show V3 m ρ c main_v9 = _ from in1_1 m ρ c, show V3 m ρ c main_v11 = _ from in1_3 m ρ c]
  exact Adam.sq_cast _ _ _ _

/-! ### Region 2 -/

theorem end2_4 : W9 m ρ c (Proc.devRef .tc main_v16_0) = Adam.delta (m ((c : Thread nD τ).loc main_arg8) : Vec Ideal S2x64x128 .f32) (m ((c : Thread nD τ).loc main_arg9) : Vec Ideal S2x64x128 .f32) (m ((c : Thread nD τ).loc main_arg10) : Vec Ideal S2x64x128 .f32) (m ((c : Thread nD τ).loc main_arg11) : Vec Ideal S2x64x128 .f32) := by
  refine ((W9_of m ρ c main_v16_0 (by decide)).trans ((W8_of_ne m ρ c main_v16_0 (by decide)).trans ((W7_of m ρ c main_v16_0 (by decide)).trans ((W6_arr m ρ c 4).trans (arr2_4 (V5 m ρ) c))))).trans ?_
  rw [show V5 m ρ c main_arg8 = _ from W5_args m ρ c main_arg8 (by decide), show V5 m ρ c main_arg9 = _ from W5_args m ρ c main_arg9 (by decide), show V5 m ρ c main_arg10 = _ from W5_args m ρ c main_arg10 (by decide), show V5 m ρ c main_arg11 = _ from W5_args m ρ c main_arg11 (by decide)]

theorem end2_5 : W9 m ρ c (Proc.devRef .tc main_v16_1) = Adam.mom (m ((c : Thread nD τ).loc main_arg9) : Vec Ideal S2x64x128 .f32) (m ((c : Thread nD τ).loc main_arg10) : Vec Ideal S2x64x128 .f32) := by
  refine ((W9_of m ρ c main_v16_1 (by decide)).trans ((W8_of_ne m ρ c main_v16_1 (by decide)).trans ((W7_of m ρ c main_v16_1 (by decide)).trans ((W6_arr m ρ c 5).trans (arr2_5 (V5 m ρ) c))))).trans ?_
  rw [show V5 m ρ c main_arg9 = _ from W5_args m ρ c main_arg9 (by decide), show V5 m ρ c main_arg10 = _ from W5_args m ρ c main_arg10 (by decide)]

theorem end2_6 : W9 m ρ c (Proc.devRef .tc main_v16_2) = Adam.sq (m ((c : Thread nD τ).loc main_arg9) : Vec Ideal S2x64x128 .f32) (m ((c : Thread nD τ).loc main_arg11) : Vec Ideal S2x64x128 .f32) := by
  refine ((W9_of m ρ c main_v16_2 (by decide)).trans ((W8_of_ne m ρ c main_v16_2 (by decide)).trans ((W7_of m ρ c main_v16_2 (by decide)).trans ((W6_arr m ρ c 6).trans (arr2_6 (V5 m ρ) c))))).trans ?_
  rw [show V5 m ρ c main_arg9 = _ from W5_args m ρ c main_arg9 (by decide), show V5 m ρ c main_arg11 = _ from W5_args m ρ c main_arg11 (by decide)]

/-! ### Region 3 -/

theorem in3_0 : V7 m ρ c main_v17 = shapeCast S1x2x512 (m ((c : Thread nD τ).loc main_arg12) : Vec Ideal S2x512 .f32) shapeCasts_S2x512_S1x2x512 := by
  show StableHlo.after hostOps3 (W6 m ρ c) (Proc.devRef .tc main_v17) = _
  unfold hostOps3
  entry_read
  rw [W6_args m ρ c main_arg12 (by decide)]
  rfl

theorem in3_1 : V7 m ρ c main_v18 = shapeCast S1x2x512 (m ((c : Thread nD τ).loc main_arg13) : Vec Ideal S2x512 .f32) shapeCasts_S2x512_S1x2x512 := by
  show StableHlo.after hostOps3 (W6 m ρ c) (Proc.devRef .tc main_v18) = _
  unfold hostOps3
  entry_read
  rw [W6_args m ρ c main_arg13 (by decide)]
  rfl

theorem in3_2 : V7 m ρ c main_v19 = shapeCast S1x2x512 (m ((c : Thread nD τ).loc main_arg14) : Vec Ideal S2x512 .f32) shapeCasts_S2x512_S1x2x512 := by
  show StableHlo.after hostOps3 (W6 m ρ c) (Proc.devRef .tc main_v19) = _
  unfold hostOps3
  entry_read
  rw [W6_args m ρ c main_arg14 (by decide)]
  rfl

theorem in3_3 : V7 m ρ c main_v20 = shapeCast S1x2x512 (m ((c : Thread nD τ).loc main_arg15) : Vec Ideal S2x512 .f32) shapeCasts_S2x512_S1x2x512 := by
  show StableHlo.after hostOps3 (W6 m ρ c) (Proc.devRef .tc main_v20) = _
  unfold hostOps3
  entry_read
  rw [W6_args m ρ c main_arg15 (by decide)]
  rfl

theorem end3_4 : W9 m ρ c (Proc.devRef .tc main_v22) = Adam.delta (m ((c : Thread nD τ).loc main_arg12) : Vec Ideal S2x512 .f32) (m ((c : Thread nD τ).loc main_arg13) : Vec Ideal S2x512 .f32) (m ((c : Thread nD τ).loc main_arg14) : Vec Ideal S2x512 .f32) (m ((c : Thread nD τ).loc main_arg15) : Vec Ideal S2x512 .f32) := by
  have e : W9 m ρ c (Proc.devRef .tc main_v22) = shapeCast S2x512 (W8 m ρ c (Proc.devRef .tc main_v21_0) : Vec Ideal S1x2x512 .f32) shapeCasts_S1x2x512_S2x512 := by
    show StableHlo.after hostOps4 (W8 m ρ c) (Proc.devRef .tc main_v22) = _
    unfold hostOps4
    entry_read
    rfl
  refine (e).trans ?_
  rw [show W8 m ρ c (Proc.devRef .tc main_v21_0) = _ from (W8_arr m ρ c 4).trans (arr3_4 (V7 m ρ) c), show V7 m ρ c main_v17 = _ from in3_0 m ρ c, show V7 m ρ c main_v18 = _ from in3_1 m ρ c, show V7 m ρ c main_v19 = _ from in3_2 m ρ c, show V7 m ρ c main_v20 = _ from in3_3 m ρ c]
  exact Adam.delta_cast _ _ _ _ _ _

theorem end3_5 : W9 m ρ c (Proc.devRef .tc main_v23) = Adam.mom (m ((c : Thread nD τ).loc main_arg13) : Vec Ideal S2x512 .f32) (m ((c : Thread nD τ).loc main_arg14) : Vec Ideal S2x512 .f32) := by
  have e : W9 m ρ c (Proc.devRef .tc main_v23) = shapeCast S2x512 (W8 m ρ c (Proc.devRef .tc main_v21_1) : Vec Ideal S1x2x512 .f32) shapeCasts_S1x2x512_S2x512 := by
    show StableHlo.after hostOps4 (W8 m ρ c) (Proc.devRef .tc main_v23) = _
    unfold hostOps4
    entry_read
    rfl
  refine (e).trans ?_
  rw [show W8 m ρ c (Proc.devRef .tc main_v21_1) = _ from (W8_arr m ρ c 5).trans (arr3_5 (V7 m ρ) c), show V7 m ρ c main_v18 = _ from in3_1 m ρ c, show V7 m ρ c main_v19 = _ from in3_2 m ρ c]
  exact Adam.mom_cast _ _ _ _

theorem end3_6 : W9 m ρ c (Proc.devRef .tc main_v24) = Adam.sq (m ((c : Thread nD τ).loc main_arg13) : Vec Ideal S2x512 .f32) (m ((c : Thread nD τ).loc main_arg15) : Vec Ideal S2x512 .f32) := by
  have e : W9 m ρ c (Proc.devRef .tc main_v24) = shapeCast S2x512 (W8 m ρ c (Proc.devRef .tc main_v21_2) : Vec Ideal S1x2x512 .f32) shapeCasts_S1x2x512_S2x512 := by
    show StableHlo.after hostOps4 (W8 m ρ c) (Proc.devRef .tc main_v24) = _
    unfold hostOps4
    entry_read
    rfl
  refine (e).trans ?_
  rw [show W8 m ρ c (Proc.devRef .tc main_v21_2) = _ from (W8_arr m ρ c 6).trans (arr3_6 (V7 m ρ) c), show V7 m ρ c main_v18 = _ from in3_1 m ρ c, show V7 m ρ c main_v20 = _ from in3_3 m ρ c]
  exact Adam.sq_cast _ _ _ _

end Cert.Kernel9Ideal.Upd

end

end
-- ==== Proof.Run9.lean ====
/- The run of the program `Kernel9Ideal` with every buffer's final contents: an array that outlives the kernel regions ends
   at the last of the valuations that the regions' run goes through, `W9`. -/
module

public import proofs.«01_k».proof.Proof.Gen.Kernel9Ideal.Frame

@[expose] public section

set_option maxRecDepth 16384

noncomputable section

namespace Cert.Kernel9Ideal.Run

open Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W9`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c b hb => h c _ (mem_uc b hb))

end Cert.Kernel9Ideal.Run

end

end
-- ==== Proof.UpdClaim9.lean ====
/- The claims of `Kernel9`: the optimiser's step. -/
module

public import proofs.«01_k».proof.Defs
public import proofs.«01_k».proof.Proof.Gen.Kernel9
public import proofs.«01_k».proof.Proof.Gen.Kernel9.Frame
public import proofs.«01_k».proof.Proof.UpdEnd9
public import proofs.«01_k».proof.Proof.Run9
public import proofs.«01_k».proof.Proof.Gen.Reference9Ideal
public import proofs.«01_k».proof.Proof.Gen.Reference9Ideal.Run
public import proofs.«01_k».proof.Proof.Gen.Reference9Ideal.Read
public import Idealize.ShloMosaic.Lib.Claim
public import Idealize.ShloMosaic.Adequacy
public import Idealize.ShloMosaic.Init

@[expose] public section

set_option maxRecDepth 16384

noncomputable section

namespace Cert.Reference9Ideal.Upd

open Idealize.ShloMosaic Idealize.ShloMosaic.TcCoe
open Idealize.SL.Sem Cert.Reference9Ideal Cert.Reference9Ideal.Read

theorem ref0 (x0 x1 x2 x3 y0 y1 y2 y3 : Vec Ideal S2x2176 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x2176 .f32) (h1 : y1 = x1) (h2 : y2 = x2) : val_main_v4 (F := Ideal) y1 y2 = Adam.mom x1 x2 := by
  subst h1 h2
  rfl

theorem ref2 (x1 x3 y1 y3 : Vec Ideal S2x2176 .f32) (h1 : y1 = x1) (h3 : y3 = x3) : val_main_v10 (F := Ideal) y1 y3 = Adam.sq x1 x3 := by
  subst h1 h3
  rfl

theorem ref3 (x0 x1 x2 x3 y0 y1 y2 y3 : Vec Ideal S2x512 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x512 .f32) (h1 : y1 = x1) (h2 : y2 = x2) : val_main_v28 (F := Ideal) y1 y2 = Adam.mom x1 x2 := by
  subst h1 h2
  rfl

theorem ref5 (x1 x3 y1 y3 : Vec Ideal S2x512 .f32) (h1 : y1 = x1) (h3 : y3 = x3) : val_main_v34 (F := Ideal) y1 y3 = Adam.sq x1 x3 := by
  subst h1 h3
  rfl

theorem ref6 (x0 x1 x2 x3 y0 y1 y2 y3 : Vec Ideal S2x64x128 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S2x64x128 .f32) (h1 : y1 = x1) (h2 : y2 = x2) : val_main_v52 (F := Ideal) y1 y2 = Adam.mom x1 x2 := by
  subst h1 h2
  rfl

theorem ref8 (x1 x3 y1 y3 : Vec Ideal S2x64x128 .f32) (h1 : y1 = x1) (h3 : y3 = x3) : val_main_v58 (F := Ideal) y1 y3 = Adam.sq x1 x3 := by
  subst h1 h3
  rfl

theorem ref9 (x0 x1 x2 x3 y0 y1 y2 y3 : Vec Ideal S2x512 .f32) (h0 : y0 = x0) (h1 : y1 = x1) (h2 : y2 = x2) (h3 : y3 = x3) : val_main_v95 (F := Ideal) y0 y1 y2 y3 = Adam.delta x0 x1 x2 x3 := by
  subst h0 h1 h2 h3
  rfl

theorem ref10 (x1 x2 y1 y2 : Vec Ideal S2x512 .f32) (h1 : y1 = x1) (h2 : y2 = x2) : val_main_v76 (F := Ideal) y1 y2 = Adam.mom x1 x2 := by
  subst h1 h2
  rfl

theorem ref11 (x1 x3 y1 y3 : Vec Ideal S2x512 .f32) (h1 : y1 = x1) (h3 : y3 = x3) : val_main_v82 (F := Ideal) y1 y3 = Adam.sq x1 x3 := by
  subst h1 h3
  rfl

end Cert.Reference9Ideal.Upd

namespace Cert.Proof

open Idealize.ShloMosaic Idealize.SL.Sem
open Cert.Kernel9Ideal Cert.Kernel9Ideal.Gen Cert.Kernel9Ideal.Upd Cert.Reference9Ideal.Upd

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2.2.2.2.2.2.2.2.2.2.2.2,
      Idealize.ShloMosaic.sem_eq_zero_of_no_sems (by decide) r.2⟩)
     (Cert.Reference9Ideal.Value.run (F := Ideal) m ρ)

theorem algebraic9 : Cert.algebraic_Kernel9Ideal_Reference9Ideal := by
  intro m g m' g' hpre hagree
  refine ⟨fun c => Adam.delta (s := S2x2176) (m ((c.tc : Thread nD τ).loc main_arg0)) (m ((c.tc : Thread nD τ).loc main_arg1)) (m ((c.tc : Thread nD τ).loc main_arg2)) (m ((c.tc : Thread nD τ).loc main_arg3)),
    fun c => Adam.mom (s := S2x2176) (m ((c.tc : Thread nD τ).loc main_arg1)) (m ((c.tc : Thread nD τ).loc main_arg2)),
    fun c => Adam.sq (s := S2x2176) (m ((c.tc : Thread nD τ).loc main_arg1)) (m ((c.tc : Thread nD τ).loc main_arg3)),
    fun c => Adam.delta (s := S2x512) (m ((c.tc : Thread nD τ).loc main_arg4)) (m ((c.tc : Thread nD τ).loc main_arg5)) (m ((c.tc : Thread nD τ).loc main_arg6)) (m ((c.tc : Thread nD τ).loc main_arg7)),
    fun c => Adam.mom (s := S2x512) (m ((c.tc : Thread nD τ).loc main_arg5)) (m ((c.tc : Thread nD τ).loc main_arg6)),
    fun c => Adam.sq (s := S2x512) (m ((c.tc : Thread nD τ).loc main_arg5)) (m ((c.tc : Thread nD τ).loc main_arg7)),
    fun c => Adam.delta (s := S2x64x128) (m ((c.tc : Thread nD τ).loc main_arg8)) (m ((c.tc : Thread nD τ).loc main_arg9)) (m ((c.tc : Thread nD τ).loc main_arg10)) (m ((c.tc : Thread nD τ).loc main_arg11)),
    fun c => Adam.mom (s := S2x64x128) (m ((c.tc : Thread nD τ).loc main_arg9)) (m ((c.tc : Thread nD τ).loc main_arg10)),
    fun c => Adam.sq (s := S2x64x128) (m ((c.tc : Thread nD τ).loc main_arg9)) (m ((c.tc : Thread nD τ).loc main_arg11)),
    fun c => Adam.delta (s := S2x512) (m ((c.tc : Thread nD τ).loc main_arg12)) (m ((c.tc : Thread nD τ).loc main_arg13)) (m ((c.tc : Thread nD τ).loc main_arg14)) (m ((c.tc : Thread nD τ).loc main_arg15)),
    fun c => Adam.mom (s := S2x512) (m ((c.tc : Thread nD τ).loc main_arg13)) (m ((c.tc : Thread nD τ).loc main_arg14)),
    fun c => Adam.sq (s := S2x512) (m ((c.tc : Thread nD τ).loc main_arg13)) (m ((c.tc : Thread nD τ).loc main_arg15)),
    (θ_run Cert.Kernel9Ideal.defs _ _).mono (fun r h c => ⟨(h c main_v5 (by decide)).trans (end0_4 m g c),
      (h c main_v6 (by decide)).trans (end0_5 m g c),
      (h c main_v7 (by decide)).trans (end0_6 m g c),
      (h c main_v13 (by decide)).trans (end1_4 m g c),
      (h c main_v14 (by decide)).trans (end1_5 m g c),
      (h c main_v15 (by decide)).trans (end1_6 m g c),
      (h c main_v16_0 (by decide)).trans (end2_4 m g c),
      (h c main_v16_1 (by decide)).trans (end2_5 m g c),
      (h c main_v16_2 (by decide)).trans (end2_6 m g c),
      (h c main_v22 (by decide)).trans (end3_4 m g c),
      (h c main_v23 (by decide)).trans (end3_5 m g c),
      (h c main_v24 (by decide)).trans (end3_6 m g c),
      (h c main_arg0 (by decide)).trans (W9_args m g c main_arg0 (by decide)),
      (h c main_arg1 (by decide)).trans (W9_args m g c main_arg1 (by decide)),
      (h c main_arg2 (by decide)).trans (W9_args m g c main_arg2 (by decide)),
      (h c main_arg3 (by decide)).trans (W9_args m g c main_arg3 (by decide)),
      (h c main_arg4 (by decide)).trans (W9_args m g c main_arg4 (by decide)),
      (h c main_arg5 (by decide)).trans (W9_args m g c main_arg5 (by decide)),
      (h c main_arg6 (by decide)).trans (W9_args m g c main_arg6 (by decide)),
      (h c main_arg7 (by decide)).trans (W9_args m g c main_arg7 (by decide)),
      (h c main_arg8 (by decide)).trans (W9_args m g c main_arg8 (by decide)),
      (h c main_arg9 (by decide)).trans (W9_args m g c main_arg9 (by decide)),
      (h c main_arg10 (by decide)).trans (W9_args m g c main_arg10 (by decide)),
      (h c main_arg11 (by decide)).trans (W9_args m g c main_arg11 (by decide)),
      (h c main_arg12 (by decide)).trans (W9_args m g c main_arg12 (by decide)),
      (h c main_arg13 (by decide)).trans (W9_args m g c main_arg13 (by decide)),
      (h c main_arg14 (by decide)).trans (W9_args m g c main_arg14 (by decide)),
      (h c main_arg15 (by decide)).trans (W9_args m g c main_arg15 (by decide))⟩)
      (Cert.Kernel9Ideal.Run.ends (F := Ideal) m g), ?_⟩
  refine (θ_run Cert.Reference9Ideal.defs _ _).mono (fun r h c => ?_) (Cert.Reference9Ideal.Value.run (F := Ideal) m' g')
  obtain ⟨h0, h1, h2, h3, h4, h5, h6, h7, h8, h9, h10, h11, hk⟩ := h c
  obtain ⟨a0, a1, a2, a3, a4, a5, a6, a7, a8, a9, a10, a11, a12, a13, a14, a15⟩ := hagree c
  exact ⟨(h0.trans (Cert.Reference9Ideal.Read.val_main_v23_eq _ _ _ _)).trans (ref0 _ _ _ _ _ _ _ _ a0 a1 a2 a3),
    (h1.trans (Cert.Reference9Ideal.Read.val_main_v4_eq _ _)).trans (ref1 _ _ _ _ a1 a2),
    (h2.trans (Cert.Reference9Ideal.Read.val_main_v10_eq _ _)).trans (ref2 _ _ _ _ a1 a3),
    (h3.trans (Cert.Reference9Ideal.Read.val_main_v47_eq _ _ _ _)).trans (ref3 _ _ _ _ _ _ _ _ a4 a5 a6 a7),
    (h4.trans (Cert.Reference9Ideal.Read.val_main_v28_eq _ _)).trans (ref4 _ _ _ _ a5 a6),
    (h5.trans (Cert.Reference9Ideal.Read.val_main_v34_eq _ _)).trans (ref5 _ _ _ _ a5 a7),
    (h6.trans (Cert.Reference9Ideal.Read.val_main_v71_eq _ _ _ _)).trans (ref6 _ _ _ _ _ _ _ _ a8 a9 a10 a11),
    (h7.trans (Cert.Reference9Ideal.Read.val_main_v52_eq _ _)).trans (ref7 _ _ _ _ a9 a10),
    (h8.trans (Cert.Reference9Ideal.Read.val_main_v58_eq _ _)).trans (ref8 _ _ _ _ a9 a11),
    (h9.trans (Cert.Reference9Ideal.Read.val_main_v95_eq _ _ _ _)).trans (ref9 _ _ _ _ _ _ _ _ a12 a13 a14 a15),
    (h10.trans (Cert.Reference9Ideal.Read.val_main_v76_eq _ _)).trans (ref10 _ _ _ _ a13 a14),
    (h11.trans (Cert.Reference9Ideal.Read.val_main_v82_eq _ _)).trans (ref11 _ _ _ _ a13 a15),
    hk⟩

end Cert.Proof

end

end
-- ==== Proof.Upd10.lean ====
/- The regions of `Kernel10Ideal`, the optimiser's step on one weight each: what every region's three output arrays end as. -/
module

public import proofs.«01_k».proof.Proof.Adam
public import proofs.«01_k».proof.Proof.Gen.Kernel10Ideal.Frame

@[expose] public section

set_option maxRecDepth 16384

noncomputable section

namespace Cert.Kernel10Ideal.Upd

open Idealize.ShloMosaic Idealize.ShloMosaic.TcCoe
open Idealize.SL.Sem Cert.Kernel10Ideal Cert.Kernel10Ideal.Gen

variable (V : (c : Dev nD) → (b : Ref sig .tc) → Buf (Elt Ideal) ((c : Thread nD τ).loc b)) (c : Dev nD)

/-! ### Region 0 -/

theorem outs0_4 (x0 x1 x2 x3 : Vec Ideal S1x64x128 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, shapeCast_self]
  rfl

theorem arr0_4 : (dat0 (F := Ideal) V c).arrAt 4 cfg0.N =
    Adam.delta (s := S2x64x128) (V c main_arg0) (V c main_arg1) (V c main_arg2) (V c main_arg3) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x64x128 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, shapeCast_self]
  rfl

theorem arr0_5 : (dat0 (F := Ideal) V c).arrAt 5 cfg0.N =
    Adam.mom (s := S2x64x128) (V c main_arg1) (V c main_arg2) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x64x128 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, shapeCast_self]
  rfl

theorem arr0_6 : (dat0 (F := Ideal) V c).arrAt 6 cfg0.N =
    Adam.sq (s := S2x64x128) (V c main_arg1) (V c main_arg3) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x2x512 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, k1_pay4, shapeCast_self]
  rfl

theorem arr1_4 : (dat1 (F := Ideal) V c).arrAt 4 cfg1.N =
    Adam.delta (s := S1x2x512) (V c main_v1) (V c main_v2) (V c main_v3) (V c main_v4) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x2x512 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, k1_pay4, shapeCast_self]
  rfl

theorem arr1_5 : (dat1 (F := Ideal) V c).arrAt 5 cfg1.N =
    Adam.mom (s := S1x2x512) (V c main_v2) (V c main_v3) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x2x512 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, k1_pay4, shapeCast_self]
  rfl

theorem arr1_6 : (dat1 (F := Ideal) V c).arrAt 6 cfg1.N =
    Adam.sq (s := S1x2x512) (V c main_v2) (V c main_v4) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x2x512 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, k2_pay4, shapeCast_self]
  rfl

theorem arr2_4 : (dat2 (F := Ideal) V c).arrAt 4 cfg2.N =
    Adam.delta (s := S1x2x512) (V c main_v9) (V c main_v10) (V c main_v11) (V c main_v12) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x2x512 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, k2_pay4, shapeCast_self]
  rfl

theorem arr2_5 : (dat2 (F := Ideal) V c).arrAt 5 cfg2.N =
    Adam.mom (s := S1x2x512) (V c main_v10) (V c main_v11) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x2x512 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, k2_pay4, shapeCast_self]
  rfl

theorem arr2_6 : (dat2 (F := Ideal) V c).arrAt 6 cfg2.N =
    Adam.sq (s := S1x2x512) (V c main_v10) (V c main_v12) := by
  refine (dat2 V c).arrAt_eq_of_covers 6 _ (by decide +kernel) fun t hf y => ?_
  blk_simp
  rw [after2_6, outs2_6]
  exact Adam.sq_read (fun i => (win2_6.blk t).view.emb i) _ _ y

/-! ### Region 3 -/

theorem outs3_4 (x0 x1 x2 x3 : Vec Ideal S1x8x64 .f32) : out3_4 (F := Ideal) x0 x1 x2 x3 = Adam.delta x0 x1 x2 x3 := by
  unfold out3_4
  rw [View.canon_cons_unit_lit _ _ _ (by decide)]
  repeat rw [View.ld_unit_lit _ _ (by decide)]
  simp only [k3_pay1, k3_pay2, k3_pay3, shapeCast_self]
  rfl

theorem arr3_4 : (dat3 (F := Ideal) V c).arrAt 4 cfg3.N =
    Adam.delta (s := S2x8x64) (V c main_arg12) (V c main_arg13) (V c main_arg14) (V c main_arg15) := by
  refine (dat3 V c).arrAt_eq_of_covers 4 _ (by decide +kernel) fun t hf y => ?_
  blk_simp
  rw [after3_4, outs3_4]
  exact Adam.delta_read (fun i => (win3_4.blk t).view.emb i) _ _ _ _ y

theorem outs3_5 (x0 x1 x2 x3 : Vec Ideal S1x8x64 .f32) : out3_5 (F := Ideal) x0 x1 x2 x3 = Adam.mom x1 x2 := by
  unfold out3_5
  rw [View.canon_cons_unit_lit _ _ _ (by decide)]
  repeat rw [View.ld_unit_lit _ _ (by decide)]
  simp only [k3_pay1, k3_pay2, k3_pay3, shapeCast_self]
  rfl

theorem arr3_5 : (dat3 (F := Ideal) V c).arrAt 5 cfg3.N =
    Adam.mom (s := S2x8x64) (V c main_arg13) (V c main_arg14) := by
  refine (dat3 V c).arrAt_eq_of_covers 5 _ (by decide +kernel) fun t hf y => ?_
  blk_simp
  rw [after3_5, outs3_5]
  exact Adam.mom_read (fun i => (win3_5.blk t).view.emb i) _ _ y

theorem outs3_6 (x0 x1 x2 x3 : Vec Ideal S1x8x64 .f32) : out3_6 (F := Ideal) x0 x1 x2 x3 = Adam.sq x1 x3 := by
  unfold out3_6
  rw [View.canon_cons_unit_lit _ _ _ (by decide)]
  repeat rw [View.ld_unit_lit _ _ (by decide)]
  simp only [k3_pay1, k3_pay2, k3_pay3, shapeCast_self]
  rfl

theorem arr3_6 : (dat3 (F := Ideal) V c).arrAt 6 cfg3.N =
    Adam.sq (s := S2x8x64) (V c main_arg13) (V c main_arg15) := by
  refine (dat3 V c).arrAt_eq_of_covers 6 _ (by decide +kernel) fun t hf y => ?_
  blk_simp
  rw [after3_6, outs3_6]
  exact Adam.sq_read (fun i => (win3_6.blk t).view.emb i) _ _ y

end Cert.Kernel10Ideal.Upd

end

end
-- ==== Proof.UpdEnd10.lean ====
/- What the results of `Kernel10Ideal` end as: the optimiser's step of each weight, from the arguments. -/
module

public import proofs.«01_k».proof.Proof.Upd10

@[expose] public section

set_option maxRecDepth 16384

noncomputable section

namespace Cert.Kernel10Ideal.Upd

open Idealize.ShloMosaic Idealize.ShloMosaic.TcCoe
open Idealize.SL.Sem Cert.Kernel10Ideal Cert.Kernel10Ideal.Gen

variable (m : (ℓ : Loc nD τ sig) → Buf (Elt Ideal) ℓ) (ρ : Dev nD → PrngReg) (c : Dev nD)

/-! ### Region 0 -/

theorem end0_4 : W7 m ρ c (Proc.devRef .tc main_v0_0) = Adam.delta (m ((c : Thread nD τ).loc main_arg0) : Vec Ideal S2x64x128 .f32) (m ((c : Thread nD τ).loc main_arg1) : Vec Ideal S2x64x128 .f32) (m ((c : Thread nD τ).loc main_arg2) : Vec Ideal S2x64x128 .f32) (m ((c : Thread nD τ).loc main_arg3) : Vec Ideal S2x64x128 .f32) := by
  refine ((W7_of_ne m ρ c main_v0_0 (by decide)).trans ((W6_of m ρ c main_v0_0 (by decide)).trans ((W5_of_ne m ρ c main_v0_0 (by decide)).trans ((W4_of m ρ c main_v0_0 (by decide)).trans ((W3_of_ne m ρ c main_v0_0 (by decide)).trans ((W2_of m ρ c main_v0_0 (by decide)).trans ((W1_arr m ρ c 4).trans (arr0_4 (V0 m ρ) c)))))))).trans ?_
  rw [show V0 m ρ c main_arg0 = _ from W0_args m ρ c main_arg0 (by decide), show V0 m ρ c main_arg1 = _ from W0_args m ρ c main_arg1 (by decide), show V0 m ρ c main_arg2 = _ from W0_args m ρ c main_arg2 (by decide), show V0 m ρ c main_arg3 = _ from W0_args m ρ c main_arg3 (by decide)]

theorem end0_5 : W7 m ρ c (Proc.devRef .tc main_v0_1) = Adam.mom (m ((c : Thread nD τ).loc main_arg1) : Vec Ideal S2x64x128 .f32) (m ((c : Thread nD τ).loc main_arg2) : Vec Ideal S2x64x128 .f32) := by
  refine ((W7_of_ne m ρ c main_v0_1 (by decide)).trans ((W6_of m ρ c main_v0_1 (by decide)).trans ((W5_of_ne m ρ c main_v0_1 (by decide)).trans ((W4_of m ρ c main_v0_1 (by decide)).trans ((W3_of_ne m ρ c main_v0_1 (by decide)).trans ((W2_of m ρ c main_v0_1 (by decide)).trans ((W1_arr m ρ c 5).trans (arr0_5 (V0 m ρ) c)))))))).trans ?_
  rw [show V0 m ρ c main_arg1 = _ from W0_args m ρ c main_arg1 (by decide), show V0 m ρ c main_arg2 = _ from W0_args m ρ c main_arg2 (by decide)]

theorem end0_6 : W7 m ρ c (Proc.devRef .tc main_v0_2) = Adam.sq (m ((c : Thread nD τ).loc main_arg1) : Vec Ideal S2x64x128 .f32) (m ((c : Thread nD τ).loc main_arg3) : Vec Ideal S2x64x128 .f32) := by
  refine ((W7_of_ne m ρ c main_v0_2 (by decide)).trans ((W6_of m ρ c main_v0_2 (by decide)).trans ((W5_of_ne m ρ c main_v0_2 (by decide)).trans ((W4_of m ρ c main_v0_2 (by decide)).trans ((W3_of_ne m ρ c main_v0_2 (by decide)).trans ((W2_of m ρ c main_v0_2 (by decide)).trans ((W1_arr m ρ c 6).trans (arr0_6 (V0 m ρ) c)))))))).trans ?_
  rw [show V0 m ρ c main_arg1 = _ from W0_args m ρ c main_arg1 (by decide), show V0 m ρ c main_arg3 = _ from W0_args m ρ c main_arg3 (by decide)]

/-! ### Region 1 -/

theorem in1_0 : V2 m ρ c main_v1 = shapeCast S1x2x512 (m ((c : Thread nD τ).loc main_arg4) : Vec Ideal S2x512 .f32) shapeCasts_S2x512_S1x2x512 := by
  show StableHlo.after hostOps1 (W1 m ρ c) (Proc.devRef .tc main_v1) = _
  unfold hostOps1
  entry_read
  rw [W1_args m ρ c main_arg4 (by decide)]
  rfl

theorem in1_1 : V2 m ρ c main_v2 = shapeCast S1x2x512 (m ((c : Thread nD τ).loc main_arg5) : Vec Ideal S2x512 .f32) shapeCasts_S2x512_S1x2x512 := by
  show StableHlo.after hostOps1 (W1 m ρ c) (Proc.devRef .tc main_v2) = _
  unfold hostOps1
  entry_read
  rw [W1_args m ρ c main_arg5 (by decide)]
  rfl

theorem in1_2 : V2 m ρ c main_v3 = shapeCast S1x2x512 (m ((c : Thread nD τ).loc main_arg6) : Vec Ideal S2x512 .f32) shapeCasts_S2x512_S1x2x512 := by
  show StableHlo.after hostOps1 (W1 m ρ c) (Proc.devRef .tc main_v3) = _
  unfold hostOps1
  entry_read
  rw [W1_args m ρ c main_arg6 (by decide)]
  rfl

theorem in1_3 : V2 m ρ c main_v4 = shapeCast S1x2x512 (m ((c : Thread nD τ).loc main_arg7) : Vec Ideal S2x512 .f32) shapeCasts_S2x512_S1x2x512 := by
  show StableHlo.after hostOps1 (W1 m ρ c) (Proc.devRef .tc main_v4) = _
  unfold hostOps1
  entry_read
  rw [W1_args m ρ c main_arg7 (by decide)]
  rfl

theorem end1_4 : W7 m ρ c (Proc.devRef .tc main_v6) = Adam.delta (m ((c : Thread nD τ).loc main_arg4) : Vec Ideal S2x512 .f32) (m ((c : Thread nD τ).loc main_arg5) : Vec Ideal S2x512 .f32) (m ((c : Thread nD τ).loc main_arg6) : Vec Ideal S2x512 .f32) (m ((c : Thread nD τ).loc main_arg7) : Vec Ideal S2x512 .f32) := by
  have e : W4 m ρ c (Proc.devRef .tc main_v6) = shapeCast S2x512 (W3 m ρ c (Proc.devRef .tc main_v5_0) : Vec Ideal S1x2x512 .f32) shapeCasts_S1x2x512_S2x512 := by
    show StableHlo.after hostOps2 (W3 m ρ c) (Proc.devRef .tc main_v6) = _
    unfold hostOps2
    entry_read
    rfl
  refine ((W7_of_ne m ρ c main_v6 (by decide)).trans ((W6_of m ρ c main_v6 (by decide)).trans ((W5_of_ne m ρ c main_v6 (by decide)).trans (e)))).trans ?_
  rw [show W3 m ρ c (Proc.devRef .tc main_v5_0) = _ from (W3_arr m ρ c 4).trans (arr1_4 (V2 m ρ) c), show V2 m ρ c main_v1 = _ from in1_0 m ρ c, show V2 m ρ c main_v2 = _ from in1_1 m ρ c, show V2 m ρ c main_v3 = _ from in1_2 m ρ c, show V2 m ρ c main_v4 = _ from in1_3 m ρ c]
  exact Adam.delta_cast _ _ _ _ _ _

theorem end1_5 : W7 m ρ c (Proc.devRef .tc main_v7) = Adam.mom (m ((c : Thread nD τ).loc main_arg5) : Vec Ideal S2x512 .f32) (m ((c : Thread nD τ).loc main_arg6) : Vec Ideal S2x512 .f32) := by
  have e : W4 m ρ c (Proc.devRef .tc main_v7) = shapeCast S2x512 (W3 m ρ c (Proc.devRef .tc main_v5_1) : Vec Ideal S1x2x512 .f32) shapeCasts_S1x2x512_S2x512 := by
    show StableHlo.after hostOps2 (W3 m ρ c) (Proc.devRef .tc main_v7) = _
    unfold hostOps2
    entry_read
    rfl
  refine ((W7_of_ne m ρ c main_v7 (by decide)).trans ((W6_of m ρ c main_v7 (by decide)).trans ((W5_of_ne m ρ c main_v7 (by decide)).trans (e)))).trans ?_
  rw [show W3 m ρ c (Proc.devRef .tc main_v5_1) = _ from (W3_arr m ρ c 5).trans (arr1_5 (V2 m ρ) c), show V2 m ρ c main_v2 = _ from in1_1 m ρ c, show V2 m ρ c main_v3 = _ from in1_2 m ρ c]
  exact Adam.mom_cast _ _ _ _

theorem end1_6 : W7 m ρ c (Proc.devRef .tc main_v8) = Adam.sq (m ((c : Thread nD τ).loc main_arg5) : Vec Ideal S2x512 .f32) (m ((c : Thread nD τ).loc main_arg7) : Vec Ideal S2x512 .f32) := by
  have e : W4 m ρ c (Proc.devRef .tc main_v8) = shapeCast S2x512 (W3 m ρ c (Proc.devRef .tc main_v5_2) : Vec Ideal S1x2x512 .f32) shapeCasts_S1x2x512_S2x512 := by
    show StableHlo.after hostOps2 (W3 m ρ c) (Proc.devRef .tc main_v8) = _
    unfold hostOps2
    entry_read
    rfl
  refine ((W7_of_ne m ρ c main_v8 (by decide)).trans ((W6_of m ρ c main_v8 (by decide)).trans ((W5_of_ne m ρ c main_v8 (by decide)).trans (e)))).trans ?_
  rw [show W3 m ρ c (Proc.devRef .tc main_v5_2) = _ from (W3_arr m ρ c 6).trans (arr1_6 (V2 m ρ) c), show V2 m ρ c main_v2 = _ from in1_1 m ρ c, show V2 m ρ c main_v4 = _ from in1_3 m ρ c]
  exact Adam.sq_cast _ _ _ _

/-! ### Region 2 -/

theorem in2_0 : V4 m ρ c main_v9 = shapeCast S1x2x512 (m ((c : Thread nD τ).loc main_arg8) : Vec Ideal S2x512 .f32) shapeCasts_S2x512_S1x2x512 := by
  show StableHlo.after hostOps2 (W3 m ρ c) (Proc.devRef .tc main_v9) = _
  unfold hostOps2
  entry_read
  rw [W3_args m ρ c main_arg8 (by decide)]
  rfl

theorem in2_1 : V4 m ρ c main_v10 = shapeCast S1x2x512 (m ((c : Thread nD τ).loc main_arg9) : Vec Ideal S2x512 .f32) shapeCasts_S2x512_S1x2x512 := by
  show StableHlo.after hostOps2 (W3 m ρ c) (Proc.devRef .tc main_v10) = _
  unfold hostOps2
  entry_read
  rw [W3_args m ρ c main_arg9 (by decide)]
  rfl

theorem in2_2 : V4 m ρ c main_v11 = shapeCast S1x2x512 (m ((c : Thread nD τ).loc main_arg10) : Vec Ideal S2x512 .f32) shapeCasts_S2x512_S1x2x512 := by
  show StableHlo.after hostOps2 (W3 m ρ c) (Proc.devRef .tc main_v11) = _
  unfold hostOps2
  entry_read
  rw [W3_args m ρ c main_arg10 (by decide)]
  rfl

theorem in2_3 : V4 m ρ c main_v12 = shapeCast S1x2x512 (m ((c : Thread nD τ).loc main_arg11) : Vec Ideal S2x512 .f32) shapeCasts_S2x512_S1x2x512 := by
  show StableHlo.after hostOps2 (W3 m ρ c) (Proc.devRef .tc main_v12) = _
  unfold hostOps2
  entry_read
  rw [W3_args m ρ c main_arg11 (by decide)]
  rfl

theorem end2_4 : W7 m ρ c (Proc.devRef .tc main_v14) = Adam.delta (m ((c : Thread nD τ).loc main_arg8) : Vec Ideal S2x512 .f32) (m ((c : Thread nD τ).loc main_arg9) : Vec Ideal S2x512 .f32) (m ((c : Thread nD τ).loc main_arg10) : Vec Ideal S2x512 .f32) (m ((c : Thread nD τ).loc main_arg11) : Vec Ideal S2x512 .f32) := by
  have e : W6 m ρ c (Proc.devRef .tc main_v14) = shapeCast S2x512 (W5 m ρ c (Proc.devRef .tc main_v13_0) : Vec Ideal S1x2x512 .f32) shapeCasts_S1x2x512_S2x512 := by
    show StableHlo.after hostOps3 (W5 m ρ c) (Proc.devRef .tc main_v14) = _
    unfold hostOps3
    entry_read
    rfl
  refine ((W7_of_ne m ρ c main_v14 (by decide)).trans (e)).trans ?_
  rw [show W5 m ρ c (Proc.devRef .tc main_v13_0) = _ from (W5_arr m ρ c 4).trans (arr2_4 (V4 m ρ) c), show V4 m ρ c main_v9 = _ from in2_0 m ρ c, show V4 m ρ c main_v10 = _ from in2_1 m ρ c, show V4 m ρ c main_v11 = _ from in2_2 m ρ c, show V4 m ρ c main_v12 = _ from in2_3 m ρ c]
  exact Adam.delta_cast _ _ _ _ _ _

theorem end2_5 : W7 m ρ c (Proc.devRef .tc main_v15) = Adam.mom (m ((c : Thread nD τ).loc main_arg9) : Vec Ideal S2x512 .f32) (m ((c : Thread nD τ).loc main_arg10) : Vec Ideal S2x512 .f32) := by
  have e : W6 m ρ c (Proc.devRef .tc main_v15) = shapeCast S2x512 (W5 m ρ c (Proc.devRef .tc main_v13_1) : Vec Ideal S1x2x512 .f32) shapeCasts_S1x2x512_S2x512 := by
    show StableHlo.after hostOps3 (W5 m ρ c) (Proc.devRef .tc main_v15) = _
    unfold hostOps3
    entry_read
    rfl
  refine ((W7_of_ne m ρ c main_v15 (by decide)).trans (e)).trans ?_
  rw [show W5 m ρ c (Proc.devRef .tc main_v13_1) = _ from (W5_arr m ρ c 5).trans (arr2_5 (V4 m ρ) c), show V4 m ρ c main_v10 = _ from in2_1 m ρ c, show V4 m ρ c main_v11 = _ from in2_2 m ρ c]
  exact Adam.mom_cast _ _ _ _

theorem end2_6 : W7 m ρ c (Proc.devRef .tc main_v16) = Adam.sq (m ((c : Thread nD τ).loc main_arg9) : Vec Ideal S2x512 .f32) (m ((c : Thread nD τ).loc main_arg11) : Vec Ideal S2x512 .f32) := by
  have e : W6 m ρ c (Proc.devRef .tc main_v16) = shapeCast S2x512 (W5 m ρ c (Proc.devRef .tc main_v13_2) : Vec Ideal S1x2x512 .f32) shapeCasts_S1x2x512_S2x512 := by
    show StableHlo.after hostOps3 (W5 m ρ c) (Proc.devRef .tc main_v16) = _
    unfold hostOps3
    entry_read
    rfl
  refine ((W7_of_ne m ρ c main_v16 (by decide)).trans (e)).trans ?_
  rw [show W5 m ρ c (Proc.devRef .tc main_v13_2) = _ from (W5_arr m ρ c 6).trans (arr2_6 (V4 m ρ) c), show V4 m ρ c main_v10 = _ from in2_1 m ρ c, show V4 m ρ c main_v12 = _ from in2_3 m ρ c]
  exact Adam.sq_cast _ _ _ _

/-! ### Region 3 -/

theorem end3_4 : W7 m ρ c (Proc.devRef .tc main_v17_0) = Adam.delta (m ((c : Thread nD τ).loc main_arg12) : Vec Ideal S2x8x64 .f32) (m ((c : Thread nD τ).loc main_arg13) : Vec Ideal S2x8x64 .f32) (m ((c : Thread nD τ).loc main_arg14) : Vec Ideal S2x8x64 .f32) (m ((c : Thread nD τ).loc main_arg15) : Vec Ideal S2x8x64 .f32) := by
  refine ((W7_arr m ρ c 4).trans (arr3_4 (V6 m ρ) c)).trans ?_
  rw [show V6 m ρ c main_arg12 = _ from W6_args m ρ c main_arg12 (by decide), show V6 m ρ c main_arg13 = _ from W6_args m ρ c main_arg13 (by decide), show V6 m ρ c main_arg14 = _ from W6_args m ρ c main_arg14 (by decide), show V6 m ρ c main_arg15 = _ from W6_args m ρ c main_arg15 (by decide)]

theorem end3_5 : W7 m ρ c (Proc.devRef .tc main_v17_1) = Adam.mom (m ((c : Thread nD τ).loc main_arg13) : Vec Ideal S2x8x64 .f32) (m ((c : Thread nD τ).loc main_arg14) : Vec Ideal S2x8x64 .f32) := by
  refine ((W7_arr m ρ c 5).trans (arr3_5 (V6 m ρ) c)).trans ?_
  rw [show V6 m ρ c main_arg13 = _ from W6_args m ρ c main_arg13 (by decide), show V6 m ρ c main_arg14 = _ from W6_args m ρ c main_arg14 (by decide)]

theorem end3_6 : W7 m ρ c (Proc.devRef .tc main_v17_2) = Adam.sq (m ((c : Thread nD τ).loc main_arg13) : Vec Ideal S2x8x64 .f32) (m ((c : Thread nD τ).loc main_arg15) : Vec Ideal S2x8x64 .f32) := by
  refine ((W7_arr m ρ c 6).trans (arr3_6 (V6 m ρ) c)).trans ?_
  rw [show V6 m ρ c main_arg13 = _ from W6_args m ρ c main_arg13 (by decide), show V6 m ρ c main_arg15 = _ from W6_args m ρ c main_arg15 (by decide)]

end Cert.Kernel10Ideal.Upd

end

end
-- ==== Proof.Run10.lean ====
/- The run of the program `Kernel10Ideal` with every buffer's final contents: an array that outlives the kernel regions ends
   at the last of the valuations that the regions' run goes through, `W7`. -/
module

public import proofs.«01_k».proof.Proof.Gen.Kernel10Ideal.Frame

@[expose] public section

set_option maxRecDepth 16384

noncomputable section

namespace Cert.Kernel10Ideal.Run

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W7`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c b hb => h c _ (mem_uc b hb))

end Cert.Kernel10Ideal.Run

end

end
-- ==== Proof.UpdClaim10.lean ====
/- The claims of `Kernel10`: the optimiser's step. -/
module

public import proofs.«01_k».proof.Defs
public import proofs.«01_k».proof.Proof.Gen.Kernel10
public import proofs.«01_k».proof.Proof.Gen.Kernel10.Frame
public import proofs.«01_k».proof.Proof.UpdEnd10
public import proofs.«01_k».proof.Proof.Run10
public import proofs.«01_k».proof.Proof.Gen.Reference10Ideal
public import proofs.«01_k».proof.Proof.Gen.Reference10Ideal.Run
public import proofs.«01_k».proof.Proof.Gen.Reference10Ideal.Read
public import Idealize.ShloMosaic.Lib.Claim
public import Idealize.ShloMosaic.Adequacy
public import Idealize.ShloMosaic.Init

@[expose] public section

set_option maxRecDepth 16384

noncomputable section

namespace Cert.Reference10Ideal.Upd

open Idealize.ShloMosaic Idealize.ShloMosaic.TcCoe
open Idealize.SL.Sem Cert.Reference10Ideal Cert.Reference10Ideal.Read

theorem ref0 (x0 x1 x2 x3 y0 y1 y2 y3 : Vec Ideal S2x64x128 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x64x128 .f32) (h1 : y1 = x1) (h2 : y2 = x2) : val_main_v4 (F := Ideal) y1 y2 = Adam.mom x1 x2 := by
  subst h1 h2
  rfl

theorem ref2 (x1 x3 y1 y3 : Vec Ideal S2x64x128 .f32) (h1 : y1 = x1) (h3 : y3 = x3) : val_main_v10 (F := Ideal) y1 y3 = Adam.sq x1 x3 := by
  subst h1 h3
  rfl

theorem ref3 (x0 x1 x2 x3 y0 y1 y2 y3 : Vec Ideal S2x512 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x512 .f32) (h1 : y1 = x1) (h2 : y2 = x2) : val_main_v28 (F := Ideal) y1 y2 = Adam.mom x1 x2 := by
  subst h1 h2
  rfl

theorem ref5 (x1 x3 y1 y3 : Vec Ideal S2x512 .f32) (h1 : y1 = x1) (h3 : y3 = x3) : val_main_v34 (F := Ideal) y1 y3 = Adam.sq x1 x3 := by
  subst h1 h3
  rfl

theorem ref6 (x0 x1 x2 x3 y0 y1 y2 y3 : Vec Ideal S2x512 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S2x512 .f32) (h1 : y1 = x1) (h2 : y2 = x2) : val_main_v52 (F := Ideal) y1 y2 = Adam.mom x1 x2 := by
  subst h1 h2
  rfl

theorem ref8 (x1 x3 y1 y3 : Vec Ideal S2x512 .f32) (h1 : y1 = x1) (h3 : y3 = x3) : val_main_v58 (F := Ideal) y1 y3 = Adam.sq x1 x3 := by
  subst h1 h3
  rfl

theorem ref9 (x0 x1 x2 x3 y0 y1 y2 y3 : Vec Ideal S2x8x64 .f32) (h0 : y0 = x0) (h1 : y1 = x1) (h2 : y2 = x2) (h3 : y3 = x3) : val_main_v95 (F := Ideal) y0 y1 y2 y3 = Adam.delta x0 x1 x2 x3 := by
  subst h0 h1 h2 h3
  rfl

theorem ref10 (x1 x2 y1 y2 : Vec Ideal S2x8x64 .f32) (h1 : y1 = x1) (h2 : y2 = x2) : val_main_v76 (F := Ideal) y1 y2 = Adam.mom x1 x2 := by
  subst h1 h2
  rfl

theorem ref11 (x1 x3 y1 y3 : Vec Ideal S2x8x64 .f32) (h1 : y1 = x1) (h3 : y3 = x3) : val_main_v82 (F := Ideal) y1 y3 = Adam.sq x1 x3 := by
  subst h1 h3
  rfl

end Cert.Reference10Ideal.Upd

namespace Cert.Proof

open Idealize.ShloMosaic Idealize.SL.Sem
open Cert.Kernel10Ideal Cert.Kernel10Ideal.Gen Cert.Kernel10Ideal.Upd Cert.Reference10Ideal.Upd

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2.2.2.2.2.2.2.2.2.2.2.2,
      Idealize.ShloMosaic.sem_eq_zero_of_no_sems (by decide) r.2⟩)
     (Cert.Reference10Ideal.Value.run (F := Ideal) m ρ)

theorem algebraic10 : Cert.algebraic_Kernel10Ideal_Reference10Ideal := by
  intro m g m' g' hpre hagree
  refine ⟨fun c => Adam.delta (s := S2x64x128) (m ((c.tc : Thread nD τ).loc main_arg0)) (m ((c.tc : Thread nD τ).loc main_arg1)) (m ((c.tc : Thread nD τ).loc main_arg2)) (m ((c.tc : Thread nD τ).loc main_arg3)),
    fun c => Adam.mom (s := S2x64x128) (m ((c.tc : Thread nD τ).loc main_arg1)) (m ((c.tc : Thread nD τ).loc main_arg2)),
    fun c => Adam.sq (s := S2x64x128) (m ((c.tc : Thread nD τ).loc main_arg1)) (m ((c.tc : Thread nD τ).loc main_arg3)),
    fun c => Adam.delta (s := S2x512) (m ((c.tc : Thread nD τ).loc main_arg4)) (m ((c.tc : Thread nD τ).loc main_arg5)) (m ((c.tc : Thread nD τ).loc main_arg6)) (m ((c.tc : Thread nD τ).loc main_arg7)),
    fun c => Adam.mom (s := S2x512) (m ((c.tc : Thread nD τ).loc main_arg5)) (m ((c.tc : Thread nD τ).loc main_arg6)),
    fun c => Adam.sq (s := S2x512) (m ((c.tc : Thread nD τ).loc main_arg5)) (m ((c.tc : Thread nD τ).loc main_arg7)),
    fun c => Adam.delta (s := S2x512) (m ((c.tc : Thread nD τ).loc main_arg8)) (m ((c.tc : Thread nD τ).loc main_arg9)) (m ((c.tc : Thread nD τ).loc main_arg10)) (m ((c.tc : Thread nD τ).loc main_arg11)),
    fun c => Adam.mom (s := S2x512) (m ((c.tc : Thread nD τ).loc main_arg9)) (m ((c.tc : Thread nD τ).loc main_arg10)),
    fun c => Adam.sq (s := S2x512) (m ((c.tc : Thread nD τ).loc main_arg9)) (m ((c.tc : Thread nD τ).loc main_arg11)),
    fun c => Adam.delta (s := S2x8x64) (m ((c.tc : Thread nD τ).loc main_arg12)) (m ((c.tc : Thread nD τ).loc main_arg13)) (m ((c.tc : Thread nD τ).loc main_arg14)) (m ((c.tc : Thread nD τ).loc main_arg15)),
    fun c => Adam.mom (s := S2x8x64) (m ((c.tc : Thread nD τ).loc main_arg13)) (m ((c.tc : Thread nD τ).loc main_arg14)),
    fun c => Adam.sq (s := S2x8x64) (m ((c.tc : Thread nD τ).loc main_arg13)) (m ((c.tc : Thread nD τ).loc main_arg15)),
    (θ_run Cert.Kernel10Ideal.defs _ _).mono (fun r h c => ⟨(h c main_v0_0 (by decide)).trans (end0_4 m g c),
      (h c main_v0_1 (by decide)).trans (end0_5 m g c),
      (h c main_v0_2 (by decide)).trans (end0_6 m g c),
      (h c main_v6 (by decide)).trans (end1_4 m g c),
      (h c main_v7 (by decide)).trans (end1_5 m g c),
      (h c main_v8 (by decide)).trans (end1_6 m g c),
      (h c main_v14 (by decide)).trans (end2_4 m g c),
      (h c main_v15 (by decide)).trans (end2_5 m g c),
      (h c main_v16 (by decide)).trans (end2_6 m g c),
      (h c main_v17_0 (by decide)).trans (end3_4 m g c),
      (h c main_v17_1 (by decide)).trans (end3_5 m g c),
      (h c main_v17_2 (by decide)).trans (end3_6 m g c),
      (h c main_arg0 (by decide)).trans (W7_args m g c main_arg0 (by decide)),
      (h c main_arg1 (by decide)).trans (W7_args m g c main_arg1 (by decide)),
      (h c main_arg2 (by decide)).trans (W7_args m g c main_arg2 (by decide)),
      (h c main_arg3 (by decide)).trans (W7_args m g c main_arg3 (by decide)),
      (h c main_arg4 (by decide)).trans (W7_args m g c main_arg4 (by decide)),
      (h c main_arg5 (by decide)).trans (W7_args m g c main_arg5 (by decide)),
      (h c main_arg6 (by decide)).trans (W7_args m g c main_arg6 (by decide)),
      (h c main_arg7 (by decide)).trans (W7_args m g c main_arg7 (by decide)),
      (h c main_arg8 (by decide)).trans (W7_args m g c main_arg8 (by decide)),
      (h c main_arg9 (by decide)).trans (W7_args m g c main_arg9 (by decide)),
      (h c main_arg10 (by decide)).trans (W7_args m g c main_arg10 (by decide)),
      (h c main_arg11 (by decide)).trans (W7_args m g c main_arg11 (by decide)),
      (h c main_arg12 (by decide)).trans (W7_args m g c main_arg12 (by decide)),
      (h c main_arg13 (by decide)).trans (W7_args m g c main_arg13 (by decide)),
      (h c main_arg14 (by decide)).trans (W7_args m g c main_arg14 (by decide)),
      (h c main_arg15 (by decide)).trans (W7_args m g c main_arg15 (by decide))⟩)
      (Cert.Kernel10Ideal.Run.ends (F := Ideal) m g), ?_⟩
  refine (θ_run Cert.Reference10Ideal.defs _ _).mono (fun r h c => ?_) (Cert.Reference10Ideal.Value.run (F := Ideal) m' g')
  obtain ⟨h0, h1, h2, h3, h4, h5, h6, h7, h8, h9, h10, h11, hk⟩ := h c
  obtain ⟨a0, a1, a2, a3, a4, a5, a6, a7, a8, a9, a10, a11, a12, a13, a14, a15⟩ := hagree c
  exact ⟨(h0.trans (Cert.Reference10Ideal.Read.val_main_v23_eq _ _ _ _)).trans (ref0 _ _ _ _ _ _ _ _ a0 a1 a2 a3),
    (h1.trans (Cert.Reference10Ideal.Read.val_main_v4_eq _ _)).trans (ref1 _ _ _ _ a1 a2),
    (h2.trans (Cert.Reference10Ideal.Read.val_main_v10_eq _ _)).trans (ref2 _ _ _ _ a1 a3),
    (h3.trans (Cert.Reference10Ideal.Read.val_main_v47_eq _ _ _ _)).trans (ref3 _ _ _ _ _ _ _ _ a4 a5 a6 a7),
    (h4.trans (Cert.Reference10Ideal.Read.val_main_v28_eq _ _)).trans (ref4 _ _ _ _ a5 a6),
    (h5.trans (Cert.Reference10Ideal.Read.val_main_v34_eq _ _)).trans (ref5 _ _ _ _ a5 a7),
    (h6.trans (Cert.Reference10Ideal.Read.val_main_v71_eq _ _ _ _)).trans (ref6 _ _ _ _ _ _ _ _ a8 a9 a10 a11),
    (h7.trans (Cert.Reference10Ideal.Read.val_main_v52_eq _ _)).trans (ref7 _ _ _ _ a9 a10),
    (h8.trans (Cert.Reference10Ideal.Read.val_main_v58_eq _ _)).trans (ref8 _ _ _ _ a9 a11),
    (h9.trans (Cert.Reference10Ideal.Read.val_main_v95_eq _ _ _ _)).trans (ref9 _ _ _ _ _ _ _ _ a12 a13 a14 a15),
    (h10.trans (Cert.Reference10Ideal.Read.val_main_v76_eq _ _)).trans (ref10 _ _ _ _ a13 a14),
    (h11.trans (Cert.Reference10Ideal.Read.val_main_v82_eq _ _)).trans (ref11 _ _ _ _ a13 a15),
    hk⟩

end Cert.Proof

end

end
-- ==== Proof.Upd11.lean ====
/- The regions of `Kernel11Ideal`, the optimiser's step on one weight each: what every region's three output arrays end as. -/
module

public import proofs.«01_k».proof.Proof.Adam
public import proofs.«01_k».proof.Proof.Gen.Kernel11Ideal.Frame

@[expose] public section

set_option maxRecDepth 16384

noncomputable section

namespace Cert.Kernel11Ideal.Upd

open Idealize.ShloMosaic Idealize.ShloMosaic.TcCoe
open Idealize.SL.Sem Cert.Kernel11Ideal Cert.Kernel11Ideal.Gen

variable (V : (c : Dev nD) → (b : Ref sig .tc) → Buf (Elt Ideal) ((c : Thread nD τ).loc b)) (c : Dev nD)

/-! ### Region 0 -/

theorem outs0_4 (x0 x1 x2 x3 : Vec Ideal S1x2x512 .f32) : out0_4 (F := Ideal) x0 x1 x2 x3 = Adam.delta x0 x1 x2 x3 := by
  unfold out0_4
  rw [View.canon_cons_unit_lit _ _ _ (by decide)]
  repeat rw [View.ld_unit_lit _ _ (by decide)]
  simp only [k0_pay1, k0_pay2, k0_pay3, k0_pay4, shapeCast_self]
  rfl

theorem arr0_4 : (dat0 (F := Ideal) V c).arrAt 4 cfg0.N =
    Adam.delta (s := S1x2x512) (V c main_v0) (V c main_v1) (V c main_v2) (V c main_v3) := by
  refine (dat0 V c).arrAt_eq_of_covers 4 _ (by decide +kernel) fun t hf y => ?_
  blk_simp
  rw [after0_4, outs0_4]
  exact Adam.delta_read (fun i => (win0_4.blk t).view.emb i) _ _ _ _ y

theorem outs0_5 (x0 x1 x2 x3 : Vec Ideal S1x2x512 .f32) : out0_5 (F := Ideal) x0 x1 x2 x3 = Adam.mom x1 x2 := by
  unfold out0_5
  rw [View.canon_cons_unit_lit _ _ _ (by decide)]
  repeat rw [View.ld_unit_lit _ _ (by decide)]
  simp only [k0_pay1, k0_pay2, k0_pay3, k0_pay4, shapeCast_self]
  rfl

theorem arr0_5 : (dat0 (F := Ideal) V c).arrAt 5 cfg0.N =
    Adam.mom (s := S1x2x512) (V c main_v1) (V c main_v2) := by
  refine (dat0 V c).arrAt_eq_of_covers 5 _ (by decide +kernel) fun t hf y => ?_
  blk_simp
  rw [after0_5, outs0_5]
  exact Adam.mom_read (fun i => (win0_5.blk t).view.emb i) _ _ y

theorem outs0_6 (x0 x1 x2 x3 : Vec Ideal S1x2x512 .f32) : out0_6 (F := Ideal) x0 x1 x2 x3 = Adam.sq x1 x3 := by
  unfold out0_6
  rw [View.canon_cons_unit_lit _ _ _ (by decide)]
  repeat rw [View.ld_unit_lit _ _ (by decide)]
  simp only [k0_pay1, k0_pay2, k0_pay3, k0_pay4, shapeCast_self]
  rfl

theorem arr0_6 : (dat0 (F := Ideal) V c).arrAt 6 cfg0.N =
    Adam.sq (s := S1x2x512) (V c main_v1) (V c main_v3) := by
  refine (dat0 V c).arrAt_eq_of_covers 6 _ (by decide +kernel) fun t hf y => ?_
  blk_simp
  rw [after0_6, outs0_6]
  exact Adam.sq_read (fun i => (win0_6.blk t).view.emb i) _ _ y

/-! ### Region 1 -/

theorem outs1_4 (x0 x1 x2 x3 : Vec Ideal S1x2x512 .f32) : out1_4 (F := Ideal) x0 x1 x2 x3 = Adam.delta x0 x1 x2 x3 := by
  unfold out1_4
  rw [View.canon_cons_unit_lit _ _ _ (by decide)]
  repeat rw [View.ld_unit_lit _ _ (by decide)]
  simp only [k1_pay1, k1_pay2, k1_pay3, k1_pay4, shapeCast_self]
  rfl

theorem arr1_4 : (dat1 (F := Ideal) V c).arrAt 4 cfg1.N =
    Adam.delta (s := S1x2x512) (V c main_v8) (V c main_v9) (V c main_v10) (V c main_v11) := by
  refine (dat1 V c).arrAt_eq_of_covers 4 _ (by decide +kernel) fun t hf y => ?_
  blk_simp
  rw [after1_4, outs1_4]
  exact Adam.delta_read (fun i => (win1_4.blk t).view.emb i) _ _ _ _ y

theorem outs1_5 (x0 x1 x2 x3 : Vec Ideal S1x2x512 .f32) : out1_5 (F := Ideal) x0 x1 x2 x3 = Adam.mom x1 x2 := by
  unfold out1_5
  rw [View.canon_cons_unit_lit _ _ _ (by decide)]
  repeat rw [View.ld_unit_lit _ _ (by decide)]
  simp only [k1_pay1, k1_pay2, k1_pay3, k1_pay4, shapeCast_self]
  rfl

theorem arr1_5 : (dat1 (F := Ideal) V c).arrAt 5 cfg1.N =
    Adam.mom (s := S1x2x512) (V c main_v9) (V c main_v10) := by
  refine (dat1 V c).arrAt_eq_of_covers 5 _ (by decide +kernel) fun t hf y => ?_
  blk_simp
  rw [after1_5, outs1_5]
  exact Adam.mom_read (fun i => (win1_5.blk t).view.emb i) _ _ y

theorem outs1_6 (x0 x1 x2 x3 : Vec Ideal S1x2x512 .f32) : out1_6 (F := Ideal) x0 x1 x2 x3 = Adam.sq x1 x3 := by
  unfold out1_6
  rw [View.canon_cons_unit_lit _ _ _ (by decide)]
  repeat rw [View.ld_unit_lit _ _ (by decide)]
  simp only [k1_pay1, k1_pay2, k1_pay3, k1_pay4, shapeCast_self]
  rfl

theorem arr1_6 : (dat1 (F := Ideal) V c).arrAt 6 cfg1.N =
    Adam.sq (s := S1x2x512) (V c main_v9) (V c main_v11) := by
  refine (dat1 V c).arrAt_eq_of_covers 6 _ (by decide +kernel) fun t hf y => ?_
  blk_simp
  rw [after1_6, outs1_6]
  exact Adam.sq_read (fun i => (win1_6.blk t).view.emb i) _ _ y

/-! ### Region 2 -/

theorem outs2_4 (x0 x1 x2 x3 : Vec Ideal S1x1x1024 .f32) : out2_4 (F := Ideal) x0 x1 x2 x3 = Adam.delta x0 x1 x2 x3 := by
  unfold out2_4
  rw [View.canon_cons_unit_lit _ _ _ (by decide)]
  repeat rw [View.ld_unit_lit _ _ (by decide)]
  simp only [k2_pay1, k2_pay2, k2_pay3, k2_pay4, shapeCast_self]
  rfl

theorem arr2_4 : (dat2 (F := Ideal) V c).arrAt 4 cfg2.N =
    Adam.delta (s := S1x1x1024) (V c main_v16) (V c main_v17) (V c main_v18) (V c main_v19) := by
  refine (dat2 V c).arrAt_eq_of_covers 4 _ (by decide +kernel) fun t hf y => ?_
  blk_simp
  rw [after2_4, outs2_4]
  exact Adam.delta_read (fun i => (win2_4.blk t).view.emb i) _ _ _ _ y

theorem outs2_5 (x0 x1 x2 x3 : Vec Ideal S1x1x1024 .f32) : out2_5 (F := Ideal) x0 x1 x2 x3 = Adam.mom x1 x2 := by
  unfold out2_5
  rw [View.canon_cons_unit_lit _ _ _ (by decide)]
  repeat rw [View.ld_unit_lit _ _ (by decide)]
  simp only [k2_pay1, k2_pay2, k2_pay3, k2_pay4, shapeCast_self]
  rfl

theorem arr2_5 : (dat2 (F := Ideal) V c).arrAt 5 cfg2.N =
    Adam.mom (s := S1x1x1024) (V c main_v17) (V c main_v18) := by
  refine (dat2 V c).arrAt_eq_of_covers 5 _ (by decide +kernel) fun t hf y => ?_
  blk_simp
  rw [after2_5, outs2_5]
  exact Adam.mom_read (fun i => (win2_5.blk t).view.emb i) _ _ y

theorem outs2_6 (x0 x1 x2 x3 : Vec Ideal S1x1x1024 .f32) : out2_6 (F := Ideal) x0 x1 x2 x3 = Adam.sq x1 x3 := by
  unfold out2_6
  rw [View.canon_cons_unit_lit _ _ _ (by decide)]
  repeat rw [View.ld_unit_lit _ _ (by decide)]
  simp only [k2_pay1, k2_pay2, k2_pay3, k2_pay4, shapeCast_self]
  rfl

theorem arr2_6 : (dat2 (F := Ideal) V c).arrAt 6 cfg2.N =
    Adam.sq (s := S1x1x1024) (V c main_v17) (V c main_v19) := by
  refine (dat2 V c).arrAt_eq_of_covers 6 _ (by decide +kernel) fun t hf y => ?_
  blk_simp
  rw [after2_6, outs2_6]
  exact Adam.sq_read (fun i => (win2_6.blk t).view.emb i) _ _ y

end Cert.Kernel11Ideal.Upd

end

end
-- ==== Proof.UpdEnd11.lean ====
/- What the results of `Kernel11Ideal` end as: the optimiser's step of each weight, from the arguments. -/
module

public import proofs.«01_k».proof.Proof.Upd11

@[expose] public section

set_option maxRecDepth 16384

noncomputable section

namespace Cert.Kernel11Ideal.Upd

open Idealize.ShloMosaic Idealize.ShloMosaic.TcCoe
open Idealize.SL.Sem Cert.Kernel11Ideal Cert.Kernel11Ideal.Gen

variable (m : (ℓ : Loc nD τ sig) → Buf (Elt Ideal) ℓ) (ρ : Dev nD → PrngReg) (c : Dev nD)

/-! ### Region 0 -/

theorem in0_0 : V1 m ρ c main_v0 = shapeCast S1x2x512 (m ((c : Thread nD τ).loc main_arg0) : Vec Ideal S2x512 .f32) shapeCasts_S2x512_S1x2x512 := by
  show StableHlo.after hostOps0 (W0 m ρ c) (Proc.devRef .tc main_v0) = _
  unfold hostOps0
  entry_read
  rw [W0_args m ρ c main_arg0 (by decide)]
  rfl

theorem in0_1 : V1 m ρ c main_v1 = shapeCast S1x2x512 (m ((c : Thread nD τ).loc main_arg1) : Vec Ideal S2x512 .f32) shapeCasts_S2x512_S1x2x512 := by
  show StableHlo.after hostOps0 (W0 m ρ c) (Proc.devRef .tc main_v1) = _
  unfold hostOps0
  entry_read
  rw [W0_args m ρ c main_arg1 (by decide)]
  rfl

theorem in0_2 : V1 m ρ c main_v2 = shapeCast S1x2x512 (m ((c : Thread nD τ).loc main_arg2) : Vec Ideal S2x512 .f32) shapeCasts_S2x512_S1x2x512 := by
  show StableHlo.after hostOps0 (W0 m ρ c) (Proc.devRef .tc main_v2) = _
  unfold hostOps0
  entry_read
  rw [W0_args m ρ c main_arg2 (by decide)]
  rfl

theorem in0_3 : V1 m ρ c main_v3 = shapeCast S1x2x512 (m ((c : Thread nD τ).loc main_arg3) : Vec Ideal S2x512 .f32) shapeCasts_S2x512_S1x2x512 := by
  show StableHlo.after hostOps0 (W0 m ρ c) (Proc.devRef .tc main_v3) = _
  unfold hostOps0
  entry_read
  rw [W0_args m ρ c main_arg3 (by decide)]
  rfl

theorem end0_4 : W7 m ρ c (Proc.devRef .tc main_v5) = Adam.delta (m ((c : Thread nD τ).loc main_arg0) : Vec Ideal S2x512 .f32) (m ((c : Thread nD τ).loc main_arg1) : Vec Ideal S2x512 .f32) (m ((c : Thread nD τ).loc main_arg2) : Vec Ideal S2x512 .f32) (m ((c : Thread nD τ).loc main_arg3) : Vec Ideal S2x512 .f32) := by
  have e : W3 m ρ c (Proc.devRef .tc main_v5) = shapeCast S2x512 (W2 m ρ c (Proc.devRef .tc main_v4_0) : Vec Ideal S1x2x512 .f32) shapeCasts_S1x2x512_S2x512 := by
    show StableHlo.after hostOps1 (W2 m ρ c) (Proc.devRef .tc main_v5) = _
    unfold hostOps1
    entry_read
    rfl
  refine ((W7_of m ρ c main_v5 (by decide)).trans ((W6_of_ne m ρ c main_v5 (by decide)).trans ((W5_of m ρ c main_v5 (by decide)).trans ((W4_of_ne m ρ c main_v5 (by decide)).trans (e))))).trans ?_
  rw [show W2 m ρ c (Proc.devRef .tc main_v4_0) = _ from (W2_arr m ρ c 4).trans (arr0_4 (V1 m ρ) c), show V1 m ρ c main_v0 = _ from in0_0 m ρ c, show V1 m ρ c main_v1 = _ from in0_1 m ρ c, show V1 m ρ c main_v2 = _ from in0_2 m ρ c, show V1 m ρ c main_v3 = _ from in0_3 m ρ c]
  exact Adam.delta_cast _ _ _ _ _ _

theorem end0_5 : W7 m ρ c (Proc.devRef .tc main_v6) = Adam.mom (m ((c : Thread nD τ).loc main_arg1) : Vec Ideal S2x512 .f32) (m ((c : Thread nD τ).loc main_arg2) : Vec Ideal S2x512 .f32) := by
  have e : W3 m ρ c (Proc.devRef .tc main_v6) = shapeCast S2x512 (W2 m ρ c (Proc.devRef .tc main_v4_1) : Vec Ideal S1x2x512 .f32) shapeCasts_S1x2x512_S2x512 := by
    show StableHlo.after hostOps1 (W2 m ρ c) (Proc.devRef .tc main_v6) = _
    unfold hostOps1
    entry_read
    rfl
  refine ((W7_of m ρ c main_v6 (by decide)).trans ((W6_of_ne m ρ c main_v6 (by decide)).trans ((W5_of m ρ c main_v6 (by decide)).trans ((W4_of_ne m ρ c main_v6 (by decide)).trans (e))))).trans ?_
  rw [show W2 m ρ c (Proc.devRef .tc main_v4_1) = _ from (W2_arr m ρ c 5).trans (arr0_5 (V1 m ρ) c), show V1 m ρ c main_v1 = _ from in0_1 m ρ c, show V1 m ρ c main_v2 = _ from in0_2 m ρ c]
  exact Adam.mom_cast _ _ _ _

theorem end0_6 : W7 m ρ c (Proc.devRef .tc main_v7) = Adam.sq (m ((c : Thread nD τ).loc main_arg1) : Vec Ideal S2x512 .f32) (m ((c : Thread nD τ).loc main_arg3) : Vec Ideal S2x512 .f32) := by
  have e : W3 m ρ c (Proc.devRef .tc main_v7) = shapeCast S2x512 (W2 m ρ c (Proc.devRef .tc main_v4_2) : Vec Ideal S1x2x512 .f32) shapeCasts_S1x2x512_S2x512 := by
    show StableHlo.after hostOps1 (W2 m ρ c) (Proc.devRef .tc main_v7) = _
    unfold hostOps1
    entry_read
    rfl
  refine ((W7_of m ρ c main_v7 (by decide)).trans ((W6_of_ne m ρ c main_v7 (by decide)).trans ((W5_of m ρ c main_v7 (by decide)).trans ((W4_of_ne m ρ c main_v7 (by decide)).trans (e))))).trans ?_
  rw [show W2 m ρ c (Proc.devRef .tc main_v4_2) = _ from (W2_arr m ρ c 6).trans (arr0_6 (V1 m ρ) c), show V1 m ρ c main_v1 = _ from in0_1 m ρ c, show V1 m ρ c main_v3 = _ from in0_3 m ρ c]
  exact Adam.sq_cast _ _ _ _

/-! ### Region 1 -/

theorem in1_0 : V3 m ρ c main_v8 = shapeCast S1x2x512 (m ((c : Thread nD τ).loc main_arg4) : Vec Ideal S2x512 .f32) shapeCasts_S2x512_S1x2x512 := by
  show StableHlo.after hostOps1 (W2 m ρ c) (Proc.devRef .tc main_v8) = _
  unfold hostOps1
  entry_read
  rw [W2_args m ρ c main_arg4 (by decide)]
  rfl

theorem in1_1 : V3 m ρ c main_v9 = shapeCast S1x2x512 (m ((c : Thread nD τ).loc main_arg5) : Vec Ideal S2x512 .f32) shapeCasts_S2x512_S1x2x512 := by
  show StableHlo.after hostOps1 (W2 m ρ c) (Proc.devRef .tc main_v9) = _
  unfold hostOps1
  entry_read
  rw [W2_args m ρ c main_arg5 (by decide)]
  rfl

theorem in1_2 : V3 m ρ c main_v10 = shapeCast S1x2x512 (m ((c : Thread nD τ).loc main_arg6) : Vec Ideal S2x512 .f32) shapeCasts_S2x512_S1x2x512 := by
  show StableHlo.after hostOps1 (W2 m ρ c) (Proc.devRef .tc main_v10) = _
  unfold hostOps1
  entry_read
  rw [W2_args m ρ c main_arg6 (by decide)]
  rfl

theorem in1_3 : V3 m ρ c main_v11 = shapeCast S1x2x512 (m ((c : Thread nD τ).loc main_arg7) : Vec Ideal S2x512 .f32) shapeCasts_S2x512_S1x2x512 := by
  show StableHlo.after hostOps1 (W2 m ρ c) (Proc.devRef .tc main_v11) = _
  unfold hostOps1
  entry_read
  rw [W2_args m ρ c main_arg7 (by decide)]
  rfl

theorem end1_4 : W7 m ρ c (Proc.devRef .tc main_v13) = Adam.delta (m ((c : Thread nD τ).loc main_arg4) : Vec Ideal S2x512 .f32) (m ((c : Thread nD τ).loc main_arg5) : Vec Ideal S2x512 .f32) (m ((c : Thread nD τ).loc main_arg6) : Vec Ideal S2x512 .f32) (m ((c : Thread nD τ).loc main_arg7) : Vec Ideal S2x512 .f32) := by
  have e : W5 m ρ c (Proc.devRef .tc main_v13) = shapeCast S2x512 (W4 m ρ c (Proc.devRef .tc main_v12_0) : Vec Ideal S1x2x512 .f32) shapeCasts_S1x2x512_S2x512 := by
    show StableHlo.after hostOps2 (W4 m ρ c) (Proc.devRef .tc main_v13) = _
    unfold hostOps2
    entry_read
    rfl
  refine ((W7_of m ρ c main_v13 (by decide)).trans ((W6_of_ne m ρ c main_v13 (by decide)).trans (e))).trans ?_
  rw [show W4 m ρ c (Proc.devRef .tc main_v12_0) = _ from (W4_arr m ρ c 4).trans (arr1_4 (V3 m ρ) c), show V3 m ρ c main_v8 = _ from in1_0 m ρ c, show V3 m ρ c main_v9 = _ from in1_1 m ρ c, show V3 m ρ c main_v10 = _ from in1_2 m ρ c, show V3 m ρ c main_v11 = _ from in1_3 m ρ c]
  exact Adam.delta_cast _ _ _ _ _ _

theorem end1_5 : W7 m ρ c (Proc.devRef .tc main_v14) = Adam.mom (m ((c : Thread nD τ).loc main_arg5) : Vec Ideal S2x512 .f32) (m ((c : Thread nD τ).loc main_arg6) : Vec Ideal S2x512 .f32) := by
  have e : W5 m ρ c (Proc.devRef .tc main_v14) = shapeCast S2x512 (W4 m ρ c (Proc.devRef .tc main_v12_1) : Vec Ideal S1x2x512 .f32) shapeCasts_S1x2x512_S2x512 := by
    show StableHlo.after hostOps2 (W4 m ρ c) (Proc.devRef .tc main_v14) = _
    unfold hostOps2
    entry_read
    rfl
  refine ((W7_of m ρ c main_v14 (by decide)).trans ((W6_of_ne m ρ c main_v14 (by decide)).trans (e))).trans ?_
  rw [show W4 m ρ c (Proc.devRef .tc main_v12_1) = _ from (W4_arr m ρ c 5).trans (arr1_5 (V3 m ρ) c), show V3 m ρ c main_v9 = _ from in1_1 m ρ c, show V3 m ρ c main_v10 = _ from in1_2 m ρ c]
  exact Adam.mom_cast _ _ _ _

theorem end1_6 : W7 m ρ c (Proc.devRef .tc main_v15) = Adam.sq (m ((c : Thread nD τ).loc main_arg5) : Vec Ideal S2x512 .f32) (m ((c : Thread nD τ).loc main_arg7) : Vec Ideal S2x512 .f32) := by
  have e : W5 m ρ c (Proc.devRef .tc main_v15) = shapeCast S2x512 (W4 m ρ c (Proc.devRef .tc main_v12_2) : Vec Ideal S1x2x512 .f32) shapeCasts_S1x2x512_S2x512 := by
    show StableHlo.after hostOps2 (W4 m ρ c) (Proc.devRef .tc main_v15) = _
    unfold hostOps2
    entry_read
    rfl
  refine ((W7_of m ρ c main_v15 (by decide)).trans ((W6_of_ne m ρ c main_v15 (by decide)).trans (e))).trans ?_
  rw [show W4 m ρ c (Proc.devRef .tc main_v12_2) = _ from (W4_arr m ρ c 6).trans (arr1_6 (V3 m ρ) c), show V3 m ρ c main_v9 = _ from in1_1 m ρ c, show V3 m ρ c main_v11 = _ from in1_3 m ρ c]
  exact Adam.sq_cast _ _ _ _

/-! ### Region 2 -/

theorem in2_0 : V5 m ρ c main_v16 = shapeCast S1x1x1024 (m ((c : Thread nD τ).loc main_arg8) : Vec Ideal S1024 .f32) shapeCasts_S1024_S1x1x1024 := by
  show StableHlo.after hostOps2 (W4 m ρ c) (Proc.devRef .tc main_v16) = _
  unfold hostOps2
  entry_read
  rw [W4_args m ρ c main_arg8 (by decide)]
  rfl

theorem in2_1 : V5 m ρ c main_v17 = shapeCast S1x1x1024 (m ((c : Thread nD τ).loc main_arg9) : Vec Ideal S1024 .f32) shapeCasts_S1024_S1x1x1024 := by
  show StableHlo.after hostOps2 (W4 m ρ c) (Proc.devRef .tc main_v17) = _
  unfold hostOps2
  entry_read
  rw [W4_args m ρ c main_arg9 (by decide)]
  rfl

theorem in2_2 : V5 m ρ c main_v18 = shapeCast S1x1x1024 (m ((c : Thread nD τ).loc main_arg10) : Vec Ideal S1024 .f32) shapeCasts_S1024_S1x1x1024 := by
  show StableHlo.after hostOps2 (W4 m ρ c) (Proc.devRef .tc main_v18) = _
  unfold hostOps2
  entry_read
  rw [W4_args m ρ c main_arg10 (by decide)]
  rfl

theorem in2_3 : V5 m ρ c main_v19 = shapeCast S1x1x1024 (m ((c : Thread nD τ).loc main_arg11) : Vec Ideal S1024 .f32) shapeCasts_S1024_S1x1x1024 := by
  show StableHlo.after hostOps2 (W4 m ρ c) (Proc.devRef .tc main_v19) = _
  unfold hostOps2
  entry_read
  rw [W4_args m ρ c main_arg11 (by decide)]
  rfl

theorem end2_4 : W7 m ρ c (Proc.devRef .tc main_v21) = Adam.delta (m ((c : Thread nD τ).loc main_arg8) : Vec Ideal S1024 .f32) (m ((c : Thread nD τ).loc main_arg9) : Vec Ideal S1024 .f32) (m ((c : Thread nD τ).loc main_arg10) : Vec Ideal S1024 .f32) (m ((c : Thread nD τ).loc main_arg11) : Vec Ideal S1024 .f32) := by
  have e : W7 m ρ c (Proc.devRef .tc main_v21) = shapeCast S1024 (W6 m ρ c (Proc.devRef .tc main_v20_0) : Vec Ideal S1x1x1024 .f32) shapeCasts_S1x1x1024_S1024 := by
    show StableHlo.after hostOps3 (W6 m ρ c) (Proc.devRef .tc main_v21) = _
    unfold hostOps3
    entry_read
    rfl
  refine (e).trans ?_
  rw [show W6 m ρ c (Proc.devRef .tc main_v20_0) = _ from (W6_arr m ρ c 4).trans (arr2_4 (V5 m ρ) c), show V5 m ρ c main_v16 = _ from in2_0 m ρ c, show V5 m ρ c main_v17 = _ from in2_1 m ρ c, show V5 m ρ c main_v18 = _ from in2_2 m ρ c, show V5 m ρ c main_v19 = _ from in2_3 m ρ c]
  exact Adam.delta_cast _ _ _ _ _ _

theorem end2_5 : W7 m ρ c (Proc.devRef .tc main_v22) = Adam.mom (m ((c : Thread nD τ).loc main_arg9) : Vec Ideal S1024 .f32) (m ((c : Thread nD τ).loc main_arg10) : Vec Ideal S1024 .f32) := by
  have e : W7 m ρ c (Proc.devRef .tc main_v22) = shapeCast S1024 (W6 m ρ c (Proc.devRef .tc main_v20_1) : Vec Ideal S1x1x1024 .f32) shapeCasts_S1x1x1024_S1024 := by
    show StableHlo.after hostOps3 (W6 m ρ c) (Proc.devRef .tc main_v22) = _
    unfold hostOps3
    entry_read
    rfl
  refine (e).trans ?_
  rw [show W6 m ρ c (Proc.devRef .tc main_v20_1) = _ from (W6_arr m ρ c 5).trans (arr2_5 (V5 m ρ) c), show V5 m ρ c main_v17 = _ from in2_1 m ρ c, show V5 m ρ c main_v18 = _ from in2_2 m ρ c]
  exact Adam.mom_cast _ _ _ _

theorem end2_6 : W7 m ρ c (Proc.devRef .tc main_v23) = Adam.sq (m ((c : Thread nD τ).loc main_arg9) : Vec Ideal S1024 .f32) (m ((c : Thread nD τ).loc main_arg11) : Vec Ideal S1024 .f32) := by
  have e : W7 m ρ c (Proc.devRef .tc main_v23) = shapeCast S1024 (W6 m ρ c (Proc.devRef .tc main_v20_2) : Vec Ideal S1x1x1024 .f32) shapeCasts_S1x1x1024_S1024 := by
    show StableHlo.after hostOps3 (W6 m ρ c) (Proc.devRef .tc main_v23) = _
    unfold hostOps3
    entry_read
    rfl
  refine (e).trans ?_
  rw [show W6 m ρ c (Proc.devRef .tc main_v20_2) = _ from (W6_arr m ρ c 6).trans (arr2_6 (V5 m ρ) c), show V5 m ρ c main_v17 = _ from in2_1 m ρ c, show V5 m ρ c main_v19 = _ from in2_3 m ρ c]
  exact Adam.sq_cast _ _ _ _

end Cert.Kernel11Ideal.Upd

end

end
-- ==== Proof.Run11.lean ====
/- The run of the program `Kernel11Ideal` with every buffer's final contents: an array that outlives the kernel regions ends
   at the last of the valuations that the regions' run goes through, `W7`. -/
module

public import proofs.«01_k».proof.Proof.Gen.Kernel11Ideal.Frame

@[expose] public section

set_option maxRecDepth 16384

noncomputable section

namespace Cert.Kernel11Ideal.Run

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped array at `W7`. -/
theorem ends : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c b hb => h c _ (mem_uc b hb))

end Cert.Kernel11Ideal.Run

end

end
-- ==== Proof.UpdClaim11.lean ====
/- The claims of `Kernel11`: the optimiser's step. -/
module

public import proofs.«01_k».proof.Defs
public import proofs.«01_k».proof.Proof.Gen.Kernel11
public import proofs.«01_k».proof.Proof.Gen.Kernel11.Frame
public import proofs.«01_k».proof.Proof.UpdEnd11
public import proofs.«01_k».proof.Proof.Run11
public import proofs.«01_k».proof.Proof.Gen.Reference11Ideal
public import proofs.«01_k».proof.Proof.Gen.Reference11Ideal.Run
public import proofs.«01_k».proof.Proof.Gen.Reference11Ideal.Read
public import Idealize.ShloMosaic.Lib.Claim
public import Idealize.ShloMosaic.Adequacy
public import Idealize.ShloMosaic.Init

@[expose] public section

set_option maxRecDepth 16384

noncomputable section

namespace Cert.Reference11Ideal.Upd

open Idealize.ShloMosaic Idealize.ShloMosaic.TcCoe
open Idealize.SL.Sem Cert.Reference11Ideal Cert.Reference11Ideal.Read

theorem ref0 (x0 x1 x2 x3 y0 y1 y2 y3 : Vec Ideal S2x512 .f32) (h0 : y0 = x0) (h1 : y1 = x1) (h2 : y2 = x2) (h3 : y3 = x3) : val_main_v23 (F := Ideal) y0 y1 y2 y3 = Adam.delta x0 x1 x2 x3 := by
  subst h0 h1 h2 h3
  rfl

theorem ref1 (x1 x2 y1 y2 : Vec Ideal S2x512 .f32) (h1 : y1 = x1) (h2 : y2 = x2) : val_main_v4 (F := Ideal) y1 y2 = Adam.mom x1 x2 := by
  subst h1 h2
  rfl

theorem ref2 (x1 x3 y1 y3 : Vec Ideal S2x512 .f32) (h1 : y1 = x1) (h3 : y3 = x3) : val_main_v10 (F := Ideal) y1 y3 = Adam.sq x1 x3 := by
  subst h1 h3
  rfl

theorem ref3 (x0 x1 x2 x3 y0 y1 y2 y3 : Vec Ideal S2x512 .f32) (h0 : y0 = x0) (h1 : y1 = x1) (h2 : y2 = x2) (h3 : y3 = x3) : val_main_v47 (F := Ideal) y0 y1 y2 y3 = Adam.delta x0 x1 x2 x3 := by
  subst h0 h1 h2 h3
  rfl

theorem ref4 (x1 x2 y1 y2 : Vec Ideal S2x512 .f32) (h1 : y1 = x1) (h2 : y2 = x2) : val_main_v28 (F := Ideal) y1 y2 = Adam.mom x1 x2 := by
  subst h1 h2
  rfl

theorem ref5 (x1 x3 y1 y3 : Vec Ideal S2x512 .f32) (h1 : y1 = x1) (h3 : y3 = x3) : val_main_v34 (F := Ideal) y1 y3 = Adam.sq x1 x3 := by
  subst h1 h3
  rfl

theorem ref6 (x0 x1 x2 x3 y0 y1 y2 y3 : Vec Ideal S1024 .f32) (h0 : y0 = x0) (h1 : y1 = x1) (h2 : y2 = x2) (h3 : y3 = x3) : val_main_v71 (F := Ideal) y0 y1 y2 y3 = Adam.delta x0 x1 x2 x3 := by
  subst h0 h1 h2 h3
  rfl

theorem ref7 (x1 x2 y1 y2 : Vec Ideal S1024 .f32) (h1 : y1 = x1) (h2 : y2 = x2) : val_main_v52 (F := Ideal) y1 y2 = Adam.mom x1 x2 := by
  subst h1 h2
  rfl

theorem ref8 (x1 x3 y1 y3 : Vec Ideal S1024 .f32) (h1 : y1 = x1) (h3 : y3 = x3) : val_main_v58 (F := Ideal) y1 y3 = Adam.sq x1 x3 := by
  subst h1 h3
  rfl

end Cert.Reference11Ideal.Upd

namespace Cert.Proof

open Idealize.ShloMosaic Idealize.SL.Sem
open Cert.Kernel11Ideal Cert.Kernel11Ideal.Gen Cert.Kernel11Ideal.Upd Cert.Reference11Ideal.Upd

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2.2.2.2.2.2.2.2.2,
      Idealize.ShloMosaic.sem_eq_zero_of_no_sems (by decide) r.2⟩)
     (Cert.Reference11Ideal.Value.run (F := Ideal) m ρ)

theorem algebraic11 : Cert.algebraic_Kernel11Ideal_Reference11Ideal := by
  intro m g m' g' hpre hagree
  refine ⟨fun c => Adam.delta (s := S2x512) (m ((c.tc : Thread nD τ).loc main_arg0)) (m ((c.tc : Thread nD τ).loc main_arg1)) (m ((c.tc : Thread nD τ).loc main_arg2)) (m ((c.tc : Thread nD τ).loc main_arg3)),
    fun c => Adam.mom (s := S2x512) (m ((c.tc : Thread nD τ).loc main_arg1)) (m ((c.tc : Thread nD τ).loc main_arg2)),
    fun c => Adam.sq (s := S2x512) (m ((c.tc : Thread nD τ).loc main_arg1)) (m ((c.tc : Thread nD τ).loc main_arg3)),
    fun c => Adam.delta (s := S2x512) (m ((c.tc : Thread nD τ).loc main_arg4)) (m ((c.tc : Thread nD τ).loc main_arg5)) (m ((c.tc : Thread nD τ).loc main_arg6)) (m ((c.tc : Thread nD τ).loc main_arg7)),
    fun c => Adam.mom (s := S2x512) (m ((c.tc : Thread nD τ).loc main_arg5)) (m ((c.tc : Thread nD τ).loc main_arg6)),
    fun c => Adam.sq (s := S2x512) (m ((c.tc : Thread nD τ).loc main_arg5)) (m ((c.tc : Thread nD τ).loc main_arg7)),
    fun c => Adam.delta (s := S1024) (m ((c.tc : Thread nD τ).loc main_arg8)) (m ((c.tc : Thread nD τ).loc main_arg9)) (m ((c.tc : Thread nD τ).loc main_arg10)) (m ((c.tc : Thread nD τ).loc main_arg11)),
    fun c => Adam.mom (s := S1024) (m ((c.tc : Thread nD τ).loc main_arg9)) (m ((c.tc : Thread nD τ).loc main_arg10)),
    fun c => Adam.sq (s := S1024) (m ((c.tc : Thread nD τ).loc main_arg9)) (m ((c.tc : Thread nD τ).loc main_arg11)),
    (θ_run Cert.Kernel11Ideal.defs _ _).mono (fun r h c => ⟨(h c main_v5 (by decide)).trans (end0_4 m g c),
      (h c main_v6 (by decide)).trans (end0_5 m g c),
      (h c main_v7 (by decide)).trans (end0_6 m g c),
      (h c main_v13 (by decide)).trans (end1_4 m g c),
      (h c main_v14 (by decide)).trans (end1_5 m g c),
      (h c main_v15 (by decide)).trans (end1_6 m g c),
      (h c main_v21 (by decide)).trans (end2_4 m g c),
      (h c main_v22 (by decide)).trans (end2_5 m g c),
      (h c main_v23 (by decide)).trans (end2_6 m g c),
      (h c main_arg0 (by decide)).trans (W7_args m g c main_arg0 (by decide)),
      (h c main_arg1 (by decide)).trans (W7_args m g c main_arg1 (by decide)),
      (h c main_arg2 (by decide)).trans (W7_args m g c main_arg2 (by decide)),
      (h c main_arg3 (by decide)).trans (W7_args m g c main_arg3 (by decide)),
      (h c main_arg4 (by decide)).trans (W7_args m g c main_arg4 (by decide)),
      (h c main_arg5 (by decide)).trans (W7_args m g c main_arg5 (by decide)),
      (h c main_arg6 (by decide)).trans (W7_args m g c main_arg6 (by decide)),
      (h c main_arg7 (by decide)).trans (W7_args m g c main_arg7 (by decide)),
      (h c main_arg8 (by decide)).trans (W7_args m g c main_arg8 (by decide)),
      (h c main_arg9 (by decide)).trans (W7_args m g c main_arg9 (by decide)),
      (h c main_arg10 (by decide)).trans (W7_args m g c main_arg10 (by decide)),
      (h c main_arg11 (by decide)).trans (W7_args m g c main_arg11 (by decide))⟩)
      (Cert.Kernel11Ideal.Run.ends (F := Ideal) m g), ?_⟩
  refine (θ_run Cert.Reference11Ideal.defs _ _).mono (fun r h c => ?_) (Cert.Reference11Ideal.Value.run (F := Ideal) m' g')
  obtain ⟨h0, h1, h2, h3, h4, h5, h6, h7, h8, hk⟩ := h c
  obtain ⟨a0, a1, a2, a3, a4, a5, a6, a7, a8, a9, a10, a11⟩ := hagree c
  exact ⟨(h0.trans (Cert.Reference11Ideal.Read.val_main_v23_eq _ _ _ _)).trans (ref0 _ _ _ _ _ _ _ _ a0 a1 a2 a3),
    (h1.trans (Cert.Reference11Ideal.Read.val_main_v4_eq _ _)).trans (ref1 _ _ _ _ a1 a2),
    (h2.trans (Cert.Reference11Ideal.Read.val_main_v10_eq _ _)).trans (ref2 _ _ _ _ a1 a3),
    (h3.trans (Cert.Reference11Ideal.Read.val_main_v47_eq _ _ _ _)).trans (ref3 _ _ _ _ _ _ _ _ a4 a5 a6 a7),
    (h4.trans (Cert.Reference11Ideal.Read.val_main_v28_eq _ _)).trans (ref4 _ _ _ _ a5 a6),
    (h5.trans (Cert.Reference11Ideal.Read.val_main_v34_eq _ _)).trans (ref5 _ _ _ _ a5 a7),
    (h6.trans (Cert.Reference11Ideal.Read.val_main_v71_eq _ _ _ _)).trans (ref6 _ _ _ _ _ _ _ _ a8 a9 a10 a11),
    (h7.trans (Cert.Reference11Ideal.Read.val_main_v52_eq _ _)).trans (ref7 _ _ _ _ a9 a10),
    (h8.trans (Cert.Reference11Ideal.Read.val_main_v58_eq _ _)).trans (ref8 _ _ _ _ a9 a11),
    hk⟩

end Cert.Proof

end

end
-- ==== Proof.Norm.lean ====
/- The gradient of a row's norm: of the row itself, and what the row adds to the gradient of the gain; and a sum over all rows
   as a sum over the blocks of rows. -/
module

public import Idealize.ShloMosaic.Lib.Pointwise

@[expose] public section

noncomputable section

namespace Cert.Norm

open Idealize.ShloMosaic

/-- The mean of a row's squares, and the small number that keeps it off zero. -/
def msq (x : Fin 1024 → EReal) : EReal :=
  Ideal.div (∑ k, x k * x k) (Ideal.ofBits FTy.f32 1149239296#32) + Ideal.ofBits FTy.f32 897988541#32

/-- What the gradient `q` of the row over its length sends back into the mean of the squares. -/
def pull (x q : Fin 1024 → EReal) : EReal :=
  Ideal.div ((∑ k, x k * q k) * (Ideal.ofBits FTy.f32 3204448256#32 * Ideal.div (Ideal.rsqrt (msq x)) (msq x)))
    (Ideal.ofBits FTy.f32 1149239296#32)

/-- The gradient of the row, from `d`, what comes by the direct way. -/
def back (x q : Fin 1024 → EReal) (d : EReal) (b : Fin 1024) : EReal := d + x b * pull x q + pull x q * x b

/-- What the row adds to the gradient of the gain. -/
def gain (x d : Fin 1024 → EReal) (b : Fin 1024) : EReal := x b * Ideal.rsqrt (msq x) * d b

/-- The gradient of a row that goes into its norm, whose gradient is `d`, and into its residual, whose gradient is `e`. -/
def both (x g d e : Fin 1024 → EReal) (b : Fin 1024) : EReal :=
  back x (fun k => d k * g k) (e b + d b * g b * Ideal.rsqrt (msq x)) b

/-- What the normed row, times the gain, misses of the target. -/
def miss (x g y : Fin 1024 → EReal) (b : Fin 1024) : EReal := x b * Ideal.rsqrt (msq x) * g b - y b

/-- Half the mean of a row's squares: what a row adds to the loss. -/
def half (e : Fin 1024 → EReal) : EReal :=
  Ideal.ofBits FTy.f32 1056964608#32 * Ideal.div (∑ k, e k * e k) (Ideal.ofBits FTy.f32 1149239296#32)

/-- Half the gradient of the mean of a row's squares, of one of its entries. -/
def unit : EReal := Ideal.div (Ideal.ofBits FTy.f32 1056964608#32) (Ideal.ofBits FTy.f32 1149239296#32)

/-- The gradient of the loss from what the row misses, entry by entry. -/
def slope (e : EReal) : EReal := e * unit + unit * e

theorem half_word : Ideal.ofBits FTy.f32 1056964608#32 = ((1 / 2 : ℝ) : EReal) := by
  have h : Ideal.ofBits FTy.f32 1056964608#32 = ((8388608 : ℝ) : EReal) * ((1 / 16777216 : ℝ) : EReal) := by
    simp [Ideal.ofBits, Ideal.ieee]
    norm_num
  rw [h, ← EReal.coe_mul]
  norm_num

theorem width_word : Ideal.ofBits FTy.f32 1149239296#32 = ((1024 : ℝ) : EReal) := by
  have h : Ideal.ofBits FTy.f32 1149239296#32 = ((8388608 : ℝ) : EReal) * ((1 / 8192 : ℝ) : EReal) := by
    simp [Ideal.ofBits, Ideal.ieee]
    norm_num
  rw [h, ← EReal.coe_mul]
  norm_num

theorem two_word : Ideal.ofBits FTy.f32 1073741824#32 = ((2 : ℝ) : EReal) := by
  have h : Ideal.ofBits FTy.f32 1073741824#32 = ((8388608 : ℝ) : EReal) * ((1 / 4194304 : ℝ) : EReal) := by
    simp [Ideal.ofBits, Ideal.ieee]
    norm_num
  rw [h, ← EReal.coe_mul]
  norm_num

theorem unit_eq : unit = ((1 / 2048 : ℝ) : EReal) := by
  unfold unit
  rw [half_word, width_word]
  simp only [Ideal.div, EReal.coe_eq_zero, OfNat.ofNat_ne_zero, if_false, ↓reduceIte]
  rw [div_eq_mul_inv, ← EReal.coe_inv, ← EReal.coe_mul]
  norm_num

/-- The same, with the square's two in one place. -/
theorem slope_eq (e : EReal) : unit * (Ideal.ofBits FTy.f32 1073741824#32 * e) = slope e := by
  unfold slope
  have h : (0 : EReal) ≤ ((1 / 2048 : ℝ) : EReal) := EReal.coe_nonneg.mpr (by norm_num)
  rw [two_word, unit_eq, ← mul_assoc, ← EReal.coe_mul, mul_comm e, ← EReal.right_distrib_of_nonneg h h, ← EReal.coe_add]
  norm_num

/-- Half of a sum is the sum of the halves. -/
theorem half_sum {ι : Type} (s : Finset ι) (f : ι → EReal) :
    Ideal.ofBits FTy.f32 1056964608#32 * ∑ i ∈ s, f i = ∑ i ∈ s, Ideal.ofBits FTy.f32 1056964608#32 * f i := by
  classical
  rw [half_word]
  induction s using Finset.induction_on with
  | empty => simp
  | insert a s ha ih =>
    rw [Finset.sum_insert ha, Finset.sum_insert ha, ← ih]
    exact EReal.left_distrib_of_nonneg_of_ne_top (EReal.coe_nonneg.mpr (by norm_num)) (EReal.coe_ne_top _) _ _

/-- The gradient of the loss, of the normed row. -/
def push (x g y : Fin 1024 → EReal) (b : Fin 1024) : EReal := slope (miss x g y b)

/-- The gradient of the loss, of the row. -/
def down (x g y : Fin 1024 → EReal) (b : Fin 1024) : EReal :=
  back x (fun k => push x g y k * g k) (push x g y b * g b * Ideal.rsqrt (msq x)) b

/-- A sum over the first blocks of 256 rows, and the next one. -/
theorem sum_block (f : ℕ → EReal) (n : ℕ) (g : Fin 256 → EReal) (h : ∀ a, g a = f (256 * n + a)) :
    ∑ r ∈ Finset.range (256 * n), f r + ∑ a, g a = ∑ r ∈ Finset.range (256 * (n + 1)), f r := by
  rw [Nat.mul_succ, Finset.sum_range_add, Finset.sum_range (fun x => f (256 * n + x))]
  exact congrArg _ (Finset.sum_congr rfl fun a _ => h a)

/-- The rows of an array, by their numbers. -/
def row (x : FVec Ideal ⟨2, ![2048, 1024]⟩ .f32) (r : ℕ) (k : Fin 1024) : EReal := if h : r < 2048 then x (ix2 ⟨r, h⟩ k) else 0

theorem row_of (x : FVec Ideal ⟨2, ![2048, 1024]⟩ .f32) (a : Fin 2048) (r : ℕ) (h : a.val = r) : row x r = fun k => x (ix2 a k) := by
  subst h
  funext k
  exact dif_pos a.isLt

/-- A sum over all rows, by their numbers. -/
theorem sum_rows {f : ℕ → EReal} (g : Fin 2048 → EReal) (h : ∀ a : Fin 2048, f a = g a) : ∑ r ∈ Finset.range 2048, f r = ∑ a, g a := by
  rw [Finset.sum_range]
  exact Finset.sum_congr rfl fun a _ => h a

/-- The gradient of the gain, from all rows. -/
theorem gain_all (x d : FVec Ideal ⟨2, ![2048, 1024]⟩ .f32) (b : Fin 1024) :
    ∑ r ∈ Finset.range 2048, gain (row x r) (row d r) b = ∑ a : Fin 2048, gain (fun k => x (ix2 a k)) (fun k => d (ix2 a k)) b := by
  rw [Finset.sum_range]
  exact Finset.sum_congr rfl fun a _ => by rw [row_of x a a rfl, row_of d a a rfl]

end Cert.Norm

end

end
-- ==== Proof.Loss.lean ====
/- The values of `Kernel12Ideal`: the loss and its gradients, from the rows after the last layer, block by block. -/
module

public import proofs.«01_k».proof.Proof.Norm
public import proofs.«01_k».proof.Proof.Whole
public import proofs.«01_k».proof.Proof.Gen.Kernel12Ideal.Value
public import Idealize.ShloMosaic.Lib.Pipeline.ValueKit
public import Idealize.ShloMosaic.Lib.Claim

@[expose] public section

set_option maxRecDepth 16384

noncomputable section

namespace Cert.Kernel12Ideal.Loss

open Idealize.ShloMosaic Idealize.ShloMosaic.TcCoe
open Idealize.SL.Sem Cert.Kernel12Ideal Cert.Kernel12Ideal.Gen Cert.Norm

theorem pay13 (y x : Vec Ideal S256x1024 .f32) (g : Vec Ideal S1x1024 .f32) (a : Fin 256) (b : Fin 1024) :
    k0_pay13 (F := Ideal) y x g (ix2 a b) = push (fun k => x (ix2 a k)) (fun k => g (ix2 0 k)) (fun k => y (ix2 a k)) b := by
  pointwise [k0_pay13, k0_pay11, k0_pay10, k0_pay8, k0_pay7, k0_pay6]
  simp only [Fin.sum_univ_one]
  rfl

theorem pay12 (y x : Vec Ideal S256x1024 .f32) (g : Vec Ideal S1x1024 .f32) (a : Fin 256) :
    k0_pay12 (F := Ideal) y x g (ix2 a 0) = half (miss (fun k => x (ix2 a k)) (fun k => g (ix2 0 k)) (fun k => y (ix2 a k))) := by
  pointwise [k0_pay12, k0_pay11, k0_pay10, k0_pay8, k0_pay7, k0_pay6]
  rfl

theorem pay14 (y x : Vec Ideal S256x1024 .f32) (g : Vec Ideal S1x1024 .f32) (b : Fin 1024) :
    k0_pay14 (F := Ideal) y x g (ix2 0 b)
      = ∑ a : Fin 256, gain (fun k => x (ix2 a k)) (push (fun k => x (ix2 a k)) (fun k => g (ix2 0 k)) (fun k => y (ix2 a k))) b := by
  pointwise [k0_pay14, k0_pay13, k0_pay11, k0_pay10, k0_pay8, k0_pay7, k0_pay6]
  simp only [Fin.sum_univ_one]
  rfl

theorem pay1 (y x : Vec Ideal S256x1024 .f32) (g : Vec Ideal S1x1024 .f32) (a : Fin 256) (b : Fin 1024) :
    k0_pay1 (F := Ideal) x (k0_pay6 g) (k0_pay8 x) (k0_pay9 x) (k0_pay13 y x g) (ix2 a b)
      = down (fun k => x (ix2 a k)) (fun k => g (ix2 0 k)) (fun k => y (ix2 a k)) b := by
  pointwise [k0_pay1, k0_pay6, k0_pay8, k0_pay9, k0_pay7]
  simp only [Fin.sum_univ_one, pay13]
  rfl

theorem pay2 (b : Fin 128) : k0_pay2 (F := Ideal) (ix2 0 b) = (0 : EReal) := by
  pointwise [k0_pay2]

theorem pay3 (b : Fin 1024) : k0_pay3 (F := Ideal) (ix2 0 b) = (0 : EReal) := by
  pointwise [k0_pay3]

theorem pay4 (v : Vec Ideal S256x1 .f32) (y : Vec Ideal S1x128 .f32) (b : Fin 128) :
    k0_pay4 (F := Ideal) v y (ix2 0 b) = (y (ix2 0 b) : EReal) + ∑ a : Fin 256, (v (ix2 a 0) : EReal) := by
  pointwise [k0_pay4]

theorem pay5 (v y : Vec Ideal S1x1024 .f32) (b : Fin 1024) : k0_pay5 (F := Ideal) v y (ix2 0 b) = (y (ix2 0 b) : EReal) + (v (ix2 0 b) : EReal) := by
  pointwise [k0_pay5]

section Cases

variable {c : Dev nD} {i : grid0.Coords} {arg1 : Memref sig .tc .vmem S256x1024 .f32} {harg1 : arg1.IsWhole} {arg2 : Memref sig .tc .vmem S1x1024 .f32} {harg2 : arg2.IsWhole} {arg3 : Memref sig .tc .vmem S256x1024 .f32} {harg3 : arg3.IsWhole} {arg4 : Memref sig .tc .vmem S256x1024 .f32} {harg4 : arg4.IsWhole} {arg5 : Memref sig .tc .vmem S1x128 .f32} {harg5 : arg5.IsWhole} {arg6 : Memref sig .tc .vmem S1x1024 .f32} {harg6 : arg6.IsWhole}
  {x : Vec Ideal S256x1024 .f32} {g : Vec Ideal S1x1024 .f32} {y : Vec Ideal S256x1024 .f32} {p : Vec Ideal S1x128 .f32} {q : Vec Ideal S1x1024 .f32}

theorem rows_A (hc : cond0_0 i) :
    out0_A_3 (F := Ideal) c i arg1 harg1 arg2 harg2 arg3 harg3 arg4 harg4 arg5 harg5 arg6 harg6 hc x g y
      = k0_pay1 x (k0_pay6 g) (k0_pay8 x) (k0_pay9 x) (k0_pay13 y x g) := by
  unfold out0_A_3 kernelRun0_A
  refine (View.read_writes_full _ _ _ _ _).trans ?_
  unfold kernelRun0_A.sl.r kernelRun0_A.sl.r_1 kernelRun0_A.sl.r_2 kernelRun0_A.sl.r_3 kernelRun0_A.sl.r_5
  repeat rw [Whole.ld]

theorem rows_B (hc : ¬cond0_0 i) :
    out0_B_3 (F := Ideal) c i arg1 harg1 arg2 harg2 arg3 harg3 arg4 harg4 arg5 harg5 arg6 harg6 hc x g y p q
      = k0_pay1 x (k0_pay6 g) (k0_pay8 x) (k0_pay9 x) (k0_pay13 y x g) := by
  unfold out0_B_3 kernelRun0_B
  refine (View.read_writes_full _ _ _ _ _).trans ?_
  unfold kernelRun0_B.sl.r kernelRun0_B.sl.r_1 kernelRun0_B.sl.r_2 kernelRun0_B.sl.r_3 kernelRun0_B.sl.r_5
  repeat rw [Whole.ld]

theorem loss_A (hc : cond0_0 i) :
    out0_A_4 (F := Ideal) c i arg1 harg1 arg2 harg2 arg3 harg3 arg4 harg4 arg5 harg5 arg6 harg6 hc x g y
      = k0_pay4 (k0_pay12 y x g) (k0_pay2 (F := Ideal) : Vec Ideal S1x128 .f32) := by
  unfold out0_A_4 kernelRun0_A
  refine (View.read_writes_full _ _ _ _ _).trans ?_
  unfold kernelRun0_A.sl.r_4 kernelRun0_A.sl.v62
  repeat rw [Whole.ld]
  exact congrArg (k0_pay4 _) (View.readCov_full _ _ _ _ _)

theorem loss_B (hc : ¬cond0_0 i) :
    out0_B_4 (F := Ideal) c i arg1 harg1 arg2 harg2 arg3 harg3 arg4 harg4 arg5 harg5 arg6 harg6 hc x g y p q = k0_pay4 (k0_pay12 y x g) p := by
  unfold out0_B_4 kernelRun0_B
  refine (View.read_writes_full _ _ _ _ _).trans ?_
  unfold kernelRun0_B.sl.r_4
  repeat rw [Whole.ld]

theorem gain_A (hc : cond0_0 i) :
    out0_A_5 (F := Ideal) c i arg1 harg1 arg2 harg2 arg3 harg3 arg4 harg4 arg5 harg5 arg6 harg6 hc x g y
      = k0_pay5 (k0_pay14 y x g) (k0_pay3 (F := Ideal) : Vec Ideal S1x1024 .f32) := by
  unfold out0_A_5 kernelRun0_A
  refine (View.read_writes_full _ _ _ _ _).trans ?_
  unfold kernelRun0_A.sl.r_6 kernelRun0_A.sl.v70
  repeat rw [Whole.ld]
  exact congrArg (k0_pay5 _) (View.readCov_full _ _ _ _ _)

theorem gain_B (hc : ¬cond0_0 i) :
    out0_B_5 (F := Ideal) c i arg1 harg1 arg2 harg2 arg3 harg3 arg4 harg4 arg5 harg5 arg6 harg6 hc x g y p q = k0_pay5 (k0_pay14 y x g) q := by
  unfold out0_B_5 kernelRun0_B
  refine (View.read_writes_full _ _ _ _ _).trans ?_
  unfold kernelRun0_B.sl.r_6
  repeat rw [Whole.ld]

end Cases

end Cert.Kernel12Ideal.Loss

end

end
-- ==== Proof.LossGrid.lean ====
/- The blocks of rows that `Kernel12Ideal` takes, what it has left after each, and its three arrays; and the same of
   `Reference12Ideal`. -/
module

public import proofs.«01_k».proof.Proof.Loss
public import proofs.«01_k».proof.Proof.Gen.Reference12Ideal.Read

@[expose] public section

set_option maxRecDepth 16384

noncomputable section

namespace Cert.Kernel12Ideal.Loss

open Idealize.ShloMosaic Idealize.ShloMosaic.TcCoe
open Idealize.SL.Sem Cert.Kernel12Ideal Cert.Kernel12Ideal.Gen Cert.Norm

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])

theorem lt_8 (t : Fin cfg0.N) : t.val < 8 := lt_of_lt_of_eq t.isLt Gen.N_0

variable (m : (ℓ : Loc nD τ sig) → Buf (Elt Ideal) ℓ) (c : Dev nD)

/-- The rows, the gain, and the target. -/
abbrev X : FVec Ideal S2048x1024 .f32 := m ((c : Thread nD τ).loc main_arg0)
abbrev G (b : Fin 1024) : EReal := (m ((c : Thread nD τ).loc main_arg1) : FVec Ideal S1024 .f32) (ix1 b)
abbrev Y : FVec Ideal S2048x1024 .f32 := m ((c : Thread nD τ).loc main_arg2)

theorem gain_eq (b : Fin 1024) : (V (F := Ideal) m c main_v0 : FVec Ideal S1x1024 .f32) (ix2 0 b) = G m c b := by
  have e : (V (F := Ideal) m c main_v0 : Vec Ideal S1x1024 .f32) = shapeCast S1x1024 (m ((c : Thread nD τ).loc main_arg1) : Vec Ideal S1024 .f32) shapeCasts_S1024_S1x1024 := by
    unfold V hostOps0
    entry_read
    rfl
  rw [e]
  pointwise []

theorem blk0 (t : Fin cfg0.N) (a : Fin 256) : (fun k => (iblk (F := Ideal) m c 0 t : FVec Ideal S256x1024 .f32) (ix2 a k)) = row (X m c) (256 * t.val + a) := by
  have ht := lt_8 t
  rw [row_of (X m c) ⟨256 * t.val + a, by omega⟩ _ rfl]
  funext k
  have e : (win0_0.blk t).view.emb (ix2 a k) = ix2 (⟨256 * t.val + a, by omega⟩ : Fin 2048) k := by
    blk_ext [ix_0 t]
  blk_simp [iblk]
  rw [V_main_arg0, e]

theorem blk1 (t : Fin cfg0.N) (k : Fin 1024) : (iblk (F := Ideal) m c 1 t : FVec Ideal S1x1024 .f32) (ix2 0 k) = G m c k := by
  have e : (win0_1.blk t).view.emb (ix2 (0 : Fin 1) k) = ix2 (0 : Fin 1) k := by
    blk_ext [ix_1 t]
  blk_simp [iblk]
  rw [e]
  exact gain_eq m c k

theorem blk2 (t : Fin cfg0.N) (a : Fin 256) : (fun k => (iblk (F := Ideal) m c 2 t : FVec Ideal S256x1024 .f32) (ix2 a k)) = row (Y m c) (256 * t.val + a) := by
  have ht := lt_8 t
  rw [row_of (Y m c) ⟨256 * t.val + a, by omega⟩ _ rfl]
  funext k
  have e : (win0_2.blk t).view.emb (ix2 a k) = ix2 (⟨256 * t.val + a, by omega⟩ : Fin 2048) k := by
    blk_ext [ix_2 t]
  blk_simp [iblk]
  rw [V_main_arg2, e]

/-- What row `r` gives: the row's gradient, its loss, and its part of the gain's gradient. -/
abbrev dn (r : ℕ) (b : Fin 1024) : EReal := down (row (X m c) r) (G m c) (row (Y m c) r) b
abbrev ls (r : ℕ) : EReal := half (miss (row (X m c) r) (G m c) (row (Y m c) r))
abbrev gn (b : Fin 1024) (r : ℕ) : EReal := gain (row (X m c) r) (push (row (X m c) r) (G m c) (row (Y m c) r)) b

theorem rows_at (t : Fin cfg0.N) (a : Fin 256) (b : Fin 1024) :
    k0_pay1 (F := Ideal) (iblk m c 0 t) (k0_pay6 (iblk m c 1 t)) (k0_pay8 (iblk m c 0 t)) (k0_pay9 (iblk m c 0 t)) (k0_pay13 (iblk m c 2 t) (iblk m c 0 t) (iblk m c 1 t)) (ix2 a b)
      = dn m c (256 * t.val + a) b := by
  unfold dn
  rw [pay1, ← blk0 m c t a, ← blk2 m c t a, ← funext (blk1 m c t)]

theorem loss_at (t : Fin cfg0.N) (a : Fin 256) :
    k0_pay12 (F := Ideal) (iblk m c 2 t) (iblk m c 0 t) (iblk m c 1 t) (ix2 a 0) = ls m c (256 * t.val + a) := by
  unfold ls
  rw [pay12, ← blk0 m c t a, ← blk2 m c t a, ← funext (blk1 m c t)]

theorem gain_at (t : Fin cfg0.N) (b : Fin 1024) :
    k0_pay14 (F := Ideal) (iblk m c 2 t) (iblk m c 0 t) (iblk m c 1 t) (ix2 0 b) = ∑ a : Fin 256, gn m c b (256 * t.val + a) := by
  rw [pay14]
  exact Finset.sum_congr rfl fun a _ => by unfold gn; rw [← blk0 m c t a, ← blk2 m c t a, ← funext (blk1 m c t)]

/-- What the three output blocks hold after point `n`. -/
def Left (n : ℕ) (o : Vec Ideal S256x1024 .f32 × Vec Ideal S1x128 .f32 × Vec Ideal S1x1024 .f32) : Prop :=
  (∀ (a : Fin 256) (b : Fin 1024), o.1 (ix2 a b) = dn m c (256 * n + a) b)
    ∧ (∀ b : Fin 128, o.2.1 (ix2 0 b) = ∑ r ∈ Finset.range (256 * (n + 1)), ls m c r)
    ∧ ∀ b : Fin 1024, o.2.2 (ix2 0 b) = ∑ r ∈ Finset.range (256 * (n + 1)), gn m c b r

theorem left (n : ℕ) (hn : n < cfg0.N) : Left m c n (outsAt0 (F := Ideal) m c n hn) := by
  induction n with
  | zero =>
    rw [outsAt0_A m c ⟨0, hn⟩ rfl]
    dsimp only [Left]
    refine ⟨fun a b => ?_, fun b => ?_, fun b => ?_⟩
    · rw [rows_A]
      exact rows_at m c ⟨0, hn⟩ a b
    · rw [loss_A, pay4, pay2, ← sum_block _ 0 _ (loss_at m c ⟨0, hn⟩)]
      rfl
    · rw [gain_A, pay5, pay3, gain_at m c ⟨0, hn⟩ b, ← sum_block _ 0 _ fun _ => rfl]
      rfl
  | succ n ih =>
    have h0 : ¬(n + 1) % 8 = 0 := by
      have := lt_8 ⟨n + 1, hn⟩
      simp only [] at this
      omega
    rw [outsAt0_B m c ⟨n + 1, hn⟩ h0]
    dsimp only [Left]
    refine ⟨fun a b => ?_, fun b => ?_, fun b => ?_⟩
    · rw [rows_B]
      exact rows_at m c ⟨n + 1, hn⟩ a b
    · rw [loss_B, pay4]
      refine (congrArg (· + _) ((ih _).2.1 b)).trans ?_
      exact sum_block _ (n + 1) _ (loss_at m c ⟨n + 1, hn⟩)
    · rw [gain_B, pay5, gain_at m c ⟨n + 1, hn⟩ b]
      refine (congrArg (· + _) ((ih _).2.2 b)).trans ?_
      exact sum_block _ (n + 1) _ fun _ => rfl

theorem arr3 : (dats (F := Ideal) m 0 c).arrAt 3 cfg0.N = (fun i => dn m c (i 0 : ℕ) (i 1) : FVec Ideal S2048x1024 .f32) := by
  refine (dats m 0 c).arrAt_eq_of_covers 3 _ (by decide +kernel) fun t hf y => ?_
  have ht := lt_8 t
  have ex : ∀ (a : Fin 256) (b : Fin 1024), (win0_3.blk t).view.emb (ix2 a b) = ix2 (⟨256 * t.val + a, by omega⟩ : Fin 2048) b := fun a b => by
    blk_ext [ix_3 t]
  blk_simp
  rw [after0_3]
  idx_vars y
  rw [ex]
  simp only [ix_3 t, Matrix.cons_val_zero]
  rw [Nat.mul_comm t.val 256]
  exact (left m c t.val t.isLt).1 y0 y1

theorem arr4 : (dats (F := Ideal) m 0 c).arrAt 4 cfg0.N = (fun _ => ∑ r ∈ Finset.range 2048, ls m c r : FVec Ideal S1x128 .f32) := by
  refine (dats m 0 c).arrAt_eq_of_covers 4 _ (by decide +kernel) fun t hf y => ?_
  have h7 : t.val = 7 := by
    have := lt_8 t
    have h7 : t.val % 8 = 7 := (flush0_4 t).mp hf
    omega
  blk_simp
  rw [after0_4]
  idx_vars y
  have h := (left m c t.val t.isLt).2.1 y1
  rw [show 256 * (t.val + 1) = 2048 by omega] at h
  obtain rfl : y0 = 0 := Fin.fin_one_eq_zero y0
  exact h

theorem arr5 : (dats (F := Ideal) m 0 c).arrAt 5 cfg0.N = (fun i => ∑ r ∈ Finset.range 2048, gn m c (i 1) r : FVec Ideal S1x1024 .f32) := by
  refine (dats m 0 c).arrAt_eq_of_covers 5 _ (by decide +kernel) fun t hf y => ?_
  have h7 : t.val = 7 := by
    have := lt_8 t
    have h7 : t.val % 8 = 7 := (flush0_5 t).mp hf
    omega
  have ex : ∀ (a : Fin 1) (b : Fin 1024), (win0_5.blk t).view.emb (ix2 a b) = ix2 a b := fun a b => by
    blk_ext [ix_5 t]
  blk_simp
  rw [after0_5]
  idx_vars y
  rw [ex]
  have h := (left m c t.val t.isLt).2.2 y1
  rw [show 256 * (t.val + 1) = 2048 by omega] at h
  obtain rfl : y0 = 0 := Fin.fin_one_eq_zero y0
  exact h

end Cert.Kernel12Ideal.Loss

namespace Cert.Reference12Ideal.Loss

open Idealize.ShloMosaic Idealize.ShloMosaic.TcCoe
open Idealize.SL.Sem Cert.Reference12Ideal Cert.Reference12Ideal.Read Cert.Norm

variable (x : FVec Ideal S2048x1024 .f32) (g : FVec Ideal S1024 .f32) (y : FVec Ideal S2048x1024 .f32)

theorem miss_eq (a : Fin 2048) (b : Fin 1024) :
    val_main_v16 (F := Ideal) x g y (ix2 a b) = miss (fun k => x (ix2 a k)) (fun k => g (ix1 k)) (fun k => y (ix2 a k)) b := by
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  rfl

theorem push_eq (a : Fin 2048) (b : Fin 1024) :
    val_main_v30 (F := Ideal) x g y (ix2 a b) = push (fun k => x (ix2 a k)) (fun k => g (ix1 k)) (fun k => y (ix2 a k)) b := by
  unfold push
  rw [← slope_eq, ← miss_eq]
  pointwise [val_main_v30, val_main_v29, val_main_v28, val_main_v27, val_main_v26, val_main_v25, val_main_v19, val_main_v18, val_main_cst_3, val_main_cst_8, val_main_cst_9, val_main_cst_10]
  rfl

theorem rows (a : Fin 2048) (b : Fin 1024) :
    val_main_v50 (F := Ideal) x g y (ix2 a b) = down (fun k => x (ix2 a k)) (fun k => g (ix1 k)) (fun k => y (ix2 a k)) b := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  simp only [Fin.sum_univ_one, push_eq]
  rfl

theorem loss (b : Fin 128) :
    val_main_v51 (F := Ideal) x g y (ix2 0 b) = ∑ a : Fin 2048, half (miss (fun k => x (ix2 a k)) (fun k => g (ix1 k)) (fun k => y (ix2 a k))) := by
  pointwise [val_main_v51, val_main_v24, val_main_v23, val_main_v22, val_main_v21, val_main_v20, val_main_v17, val_main_cst_4, val_main_cst_5, val_main_cst_6, val_main_cst_7]
  simp only [miss_eq]
  exact half_sum _ _

theorem gains (b : Fin 1024) :
    val_main_v52 (F := Ideal) x g y (ix2 0 b)
      = ∑ a : Fin 2048, gain (fun k => x (ix2 a k)) (push (fun k => x (ix2 a k)) (fun k => g (ix1 k)) (fun k => y (ix2 a k))) b := by
  pointwise [val_main_v52, val_main_v36, val_main_v33, val_main_v32, val_main_v31, val_main_v12, val_main_v11, val_main_v7, val_main_v6, val_main_v5, val_main_v4, val_main_v3, val_main_v2, val_main_v1, val_main_v0, val_main_cst, val_main_cst_0, val_main_cst_1, val_main_cst_11, val_main_cst_12]
  simp only [Fin.sum_univ_one, push_eq]
  rfl

end Cert.Reference12Ideal.Loss

end

end
-- ==== Proof.LossEnd.lean ====
/- The claims of the loss and its gradients. -/
module

public import proofs.«01_k».proof.Defs
public import proofs.«01_k».proof.Proof.Gen.Kernel12.Frame
public import proofs.«01_k».proof.Proof.Gen.Reference12Ideal.Run
public import proofs.«01_k».proof.Proof.LossGrid
public import Idealize.ShloMosaic.Lib.Claim
public import Idealize.ShloMosaic.Adequacy
public import Idealize.ShloMosaic.Init

@[expose] public section

noncomputable section

namespace Cert.Proof

open Idealize.ShloMosaic Idealize.SL.Sem

theorem frame_p12 : Cert.quiescent_Kernel12 := fun m ρ _ => Cert.Kernel12.Gen.frame m ρ

theorem frame_pi12 : Cert.quiescent_Kernel12Ideal := fun m ρ _ => Cert.Kernel12Ideal.Gen.frame m ρ

theorem frame_ri12 : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

open Cert.Kernel12Ideal Cert.Kernel12Ideal.Gen Idealize.ShloMosaic.TcCoe in
/-- The rows' gradient that the kernel leaves is the reference's. -/
theorem loss_rows (m : (ℓ : Loc nD τ sig) → Buf (Elt Ideal) ℓ) (c : Dev nD) (x : FVec Ideal S2048x1024 .f32) (g : FVec Ideal S1024 .f32)
    (y : FVec Ideal S2048x1024 .f32) (hx : x = m ((c : Thread nD τ).loc main_arg0)) (hg : g = m ((c : Thread nD τ).loc main_arg1))
    (hy : y = m ((c : Thread nD τ).loc main_arg2)) :
    Cert.Reference12Ideal.Read.val_main_v50 (F := Ideal) x g y = (dats (F := Ideal) m 0 c).arrAt 3 cfg0.N := by
  subst hx hg hy
  rw [Cert.Kernel12Ideal.Loss.arr3]
  funext i
  idx_vars i
  refine (Cert.Reference12Ideal.Loss.rows _ _ _ i0 i1).trans ?_
  rw [← Cert.Norm.row_of _ i0 _ rfl, ← Cert.Norm.row_of _ i0 _ rfl]

open Cert.Kernel12Ideal Cert.Kernel12Ideal.Gen Idealize.ShloMosaic.TcCoe in
/-- The loss that the kernel leaves is the reference's. -/
theorem loss_loss (m : (ℓ : Loc nD τ sig) → Buf (Elt Ideal) ℓ) (c : Dev nD) (x : FVec Ideal S2048x1024 .f32) (g : FVec Ideal S1024 .f32)
    (y : FVec Ideal S2048x1024 .f32) (hx : x = m ((c : Thread nD τ).loc main_arg0)) (hg : g = m ((c : Thread nD τ).loc main_arg1))
    (hy : y = m ((c : Thread nD τ).loc main_arg2)) :
    Cert.Reference12Ideal.Read.val_main_v51 (F := Ideal) x g y = (dats (F := Ideal) m 0 c).arrAt 4 cfg0.N := by
  subst hx hg hy
  rw [Cert.Kernel12Ideal.Loss.arr4]
  funext i
  idx_vars i
  rw [Fin.fin_one_eq_zero i0]
  refine (Cert.Reference12Ideal.Loss.loss _ _ _ i1).trans (Cert.Norm.sum_rows _ fun a => ?_).symm
  unfold Cert.Kernel12Ideal.Loss.ls
  rw [Cert.Norm.row_of _ a _ rfl, Cert.Norm.row_of _ a _ rfl]

open Cert.Kernel12Ideal Cert.Kernel12Ideal.Gen Idealize.ShloMosaic.TcCoe in
/-- The gain's gradient that the kernel leaves is the reference's. -/
theorem loss_gain (m : (ℓ : Loc nD τ sig) → Buf (Elt Ideal) ℓ) (c : Dev nD) (x : FVec Ideal S2048x1024 .f32) (g : FVec Ideal S1024 .f32)
    (y : FVec Ideal S2048x1024 .f32) (hx : x = m ((c : Thread nD τ).loc main_arg0)) (hg : g = m ((c : Thread nD τ).loc main_arg1))
    (hy : y = m ((c : Thread nD τ).loc main_arg2)) :
    Cert.Reference12Ideal.Read.val_main_v52 (F := Ideal) x g y = (dats (F := Ideal) m 0 c).arrAt 5 cfg0.N := by
  subst hx hg hy
  rw [Cert.Kernel12Ideal.Loss.arr5]
  funext i
  idx_vars i
  rw [Fin.fin_one_eq_zero i0]
  refine (Cert.Reference12Ideal.Loss.gains _ _ _ i1).trans (Cert.Norm.sum_rows _ fun a => ?_).symm
  unfold Cert.Kernel12Ideal.Loss.gn
  rw [Cert.Norm.row_of _ a _ rfl, Cert.Norm.row_of _ a _ rfl]

open Cert.Kernel12Ideal Cert.Kernel12Ideal.Gen in
/-- The loss head's kernel and the reference leave the same loss and gradients. -/
theorem algebraic12 : Cert.algebraic_Kernel12Ideal_Reference12Ideal := by
  intro m g m' g' _ hagree
  refine ⟨fun c => (dats m 0 c).arrAt 3 cfg0.N, fun c => (dats m 0 c).arrAt 4 cfg0.N, fun c => (dats m 0 c).arrAt 5 cfg0.N,
    Cert.Kernel12Ideal.Value.run_blocks (F := Ideal) m g, ?_⟩
  refine (θ_run Cert.Reference12Ideal.defs _ _).mono (fun r h c => ?_) (Cert.Reference12Ideal.Value.run (F := Ideal) m' g')
  obtain ⟨h0, h1, h2, hk⟩ := h c
  obtain ⟨a0, a1, a2⟩ := hagree c
  exact ⟨(h0.trans (Cert.Reference12Ideal.Read.val_main_v50_eq m' c)).trans (loss_rows m c _ _ _ a0 a1 a2),
    (h1.trans (Cert.Reference12Ideal.Read.val_main_v51_eq _ _ _)).trans (loss_loss m c _ _ _ a0 a1 a2),
    (h2.trans (Cert.Reference12Ideal.Read.val_main_v52_eq _ _ _)).trans (loss_gain m c _ _ _ a0 a1 a2), hk⟩

end Cert.Proof

end

end
-- ==== Proof.Rms.lean ====
/- The values of `Kernel13Ideal`: the gradient of a layer's rows, which go into its norm and into its residual, and of the norm's
   gain, which is added up over the blocks of rows. -/
module

public import proofs.«01_k».proof.Proof.Norm
public import proofs.«01_k».proof.Proof.Whole
public import proofs.«01_k».proof.Proof.Gen.Kernel13Ideal.Value
public import Idealize.ShloMosaic.Lib.Pipeline.ValueKit
public import Idealize.ShloMosaic.Lib.Claim

@[expose] public section

set_option maxRecDepth 16384

noncomputable section

namespace Cert.Kernel13Ideal.Rms

open Idealize.ShloMosaic Idealize.ShloMosaic.TcCoe
open Idealize.SL.Sem Cert.Kernel13Ideal Cert.Kernel13Ideal.Gen Cert.Norm

theorem pay6 (x : Vec Ideal S256x1024 .f32) (g : Vec Ideal S1x1024 .f32) (d e : Vec Ideal S256x1024 .f32) (a : Fin 256) (b : Fin 1024) :
    k0_pay6 (F := Ideal) x g d e (ix2 a b) = back (fun k => x (ix2 a k)) (fun k => (d (ix2 a k) : EReal) * (g (ix2 0 k) : EReal))
      ((e (ix2 a b) : EReal) + (d (ix2 a b) : EReal) * (g (ix2 0 b) : EReal) * Ideal.rsqrt (msq fun k => x (ix2 a k))) b := by
  pointwise [k0_pay6, k0_pay4, k0_pay3]
  simp only [Fin.sum_univ_one]
  rfl

theorem pay5 (x d : Vec Ideal S256x1024 .f32) (b : Fin 1024) :
    k0_pay5 (F := Ideal) x d (ix2 0 b) = ∑ a : Fin 256, gain (fun k => x (ix2 a k)) (fun k => d (ix2 a k)) b := by
  pointwise [k0_pay5, k0_pay4, k0_pay3]
  rfl

theorem pay1 (b : Fin 1024) : k0_pay1 (F := Ideal) (ix2 0 b) = (0 : EReal) := by
  pointwise [k0_pay1]

theorem pay2 (v y : Vec Ideal S1x1024 .f32) (b : Fin 1024) : k0_pay2 (F := Ideal) v y (ix2 0 b) = (y (ix2 0 b) : EReal) + (v (ix2 0 b) : EReal) := by
  pointwise [k0_pay2]

section Cases

variable {c : Dev nD} {i : grid0.Coords} {arg1 : Memref sig .tc .vmem S256x1024 .f32} {harg1 : arg1.IsWhole} {arg2 : Memref sig .tc .vmem S1x1024 .f32} {harg2 : arg2.IsWhole} {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S1x1024 .f32} {harg6 : arg6.IsWhole}
  {x0 : Vec Ideal S256x1024 .f32} {x1 : Vec Ideal S1x1024 .f32} {x2 x3 : Vec Ideal S256x1024 .f32} {y : Vec Ideal S1x1024 .f32}

theorem rows_A (hc : cond0_0 i) :
    out0_A_4 (F := Ideal) c i arg1 harg1 arg2 harg2 arg3 harg3 arg4 harg4 arg5 harg5 arg6 harg6 hc x0 x1 x2 x3 = k0_pay6 x0 x1 x2 x3 := by
  unfold out0_A_4 kernelRun0_A
  refine (View.read_writes_full _ _ _ _ _).trans ?_
  rw [Whole.ld, Whole.ld, Whole.ld, Whole.ld]

theorem rows_B (hc : ¬cond0_0 i) :
    out0_B_4 (F := Ideal) c i arg1 harg1 arg2 harg2 arg3 harg3 arg4 harg4 arg5 harg5 arg6 harg6 hc x0 x1 x2 x3 y = k0_pay6 x0 x1 x2 x3 := by
  unfold out0_B_4 kernelRun0_B
  refine (View.read_writes_full _ _ _ _ _).trans ?_
  rw [Whole.ld, Whole.ld, Whole.ld, Whole.ld]

theorem gain_A (hc : cond0_0 i) :
    out0_A_5 (F := Ideal) c i arg1 harg1 arg2 harg2 arg3 harg3 arg4 harg4 arg5 harg5 arg6 harg6 hc x0 x1 x2 x3 = k0_pay2 (k0_pay5 x0 x2) (k0_pay1 (F := Ideal) : Vec Ideal S1x1024 .f32) := by
  unfold out0_A_5 kernelRun0_A
  refine (View.read_writes_full _ _ _ _ _).trans ?_
  unfold kernelRun0_A.sl.r
  rw [Whole.ld, Whole.ld]
  refine congrArg (k0_pay2 _) ?_
  unfold kernelRun0_A.sl.v43
  exact View.readCov_full _ _ _ _ _

theorem gain_B (hc : ¬cond0_0 i) :
    out0_B_5 (F := Ideal) c i arg1 harg1 arg2 harg2 arg3 harg3 arg4 harg4 arg5 harg5 arg6 harg6 hc x0 x1 x2 x3 y = k0_pay2 (k0_pay5 x0 x2) y := by
  unfold out0_B_5 kernelRun0_B
  refine (View.read_writes_full _ _ _ _ _).trans ?_
  unfold kernelRun0_B.sl.r
  rw [Whole.ld, Whole.ld, Whole.ld]

end Cases

end Cert.Kernel13Ideal.Rms

end

end
-- ==== Proof.RmsGrid.lean ====
/- The blocks of rows that `Kernel13Ideal` takes, what it has left after each, and its two arrays; and the same of
   `Reference13Ideal`. -/
module

public import proofs.«01_k».proof.Proof.Rms
public import proofs.«01_k».proof.Proof.Gen.Reference13Ideal.Read

@[expose] public section

set_option maxRecDepth 16384

noncomputable section

namespace Cert.Kernel13Ideal.Rms

open Idealize.ShloMosaic Idealize.ShloMosaic.TcCoe
open Idealize.SL.Sem Cert.Kernel13Ideal Cert.Kernel13Ideal.Gen Cert.Norm

theorem ix_0 : ∀ t : Fin cfg0.N, win0_0.index t = ![t.val, 0] := (by decide +kernel : ∀ t : Fin grid0.N, win0_0.index t = ![t.val, 0])
theorem ix_1 : ∀ t : Fin cfg0.N, win0_1.index t = ![0, 0] := (by decide +kernel : ∀ t : Fin grid0.N, win0_1.index t = ![0, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 0] := (by decide +kernel : ∀ t : Fin grid0.N, win0_3.index t = ![t.val, 0])
theorem ix_4 : ∀ t : Fin cfg0.N, win0_4.index t = ![t.val, 0] := (by decide +kernel : ∀ t : Fin grid0.N, win0_4.index t = ![t.val, 0])
theorem ix_5 : ∀ t : Fin cfg0.N, win0_5.index t = ![0, 0] := (by decide +kernel : ∀ t : Fin grid0.N, win0_5.index t = ![0, 0])

theorem lt_8 (t : Fin cfg0.N) : t.val < 8 := lt_of_lt_of_eq t.isLt Gen.N_0

variable (m : (ℓ : Loc nD τ sig) → Buf (Elt Ideal) ℓ) (c : Dev nD)

/-- The rows, the gain, the norm's gradient, and the residual's. -/
abbrev X : FVec Ideal S2048x1024 .f32 := m ((c : Thread nD τ).loc main_arg0)
abbrev G (b : Fin 1024) : EReal := (m ((c : Thread nD τ).loc main_arg1) : FVec Ideal S1024 .f32) (ix1 b)
abbrev D : FVec Ideal S2048x1024 .f32 := m ((c : Thread nD τ).loc main_arg2)
abbrev E : FVec Ideal S2048x1024 .f32 := m ((c : Thread nD τ).loc main_arg3)

theorem gain_eq (b : Fin 1024) : (V (F := Ideal) m c main_v0 : FVec Ideal S1x1024 .f32) (ix2 0 b) = G m c b := by
  have e : (V (F := Ideal) m c main_v0 : Vec Ideal S1x1024 .f32) = shapeCast S1x1024 (m ((c : Thread nD τ).loc main_arg1) : Vec Ideal S1024 .f32) shapeCasts_S1024_S1x1024 := by
    unfold V hostOps0
    entry_read
    rfl
  rw [e]
  pointwise []

theorem blk0 (t : Fin cfg0.N) (a : Fin 256) : (fun k => (iblk (F := Ideal) m c 0 t : FVec Ideal S256x1024 .f32) (ix2 a k)) = row (X m c) (256 * t.val + a) := by
  have ht := lt_8 t
  rw [row_of (X m c) ⟨256 * t.val + a, by omega⟩ _ rfl]
  funext k
  have e : (win0_0.blk t).view.emb (ix2 a k) = ix2 (⟨256 * t.val + a, by omega⟩ : Fin 2048) k := by
    blk_ext [ix_0 t]
  blk_simp [iblk]
  rw [V_main_arg0, e]

theorem blk1 (t : Fin cfg0.N) (k : Fin 1024) : (iblk (F := Ideal) m c 1 t : FVec Ideal S1x1024 .f32) (ix2 0 k) = G m c k := by
  have e : (win0_1.blk t).view.emb (ix2 (0 : Fin 1) k) = ix2 (0 : Fin 1) k := by
    blk_ext [ix_1 t]
  blk_simp [iblk]
  rw [e]
  exact gain_eq m c k

theorem blk2 (t : Fin cfg0.N) (a : Fin 256) : (fun k => (iblk (F := Ideal) m c 2 t : FVec Ideal S256x1024 .f32) (ix2 a k)) = row (D m c) (256 * t.val + a) := by
  have ht := lt_8 t
  rw [row_of (D m c) ⟨256 * t.val + a, by omega⟩ _ rfl]
  funext k
  have e : (win0_2.blk t).view.emb (ix2 a k) = ix2 (⟨256 * t.val + a, by omega⟩ : Fin 2048) k := by
    blk_ext [ix_2 t]
  blk_simp [iblk]
  rw [V_main_arg2, e]

theorem blk3 (t : Fin cfg0.N) (a : Fin 256) : (fun k => (iblk (F := Ideal) m c 3 t : FVec Ideal S256x1024 .f32) (ix2 a k)) = row (E m c) (256 * t.val + a) := by
  have ht := lt_8 t
  rw [row_of (E m c) ⟨256 * t.val + a, by omega⟩ _ rfl]
  funext k
  have e : (win0_3.blk t).view.emb (ix2 a k) = ix2 (⟨256 * t.val + a, by omega⟩ : Fin 2048) k := by
    blk_ext [ix_3 t]
  blk_simp [iblk]
  rw [V_main_arg3, e]

theorem rows_at (t : Fin cfg0.N) (a : Fin 256) (b : Fin 1024) :
    k0_pay6 (F := Ideal) (iblk m c 0 t) (iblk m c 1 t) (iblk m c 2 t) (iblk m c 3 t) (ix2 a b)
      = both (row (X m c) (256 * t.val + a)) (G m c) (row (D m c) (256 * t.val + a)) (row (E m c) (256 * t.val + a)) b := by
  rw [pay6, ← blk0 m c t a, ← blk2 m c t a, ← blk3 m c t a, ← funext (blk1 m c t)]
  rfl

theorem gain_at (t : Fin cfg0.N) (b : Fin 1024) :
    k0_pay5 (F := Ideal) (iblk m c 0 t) (iblk m c 2 t) (ix2 0 b)
      = ∑ a : Fin 256, gain (row (X m c) (256 * t.val + a)) (row (D m c) (256 * t.val + a)) b := by
  rw [pay5]
  exact Finset.sum_congr rfl fun a _ => by rw [← blk0 m c t a, ← blk2 m c t a]

/-- What the two output blocks hold after point `n`. -/
def Left (n : ℕ) (o : Vec Ideal S256x1024 .f32 × Vec Ideal S1x1024 .f32) : Prop :=
  (∀ (a : Fin 256) (b : Fin 1024), o.1 (ix2 a b)
      = both (row (X m c) (256 * n + a)) (G m c) (row (D m c) (256 * n + a)) (row (E m c) (256 * n + a)) b)
    ∧ ∀ b : Fin 1024, o.2 (ix2 0 b) = ∑ r ∈ Finset.range (256 * (n + 1)), gain (row (X m c) r) (row (D m c) r) b

theorem left (n : ℕ) (hn : n < cfg0.N) : Left m c n (outsAt0 (F := Ideal) m c n hn) := by
  induction n with
  | zero =>
    rw [outsAt0_A m c ⟨0, hn⟩ rfl]
    dsimp only [Left]
    refine ⟨fun a b => ?_, fun b => ?_⟩
    · rw [rows_A]
      exact rows_at m c ⟨0, hn⟩ a b
    · rw [gain_A, pay2, pay1, gain_at m c ⟨0, hn⟩ b, ← sum_block _ 0 _ fun _ => rfl]
      rfl
  | succ n ih =>
    have h0 : ¬(n + 1) % 8 = 0 := by
      have := lt_8 ⟨n + 1, hn⟩
      simp only [] at this
      omega
    rw [outsAt0_B m c ⟨n + 1, hn⟩ h0]
    dsimp only [Left]
    refine ⟨fun a b => ?_, fun b => ?_⟩
    · rw [rows_B]
      exact rows_at m c ⟨n + 1, hn⟩ a b
    · rw [gain_B, pay2, gain_at m c ⟨n + 1, hn⟩ b]
      refine (congrArg (· + _) ((ih _).2 b)).trans ?_
      exact sum_block _ (n + 1) _ fun _ => rfl

theorem arr4 : (dats (F := Ideal) m 0 c).arrAt 4 cfg0.N
    = (fun i => both (row (X m c) (i 0 : ℕ)) (G m c) (row (D m c) (i 0 : ℕ)) (row (E m c) (i 0 : ℕ)) (i 1) : FVec Ideal S2048x1024 .f32) := by
  refine (dats m 0 c).arrAt_eq_of_covers 4 _ (by decide +kernel) fun t hf y => ?_
  have ht := lt_8 t
  have ex : ∀ (a : Fin 256) (b : Fin 1024), (win0_4.blk t).view.emb (ix2 a b) = ix2 (⟨256 * t.val + a, by omega⟩ : Fin 2048) b := fun a b => by
    blk_ext [ix_4 t]
  blk_simp
  rw [after0_4]
  idx_vars y
  rw [ex]
  simp only [ix_4 t, Matrix.cons_val_zero]
  rw [Nat.mul_comm t.val 256]
  exact (left m c t.val t.isLt).1 y0 y1

theorem arr5 : (dats (F := Ideal) m 0 c).arrAt 5 cfg0.N
    = (fun i => ∑ r ∈ Finset.range 2048, gain (row (X m c) r) (row (D m c) r) (i 1) : FVec Ideal S1x1024 .f32) := by
  refine (dats m 0 c).arrAt_eq_of_covers 5 _ (by decide +kernel) fun t hf y => ?_
  have h7 : t.val = 7 := by
    have := lt_8 t
    have h7 : t.val % 8 = 7 := (flush0_5 t).mp hf
    omega
  have ex : ∀ (a : Fin 1) (b : Fin 1024), (win0_5.blk t).view.emb (ix2 a b) = ix2 a b := fun a b => by
    blk_ext [ix_5 t]
  blk_simp
  rw [after0_5]
  idx_vars y
  rw [ex]
  have h := (left m c t.val t.isLt).2 y1
  rw [show 256 * (t.val + 1) = 2048 by omega] at h
  obtain rfl : y0 = 0 := Fin.fin_one_eq_zero y0
  exact h

end Cert.Kernel13Ideal.Rms

namespace Cert.Reference13Ideal.Rms

open Idealize.ShloMosaic Idealize.ShloMosaic.TcCoe
open Idealize.SL.Sem Cert.Reference13Ideal Cert.Reference13Ideal.Read Cert.Norm

theorem rows (x : FVec Ideal S2048x1024 .f32) (g : FVec Ideal S1024 .f32) (d e : FVec Ideal S2048x1024 .f32) (a : Fin 2048) (b : Fin 1024) :
    val_main_v36 (F := Ideal) x g d e (ix2 a b) = both (fun k => x (ix2 a k)) (fun k => g (ix1 k)) (fun k => d (ix2 a k)) (fun k => e (ix2 a k)) b := by
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]
  rfl

theorem gains (x d : FVec Ideal S2048x1024 .f32) (b : Fin 1024) :
    val_main_v37 (F := Ideal) x d (ix2 0 b) = ∑ a : Fin 2048, gain (fun k => x (ix2 a k)) (fun k => d (ix2 a k)) b := by
  pointwise [val_main_v37, val_main_v21, val_main_v18, val_main_v17, val_main_v16, val_main_v12, val_main_v11, val_main_v7, val_main_v6, val_main_v5, val_main_v4, val_main_v3, val_main_v2, val_main_v1, val_main_v0, val_main_cst, val_main_cst_0, val_main_cst_1, val_main_cst_3, val_main_cst_4]
  simp only [Fin.sum_univ_one]
  rfl

end Cert.Reference13Ideal.Rms

end

end
-- ==== Proof.RmsEnd.lean ====
/- The claims of the norm's gradient. -/
module

public import proofs.«01_k».proof.Defs
public import proofs.«01_k».proof.Proof.Gen.Kernel13.Frame
public import proofs.«01_k».proof.Proof.Gen.Reference13Ideal.Run
public import proofs.«01_k».proof.Proof.RmsGrid
public import Idealize.ShloMosaic.Lib.Claim
public import Idealize.ShloMosaic.Adequacy
public import Idealize.ShloMosaic.Init

@[expose] public section

noncomputable section

namespace Cert.Proof

open Idealize.ShloMosaic Idealize.SL.Sem

theorem frame_p13 : Cert.quiescent_Kernel13 := fun m ρ _ => Cert.Kernel13.Gen.frame m ρ

theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

open Cert.Kernel13Ideal Cert.Kernel13Ideal.Gen Idealize.ShloMosaic.TcCoe in
/-- The rows' gradient that the kernel leaves is the reference's. -/
theorem rms_rows (m : (ℓ : Loc nD τ sig) → Buf (Elt Ideal) ℓ) (c : Dev nD) (x : FVec Ideal S2048x1024 .f32) (g : FVec Ideal S1024 .f32)
    (d e : FVec Ideal S2048x1024 .f32) (hx : x = m ((c : Thread nD τ).loc main_arg0)) (hg : g = m ((c : Thread nD τ).loc main_arg1))
    (hd : d = m ((c : Thread nD τ).loc main_arg2)) (he : e = m ((c : Thread nD τ).loc main_arg3)) :
    Cert.Reference13Ideal.Read.val_main_v36 (F := Ideal) x g d e = (dats (F := Ideal) m 0 c).arrAt 4 cfg0.N := by
  subst hx hg hd he
  rw [Cert.Kernel13Ideal.Rms.arr4]
  funext i
  idx_vars i
  refine (Cert.Reference13Ideal.Rms.rows _ _ _ _ i0 i1).trans ?_
  rw [← Cert.Norm.row_of _ i0 _ rfl, ← Cert.Norm.row_of _ i0 _ rfl, ← Cert.Norm.row_of _ i0 _ rfl]

open Cert.Kernel13Ideal Cert.Kernel13Ideal.Gen Idealize.ShloMosaic.TcCoe in
/-- The gain's gradient that the kernel leaves is the reference's. -/
theorem rms_gain (m : (ℓ : Loc nD τ sig) → Buf (Elt Ideal) ℓ) (c : Dev nD) (x d : FVec Ideal S2048x1024 .f32)
    (hx : x = m ((c : Thread nD τ).loc main_arg0)) (hd : d = m ((c : Thread nD τ).loc main_arg2)) :
    Cert.Reference13Ideal.Read.val_main_v37 (F := Ideal) x d = (dats (F := Ideal) m 0 c).arrAt 5 cfg0.N := by
  subst hx hd
  rw [Cert.Kernel13Ideal.Rms.arr5]
  funext i
  idx_vars i
  rw [Fin.fin_one_eq_zero i0]
  exact (Cert.Reference13Ideal.Rms.gains _ _ i1).trans (Cert.Norm.gain_all _ _ i1).symm

open Cert.Kernel13Ideal Cert.Kernel13Ideal.Gen in
/-- The norm's kernel and the reference leave the same gradients. -/
theorem algebraic13 : Cert.algebraic_Kernel13Ideal_Reference13Ideal := by
  intro m g m' g' _ hagree
  refine ⟨fun c => (dats m 0 c).arrAt 4 cfg0.N, fun c => (dats m 0 c).arrAt 5 cfg0.N,
    Cert.Kernel13Ideal.Value.run_blocks (F := Ideal) m g, ?_⟩
  refine (θ_run Cert.Reference13Ideal.defs _ _).mono (fun r h c => ?_) (Cert.Reference13Ideal.Value.run (F := Ideal) m' g')
  obtain ⟨h0, h1, hk⟩ := h c
  obtain ⟨a0, a1, a2, a3⟩ := hagree c
  exact ⟨(h0.trans (Cert.Reference13Ideal.Read.val_main_v36_eq _ _ _ _)).trans (rms_rows m c _ _ _ _ a0 a1 a2 a3),
    (h1.trans (Cert.Reference13Ideal.Read.val_main_v37_eq _ _)).trans (rms_gain m c _ _ a0 a2), hk⟩

end Cert.Proof

end

end
-- ==== Proof.Gates.lean ====
/- The sigmoid of a gate, the merge of the three branches by their gates, and its gradients, entry by entry. -/
module

public import Idealize.ShloMosaic.Lib.Pointwise

@[expose] public section

noncomputable section

namespace Cert.Merge

open Idealize.ShloMosaic

/-- The sigmoid. -/
def gate (z : EReal) : EReal := Ideal.div 1 (1 + Ideal.exp (-z))

/-- The sum of the three branches' entries, each times its gate. -/
def sum3 (p q r x y z : EReal) : EReal := gate x * p + gate y * q + gate z * r

/-- The gradient of a gate before the sigmoid: `d` is the merged entry's, `p` the branch's entry. -/
def pull (d p z : EReal) : EReal := d * p * (gate z * (1 - gate z))

/-- The merged rows. The three gates stand in columns 3072 to 6143 of `g`. -/
def merged (p q r : FVec Ideal ⟨2, ![2048, 1024]⟩ .f32) (g : FVec Ideal ⟨2, ![2048, 9728]⟩ .f32) : FVec Ideal ⟨2, ![2048, 1024]⟩ .f32 :=
  fun i => sum3 (p i) (q i) (r i) (g (ix2 (i 0) ⟨3072 + (i 1).val, lt_of_lt_of_le (Nat.add_lt_add_left (i 1).isLt _) (by decide)⟩))
    (g (ix2 (i 0) ⟨4096 + (i 1).val, lt_of_lt_of_le (Nat.add_lt_add_left (i 1).isLt _) (by decide)⟩))
    (g (ix2 (i 0) ⟨5120 + (i 1).val, lt_of_lt_of_le (Nat.add_lt_add_left (i 1).isLt _) (by decide)⟩))

/-- The gradient of a branch's rows, whose gates stand from column `o` on. -/
def branch (g : FVec Ideal ⟨2, ![2048, 9728]⟩ .f32) (d : FVec Ideal ⟨2, ![2048, 1024]⟩ .f32) (o : ℕ) (h : o + 1024 ≤ 9728) :
    FVec Ideal ⟨2, ![2048, 1024]⟩ .f32 :=
  fun i => gate (g (ix2 (i 0) ⟨o + (i 1).val, lt_of_lt_of_le (Nat.add_lt_add_left (i 1).isLt _) h⟩)) * d i

/-- The gradients of the three branches' gates before the sigmoid, side by side. -/
def gates (p q r : FVec Ideal ⟨2, ![2048, 1024]⟩ .f32) (g : FVec Ideal ⟨2, ![2048, 9728]⟩ .f32) (d : FVec Ideal ⟨2, ![2048, 1024]⟩ .f32)
    (a : Fin 2048) (b : Fin 3072) : EReal :=
  if h : b.val < 1024 then pull (d (ix2 a ⟨b, h⟩)) (p (ix2 a ⟨b, h⟩)) (g (ix2 a ⟨3072 + b, by omega⟩))
  else if h' : b.val - 1024 < 1024 then
    pull (d (ix2 a ⟨b - 1024, h'⟩)) (q (ix2 a ⟨b - 1024, h'⟩)) (g (ix2 a ⟨3072 + b, by omega⟩))
  else pull (d (ix2 a ⟨b - 1024 - 1024, by omega⟩)) (r (ix2 a ⟨b - 1024 - 1024, by omega⟩)) (g (ix2 a ⟨3072 + b, by omega⟩))

/-- The kernel's order of the gate's gradient. -/
theorem pull_eq (d p z : EReal) : d * p * gate z * (1 - gate z) = pull d p z := mul_assoc _ _ _

end Cert.Merge

end

end
-- ==== Proof.Merge.lean ====
/- The values of `Kernel14Ideal` and of its reference: the merge of the three branches' rows by their gates. -/
module

public import proofs.«01_k».proof.Proof.Gates
public import proofs.«01_k».proof.Proof.Whole
public import proofs.«01_k».proof.Proof.Gen.Kernel14Ideal.Value
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.Kernel14Ideal.Merge

open Idealize.ShloMosaic Idealize.ShloMosaic.TcCoe
open Idealize.SL.Sem Cert.Kernel14Ideal Cert.Kernel14Ideal.Gen Cert.Merge

theorem pay1 (p q r x y z : Vec Ideal S256x1024 .f32) (a : Fin 256) (b : Fin 1024) :
    k0_pay1 (F := Ideal) p q r x y z (ix2 a b)
      = sum3 (p (ix2 a b)) (q (ix2 a b)) (r (ix2 a b)) (x (ix2 a b)) (y (ix2 a b)) (z (ix2 a b)) := by
  pointwise [k0_pay1]
  simp only [zero_sub]
  rfl

section Cases

variable {c : Dev nD} {i : grid0.Coords} {arg1 : Memref sig .tc .vmem S256x1024 .f32} {harg1 : arg1.IsWhole} {arg2 : Memref sig .tc .vmem S256x1024 .f32} {harg2 : arg2.IsWhole} {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x1024 .f32} {harg7 : arg7.IsWhole}
  {x0 x1 x2 x3 x4 x5 : Vec Ideal S256x1024 .f32}

theorem out6 : out0_A_6 (F := Ideal) c i arg1 harg1 arg2 harg2 arg3 harg3 arg4 harg4 arg5 harg5 arg6 harg6 arg7 harg7 x0 x1 x2 x3 x4 x5 = k0_pay1 x0 x1 x2 x3 x4 x5 := by
  unfold out0_A_6 kernelRun0_A
  refine (View.read_writes_full _ _ _ _ _).trans ?_
  rw [Whole.ld, Whole.ld, Whole.ld, Whole.ld, Whole.ld, Whole.ld]

end Cases

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 3] := (by decide +kernel : ∀ t : Fin grid0.N, win0_3.index t = ![t.val, 3])
theorem ix_4 : ∀ t : Fin cfg0.N, win0_4.index t = ![t.val, 4] := (by decide +kernel : ∀ t : Fin grid0.N, win0_4.index t = ![t.val, 4])
theorem ix_5 : ∀ t : Fin cfg0.N, win0_5.index t = ![t.val, 5] := (by decide +kernel : ∀ t : Fin grid0.N, win0_5.index t = ![t.val, 5])
theorem ix_6 : ∀ t : Fin cfg0.N, win0_6.index t = ![t.val, 0] := (by decide +kernel : ∀ t : Fin grid0.N, win0_6.index t = ![t.val, 0])

theorem lt_8 (t : Fin cfg0.N) : t.val < 8 := lt_of_lt_of_eq t.isLt Gen.N_0

variable (m : (ℓ : Loc nD τ sig) → Buf (Elt Ideal) ℓ) (c : Dev nD)

/-- The arguments. -/
abbrev P : FVec Ideal S2048x1024 .f32 := m ((c : Thread nD τ).loc main_arg0)
abbrev Q : FVec Ideal S2048x1024 .f32 := m ((c : Thread nD τ).loc main_arg1)
abbrev R : FVec Ideal S2048x1024 .f32 := m ((c : Thread nD τ).loc main_arg2)
abbrev G : FVec Ideal S2048x9728 .f32 := m ((c : Thread nD τ).loc main_arg3)

/-- Row `a` of block `t`. -/
def rw (t : Fin cfg0.N) (a : Fin 256) : Fin 2048 := ⟨256 * t.val + a, by have := lt_8 t; omega⟩

theorem blk0 (t : Fin cfg0.N) (a : Fin 256) (b : Fin 1024) : (iblk (F := Ideal) m c 0 t : FVec Ideal S256x1024 .f32) (ix2 a b) = P m c (ix2 (rw t a) b) := by
  have e : (win0_0.blk t).view.emb (ix2 a b) = ix2 (rw t a) b := by
    unfold rw
    blk_ext [ix_0 t]
  blk_simp [iblk]
  rw [V_main_arg0, e]

theorem blk1 (t : Fin cfg0.N) (a : Fin 256) (b : Fin 1024) : (iblk (F := Ideal) m c 1 t : FVec Ideal S256x1024 .f32) (ix2 a b) = Q m c (ix2 (rw t a) b) := by
  have e : (win0_1.blk t).view.emb (ix2 a b) = ix2 (rw t a) b := by
    unfold rw
    blk_ext [ix_1 t]
  blk_simp [iblk]
  rw [V_main_arg1, e]

theorem blk2 (t : Fin cfg0.N) (a : Fin 256) (b : Fin 1024) : (iblk (F := Ideal) m c 2 t : FVec Ideal S256x1024 .f32) (ix2 a b) = R m c (ix2 (rw t a) b) := by
  have e : (win0_2.blk t).view.emb (ix2 a b) = ix2 (rw t a) b := by
    unfold rw
    blk_ext [ix_2 t]
  blk_simp [iblk]
  rw [V_main_arg2, e]

theorem blk3 (t : Fin cfg0.N) (a : Fin 256) (b : Fin 1024) :
    (X0_3 (F := Ideal) m c t : FVec Ideal S256x1024 .f32) (ix2 a b) = G m c (ix2 (rw t a) ⟨3072 + b, by omega⟩) := by
  unfold X0_3 Pipeline.Window.fill
  rw [dif_pos (moved0_3 t _)]
  unfold iblk
  refine (congrFun (V_main_arg3 m c) _).trans (congrArg (G m c) ?_)
  unfold rw
  blk_ext [ix_3 t]

theorem blk4 (t : Fin cfg0.N) (a : Fin 256) (b : Fin 1024) :
    (X0_4 (F := Ideal) m c t : FVec Ideal S256x1024 .f32) (ix2 a b) = G m c (ix2 (rw t a) ⟨4096 + b, by omega⟩) := by
  unfold X0_4 Pipeline.Window.fill
  rw [dif_pos (moved0_4 t _)]
  unfold iblk
  refine (congrFun (V_main_arg3 m c) _).trans (congrArg (G m c) ?_)
  unfold rw
  blk_ext [ix_4 t]

theorem blk5 (t : Fin cfg0.N) (a : Fin 256) (b : Fin 1024) :
    (X0_5 (F := Ideal) m c t : FVec Ideal S256x1024 .f32) (ix2 a b) = G m c (ix2 (rw t a) ⟨5120 + b, by omega⟩) := by
  unfold X0_5 Pipeline.Window.fill
  rw [dif_pos (moved0_5 t _)]
  unfold iblk
  refine (congrFun (V_main_arg3 m c) _).trans (congrArg (G m c) ?_)
  unfold rw
  blk_ext [ix_5 t]

theorem left (t : Fin cfg0.N) (a : Fin 256) (b : Fin 1024) :
    outsAt0 (F := Ideal) m c t (ix2 a b) = merged (P m c) (Q m c) (R m c) (G m c) (ix2 (rw t a) b) := by
  unfold outsAt0
  rw [out6, pay1, blk0, blk1, blk2, blk3, blk4, blk5]
  rfl

theorem arr6 : (dats (F := Ideal) m 0 c).arrAt 6 cfg0.N = (merged (P m c) (Q m c) (R m c) (G m c) : FVec Ideal S2048x1024 .f32) := by
  refine (dats m 0 c).arrAt_eq_of_covers 6 _ (by decide +kernel) fun t hf y => ?_
  have ex : ∀ (a : Fin 256) (b : Fin 1024), (win0_6.blk t).view.emb (ix2 a b) = ix2 (rw t a) b := fun a b => by
    unfold rw
    blk_ext [ix_6 t]
  blk_simp
  rw [after0_6]
  idx_vars y
  rw [ex]
  exact left m c t y0 y1

end Cert.Kernel14Ideal.Merge

namespace Cert.Reference14Ideal.Merge

open Idealize.ShloMosaic Idealize.ShloMosaic.TcCoe
open Idealize.SL.Sem Cert.Reference14Ideal Cert.Reference14Ideal.Read Cert.Merge

theorem rows (p q r : FVec Ideal S2048x1024 .f32) (g : FVec Ideal S2048x9728 .f32) (a : Fin 2048) (b : Fin 1024) :
    val_main_v14 (F := Ideal) p q r g (ix2 a b) = merged p q r g (ix2 a b) := by
  pointwise [val_main_v14, val_main_v13, val_main_v12, val_main_v11, val_main_v10, val_main_v9, val_main_v8, val_main_v7, val_main_v6, val_main_v5, val_main_cst_0, val_main_v4, val_main_v3, val_main_cst, val_main_v2, val_main_v1, val_main_v0]
  have e (n k : ℕ) (h) (h') (e : n = k) : g (ix2 a ⟨n, h⟩) = g (ix2 a ⟨k, h'⟩) := by subst e; rfl
  rw [e (3072 + (1024 + b.val)) (4096 + b.val) _ (by omega) (by omega), e (3072 + (2048 + b.val)) (5120 + b.val) _ (by omega) (by omega)]
  rfl

end Cert.Reference14Ideal.Merge

end

end
-- ==== Proof.MergeBack.lean ====
/- The values of `Kernel15Ideal` and of its reference: the gradients of the merge. -/
module

public import proofs.«01_k».proof.Proof.Gates
public import proofs.«01_k».proof.Proof.Whole
public import proofs.«01_k».proof.Proof.Gen.Kernel15Ideal.Value
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.Kernel15Ideal.Merge

open Idealize.ShloMosaic Idealize.ShloMosaic.TcCoe
open Idealize.SL.Sem Cert.Kernel15Ideal Cert.Kernel15Ideal.Gen Cert.Merge

theorem gate_of (g : Vec Ideal S256x1024 .f32) (a : Fin 256) (b : Fin 1024) : k0_pay6 (F := Ideal) g (ix2 a b) = gate (g (ix2 a b)) := by
  pointwise [k0_pay6]
  rw [zero_sub]
  rfl

theorem gate_of' (g : Vec Ideal S256x1024 .f32) (a : Fin 256) (b : Fin 1024) : k0_pay7 (F := Ideal) g (ix2 a b) = gate (g (ix2 a b)) := by
  pointwise [k0_pay7]
  rw [zero_sub]
  rfl

theorem gate_of'' (g : Vec Ideal S256x1024 .f32) (a : Fin 256) (b : Fin 1024) : k0_pay8 (F := Ideal) g (ix2 a b) = gate (g (ix2 a b)) := by
  pointwise [k0_pay8]
  rw [zero_sub]
  rfl

theorem pay4 (x d : Vec Ideal S256x1024 .f32) (a : Fin 256) (b : Fin 1024) :
    k0_pay4 (F := Ideal) (k0_pay6 x) (k0_pay9 d) (ix2 a b) = gate (x (ix2 a b)) * (d (ix2 a b) : EReal) := by
  pointwise [k0_pay4, k0_pay9]
  rw [gate_of]

theorem pay2 (x d : Vec Ideal S256x1024 .f32) (a : Fin 256) (b : Fin 1024) :
    k0_pay2 (F := Ideal) (k0_pay7 x) (k0_pay9 d) (ix2 a b) = gate (x (ix2 a b)) * (d (ix2 a b) : EReal) := by
  pointwise [k0_pay2, k0_pay9]
  rw [gate_of']

theorem pay11 (x d : Vec Ideal S256x1024 .f32) (a : Fin 256) (b : Fin 1024) :
    k0_pay11 (F := Ideal) x d (ix2 a b) = gate (x (ix2 a b)) * (d (ix2 a b) : EReal) := by
  pointwise [k0_pay11, k0_pay10]
  rw [gate_of'']

theorem pay5 (p x d : Vec Ideal S256x1024 .f32) (a : Fin 256) (b : Fin 1024) :
    k0_pay5 (F := Ideal) p (k0_pay6 x) (k0_pay9 d) (ix2 a b) = pull (d (ix2 a b)) (p (ix2 a b)) (x (ix2 a b)) := by
  pointwise [k0_pay5, k0_pay9]
  rw [gate_of]
  exact pull_eq _ _ _

theorem pay3 (p x d : Vec Ideal S256x1024 .f32) (a : Fin 256) (b : Fin 1024) :
    k0_pay3 (F := Ideal) p (k0_pay7 x) (k0_pay9 d) (ix2 a b) = pull (d (ix2 a b)) (p (ix2 a b)) (x (ix2 a b)) := by
  pointwise [k0_pay3, k0_pay9]
  rw [gate_of']
  exact pull_eq _ _ _

theorem pay1 (p x d : Vec Ideal S256x1024 .f32) (a : Fin 256) (b : Fin 1024) :
    k0_pay1 (F := Ideal) (k0_pay12 p x d) (k0_pay13 x) (ix2 a b) = pull (d (ix2 a b)) (p (ix2 a b)) (x (ix2 a b)) := by
  pointwise [k0_pay1, k0_pay12, k0_pay13, k0_pay10]
  rw [gate_of'']
  exact pull_eq _ _ _

section Cases

variable {c : Dev nD} {i : grid0.Coords} {arg1 : Memref sig .tc .vmem S256x1024 .f32} {harg1 : arg1.IsWhole} {arg2 : Memref sig .tc .vmem S256x1024 .f32} {harg2 : arg2.IsWhole} {arg3 : Memref sig .tc .vmem S256x1024 .f32} {harg3 : arg3.IsWhole} {arg4 : Memref sig .tc .vmem S256x1024 .f32} {harg4 : arg4.IsWhole} {arg5 : Memref sig .tc .vmem S256x1024 .f32} {harg5 : arg5.IsWhole} {arg6 : Memref sig .tc .vmem S256x1024 .f32} {harg6 : arg6.IsWhole} {arg7 : Memref sig .tc .vmem S256x1024 .f32} {harg7 : arg7.IsWhole} {arg8 : Memref sig .tc .vmem S256x1024 .f32} {harg8 : arg8.IsWhole} {arg9 : Memref sig .tc .vmem S256x1024 .f32} {harg9 : arg9.IsWhole} {arg10 : Memref sig .tc .vmem S256x1024 .f32} {harg10 : arg10.IsWhole} {arg11 : Memref sig .tc .vmem S256x3072 .f32} {harg11 : arg11.IsWhole}
  {x0 x1 x2 x3 x4 x5 x6 : Vec Ideal S256x1024 .f32}

theorem out7 : out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = k0_pay4 (k0_pay6 x3) (k0_pay9 x6) := by
  unfold out0_A_7 kernelRun0_A
  refine (View.read_writes_full _ _ _ _ _).trans ?_
  unfold kernelRun0_A.sl.r_2 kernelRun0_A.sl.r_4
  rw [Whole.ld, Whole.ld]

theorem out8 : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 = k0_pay2 (k0_pay7 x4) (k0_pay9 x6) := by
  unfold out0_A_8 kernelRun0_A
  refine (View.read_writes_full _ _ _ _ _).trans ?_
  unfold kernelRun0_A.sl.r_3 kernelRun0_A.sl.r_4
  rw [Whole.ld, Whole.ld]

theorem out9 : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 = k0_pay11 x5 x6 := by
  unfold out0_A_9 kernelRun0_A
  refine (View.read_writes_full _ _ _ _ _).trans ?_
  unfold kernelRun0_A.sl.r_5
  rw [Whole.ld, Whole.ld]

theorem out10_2 (a : Fin 256) (b : Fin 1024) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 a ⟨2048 + b, by omega⟩)
    = k0_pay1 (F := Ideal) (k0_pay12 x2 x5 x6) (k0_pay13 x5) (ix2 a b) := by
  unfold out0_A_10 kernelRun0_A
  refine (View.read_writes_cons_unit_of_mem _ _ _ _ _ _ (ix2 a b) rfl (by
    intro k
    fin_cases k <;> simp)).trans ?_
  unfold kernelRun0_A.sl.r_6 kernelRun0_A.sl.r_7
  rw [Whole.ld, Whole.ld, Whole.ld]

theorem out10_1 (a : Fin 256) (b : Fin 1024) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 a ⟨1024 + b, by omega⟩)
    = k0_pay3 (F := Ideal) x1 (k0_pay7 x4) (k0_pay9 x6) (ix2 a b) := by
  unfold out0_A_10 kernelRun0_A
  refine (View.read_writes_cons_unit_of_not_mem _ _ _ _ _ _ rfl 1 (Or.inl (by
    have := b.isLt
    simp
    try omega))).trans ?_
  refine (View.read_writes_cons_unit_of_mem _ _ _ _ _ _ (ix2 a b) rfl (by
    intro k
    fin_cases k <;> simp)).trans ?_
  unfold kernelRun0_A.sl.r_1 kernelRun0_A.sl.r_3 kernelRun0_A.sl.r_4
  rw [Whole.ld, Whole.ld, Whole.ld]

theorem out10_0 (a : Fin 256) (b : Fin 1024) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 a ⟨b, by omega⟩)
    = k0_pay5 (F := Ideal) x0 (k0_pay6 x3) (k0_pay9 x6) (ix2 a b) := by
  unfold out0_A_10 kernelRun0_A
  refine (View.read_writes_cons_unit_of_not_mem _ _ _ _ _ _ rfl 1 (Or.inl (by
    have := b.isLt
    simp
    try omega))).trans ?_
  refine (View.read_writes_cons_unit_of_not_mem _ _ _ _ _ _ rfl 1 (Or.inl (by
    have := b.isLt
    simp
    try omega))).trans ?_
  refine (View.read_writes_cons_unit_of_mem _ _ _ _ _ _ (ix2 a b) rfl (by
    intro k
    fin_cases k <;> simp)).trans ?_
  unfold kernelRun0_A.sl.r kernelRun0_A.sl.r_2 kernelRun0_A.sl.r_4
  rw [Whole.ld, Whole.ld, Whole.ld]

end Cases

theorem ix_0 : ∀ t : Fin cfg0.N, win0_0.index t = ![t.val, 0] := (by decide +kernel : ∀ t : Fin grid0.N, win0_0.index t = ![t.val, 0])
theorem ix_1 : ∀ t : Fin cfg0.N, win0_1.index t = ![t.val, 0] := (by decide +kernel : ∀ t : Fin grid0.N, win0_1.index t = ![t.val, 0])
theorem ix_2 : ∀ t : Fin cfg0.N, win0_2.index t = ![t.val, 0] := (by decide +kernel : ∀ t : Fin grid0.N, win0_2.index t = ![t.val, 0])
theorem ix_3 : ∀ t : Fin cfg0.N, win0_3.index t = ![t.val, 3] := (by decide +kernel : ∀ t : Fin grid0.N, win0_3.index t = ![t.val, 3])
theorem ix_4 : ∀ t : Fin cfg0.N, win0_4.index t = ![t.val, 4] := (by decide +kernel : ∀ t : Fin grid0.N, win0_4.index t = ![t.val, 4])
theorem ix_5 : ∀ t : Fin cfg0.N, win0_5.index t = ![t.val, 5] := (by decide +kernel : ∀ t : Fin grid0.N, win0_5.index t = ![t.val, 5])
theorem ix_6 : ∀ t : Fin cfg0.N, win0_6.index t = ![t.val, 0] := (by decide +kernel : ∀ t : Fin grid0.N, win0_6.index t = ![t.val, 0])
theorem ix_7 : ∀ t : Fin cfg0.N, win0_7.index t = ![t.val, 0] := (by decide +kernel : ∀ t : Fin grid0.N, win0_7.index t = ![t.val, 0])
theorem ix_8 : ∀ t : Fin cfg0.N, win0_8.index t = ![t.val, 0] := (by decide +kernel : ∀ t : Fin grid0.N, win0_8.index t = ![t.val, 0])
theorem ix_9 : ∀ t : Fin cfg0.N, win0_9.index t = ![t.val, 0] := (by decide +kernel : ∀ t : Fin grid0.N, win0_9.index t = ![t.val, 0])
theorem ix_10 : ∀ t : Fin cfg0.N, win0_10.index t = ![t.val, 0] := (by decide +kernel : ∀ t : Fin grid0.N, win0_10.index t = ![t.val, 0])

theorem lt_8 (t : Fin cfg0.N) : t.val < 8 := lt_of_lt_of_eq t.isLt Gen.N_0

variable (m : (ℓ : Loc nD τ sig) → Buf (Elt Ideal) ℓ) (c : Dev nD)

/-- The arguments. -/
abbrev P : FVec Ideal S2048x1024 .f32 := m ((c : Thread nD τ).loc main_arg0)
abbrev Q : FVec Ideal S2048x1024 .f32 := m ((c : Thread nD τ).loc main_arg1)
abbrev R : FVec Ideal S2048x1024 .f32 := m ((c : Thread nD τ).loc main_arg2)
abbrev G : FVec Ideal S2048x9728 .f32 := m ((c : Thread nD τ).loc main_arg3)
abbrev D : FVec Ideal S2048x1024 .f32 := m ((c : Thread nD τ).loc main_arg4)

/-- Row `a` of block `t`. -/
def rw (t : Fin cfg0.N) (a : Fin 256) : Fin 2048 := ⟨256 * t.val + a, by have := lt_8 t; omega⟩

theorem blk0 (t : Fin cfg0.N) (a : Fin 256) (b : Fin 1024) : (iblk (F := Ideal) m c 0 t : FVec Ideal S256x1024 .f32) (ix2 a b) = P m c (ix2 (rw t a) b) := by
  have e : (win0_0.blk t).view.emb (ix2 a b) = ix2 (rw t a) b := by
    unfold rw
    blk_ext [ix_0 t]
  blk_simp [iblk]
  rw [V_main_arg0, e]

theorem blk1 (t : Fin cfg0.N) (a : Fin 256) (b : Fin 1024) : (iblk (F := Ideal) m c 1 t : FVec Ideal S256x1024 .f32) (ix2 a b) = Q m c (ix2 (rw t a) b) := by
  have e : (win0_1.blk t).view.emb (ix2 a b) = ix2 (rw t a) b := by
    unfold rw
    blk_ext [ix_1 t]
  blk_simp [iblk]
  rw [V_main_arg1, e]

theorem blk2 (t : Fin cfg0.N) (a : Fin 256) (b : Fin 1024) : (iblk (F := Ideal) m c 2 t : FVec Ideal S256x1024 .f32) (ix2 a b) = R m c (ix2 (rw t a) b) := by
  have e : (win0_2.blk t).view.emb (ix2 a b) = ix2 (rw t a) b := by
    unfold rw
    blk_ext [ix_2 t]
  blk_simp [iblk]
  rw [V_main_arg2, e]

theorem blk6 (t : Fin cfg0.N) (a : Fin 256) (b : Fin 1024) : (iblk (F := Ideal) m c 6 t : FVec Ideal S256x1024 .f32) (ix2 a b) = D m c (ix2 (rw t a) b) := by
  have e : (win0_6.blk t).view.emb (ix2 a b) = ix2 (rw t a) b := by
    unfold rw
    blk_ext [ix_6 t]
  blk_simp [iblk]
  rw [V_main_arg4, e]

theorem blk3 (t : Fin cfg0.N) (a : Fin 256) (b : Fin 1024) :
    (X0_3 (F := Ideal) m c t : FVec Ideal S256x1024 .f32) (ix2 a b) = G m c (ix2 (rw t a) ⟨3072 + b, by omega⟩) := by
  unfold X0_3 Pipeline.Window.fill
  rw [dif_pos (moved0_3 t _)]
  unfold iblk
  refine (congrFun (V_main_arg3 m c) _).trans (congrArg (G m c) ?_)
  unfold rw
  blk_ext [ix_3 t]

theorem blk4 (t : Fin cfg0.N) (a : Fin 256) (b : Fin 1024) :
    (X0_4 (F := Ideal) m c t : FVec Ideal S256x1024 .f32) (ix2 a b) = G m c (ix2 (rw t a) ⟨4096 + b, by omega⟩) := by
  unfold X0_4 Pipeline.Window.fill
  rw [dif_pos (moved0_4 t _)]
  unfold iblk
  refine (congrFun (V_main_arg3 m c) _).trans (congrArg (G m c) ?_)
  unfold rw
  blk_ext [ix_4 t]

theorem blk5 (t : Fin cfg0.N) (a : Fin 256) (b : Fin 1024) :
    (X0_5 (F := Ideal) m c t : FVec Ideal S256x1024 .f32) (ix2 a b) = G m c (ix2 (rw t a) ⟨5120 + b, by omega⟩) := by
  unfold X0_5 Pipeline.Window.fill
  rw [dif_pos (moved0_5 t _)]
  unfold iblk
  refine (congrFun (V_main_arg3 m c) _).trans (congrArg (G m c) ?_)
  unfold rw
  blk_ext [ix_5 t]

theorem left7 (t : Fin cfg0.N) (a : Fin 256) (b : Fin 1024) :
    (outsAt0 (F := Ideal) m c t).1 (ix2 a b) = branch (G m c) (D m c) 3072 (by decide) (ix2 (rw t a) b) := by
  unfold outsAt0
  dsimp only
  rw [out7, pay4, blk3, blk6]
  rfl

theorem left8 (t : Fin cfg0.N) (a : Fin 256) (b : Fin 1024) :
    (outsAt0 (F := Ideal) m c t).2.1 (ix2 a b) = branch (G m c) (D m c) 4096 (by decide) (ix2 (rw t a) b) := by
  unfold outsAt0
  dsimp only
  rw [out8, pay2, blk4, blk6]
  rfl

theorem left9 (t : Fin cfg0.N) (a : Fin 256) (b : Fin 1024) :
    (outsAt0 (F := Ideal) m c t).2.2.1 (ix2 a b) = branch (G m c) (D m c) 5120 (by decide) (ix2 (rw t a) b) := by
  unfold outsAt0
  dsimp only
  rw [out9, pay11, blk5, blk6]
  rfl

theorem left10 (t : Fin cfg0.N) (a : Fin 256) (b : Fin 3072) :
    (outsAt0 (F := Ideal) m c t).2.2.2 (ix2 a b) = gates (P m c) (Q m c) (R m c) (G m c) (D m c) (rw t a) b := by
  unfold outsAt0
  dsimp only
  obtain ⟨b, hb⟩ := b
  by_cases h : b < 1024
  · refine (out10_0 a ⟨b, h⟩).trans ?_
    rw [pay5, blk0, blk3, blk6, gates, dif_pos h]
  · by_cases h' : b - 1024 < 1024
    · obtain ⟨k, rfl⟩ := Nat.exists_eq_add_of_le (Nat.le_of_not_lt h)
      refine (out10_1 a ⟨k, by omega⟩).trans ?_
      rw [pay3, blk1, blk4, blk6, gates, dif_neg h, dif_pos h']
      simp only [Nat.add_sub_cancel_left, ← Nat.add_assoc, Nat.reduceAdd]
    · obtain ⟨k, rfl⟩ := Nat.exists_eq_add_of_le (show 2048 ≤ b by omega)
      refine (out10_2 a ⟨k, by omega⟩).trans ?_
      rw [pay1, blk2, blk5, blk6, gates, dif_neg h, dif_neg h']
      simp only [Nat.sub_sub, Nat.reduceAdd, Nat.add_sub_cancel_left, ← Nat.add_assoc]

theorem arr7 : (dats (F := Ideal) m 0 c).arrAt 7 cfg0.N = (branch (G m c) (D m c) 3072 (by decide) : FVec Ideal S2048x1024 .f32) := by
  refine (dats m 0 c).arrAt_eq_of_covers 7 _ (by decide +kernel) fun t hf y => ?_
  have ex : ∀ (a : Fin 256) (b : Fin 1024), (win0_7.blk t).view.emb (ix2 a b) = ix2 (rw t a) b := fun a b => by
    unfold rw
    blk_ext [ix_7 t]
  blk_simp
  rw [after0_7]
  idx_vars y
  rw [ex]
  exact left7 m c t y0 y1

theorem arr8 : (dats (F := Ideal) m 0 c).arrAt 8 cfg0.N = (branch (G m c) (D m c) 4096 (by decide) : FVec Ideal S2048x1024 .f32) := by
  refine (dats m 0 c).arrAt_eq_of_covers 8 _ (by decide +kernel) fun t hf y => ?_
  have ex : ∀ (a : Fin 256) (b : Fin 1024), (win0_8.blk t).view.emb (ix2 a b) = ix2 (rw t a) b := fun a b => by
    unfold rw
    blk_ext [ix_8 t]
  blk_simp
  rw [after0_8]
  idx_vars y
  rw [ex]
  exact left8 m c t y0 y1

theorem arr9 : (dats (F := Ideal) m 0 c).arrAt 9 cfg0.N = (branch (G m c) (D m c) 5120 (by decide) : FVec Ideal S2048x1024 .f32) := by
  refine (dats m 0 c).arrAt_eq_of_covers 9 _ (by decide +kernel) fun t hf y => ?_
  have ex : ∀ (a : Fin 256) (b : Fin 1024), (win0_9.blk t).view.emb (ix2 a b) = ix2 (rw t a) b := fun a b => by
    unfold rw
    blk_ext [ix_9 t]
  blk_simp
  rw [after0_9]
  idx_vars y
  rw [ex]
  exact left9 m c t y0 y1

theorem arr10 : (dats (F := Ideal) m 0 c).arrAt 10 cfg0.N
    = (fun i => gates (P m c) (Q m c) (R m c) (G m c) (D m c) (i 0) (i 1) : FVec Ideal S2048x3072 .f32) := by
  refine (dats m 0 c).arrAt_eq_of_covers 10 _ (by decide +kernel) fun t hf y => ?_
  have ex : ∀ (a : Fin 256) (b : Fin 3072), (win0_10.blk t).view.emb (ix2 a b) = ix2 (rw t a) b := fun a b => by
    unfold rw
    blk_ext [ix_10 t]
  have e := fun a b => left10 m c t a b
  blk_simp
  rw [after0_10]
  idx_vars y
  rw [ex]
  exact e y0 y1

end Cert.Kernel15Ideal.Merge

namespace Cert.Reference15Ideal.Merge

open Idealize.ShloMosaic Idealize.ShloMosaic.TcCoe
open Idealize.SL.Sem Cert.Reference15Ideal Cert.Reference15Ideal.Read Cert.Merge

theorem gate_of (g : FVec Ideal S2048x9728 .f32) (a : Fin 2048) (b : Fin 3072) :
    val_main_v6 (F := Ideal) g (ix2 a b) = gate (g (ix2 a ⟨3072 + b, by omega⟩)) := by
  pointwise [val_main_v6, val_main_v5, val_main_v4, val_main_v3, val_main_v2, val_main_v1, val_main_v0, val_main_cst, val_main_cst_0]
  rfl

theorem branch24 (g : FVec Ideal S2048x9728 .f32) (d : FVec Ideal S2048x1024 .f32) (a : Fin 2048) (b : Fin 1024) :
    val_main_v24 (F := Ideal) g d (ix2 a b) = branch g d 3072 (by decide) (ix2 a b) := by
  pointwise [val_main_v24, val_main_v10, val_main_v18]
  rw [gate_of]
  simp only [← Nat.add_assoc, Nat.reduceAdd]
  rfl

theorem branch22 (g : FVec Ideal S2048x9728 .f32) (d : FVec Ideal S2048x1024 .f32) (a : Fin 2048) (b : Fin 1024) :
    val_main_v22 (F := Ideal) g d (ix2 a b) = branch g d 4096 (by decide) (ix2 a b) := by
  pointwise [val_main_v22, val_main_v11, val_main_v18]
  rw [gate_of]
  simp only [← Nat.add_assoc, Nat.reduceAdd]
  rfl

theorem branch20 (g : FVec Ideal S2048x9728 .f32) (d : FVec Ideal S2048x1024 .f32) (a : Fin 2048) (b : Fin 1024) :
    val_main_v20 (F := Ideal) g d (ix2 a b) = branch g d 5120 (by decide) (ix2 a b) := by
  pointwise [val_main_v20, val_main_v12, val_main_v19]
  rw [gate_of]
  simp only [← Nat.add_assoc, Nat.reduceAdd]
  rfl

theorem gates_of (p q r : FVec Ideal S2048x1024 .f32) (g : FVec Ideal S2048x9728 .f32) (d : FVec Ideal S2048x1024 .f32) (a : Fin 2048) (b : Fin 3072) :
    val_main_v27 (F := Ideal) p q r g d (ix2 a b) = gates p q r g d a b := by
  pointwise [val_main_v27, val_main_v26, val_main_v25, val_main_v23, val_main_v21, val_main_v19, val_main_v18, val_main_v9, val_main_v8, val_main_v7, val_main_cst_1]
  rw [gate_of, gates]
  split
  · rfl
  · split <;> rfl

end Cert.Reference15Ideal.Merge

end

end
-- ==== Proof.MergeEnd.lean ====
/- The claims of the merge and of its gradient. -/
module

public import proofs.«01_k».proof.Defs
public import proofs.«01_k».proof.Proof.Gen.Kernel14.Frame
public import proofs.«01_k».proof.Proof.Gen.Reference14Ideal.Run
public import proofs.«01_k».proof.Proof.Gen.Kernel15.Frame
public import proofs.«01_k».proof.Proof.Gen.Reference15Ideal.Run
public import proofs.«01_k».proof.Proof.Merge
public import proofs.«01_k».proof.Proof.MergeBack
public import Idealize.ShloMosaic.Lib.Claim
public import Idealize.ShloMosaic.Adequacy
public import Idealize.ShloMosaic.Init

@[expose] public section

noncomputable section

namespace Cert.Proof

open Idealize.ShloMosaic Idealize.SL.Sem

theorem frame_p14 : Cert.quiescent_Kernel14 := fun m ρ _ => Cert.Kernel14.Gen.frame m ρ

theorem frame_pi14 : Cert.quiescent_Kernel14Ideal := fun m ρ _ => Cert.Kernel14Ideal.Gen.frame m ρ

theorem frame_ri14 : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem frame_p15 : Cert.quiescent_Kernel15 := fun m ρ _ => Cert.Kernel15.Gen.frame m ρ

theorem frame_pi15 : Cert.quiescent_Kernel15Ideal := fun m ρ _ => Cert.Kernel15Ideal.Gen.frame m ρ

theorem frame_ri15 : Cert.quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run (F := Ideal) m ρ)

/-- The reference's merged rows. -/
theorem merge_ref (p q r : FVec Ideal ⟨2, ![2048, 1024]⟩ .f32) (g : FVec Ideal ⟨2, ![2048, 9728]⟩ .f32) :
    Cert.Reference14Ideal.Read.val_main_v14 (F := Ideal) p q r g = Cert.Merge.merged p q r g := by
  funext i
  idx_vars i
  exact Cert.Reference14Ideal.Merge.rows p q r g i0 i1

open Cert.Kernel14Ideal Cert.Kernel14Ideal.Gen in
/-- The merge's kernel and the reference leave the same rows. -/
theorem algebraic14 : Cert.algebraic_Kernel14Ideal_Reference14Ideal := by
  intro m g m' g' _ hagree
  refine ⟨fun c => (dats m 0 c).arrAt 6 cfg0.N, Cert.Kernel14Ideal.Value.run_blocks (F := Ideal) m g, ?_⟩
  refine (θ_run Cert.Reference14Ideal.defs _ _).mono (fun r h c => ?_) (Cert.Reference14Ideal.Value.run (F := Ideal) m' g')
  obtain ⟨h0, hk⟩ := h c
  obtain ⟨a0, a1, a2, a3⟩ := hagree c
  refine ⟨?_, hk⟩
  refine (h0.trans (Cert.Reference14Ideal.Read.val_main_v14_eq _ _ _ _)).trans ?_
  rw [merge_ref, a0, a1, a2, a3]
  exact (Cert.Kernel14Ideal.Merge.arr6 m c).symm

/-- The reference's gradients of the branches' rows. -/
theorem branch_ref0 (g : FVec Ideal ⟨2, ![2048, 9728]⟩ .f32) (d : FVec Ideal ⟨2, ![2048, 1024]⟩ .f32) :
    Cert.Reference15Ideal.Read.val_main_v24 (F := Ideal) g d = Cert.Merge.branch g d 3072 (by decide) := by
  funext i
  idx_vars i
  exact Cert.Reference15Ideal.Merge.branch24 g d i0 i1

theorem branch_ref1 (g : FVec Ideal ⟨2, ![2048, 9728]⟩ .f32) (d : FVec Ideal ⟨2, ![2048, 1024]⟩ .f32) :
    Cert.Reference15Ideal.Read.val_main_v22 (F := Ideal) g d = Cert.Merge.branch g d 4096 (by decide) := by
  funext i
  idx_vars i
  exact Cert.Reference15Ideal.Merge.branch22 g d i0 i1

theorem branch_ref2 (g : FVec Ideal ⟨2, ![2048, 9728]⟩ .f32) (d : FVec Ideal ⟨2, ![2048, 1024]⟩ .f32) :
    Cert.Reference15Ideal.Read.val_main_v20 (F := Ideal) g d = Cert.Merge.branch g d 5120 (by decide) := by
  funext i
  idx_vars i
  exact Cert.Reference15Ideal.Merge.branch20 g d i0 i1

/-- The reference's gradients of the gates. -/
theorem gates_ref (p q r : FVec Ideal ⟨2, ![2048, 1024]⟩ .f32) (g : FVec Ideal ⟨2, ![2048, 9728]⟩ .f32) (d : FVec Ideal ⟨2, ![2048, 1024]⟩ .f32) :
    Cert.Reference15Ideal.Read.val_main_v27 (F := Ideal) p q r g d = fun i => Cert.Merge.gates p q r g d (i 0) (i 1) := by
  funext i
  idx_vars i
  exact Cert.Reference15Ideal.Merge.gates_of p q r g d i0 i1

open Cert.Kernel15Ideal Cert.Kernel15Ideal.Gen in
/-- The merge's gradient and the reference's leave the same four arrays. -/
theorem algebraic15 : Cert.algebraic_Kernel15Ideal_Reference15Ideal := by
  intro m g m' g' _ hagree
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel15Ideal.Value.run_blocks (F := Ideal) m g, ?_⟩
  refine (θ_run Cert.Reference15Ideal.defs _ _).mono (fun r h c => ?_) (Cert.Reference15Ideal.Value.run (F := Ideal) m' g')
  obtain ⟨h0, h1, h2, h3, hk⟩ := h c
  obtain ⟨a0, a1, a2, a3, a4⟩ := hagree c
  refine ⟨?_, ?_, ?_, ?_, hk⟩
  · refine (h0.trans (Cert.Reference15Ideal.Read.val_main_v24_eq _ _)).trans ?_
    rw [branch_ref0, a3, a4]
    exact (Cert.Kernel15Ideal.Merge.arr7 m c).symm
  · refine (h1.trans (Cert.Reference15Ideal.Read.val_main_v22_eq _ _)).trans ?_
    rw [branch_ref1, a3, a4]
    exact (Cert.Kernel15Ideal.Merge.arr8 m c).symm
  · refine (h2.trans (Cert.Reference15Ideal.Read.val_main_v20_eq _ _)).trans ?_
    rw [branch_ref2, a3, a4]
    exact (Cert.Kernel15Ideal.Merge.arr9 m c).symm
  · refine (h3.trans (Cert.Reference15Ideal.Read.val_main_v27_eq _ _ _ _ _)).trans ?_
    rw [gates_ref, a0, a1, a2, a3, a4]
    exact (Cert.Kernel15Ideal.Merge.arr10 m c).symm

end Cert.Proof

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference3Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Finite
public import proofs.«01_k».proof.Proof.SbGrid
public import proofs.«01_k».proof.Proof.RefVal
public import proofs.«01_k».proof.Proof.Plain
public import proofs.«01_k».proof.Proof.FwdEnd
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.UpdClaim6
public import proofs.«01_k».proof.Proof.UpdClaim7
public import proofs.«01_k».proof.Proof.UpdClaim8
public import proofs.«01_k».proof.Proof.UpdClaim9
public import proofs.«01_k».proof.Proof.UpdClaim10
public import proofs.«01_k».proof.Proof.UpdClaim11
public import proofs.«01_k».proof.Proof.LossEnd
public import proofs.«01_k».proof.Proof.RmsEnd
public import proofs.«01_k».proof.Proof.MergeEnd
public import Idealize.ShloMosaic.Lib.Claim
public import Idealize.ShloMosaic.Adequacy
public import Idealize.ShloMosaic.Init

@[expose] public section

noncomputable section

namespace Cert.Proof

open Idealize.ShloMosaic Idealize.SL.Sem

/-- The attention gradient's kernel runs, leaves its arguments and every semaphore as they were. -/
theorem frame_p : Cert.quiescent_Kernel := fun m ρ _ => Cert.Kernel.Gen.frame m ρ

/-- The same of its idealization. -/
theorem frame_pi : Cert.quiescent_KernelIdeal := fun m ρ _ => Cert.KernelIdeal.Gen.frame m ρ

/-- The reference runs, leaves its arguments as they were, and has no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Two matrices with the same real entries are equal. -/
theorem rl_eq {x y : FVec Ideal ⟨2, ![2048, 512]⟩ .f32} {f : ℕ → ℕ → ℝ} (hx : Cert.Reals.Rl x f)
    (hy : Cert.Reals.Rl y f) : x = y := by
  funext i
  idx_vars i
  exact (hx _ _).trans (hy _ _).symm

open Cert.KernelIdeal Cert.KernelIdeal.Gen Idealize.ShloMosaic.TcCoe in
/-- The three gradients the kernel leaves are the reference's, of its arguments. -/
theorem grads (m : (ℓ : Loc nD τ sig) → Buf (Elt Ideal) ℓ) (c : Dev nD) (x0 : FVec Ideal S2048x9728 .f32)
    (x1 : FVec Ideal S2048x512 .f32) (h0 : m ((c : Thread nD τ).loc main_arg0) = x0)
    (h1 : m ((c : Thread nD τ).loc main_arg1) = x1) (h : Cert.Pre_finite.fn x0 x1 = fun _ => 1#1) :
    Cert.ReferenceIdeal.Read.val_main_v47 (F := Ideal) x0 x1 = (dats (F := Ideal) m 0 c).arrAt 5 cfg0.N
    ∧ Cert.ReferenceIdeal.Read.val_main_v48 (F := Ideal) x0 x1 = (dats (F := Ideal) m 0 c).arrAt 6 cfg0.N
    ∧ Cert.ReferenceIdeal.Read.val_main_v49 (F := Ideal) x0 x1 = (dats (F := Ideal) m 0 c).arrAt 7 cfg0.N := by
  subst h0 h1
  have hA := Cert.Pre_finite.real_A _ _ h
  have hB := Cert.Pre_finite.real_B _ _ h
  exact ⟨rl_eq (Cert.ReferenceIdeal.Sb.dq_val hA hB) (Cert.KernelIdeal.Sb.arr5 hA hB),
    rl_eq (Cert.ReferenceIdeal.Sb.dk_val hA hB) (Cert.KernelIdeal.Sb.arr6 hA hB),
    rl_eq (Cert.ReferenceIdeal.Sb.dv_val hA hB) (Cert.KernelIdeal.Sb.arr7 hA hB)⟩

open Cert.KernelIdeal Cert.KernelIdeal.Gen in
/-- The attention gradient's kernel and the reference leave the same three gradients. -/
theorem algebraic : Cert.algebraic_KernelIdeal_ReferenceIdeal_pre_finite := by
  intro m g m' g' hpre hagree
  refine ⟨fun c => (dats m 0 c).arrAt 5 cfg0.N, fun c => (dats m 0 c).arrAt 6 cfg0.N, fun c => (dats m 0 c).arrAt 7 cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨h0, h1, h2, hk⟩ := h c
  obtain ⟨e0, e1, e2⟩ := grads m c _ _ (hagree c).1.symm (hagree c).2.symm (by rw [(hagree c).1, (hagree c).2]; exact hpre c)
  exact ⟨(h0.trans (Cert.ReferenceIdeal.Read.val_main_v47_eq m' c)).trans e0,
    (h1.trans (Cert.ReferenceIdeal.Read.val_main_v48_eq m' c)).trans e1,
    (h2.trans (Cert.ReferenceIdeal.Read.val_main_v49_eq m' c)).trans e2, hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts, Cert.Pre_finite.facts, Cert.Pre_finite_qkv.facts, frame_p, frame_pi, fun m ρ _ => frame_pi m ρ trivial, frame_ri, fun m ρ _ => frame_ri m ρ trivial,
  frame_p2, frame_pi2, frame_ri2, frame_p3, frame_pi3, frame_ri3, frame_p4, frame_pi4, frame_ri4,
  frame_p5, frame_pi5, fun m ρ _ => frame_pi5 m ρ trivial, frame_ri5, fun m ρ _ => frame_ri5 m ρ trivial,
  frame_p6, frame_pi6, frame_ri6, frame_p7, frame_pi7, frame_ri7, frame_p8, frame_pi8, frame_ri8, frame_p9, frame_pi9, frame_ri9, frame_p10, frame_pi10, frame_ri10, frame_p11, frame_pi11, frame_ri11,
  frame_p12, frame_pi12, frame_ri12, frame_p13, frame_pi13, frame_ri13, frame_p14, frame_pi14, frame_ri14, frame_p15, frame_pi15, frame_ri15,
  trivial, algebraic, trivial, algebraic2, trivial, algebraic3, trivial, algebraic4, trivial, algebraic5,
  trivial, algebraic6, trivial, algebraic7, trivial, algebraic8, trivial, algebraic9, trivial, algebraic10, trivial, algebraic11, trivial, algebraic12, trivial, algebraic13, trivial, algebraic14, trivial, algebraic15⟩

end Cert.Proof

end
